-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_DwSquare (m : (ℓ : Loc Cert.DwSquare.nD Cert.DwSquare.τ Cert.DwSquare.sig) → Buf (Elt Bits) ℓ) : Prop :=
  True

def Pre_DwSquareIdeal (m : (ℓ : Loc Cert.DwSquareIdeal.nD Cert.DwSquareIdeal.τ Cert.DwSquareIdeal.sig) → Buf (Elt Ideal) ℓ) : Prop :=
  True

def Pre_DwSquareRefIdeal (m : (ℓ : Loc Cert.DwSquareRefIdeal.nD Cert.DwSquareRefIdeal.τ Cert.DwSquareRefIdeal.sig) → Buf (Elt Ideal) ℓ) : Prop :=
  True

def Pre_DFfnAct (m : (ℓ : Loc Cert.DFfnAct.nD Cert.DFfnAct.τ Cert.DFfnAct.sig) → Buf (Elt Bits) ℓ) : Prop :=
  True

def Pre_DFfnActIdeal (m : (ℓ : Loc Cert.DFfnActIdeal.nD Cert.DFfnActIdeal.τ Cert.DFfnActIdeal.sig) → Buf (Elt Ideal) ℓ) : Prop :=
  True

def Pre_DFfnActRefIdeal (m : (ℓ : Loc Cert.DFfnActRefIdeal.nD Cert.DFfnActRefIdeal.τ Cert.DFfnActRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_DwFfnUp (m : (ℓ : Loc Cert.DwFfnUp.nD Cert.DwFfnUp.τ Cert.DwFfnUp.sig) → Buf (Elt Bits) ℓ) : Prop :=
  True

def Pre_DwFfnUpIdeal (m : (ℓ : Loc Cert.DwFfnUpIdeal.nD Cert.DwFfnUpIdeal.τ Cert.DwFfnUpIdeal.sig) → Buf (Elt Ideal) ℓ) : Prop :=
  True

def Pre_DwFfnUpRefIdeal (m : (ℓ : Loc Cert.DwFfnUpRefIdeal.nD Cert.DwFfnUpRefIdeal.τ Cert.DwFfnUpRefIdeal.sig) → Buf (Elt Ideal) ℓ) : Prop :=
  True

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_DH2RefIdeal (m : (ℓ : Loc Cert.DH2RefIdeal.nD Cert.DH2RefIdeal.τ Cert.DH2RefIdeal.sig) → Buf (Elt Ideal) ℓ) : Prop :=
  True

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_DH1RefIdeal (m : (ℓ : Loc Cert.DH1RefIdeal.nD Cert.DH1RefIdeal.τ Cert.DH1RefIdeal.sig) → Buf (Elt Ideal) ℓ) : Prop :=
  True

def Pre_DwFfnDown (m : (ℓ : Loc Cert.DwFfnDown.nD Cert.DwFfnDown.τ Cert.DwFfnDown.sig) → Buf (Elt Bits) ℓ) : Prop :=
  True

def Pre_DwFfnDownIdeal (m : (ℓ : Loc Cert.DwFfnDownIdeal.nD Cert.DwFfnDownIdeal.τ Cert.DwFfnDownIdeal.sig) → Buf (Elt Ideal) ℓ) : Prop :=
  True

def Pre_DwFfnDownRefIdeal (m : (ℓ : Loc Cert.DwFfnDownRefIdeal.nD Cert.DwFfnDownRefIdeal.τ Cert.DwFfnDownRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_InRnn (m : (ℓ : Loc Cert.InRnn.nD Cert.InRnn.τ Cert.InRnn.sig) → Buf (Elt Bits) ℓ) : Prop :=
  True

def Pre_InRnnIdeal (m : (ℓ : Loc Cert.InRnnIdeal.nD Cert.InRnnIdeal.τ Cert.InRnnIdeal.sig) → Buf (Elt Ideal) ℓ) : Prop :=
  True

def Pre_InRnnRefIdeal (m : (ℓ : Loc Cert.InRnnRefIdeal.nD Cert.InRnnRefIdeal.τ Cert.InRnnRefIdeal.sig) → Buf (Elt Ideal) ℓ) : Prop :=
  True

def Pre_DwInRnn (m : (ℓ : Loc Cert.DwInRnn.nD Cert.DwInRnn.τ Cert.DwInRnn.sig) → Buf (Elt Bits) ℓ) : Prop :=
  True

def Pre_DwInRnnIdeal (m : (ℓ : Loc Cert.DwInRnnIdeal.nD Cert.DwInRnnIdeal.τ Cert.DwInRnnIdeal.sig) → Buf (Elt Ideal) ℓ) : Prop :=
  True

def Pre_DwInRnnRefIdeal (m : (ℓ : Loc Cert.DwInRnnRefIdeal.nD Cert.DwInRnnRefIdeal.τ Cert.DwInRnnRefIdeal.sig) → Buf (Elt Ideal) ℓ) : Prop :=
  True

def Pre_DH1Rnn (m : (ℓ : Loc Cert.DH1Rnn.nD Cert.DH1Rnn.τ Cert.DH1Rnn.sig) → Buf (Elt Bits) ℓ) : Prop :=
  True

def Pre_DH1RnnIdeal (m : (ℓ : Loc Cert.DH1RnnIdeal.nD Cert.DH1RnnIdeal.τ Cert.DH1RnnIdeal.sig) → Buf (Elt Ideal) ℓ) : Prop :=
  True

def Pre_DH1RnnRefIdeal (m : (ℓ : Loc Cert.DH1RnnRefIdeal.nD Cert.DH1RnnRefIdeal.τ Cert.DH1RnnRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def Pre_InKv (m : (ℓ : Loc Cert.InKv.nD Cert.InKv.τ Cert.InKv.sig) → Buf (Elt Bits) ℓ) : Prop :=
  True

def Pre_InKvIdeal (m : (ℓ : Loc Cert.InKvIdeal.nD Cert.InKvIdeal.τ Cert.InKvIdeal.sig) → Buf (Elt Ideal) ℓ) : Prop :=
  True

def Pre_InKvRefIdeal (m : (ℓ : Loc Cert.InKvRefIdeal.nD Cert.InKvRefIdeal.τ Cert.InKvRefIdeal.sig) → Buf (Elt Ideal) ℓ) : Prop :=
  True

def Pre_InMg (m : (ℓ : Loc Cert.InMg.nD Cert.InMg.τ Cert.InMg.sig) → Buf (Elt Bits) ℓ) : Prop :=
  True

def Pre_InMgIdeal (m : (ℓ : Loc Cert.InMgIdeal.nD Cert.InMgIdeal.τ Cert.InMgIdeal.sig) → Buf (Elt Ideal) ℓ) : Prop :=
  True

def Pre_InMgRefIdeal (m : (ℓ : Loc Cert.InMgRefIdeal.nD Cert.InMgRefIdeal.τ Cert.InMgRefIdeal.sig) → Buf (Elt Ideal) ℓ) : Prop :=
  True

def Pre_DYRnn (m : (ℓ : Loc Cert.DYRnn.nD Cert.DYRnn.τ Cert.DYRnn.sig) → Buf (Elt Bits) ℓ) : Prop :=
  True

def Pre_DYRnnIdeal (m : (ℓ : Loc Cert.DYRnnIdeal.nD Cert.DYRnnIdeal.τ Cert.DYRnnIdeal.sig) → Buf (Elt Ideal) ℓ) : Prop :=
  True

def Pre_DYRnnRefIdeal (m : (ℓ : Loc Cert.DYRnnRefIdeal.nD Cert.DYRnnRefIdeal.τ Cert.DYRnnRefIdeal.sig) → Buf (Elt Ideal) ℓ) : Prop :=
  True

def Pre_DwProjRnn (m : (ℓ : Loc Cert.DwProjRnn.nD Cert.DwProjRnn.τ Cert.DwProjRnn.sig) → Buf (Elt Bits) ℓ) : Prop :=
  True

def Pre_DwProjRnnIdeal (m : (ℓ : Loc Cert.DwProjRnnIdeal.nD Cert.DwProjRnnIdeal.τ Cert.DwProjRnnIdeal.sig) → Buf (Elt Ideal) ℓ) : Prop :=
  True

def Pre_DwProjRnnRefIdeal (m : (ℓ : Loc Cert.DwProjRnnRefIdeal.nD Cert.DwProjRnnRefIdeal.τ Cert.DwProjRnnRefIdeal.sig) → Buf (Elt Ideal) ℓ) : Prop :=
  True

def Pre_ProjRnn (m : (ℓ : Loc Cert.ProjRnn.nD Cert.ProjRnn.τ Cert.ProjRnn.sig) → Buf (Elt Bits) ℓ) : Prop :=
  True

def Pre_ProjRnnIdeal (m : (ℓ : Loc Cert.ProjRnnIdeal.nD Cert.ProjRnnIdeal.τ Cert.ProjRnnIdeal.sig) → Buf (Elt Ideal) ℓ) : Prop :=
  True

def Pre_ProjRnnRefIdeal (m : (ℓ : Loc Cert.ProjRnnRefIdeal.nD Cert.ProjRnnRefIdeal.τ Cert.ProjRnnRefIdeal.sig) → Buf (Elt Ideal) ℓ) : Prop :=
  True

def Pre_InQ (m : (ℓ : Loc Cert.InQ.nD Cert.InQ.τ Cert.InQ.sig) → Buf (Elt Bits) ℓ) : Prop :=
  True

def Pre_InQIdeal (m : (ℓ : Loc Cert.InQIdeal.nD Cert.InQIdeal.τ Cert.InQIdeal.sig) → Buf (Elt Ideal) ℓ) : Prop :=
  True

def Pre_InQRefIdeal (m : (ℓ : Loc Cert.InQRefIdeal.nD Cert.InQRefIdeal.τ Cert.InQRefIdeal.sig) → Buf (Elt Ideal) ℓ) : Prop :=
  True

def Pre_ProjAttn (m : (ℓ : Loc Cert.ProjAttn.nD Cert.ProjAttn.τ Cert.ProjAttn.sig) → Buf (Elt Bits) ℓ) : Prop :=
  True

def Pre_ProjAttnIdeal (m : (ℓ : Loc Cert.ProjAttnIdeal.nD Cert.ProjAttnIdeal.τ Cert.ProjAttnIdeal.sig) → Buf (Elt Ideal) ℓ) : Prop :=
  True

def Pre_ProjAttnRefIdeal (m : (ℓ : Loc Cert.ProjAttnRefIdeal.nD Cert.ProjAttnRefIdeal.τ Cert.ProjAttnRefIdeal.sig) → Buf (Elt Ideal) ℓ) : Prop :=
  True

def Pre_DwProjAttn (m : (ℓ : Loc Cert.DwProjAttn.nD Cert.DwProjAttn.τ Cert.DwProjAttn.sig) → Buf (Elt Bits) ℓ) : Prop :=
  True

def Pre_DwProjAttnIdeal (m : (ℓ : Loc Cert.DwProjAttnIdeal.nD Cert.DwProjAttnIdeal.τ Cert.DwProjAttnIdeal.sig) → Buf (Elt Ideal) ℓ) : Prop :=
  True

def Pre_DwProjAttnRefIdeal (m : (ℓ : Loc Cert.DwProjAttnRefIdeal.nD Cert.DwProjAttnRefIdeal.τ Cert.DwProjAttnRefIdeal.sig) → Buf (Elt Ideal) ℓ) : Prop :=
  True

def Pre_InFl (m : (ℓ : Loc Cert.InFl.nD Cert.InFl.τ Cert.InFl.sig) → Buf (Elt Bits) ℓ) : Prop :=
  True

def Pre_InFlIdeal (m : (ℓ : Loc Cert.InFlIdeal.nD Cert.InFlIdeal.τ Cert.InFlIdeal.sig) → Buf (Elt Ideal) ℓ) : Prop :=
  True

def Pre_InFlRefIdeal (m : (ℓ : Loc Cert.InFlRefIdeal.nD Cert.InFlRefIdeal.τ Cert.InFlRefIdeal.sig) → Buf (Elt Ideal) ℓ) : Prop :=
  True

def Pre_DwInFl (m : (ℓ : Loc Cert.DwInFl.nD Cert.DwInFl.τ Cert.DwInFl.sig) → Buf (Elt Bits) ℓ) : Prop :=
  True

def Pre_DwInFlIdeal (m : (ℓ : Loc Cert.DwInFlIdeal.nD Cert.DwInFlIdeal.τ Cert.DwInFlIdeal.sig) → Buf (Elt Ideal) ℓ) : Prop :=
  True

def Pre_DwInFlRefIdeal (m : (ℓ : Loc Cert.DwInFlRefIdeal.nD Cert.DwInFlRefIdeal.τ Cert.DwInFlRefIdeal.sig) → Buf (Elt Ideal) ℓ) : Prop :=
  True

def Pre_DH1Fl (m : (ℓ : Loc Cert.DH1Fl.nD Cert.DH1Fl.τ Cert.DH1Fl.sig) → Buf (Elt Bits) ℓ) : Prop :=
  True

def Pre_DH1FlIdeal (m : (ℓ : Loc Cert.DH1FlIdeal.nD Cert.DH1FlIdeal.τ Cert.DH1FlIdeal.sig) → Buf (Elt Ideal) ℓ) : Prop :=
  True

def Pre_DH1FlRefIdeal (m : (ℓ : Loc Cert.DH1FlRefIdeal.nD Cert.DH1FlRefIdeal.τ Cert.DH1FlRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1RefIdeal (m : (ℓ : Loc Cert.Norm1RefIdeal.nD Cert.Norm1RefIdeal.τ Cert.Norm1RefIdeal.sig) → Buf (Elt Ideal) ℓ) : Prop :=
  True

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2RefIdeal (m : (ℓ : Loc Cert.Norm2RefIdeal.nD Cert.Norm2RefIdeal.τ Cert.Norm2RefIdeal.sig) → Buf (Elt Ideal) ℓ) : Prop :=
  True

def Pre_Norm1Bwd (m : (ℓ : Loc Cert.Norm1Bwd.nD Cert.Norm1Bwd.τ Cert.Norm1Bwd.sig) → Buf (Elt Bits) ℓ) : Prop :=
  True

def Pre_Norm1BwdIdeal (m : (ℓ : Loc Cert.Norm1BwdIdeal.nD Cert.Norm1BwdIdeal.τ Cert.Norm1BwdIdeal.sig) → Buf (Elt Ideal) ℓ) : Prop :=
  True

def Pre_Norm1BwdRefIdeal (m : (ℓ : Loc Cert.Norm1BwdRefIdeal.nD Cert.Norm1BwdRefIdeal.τ Cert.Norm1BwdRefIdeal.sig) → Buf (Elt Ideal) ℓ) : Prop :=
  True

def Pre_Norm2Bwd (m : (ℓ : Loc Cert.Norm2Bwd.nD Cert.Norm2Bwd.τ Cert.Norm2Bwd.sig) → Buf (Elt Bits) ℓ) : Prop :=
  True

def Pre_Norm2BwdIdeal (m : (ℓ : Loc Cert.Norm2BwdIdeal.nD Cert.Norm2BwdIdeal.τ Cert.Norm2BwdIdeal.sig) → Buf (Elt Ideal) ℓ) : Prop :=
  True

def Pre_Norm2BwdRefIdeal (m : (ℓ : Loc Cert.Norm2BwdRefIdeal.nD Cert.Norm2BwdRefIdeal.τ Cert.Norm2BwdRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamProjRnn (m : (ℓ : Loc Cert.AdamProjRnn.nD Cert.AdamProjRnn.τ Cert.AdamProjRnn.sig) → Buf (Elt Bits) ℓ) : Prop :=
  True

def Pre_AdamProjRnnIdeal (m : (ℓ : Loc Cert.AdamProjRnnIdeal.nD Cert.AdamProjRnnIdeal.τ Cert.AdamProjRnnIdeal.sig) → Buf (Elt Ideal) ℓ) : Prop :=
  True

def Pre_AdamProjRnnRefIdeal (m : (ℓ : Loc Cert.AdamProjRnnRefIdeal.nD Cert.AdamProjRnnRefIdeal.τ Cert.AdamProjRnnRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamAdaFinal (m : (ℓ : Loc Cert.AdamAdaFinal.nD Cert.AdamAdaFinal.τ Cert.AdamAdaFinal.sig) → Buf (Elt Bits) ℓ) : Prop :=
  True

def Pre_AdamAdaFinalIdeal (m : (ℓ : Loc Cert.AdamAdaFinalIdeal.nD Cert.AdamAdaFinalIdeal.τ Cert.AdamAdaFinalIdeal.sig) → Buf (Elt Ideal) ℓ) : Prop :=
  True

def Pre_AdamAdaFinalRefIdeal (m : (ℓ : Loc Cert.AdamAdaFinalRefIdeal.nD Cert.AdamAdaFinalRefIdeal.τ Cert.AdamAdaFinalRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DwSquare [hDwSquare : Cert.DwSquare.Facts] : Prop :=
  ∀ (m : (ℓ : Loc Cert.DwSquare.nD Cert.DwSquare.τ Cert.DwSquare.sig) → Buf (Elt Bits) ℓ) (g : Dev Cert.DwSquare.nD → PrngReg), Pre_DwSquare m →
    θ_run (Cert.DwSquare.defs (F := Bits)) (onTc (τ := Cert.DwSquare.τ) (Cert.DwSquare.main (F := Bits))) ⟨m, fun _ => 0, g⟩ (fun r => (∀ c : Dev Cert.DwSquare.nD,
      r.2.mem ((c.tc : Thread Cert.DwSquare.nD Cert.DwSquare.τ).loc Cert.DwSquare.main_arg0) = m ((c.tc : Thread Cert.DwSquare.nD Cert.DwSquare.τ).loc Cert.DwSquare.main_arg0)
      ∧ r.2.mem ((c.tc : Thread Cert.DwSquare.nD Cert.DwSquare.τ).loc Cert.DwSquare.main_arg1) = m ((c.tc : Thread Cert.DwSquare.nD Cert.DwSquare.τ).loc Cert.DwSquare.main_arg1))
      ∧ r.2.sem = fun _ => 0)

def quiescent_DwSquareIdeal [hDwSquareIdeal : Cert.DwSquareIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg), Pre_DwSquareIdeal m →
    θ_run (Cert.DwSquareIdeal.defs (F := Ideal)) (onTc (τ := Cert.DwSquareIdeal.τ) (Cert.DwSquareIdeal.main (F := Ideal))) ⟨m, fun _ => 0, g⟩ (fun r => (∀ c : Dev Cert.DwSquareIdeal.nD,
      r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
      ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ r.2.sem = fun _ => 0)

def quiescent_DwSquareRefIdeal [hDwSquareRefIdeal : Cert.DwSquareRefIdeal.Facts] : Prop :=
  ∀ (m : (ℓ : Loc Cert.DwSquareRefIdeal.nD Cert.DwSquareRefIdeal.τ Cert.DwSquareRefIdeal.sig) → Buf (Elt Ideal) ℓ) (g : Dev Cert.DwSquareRefIdeal.nD → PrngReg), Pre_DwSquareRefIdeal m →
    θ_run (Cert.DwSquareRefIdeal.defs (F := Ideal)) (onTc (τ := Cert.DwSquareRefIdeal.τ) (Cert.DwSquareRefIdeal.main (F := Ideal))) ⟨m, fun _ => 0, g⟩ (fun r => (∀ c : Dev Cert.DwSquareRefIdeal.nD,
      r.2.mem ((c.tc : Thread Cert.DwSquareRefIdeal.nD Cert.DwSquareRefIdeal.τ).loc Cert.DwSquareRefIdeal.main_arg0) = m ((c.tc : Thread Cert.DwSquareRefIdeal.nD Cert.DwSquareRefIdeal.τ).loc Cert.DwSquareRefIdeal.main_arg0)
      ∧ r.2.mem ((c.tc : Thread Cert.DwSquareRefIdeal.nD Cert.DwSquareRefIdeal.τ).loc Cert.DwSquareRefIdeal.main_arg1) = m ((c.tc : Thread Cert.DwSquareRefIdeal.nD Cert.DwSquareRefIdeal.τ).loc Cert.DwSquareRefIdeal.main_arg1))
      ∧ r.2.sem = fun _ => 0)

def quiescent_DFfnAct [hDFfnAct : Cert.DFfnAct.Facts] : Prop :=
  ∀ (m : (ℓ : Loc Cert.DFfnAct.nD Cert.DFfnAct.τ Cert.DFfnAct.sig) → Buf (Elt Bits) ℓ) (g : Dev Cert.DFfnAct.nD → PrngReg), Pre_DFfnAct m →
    θ_run (Cert.DFfnAct.defs (F := Bits)) (onTc (τ := Cert.DFfnAct.τ) (Cert.DFfnAct.main (F := Bits))) ⟨m, fun _ => 0, g⟩ (fun r => (∀ c : Dev Cert.DFfnAct.nD,
      r.2.mem ((c.tc : Thread Cert.DFfnAct.nD Cert.DFfnAct.τ).loc Cert.DFfnAct.main_arg0) = m ((c.tc : Thread Cert.DFfnAct.nD Cert.DFfnAct.τ).loc Cert.DFfnAct.main_arg0)
      ∧ r.2.mem ((c.tc : Thread Cert.DFfnAct.nD Cert.DFfnAct.τ).loc Cert.DFfnAct.main_arg1) = m ((c.tc : Thread Cert.DFfnAct.nD Cert.DFfnAct.τ).loc Cert.DFfnAct.main_arg1))
      ∧ r.2.sem = fun _ => 0)

def quiescent_DFfnActIdeal [hDFfnActIdeal : Cert.DFfnActIdeal.Facts] : Prop :=
  ∀ (m : (ℓ : Loc Cert.DFfnActIdeal.nD Cert.DFfnActIdeal.τ Cert.DFfnActIdeal.sig) → Buf (Elt Ideal) ℓ) (g : Dev Cert.DFfnActIdeal.nD → PrngReg), Pre_DFfnActIdeal m →
    θ_run (Cert.DFfnActIdeal.defs (F := Ideal)) (onTc (τ := Cert.DFfnActIdeal.τ) (Cert.DFfnActIdeal.main (F := Ideal))) ⟨m, fun _ => 0, g⟩ (fun r => (∀ c : Dev Cert.DFfnActIdeal.nD,
      r.2.mem ((c.tc : Thread Cert.DFfnActIdeal.nD Cert.DFfnActIdeal.τ).loc Cert.DFfnActIdeal.main_arg0) = m ((c.tc : Thread Cert.DFfnActIdeal.nD Cert.DFfnActIdeal.τ).loc Cert.DFfnActIdeal.main_arg0)
      ∧ r.2.mem ((c.tc : Thread Cert.DFfnActIdeal.nD Cert.DFfnActIdeal.τ).loc Cert.DFfnActIdeal.main_arg1) = m ((c.tc : Thread Cert.DFfnActIdeal.nD Cert.DFfnActIdeal.τ).loc Cert.DFfnActIdeal.main_arg1))
      ∧ r.2.sem = fun _ => 0)

def quiescent_DFfnActRefIdeal [hDFfnActRefIdeal : Cert.DFfnActRefIdeal.Facts] : Prop :=
  ∀ (m : (ℓ : Loc Cert.DFfnActRefIdeal.nD Cert.DFfnActRefIdeal.τ Cert.DFfnActRefIdeal.sig) → Buf (Elt Ideal) ℓ) (g : Dev Cert.DFfnActRefIdeal.nD → PrngReg), Pre_DFfnActRefIdeal m →
    θ_run (Cert.DFfnActRefIdeal.defs (F := Ideal)) (onTc (τ := Cert.DFfnActRefIdeal.τ) (Cert.DFfnActRefIdeal.main (F := Ideal))) ⟨m, fun _ => 0, g⟩ (fun r => (∀ c : Dev Cert.DFfnActRefIdeal.nD,
      r.2.mem ((c.tc : Thread Cert.DFfnActRefIdeal.nD Cert.DFfnActRefIdeal.τ).loc Cert.DFfnActRefIdeal.main_arg0) = m ((c.tc : Thread Cert.DFfnActRefIdeal.nD Cert.DFfnActRefIdeal.τ).loc Cert.DFfnActRefIdeal.main_arg0)
      ∧ r.2.mem ((c.tc : Thread Cert.DFfnActRefIdeal.nD Cert.DFfnActRefIdeal.τ).loc Cert.DFfnActRefIdeal.main_arg1) = m ((c.tc : Thread Cert.DFfnActRefIdeal.nD Cert.DFfnActRefIdeal.τ).loc Cert.DFfnActRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_DwFfnUp [hDwFfnUp : Cert.DwFfnUp.Facts] : Prop :=
  ∀ (m : (ℓ : Loc Cert.DwFfnUp.nD Cert.DwFfnUp.τ Cert.DwFfnUp.sig) → Buf (Elt Bits) ℓ) (g : Dev Cert.DwFfnUp.nD → PrngReg), Pre_DwFfnUp m →
    θ_run (Cert.DwFfnUp.defs (F := Bits)) (onTc (τ := Cert.DwFfnUp.τ) (Cert.DwFfnUp.main (F := Bits))) ⟨m, fun _ => 0, g⟩ (fun r => (∀ c : Dev Cert.DwFfnUp.nD,
      r.2.mem ((c.tc : Thread Cert.DwFfnUp.nD Cert.DwFfnUp.τ).loc Cert.DwFfnUp.main_arg0) = m ((c.tc : Thread Cert.DwFfnUp.nD Cert.DwFfnUp.τ).loc Cert.DwFfnUp.main_arg0)
      ∧ r.2.mem ((c.tc : Thread Cert.DwFfnUp.nD Cert.DwFfnUp.τ).loc Cert.DwFfnUp.main_arg1) = m ((c.tc : Thread Cert.DwFfnUp.nD Cert.DwFfnUp.τ).loc Cert.DwFfnUp.main_arg1))
      ∧ r.2.sem = fun _ => 0)

def quiescent_DwFfnUpIdeal [hDwFfnUpIdeal : Cert.DwFfnUpIdeal.Facts] : Prop :=
  ∀ (m : (ℓ : Loc Cert.DwFfnUpIdeal.nD Cert.DwFfnUpIdeal.τ Cert.DwFfnUpIdeal.sig) → Buf (Elt Ideal) ℓ) (g : Dev Cert.DwFfnUpIdeal.nD → PrngReg), Pre_DwFfnUpIdeal m →
    θ_run (Cert.DwFfnUpIdeal.defs (F := Ideal)) (onTc (τ := Cert.DwFfnUpIdeal.τ) (Cert.DwFfnUpIdeal.main (F := Ideal))) ⟨m, fun _ => 0, g⟩ (fun r => (∀ c : Dev Cert.DwFfnUpIdeal.nD,
      r.2.mem ((c.tc : Thread Cert.DwFfnUpIdeal.nD Cert.DwFfnUpIdeal.τ).loc Cert.DwFfnUpIdeal.main_arg0) = m ((c.tc : Thread Cert.DwFfnUpIdeal.nD Cert.DwFfnUpIdeal.τ).loc Cert.DwFfnUpIdeal.main_arg0)
      ∧ r.2.mem ((c.tc : Thread Cert.DwFfnUpIdeal.nD Cert.DwFfnUpIdeal.τ).loc Cert.DwFfnUpIdeal.main_arg1) = m ((c.tc : Thread Cert.DwFfnUpIdeal.nD Cert.DwFfnUpIdeal.τ).loc Cert.DwFfnUpIdeal.main_arg1))
      ∧ r.2.sem = fun _ => 0)

def quiescent_DwFfnUpRefIdeal [hDwFfnUpRefIdeal : Cert.DwFfnUpRefIdeal.Facts] : Prop :=
  ∀ (m : (ℓ : Loc Cert.DwFfnUpRefIdeal.nD Cert.DwFfnUpRefIdeal.τ Cert.DwFfnUpRefIdeal.sig) → Buf (Elt Ideal) ℓ) (g : Dev Cert.DwFfnUpRefIdeal.nD → PrngReg), Pre_DwFfnUpRefIdeal m →
    θ_run (Cert.DwFfnUpRefIdeal.defs (F := Ideal)) (onTc (τ := Cert.DwFfnUpRefIdeal.τ) (Cert.DwFfnUpRefIdeal.main (F := Ideal))) ⟨m, fun _ => 0, g⟩ (fun r => (∀ c : Dev Cert.DwFfnUpRefIdeal.nD,
      r.2.mem ((c.tc : Thread Cert.DwFfnUpRefIdeal.nD Cert.DwFfnUpRefIdeal.τ).loc Cert.DwFfnUpRefIdeal.main_arg0) = m ((c.tc : Thread Cert.DwFfnUpRefIdeal.nD Cert.DwFfnUpRefIdeal.τ).loc Cert.DwFfnUpRefIdeal.main_arg0)
      ∧ r.2.mem ((c.tc : Thread Cert.DwFfnUpRefIdeal.nD Cert.DwFfnUpRefIdeal.τ).loc Cert.DwFfnUpRefIdeal.main_arg1) = m ((c.tc : Thread Cert.DwFfnUpRefIdeal.nD Cert.DwFfnUpRefIdeal.τ).loc Cert.DwFfnUpRefIdeal.main_arg1))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1)
      ∧ r.2.mem ((c.tc : Thread Cert.DH2.nD Cert.DH2.τ).loc Cert.DH2.main_arg2) = m ((c.tc : Thread Cert.DH2.nD Cert.DH2.τ).loc Cert.DH2.main_arg2))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1)
      ∧ r.2.mem ((c.tc : Thread Cert.DH2Ideal.nD Cert.DH2Ideal.τ).loc Cert.DH2Ideal.main_arg2) = m ((c.tc : Thread Cert.DH2Ideal.nD Cert.DH2Ideal.τ).loc Cert.DH2Ideal.main_arg2))
      ∧ r.2.sem = fun _ => 0)

def quiescent_DH2RefIdeal [hDH2RefIdeal : Cert.DH2RefIdeal.Facts] : Prop :=
  ∀ (m : (ℓ : Loc Cert.DH2RefIdeal.nD Cert.DH2RefIdeal.τ Cert.DH2RefIdeal.sig) → Buf (Elt Ideal) ℓ) (g : Dev Cert.DH2RefIdeal.nD → PrngReg), Pre_DH2RefIdeal m →
    θ_run (Cert.DH2RefIdeal.defs (F := Ideal)) (onTc (τ := Cert.DH2RefIdeal.τ) (Cert.DH2RefIdeal.main (F := Ideal))) ⟨m, fun _ => 0, g⟩ (fun r => (∀ c : Dev Cert.DH2RefIdeal.nD,
      r.2.mem ((c.tc : Thread Cert.DH2RefIdeal.nD Cert.DH2RefIdeal.τ).loc Cert.DH2RefIdeal.main_arg0) = m ((c.tc : Thread Cert.DH2RefIdeal.nD Cert.DH2RefIdeal.τ).loc Cert.DH2RefIdeal.main_arg0)
      ∧ r.2.mem ((c.tc : Thread Cert.DH2RefIdeal.nD Cert.DH2RefIdeal.τ).loc Cert.DH2RefIdeal.main_arg1) = m ((c.tc : Thread Cert.DH2RefIdeal.nD Cert.DH2RefIdeal.τ).loc Cert.DH2RefIdeal.main_arg1)
      ∧ r.2.mem ((c.tc : Thread Cert.DH2RefIdeal.nD Cert.DH2RefIdeal.τ).loc Cert.DH2RefIdeal.main_arg2) = m ((c.tc : Thread Cert.DH2RefIdeal.nD Cert.DH2RefIdeal.τ).loc Cert.DH2RefIdeal.main_arg2))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1)
      ∧ r.2.mem ((c.tc : Thread Cert.DH1.nD Cert.DH1.τ).loc Cert.DH1.main_arg2) = m ((c.tc : Thread Cert.DH1.nD Cert.DH1.τ).loc Cert.DH1.main_arg2)
      ∧ r.2.mem ((c.tc : Thread Cert.DH1.nD Cert.DH1.τ).loc Cert.DH1.main_arg3) = m ((c.tc : Thread Cert.DH1.nD Cert.DH1.τ).loc Cert.DH1.main_arg3)
      ∧ r.2.mem ((c.tc : Thread Cert.DH1.nD Cert.DH1.τ).loc Cert.DH1.main_arg4) = m ((c.tc : Thread Cert.DH1.nD Cert.DH1.τ).loc Cert.DH1.main_arg4)
      ∧ r.2.mem ((c.tc : Thread Cert.DH1.nD Cert.DH1.τ).loc Cert.DH1.main_arg5) = m ((c.tc : Thread Cert.DH1.nD Cert.DH1.τ).loc Cert.DH1.main_arg5)
      ∧ r.2.mem ((c.tc : Thread Cert.DH1.nD Cert.DH1.τ).loc Cert.DH1.main_arg6) = m ((c.tc : Thread Cert.DH1.nD Cert.DH1.τ).loc Cert.DH1.main_arg6))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
      ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2)
      ∧ r.2.mem ((c.tc : Thread Cert.DH1Ideal.nD Cert.DH1Ideal.τ).loc Cert.DH1Ideal.main_arg3) = m ((c.tc : Thread Cert.DH1Ideal.nD Cert.DH1Ideal.τ).loc Cert.DH1Ideal.main_arg3)
      ∧ r.2.mem ((c.tc : Thread Cert.DH1Ideal.nD Cert.DH1Ideal.τ).loc Cert.DH1Ideal.main_arg4) = m ((c.tc : Thread Cert.DH1Ideal.nD Cert.DH1Ideal.τ).loc Cert.DH1Ideal.main_arg4)
      ∧ r.2.mem ((c.tc : Thread Cert.DH1Ideal.nD Cert.DH1Ideal.τ).loc Cert.DH1Ideal.main_arg5) = m ((c.tc : Thread Cert.DH1Ideal.nD Cert.DH1Ideal.τ).loc Cert.DH1Ideal.main_arg5)
      ∧ r.2.mem ((c.tc : Thread Cert.DH1Ideal.nD Cert.DH1Ideal.τ).loc Cert.DH1Ideal.main_arg6) = m ((c.tc : Thread Cert.DH1Ideal.nD Cert.DH1Ideal.τ).loc Cert.DH1Ideal.main_arg6))
      ∧ r.2.sem = fun _ => 0)

def quiescent_DH1RefIdeal [hDH1RefIdeal : Cert.DH1RefIdeal.Facts] : Prop :=
  ∀ (m : (ℓ : Loc Cert.DH1RefIdeal.nD Cert.DH1RefIdeal.τ Cert.DH1RefIdeal.sig) → Buf (Elt Ideal) ℓ) (g : Dev Cert.DH1RefIdeal.nD → PrngReg), Pre_DH1RefIdeal m →
    θ_run (Cert.DH1RefIdeal.defs (F := Ideal)) (onTc (τ := Cert.DH1RefIdeal.τ) (Cert.DH1RefIdeal.main (F := Ideal))) ⟨m, fun _ => 0, g⟩ (fun r => (∀ c : Dev Cert.DH1RefIdeal.nD,
      r.2.mem ((c.tc : Thread Cert.DH1RefIdeal.nD Cert.DH1RefIdeal.τ).loc Cert.DH1RefIdeal.main_arg0) = m ((c.tc : Thread Cert.DH1RefIdeal.nD Cert.DH1RefIdeal.τ).loc Cert.DH1RefIdeal.main_arg0)
      ∧ r.2.mem ((c.tc : Thread Cert.DH1RefIdeal.nD Cert.DH1RefIdeal.τ).loc Cert.DH1RefIdeal.main_arg1) = m ((c.tc : Thread Cert.DH1RefIdeal.nD Cert.DH1RefIdeal.τ).loc Cert.DH1RefIdeal.main_arg1)
      ∧ r.2.mem ((c.tc : Thread Cert.DH1RefIdeal.nD Cert.DH1RefIdeal.τ).loc Cert.DH1RefIdeal.main_arg2) = m ((c.tc : Thread Cert.DH1RefIdeal.nD Cert.DH1RefIdeal.τ).loc Cert.DH1RefIdeal.main_arg2)
      ∧ r.2.mem ((c.tc : Thread Cert.DH1RefIdeal.nD Cert.DH1RefIdeal.τ).loc Cert.DH1RefIdeal.main_arg3) = m ((c.tc : Thread Cert.DH1RefIdeal.nD Cert.DH1RefIdeal.τ).loc Cert.DH1RefIdeal.main_arg3)
      ∧ r.2.mem ((c.tc : Thread Cert.DH1RefIdeal.nD Cert.DH1RefIdeal.τ).loc Cert.DH1RefIdeal.main_arg4) = m ((c.tc : Thread Cert.DH1RefIdeal.nD Cert.DH1RefIdeal.τ).loc Cert.DH1RefIdeal.main_arg4)
      ∧ r.2.mem ((c.tc : Thread Cert.DH1RefIdeal.nD Cert.DH1RefIdeal.τ).loc Cert.DH1RefIdeal.main_arg5) = m ((c.tc : Thread Cert.DH1RefIdeal.nD Cert.DH1RefIdeal.τ).loc Cert.DH1RefIdeal.main_arg5)
      ∧ r.2.mem ((c.tc : Thread Cert.DH1RefIdeal.nD Cert.DH1RefIdeal.τ).loc Cert.DH1RefIdeal.main_arg6) = m ((c.tc : Thread Cert.DH1RefIdeal.nD Cert.DH1RefIdeal.τ).loc Cert.DH1RefIdeal.main_arg6))
      ∧ r.2.sem = fun _ => 0)

def quiescent_DwFfnDown [hDwFfnDown : Cert.DwFfnDown.Facts] : Prop :=
  ∀ (m : (ℓ : Loc Cert.DwFfnDown.nD Cert.DwFfnDown.τ Cert.DwFfnDown.sig) → Buf (Elt Bits) ℓ) (g : Dev Cert.DwFfnDown.nD → PrngReg), Pre_DwFfnDown m →
    θ_run (Cert.DwFfnDown.defs (F := Bits)) (onTc (τ := Cert.DwFfnDown.τ) (Cert.DwFfnDown.main (F := Bits))) ⟨m, fun _ => 0, g⟩ (fun r => (∀ c : Dev Cert.DwFfnDown.nD,
      r.2.mem ((c.tc : Thread Cert.DwFfnDown.nD Cert.DwFfnDown.τ).loc Cert.DwFfnDown.main_arg0) = m ((c.tc : Thread Cert.DwFfnDown.nD Cert.DwFfnDown.τ).loc Cert.DwFfnDown.main_arg0)
      ∧ r.2.mem ((c.tc : Thread Cert.DwFfnDown.nD Cert.DwFfnDown.τ).loc Cert.DwFfnDown.main_arg1) = m ((c.tc : Thread Cert.DwFfnDown.nD Cert.DwFfnDown.τ).loc Cert.DwFfnDown.main_arg1))
      ∧ r.2.sem = fun _ => 0)

def quiescent_DwFfnDownIdeal [hDwFfnDownIdeal : Cert.DwFfnDownIdeal.Facts] : Prop :=
  ∀ (m : (ℓ : Loc Cert.DwFfnDownIdeal.nD Cert.DwFfnDownIdeal.τ Cert.DwFfnDownIdeal.sig) → Buf (Elt Ideal) ℓ) (g : Dev Cert.DwFfnDownIdeal.nD → PrngReg), Pre_DwFfnDownIdeal m →
    θ_run (Cert.DwFfnDownIdeal.defs (F := Ideal)) (onTc (τ := Cert.DwFfnDownIdeal.τ) (Cert.DwFfnDownIdeal.main (F := Ideal))) ⟨m, fun _ => 0, g⟩ (fun r => (∀ c : Dev Cert.DwFfnDownIdeal.nD,
      r.2.mem ((c.tc : Thread Cert.DwFfnDownIdeal.nD Cert.DwFfnDownIdeal.τ).loc Cert.DwFfnDownIdeal.main_arg0) = m ((c.tc : Thread Cert.DwFfnDownIdeal.nD Cert.DwFfnDownIdeal.τ).loc Cert.DwFfnDownIdeal.main_arg0)
      ∧ r.2.mem ((c.tc : Thread Cert.DwFfnDownIdeal.nD Cert.DwFfnDownIdeal.τ).loc Cert.DwFfnDownIdeal.main_arg1) = m ((c.tc : Thread Cert.DwFfnDownIdeal.nD Cert.DwFfnDownIdeal.τ).loc Cert.DwFfnDownIdeal.main_arg1))
      ∧ r.2.sem = fun _ => 0)

def quiescent_DwFfnDownRefIdeal [hDwFfnDownRefIdeal : Cert.DwFfnDownRefIdeal.Facts] : Prop :=
  ∀ (m : (ℓ : Loc Cert.DwFfnDownRefIdeal.nD Cert.DwFfnDownRefIdeal.τ Cert.DwFfnDownRefIdeal.sig) → Buf (Elt Ideal) ℓ) (g : Dev Cert.DwFfnDownRefIdeal.nD → PrngReg), Pre_DwFfnDownRefIdeal m →
    θ_run (Cert.DwFfnDownRefIdeal.defs (F := Ideal)) (onTc (τ := Cert.DwFfnDownRefIdeal.τ) (Cert.DwFfnDownRefIdeal.main (F := Ideal))) ⟨m, fun _ => 0, g⟩ (fun r => (∀ c : Dev Cert.DwFfnDownRefIdeal.nD,
      r.2.mem ((c.tc : Thread Cert.DwFfnDownRefIdeal.nD Cert.DwFfnDownRefIdeal.τ).loc Cert.DwFfnDownRefIdeal.main_arg0) = m ((c.tc : Thread Cert.DwFfnDownRefIdeal.nD Cert.DwFfnDownRefIdeal.τ).loc Cert.DwFfnDownRefIdeal.main_arg0)
      ∧ r.2.mem ((c.tc : Thread Cert.DwFfnDownRefIdeal.nD Cert.DwFfnDownRefIdeal.τ).loc Cert.DwFfnDownRefIdeal.main_arg1) = m ((c.tc : Thread Cert.DwFfnDownRefIdeal.nD Cert.DwFfnDownRefIdeal.τ).loc Cert.DwFfnDownRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_InRnn [hInRnn : Cert.InRnn.Facts] : Prop :=
  ∀ (m : (ℓ : Loc Cert.InRnn.nD Cert.InRnn.τ Cert.InRnn.sig) → Buf (Elt Bits) ℓ) (g : Dev Cert.InRnn.nD → PrngReg), Pre_InRnn m →
    θ_run (Cert.InRnn.defs (F := Bits)) (onTc (τ := Cert.InRnn.τ) (Cert.InRnn.main (F := Bits))) ⟨m, fun _ => 0, g⟩ (fun r => (∀ c : Dev Cert.InRnn.nD,
      r.2.mem ((c.tc : Thread Cert.InRnn.nD Cert.InRnn.τ).loc Cert.InRnn.main_arg0) = m ((c.tc : Thread Cert.InRnn.nD Cert.InRnn.τ).loc Cert.InRnn.main_arg0)
      ∧ r.2.mem ((c.tc : Thread Cert.InRnn.nD Cert.InRnn.τ).loc Cert.InRnn.main_arg1) = m ((c.tc : Thread Cert.InRnn.nD Cert.InRnn.τ).loc Cert.InRnn.main_arg1))
      ∧ r.2.sem = fun _ => 0)

def quiescent_InRnnIdeal [hInRnnIdeal : Cert.InRnnIdeal.Facts] : Prop :=
  ∀ (m : (ℓ : Loc Cert.InRnnIdeal.nD Cert.InRnnIdeal.τ Cert.InRnnIdeal.sig) → Buf (Elt Ideal) ℓ) (g : Dev Cert.InRnnIdeal.nD → PrngReg), Pre_InRnnIdeal m →
    θ_run (Cert.InRnnIdeal.defs (F := Ideal)) (onTc (τ := Cert.InRnnIdeal.τ) (Cert.InRnnIdeal.main (F := Ideal))) ⟨m, fun _ => 0, g⟩ (fun r => (∀ c : Dev Cert.InRnnIdeal.nD,
      r.2.mem ((c.tc : Thread Cert.InRnnIdeal.nD Cert.InRnnIdeal.τ).loc Cert.InRnnIdeal.main_arg0) = m ((c.tc : Thread Cert.InRnnIdeal.nD Cert.InRnnIdeal.τ).loc Cert.InRnnIdeal.main_arg0)
      ∧ r.2.mem ((c.tc : Thread Cert.InRnnIdeal.nD Cert.InRnnIdeal.τ).loc Cert.InRnnIdeal.main_arg1) = m ((c.tc : Thread Cert.InRnnIdeal.nD Cert.InRnnIdeal.τ).loc Cert.InRnnIdeal.main_arg1))
      ∧ r.2.sem = fun _ => 0)

def quiescent_InRnnRefIdeal [hInRnnRefIdeal : Cert.InRnnRefIdeal.Facts] : Prop :=
  ∀ (m : (ℓ : Loc Cert.InRnnRefIdeal.nD Cert.InRnnRefIdeal.τ Cert.InRnnRefIdeal.sig) → Buf (Elt Ideal) ℓ) (g : Dev Cert.InRnnRefIdeal.nD → PrngReg), Pre_InRnnRefIdeal m →
    θ_run (Cert.InRnnRefIdeal.defs (F := Ideal)) (onTc (τ := Cert.InRnnRefIdeal.τ) (Cert.InRnnRefIdeal.main (F := Ideal))) ⟨m, fun _ => 0, g⟩ (fun r => (∀ c : Dev Cert.InRnnRefIdeal.nD,
      r.2.mem ((c.tc : Thread Cert.InRnnRefIdeal.nD Cert.InRnnRefIdeal.τ).loc Cert.InRnnRefIdeal.main_arg0) = m ((c.tc : Thread Cert.InRnnRefIdeal.nD Cert.InRnnRefIdeal.τ).loc Cert.InRnnRefIdeal.main_arg0)
      ∧ r.2.mem ((c.tc : Thread Cert.InRnnRefIdeal.nD Cert.InRnnRefIdeal.τ).loc Cert.InRnnRefIdeal.main_arg1) = m ((c.tc : Thread Cert.InRnnRefIdeal.nD Cert.InRnnRefIdeal.τ).loc Cert.InRnnRefIdeal.main_arg1))
      ∧ r.2.sem = fun _ => 0)

def quiescent_DwInRnn [hDwInRnn : Cert.DwInRnn.Facts] : Prop :=
  ∀ (m : (ℓ : Loc Cert.DwInRnn.nD Cert.DwInRnn.τ Cert.DwInRnn.sig) → Buf (Elt Bits) ℓ) (g : Dev Cert.DwInRnn.nD → PrngReg), Pre_DwInRnn m →
    θ_run (Cert.DwInRnn.defs (F := Bits)) (onTc (τ := Cert.DwInRnn.τ) (Cert.DwInRnn.main (F := Bits))) ⟨m, fun _ => 0, g⟩ (fun r => (∀ c : Dev Cert.DwInRnn.nD,
      r.2.mem ((c.tc : Thread Cert.DwInRnn.nD Cert.DwInRnn.τ).loc Cert.DwInRnn.main_arg0) = m ((c.tc : Thread Cert.DwInRnn.nD Cert.DwInRnn.τ).loc Cert.DwInRnn.main_arg0)
      ∧ r.2.mem ((c.tc : Thread Cert.DwInRnn.nD Cert.DwInRnn.τ).loc Cert.DwInRnn.main_arg1) = m ((c.tc : Thread Cert.DwInRnn.nD Cert.DwInRnn.τ).loc Cert.DwInRnn.main_arg1))
      ∧ r.2.sem = fun _ => 0)

def quiescent_DwInRnnIdeal [hDwInRnnIdeal : Cert.DwInRnnIdeal.Facts] : Prop :=
  ∀ (m : (ℓ : Loc Cert.DwInRnnIdeal.nD Cert.DwInRnnIdeal.τ Cert.DwInRnnIdeal.sig) → Buf (Elt Ideal) ℓ) (g : Dev Cert.DwInRnnIdeal.nD → PrngReg), Pre_DwInRnnIdeal m →
    θ_run (Cert.DwInRnnIdeal.defs (F := Ideal)) (onTc (τ := Cert.DwInRnnIdeal.τ) (Cert.DwInRnnIdeal.main (F := Ideal))) ⟨m, fun _ => 0, g⟩ (fun r => (∀ c : Dev Cert.DwInRnnIdeal.nD,
      r.2.mem ((c.tc : Thread Cert.DwInRnnIdeal.nD Cert.DwInRnnIdeal.τ).loc Cert.DwInRnnIdeal.main_arg0) = m ((c.tc : Thread Cert.DwInRnnIdeal.nD Cert.DwInRnnIdeal.τ).loc Cert.DwInRnnIdeal.main_arg0)
      ∧ r.2.mem ((c.tc : Thread Cert.DwInRnnIdeal.nD Cert.DwInRnnIdeal.τ).loc Cert.DwInRnnIdeal.main_arg1) = m ((c.tc : Thread Cert.DwInRnnIdeal.nD Cert.DwInRnnIdeal.τ).loc Cert.DwInRnnIdeal.main_arg1))
      ∧ r.2.sem = fun _ => 0)

def quiescent_DwInRnnRefIdeal [hDwInRnnRefIdeal : Cert.DwInRnnRefIdeal.Facts] : Prop :=
  ∀ (m : (ℓ : Loc Cert.DwInRnnRefIdeal.nD Cert.DwInRnnRefIdeal.τ Cert.DwInRnnRefIdeal.sig) → Buf (Elt Ideal) ℓ) (g : Dev Cert.DwInRnnRefIdeal.nD → PrngReg), Pre_DwInRnnRefIdeal m →
    θ_run (Cert.DwInRnnRefIdeal.defs (F := Ideal)) (onTc (τ := Cert.DwInRnnRefIdeal.τ) (Cert.DwInRnnRefIdeal.main (F := Ideal))) ⟨m, fun _ => 0, g⟩ (fun r => (∀ c : Dev Cert.DwInRnnRefIdeal.nD,
      r.2.mem ((c.tc : Thread Cert.DwInRnnRefIdeal.nD Cert.DwInRnnRefIdeal.τ).loc Cert.DwInRnnRefIdeal.main_arg0) = m ((c.tc : Thread Cert.DwInRnnRefIdeal.nD Cert.DwInRnnRefIdeal.τ).loc Cert.DwInRnnRefIdeal.main_arg0)
      ∧ r.2.mem ((c.tc : Thread Cert.DwInRnnRefIdeal.nD Cert.DwInRnnRefIdeal.τ).loc Cert.DwInRnnRefIdeal.main_arg1) = m ((c.tc : Thread Cert.DwInRnnRefIdeal.nD Cert.DwInRnnRefIdeal.τ).loc Cert.DwInRnnRefIdeal.main_arg1))
      ∧ r.2.sem = fun _ => 0)

def quiescent_DH1Rnn [hDH1Rnn : Cert.DH1Rnn.Facts] : Prop :=
  ∀ (m : (ℓ : Loc Cert.DH1Rnn.nD Cert.DH1Rnn.τ Cert.DH1Rnn.sig) → Buf (Elt Bits) ℓ) (g : Dev Cert.DH1Rnn.nD → PrngReg), Pre_DH1Rnn m →
    θ_run (Cert.DH1Rnn.defs (F := Bits)) (onTc (τ := Cert.DH1Rnn.τ) (Cert.DH1Rnn.main (F := Bits))) ⟨m, fun _ => 0, g⟩ (fun r => (∀ c : Dev Cert.DH1Rnn.nD,
      r.2.mem ((c.tc : Thread Cert.DH1Rnn.nD Cert.DH1Rnn.τ).loc Cert.DH1Rnn.main_arg0) = m ((c.tc : Thread Cert.DH1Rnn.nD Cert.DH1Rnn.τ).loc Cert.DH1Rnn.main_arg0)
      ∧ r.2.mem ((c.tc : Thread Cert.DH1Rnn.nD Cert.DH1Rnn.τ).loc Cert.DH1Rnn.main_arg1) = m ((c.tc : Thread Cert.DH1Rnn.nD Cert.DH1Rnn.τ).loc Cert.DH1Rnn.main_arg1)
      ∧ r.2.mem ((c.tc : Thread Cert.DH1Rnn.nD Cert.DH1Rnn.τ).loc Cert.DH1Rnn.main_arg2) = m ((c.tc : Thread Cert.DH1Rnn.nD Cert.DH1Rnn.τ).loc Cert.DH1Rnn.main_arg2)
      ∧ r.2.mem ((c.tc : Thread Cert.DH1Rnn.nD Cert.DH1Rnn.τ).loc Cert.DH1Rnn.main_arg3) = m ((c.tc : Thread Cert.DH1Rnn.nD Cert.DH1Rnn.τ).loc Cert.DH1Rnn.main_arg3))
      ∧ r.2.sem = fun _ => 0)

def quiescent_DH1RnnIdeal [hDH1RnnIdeal : Cert.DH1RnnIdeal.Facts] : Prop :=
  ∀ (m : (ℓ : Loc Cert.DH1RnnIdeal.nD Cert.DH1RnnIdeal.τ Cert.DH1RnnIdeal.sig) → Buf (Elt Ideal) ℓ) (g : Dev Cert.DH1RnnIdeal.nD → PrngReg), Pre_DH1RnnIdeal m →
    θ_run (Cert.DH1RnnIdeal.defs (F := Ideal)) (onTc (τ := Cert.DH1RnnIdeal.τ) (Cert.DH1RnnIdeal.main (F := Ideal))) ⟨m, fun _ => 0, g⟩ (fun r => (∀ c : Dev Cert.DH1RnnIdeal.nD,
      r.2.mem ((c.tc : Thread Cert.DH1RnnIdeal.nD Cert.DH1RnnIdeal.τ).loc Cert.DH1RnnIdeal.main_arg0) = m ((c.tc : Thread Cert.DH1RnnIdeal.nD Cert.DH1RnnIdeal.τ).loc Cert.DH1RnnIdeal.main_arg0)
      ∧ r.2.mem ((c.tc : Thread Cert.DH1RnnIdeal.nD Cert.DH1RnnIdeal.τ).loc Cert.DH1RnnIdeal.main_arg1) = m ((c.tc : Thread Cert.DH1RnnIdeal.nD Cert.DH1RnnIdeal.τ).loc Cert.DH1RnnIdeal.main_arg1)
      ∧ r.2.mem ((c.tc : Thread Cert.DH1RnnIdeal.nD Cert.DH1RnnIdeal.τ).loc Cert.DH1RnnIdeal.main_arg2) = m ((c.tc : Thread Cert.DH1RnnIdeal.nD Cert.DH1RnnIdeal.τ).loc Cert.DH1RnnIdeal.main_arg2)
      ∧ r.2.mem ((c.tc : Thread Cert.DH1RnnIdeal.nD Cert.DH1RnnIdeal.τ).loc Cert.DH1RnnIdeal.main_arg3) = m ((c.tc : Thread Cert.DH1RnnIdeal.nD Cert.DH1RnnIdeal.τ).loc Cert.DH1RnnIdeal.main_arg3))
      ∧ r.2.sem = fun _ => 0)

def quiescent_DH1RnnRefIdeal [hDH1RnnRefIdeal : Cert.DH1RnnRefIdeal.Facts] : Prop :=
  ∀ (m : (ℓ : Loc Cert.DH1RnnRefIdeal.nD Cert.DH1RnnRefIdeal.τ Cert.DH1RnnRefIdeal.sig) → Buf (Elt Ideal) ℓ) (g : Dev Cert.DH1RnnRefIdeal.nD → PrngReg), Pre_DH1RnnRefIdeal m →
    θ_run (Cert.DH1RnnRefIdeal.defs (F := Ideal)) (onTc (τ := Cert.DH1RnnRefIdeal.τ) (Cert.DH1RnnRefIdeal.main (F := Ideal))) ⟨m, fun _ => 0, g⟩ (fun r => (∀ c : Dev Cert.DH1RnnRefIdeal.nD,
      r.2.mem ((c.tc : Thread Cert.DH1RnnRefIdeal.nD Cert.DH1RnnRefIdeal.τ).loc Cert.DH1RnnRefIdeal.main_arg0) = m ((c.tc : Thread Cert.DH1RnnRefIdeal.nD Cert.DH1RnnRefIdeal.τ).loc Cert.DH1RnnRefIdeal.main_arg0)
      ∧ r.2.mem ((c.tc : Thread Cert.DH1RnnRefIdeal.nD Cert.DH1RnnRefIdeal.τ).loc Cert.DH1RnnRefIdeal.main_arg1) = m ((c.tc : Thread Cert.DH1RnnRefIdeal.nD Cert.DH1RnnRefIdeal.τ).loc Cert.DH1RnnRefIdeal.main_arg1)
      ∧ r.2.mem ((c.tc : Thread Cert.DH1RnnRefIdeal.nD Cert.DH1RnnRefIdeal.τ).loc Cert.DH1RnnRefIdeal.main_arg2) = m ((c.tc : Thread Cert.DH1RnnRefIdeal.nD Cert.DH1RnnRefIdeal.τ).loc Cert.DH1RnnRefIdeal.main_arg2)
      ∧ r.2.mem ((c.tc : Thread Cert.DH1RnnRefIdeal.nD Cert.DH1RnnRefIdeal.τ).loc Cert.DH1RnnRefIdeal.main_arg3) = m ((c.tc : Thread Cert.DH1RnnRefIdeal.nD Cert.DH1RnnRefIdeal.τ).loc Cert.DH1RnnRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1))
      ∧ r.2.sem = fun _ => 0)

def quiescent_InKv [hInKv : Cert.InKv.Facts] : Prop :=
  ∀ (m : (ℓ : Loc Cert.InKv.nD Cert.InKv.τ Cert.InKv.sig) → Buf (Elt Bits) ℓ) (g : Dev Cert.InKv.nD → PrngReg), Pre_InKv m →
    θ_run (Cert.InKv.defs (F := Bits)) (onTc (τ := Cert.InKv.τ) (Cert.InKv.main (F := Bits))) ⟨m, fun _ => 0, g⟩ (fun r => (∀ c : Dev Cert.InKv.nD,
      r.2.mem ((c.tc : Thread Cert.InKv.nD Cert.InKv.τ).loc Cert.InKv.main_arg0) = m ((c.tc : Thread Cert.InKv.nD Cert.InKv.τ).loc Cert.InKv.main_arg0)
      ∧ r.2.mem ((c.tc : Thread Cert.InKv.nD Cert.InKv.τ).loc Cert.InKv.main_arg1) = m ((c.tc : Thread Cert.InKv.nD Cert.InKv.τ).loc Cert.InKv.main_arg1))
      ∧ r.2.sem = fun _ => 0)

def quiescent_InKvIdeal [hInKvIdeal : Cert.InKvIdeal.Facts] : Prop :=
  ∀ (m : (ℓ : Loc Cert.InKvIdeal.nD Cert.InKvIdeal.τ Cert.InKvIdeal.sig) → Buf (Elt Ideal) ℓ) (g : Dev Cert.InKvIdeal.nD → PrngReg), Pre_InKvIdeal m →
    θ_run (Cert.InKvIdeal.defs (F := Ideal)) (onTc (τ := Cert.InKvIdeal.τ) (Cert.InKvIdeal.main (F := Ideal))) ⟨m, fun _ => 0, g⟩ (fun r => (∀ c : Dev Cert.InKvIdeal.nD,
      r.2.mem ((c.tc : Thread Cert.InKvIdeal.nD Cert.InKvIdeal.τ).loc Cert.InKvIdeal.main_arg0) = m ((c.tc : Thread Cert.InKvIdeal.nD Cert.InKvIdeal.τ).loc Cert.InKvIdeal.main_arg0)
      ∧ r.2.mem ((c.tc : Thread Cert.InKvIdeal.nD Cert.InKvIdeal.τ).loc Cert.InKvIdeal.main_arg1) = m ((c.tc : Thread Cert.InKvIdeal.nD Cert.InKvIdeal.τ).loc Cert.InKvIdeal.main_arg1))
      ∧ r.2.sem = fun _ => 0)

def quiescent_InKvRefIdeal [hInKvRefIdeal : Cert.InKvRefIdeal.Facts] : Prop :=
  ∀ (m : (ℓ : Loc Cert.InKvRefIdeal.nD Cert.InKvRefIdeal.τ Cert.InKvRefIdeal.sig) → Buf (Elt Ideal) ℓ) (g : Dev Cert.InKvRefIdeal.nD → PrngReg), Pre_InKvRefIdeal m →
    θ_run (Cert.InKvRefIdeal.defs (F := Ideal)) (onTc (τ := Cert.InKvRefIdeal.τ) (Cert.InKvRefIdeal.main (F := Ideal))) ⟨m, fun _ => 0, g⟩ (fun r => (∀ c : Dev Cert.InKvRefIdeal.nD,
      r.2.mem ((c.tc : Thread Cert.InKvRefIdeal.nD Cert.InKvRefIdeal.τ).loc Cert.InKvRefIdeal.main_arg0) = m ((c.tc : Thread Cert.InKvRefIdeal.nD Cert.InKvRefIdeal.τ).loc Cert.InKvRefIdeal.main_arg0)
      ∧ r.2.mem ((c.tc : Thread Cert.InKvRefIdeal.nD Cert.InKvRefIdeal.τ).loc Cert.InKvRefIdeal.main_arg1) = m ((c.tc : Thread Cert.InKvRefIdeal.nD Cert.InKvRefIdeal.τ).loc Cert.InKvRefIdeal.main_arg1))
      ∧ r.2.sem = fun _ => 0)

def quiescent_InMg [hInMg : Cert.InMg.Facts] : Prop :=
  ∀ (m : (ℓ : Loc Cert.InMg.nD Cert.InMg.τ Cert.InMg.sig) → Buf (Elt Bits) ℓ) (g : Dev Cert.InMg.nD → PrngReg), Pre_InMg m →
    θ_run (Cert.InMg.defs (F := Bits)) (onTc (τ := Cert.InMg.τ) (Cert.InMg.main (F := Bits))) ⟨m, fun _ => 0, g⟩ (fun r => (∀ c : Dev Cert.InMg.nD,
      r.2.mem ((c.tc : Thread Cert.InMg.nD Cert.InMg.τ).loc Cert.InMg.main_arg0) = m ((c.tc : Thread Cert.InMg.nD Cert.InMg.τ).loc Cert.InMg.main_arg0)
      ∧ r.2.mem ((c.tc : Thread Cert.InMg.nD Cert.InMg.τ).loc Cert.InMg.main_arg1) = m ((c.tc : Thread Cert.InMg.nD Cert.InMg.τ).loc Cert.InMg.main_arg1))
      ∧ r.2.sem = fun _ => 0)

def quiescent_InMgIdeal [hInMgIdeal : Cert.InMgIdeal.Facts] : Prop :=
  ∀ (m : (ℓ : Loc Cert.InMgIdeal.nD Cert.InMgIdeal.τ Cert.InMgIdeal.sig) → Buf (Elt Ideal) ℓ) (g : Dev Cert.InMgIdeal.nD → PrngReg), Pre_InMgIdeal m →
    θ_run (Cert.InMgIdeal.defs (F := Ideal)) (onTc (τ := Cert.InMgIdeal.τ) (Cert.InMgIdeal.main (F := Ideal))) ⟨m, fun _ => 0, g⟩ (fun r => (∀ c : Dev Cert.InMgIdeal.nD,
      r.2.mem ((c.tc : Thread Cert.InMgIdeal.nD Cert.InMgIdeal.τ).loc Cert.InMgIdeal.main_arg0) = m ((c.tc : Thread Cert.InMgIdeal.nD Cert.InMgIdeal.τ).loc Cert.InMgIdeal.main_arg0)
      ∧ r.2.mem ((c.tc : Thread Cert.InMgIdeal.nD Cert.InMgIdeal.τ).loc Cert.InMgIdeal.main_arg1) = m ((c.tc : Thread Cert.InMgIdeal.nD Cert.InMgIdeal.τ).loc Cert.InMgIdeal.main_arg1))
      ∧ r.2.sem = fun _ => 0)

def quiescent_InMgRefIdeal [hInMgRefIdeal : Cert.InMgRefIdeal.Facts] : Prop :=
  ∀ (m : (ℓ : Loc Cert.InMgRefIdeal.nD Cert.InMgRefIdeal.τ Cert.InMgRefIdeal.sig) → Buf (Elt Ideal) ℓ) (g : Dev Cert.InMgRefIdeal.nD → PrngReg), Pre_InMgRefIdeal m →
    θ_run (Cert.InMgRefIdeal.defs (F := Ideal)) (onTc (τ := Cert.InMgRefIdeal.τ) (Cert.InMgRefIdeal.main (F := Ideal))) ⟨m, fun _ => 0, g⟩ (fun r => (∀ c : Dev Cert.InMgRefIdeal.nD,
      r.2.mem ((c.tc : Thread Cert.InMgRefIdeal.nD Cert.InMgRefIdeal.τ).loc Cert.InMgRefIdeal.main_arg0) = m ((c.tc : Thread Cert.InMgRefIdeal.nD Cert.InMgRefIdeal.τ).loc Cert.InMgRefIdeal.main_arg0)
      ∧ r.2.mem ((c.tc : Thread Cert.InMgRefIdeal.nD Cert.InMgRefIdeal.τ).loc Cert.InMgRefIdeal.main_arg1) = m ((c.tc : Thread Cert.InMgRefIdeal.nD Cert.InMgRefIdeal.τ).loc Cert.InMgRefIdeal.main_arg1))
      ∧ r.2.sem = fun _ => 0)

def quiescent_DYRnn [hDYRnn : Cert.DYRnn.Facts] : Prop :=
  ∀ (m : (ℓ : Loc Cert.DYRnn.nD Cert.DYRnn.τ Cert.DYRnn.sig) → Buf (Elt Bits) ℓ) (g : Dev Cert.DYRnn.nD → PrngReg), Pre_DYRnn m →
    θ_run (Cert.DYRnn.defs (F := Bits)) (onTc (τ := Cert.DYRnn.τ) (Cert.DYRnn.main (F := Bits))) ⟨m, fun _ => 0, g⟩ (fun r => (∀ c : Dev Cert.DYRnn.nD,
      r.2.mem ((c.tc : Thread Cert.DYRnn.nD Cert.DYRnn.τ).loc Cert.DYRnn.main_arg0) = m ((c.tc : Thread Cert.DYRnn.nD Cert.DYRnn.τ).loc Cert.DYRnn.main_arg0)
      ∧ r.2.mem ((c.tc : Thread Cert.DYRnn.nD Cert.DYRnn.τ).loc Cert.DYRnn.main_arg1) = m ((c.tc : Thread Cert.DYRnn.nD Cert.DYRnn.τ).loc Cert.DYRnn.main_arg1))
      ∧ r.2.sem = fun _ => 0)

def quiescent_DYRnnIdeal [hDYRnnIdeal : Cert.DYRnnIdeal.Facts] : Prop :=
  ∀ (m : (ℓ : Loc Cert.DYRnnIdeal.nD Cert.DYRnnIdeal.τ Cert.DYRnnIdeal.sig) → Buf (Elt Ideal) ℓ) (g : Dev Cert.DYRnnIdeal.nD → PrngReg), Pre_DYRnnIdeal m →
    θ_run (Cert.DYRnnIdeal.defs (F := Ideal)) (onTc (τ := Cert.DYRnnIdeal.τ) (Cert.DYRnnIdeal.main (F := Ideal))) ⟨m, fun _ => 0, g⟩ (fun r => (∀ c : Dev Cert.DYRnnIdeal.nD,
      r.2.mem ((c.tc : Thread Cert.DYRnnIdeal.nD Cert.DYRnnIdeal.τ).loc Cert.DYRnnIdeal.main_arg0) = m ((c.tc : Thread Cert.DYRnnIdeal.nD Cert.DYRnnIdeal.τ).loc Cert.DYRnnIdeal.main_arg0)
      ∧ r.2.mem ((c.tc : Thread Cert.DYRnnIdeal.nD Cert.DYRnnIdeal.τ).loc Cert.DYRnnIdeal.main_arg1) = m ((c.tc : Thread Cert.DYRnnIdeal.nD Cert.DYRnnIdeal.τ).loc Cert.DYRnnIdeal.main_arg1))
      ∧ r.2.sem = fun _ => 0)

def quiescent_DYRnnRefIdeal [hDYRnnRefIdeal : Cert.DYRnnRefIdeal.Facts] : Prop :=
  ∀ (m : (ℓ : Loc Cert.DYRnnRefIdeal.nD Cert.DYRnnRefIdeal.τ Cert.DYRnnRefIdeal.sig) → Buf (Elt Ideal) ℓ) (g : Dev Cert.DYRnnRefIdeal.nD → PrngReg), Pre_DYRnnRefIdeal m →
    θ_run (Cert.DYRnnRefIdeal.defs (F := Ideal)) (onTc (τ := Cert.DYRnnRefIdeal.τ) (Cert.DYRnnRefIdeal.main (F := Ideal))) ⟨m, fun _ => 0, g⟩ (fun r => (∀ c : Dev Cert.DYRnnRefIdeal.nD,
      r.2.mem ((c.tc : Thread Cert.DYRnnRefIdeal.nD Cert.DYRnnRefIdeal.τ).loc Cert.DYRnnRefIdeal.main_arg0) = m ((c.tc : Thread Cert.DYRnnRefIdeal.nD Cert.DYRnnRefIdeal.τ).loc Cert.DYRnnRefIdeal.main_arg0)
      ∧ r.2.mem ((c.tc : Thread Cert.DYRnnRefIdeal.nD Cert.DYRnnRefIdeal.τ).loc Cert.DYRnnRefIdeal.main_arg1) = m ((c.tc : Thread Cert.DYRnnRefIdeal.nD Cert.DYRnnRefIdeal.τ).loc Cert.DYRnnRefIdeal.main_arg1))
      ∧ r.2.sem = fun _ => 0)

def quiescent_DwProjRnn [hDwProjRnn : Cert.DwProjRnn.Facts] : Prop :=
  ∀ (m : (ℓ : Loc Cert.DwProjRnn.nD Cert.DwProjRnn.τ Cert.DwProjRnn.sig) → Buf (Elt Bits) ℓ) (g : Dev Cert.DwProjRnn.nD → PrngReg), Pre_DwProjRnn m →
    θ_run (Cert.DwProjRnn.defs (F := Bits)) (onTc (τ := Cert.DwProjRnn.τ) (Cert.DwProjRnn.main (F := Bits))) ⟨m, fun _ => 0, g⟩ (fun r => (∀ c : Dev Cert.DwProjRnn.nD,
      r.2.mem ((c.tc : Thread Cert.DwProjRnn.nD Cert.DwProjRnn.τ).loc Cert.DwProjRnn.main_arg0) = m ((c.tc : Thread Cert.DwProjRnn.nD Cert.DwProjRnn.τ).loc Cert.DwProjRnn.main_arg0)
      ∧ r.2.mem ((c.tc : Thread Cert.DwProjRnn.nD Cert.DwProjRnn.τ).loc Cert.DwProjRnn.main_arg1) = m ((c.tc : Thread Cert.DwProjRnn.nD Cert.DwProjRnn.τ).loc Cert.DwProjRnn.main_arg1))
      ∧ r.2.sem = fun _ => 0)

def quiescent_DwProjRnnIdeal [hDwProjRnnIdeal : Cert.DwProjRnnIdeal.Facts] : Prop :=
  ∀ (m : (ℓ : Loc Cert.DwProjRnnIdeal.nD Cert.DwProjRnnIdeal.τ Cert.DwProjRnnIdeal.sig) → Buf (Elt Ideal) ℓ) (g : Dev Cert.DwProjRnnIdeal.nD → PrngReg), Pre_DwProjRnnIdeal m →
    θ_run (Cert.DwProjRnnIdeal.defs (F := Ideal)) (onTc (τ := Cert.DwProjRnnIdeal.τ) (Cert.DwProjRnnIdeal.main (F := Ideal))) ⟨m, fun _ => 0, g⟩ (fun r => (∀ c : Dev Cert.DwProjRnnIdeal.nD,
      r.2.mem ((c.tc : Thread Cert.DwProjRnnIdeal.nD Cert.DwProjRnnIdeal.τ).loc Cert.DwProjRnnIdeal.main_arg0) = m ((c.tc : Thread Cert.DwProjRnnIdeal.nD Cert.DwProjRnnIdeal.τ).loc Cert.DwProjRnnIdeal.main_arg0)
      ∧ r.2.mem ((c.tc : Thread Cert.DwProjRnnIdeal.nD Cert.DwProjRnnIdeal.τ).loc Cert.DwProjRnnIdeal.main_arg1) = m ((c.tc : Thread Cert.DwProjRnnIdeal.nD Cert.DwProjRnnIdeal.τ).loc Cert.DwProjRnnIdeal.main_arg1))
      ∧ r.2.sem = fun _ => 0)

def quiescent_DwProjRnnRefIdeal [hDwProjRnnRefIdeal : Cert.DwProjRnnRefIdeal.Facts] : Prop :=
  ∀ (m : (ℓ : Loc Cert.DwProjRnnRefIdeal.nD Cert.DwProjRnnRefIdeal.τ Cert.DwProjRnnRefIdeal.sig) → Buf (Elt Ideal) ℓ) (g : Dev Cert.DwProjRnnRefIdeal.nD → PrngReg), Pre_DwProjRnnRefIdeal m →
    θ_run (Cert.DwProjRnnRefIdeal.defs (F := Ideal)) (onTc (τ := Cert.DwProjRnnRefIdeal.τ) (Cert.DwProjRnnRefIdeal.main (F := Ideal))) ⟨m, fun _ => 0, g⟩ (fun r => (∀ c : Dev Cert.DwProjRnnRefIdeal.nD,
      r.2.mem ((c.tc : Thread Cert.DwProjRnnRefIdeal.nD Cert.DwProjRnnRefIdeal.τ).loc Cert.DwProjRnnRefIdeal.main_arg0) = m ((c.tc : Thread Cert.DwProjRnnRefIdeal.nD Cert.DwProjRnnRefIdeal.τ).loc Cert.DwProjRnnRefIdeal.main_arg0)
      ∧ r.2.mem ((c.tc : Thread Cert.DwProjRnnRefIdeal.nD Cert.DwProjRnnRefIdeal.τ).loc Cert.DwProjRnnRefIdeal.main_arg1) = m ((c.tc : Thread Cert.DwProjRnnRefIdeal.nD Cert.DwProjRnnRefIdeal.τ).loc Cert.DwProjRnnRefIdeal.main_arg1))
      ∧ r.2.sem = fun _ => 0)

def quiescent_ProjRnn [hProjRnn : Cert.ProjRnn.Facts] : Prop :=
  ∀ (m : (ℓ : Loc Cert.ProjRnn.nD Cert.ProjRnn.τ Cert.ProjRnn.sig) → Buf (Elt Bits) ℓ) (g : Dev Cert.ProjRnn.nD → PrngReg), Pre_ProjRnn m →
    θ_run (Cert.ProjRnn.defs (F := Bits)) (onTc (τ := Cert.ProjRnn.τ) (Cert.ProjRnn.main (F := Bits))) ⟨m, fun _ => 0, g⟩ (fun r => (∀ c : Dev Cert.ProjRnn.nD,
      r.2.mem ((c.tc : Thread Cert.ProjRnn.nD Cert.ProjRnn.τ).loc Cert.ProjRnn.main_arg0) = m ((c.tc : Thread Cert.ProjRnn.nD Cert.ProjRnn.τ).loc Cert.ProjRnn.main_arg0)
      ∧ r.2.mem ((c.tc : Thread Cert.ProjRnn.nD Cert.ProjRnn.τ).loc Cert.ProjRnn.main_arg1) = m ((c.tc : Thread Cert.ProjRnn.nD Cert.ProjRnn.τ).loc Cert.ProjRnn.main_arg1))
      ∧ r.2.sem = fun _ => 0)

def quiescent_ProjRnnIdeal [hProjRnnIdeal : Cert.ProjRnnIdeal.Facts] : Prop :=
  ∀ (m : (ℓ : Loc Cert.ProjRnnIdeal.nD Cert.ProjRnnIdeal.τ Cert.ProjRnnIdeal.sig) → Buf (Elt Ideal) ℓ) (g : Dev Cert.ProjRnnIdeal.nD → PrngReg), Pre_ProjRnnIdeal m →
    θ_run (Cert.ProjRnnIdeal.defs (F := Ideal)) (onTc (τ := Cert.ProjRnnIdeal.τ) (Cert.ProjRnnIdeal.main (F := Ideal))) ⟨m, fun _ => 0, g⟩ (fun r => (∀ c : Dev Cert.ProjRnnIdeal.nD,
      r.2.mem ((c.tc : Thread Cert.ProjRnnIdeal.nD Cert.ProjRnnIdeal.τ).loc Cert.ProjRnnIdeal.main_arg0) = m ((c.tc : Thread Cert.ProjRnnIdeal.nD Cert.ProjRnnIdeal.τ).loc Cert.ProjRnnIdeal.main_arg0)
      ∧ r.2.mem ((c.tc : Thread Cert.ProjRnnIdeal.nD Cert.ProjRnnIdeal.τ).loc Cert.ProjRnnIdeal.main_arg1) = m ((c.tc : Thread Cert.ProjRnnIdeal.nD Cert.ProjRnnIdeal.τ).loc Cert.ProjRnnIdeal.main_arg1))
      ∧ r.2.sem = fun _ => 0)

def quiescent_ProjRnnRefIdeal [hProjRnnRefIdeal : Cert.ProjRnnRefIdeal.Facts] : Prop :=
  ∀ (m : (ℓ : Loc Cert.ProjRnnRefIdeal.nD Cert.ProjRnnRefIdeal.τ Cert.ProjRnnRefIdeal.sig) → Buf (Elt Ideal) ℓ) (g : Dev Cert.ProjRnnRefIdeal.nD → PrngReg), Pre_ProjRnnRefIdeal m →
    θ_run (Cert.ProjRnnRefIdeal.defs (F := Ideal)) (onTc (τ := Cert.ProjRnnRefIdeal.τ) (Cert.ProjRnnRefIdeal.main (F := Ideal))) ⟨m, fun _ => 0, g⟩ (fun r => (∀ c : Dev Cert.ProjRnnRefIdeal.nD,
      r.2.mem ((c.tc : Thread Cert.ProjRnnRefIdeal.nD Cert.ProjRnnRefIdeal.τ).loc Cert.ProjRnnRefIdeal.main_arg0) = m ((c.tc : Thread Cert.ProjRnnRefIdeal.nD Cert.ProjRnnRefIdeal.τ).loc Cert.ProjRnnRefIdeal.main_arg0)
      ∧ r.2.mem ((c.tc : Thread Cert.ProjRnnRefIdeal.nD Cert.ProjRnnRefIdeal.τ).loc Cert.ProjRnnRefIdeal.main_arg1) = m ((c.tc : Thread Cert.ProjRnnRefIdeal.nD Cert.ProjRnnRefIdeal.τ).loc Cert.ProjRnnRefIdeal.main_arg1))
      ∧ r.2.sem = fun _ => 0)

def quiescent_InQ [hInQ : Cert.InQ.Facts] : Prop :=
  ∀ (m : (ℓ : Loc Cert.InQ.nD Cert.InQ.τ Cert.InQ.sig) → Buf (Elt Bits) ℓ) (g : Dev Cert.InQ.nD → PrngReg), Pre_InQ m →
    θ_run (Cert.InQ.defs (F := Bits)) (onTc (τ := Cert.InQ.τ) (Cert.InQ.main (F := Bits))) ⟨m, fun _ => 0, g⟩ (fun r => (∀ c : Dev Cert.InQ.nD,
      r.2.mem ((c.tc : Thread Cert.InQ.nD Cert.InQ.τ).loc Cert.InQ.main_arg0) = m ((c.tc : Thread Cert.InQ.nD Cert.InQ.τ).loc Cert.InQ.main_arg0)
      ∧ r.2.mem ((c.tc : Thread Cert.InQ.nD Cert.InQ.τ).loc Cert.InQ.main_arg1) = m ((c.tc : Thread Cert.InQ.nD Cert.InQ.τ).loc Cert.InQ.main_arg1))
      ∧ r.2.sem = fun _ => 0)

def quiescent_InQIdeal [hInQIdeal : Cert.InQIdeal.Facts] : Prop :=
  ∀ (m : (ℓ : Loc Cert.InQIdeal.nD Cert.InQIdeal.τ Cert.InQIdeal.sig) → Buf (Elt Ideal) ℓ) (g : Dev Cert.InQIdeal.nD → PrngReg), Pre_InQIdeal m →
    θ_run (Cert.InQIdeal.defs (F := Ideal)) (onTc (τ := Cert.InQIdeal.τ) (Cert.InQIdeal.main (F := Ideal))) ⟨m, fun _ => 0, g⟩ (fun r => (∀ c : Dev Cert.InQIdeal.nD,
      r.2.mem ((c.tc : Thread Cert.InQIdeal.nD Cert.InQIdeal.τ).loc Cert.InQIdeal.main_arg0) = m ((c.tc : Thread Cert.InQIdeal.nD Cert.InQIdeal.τ).loc Cert.InQIdeal.main_arg0)
      ∧ r.2.mem ((c.tc : Thread Cert.InQIdeal.nD Cert.InQIdeal.τ).loc Cert.InQIdeal.main_arg1) = m ((c.tc : Thread Cert.InQIdeal.nD Cert.InQIdeal.τ).loc Cert.InQIdeal.main_arg1))
      ∧ r.2.sem = fun _ => 0)

def quiescent_InQRefIdeal [hInQRefIdeal : Cert.InQRefIdeal.Facts] : Prop :=
  ∀ (m : (ℓ : Loc Cert.InQRefIdeal.nD Cert.InQRefIdeal.τ Cert.InQRefIdeal.sig) → Buf (Elt Ideal) ℓ) (g : Dev Cert.InQRefIdeal.nD → PrngReg), Pre_InQRefIdeal m →
    θ_run (Cert.InQRefIdeal.defs (F := Ideal)) (onTc (τ := Cert.InQRefIdeal.τ) (Cert.InQRefIdeal.main (F := Ideal))) ⟨m, fun _ => 0, g⟩ (fun r => (∀ c : Dev Cert.InQRefIdeal.nD,
      r.2.mem ((c.tc : Thread Cert.InQRefIdeal.nD Cert.InQRefIdeal.τ).loc Cert.InQRefIdeal.main_arg0) = m ((c.tc : Thread Cert.InQRefIdeal.nD Cert.InQRefIdeal.τ).loc Cert.InQRefIdeal.main_arg0)
      ∧ r.2.mem ((c.tc : Thread Cert.InQRefIdeal.nD Cert.InQRefIdeal.τ).loc Cert.InQRefIdeal.main_arg1) = m ((c.tc : Thread Cert.InQRefIdeal.nD Cert.InQRefIdeal.τ).loc Cert.InQRefIdeal.main_arg1))
      ∧ r.2.sem = fun _ => 0)

def quiescent_ProjAttn [hProjAttn : Cert.ProjAttn.Facts] : Prop :=
  ∀ (m : (ℓ : Loc Cert.ProjAttn.nD Cert.ProjAttn.τ Cert.ProjAttn.sig) → Buf (Elt Bits) ℓ) (g : Dev Cert.ProjAttn.nD → PrngReg), Pre_ProjAttn m →
    θ_run (Cert.ProjAttn.defs (F := Bits)) (onTc (τ := Cert.ProjAttn.τ) (Cert.ProjAttn.main (F := Bits))) ⟨m, fun _ => 0, g⟩ (fun r => (∀ c : Dev Cert.ProjAttn.nD,
      r.2.mem ((c.tc : Thread Cert.ProjAttn.nD Cert.ProjAttn.τ).loc Cert.ProjAttn.main_arg0) = m ((c.tc : Thread Cert.ProjAttn.nD Cert.ProjAttn.τ).loc Cert.ProjAttn.main_arg0)
      ∧ r.2.mem ((c.tc : Thread Cert.ProjAttn.nD Cert.ProjAttn.τ).loc Cert.ProjAttn.main_arg1) = m ((c.tc : Thread Cert.ProjAttn.nD Cert.ProjAttn.τ).loc Cert.ProjAttn.main_arg1))
      ∧ r.2.sem = fun _ => 0)

def quiescent_ProjAttnIdeal [hProjAttnIdeal : Cert.ProjAttnIdeal.Facts] : Prop :=
  ∀ (m : (ℓ : Loc Cert.ProjAttnIdeal.nD Cert.ProjAttnIdeal.τ Cert.ProjAttnIdeal.sig) → Buf (Elt Ideal) ℓ) (g : Dev Cert.ProjAttnIdeal.nD → PrngReg), Pre_ProjAttnIdeal m →
    θ_run (Cert.ProjAttnIdeal.defs (F := Ideal)) (onTc (τ := Cert.ProjAttnIdeal.τ) (Cert.ProjAttnIdeal.main (F := Ideal))) ⟨m, fun _ => 0, g⟩ (fun r => (∀ c : Dev Cert.ProjAttnIdeal.nD,
      r.2.mem ((c.tc : Thread Cert.ProjAttnIdeal.nD Cert.ProjAttnIdeal.τ).loc Cert.ProjAttnIdeal.main_arg0) = m ((c.tc : Thread Cert.ProjAttnIdeal.nD Cert.ProjAttnIdeal.τ).loc Cert.ProjAttnIdeal.main_arg0)
      ∧ r.2.mem ((c.tc : Thread Cert.ProjAttnIdeal.nD Cert.ProjAttnIdeal.τ).loc Cert.ProjAttnIdeal.main_arg1) = m ((c.tc : Thread Cert.ProjAttnIdeal.nD Cert.ProjAttnIdeal.τ).loc Cert.ProjAttnIdeal.main_arg1))
      ∧ r.2.sem = fun _ => 0)

def quiescent_ProjAttnRefIdeal [hProjAttnRefIdeal : Cert.ProjAttnRefIdeal.Facts] : Prop :=
  ∀ (m : (ℓ : Loc Cert.ProjAttnRefIdeal.nD Cert.ProjAttnRefIdeal.τ Cert.ProjAttnRefIdeal.sig) → Buf (Elt Ideal) ℓ) (g : Dev Cert.ProjAttnRefIdeal.nD → PrngReg), Pre_ProjAttnRefIdeal m →
    θ_run (Cert.ProjAttnRefIdeal.defs (F := Ideal)) (onTc (τ := Cert.ProjAttnRefIdeal.τ) (Cert.ProjAttnRefIdeal.main (F := Ideal))) ⟨m, fun _ => 0, g⟩ (fun r => (∀ c : Dev Cert.ProjAttnRefIdeal.nD,
      r.2.mem ((c.tc : Thread Cert.ProjAttnRefIdeal.nD Cert.ProjAttnRefIdeal.τ).loc Cert.ProjAttnRefIdeal.main_arg0) = m ((c.tc : Thread Cert.ProjAttnRefIdeal.nD Cert.ProjAttnRefIdeal.τ).loc Cert.ProjAttnRefIdeal.main_arg0)
      ∧ r.2.mem ((c.tc : Thread Cert.ProjAttnRefIdeal.nD Cert.ProjAttnRefIdeal.τ).loc Cert.ProjAttnRefIdeal.main_arg1) = m ((c.tc : Thread Cert.ProjAttnRefIdeal.nD Cert.ProjAttnRefIdeal.τ).loc Cert.ProjAttnRefIdeal.main_arg1))
      ∧ r.2.sem = fun _ => 0)

def quiescent_DwProjAttn [hDwProjAttn : Cert.DwProjAttn.Facts] : Prop :=
  ∀ (m : (ℓ : Loc Cert.DwProjAttn.nD Cert.DwProjAttn.τ Cert.DwProjAttn.sig) → Buf (Elt Bits) ℓ) (g : Dev Cert.DwProjAttn.nD → PrngReg), Pre_DwProjAttn m →
    θ_run (Cert.DwProjAttn.defs (F := Bits)) (onTc (τ := Cert.DwProjAttn.τ) (Cert.DwProjAttn.main (F := Bits))) ⟨m, fun _ => 0, g⟩ (fun r => (∀ c : Dev Cert.DwProjAttn.nD,
      r.2.mem ((c.tc : Thread Cert.DwProjAttn.nD Cert.DwProjAttn.τ).loc Cert.DwProjAttn.main_arg0) = m ((c.tc : Thread Cert.DwProjAttn.nD Cert.DwProjAttn.τ).loc Cert.DwProjAttn.main_arg0)
      ∧ r.2.mem ((c.tc : Thread Cert.DwProjAttn.nD Cert.DwProjAttn.τ).loc Cert.DwProjAttn.main_arg1) = m ((c.tc : Thread Cert.DwProjAttn.nD Cert.DwProjAttn.τ).loc Cert.DwProjAttn.main_arg1))
      ∧ r.2.sem = fun _ => 0)

def quiescent_DwProjAttnIdeal [hDwProjAttnIdeal : Cert.DwProjAttnIdeal.Facts] : Prop :=
  ∀ (m : (ℓ : Loc Cert.DwProjAttnIdeal.nD Cert.DwProjAttnIdeal.τ Cert.DwProjAttnIdeal.sig) → Buf (Elt Ideal) ℓ) (g : Dev Cert.DwProjAttnIdeal.nD → PrngReg), Pre_DwProjAttnIdeal m →
    θ_run (Cert.DwProjAttnIdeal.defs (F := Ideal)) (onTc (τ := Cert.DwProjAttnIdeal.τ) (Cert.DwProjAttnIdeal.main (F := Ideal))) ⟨m, fun _ => 0, g⟩ (fun r => (∀ c : Dev Cert.DwProjAttnIdeal.nD,
      r.2.mem ((c.tc : Thread Cert.DwProjAttnIdeal.nD Cert.DwProjAttnIdeal.τ).loc Cert.DwProjAttnIdeal.main_arg0) = m ((c.tc : Thread Cert.DwProjAttnIdeal.nD Cert.DwProjAttnIdeal.τ).loc Cert.DwProjAttnIdeal.main_arg0)
      ∧ r.2.mem ((c.tc : Thread Cert.DwProjAttnIdeal.nD Cert.DwProjAttnIdeal.τ).loc Cert.DwProjAttnIdeal.main_arg1) = m ((c.tc : Thread Cert.DwProjAttnIdeal.nD Cert.DwProjAttnIdeal.τ).loc Cert.DwProjAttnIdeal.main_arg1))
      ∧ r.2.sem = fun _ => 0)

def quiescent_DwProjAttnRefIdeal [hDwProjAttnRefIdeal : Cert.DwProjAttnRefIdeal.Facts] : Prop :=
  ∀ (m : (ℓ : Loc Cert.DwProjAttnRefIdeal.nD Cert.DwProjAttnRefIdeal.τ Cert.DwProjAttnRefIdeal.sig) → Buf (Elt Ideal) ℓ) (g : Dev Cert.DwProjAttnRefIdeal.nD → PrngReg), Pre_DwProjAttnRefIdeal m →
    θ_run (Cert.DwProjAttnRefIdeal.defs (F := Ideal)) (onTc (τ := Cert.DwProjAttnRefIdeal.τ) (Cert.DwProjAttnRefIdeal.main (F := Ideal))) ⟨m, fun _ => 0, g⟩ (fun r => (∀ c : Dev Cert.DwProjAttnRefIdeal.nD,
      r.2.mem ((c.tc : Thread Cert.DwProjAttnRefIdeal.nD Cert.DwProjAttnRefIdeal.τ).loc Cert.DwProjAttnRefIdeal.main_arg0) = m ((c.tc : Thread Cert.DwProjAttnRefIdeal.nD Cert.DwProjAttnRefIdeal.τ).loc Cert.DwProjAttnRefIdeal.main_arg0)
      ∧ r.2.mem ((c.tc : Thread Cert.DwProjAttnRefIdeal.nD Cert.DwProjAttnRefIdeal.τ).loc Cert.DwProjAttnRefIdeal.main_arg1) = m ((c.tc : Thread Cert.DwProjAttnRefIdeal.nD Cert.DwProjAttnRefIdeal.τ).loc Cert.DwProjAttnRefIdeal.main_arg1))
      ∧ r.2.sem = fun _ => 0)

def quiescent_InFl [hInFl : Cert.InFl.Facts] : Prop :=
  ∀ (m : (ℓ : Loc Cert.InFl.nD Cert.InFl.τ Cert.InFl.sig) → Buf (Elt Bits) ℓ) (g : Dev Cert.InFl.nD → PrngReg), Pre_InFl m →
    θ_run (Cert.InFl.defs (F := Bits)) (onTc (τ := Cert.InFl.τ) (Cert.InFl.main (F := Bits))) ⟨m, fun _ => 0, g⟩ (fun r => (∀ c : Dev Cert.InFl.nD,
      r.2.mem ((c.tc : Thread Cert.InFl.nD Cert.InFl.τ).loc Cert.InFl.main_arg0) = m ((c.tc : Thread Cert.InFl.nD Cert.InFl.τ).loc Cert.InFl.main_arg0)
      ∧ r.2.mem ((c.tc : Thread Cert.InFl.nD Cert.InFl.τ).loc Cert.InFl.main_arg1) = m ((c.tc : Thread Cert.InFl.nD Cert.InFl.τ).loc Cert.InFl.main_arg1))
      ∧ r.2.sem = fun _ => 0)

def quiescent_InFlIdeal [hInFlIdeal : Cert.InFlIdeal.Facts] : Prop :=
  ∀ (m : (ℓ : Loc Cert.InFlIdeal.nD Cert.InFlIdeal.τ Cert.InFlIdeal.sig) → Buf (Elt Ideal) ℓ) (g : Dev Cert.InFlIdeal.nD → PrngReg), Pre_InFlIdeal m →
    θ_run (Cert.InFlIdeal.defs (F := Ideal)) (onTc (τ := Cert.InFlIdeal.τ) (Cert.InFlIdeal.main (F := Ideal))) ⟨m, fun _ => 0, g⟩ (fun r => (∀ c : Dev Cert.InFlIdeal.nD,
      r.2.mem ((c.tc : Thread Cert.InFlIdeal.nD Cert.InFlIdeal.τ).loc Cert.InFlIdeal.main_arg0) = m ((c.tc : Thread Cert.InFlIdeal.nD Cert.InFlIdeal.τ).loc Cert.InFlIdeal.main_arg0)
      ∧ r.2.mem ((c.tc : Thread Cert.InFlIdeal.nD Cert.InFlIdeal.τ).loc Cert.InFlIdeal.main_arg1) = m ((c.tc : Thread Cert.InFlIdeal.nD Cert.InFlIdeal.τ).loc Cert.InFlIdeal.main_arg1))
      ∧ r.2.sem = fun _ => 0)

def quiescent_InFlRefIdeal [hInFlRefIdeal : Cert.InFlRefIdeal.Facts] : Prop :=
  ∀ (m : (ℓ : Loc Cert.InFlRefIdeal.nD Cert.InFlRefIdeal.τ Cert.InFlRefIdeal.sig) → Buf (Elt Ideal) ℓ) (g : Dev Cert.InFlRefIdeal.nD → PrngReg), Pre_InFlRefIdeal m →
    θ_run (Cert.InFlRefIdeal.defs (F := Ideal)) (onTc (τ := Cert.InFlRefIdeal.τ) (Cert.InFlRefIdeal.main (F := Ideal))) ⟨m, fun _ => 0, g⟩ (fun r => (∀ c : Dev Cert.InFlRefIdeal.nD,
      r.2.mem ((c.tc : Thread Cert.InFlRefIdeal.nD Cert.InFlRefIdeal.τ).loc Cert.InFlRefIdeal.main_arg0) = m ((c.tc : Thread Cert.InFlRefIdeal.nD Cert.InFlRefIdeal.τ).loc Cert.InFlRefIdeal.main_arg0)
      ∧ r.2.mem ((c.tc : Thread Cert.InFlRefIdeal.nD Cert.InFlRefIdeal.τ).loc Cert.InFlRefIdeal.main_arg1) = m ((c.tc : Thread Cert.InFlRefIdeal.nD Cert.InFlRefIdeal.τ).loc Cert.InFlRefIdeal.main_arg1))
      ∧ r.2.sem = fun _ => 0)

def quiescent_DwInFl [hDwInFl : Cert.DwInFl.Facts] : Prop :=
  ∀ (m : (ℓ : Loc Cert.DwInFl.nD Cert.DwInFl.τ Cert.DwInFl.sig) → Buf (Elt Bits) ℓ) (g : Dev Cert.DwInFl.nD → PrngReg), Pre_DwInFl m →
    θ_run (Cert.DwInFl.defs (F := Bits)) (onTc (τ := Cert.DwInFl.τ) (Cert.DwInFl.main (F := Bits))) ⟨m, fun _ => 0, g⟩ (fun r => (∀ c : Dev Cert.DwInFl.nD,
      r.2.mem ((c.tc : Thread Cert.DwInFl.nD Cert.DwInFl.τ).loc Cert.DwInFl.main_arg0) = m ((c.tc : Thread Cert.DwInFl.nD Cert.DwInFl.τ).loc Cert.DwInFl.main_arg0)
      ∧ r.2.mem ((c.tc : Thread Cert.DwInFl.nD Cert.DwInFl.τ).loc Cert.DwInFl.main_arg1) = m ((c.tc : Thread Cert.DwInFl.nD Cert.DwInFl.τ).loc Cert.DwInFl.main_arg1))
      ∧ r.2.sem = fun _ => 0)

def quiescent_DwInFlIdeal [hDwInFlIdeal : Cert.DwInFlIdeal.Facts] : Prop :=
  ∀ (m : (ℓ : Loc Cert.DwInFlIdeal.nD Cert.DwInFlIdeal.τ Cert.DwInFlIdeal.sig) → Buf (Elt Ideal) ℓ) (g : Dev Cert.DwInFlIdeal.nD → PrngReg), Pre_DwInFlIdeal m →
    θ_run (Cert.DwInFlIdeal.defs (F := Ideal)) (onTc (τ := Cert.DwInFlIdeal.τ) (Cert.DwInFlIdeal.main (F := Ideal))) ⟨m, fun _ => 0, g⟩ (fun r => (∀ c : Dev Cert.DwInFlIdeal.nD,
      r.2.mem ((c.tc : Thread Cert.DwInFlIdeal.nD Cert.DwInFlIdeal.τ).loc Cert.DwInFlIdeal.main_arg0) = m ((c.tc : Thread Cert.DwInFlIdeal.nD Cert.DwInFlIdeal.τ).loc Cert.DwInFlIdeal.main_arg0)
      ∧ r.2.mem ((c.tc : Thread Cert.DwInFlIdeal.nD Cert.DwInFlIdeal.τ).loc Cert.DwInFlIdeal.main_arg1) = m ((c.tc : Thread Cert.DwInFlIdeal.nD Cert.DwInFlIdeal.τ).loc Cert.DwInFlIdeal.main_arg1))
      ∧ r.2.sem = fun _ => 0)

def quiescent_DwInFlRefIdeal [hDwInFlRefIdeal : Cert.DwInFlRefIdeal.Facts] : Prop :=
  ∀ (m : (ℓ : Loc Cert.DwInFlRefIdeal.nD Cert.DwInFlRefIdeal.τ Cert.DwInFlRefIdeal.sig) → Buf (Elt Ideal) ℓ) (g : Dev Cert.DwInFlRefIdeal.nD → PrngReg), Pre_DwInFlRefIdeal m →
    θ_run (Cert.DwInFlRefIdeal.defs (F := Ideal)) (onTc (τ := Cert.DwInFlRefIdeal.τ) (Cert.DwInFlRefIdeal.main (F := Ideal))) ⟨m, fun _ => 0, g⟩ (fun r => (∀ c : Dev Cert.DwInFlRefIdeal.nD,
      r.2.mem ((c.tc : Thread Cert.DwInFlRefIdeal.nD Cert.DwInFlRefIdeal.τ).loc Cert.DwInFlRefIdeal.main_arg0) = m ((c.tc : Thread Cert.DwInFlRefIdeal.nD Cert.DwInFlRefIdeal.τ).loc Cert.DwInFlRefIdeal.main_arg0)
      ∧ r.2.mem ((c.tc : Thread Cert.DwInFlRefIdeal.nD Cert.DwInFlRefIdeal.τ).loc Cert.DwInFlRefIdeal.main_arg1) = m ((c.tc : Thread Cert.DwInFlRefIdeal.nD Cert.DwInFlRefIdeal.τ).loc Cert.DwInFlRefIdeal.main_arg1))
      ∧ r.2.sem = fun _ => 0)

def quiescent_DH1Fl [hDH1Fl : Cert.DH1Fl.Facts] : Prop :=
  ∀ (m : (ℓ : Loc Cert.DH1Fl.nD Cert.DH1Fl.τ Cert.DH1Fl.sig) → Buf (Elt Bits) ℓ) (g : Dev Cert.DH1Fl.nD → PrngReg), Pre_DH1Fl m →
    θ_run (Cert.DH1Fl.defs (F := Bits)) (onTc (τ := Cert.DH1Fl.τ) (Cert.DH1Fl.main (F := Bits))) ⟨m, fun _ => 0, g⟩ (fun r => (∀ c : Dev Cert.DH1Fl.nD,
      r.2.mem ((c.tc : Thread Cert.DH1Fl.nD Cert.DH1Fl.τ).loc Cert.DH1Fl.main_arg0) = m ((c.tc : Thread Cert.DH1Fl.nD Cert.DH1Fl.τ).loc Cert.DH1Fl.main_arg0)
      ∧ r.2.mem ((c.tc : Thread Cert.DH1Fl.nD Cert.DH1Fl.τ).loc Cert.DH1Fl.main_arg1) = m ((c.tc : Thread Cert.DH1Fl.nD Cert.DH1Fl.τ).loc Cert.DH1Fl.main_arg1))
      ∧ r.2.sem = fun _ => 0)

def quiescent_DH1FlIdeal [hDH1FlIdeal : Cert.DH1FlIdeal.Facts] : Prop :=
  ∀ (m : (ℓ : Loc Cert.DH1FlIdeal.nD Cert.DH1FlIdeal.τ Cert.DH1FlIdeal.sig) → Buf (Elt Ideal) ℓ) (g : Dev Cert.DH1FlIdeal.nD → PrngReg), Pre_DH1FlIdeal m →
    θ_run (Cert.DH1FlIdeal.defs (F := Ideal)) (onTc (τ := Cert.DH1FlIdeal.τ) (Cert.DH1FlIdeal.main (F := Ideal))) ⟨m, fun _ => 0, g⟩ (fun r => (∀ c : Dev Cert.DH1FlIdeal.nD,
      r.2.mem ((c.tc : Thread Cert.DH1FlIdeal.nD Cert.DH1FlIdeal.τ).loc Cert.DH1FlIdeal.main_arg0) = m ((c.tc : Thread Cert.DH1FlIdeal.nD Cert.DH1FlIdeal.τ).loc Cert.DH1FlIdeal.main_arg0)
      ∧ r.2.mem ((c.tc : Thread Cert.DH1FlIdeal.nD Cert.DH1FlIdeal.τ).loc Cert.DH1FlIdeal.main_arg1) = m ((c.tc : Thread Cert.DH1FlIdeal.nD Cert.DH1FlIdeal.τ).loc Cert.DH1FlIdeal.main_arg1))
      ∧ r.2.sem = fun _ => 0)

def quiescent_DH1FlRefIdeal [hDH1FlRefIdeal : Cert.DH1FlRefIdeal.Facts] : Prop :=
  ∀ (m : (ℓ : Loc Cert.DH1FlRefIdeal.nD Cert.DH1FlRefIdeal.τ Cert.DH1FlRefIdeal.sig) → Buf (Elt Ideal) ℓ) (g : Dev Cert.DH1FlRefIdeal.nD → PrngReg), Pre_DH1FlRefIdeal m →
    θ_run (Cert.DH1FlRefIdeal.defs (F := Ideal)) (onTc (τ := Cert.DH1FlRefIdeal.τ) (Cert.DH1FlRefIdeal.main (F := Ideal))) ⟨m, fun _ => 0, g⟩ (fun r => (∀ c : Dev Cert.DH1FlRefIdeal.nD,
      r.2.mem ((c.tc : Thread Cert.DH1FlRefIdeal.nD Cert.DH1FlRefIdeal.τ).loc Cert.DH1FlRefIdeal.main_arg0) = m ((c.tc : Thread Cert.DH1FlRefIdeal.nD Cert.DH1FlRefIdeal.τ).loc Cert.DH1FlRefIdeal.main_arg0)
      ∧ r.2.mem ((c.tc : Thread Cert.DH1FlRefIdeal.nD Cert.DH1FlRefIdeal.τ).loc Cert.DH1FlRefIdeal.main_arg1) = m ((c.tc : Thread Cert.DH1FlRefIdeal.nD Cert.DH1FlRefIdeal.τ).loc Cert.DH1FlRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3)
      ∧ r.2.mem ((c.tc : Thread Cert.Norm2.nD Cert.Norm2.τ).loc Cert.Norm2.main_arg4) = m ((c.tc : Thread Cert.Norm2.nD Cert.Norm2.τ).loc Cert.Norm2.main_arg4)
      ∧ r.2.mem ((c.tc : Thread Cert.Norm2.nD Cert.Norm2.τ).loc Cert.Norm2.main_arg5) = m ((c.tc : Thread Cert.Norm2.nD Cert.Norm2.τ).loc Cert.Norm2.main_arg5))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
      ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3)
      ∧ r.2.mem ((c.tc : Thread Cert.Norm2RefIdeal.nD Cert.Norm2RefIdeal.τ).loc Cert.Norm2RefIdeal.main_arg4) = m ((c.tc : Thread Cert.Norm2RefIdeal.nD Cert.Norm2RefIdeal.τ).loc Cert.Norm2RefIdeal.main_arg4)
      ∧ r.2.mem ((c.tc : Thread Cert.Norm2RefIdeal.nD Cert.Norm2RefIdeal.τ).loc Cert.Norm2RefIdeal.main_arg5) = m ((c.tc : Thread Cert.Norm2RefIdeal.nD Cert.Norm2RefIdeal.τ).loc Cert.Norm2RefIdeal.main_arg5))
      ∧ r.2.sem = fun _ => 0)

def quiescent_Norm1Bwd [hNorm1Bwd : Cert.Norm1Bwd.Facts] : Prop :=
  ∀ (m : (ℓ : Loc Cert.Norm1Bwd.nD Cert.Norm1Bwd.τ Cert.Norm1Bwd.sig) → Buf (Elt Bits) ℓ) (g : Dev Cert.Norm1Bwd.nD → PrngReg), Pre_Norm1Bwd m →
    θ_run (Cert.Norm1Bwd.defs (F := Bits)) (onTc (τ := Cert.Norm1Bwd.τ) (Cert.Norm1Bwd.main (F := Bits))) ⟨m, fun _ => 0, g⟩ (fun r => (∀ c : Dev Cert.Norm1Bwd.nD,
      r.2.mem ((c.tc : Thread Cert.Norm1Bwd.nD Cert.Norm1Bwd.τ).loc Cert.Norm1Bwd.main_arg0) = m ((c.tc : Thread Cert.Norm1Bwd.nD Cert.Norm1Bwd.τ).loc Cert.Norm1Bwd.main_arg0)
      ∧ r.2.mem ((c.tc : Thread Cert.Norm1Bwd.nD Cert.Norm1Bwd.τ).loc Cert.Norm1Bwd.main_arg1) = m ((c.tc : Thread Cert.Norm1Bwd.nD Cert.Norm1Bwd.τ).loc Cert.Norm1Bwd.main_arg1)
      ∧ r.2.mem ((c.tc : Thread Cert.Norm1Bwd.nD Cert.Norm1Bwd.τ).loc Cert.Norm1Bwd.main_arg2) = m ((c.tc : Thread Cert.Norm1Bwd.nD Cert.Norm1Bwd.τ).loc Cert.Norm1Bwd.main_arg2)
      ∧ r.2.mem ((c.tc : Thread Cert.Norm1Bwd.nD Cert.Norm1Bwd.τ).loc Cert.Norm1Bwd.main_arg3) = m ((c.tc : Thread Cert.Norm1Bwd.nD Cert.Norm1Bwd.τ).loc Cert.Norm1Bwd.main_arg3)
      ∧ r.2.mem ((c.tc : Thread Cert.Norm1Bwd.nD Cert.Norm1Bwd.τ).loc Cert.Norm1Bwd.main_arg4) = m ((c.tc : Thread Cert.Norm1Bwd.nD Cert.Norm1Bwd.τ).loc Cert.Norm1Bwd.main_arg4))
      ∧ r.2.sem = fun _ => 0)

def quiescent_Norm1BwdIdeal [hNorm1BwdIdeal : Cert.Norm1BwdIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg), Pre_Norm1BwdIdeal m →
    θ_run (Cert.Norm1BwdIdeal.defs (F := Ideal)) (onTc (τ := Cert.Norm1BwdIdeal.τ) (Cert.Norm1BwdIdeal.main (F := Ideal))) ⟨m, fun _ => 0, g⟩ (fun r => (∀ c : Dev Cert.Norm1BwdIdeal.nD,
      r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
      ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
      ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
      ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
      ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4))
      ∧ r.2.sem = fun _ => 0)

def quiescent_Norm1BwdRefIdeal [hNorm1BwdRefIdeal : Cert.Norm1BwdRefIdeal.Facts] : Prop :=
  ∀ (m : (ℓ : Loc Cert.Norm1BwdRefIdeal.nD Cert.Norm1BwdRefIdeal.τ Cert.Norm1BwdRefIdeal.sig) → Buf (Elt Ideal) ℓ) (g : Dev Cert.Norm1BwdRefIdeal.nD → PrngReg), Pre_Norm1BwdRefIdeal m →
    θ_run (Cert.Norm1BwdRefIdeal.defs (F := Ideal)) (onTc (τ := Cert.Norm1BwdRefIdeal.τ) (Cert.Norm1BwdRefIdeal.main (F := Ideal))) ⟨m, fun _ => 0, g⟩ (fun r => (∀ c : Dev Cert.Norm1BwdRefIdeal.nD,
      r.2.mem ((c.tc : Thread Cert.Norm1BwdRefIdeal.nD Cert.Norm1BwdRefIdeal.τ).loc Cert.Norm1BwdRefIdeal.main_arg0) = m ((c.tc : Thread Cert.Norm1BwdRefIdeal.nD Cert.Norm1BwdRefIdeal.τ).loc Cert.Norm1BwdRefIdeal.main_arg0)
      ∧ r.2.mem ((c.tc : Thread Cert.Norm1BwdRefIdeal.nD Cert.Norm1BwdRefIdeal.τ).loc Cert.Norm1BwdRefIdeal.main_arg1) = m ((c.tc : Thread Cert.Norm1BwdRefIdeal.nD Cert.Norm1BwdRefIdeal.τ).loc Cert.Norm1BwdRefIdeal.main_arg1)
      ∧ r.2.mem ((c.tc : Thread Cert.Norm1BwdRefIdeal.nD Cert.Norm1BwdRefIdeal.τ).loc Cert.Norm1BwdRefIdeal.main_arg2) = m ((c.tc : Thread Cert.Norm1BwdRefIdeal.nD Cert.Norm1BwdRefIdeal.τ).loc Cert.Norm1BwdRefIdeal.main_arg2)
      ∧ r.2.mem ((c.tc : Thread Cert.Norm1BwdRefIdeal.nD Cert.Norm1BwdRefIdeal.τ).loc Cert.Norm1BwdRefIdeal.main_arg3) = m ((c.tc : Thread Cert.Norm1BwdRefIdeal.nD Cert.Norm1BwdRefIdeal.τ).loc Cert.Norm1BwdRefIdeal.main_arg3)
      ∧ r.2.mem ((c.tc : Thread Cert.Norm1BwdRefIdeal.nD Cert.Norm1BwdRefIdeal.τ).loc Cert.Norm1BwdRefIdeal.main_arg4) = m ((c.tc : Thread Cert.Norm1BwdRefIdeal.nD Cert.Norm1BwdRefIdeal.τ).loc Cert.Norm1BwdRefIdeal.main_arg4))
      ∧ r.2.sem = fun _ => 0)

def quiescent_Norm2Bwd [hNorm2Bwd : Cert.Norm2Bwd.Facts] : Prop :=
  ∀ (m : (ℓ : Loc Cert.Norm2Bwd.nD Cert.Norm2Bwd.τ Cert.Norm2Bwd.sig) → Buf (Elt Bits) ℓ) (g : Dev Cert.Norm2Bwd.nD → PrngReg), Pre_Norm2Bwd m →
    θ_run (Cert.Norm2Bwd.defs (F := Bits)) (onTc (τ := Cert.Norm2Bwd.τ) (Cert.Norm2Bwd.main (F := Bits))) ⟨m, fun _ => 0, g⟩ (fun r => (∀ c : Dev Cert.Norm2Bwd.nD,
      r.2.mem ((c.tc : Thread Cert.Norm2Bwd.nD Cert.Norm2Bwd.τ).loc Cert.Norm2Bwd.main_arg0) = m ((c.tc : Thread Cert.Norm2Bwd.nD Cert.Norm2Bwd.τ).loc Cert.Norm2Bwd.main_arg0)
      ∧ r.2.mem ((c.tc : Thread Cert.Norm2Bwd.nD Cert.Norm2Bwd.τ).loc Cert.Norm2Bwd.main_arg1) = m ((c.tc : Thread Cert.Norm2Bwd.nD Cert.Norm2Bwd.τ).loc Cert.Norm2Bwd.main_arg1)
      ∧ r.2.mem ((c.tc : Thread Cert.Norm2Bwd.nD Cert.Norm2Bwd.τ).loc Cert.Norm2Bwd.main_arg2) = m ((c.tc : Thread Cert.Norm2Bwd.nD Cert.Norm2Bwd.τ).loc Cert.Norm2Bwd.main_arg2)
      ∧ r.2.mem ((c.tc : Thread Cert.Norm2Bwd.nD Cert.Norm2Bwd.τ).loc Cert.Norm2Bwd.main_arg3) = m ((c.tc : Thread Cert.Norm2Bwd.nD Cert.Norm2Bwd.τ).loc Cert.Norm2Bwd.main_arg3)
      ∧ r.2.mem ((c.tc : Thread Cert.Norm2Bwd.nD Cert.Norm2Bwd.τ).loc Cert.Norm2Bwd.main_arg4) = m ((c.tc : Thread Cert.Norm2Bwd.nD Cert.Norm2Bwd.τ).loc Cert.Norm2Bwd.main_arg4)
      ∧ r.2.mem ((c.tc : Thread Cert.Norm2Bwd.nD Cert.Norm2Bwd.τ).loc Cert.Norm2Bwd.main_arg5) = m ((c.tc : Thread Cert.Norm2Bwd.nD Cert.Norm2Bwd.τ).loc Cert.Norm2Bwd.main_arg5)
      ∧ r.2.mem ((c.tc : Thread Cert.Norm2Bwd.nD Cert.Norm2Bwd.τ).loc Cert.Norm2Bwd.main_arg6) = m ((c.tc : Thread Cert.Norm2Bwd.nD Cert.Norm2Bwd.τ).loc Cert.Norm2Bwd.main_arg6))
      ∧ r.2.sem = fun _ => 0)

def quiescent_Norm2BwdIdeal [hNorm2BwdIdeal : Cert.Norm2BwdIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg), Pre_Norm2BwdIdeal m →
    θ_run (Cert.Norm2BwdIdeal.defs (F := Ideal)) (onTc (τ := Cert.Norm2BwdIdeal.τ) (Cert.Norm2BwdIdeal.main (F := Ideal))) ⟨m, fun _ => 0, g⟩ (fun r => (∀ c : Dev Cert.Norm2BwdIdeal.nD,
      r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
      ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
      ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
      ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
      ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
      ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5)
      ∧ r.2.mem ((c.tc : Thread Cert.Norm2BwdIdeal.nD Cert.Norm2BwdIdeal.τ).loc Cert.Norm2BwdIdeal.main_arg6) = m ((c.tc : Thread Cert.Norm2BwdIdeal.nD Cert.Norm2BwdIdeal.τ).loc Cert.Norm2BwdIdeal.main_arg6))
      ∧ r.2.sem = fun _ => 0)

def quiescent_Norm2BwdRefIdeal [hNorm2BwdRefIdeal : Cert.Norm2BwdRefIdeal.Facts] : Prop :=
  ∀ (m : (ℓ : Loc Cert.Norm2BwdRefIdeal.nD Cert.Norm2BwdRefIdeal.τ Cert.Norm2BwdRefIdeal.sig) → Buf (Elt Ideal) ℓ) (g : Dev Cert.Norm2BwdRefIdeal.nD → PrngReg), Pre_Norm2BwdRefIdeal m →
    θ_run (Cert.Norm2BwdRefIdeal.defs (F := Ideal)) (onTc (τ := Cert.Norm2BwdRefIdeal.τ) (Cert.Norm2BwdRefIdeal.main (F := Ideal))) ⟨m, fun _ => 0, g⟩ (fun r => (∀ c : Dev Cert.Norm2BwdRefIdeal.nD,
      r.2.mem ((c.tc : Thread Cert.Norm2BwdRefIdeal.nD Cert.Norm2BwdRefIdeal.τ).loc Cert.Norm2BwdRefIdeal.main_arg0) = m ((c.tc : Thread Cert.Norm2BwdRefIdeal.nD Cert.Norm2BwdRefIdeal.τ).loc Cert.Norm2BwdRefIdeal.main_arg0)
      ∧ r.2.mem ((c.tc : Thread Cert.Norm2BwdRefIdeal.nD Cert.Norm2BwdRefIdeal.τ).loc Cert.Norm2BwdRefIdeal.main_arg1) = m ((c.tc : Thread Cert.Norm2BwdRefIdeal.nD Cert.Norm2BwdRefIdeal.τ).loc Cert.Norm2BwdRefIdeal.main_arg1)
      ∧ r.2.mem ((c.tc : Thread Cert.Norm2BwdRefIdeal.nD Cert.Norm2BwdRefIdeal.τ).loc Cert.Norm2BwdRefIdeal.main_arg2) = m ((c.tc : Thread Cert.Norm2BwdRefIdeal.nD Cert.Norm2BwdRefIdeal.τ).loc Cert.Norm2BwdRefIdeal.main_arg2)
      ∧ r.2.mem ((c.tc : Thread Cert.Norm2BwdRefIdeal.nD Cert.Norm2BwdRefIdeal.τ).loc Cert.Norm2BwdRefIdeal.main_arg3) = m ((c.tc : Thread Cert.Norm2BwdRefIdeal.nD Cert.Norm2BwdRefIdeal.τ).loc Cert.Norm2BwdRefIdeal.main_arg3)
      ∧ r.2.mem ((c.tc : Thread Cert.Norm2BwdRefIdeal.nD Cert.Norm2BwdRefIdeal.τ).loc Cert.Norm2BwdRefIdeal.main_arg4) = m ((c.tc : Thread Cert.Norm2BwdRefIdeal.nD Cert.Norm2BwdRefIdeal.τ).loc Cert.Norm2BwdRefIdeal.main_arg4)
      ∧ r.2.mem ((c.tc : Thread Cert.Norm2BwdRefIdeal.nD Cert.Norm2BwdRefIdeal.τ).loc Cert.Norm2BwdRefIdeal.main_arg5) = m ((c.tc : Thread Cert.Norm2BwdRefIdeal.nD Cert.Norm2BwdRefIdeal.τ).loc Cert.Norm2BwdRefIdeal.main_arg5)
      ∧ r.2.mem ((c.tc : Thread Cert.Norm2BwdRefIdeal.nD Cert.Norm2BwdRefIdeal.τ).loc Cert.Norm2BwdRefIdeal.main_arg6) = m ((c.tc : Thread Cert.Norm2BwdRefIdeal.nD Cert.Norm2BwdRefIdeal.τ).loc Cert.Norm2BwdRefIdeal.main_arg6))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamProjRnn [hAdamProjRnn : Cert.AdamProjRnn.Facts] : Prop :=
  ∀ (m : (ℓ : Loc Cert.AdamProjRnn.nD Cert.AdamProjRnn.τ Cert.AdamProjRnn.sig) → Buf (Elt Bits) ℓ) (g : Dev Cert.AdamProjRnn.nD → PrngReg), Pre_AdamProjRnn m →
    θ_run (Cert.AdamProjRnn.defs (F := Bits)) (onTc (τ := Cert.AdamProjRnn.τ) (Cert.AdamProjRnn.main (F := Bits))) ⟨m, fun _ => 0, g⟩ (fun r => (∀ c : Dev Cert.AdamProjRnn.nD,
      r.2.mem ((c.tc : Thread Cert.AdamProjRnn.nD Cert.AdamProjRnn.τ).loc Cert.AdamProjRnn.main_arg0) = m ((c.tc : Thread Cert.AdamProjRnn.nD Cert.AdamProjRnn.τ).loc Cert.AdamProjRnn.main_arg0)
      ∧ r.2.mem ((c.tc : Thread Cert.AdamProjRnn.nD Cert.AdamProjRnn.τ).loc Cert.AdamProjRnn.main_arg1) = m ((c.tc : Thread Cert.AdamProjRnn.nD Cert.AdamProjRnn.τ).loc Cert.AdamProjRnn.main_arg1)
      ∧ r.2.mem ((c.tc : Thread Cert.AdamProjRnn.nD Cert.AdamProjRnn.τ).loc Cert.AdamProjRnn.main_arg2) = m ((c.tc : Thread Cert.AdamProjRnn.nD Cert.AdamProjRnn.τ).loc Cert.AdamProjRnn.main_arg2)
      ∧ r.2.mem ((c.tc : Thread Cert.AdamProjRnn.nD Cert.AdamProjRnn.τ).loc Cert.AdamProjRnn.main_arg3) = m ((c.tc : Thread Cert.AdamProjRnn.nD Cert.AdamProjRnn.τ).loc Cert.AdamProjRnn.main_arg3))
      ∧ r.2.sem = fun _ => 0)

def quiescent_AdamProjRnnIdeal [hAdamProjRnnIdeal : Cert.AdamProjRnnIdeal.Facts] : Prop :=
  ∀ (m : (ℓ : Loc Cert.AdamProjRnnIdeal.nD Cert.AdamProjRnnIdeal.τ Cert.AdamProjRnnIdeal.sig) → Buf (Elt Ideal) ℓ) (g : Dev Cert.AdamProjRnnIdeal.nD → PrngReg), Pre_AdamProjRnnIdeal m →
    θ_run (Cert.AdamProjRnnIdeal.defs (F := Ideal)) (onTc (τ := Cert.AdamProjRnnIdeal.τ) (Cert.AdamProjRnnIdeal.main (F := Ideal))) ⟨m, fun _ => 0, g⟩ (fun r => (∀ c : Dev Cert.AdamProjRnnIdeal.nD,
      r.2.mem ((c.tc : Thread Cert.AdamProjRnnIdeal.nD Cert.AdamProjRnnIdeal.τ).loc Cert.AdamProjRnnIdeal.main_arg0) = m ((c.tc : Thread Cert.AdamProjRnnIdeal.nD Cert.AdamProjRnnIdeal.τ).loc Cert.AdamProjRnnIdeal.main_arg0)
      ∧ r.2.mem ((c.tc : Thread Cert.AdamProjRnnIdeal.nD Cert.AdamProjRnnIdeal.τ).loc Cert.AdamProjRnnIdeal.main_arg1) = m ((c.tc : Thread Cert.AdamProjRnnIdeal.nD Cert.AdamProjRnnIdeal.τ).loc Cert.AdamProjRnnIdeal.main_arg1)
      ∧ r.2.mem ((c.tc : Thread Cert.AdamProjRnnIdeal.nD Cert.AdamProjRnnIdeal.τ).loc Cert.AdamProjRnnIdeal.main_arg2) = m ((c.tc : Thread Cert.AdamProjRnnIdeal.nD Cert.AdamProjRnnIdeal.τ).loc Cert.AdamProjRnnIdeal.main_arg2)
      ∧ r.2.mem ((c.tc : Thread Cert.AdamProjRnnIdeal.nD Cert.AdamProjRnnIdeal.τ).loc Cert.AdamProjRnnIdeal.main_arg3) = m ((c.tc : Thread Cert.AdamProjRnnIdeal.nD Cert.AdamProjRnnIdeal.τ).loc Cert.AdamProjRnnIdeal.main_arg3))
      ∧ r.2.sem = fun _ => 0)

def quiescent_AdamProjRnnRefIdeal [hAdamProjRnnRefIdeal : Cert.AdamProjRnnRefIdeal.Facts] : Prop :=
  ∀ (m : (ℓ : Loc Cert.AdamProjRnnRefIdeal.nD Cert.AdamProjRnnRefIdeal.τ Cert.AdamProjRnnRefIdeal.sig) → Buf (Elt Ideal) ℓ) (g : Dev Cert.AdamProjRnnRefIdeal.nD → PrngReg), Pre_AdamProjRnnRefIdeal m →
    θ_run (Cert.AdamProjRnnRefIdeal.defs (F := Ideal)) (onTc (τ := Cert.AdamProjRnnRefIdeal.τ) (Cert.AdamProjRnnRefIdeal.main (F := Ideal))) ⟨m, fun _ => 0, g⟩ (fun r => (∀ c : Dev Cert.AdamProjRnnRefIdeal.nD,
      r.2.mem ((c.tc : Thread Cert.AdamProjRnnRefIdeal.nD Cert.AdamProjRnnRefIdeal.τ).loc Cert.AdamProjRnnRefIdeal.main_arg0) = m ((c.tc : Thread Cert.AdamProjRnnRefIdeal.nD Cert.AdamProjRnnRefIdeal.τ).loc Cert.AdamProjRnnRefIdeal.main_arg0)
      ∧ r.2.mem ((c.tc : Thread Cert.AdamProjRnnRefIdeal.nD Cert.AdamProjRnnRefIdeal.τ).loc Cert.AdamProjRnnRefIdeal.main_arg1) = m ((c.tc : Thread Cert.AdamProjRnnRefIdeal.nD Cert.AdamProjRnnRefIdeal.τ).loc Cert.AdamProjRnnRefIdeal.main_arg1)
      ∧ r.2.mem ((c.tc : Thread Cert.AdamProjRnnRefIdeal.nD Cert.AdamProjRnnRefIdeal.τ).loc Cert.AdamProjRnnRefIdeal.main_arg2) = m ((c.tc : Thread Cert.AdamProjRnnRefIdeal.nD Cert.AdamProjRnnRefIdeal.τ).loc Cert.AdamProjRnnRefIdeal.main_arg2)
      ∧ r.2.mem ((c.tc : Thread Cert.AdamProjRnnRefIdeal.nD Cert.AdamProjRnnRefIdeal.τ).loc Cert.AdamProjRnnRefIdeal.main_arg3) = m ((c.tc : Thread Cert.AdamProjRnnRefIdeal.nD Cert.AdamProjRnnRefIdeal.τ).loc Cert.AdamProjRnnRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamAdaFinal [hAdamAdaFinal : Cert.AdamAdaFinal.Facts] : Prop :=
  ∀ (m : (ℓ : Loc Cert.AdamAdaFinal.nD Cert.AdamAdaFinal.τ Cert.AdamAdaFinal.sig) → Buf (Elt Bits) ℓ) (g : Dev Cert.AdamAdaFinal.nD → PrngReg), Pre_AdamAdaFinal m →
    θ_run (Cert.AdamAdaFinal.defs (F := Bits)) (onTc (τ := Cert.AdamAdaFinal.τ) (Cert.AdamAdaFinal.main (F := Bits))) ⟨m, fun _ => 0, g⟩ (fun r => (∀ c : Dev Cert.AdamAdaFinal.nD,
      r.2.mem ((c.tc : Thread Cert.AdamAdaFinal.nD Cert.AdamAdaFinal.τ).loc Cert.AdamAdaFinal.main_arg0) = m ((c.tc : Thread Cert.AdamAdaFinal.nD Cert.AdamAdaFinal.τ).loc Cert.AdamAdaFinal.main_arg0)
      ∧ r.2.mem ((c.tc : Thread Cert.AdamAdaFinal.nD Cert.AdamAdaFinal.τ).loc Cert.AdamAdaFinal.main_arg1) = m ((c.tc : Thread Cert.AdamAdaFinal.nD Cert.AdamAdaFinal.τ).loc Cert.AdamAdaFinal.main_arg1)
      ∧ r.2.mem ((c.tc : Thread Cert.AdamAdaFinal.nD Cert.AdamAdaFinal.τ).loc Cert.AdamAdaFinal.main_arg2) = m ((c.tc : Thread Cert.AdamAdaFinal.nD Cert.AdamAdaFinal.τ).loc Cert.AdamAdaFinal.main_arg2)
      ∧ r.2.mem ((c.tc : Thread Cert.AdamAdaFinal.nD Cert.AdamAdaFinal.τ).loc Cert.AdamAdaFinal.main_arg3) = m ((c.tc : Thread Cert.AdamAdaFinal.nD Cert.AdamAdaFinal.τ).loc Cert.AdamAdaFinal.main_arg3))
      ∧ r.2.sem = fun _ => 0)

def quiescent_AdamAdaFinalIdeal [hAdamAdaFinalIdeal : Cert.AdamAdaFinalIdeal.Facts] : Prop :=
  ∀ (m : (ℓ : Loc Cert.AdamAdaFinalIdeal.nD Cert.AdamAdaFinalIdeal.τ Cert.AdamAdaFinalIdeal.sig) → Buf (Elt Ideal) ℓ) (g : Dev Cert.AdamAdaFinalIdeal.nD → PrngReg), Pre_AdamAdaFinalIdeal m →
    θ_run (Cert.AdamAdaFinalIdeal.defs (F := Ideal)) (onTc (τ := Cert.AdamAdaFinalIdeal.τ) (Cert.AdamAdaFinalIdeal.main (F := Ideal))) ⟨m, fun _ => 0, g⟩ (fun r => (∀ c : Dev Cert.AdamAdaFinalIdeal.nD,
      r.2.mem ((c.tc : Thread Cert.AdamAdaFinalIdeal.nD Cert.AdamAdaFinalIdeal.τ).loc Cert.AdamAdaFinalIdeal.main_arg0) = m ((c.tc : Thread Cert.AdamAdaFinalIdeal.nD Cert.AdamAdaFinalIdeal.τ).loc Cert.AdamAdaFinalIdeal.main_arg0)
      ∧ r.2.mem ((c.tc : Thread Cert.AdamAdaFinalIdeal.nD Cert.AdamAdaFinalIdeal.τ).loc Cert.AdamAdaFinalIdeal.main_arg1) = m ((c.tc : Thread Cert.AdamAdaFinalIdeal.nD Cert.AdamAdaFinalIdeal.τ).loc Cert.AdamAdaFinalIdeal.main_arg1)
      ∧ r.2.mem ((c.tc : Thread Cert.AdamAdaFinalIdeal.nD Cert.AdamAdaFinalIdeal.τ).loc Cert.AdamAdaFinalIdeal.main_arg2) = m ((c.tc : Thread Cert.AdamAdaFinalIdeal.nD Cert.AdamAdaFinalIdeal.τ).loc Cert.AdamAdaFinalIdeal.main_arg2)
      ∧ r.2.mem ((c.tc : Thread Cert.AdamAdaFinalIdeal.nD Cert.AdamAdaFinalIdeal.τ).loc Cert.AdamAdaFinalIdeal.main_arg3) = m ((c.tc : Thread Cert.AdamAdaFinalIdeal.nD Cert.AdamAdaFinalIdeal.τ).loc Cert.AdamAdaFinalIdeal.main_arg3))
      ∧ r.2.sem = fun _ => 0)

def quiescent_AdamAdaFinalRefIdeal [hAdamAdaFinalRefIdeal : Cert.AdamAdaFinalRefIdeal.Facts] : Prop :=
  ∀ (m : (ℓ : Loc Cert.AdamAdaFinalRefIdeal.nD Cert.AdamAdaFinalRefIdeal.τ Cert.AdamAdaFinalRefIdeal.sig) → Buf (Elt Ideal) ℓ) (g : Dev Cert.AdamAdaFinalRefIdeal.nD → PrngReg), Pre_AdamAdaFinalRefIdeal m →
    θ_run (Cert.AdamAdaFinalRefIdeal.defs (F := Ideal)) (onTc (τ := Cert.AdamAdaFinalRefIdeal.τ) (Cert.AdamAdaFinalRefIdeal.main (F := Ideal))) ⟨m, fun _ => 0, g⟩ (fun r => (∀ c : Dev Cert.AdamAdaFinalRefIdeal.nD,
      r.2.mem ((c.tc : Thread Cert.AdamAdaFinalRefIdeal.nD Cert.AdamAdaFinalRefIdeal.τ).loc Cert.AdamAdaFinalRefIdeal.main_arg0) = m ((c.tc : Thread Cert.AdamAdaFinalRefIdeal.nD Cert.AdamAdaFinalRefIdeal.τ).loc Cert.AdamAdaFinalRefIdeal.main_arg0)
      ∧ r.2.mem ((c.tc : Thread Cert.AdamAdaFinalRefIdeal.nD Cert.AdamAdaFinalRefIdeal.τ).loc Cert.AdamAdaFinalRefIdeal.main_arg1) = m ((c.tc : Thread Cert.AdamAdaFinalRefIdeal.nD Cert.AdamAdaFinalRefIdeal.τ).loc Cert.AdamAdaFinalRefIdeal.main_arg1)
      ∧ r.2.mem ((c.tc : Thread Cert.AdamAdaFinalRefIdeal.nD Cert.AdamAdaFinalRefIdeal.τ).loc Cert.AdamAdaFinalRefIdeal.main_arg2) = m ((c.tc : Thread Cert.AdamAdaFinalRefIdeal.nD Cert.AdamAdaFinalRefIdeal.τ).loc Cert.AdamAdaFinalRefIdeal.main_arg2)
      ∧ r.2.mem ((c.tc : Thread Cert.AdamAdaFinalRefIdeal.nD Cert.AdamAdaFinalRefIdeal.τ).loc Cert.AdamAdaFinalRefIdeal.main_arg3) = m ((c.tc : Thread Cert.AdamAdaFinalRefIdeal.nD Cert.AdamAdaFinalRefIdeal.τ).loc Cert.AdamAdaFinalRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5)
      ∧ r.2.mem ((c.tc : Thread Cert.Final.nD Cert.Final.τ).loc Cert.Final.main_arg6) = m ((c.tc : Thread Cert.Final.nD Cert.Final.τ).loc Cert.Final.main_arg6))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5)
      ∧ r.2.mem ((c.tc : Thread Cert.FinalRefIdeal.nD Cert.FinalRefIdeal.τ).loc Cert.FinalRefIdeal.main_arg6) = m ((c.tc : Thread Cert.FinalRefIdeal.nD Cert.FinalRefIdeal.τ).loc Cert.FinalRefIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v77_0)) (v1 : (c : Dev Cert.KernelIdeal.nD) → Buf (Elt Ideal) ((c.tc : Thread Cert.KernelIdeal.nD Cert.KernelIdeal.τ).loc Cert.KernelIdeal.main_v77_1)) (v2 : (c : Dev Cert.KernelIdeal.nD) → Buf (Elt Ideal) ((c.tc : Thread Cert.KernelIdeal.nD Cert.KernelIdeal.τ).loc Cert.KernelIdeal.main_v77_2)) (v3 : (c : Dev Cert.KernelIdeal.nD) → Buf (Elt Ideal) ((c.tc : Thread Cert.KernelIdeal.nD Cert.KernelIdeal.τ).loc Cert.KernelIdeal.main_v77_3)) (v4 : (c : Dev Cert.KernelIdeal.nD) → Buf (Elt Ideal) ((c.tc : Thread Cert.KernelIdeal.nD Cert.KernelIdeal.τ).loc Cert.KernelIdeal.main_v77_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_0) = v0 c
          ∧ r.2.mem ((c.tc : Thread Cert.KernelIdeal.nD Cert.KernelIdeal.τ).loc Cert.KernelIdeal.main_v77_1) = v1 c
          ∧ r.2.mem ((c.tc : Thread Cert.KernelIdeal.nD Cert.KernelIdeal.τ).loc Cert.KernelIdeal.main_v77_2) = v2 c
          ∧ r.2.mem ((c.tc : Thread Cert.KernelIdeal.nD Cert.KernelIdeal.τ).loc Cert.KernelIdeal.main_v77_3) = v3 c
          ∧ r.2.mem ((c.tc : Thread Cert.KernelIdeal.nD Cert.KernelIdeal.τ).loc Cert.KernelIdeal.main_v77_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_v95) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DwSquare_DwSquareIdeal : Prop :=
  True

def algebraic_DwSquareIdeal_DwSquareRefIdeal [hDwSquareIdeal : Cert.DwSquareIdeal.Facts] [hDwSquareRefIdeal : Cert.DwSquareRefIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg)
    (m' : (ℓ : Loc Cert.DwSquareRefIdeal.nD Cert.DwSquareRefIdeal.τ Cert.DwSquareRefIdeal.sig) → Buf (Elt Ideal) ℓ) (g' : Dev Cert.DwSquareRefIdeal.nD → PrngReg), Pre_DwSquareIdeal m →
    (∀ c : Dev Cert.DwSquareIdeal.nD,
      m' ((c.tc : Thread Cert.DwSquareRefIdeal.nD Cert.DwSquareRefIdeal.τ).loc Cert.DwSquareRefIdeal.main_arg0) = m ((c.tc : Thread Cert.DwSquareIdeal.nD Cert.DwSquareIdeal.τ).loc Cert.DwSquareIdeal.main_arg0)
      ∧ m' ((c.tc : Thread Cert.DwSquareRefIdeal.nD Cert.DwSquareRefIdeal.τ).loc Cert.DwSquareRefIdeal.main_arg1) = m ((c.tc : Thread Cert.DwSquareIdeal.nD Cert.DwSquareIdeal.τ).loc Cert.DwSquareIdeal.main_arg1)) →
    ∃ (v0 : (c : Dev Cert.DwSquareIdeal.nD) → Buf (Elt Ideal) ((c.tc : Thread Cert.DwSquareIdeal.nD Cert.DwSquareIdeal.τ).loc Cert.DwSquareIdeal.main_v0)),
      θ_run (Cert.DwSquareIdeal.defs (F := Ideal)) (onTc (τ := Cert.DwSquareIdeal.τ) (Cert.DwSquareIdeal.main (F := Ideal))) ⟨m, fun _ => 0, g⟩ (fun r => ∀ c : Dev Cert.DwSquareIdeal.nD,
          r.2.mem ((c.tc : Thread Cert.DwSquareIdeal.nD Cert.DwSquareIdeal.τ).loc Cert.DwSquareIdeal.main_v0) = v0 c
          ∧ r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
          ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ θ_run (Cert.DwSquareRefIdeal.defs (F := Ideal)) (onTc (τ := Cert.DwSquareRefIdeal.τ) (Cert.DwSquareRefIdeal.main (F := Ideal))) ⟨m', fun _ => 0, g'⟩ (fun r => ∀ c : Dev Cert.DwSquareRefIdeal.nD,
          r.2.mem ((c.tc : Thread Cert.DwSquareRefIdeal.nD Cert.DwSquareRefIdeal.τ).loc Cert.DwSquareRefIdeal.main_v5) = v0 c
          ∧ r.2.mem ((c.tc : Thread Cert.DwSquareRefIdeal.nD Cert.DwSquareRefIdeal.τ).loc Cert.DwSquareRefIdeal.main_arg0) = m' ((c.tc : Thread Cert.DwSquareRefIdeal.nD Cert.DwSquareRefIdeal.τ).loc Cert.DwSquareRefIdeal.main_arg0)
          ∧ r.2.mem ((c.tc : Thread Cert.DwSquareRefIdeal.nD Cert.DwSquareRefIdeal.τ).loc Cert.DwSquareRefIdeal.main_arg1) = m' ((c.tc : Thread Cert.DwSquareRefIdeal.nD Cert.DwSquareRefIdeal.τ).loc Cert.DwSquareRefIdeal.main_arg1))

def preserves_DFfnAct_DFfnActIdeal : Prop :=
  True

def algebraic_DFfnActIdeal_DFfnActRefIdeal [hDFfnActIdeal : Cert.DFfnActIdeal.Facts] [hDFfnActRefIdeal : Cert.DFfnActRefIdeal.Facts] : Prop :=
  ∀ (m : (ℓ : Loc Cert.DFfnActIdeal.nD Cert.DFfnActIdeal.τ Cert.DFfnActIdeal.sig) → Buf (Elt Ideal) ℓ) (g : Dev Cert.DFfnActIdeal.nD → PrngReg)
    (m' : (ℓ : Loc Cert.DFfnActRefIdeal.nD Cert.DFfnActRefIdeal.τ Cert.DFfnActRefIdeal.sig) → Buf (Elt Ideal) ℓ) (g' : Dev Cert.DFfnActRefIdeal.nD → PrngReg), Pre_DFfnActIdeal m →
    (∀ c : Dev Cert.DFfnActIdeal.nD,
      m' ((c.tc : Thread Cert.DFfnActRefIdeal.nD Cert.DFfnActRefIdeal.τ).loc Cert.DFfnActRefIdeal.main_arg0) = m ((c.tc : Thread Cert.DFfnActIdeal.nD Cert.DFfnActIdeal.τ).loc Cert.DFfnActIdeal.main_arg0)
      ∧ m' ((c.tc : Thread Cert.DFfnActRefIdeal.nD Cert.DFfnActRefIdeal.τ).loc Cert.DFfnActRefIdeal.main_arg1) = m ((c.tc : Thread Cert.DFfnActIdeal.nD Cert.DFfnActIdeal.τ).loc Cert.DFfnActIdeal.main_arg1)) →
    ∃ (v0 : (c : Dev Cert.DFfnActIdeal.nD) → Buf (Elt Ideal) ((c.tc : Thread Cert.DFfnActIdeal.nD Cert.DFfnActIdeal.τ).loc Cert.DFfnActIdeal.main_v0)),
      θ_run (Cert.DFfnActIdeal.defs (F := Ideal)) (onTc (τ := Cert.DFfnActIdeal.τ) (Cert.DFfnActIdeal.main (F := Ideal))) ⟨m, fun _ => 0, g⟩ (fun r => ∀ c : Dev Cert.DFfnActIdeal.nD,
          r.2.mem ((c.tc : Thread Cert.DFfnActIdeal.nD Cert.DFfnActIdeal.τ).loc Cert.DFfnActIdeal.main_v0) = v0 c
          ∧ r.2.mem ((c.tc : Thread Cert.DFfnActIdeal.nD Cert.DFfnActIdeal.τ).loc Cert.DFfnActIdeal.main_arg0) = m ((c.tc : Thread Cert.DFfnActIdeal.nD Cert.DFfnActIdeal.τ).loc Cert.DFfnActIdeal.main_arg0)
          ∧ r.2.mem ((c.tc : Thread Cert.DFfnActIdeal.nD Cert.DFfnActIdeal.τ).loc Cert.DFfnActIdeal.main_arg1) = m ((c.tc : Thread Cert.DFfnActIdeal.nD Cert.DFfnActIdeal.τ).loc Cert.DFfnActIdeal.main_arg1))
      ∧ θ_run (Cert.DFfnActRefIdeal.defs (F := Ideal)) (onTc (τ := Cert.DFfnActRefIdeal.τ) (Cert.DFfnActRefIdeal.main (F := Ideal))) ⟨m', fun _ => 0, g'⟩ (fun r => ∀ c : Dev Cert.DFfnActRefIdeal.nD,
          r.2.mem ((c.tc : Thread Cert.DFfnActRefIdeal.nD Cert.DFfnActRefIdeal.τ).loc Cert.DFfnActRefIdeal.main_v4) = v0 c
          ∧ r.2.mem ((c.tc : Thread Cert.DFfnActRefIdeal.nD Cert.DFfnActRefIdeal.τ).loc Cert.DFfnActRefIdeal.main_arg0) = m' ((c.tc : Thread Cert.DFfnActRefIdeal.nD Cert.DFfnActRefIdeal.τ).loc Cert.DFfnActRefIdeal.main_arg0)
          ∧ r.2.mem ((c.tc : Thread Cert.DFfnActRefIdeal.nD Cert.DFfnActRefIdeal.τ).loc Cert.DFfnActRefIdeal.main_arg1) = m' ((c.tc : Thread Cert.DFfnActRefIdeal.nD Cert.DFfnActRefIdeal.τ).loc Cert.DFfnActRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v4) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_DwFfnUp_DwFfnUpIdeal : Prop :=
  True

def algebraic_DwFfnUpIdeal_DwFfnUpRefIdeal [hDwFfnUpIdeal : Cert.DwFfnUpIdeal.Facts] [hDwFfnUpRefIdeal : Cert.DwFfnUpRefIdeal.Facts] : Prop :=
  ∀ (m : (ℓ : Loc Cert.DwFfnUpIdeal.nD Cert.DwFfnUpIdeal.τ Cert.DwFfnUpIdeal.sig) → Buf (Elt Ideal) ℓ) (g : Dev Cert.DwFfnUpIdeal.nD → PrngReg)
    (m' : (ℓ : Loc Cert.DwFfnUpRefIdeal.nD Cert.DwFfnUpRefIdeal.τ Cert.DwFfnUpRefIdeal.sig) → Buf (Elt Ideal) ℓ) (g' : Dev Cert.DwFfnUpRefIdeal.nD → PrngReg), Pre_DwFfnUpIdeal m →
    (∀ c : Dev Cert.DwFfnUpIdeal.nD,
      m' ((c.tc : Thread Cert.DwFfnUpRefIdeal.nD Cert.DwFfnUpRefIdeal.τ).loc Cert.DwFfnUpRefIdeal.main_arg0) = m ((c.tc : Thread Cert.DwFfnUpIdeal.nD Cert.DwFfnUpIdeal.τ).loc Cert.DwFfnUpIdeal.main_arg0)
      ∧ m' ((c.tc : Thread Cert.DwFfnUpRefIdeal.nD Cert.DwFfnUpRefIdeal.τ).loc Cert.DwFfnUpRefIdeal.main_arg1) = m ((c.tc : Thread Cert.DwFfnUpIdeal.nD Cert.DwFfnUpIdeal.τ).loc Cert.DwFfnUpIdeal.main_arg1)) →
    ∃ (v0 : (c : Dev Cert.DwFfnUpIdeal.nD) → Buf (Elt Ideal) ((c.tc : Thread Cert.DwFfnUpIdeal.nD Cert.DwFfnUpIdeal.τ).loc Cert.DwFfnUpIdeal.main_v0)),
      θ_run (Cert.DwFfnUpIdeal.defs (F := Ideal)) (onTc (τ := Cert.DwFfnUpIdeal.τ) (Cert.DwFfnUpIdeal.main (F := Ideal))) ⟨m, fun _ => 0, g⟩ (fun r => ∀ c : Dev Cert.DwFfnUpIdeal.nD,
          r.2.mem ((c.tc : Thread Cert.DwFfnUpIdeal.nD Cert.DwFfnUpIdeal.τ).loc Cert.DwFfnUpIdeal.main_v0) = v0 c
          ∧ r.2.mem ((c.tc : Thread Cert.DwFfnUpIdeal.nD Cert.DwFfnUpIdeal.τ).loc Cert.DwFfnUpIdeal.main_arg0) = m ((c.tc : Thread Cert.DwFfnUpIdeal.nD Cert.DwFfnUpIdeal.τ).loc Cert.DwFfnUpIdeal.main_arg0)
          ∧ r.2.mem ((c.tc : Thread Cert.DwFfnUpIdeal.nD Cert.DwFfnUpIdeal.τ).loc Cert.DwFfnUpIdeal.main_arg1) = m ((c.tc : Thread Cert.DwFfnUpIdeal.nD Cert.DwFfnUpIdeal.τ).loc Cert.DwFfnUpIdeal.main_arg1))
      ∧ θ_run (Cert.DwFfnUpRefIdeal.defs (F := Ideal)) (onTc (τ := Cert.DwFfnUpRefIdeal.τ) (Cert.DwFfnUpRefIdeal.main (F := Ideal))) ⟨m', fun _ => 0, g'⟩ (fun r => ∀ c : Dev Cert.DwFfnUpRefIdeal.nD,
          r.2.mem ((c.tc : Thread Cert.DwFfnUpRefIdeal.nD Cert.DwFfnUpRefIdeal.τ).loc Cert.DwFfnUpRefIdeal.main_v9) = v0 c
          ∧ r.2.mem ((c.tc : Thread Cert.DwFfnUpRefIdeal.nD Cert.DwFfnUpRefIdeal.τ).loc Cert.DwFfnUpRefIdeal.main_arg0) = m' ((c.tc : Thread Cert.DwFfnUpRefIdeal.nD Cert.DwFfnUpRefIdeal.τ).loc Cert.DwFfnUpRefIdeal.main_arg0)
          ∧ r.2.mem ((c.tc : Thread Cert.DwFfnUpRefIdeal.nD Cert.DwFfnUpRefIdeal.τ).loc Cert.DwFfnUpRefIdeal.main_arg1) = m' ((c.tc : Thread Cert.DwFfnUpRefIdeal.nD Cert.DwFfnUpRefIdeal.τ).loc Cert.DwFfnUpRefIdeal.main_arg1))

def preserves_DH2_DH2Ideal : Prop :=
  True

def algebraic_DH2Ideal_DH2RefIdeal [hDH2Ideal : Cert.DH2Ideal.Facts] [hDH2RefIdeal : Cert.DH2RefIdeal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.DH2RefIdeal.nD Cert.DH2RefIdeal.τ Cert.DH2RefIdeal.sig) → Buf (Elt Ideal) ℓ) (g' : Dev Cert.DH2RefIdeal.nD → PrngReg), Pre_DH2Ideal m →
    (∀ c : Dev Cert.DH2Ideal.nD,
      m' ((c.tc : Thread Cert.DH2RefIdeal.nD Cert.DH2RefIdeal.τ).loc Cert.DH2RefIdeal.main_arg0) = m ((c.tc : Thread Cert.DH2Ideal.nD Cert.DH2Ideal.τ).loc Cert.DH2Ideal.main_arg0)
      ∧ m' ((c.tc : Thread Cert.DH2RefIdeal.nD Cert.DH2RefIdeal.τ).loc Cert.DH2RefIdeal.main_arg1) = m ((c.tc : Thread Cert.DH2Ideal.nD Cert.DH2Ideal.τ).loc Cert.DH2Ideal.main_arg1)
      ∧ m' ((c.tc : Thread Cert.DH2RefIdeal.nD Cert.DH2RefIdeal.τ).loc Cert.DH2RefIdeal.main_arg2) = m ((c.tc : Thread Cert.DH2Ideal.nD Cert.DH2Ideal.τ).loc Cert.DH2Ideal.main_arg2)) →
    ∃ (v0 : (c : Dev Cert.DH2Ideal.nD) → Buf (Elt Ideal) ((c.tc : Thread Cert.DH2Ideal.nD Cert.DH2Ideal.τ).loc Cert.DH2Ideal.main_v0)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v0) = v0 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1)
          ∧ r.2.mem ((c.tc : Thread Cert.DH2Ideal.nD Cert.DH2Ideal.τ).loc Cert.DH2Ideal.main_arg2) = m ((c.tc : Thread Cert.DH2Ideal.nD Cert.DH2Ideal.τ).loc Cert.DH2Ideal.main_arg2))
      ∧ θ_run (Cert.DH2RefIdeal.defs (F := Ideal)) (onTc (τ := Cert.DH2RefIdeal.τ) (Cert.DH2RefIdeal.main (F := Ideal))) ⟨m', fun _ => 0, g'⟩ (fun r => ∀ c : Dev Cert.DH2RefIdeal.nD,
          r.2.mem ((c.tc : Thread Cert.DH2RefIdeal.nD Cert.DH2RefIdeal.τ).loc Cert.DH2RefIdeal.main_v10) = v0 c
          ∧ r.2.mem ((c.tc : Thread Cert.DH2RefIdeal.nD Cert.DH2RefIdeal.τ).loc Cert.DH2RefIdeal.main_arg0) = m' ((c.tc : Thread Cert.DH2RefIdeal.nD Cert.DH2RefIdeal.τ).loc Cert.DH2RefIdeal.main_arg0)
          ∧ r.2.mem ((c.tc : Thread Cert.DH2RefIdeal.nD Cert.DH2RefIdeal.τ).loc Cert.DH2RefIdeal.main_arg1) = m' ((c.tc : Thread Cert.DH2RefIdeal.nD Cert.DH2RefIdeal.τ).loc Cert.DH2RefIdeal.main_arg1)
          ∧ r.2.mem ((c.tc : Thread Cert.DH2RefIdeal.nD Cert.DH2RefIdeal.τ).loc Cert.DH2RefIdeal.main_arg2) = m' ((c.tc : Thread Cert.DH2RefIdeal.nD Cert.DH2RefIdeal.τ).loc Cert.DH2RefIdeal.main_arg2))

def preserves_DH1_DH1Ideal : Prop :=
  True

def algebraic_DH1Ideal_DH1RefIdeal [hDH1Ideal : Cert.DH1Ideal.Facts] [hDH1RefIdeal : Cert.DH1RefIdeal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.DH1RefIdeal.nD Cert.DH1RefIdeal.τ Cert.DH1RefIdeal.sig) → Buf (Elt Ideal) ℓ) (g' : Dev Cert.DH1RefIdeal.nD → PrngReg), Pre_DH1Ideal m →
    (∀ c : Dev Cert.DH1Ideal.nD,
      m' ((c.tc : Thread Cert.DH1RefIdeal.nD Cert.DH1RefIdeal.τ).loc Cert.DH1RefIdeal.main_arg0) = m ((c.tc : Thread Cert.DH1Ideal.nD Cert.DH1Ideal.τ).loc Cert.DH1Ideal.main_arg0)
      ∧ m' ((c.tc : Thread Cert.DH1RefIdeal.nD Cert.DH1RefIdeal.τ).loc Cert.DH1RefIdeal.main_arg1) = m ((c.tc : Thread Cert.DH1Ideal.nD Cert.DH1Ideal.τ).loc Cert.DH1Ideal.main_arg1)
      ∧ m' ((c.tc : Thread Cert.DH1RefIdeal.nD Cert.DH1RefIdeal.τ).loc Cert.DH1RefIdeal.main_arg2) = m ((c.tc : Thread Cert.DH1Ideal.nD Cert.DH1Ideal.τ).loc Cert.DH1Ideal.main_arg2)
      ∧ m' ((c.tc : Thread Cert.DH1RefIdeal.nD Cert.DH1RefIdeal.τ).loc Cert.DH1RefIdeal.main_arg3) = m ((c.tc : Thread Cert.DH1Ideal.nD Cert.DH1Ideal.τ).loc Cert.DH1Ideal.main_arg3)
      ∧ m' ((c.tc : Thread Cert.DH1RefIdeal.nD Cert.DH1RefIdeal.τ).loc Cert.DH1RefIdeal.main_arg4) = m ((c.tc : Thread Cert.DH1Ideal.nD Cert.DH1Ideal.τ).loc Cert.DH1Ideal.main_arg4)
      ∧ m' ((c.tc : Thread Cert.DH1RefIdeal.nD Cert.DH1RefIdeal.τ).loc Cert.DH1RefIdeal.main_arg5) = m ((c.tc : Thread Cert.DH1Ideal.nD Cert.DH1Ideal.τ).loc Cert.DH1Ideal.main_arg5)
      ∧ m' ((c.tc : Thread Cert.DH1RefIdeal.nD Cert.DH1RefIdeal.τ).loc Cert.DH1RefIdeal.main_arg6) = m ((c.tc : Thread Cert.DH1Ideal.nD Cert.DH1Ideal.τ).loc Cert.DH1Ideal.main_arg6)) →
    ∃ (v0 : (c : Dev Cert.DH1Ideal.nD) → Buf (Elt Ideal) ((c.tc : Thread Cert.DH1Ideal.nD Cert.DH1Ideal.τ).loc Cert.DH1Ideal.main_v0)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v0) = v0 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
          ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2)
          ∧ r.2.mem ((c.tc : Thread Cert.DH1Ideal.nD Cert.DH1Ideal.τ).loc Cert.DH1Ideal.main_arg3) = m ((c.tc : Thread Cert.DH1Ideal.nD Cert.DH1Ideal.τ).loc Cert.DH1Ideal.main_arg3)
          ∧ r.2.mem ((c.tc : Thread Cert.DH1Ideal.nD Cert.DH1Ideal.τ).loc Cert.DH1Ideal.main_arg4) = m ((c.tc : Thread Cert.DH1Ideal.nD Cert.DH1Ideal.τ).loc Cert.DH1Ideal.main_arg4)
          ∧ r.2.mem ((c.tc : Thread Cert.DH1Ideal.nD Cert.DH1Ideal.τ).loc Cert.DH1Ideal.main_arg5) = m ((c.tc : Thread Cert.DH1Ideal.nD Cert.DH1Ideal.τ).loc Cert.DH1Ideal.main_arg5)
          ∧ r.2.mem ((c.tc : Thread Cert.DH1Ideal.nD Cert.DH1Ideal.τ).loc Cert.DH1Ideal.main_arg6) = m ((c.tc : Thread Cert.DH1Ideal.nD Cert.DH1Ideal.τ).loc Cert.DH1Ideal.main_arg6))
      ∧ θ_run (Cert.DH1RefIdeal.defs (F := Ideal)) (onTc (τ := Cert.DH1RefIdeal.τ) (Cert.DH1RefIdeal.main (F := Ideal))) ⟨m', fun _ => 0, g'⟩ (fun r => ∀ c : Dev Cert.DH1RefIdeal.nD,
          r.2.mem ((c.tc : Thread Cert.DH1RefIdeal.nD Cert.DH1RefIdeal.τ).loc Cert.DH1RefIdeal.main_v15) = v0 c
          ∧ r.2.mem ((c.tc : Thread Cert.DH1RefIdeal.nD Cert.DH1RefIdeal.τ).loc Cert.DH1RefIdeal.main_arg0) = m' ((c.tc : Thread Cert.DH1RefIdeal.nD Cert.DH1RefIdeal.τ).loc Cert.DH1RefIdeal.main_arg0)
          ∧ r.2.mem ((c.tc : Thread Cert.DH1RefIdeal.nD Cert.DH1RefIdeal.τ).loc Cert.DH1RefIdeal.main_arg1) = m' ((c.tc : Thread Cert.DH1RefIdeal.nD Cert.DH1RefIdeal.τ).loc Cert.DH1RefIdeal.main_arg1)
          ∧ r.2.mem ((c.tc : Thread Cert.DH1RefIdeal.nD Cert.DH1RefIdeal.τ).loc Cert.DH1RefIdeal.main_arg2) = m' ((c.tc : Thread Cert.DH1RefIdeal.nD Cert.DH1RefIdeal.τ).loc Cert.DH1RefIdeal.main_arg2)
          ∧ r.2.mem ((c.tc : Thread Cert.DH1RefIdeal.nD Cert.DH1RefIdeal.τ).loc Cert.DH1RefIdeal.main_arg3) = m' ((c.tc : Thread Cert.DH1RefIdeal.nD Cert.DH1RefIdeal.τ).loc Cert.DH1RefIdeal.main_arg3)
          ∧ r.2.mem ((c.tc : Thread Cert.DH1RefIdeal.nD Cert.DH1RefIdeal.τ).loc Cert.DH1RefIdeal.main_arg4) = m' ((c.tc : Thread Cert.DH1RefIdeal.nD Cert.DH1RefIdeal.τ).loc Cert.DH1RefIdeal.main_arg4)
          ∧ r.2.mem ((c.tc : Thread Cert.DH1RefIdeal.nD Cert.DH1RefIdeal.τ).loc Cert.DH1RefIdeal.main_arg5) = m' ((c.tc : Thread Cert.DH1RefIdeal.nD Cert.DH1RefIdeal.τ).loc Cert.DH1RefIdeal.main_arg5)
          ∧ r.2.mem ((c.tc : Thread Cert.DH1RefIdeal.nD Cert.DH1RefIdeal.τ).loc Cert.DH1RefIdeal.main_arg6) = m' ((c.tc : Thread Cert.DH1RefIdeal.nD Cert.DH1RefIdeal.τ).loc Cert.DH1RefIdeal.main_arg6))

def preserves_DwFfnDown_DwFfnDownIdeal : Prop :=
  True

def algebraic_DwFfnDownIdeal_DwFfnDownRefIdeal [hDwFfnDownIdeal : Cert.DwFfnDownIdeal.Facts] [hDwFfnDownRefIdeal : Cert.DwFfnDownRefIdeal.Facts] : Prop :=
  ∀ (m : (ℓ : Loc Cert.DwFfnDownIdeal.nD Cert.DwFfnDownIdeal.τ Cert.DwFfnDownIdeal.sig) → Buf (Elt Ideal) ℓ) (g : Dev Cert.DwFfnDownIdeal.nD → PrngReg)
    (m' : (ℓ : Loc Cert.DwFfnDownRefIdeal.nD Cert.DwFfnDownRefIdeal.τ Cert.DwFfnDownRefIdeal.sig) → Buf (Elt Ideal) ℓ) (g' : Dev Cert.DwFfnDownRefIdeal.nD → PrngReg), Pre_DwFfnDownIdeal m →
    (∀ c : Dev Cert.DwFfnDownIdeal.nD,
      m' ((c.tc : Thread Cert.DwFfnDownRefIdeal.nD Cert.DwFfnDownRefIdeal.τ).loc Cert.DwFfnDownRefIdeal.main_arg0) = m ((c.tc : Thread Cert.DwFfnDownIdeal.nD Cert.DwFfnDownIdeal.τ).loc Cert.DwFfnDownIdeal.main_arg0)
      ∧ m' ((c.tc : Thread Cert.DwFfnDownRefIdeal.nD Cert.DwFfnDownRefIdeal.τ).loc Cert.DwFfnDownRefIdeal.main_arg1) = m ((c.tc : Thread Cert.DwFfnDownIdeal.nD Cert.DwFfnDownIdeal.τ).loc Cert.DwFfnDownIdeal.main_arg1)) →
    ∃ (v0 : (c : Dev Cert.DwFfnDownIdeal.nD) → Buf (Elt Ideal) ((c.tc : Thread Cert.DwFfnDownIdeal.nD Cert.DwFfnDownIdeal.τ).loc Cert.DwFfnDownIdeal.main_v0)),
      θ_run (Cert.DwFfnDownIdeal.defs (F := Ideal)) (onTc (τ := Cert.DwFfnDownIdeal.τ) (Cert.DwFfnDownIdeal.main (F := Ideal))) ⟨m, fun _ => 0, g⟩ (fun r => ∀ c : Dev Cert.DwFfnDownIdeal.nD,
          r.2.mem ((c.tc : Thread Cert.DwFfnDownIdeal.nD Cert.DwFfnDownIdeal.τ).loc Cert.DwFfnDownIdeal.main_v0) = v0 c
          ∧ r.2.mem ((c.tc : Thread Cert.DwFfnDownIdeal.nD Cert.DwFfnDownIdeal.τ).loc Cert.DwFfnDownIdeal.main_arg0) = m ((c.tc : Thread Cert.DwFfnDownIdeal.nD Cert.DwFfnDownIdeal.τ).loc Cert.DwFfnDownIdeal.main_arg0)
          ∧ r.2.mem ((c.tc : Thread Cert.DwFfnDownIdeal.nD Cert.DwFfnDownIdeal.τ).loc Cert.DwFfnDownIdeal.main_arg1) = m ((c.tc : Thread Cert.DwFfnDownIdeal.nD Cert.DwFfnDownIdeal.τ).loc Cert.DwFfnDownIdeal.main_arg1))
      ∧ θ_run (Cert.DwFfnDownRefIdeal.defs (F := Ideal)) (onTc (τ := Cert.DwFfnDownRefIdeal.τ) (Cert.DwFfnDownRefIdeal.main (F := Ideal))) ⟨m', fun _ => 0, g'⟩ (fun r => ∀ c : Dev Cert.DwFfnDownRefIdeal.nD,
          r.2.mem ((c.tc : Thread Cert.DwFfnDownRefIdeal.nD Cert.DwFfnDownRefIdeal.τ).loc Cert.DwFfnDownRefIdeal.main_v5) = v0 c
          ∧ r.2.mem ((c.tc : Thread Cert.DwFfnDownRefIdeal.nD Cert.DwFfnDownRefIdeal.τ).loc Cert.DwFfnDownRefIdeal.main_arg0) = m' ((c.tc : Thread Cert.DwFfnDownRefIdeal.nD Cert.DwFfnDownRefIdeal.τ).loc Cert.DwFfnDownRefIdeal.main_arg0)
          ∧ r.2.mem ((c.tc : Thread Cert.DwFfnDownRefIdeal.nD Cert.DwFfnDownRefIdeal.τ).loc Cert.DwFfnDownRefIdeal.main_arg1) = m' ((c.tc : Thread Cert.DwFfnDownRefIdeal.nD Cert.DwFfnDownRefIdeal.τ).loc Cert.DwFfnDownRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_InRnn_InRnnIdeal : Prop :=
  True

def algebraic_InRnnIdeal_InRnnRefIdeal [hInRnnIdeal : Cert.InRnnIdeal.Facts] [hInRnnRefIdeal : Cert.InRnnRefIdeal.Facts] : Prop :=
  ∀ (m : (ℓ : Loc Cert.InRnnIdeal.nD Cert.InRnnIdeal.τ Cert.InRnnIdeal.sig) → Buf (Elt Ideal) ℓ) (g : Dev Cert.InRnnIdeal.nD → PrngReg)
    (m' : (ℓ : Loc Cert.InRnnRefIdeal.nD Cert.InRnnRefIdeal.τ Cert.InRnnRefIdeal.sig) → Buf (Elt Ideal) ℓ) (g' : Dev Cert.InRnnRefIdeal.nD → PrngReg), Pre_InRnnIdeal m →
    (∀ c : Dev Cert.InRnnIdeal.nD,
      m' ((c.tc : Thread Cert.InRnnRefIdeal.nD Cert.InRnnRefIdeal.τ).loc Cert.InRnnRefIdeal.main_arg0) = m ((c.tc : Thread Cert.InRnnIdeal.nD Cert.InRnnIdeal.τ).loc Cert.InRnnIdeal.main_arg0)
      ∧ m' ((c.tc : Thread Cert.InRnnRefIdeal.nD Cert.InRnnRefIdeal.τ).loc Cert.InRnnRefIdeal.main_arg1) = m ((c.tc : Thread Cert.InRnnIdeal.nD Cert.InRnnIdeal.τ).loc Cert.InRnnIdeal.main_arg1)) →
    ∃ (v0 : (c : Dev Cert.InRnnIdeal.nD) → Buf (Elt Ideal) ((c.tc : Thread Cert.InRnnIdeal.nD Cert.InRnnIdeal.τ).loc Cert.InRnnIdeal.main_v0)),
      θ_run (Cert.InRnnIdeal.defs (F := Ideal)) (onTc (τ := Cert.InRnnIdeal.τ) (Cert.InRnnIdeal.main (F := Ideal))) ⟨m, fun _ => 0, g⟩ (fun r => ∀ c : Dev Cert.InRnnIdeal.nD,
          r.2.mem ((c.tc : Thread Cert.InRnnIdeal.nD Cert.InRnnIdeal.τ).loc Cert.InRnnIdeal.main_v0) = v0 c
          ∧ r.2.mem ((c.tc : Thread Cert.InRnnIdeal.nD Cert.InRnnIdeal.τ).loc Cert.InRnnIdeal.main_arg0) = m ((c.tc : Thread Cert.InRnnIdeal.nD Cert.InRnnIdeal.τ).loc Cert.InRnnIdeal.main_arg0)
          ∧ r.2.mem ((c.tc : Thread Cert.InRnnIdeal.nD Cert.InRnnIdeal.τ).loc Cert.InRnnIdeal.main_arg1) = m ((c.tc : Thread Cert.InRnnIdeal.nD Cert.InRnnIdeal.τ).loc Cert.InRnnIdeal.main_arg1))
      ∧ θ_run (Cert.InRnnRefIdeal.defs (F := Ideal)) (onTc (τ := Cert.InRnnRefIdeal.τ) (Cert.InRnnRefIdeal.main (F := Ideal))) ⟨m', fun _ => 0, g'⟩ (fun r => ∀ c : Dev Cert.InRnnRefIdeal.nD,
          r.2.mem ((c.tc : Thread Cert.InRnnRefIdeal.nD Cert.InRnnRefIdeal.τ).loc Cert.InRnnRefIdeal.main_v2) = v0 c
          ∧ r.2.mem ((c.tc : Thread Cert.InRnnRefIdeal.nD Cert.InRnnRefIdeal.τ).loc Cert.InRnnRefIdeal.main_arg0) = m' ((c.tc : Thread Cert.InRnnRefIdeal.nD Cert.InRnnRefIdeal.τ).loc Cert.InRnnRefIdeal.main_arg0)
          ∧ r.2.mem ((c.tc : Thread Cert.InRnnRefIdeal.nD Cert.InRnnRefIdeal.τ).loc Cert.InRnnRefIdeal.main_arg1) = m' ((c.tc : Thread Cert.InRnnRefIdeal.nD Cert.InRnnRefIdeal.τ).loc Cert.InRnnRefIdeal.main_arg1))

def preserves_DwInRnn_DwInRnnIdeal : Prop :=
  True

def algebraic_DwInRnnIdeal_DwInRnnRefIdeal [hDwInRnnIdeal : Cert.DwInRnnIdeal.Facts] [hDwInRnnRefIdeal : Cert.DwInRnnRefIdeal.Facts] : Prop :=
  ∀ (m : (ℓ : Loc Cert.DwInRnnIdeal.nD Cert.DwInRnnIdeal.τ Cert.DwInRnnIdeal.sig) → Buf (Elt Ideal) ℓ) (g : Dev Cert.DwInRnnIdeal.nD → PrngReg)
    (m' : (ℓ : Loc Cert.DwInRnnRefIdeal.nD Cert.DwInRnnRefIdeal.τ Cert.DwInRnnRefIdeal.sig) → Buf (Elt Ideal) ℓ) (g' : Dev Cert.DwInRnnRefIdeal.nD → PrngReg), Pre_DwInRnnIdeal m →
    (∀ c : Dev Cert.DwInRnnIdeal.nD,
      m' ((c.tc : Thread Cert.DwInRnnRefIdeal.nD Cert.DwInRnnRefIdeal.τ).loc Cert.DwInRnnRefIdeal.main_arg0) = m ((c.tc : Thread Cert.DwInRnnIdeal.nD Cert.DwInRnnIdeal.τ).loc Cert.DwInRnnIdeal.main_arg0)
      ∧ m' ((c.tc : Thread Cert.DwInRnnRefIdeal.nD Cert.DwInRnnRefIdeal.τ).loc Cert.DwInRnnRefIdeal.main_arg1) = m ((c.tc : Thread Cert.DwInRnnIdeal.nD Cert.DwInRnnIdeal.τ).loc Cert.DwInRnnIdeal.main_arg1)) →
    ∃ (v0 : (c : Dev Cert.DwInRnnIdeal.nD) → Buf (Elt Ideal) ((c.tc : Thread Cert.DwInRnnIdeal.nD Cert.DwInRnnIdeal.τ).loc Cert.DwInRnnIdeal.main_v0)),
      θ_run (Cert.DwInRnnIdeal.defs (F := Ideal)) (onTc (τ := Cert.DwInRnnIdeal.τ) (Cert.DwInRnnIdeal.main (F := Ideal))) ⟨m, fun _ => 0, g⟩ (fun r => ∀ c : Dev Cert.DwInRnnIdeal.nD,
          r.2.mem ((c.tc : Thread Cert.DwInRnnIdeal.nD Cert.DwInRnnIdeal.τ).loc Cert.DwInRnnIdeal.main_v0) = v0 c
          ∧ r.2.mem ((c.tc : Thread Cert.DwInRnnIdeal.nD Cert.DwInRnnIdeal.τ).loc Cert.DwInRnnIdeal.main_arg0) = m ((c.tc : Thread Cert.DwInRnnIdeal.nD Cert.DwInRnnIdeal.τ).loc Cert.DwInRnnIdeal.main_arg0)
          ∧ r.2.mem ((c.tc : Thread Cert.DwInRnnIdeal.nD Cert.DwInRnnIdeal.τ).loc Cert.DwInRnnIdeal.main_arg1) = m ((c.tc : Thread Cert.DwInRnnIdeal.nD Cert.DwInRnnIdeal.τ).loc Cert.DwInRnnIdeal.main_arg1))
      ∧ θ_run (Cert.DwInRnnRefIdeal.defs (F := Ideal)) (onTc (τ := Cert.DwInRnnRefIdeal.τ) (Cert.DwInRnnRefIdeal.main (F := Ideal))) ⟨m', fun _ => 0, g'⟩ (fun r => ∀ c : Dev Cert.DwInRnnRefIdeal.nD,
          r.2.mem ((c.tc : Thread Cert.DwInRnnRefIdeal.nD Cert.DwInRnnRefIdeal.τ).loc Cert.DwInRnnRefIdeal.main_v5) = v0 c
          ∧ r.2.mem ((c.tc : Thread Cert.DwInRnnRefIdeal.nD Cert.DwInRnnRefIdeal.τ).loc Cert.DwInRnnRefIdeal.main_arg0) = m' ((c.tc : Thread Cert.DwInRnnRefIdeal.nD Cert.DwInRnnRefIdeal.τ).loc Cert.DwInRnnRefIdeal.main_arg0)
          ∧ r.2.mem ((c.tc : Thread Cert.DwInRnnRefIdeal.nD Cert.DwInRnnRefIdeal.τ).loc Cert.DwInRnnRefIdeal.main_arg1) = m' ((c.tc : Thread Cert.DwInRnnRefIdeal.nD Cert.DwInRnnRefIdeal.τ).loc Cert.DwInRnnRefIdeal.main_arg1))

def preserves_DH1Rnn_DH1RnnIdeal : Prop :=
  True

def algebraic_DH1RnnIdeal_DH1RnnRefIdeal [hDH1RnnIdeal : Cert.DH1RnnIdeal.Facts] [hDH1RnnRefIdeal : Cert.DH1RnnRefIdeal.Facts] : Prop :=
  ∀ (m : (ℓ : Loc Cert.DH1RnnIdeal.nD Cert.DH1RnnIdeal.τ Cert.DH1RnnIdeal.sig) → Buf (Elt Ideal) ℓ) (g : Dev Cert.DH1RnnIdeal.nD → PrngReg)
    (m' : (ℓ : Loc Cert.DH1RnnRefIdeal.nD Cert.DH1RnnRefIdeal.τ Cert.DH1RnnRefIdeal.sig) → Buf (Elt Ideal) ℓ) (g' : Dev Cert.DH1RnnRefIdeal.nD → PrngReg), Pre_DH1RnnIdeal m →
    (∀ c : Dev Cert.DH1RnnIdeal.nD,
      m' ((c.tc : Thread Cert.DH1RnnRefIdeal.nD Cert.DH1RnnRefIdeal.τ).loc Cert.DH1RnnRefIdeal.main_arg0) = m ((c.tc : Thread Cert.DH1RnnIdeal.nD Cert.DH1RnnIdeal.τ).loc Cert.DH1RnnIdeal.main_arg0)
      ∧ m' ((c.tc : Thread Cert.DH1RnnRefIdeal.nD Cert.DH1RnnRefIdeal.τ).loc Cert.DH1RnnRefIdeal.main_arg1) = m ((c.tc : Thread Cert.DH1RnnIdeal.nD Cert.DH1RnnIdeal.τ).loc Cert.DH1RnnIdeal.main_arg1)
      ∧ m' ((c.tc : Thread Cert.DH1RnnRefIdeal.nD Cert.DH1RnnRefIdeal.τ).loc Cert.DH1RnnRefIdeal.main_arg2) = m ((c.tc : Thread Cert.DH1RnnIdeal.nD Cert.DH1RnnIdeal.τ).loc Cert.DH1RnnIdeal.main_arg2)
      ∧ m' ((c.tc : Thread Cert.DH1RnnRefIdeal.nD Cert.DH1RnnRefIdeal.τ).loc Cert.DH1RnnRefIdeal.main_arg3) = m ((c.tc : Thread Cert.DH1RnnIdeal.nD Cert.DH1RnnIdeal.τ).loc Cert.DH1RnnIdeal.main_arg3)) →
    ∃ (v0 : (c : Dev Cert.DH1RnnIdeal.nD) → Buf (Elt Ideal) ((c.tc : Thread Cert.DH1RnnIdeal.nD Cert.DH1RnnIdeal.τ).loc Cert.DH1RnnIdeal.main_v0)),
      θ_run (Cert.DH1RnnIdeal.defs (F := Ideal)) (onTc (τ := Cert.DH1RnnIdeal.τ) (Cert.DH1RnnIdeal.main (F := Ideal))) ⟨m, fun _ => 0, g⟩ (fun r => ∀ c : Dev Cert.DH1RnnIdeal.nD,
          r.2.mem ((c.tc : Thread Cert.DH1RnnIdeal.nD Cert.DH1RnnIdeal.τ).loc Cert.DH1RnnIdeal.main_v0) = v0 c
          ∧ r.2.mem ((c.tc : Thread Cert.DH1RnnIdeal.nD Cert.DH1RnnIdeal.τ).loc Cert.DH1RnnIdeal.main_arg0) = m ((c.tc : Thread Cert.DH1RnnIdeal.nD Cert.DH1RnnIdeal.τ).loc Cert.DH1RnnIdeal.main_arg0)
          ∧ r.2.mem ((c.tc : Thread Cert.DH1RnnIdeal.nD Cert.DH1RnnIdeal.τ).loc Cert.DH1RnnIdeal.main_arg1) = m ((c.tc : Thread Cert.DH1RnnIdeal.nD Cert.DH1RnnIdeal.τ).loc Cert.DH1RnnIdeal.main_arg1)
          ∧ r.2.mem ((c.tc : Thread Cert.DH1RnnIdeal.nD Cert.DH1RnnIdeal.τ).loc Cert.DH1RnnIdeal.main_arg2) = m ((c.tc : Thread Cert.DH1RnnIdeal.nD Cert.DH1RnnIdeal.τ).loc Cert.DH1RnnIdeal.main_arg2)
          ∧ r.2.mem ((c.tc : Thread Cert.DH1RnnIdeal.nD Cert.DH1RnnIdeal.τ).loc Cert.DH1RnnIdeal.main_arg3) = m ((c.tc : Thread Cert.DH1RnnIdeal.nD Cert.DH1RnnIdeal.τ).loc Cert.DH1RnnIdeal.main_arg3))
      ∧ θ_run (Cert.DH1RnnRefIdeal.defs (F := Ideal)) (onTc (τ := Cert.DH1RnnRefIdeal.τ) (Cert.DH1RnnRefIdeal.main (F := Ideal))) ⟨m', fun _ => 0, g'⟩ (fun r => ∀ c : Dev Cert.DH1RnnRefIdeal.nD,
          r.2.mem ((c.tc : Thread Cert.DH1RnnRefIdeal.nD Cert.DH1RnnRefIdeal.τ).loc Cert.DH1RnnRefIdeal.main_v9) = v0 c
          ∧ r.2.mem ((c.tc : Thread Cert.DH1RnnRefIdeal.nD Cert.DH1RnnRefIdeal.τ).loc Cert.DH1RnnRefIdeal.main_arg0) = m' ((c.tc : Thread Cert.DH1RnnRefIdeal.nD Cert.DH1RnnRefIdeal.τ).loc Cert.DH1RnnRefIdeal.main_arg0)
          ∧ r.2.mem ((c.tc : Thread Cert.DH1RnnRefIdeal.nD Cert.DH1RnnRefIdeal.τ).loc Cert.DH1RnnRefIdeal.main_arg1) = m' ((c.tc : Thread Cert.DH1RnnRefIdeal.nD Cert.DH1RnnRefIdeal.τ).loc Cert.DH1RnnRefIdeal.main_arg1)
          ∧ r.2.mem ((c.tc : Thread Cert.DH1RnnRefIdeal.nD Cert.DH1RnnRefIdeal.τ).loc Cert.DH1RnnRefIdeal.main_arg2) = m' ((c.tc : Thread Cert.DH1RnnRefIdeal.nD Cert.DH1RnnRefIdeal.τ).loc Cert.DH1RnnRefIdeal.main_arg2)
          ∧ r.2.mem ((c.tc : Thread Cert.DH1RnnRefIdeal.nD Cert.DH1RnnRefIdeal.τ).loc Cert.DH1RnnRefIdeal.main_arg3) = m' ((c.tc : Thread Cert.DH1RnnRefIdeal.nD Cert.DH1RnnRefIdeal.τ).loc Cert.DH1RnnRefIdeal.main_arg3))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v0)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v4) = v0 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1))

def preserves_InKv_InKvIdeal : Prop :=
  True

def algebraic_InKvIdeal_InKvRefIdeal [hInKvIdeal : Cert.InKvIdeal.Facts] [hInKvRefIdeal : Cert.InKvRefIdeal.Facts] : Prop :=
  ∀ (m : (ℓ : Loc Cert.InKvIdeal.nD Cert.InKvIdeal.τ Cert.InKvIdeal.sig) → Buf (Elt Ideal) ℓ) (g : Dev Cert.InKvIdeal.nD → PrngReg)
    (m' : (ℓ : Loc Cert.InKvRefIdeal.nD Cert.InKvRefIdeal.τ Cert.InKvRefIdeal.sig) → Buf (Elt Ideal) ℓ) (g' : Dev Cert.InKvRefIdeal.nD → PrngReg), Pre_InKvIdeal m →
    (∀ c : Dev Cert.InKvIdeal.nD,
      m' ((c.tc : Thread Cert.InKvRefIdeal.nD Cert.InKvRefIdeal.τ).loc Cert.InKvRefIdeal.main_arg0) = m ((c.tc : Thread Cert.InKvIdeal.nD Cert.InKvIdeal.τ).loc Cert.InKvIdeal.main_arg0)
      ∧ m' ((c.tc : Thread Cert.InKvRefIdeal.nD Cert.InKvRefIdeal.τ).loc Cert.InKvRefIdeal.main_arg1) = m ((c.tc : Thread Cert.InKvIdeal.nD Cert.InKvIdeal.τ).loc Cert.InKvIdeal.main_arg1)) →
    ∃ (v0 : (c : Dev Cert.InKvIdeal.nD) → Buf (Elt Ideal) ((c.tc : Thread Cert.InKvIdeal.nD Cert.InKvIdeal.τ).loc Cert.InKvIdeal.main_v0)),
      θ_run (Cert.InKvIdeal.defs (F := Ideal)) (onTc (τ := Cert.InKvIdeal.τ) (Cert.InKvIdeal.main (F := Ideal))) ⟨m, fun _ => 0, g⟩ (fun r => ∀ c : Dev Cert.InKvIdeal.nD,
          r.2.mem ((c.tc : Thread Cert.InKvIdeal.nD Cert.InKvIdeal.τ).loc Cert.InKvIdeal.main_v0) = v0 c
          ∧ r.2.mem ((c.tc : Thread Cert.InKvIdeal.nD Cert.InKvIdeal.τ).loc Cert.InKvIdeal.main_arg0) = m ((c.tc : Thread Cert.InKvIdeal.nD Cert.InKvIdeal.τ).loc Cert.InKvIdeal.main_arg0)
          ∧ r.2.mem ((c.tc : Thread Cert.InKvIdeal.nD Cert.InKvIdeal.τ).loc Cert.InKvIdeal.main_arg1) = m ((c.tc : Thread Cert.InKvIdeal.nD Cert.InKvIdeal.τ).loc Cert.InKvIdeal.main_arg1))
      ∧ θ_run (Cert.InKvRefIdeal.defs (F := Ideal)) (onTc (τ := Cert.InKvRefIdeal.τ) (Cert.InKvRefIdeal.main (F := Ideal))) ⟨m', fun _ => 0, g'⟩ (fun r => ∀ c : Dev Cert.InKvRefIdeal.nD,
          r.2.mem ((c.tc : Thread Cert.InKvRefIdeal.nD Cert.InKvRefIdeal.τ).loc Cert.InKvRefIdeal.main_v3) = v0 c
          ∧ r.2.mem ((c.tc : Thread Cert.InKvRefIdeal.nD Cert.InKvRefIdeal.τ).loc Cert.InKvRefIdeal.main_arg0) = m' ((c.tc : Thread Cert.InKvRefIdeal.nD Cert.InKvRefIdeal.τ).loc Cert.InKvRefIdeal.main_arg0)
          ∧ r.2.mem ((c.tc : Thread Cert.InKvRefIdeal.nD Cert.InKvRefIdeal.τ).loc Cert.InKvRefIdeal.main_arg1) = m' ((c.tc : Thread Cert.InKvRefIdeal.nD Cert.InKvRefIdeal.τ).loc Cert.InKvRefIdeal.main_arg1))

def preserves_InMg_InMgIdeal : Prop :=
  True

def algebraic_InMgIdeal_InMgRefIdeal [hInMgIdeal : Cert.InMgIdeal.Facts] [hInMgRefIdeal : Cert.InMgRefIdeal.Facts] : Prop :=
  ∀ (m : (ℓ : Loc Cert.InMgIdeal.nD Cert.InMgIdeal.τ Cert.InMgIdeal.sig) → Buf (Elt Ideal) ℓ) (g : Dev Cert.InMgIdeal.nD → PrngReg)
    (m' : (ℓ : Loc Cert.InMgRefIdeal.nD Cert.InMgRefIdeal.τ Cert.InMgRefIdeal.sig) → Buf (Elt Ideal) ℓ) (g' : Dev Cert.InMgRefIdeal.nD → PrngReg), Pre_InMgIdeal m →
    (∀ c : Dev Cert.InMgIdeal.nD,
      m' ((c.tc : Thread Cert.InMgRefIdeal.nD Cert.InMgRefIdeal.τ).loc Cert.InMgRefIdeal.main_arg0) = m ((c.tc : Thread Cert.InMgIdeal.nD Cert.InMgIdeal.τ).loc Cert.InMgIdeal.main_arg0)
      ∧ m' ((c.tc : Thread Cert.InMgRefIdeal.nD Cert.InMgRefIdeal.τ).loc Cert.InMgRefIdeal.main_arg1) = m ((c.tc : Thread Cert.InMgIdeal.nD Cert.InMgIdeal.τ).loc Cert.InMgIdeal.main_arg1)) →
    ∃ (v0 : (c : Dev Cert.InMgIdeal.nD) → Buf (Elt Ideal) ((c.tc : Thread Cert.InMgIdeal.nD Cert.InMgIdeal.τ).loc Cert.InMgIdeal.main_v0)),
      θ_run (Cert.InMgIdeal.defs (F := Ideal)) (onTc (τ := Cert.InMgIdeal.τ) (Cert.InMgIdeal.main (F := Ideal))) ⟨m, fun _ => 0, g⟩ (fun r => ∀ c : Dev Cert.InMgIdeal.nD,
          r.2.mem ((c.tc : Thread Cert.InMgIdeal.nD Cert.InMgIdeal.τ).loc Cert.InMgIdeal.main_v0) = v0 c
          ∧ r.2.mem ((c.tc : Thread Cert.InMgIdeal.nD Cert.InMgIdeal.τ).loc Cert.InMgIdeal.main_arg0) = m ((c.tc : Thread Cert.InMgIdeal.nD Cert.InMgIdeal.τ).loc Cert.InMgIdeal.main_arg0)
          ∧ r.2.mem ((c.tc : Thread Cert.InMgIdeal.nD Cert.InMgIdeal.τ).loc Cert.InMgIdeal.main_arg1) = m ((c.tc : Thread Cert.InMgIdeal.nD Cert.InMgIdeal.τ).loc Cert.InMgIdeal.main_arg1))
      ∧ θ_run (Cert.InMgRefIdeal.defs (F := Ideal)) (onTc (τ := Cert.InMgRefIdeal.τ) (Cert.InMgRefIdeal.main (F := Ideal))) ⟨m', fun _ => 0, g'⟩ (fun r => ∀ c : Dev Cert.InMgRefIdeal.nD,
          r.2.mem ((c.tc : Thread Cert.InMgRefIdeal.nD Cert.InMgRefIdeal.τ).loc Cert.InMgRefIdeal.main_v2) = v0 c
          ∧ r.2.mem ((c.tc : Thread Cert.InMgRefIdeal.nD Cert.InMgRefIdeal.τ).loc Cert.InMgRefIdeal.main_arg0) = m' ((c.tc : Thread Cert.InMgRefIdeal.nD Cert.InMgRefIdeal.τ).loc Cert.InMgRefIdeal.main_arg0)
          ∧ r.2.mem ((c.tc : Thread Cert.InMgRefIdeal.nD Cert.InMgRefIdeal.τ).loc Cert.InMgRefIdeal.main_arg1) = m' ((c.tc : Thread Cert.InMgRefIdeal.nD Cert.InMgRefIdeal.τ).loc Cert.InMgRefIdeal.main_arg1))

def preserves_DYRnn_DYRnnIdeal : Prop :=
  True

def algebraic_DYRnnIdeal_DYRnnRefIdeal [hDYRnnIdeal : Cert.DYRnnIdeal.Facts] [hDYRnnRefIdeal : Cert.DYRnnRefIdeal.Facts] : Prop :=
  ∀ (m : (ℓ : Loc Cert.DYRnnIdeal.nD Cert.DYRnnIdeal.τ Cert.DYRnnIdeal.sig) → Buf (Elt Ideal) ℓ) (g : Dev Cert.DYRnnIdeal.nD → PrngReg)
    (m' : (ℓ : Loc Cert.DYRnnRefIdeal.nD Cert.DYRnnRefIdeal.τ Cert.DYRnnRefIdeal.sig) → Buf (Elt Ideal) ℓ) (g' : Dev Cert.DYRnnRefIdeal.nD → PrngReg), Pre_DYRnnIdeal m →
    (∀ c : Dev Cert.DYRnnIdeal.nD,
      m' ((c.tc : Thread Cert.DYRnnRefIdeal.nD Cert.DYRnnRefIdeal.τ).loc Cert.DYRnnRefIdeal.main_arg0) = m ((c.tc : Thread Cert.DYRnnIdeal.nD Cert.DYRnnIdeal.τ).loc Cert.DYRnnIdeal.main_arg0)
      ∧ m' ((c.tc : Thread Cert.DYRnnRefIdeal.nD Cert.DYRnnRefIdeal.τ).loc Cert.DYRnnRefIdeal.main_arg1) = m ((c.tc : Thread Cert.DYRnnIdeal.nD Cert.DYRnnIdeal.τ).loc Cert.DYRnnIdeal.main_arg1)) →
    ∃ (v0 : (c : Dev Cert.DYRnnIdeal.nD) → Buf (Elt Ideal) ((c.tc : Thread Cert.DYRnnIdeal.nD Cert.DYRnnIdeal.τ).loc Cert.DYRnnIdeal.main_v0)),
      θ_run (Cert.DYRnnIdeal.defs (F := Ideal)) (onTc (τ := Cert.DYRnnIdeal.τ) (Cert.DYRnnIdeal.main (F := Ideal))) ⟨m, fun _ => 0, g⟩ (fun r => ∀ c : Dev Cert.DYRnnIdeal.nD,
          r.2.mem ((c.tc : Thread Cert.DYRnnIdeal.nD Cert.DYRnnIdeal.τ).loc Cert.DYRnnIdeal.main_v0) = v0 c
          ∧ r.2.mem ((c.tc : Thread Cert.DYRnnIdeal.nD Cert.DYRnnIdeal.τ).loc Cert.DYRnnIdeal.main_arg0) = m ((c.tc : Thread Cert.DYRnnIdeal.nD Cert.DYRnnIdeal.τ).loc Cert.DYRnnIdeal.main_arg0)
          ∧ r.2.mem ((c.tc : Thread Cert.DYRnnIdeal.nD Cert.DYRnnIdeal.τ).loc Cert.DYRnnIdeal.main_arg1) = m ((c.tc : Thread Cert.DYRnnIdeal.nD Cert.DYRnnIdeal.τ).loc Cert.DYRnnIdeal.main_arg1))
      ∧ θ_run (Cert.DYRnnRefIdeal.defs (F := Ideal)) (onTc (τ := Cert.DYRnnRefIdeal.τ) (Cert.DYRnnRefIdeal.main (F := Ideal))) ⟨m', fun _ => 0, g'⟩ (fun r => ∀ c : Dev Cert.DYRnnRefIdeal.nD,
          r.2.mem ((c.tc : Thread Cert.DYRnnRefIdeal.nD Cert.DYRnnRefIdeal.τ).loc Cert.DYRnnRefIdeal.main_v4) = v0 c
          ∧ r.2.mem ((c.tc : Thread Cert.DYRnnRefIdeal.nD Cert.DYRnnRefIdeal.τ).loc Cert.DYRnnRefIdeal.main_arg0) = m' ((c.tc : Thread Cert.DYRnnRefIdeal.nD Cert.DYRnnRefIdeal.τ).loc Cert.DYRnnRefIdeal.main_arg0)
          ∧ r.2.mem ((c.tc : Thread Cert.DYRnnRefIdeal.nD Cert.DYRnnRefIdeal.τ).loc Cert.DYRnnRefIdeal.main_arg1) = m' ((c.tc : Thread Cert.DYRnnRefIdeal.nD Cert.DYRnnRefIdeal.τ).loc Cert.DYRnnRefIdeal.main_arg1))

def preserves_DwProjRnn_DwProjRnnIdeal : Prop :=
  True

def algebraic_DwProjRnnIdeal_DwProjRnnRefIdeal [hDwProjRnnIdeal : Cert.DwProjRnnIdeal.Facts] [hDwProjRnnRefIdeal : Cert.DwProjRnnRefIdeal.Facts] : Prop :=
  ∀ (m : (ℓ : Loc Cert.DwProjRnnIdeal.nD Cert.DwProjRnnIdeal.τ Cert.DwProjRnnIdeal.sig) → Buf (Elt Ideal) ℓ) (g : Dev Cert.DwProjRnnIdeal.nD → PrngReg)
    (m' : (ℓ : Loc Cert.DwProjRnnRefIdeal.nD Cert.DwProjRnnRefIdeal.τ Cert.DwProjRnnRefIdeal.sig) → Buf (Elt Ideal) ℓ) (g' : Dev Cert.DwProjRnnRefIdeal.nD → PrngReg), Pre_DwProjRnnIdeal m →
    (∀ c : Dev Cert.DwProjRnnIdeal.nD,
      m' ((c.tc : Thread Cert.DwProjRnnRefIdeal.nD Cert.DwProjRnnRefIdeal.τ).loc Cert.DwProjRnnRefIdeal.main_arg0) = m ((c.tc : Thread Cert.DwProjRnnIdeal.nD Cert.DwProjRnnIdeal.τ).loc Cert.DwProjRnnIdeal.main_arg0)
      ∧ m' ((c.tc : Thread Cert.DwProjRnnRefIdeal.nD Cert.DwProjRnnRefIdeal.τ).loc Cert.DwProjRnnRefIdeal.main_arg1) = m ((c.tc : Thread Cert.DwProjRnnIdeal.nD Cert.DwProjRnnIdeal.τ).loc Cert.DwProjRnnIdeal.main_arg1)) →
    ∃ (v0 : (c : Dev Cert.DwProjRnnIdeal.nD) → Buf (Elt Ideal) ((c.tc : Thread Cert.DwProjRnnIdeal.nD Cert.DwProjRnnIdeal.τ).loc Cert.DwProjRnnIdeal.main_v0)),
      θ_run (Cert.DwProjRnnIdeal.defs (F := Ideal)) (onTc (τ := Cert.DwProjRnnIdeal.τ) (Cert.DwProjRnnIdeal.main (F := Ideal))) ⟨m, fun _ => 0, g⟩ (fun r => ∀ c : Dev Cert.DwProjRnnIdeal.nD,
          r.2.mem ((c.tc : Thread Cert.DwProjRnnIdeal.nD Cert.DwProjRnnIdeal.τ).loc Cert.DwProjRnnIdeal.main_v0) = v0 c
          ∧ r.2.mem ((c.tc : Thread Cert.DwProjRnnIdeal.nD Cert.DwProjRnnIdeal.τ).loc Cert.DwProjRnnIdeal.main_arg0) = m ((c.tc : Thread Cert.DwProjRnnIdeal.nD Cert.DwProjRnnIdeal.τ).loc Cert.DwProjRnnIdeal.main_arg0)
          ∧ r.2.mem ((c.tc : Thread Cert.DwProjRnnIdeal.nD Cert.DwProjRnnIdeal.τ).loc Cert.DwProjRnnIdeal.main_arg1) = m ((c.tc : Thread Cert.DwProjRnnIdeal.nD Cert.DwProjRnnIdeal.τ).loc Cert.DwProjRnnIdeal.main_arg1))
      ∧ θ_run (Cert.DwProjRnnRefIdeal.defs (F := Ideal)) (onTc (τ := Cert.DwProjRnnRefIdeal.τ) (Cert.DwProjRnnRefIdeal.main (F := Ideal))) ⟨m', fun _ => 0, g'⟩ (fun r => ∀ c : Dev Cert.DwProjRnnRefIdeal.nD,
          r.2.mem ((c.tc : Thread Cert.DwProjRnnRefIdeal.nD Cert.DwProjRnnRefIdeal.τ).loc Cert.DwProjRnnRefIdeal.main_v5) = v0 c
          ∧ r.2.mem ((c.tc : Thread Cert.DwProjRnnRefIdeal.nD Cert.DwProjRnnRefIdeal.τ).loc Cert.DwProjRnnRefIdeal.main_arg0) = m' ((c.tc : Thread Cert.DwProjRnnRefIdeal.nD Cert.DwProjRnnRefIdeal.τ).loc Cert.DwProjRnnRefIdeal.main_arg0)
          ∧ r.2.mem ((c.tc : Thread Cert.DwProjRnnRefIdeal.nD Cert.DwProjRnnRefIdeal.τ).loc Cert.DwProjRnnRefIdeal.main_arg1) = m' ((c.tc : Thread Cert.DwProjRnnRefIdeal.nD Cert.DwProjRnnRefIdeal.τ).loc Cert.DwProjRnnRefIdeal.main_arg1))

def preserves_ProjRnn_ProjRnnIdeal : Prop :=
  True

def algebraic_ProjRnnIdeal_ProjRnnRefIdeal [hProjRnnIdeal : Cert.ProjRnnIdeal.Facts] [hProjRnnRefIdeal : Cert.ProjRnnRefIdeal.Facts] : Prop :=
  ∀ (m : (ℓ : Loc Cert.ProjRnnIdeal.nD Cert.ProjRnnIdeal.τ Cert.ProjRnnIdeal.sig) → Buf (Elt Ideal) ℓ) (g : Dev Cert.ProjRnnIdeal.nD → PrngReg)
    (m' : (ℓ : Loc Cert.ProjRnnRefIdeal.nD Cert.ProjRnnRefIdeal.τ Cert.ProjRnnRefIdeal.sig) → Buf (Elt Ideal) ℓ) (g' : Dev Cert.ProjRnnRefIdeal.nD → PrngReg), Pre_ProjRnnIdeal m →
    (∀ c : Dev Cert.ProjRnnIdeal.nD,
      m' ((c.tc : Thread Cert.ProjRnnRefIdeal.nD Cert.ProjRnnRefIdeal.τ).loc Cert.ProjRnnRefIdeal.main_arg0) = m ((c.tc : Thread Cert.ProjRnnIdeal.nD Cert.ProjRnnIdeal.τ).loc Cert.ProjRnnIdeal.main_arg0)
      ∧ m' ((c.tc : Thread Cert.ProjRnnRefIdeal.nD Cert.ProjRnnRefIdeal.τ).loc Cert.ProjRnnRefIdeal.main_arg1) = m ((c.tc : Thread Cert.ProjRnnIdeal.nD Cert.ProjRnnIdeal.τ).loc Cert.ProjRnnIdeal.main_arg1)) →
    ∃ (v0 : (c : Dev Cert.ProjRnnIdeal.nD) → Buf (Elt Ideal) ((c.tc : Thread Cert.ProjRnnIdeal.nD Cert.ProjRnnIdeal.τ).loc Cert.ProjRnnIdeal.main_v0)),
      θ_run (Cert.ProjRnnIdeal.defs (F := Ideal)) (onTc (τ := Cert.ProjRnnIdeal.τ) (Cert.ProjRnnIdeal.main (F := Ideal))) ⟨m, fun _ => 0, g⟩ (fun r => ∀ c : Dev Cert.ProjRnnIdeal.nD,
          r.2.mem ((c.tc : Thread Cert.ProjRnnIdeal.nD Cert.ProjRnnIdeal.τ).loc Cert.ProjRnnIdeal.main_v0) = v0 c
          ∧ r.2.mem ((c.tc : Thread Cert.ProjRnnIdeal.nD Cert.ProjRnnIdeal.τ).loc Cert.ProjRnnIdeal.main_arg0) = m ((c.tc : Thread Cert.ProjRnnIdeal.nD Cert.ProjRnnIdeal.τ).loc Cert.ProjRnnIdeal.main_arg0)
          ∧ r.2.mem ((c.tc : Thread Cert.ProjRnnIdeal.nD Cert.ProjRnnIdeal.τ).loc Cert.ProjRnnIdeal.main_arg1) = m ((c.tc : Thread Cert.ProjRnnIdeal.nD Cert.ProjRnnIdeal.τ).loc Cert.ProjRnnIdeal.main_arg1))
      ∧ θ_run (Cert.ProjRnnRefIdeal.defs (F := Ideal)) (onTc (τ := Cert.ProjRnnRefIdeal.τ) (Cert.ProjRnnRefIdeal.main (F := Ideal))) ⟨m', fun _ => 0, g'⟩ (fun r => ∀ c : Dev Cert.ProjRnnRefIdeal.nD,
          r.2.mem ((c.tc : Thread Cert.ProjRnnRefIdeal.nD Cert.ProjRnnRefIdeal.τ).loc Cert.ProjRnnRefIdeal.main_v2) = v0 c
          ∧ r.2.mem ((c.tc : Thread Cert.ProjRnnRefIdeal.nD Cert.ProjRnnRefIdeal.τ).loc Cert.ProjRnnRefIdeal.main_arg0) = m' ((c.tc : Thread Cert.ProjRnnRefIdeal.nD Cert.ProjRnnRefIdeal.τ).loc Cert.ProjRnnRefIdeal.main_arg0)
          ∧ r.2.mem ((c.tc : Thread Cert.ProjRnnRefIdeal.nD Cert.ProjRnnRefIdeal.τ).loc Cert.ProjRnnRefIdeal.main_arg1) = m' ((c.tc : Thread Cert.ProjRnnRefIdeal.nD Cert.ProjRnnRefIdeal.τ).loc Cert.ProjRnnRefIdeal.main_arg1))

def preserves_InQ_InQIdeal : Prop :=
  True

def algebraic_InQIdeal_InQRefIdeal [hInQIdeal : Cert.InQIdeal.Facts] [hInQRefIdeal : Cert.InQRefIdeal.Facts] : Prop :=
  ∀ (m : (ℓ : Loc Cert.InQIdeal.nD Cert.InQIdeal.τ Cert.InQIdeal.sig) → Buf (Elt Ideal) ℓ) (g : Dev Cert.InQIdeal.nD → PrngReg)
    (m' : (ℓ : Loc Cert.InQRefIdeal.nD Cert.InQRefIdeal.τ Cert.InQRefIdeal.sig) → Buf (Elt Ideal) ℓ) (g' : Dev Cert.InQRefIdeal.nD → PrngReg), Pre_InQIdeal m →
    (∀ c : Dev Cert.InQIdeal.nD,
      m' ((c.tc : Thread Cert.InQRefIdeal.nD Cert.InQRefIdeal.τ).loc Cert.InQRefIdeal.main_arg0) = m ((c.tc : Thread Cert.InQIdeal.nD Cert.InQIdeal.τ).loc Cert.InQIdeal.main_arg0)
      ∧ m' ((c.tc : Thread Cert.InQRefIdeal.nD Cert.InQRefIdeal.τ).loc Cert.InQRefIdeal.main_arg1) = m ((c.tc : Thread Cert.InQIdeal.nD Cert.InQIdeal.τ).loc Cert.InQIdeal.main_arg1)) →
    ∃ (v0 : (c : Dev Cert.InQIdeal.nD) → Buf (Elt Ideal) ((c.tc : Thread Cert.InQIdeal.nD Cert.InQIdeal.τ).loc Cert.InQIdeal.main_v0)),
      θ_run (Cert.InQIdeal.defs (F := Ideal)) (onTc (τ := Cert.InQIdeal.τ) (Cert.InQIdeal.main (F := Ideal))) ⟨m, fun _ => 0, g⟩ (fun r => ∀ c : Dev Cert.InQIdeal.nD,
          r.2.mem ((c.tc : Thread Cert.InQIdeal.nD Cert.InQIdeal.τ).loc Cert.InQIdeal.main_v0) = v0 c
          ∧ r.2.mem ((c.tc : Thread Cert.InQIdeal.nD Cert.InQIdeal.τ).loc Cert.InQIdeal.main_arg0) = m ((c.tc : Thread Cert.InQIdeal.nD Cert.InQIdeal.τ).loc Cert.InQIdeal.main_arg0)
          ∧ r.2.mem ((c.tc : Thread Cert.InQIdeal.nD Cert.InQIdeal.τ).loc Cert.InQIdeal.main_arg1) = m ((c.tc : Thread Cert.InQIdeal.nD Cert.InQIdeal.τ).loc Cert.InQIdeal.main_arg1))
      ∧ θ_run (Cert.InQRefIdeal.defs (F := Ideal)) (onTc (τ := Cert.InQRefIdeal.τ) (Cert.InQRefIdeal.main (F := Ideal))) ⟨m', fun _ => 0, g'⟩ (fun r => ∀ c : Dev Cert.InQRefIdeal.nD,
          r.2.mem ((c.tc : Thread Cert.InQRefIdeal.nD Cert.InQRefIdeal.τ).loc Cert.InQRefIdeal.main_v5) = v0 c
          ∧ r.2.mem ((c.tc : Thread Cert.InQRefIdeal.nD Cert.InQRefIdeal.τ).loc Cert.InQRefIdeal.main_arg0) = m' ((c.tc : Thread Cert.InQRefIdeal.nD Cert.InQRefIdeal.τ).loc Cert.InQRefIdeal.main_arg0)
          ∧ r.2.mem ((c.tc : Thread Cert.InQRefIdeal.nD Cert.InQRefIdeal.τ).loc Cert.InQRefIdeal.main_arg1) = m' ((c.tc : Thread Cert.InQRefIdeal.nD Cert.InQRefIdeal.τ).loc Cert.InQRefIdeal.main_arg1))

def preserves_ProjAttn_ProjAttnIdeal : Prop :=
  True

def algebraic_ProjAttnIdeal_ProjAttnRefIdeal [hProjAttnIdeal : Cert.ProjAttnIdeal.Facts] [hProjAttnRefIdeal : Cert.ProjAttnRefIdeal.Facts] : Prop :=
  ∀ (m : (ℓ : Loc Cert.ProjAttnIdeal.nD Cert.ProjAttnIdeal.τ Cert.ProjAttnIdeal.sig) → Buf (Elt Ideal) ℓ) (g : Dev Cert.ProjAttnIdeal.nD → PrngReg)
    (m' : (ℓ : Loc Cert.ProjAttnRefIdeal.nD Cert.ProjAttnRefIdeal.τ Cert.ProjAttnRefIdeal.sig) → Buf (Elt Ideal) ℓ) (g' : Dev Cert.ProjAttnRefIdeal.nD → PrngReg), Pre_ProjAttnIdeal m →
    (∀ c : Dev Cert.ProjAttnIdeal.nD,
      m' ((c.tc : Thread Cert.ProjAttnRefIdeal.nD Cert.ProjAttnRefIdeal.τ).loc Cert.ProjAttnRefIdeal.main_arg0) = m ((c.tc : Thread Cert.ProjAttnIdeal.nD Cert.ProjAttnIdeal.τ).loc Cert.ProjAttnIdeal.main_arg0)
      ∧ m' ((c.tc : Thread Cert.ProjAttnRefIdeal.nD Cert.ProjAttnRefIdeal.τ).loc Cert.ProjAttnRefIdeal.main_arg1) = m ((c.tc : Thread Cert.ProjAttnIdeal.nD Cert.ProjAttnIdeal.τ).loc Cert.ProjAttnIdeal.main_arg1)) →
    ∃ (v0 : (c : Dev Cert.ProjAttnIdeal.nD) → Buf (Elt Ideal) ((c.tc : Thread Cert.ProjAttnIdeal.nD Cert.ProjAttnIdeal.τ).loc Cert.ProjAttnIdeal.main_v0)),
      θ_run (Cert.ProjAttnIdeal.defs (F := Ideal)) (onTc (τ := Cert.ProjAttnIdeal.τ) (Cert.ProjAttnIdeal.main (F := Ideal))) ⟨m, fun _ => 0, g⟩ (fun r => ∀ c : Dev Cert.ProjAttnIdeal.nD,
          r.2.mem ((c.tc : Thread Cert.ProjAttnIdeal.nD Cert.ProjAttnIdeal.τ).loc Cert.ProjAttnIdeal.main_v0) = v0 c
          ∧ r.2.mem ((c.tc : Thread Cert.ProjAttnIdeal.nD Cert.ProjAttnIdeal.τ).loc Cert.ProjAttnIdeal.main_arg0) = m ((c.tc : Thread Cert.ProjAttnIdeal.nD Cert.ProjAttnIdeal.τ).loc Cert.ProjAttnIdeal.main_arg0)
          ∧ r.2.mem ((c.tc : Thread Cert.ProjAttnIdeal.nD Cert.ProjAttnIdeal.τ).loc Cert.ProjAttnIdeal.main_arg1) = m ((c.tc : Thread Cert.ProjAttnIdeal.nD Cert.ProjAttnIdeal.τ).loc Cert.ProjAttnIdeal.main_arg1))
      ∧ θ_run (Cert.ProjAttnRefIdeal.defs (F := Ideal)) (onTc (τ := Cert.ProjAttnRefIdeal.τ) (Cert.ProjAttnRefIdeal.main (F := Ideal))) ⟨m', fun _ => 0, g'⟩ (fun r => ∀ c : Dev Cert.ProjAttnRefIdeal.nD,
          r.2.mem ((c.tc : Thread Cert.ProjAttnRefIdeal.nD Cert.ProjAttnRefIdeal.τ).loc Cert.ProjAttnRefIdeal.main_v1) = v0 c
          ∧ r.2.mem ((c.tc : Thread Cert.ProjAttnRefIdeal.nD Cert.ProjAttnRefIdeal.τ).loc Cert.ProjAttnRefIdeal.main_arg0) = m' ((c.tc : Thread Cert.ProjAttnRefIdeal.nD Cert.ProjAttnRefIdeal.τ).loc Cert.ProjAttnRefIdeal.main_arg0)
          ∧ r.2.mem ((c.tc : Thread Cert.ProjAttnRefIdeal.nD Cert.ProjAttnRefIdeal.τ).loc Cert.ProjAttnRefIdeal.main_arg1) = m' ((c.tc : Thread Cert.ProjAttnRefIdeal.nD Cert.ProjAttnRefIdeal.τ).loc Cert.ProjAttnRefIdeal.main_arg1))

def preserves_DwProjAttn_DwProjAttnIdeal : Prop :=
  True

def algebraic_DwProjAttnIdeal_DwProjAttnRefIdeal [hDwProjAttnIdeal : Cert.DwProjAttnIdeal.Facts] [hDwProjAttnRefIdeal : Cert.DwProjAttnRefIdeal.Facts] : Prop :=
  ∀ (m : (ℓ : Loc Cert.DwProjAttnIdeal.nD Cert.DwProjAttnIdeal.τ Cert.DwProjAttnIdeal.sig) → Buf (Elt Ideal) ℓ) (g : Dev Cert.DwProjAttnIdeal.nD → PrngReg)
    (m' : (ℓ : Loc Cert.DwProjAttnRefIdeal.nD Cert.DwProjAttnRefIdeal.τ Cert.DwProjAttnRefIdeal.sig) → Buf (Elt Ideal) ℓ) (g' : Dev Cert.DwProjAttnRefIdeal.nD → PrngReg), Pre_DwProjAttnIdeal m →
    (∀ c : Dev Cert.DwProjAttnIdeal.nD,
      m' ((c.tc : Thread Cert.DwProjAttnRefIdeal.nD Cert.DwProjAttnRefIdeal.τ).loc Cert.DwProjAttnRefIdeal.main_arg0) = m ((c.tc : Thread Cert.DwProjAttnIdeal.nD Cert.DwProjAttnIdeal.τ).loc Cert.DwProjAttnIdeal.main_arg0)
      ∧ m' ((c.tc : Thread Cert.DwProjAttnRefIdeal.nD Cert.DwProjAttnRefIdeal.τ).loc Cert.DwProjAttnRefIdeal.main_arg1) = m ((c.tc : Thread Cert.DwProjAttnIdeal.nD Cert.DwProjAttnIdeal.τ).loc Cert.DwProjAttnIdeal.main_arg1)) →
    ∃ (v0 : (c : Dev Cert.DwProjAttnIdeal.nD) → Buf (Elt Ideal) ((c.tc : Thread Cert.DwProjAttnIdeal.nD Cert.DwProjAttnIdeal.τ).loc Cert.DwProjAttnIdeal.main_v0)),
      θ_run (Cert.DwProjAttnIdeal.defs (F := Ideal)) (onTc (τ := Cert.DwProjAttnIdeal.τ) (Cert.DwProjAttnIdeal.main (F := Ideal))) ⟨m, fun _ => 0, g⟩ (fun r => ∀ c : Dev Cert.DwProjAttnIdeal.nD,
          r.2.mem ((c.tc : Thread Cert.DwProjAttnIdeal.nD Cert.DwProjAttnIdeal.τ).loc Cert.DwProjAttnIdeal.main_v0) = v0 c
          ∧ r.2.mem ((c.tc : Thread Cert.DwProjAttnIdeal.nD Cert.DwProjAttnIdeal.τ).loc Cert.DwProjAttnIdeal.main_arg0) = m ((c.tc : Thread Cert.DwProjAttnIdeal.nD Cert.DwProjAttnIdeal.τ).loc Cert.DwProjAttnIdeal.main_arg0)
          ∧ r.2.mem ((c.tc : Thread Cert.DwProjAttnIdeal.nD Cert.DwProjAttnIdeal.τ).loc Cert.DwProjAttnIdeal.main_arg1) = m ((c.tc : Thread Cert.DwProjAttnIdeal.nD Cert.DwProjAttnIdeal.τ).loc Cert.DwProjAttnIdeal.main_arg1))
      ∧ θ_run (Cert.DwProjAttnRefIdeal.defs (F := Ideal)) (onTc (τ := Cert.DwProjAttnRefIdeal.τ) (Cert.DwProjAttnRefIdeal.main (F := Ideal))) ⟨m', fun _ => 0, g'⟩ (fun r => ∀ c : Dev Cert.DwProjAttnRefIdeal.nD,
          r.2.mem ((c.tc : Thread Cert.DwProjAttnRefIdeal.nD Cert.DwProjAttnRefIdeal.τ).loc Cert.DwProjAttnRefIdeal.main_v4) = v0 c
          ∧ r.2.mem ((c.tc : Thread Cert.DwProjAttnRefIdeal.nD Cert.DwProjAttnRefIdeal.τ).loc Cert.DwProjAttnRefIdeal.main_arg0) = m' ((c.tc : Thread Cert.DwProjAttnRefIdeal.nD Cert.DwProjAttnRefIdeal.τ).loc Cert.DwProjAttnRefIdeal.main_arg0)
          ∧ r.2.mem ((c.tc : Thread Cert.DwProjAttnRefIdeal.nD Cert.DwProjAttnRefIdeal.τ).loc Cert.DwProjAttnRefIdeal.main_arg1) = m' ((c.tc : Thread Cert.DwProjAttnRefIdeal.nD Cert.DwProjAttnRefIdeal.τ).loc Cert.DwProjAttnRefIdeal.main_arg1))

def preserves_InFl_InFlIdeal : Prop :=
  True

def algebraic_InFlIdeal_InFlRefIdeal [hInFlIdeal : Cert.InFlIdeal.Facts] [hInFlRefIdeal : Cert.InFlRefIdeal.Facts] : Prop :=
  ∀ (m : (ℓ : Loc Cert.InFlIdeal.nD Cert.InFlIdeal.τ Cert.InFlIdeal.sig) → Buf (Elt Ideal) ℓ) (g : Dev Cert.InFlIdeal.nD → PrngReg)
    (m' : (ℓ : Loc Cert.InFlRefIdeal.nD Cert.InFlRefIdeal.τ Cert.InFlRefIdeal.sig) → Buf (Elt Ideal) ℓ) (g' : Dev Cert.InFlRefIdeal.nD → PrngReg), Pre_InFlIdeal m →
    (∀ c : Dev Cert.InFlIdeal.nD,
      m' ((c.tc : Thread Cert.InFlRefIdeal.nD Cert.InFlRefIdeal.τ).loc Cert.InFlRefIdeal.main_arg0) = m ((c.tc : Thread Cert.InFlIdeal.nD Cert.InFlIdeal.τ).loc Cert.InFlIdeal.main_arg0)
      ∧ m' ((c.tc : Thread Cert.InFlRefIdeal.nD Cert.InFlRefIdeal.τ).loc Cert.InFlRefIdeal.main_arg1) = m ((c.tc : Thread Cert.InFlIdeal.nD Cert.InFlIdeal.τ).loc Cert.InFlIdeal.main_arg1)) →
    ∃ (v0 : (c : Dev Cert.InFlIdeal.nD) → Buf (Elt Ideal) ((c.tc : Thread Cert.InFlIdeal.nD Cert.InFlIdeal.τ).loc Cert.InFlIdeal.main_v0)),
      θ_run (Cert.InFlIdeal.defs (F := Ideal)) (onTc (τ := Cert.InFlIdeal.τ) (Cert.InFlIdeal.main (F := Ideal))) ⟨m, fun _ => 0, g⟩ (fun r => ∀ c : Dev Cert.InFlIdeal.nD,
          r.2.mem ((c.tc : Thread Cert.InFlIdeal.nD Cert.InFlIdeal.τ).loc Cert.InFlIdeal.main_v0) = v0 c
          ∧ r.2.mem ((c.tc : Thread Cert.InFlIdeal.nD Cert.InFlIdeal.τ).loc Cert.InFlIdeal.main_arg0) = m ((c.tc : Thread Cert.InFlIdeal.nD Cert.InFlIdeal.τ).loc Cert.InFlIdeal.main_arg0)
          ∧ r.2.mem ((c.tc : Thread Cert.InFlIdeal.nD Cert.InFlIdeal.τ).loc Cert.InFlIdeal.main_arg1) = m ((c.tc : Thread Cert.InFlIdeal.nD Cert.InFlIdeal.τ).loc Cert.InFlIdeal.main_arg1))
      ∧ θ_run (Cert.InFlRefIdeal.defs (F := Ideal)) (onTc (τ := Cert.InFlRefIdeal.τ) (Cert.InFlRefIdeal.main (F := Ideal))) ⟨m', fun _ => 0, g'⟩ (fun r => ∀ c : Dev Cert.InFlRefIdeal.nD,
          r.2.mem ((c.tc : Thread Cert.InFlRefIdeal.nD Cert.InFlRefIdeal.τ).loc Cert.InFlRefIdeal.main_v2) = v0 c
          ∧ r.2.mem ((c.tc : Thread Cert.InFlRefIdeal.nD Cert.InFlRefIdeal.τ).loc Cert.InFlRefIdeal.main_arg0) = m' ((c.tc : Thread Cert.InFlRefIdeal.nD Cert.InFlRefIdeal.τ).loc Cert.InFlRefIdeal.main_arg0)
          ∧ r.2.mem ((c.tc : Thread Cert.InFlRefIdeal.nD Cert.InFlRefIdeal.τ).loc Cert.InFlRefIdeal.main_arg1) = m' ((c.tc : Thread Cert.InFlRefIdeal.nD Cert.InFlRefIdeal.τ).loc Cert.InFlRefIdeal.main_arg1))

def preserves_DwInFl_DwInFlIdeal : Prop :=
  True

def algebraic_DwInFlIdeal_DwInFlRefIdeal [hDwInFlIdeal : Cert.DwInFlIdeal.Facts] [hDwInFlRefIdeal : Cert.DwInFlRefIdeal.Facts] : Prop :=
  ∀ (m : (ℓ : Loc Cert.DwInFlIdeal.nD Cert.DwInFlIdeal.τ Cert.DwInFlIdeal.sig) → Buf (Elt Ideal) ℓ) (g : Dev Cert.DwInFlIdeal.nD → PrngReg)
    (m' : (ℓ : Loc Cert.DwInFlRefIdeal.nD Cert.DwInFlRefIdeal.τ Cert.DwInFlRefIdeal.sig) → Buf (Elt Ideal) ℓ) (g' : Dev Cert.DwInFlRefIdeal.nD → PrngReg), Pre_DwInFlIdeal m →
    (∀ c : Dev Cert.DwInFlIdeal.nD,
      m' ((c.tc : Thread Cert.DwInFlRefIdeal.nD Cert.DwInFlRefIdeal.τ).loc Cert.DwInFlRefIdeal.main_arg0) = m ((c.tc : Thread Cert.DwInFlIdeal.nD Cert.DwInFlIdeal.τ).loc Cert.DwInFlIdeal.main_arg0)
      ∧ m' ((c.tc : Thread Cert.DwInFlRefIdeal.nD Cert.DwInFlRefIdeal.τ).loc Cert.DwInFlRefIdeal.main_arg1) = m ((c.tc : Thread Cert.DwInFlIdeal.nD Cert.DwInFlIdeal.τ).loc Cert.DwInFlIdeal.main_arg1)) →
    ∃ (v0 : (c : Dev Cert.DwInFlIdeal.nD) → Buf (Elt Ideal) ((c.tc : Thread Cert.DwInFlIdeal.nD Cert.DwInFlIdeal.τ).loc Cert.DwInFlIdeal.main_v0)),
      θ_run (Cert.DwInFlIdeal.defs (F := Ideal)) (onTc (τ := Cert.DwInFlIdeal.τ) (Cert.DwInFlIdeal.main (F := Ideal))) ⟨m, fun _ => 0, g⟩ (fun r => ∀ c : Dev Cert.DwInFlIdeal.nD,
          r.2.mem ((c.tc : Thread Cert.DwInFlIdeal.nD Cert.DwInFlIdeal.τ).loc Cert.DwInFlIdeal.main_v0) = v0 c
          ∧ r.2.mem ((c.tc : Thread Cert.DwInFlIdeal.nD Cert.DwInFlIdeal.τ).loc Cert.DwInFlIdeal.main_arg0) = m ((c.tc : Thread Cert.DwInFlIdeal.nD Cert.DwInFlIdeal.τ).loc Cert.DwInFlIdeal.main_arg0)
          ∧ r.2.mem ((c.tc : Thread Cert.DwInFlIdeal.nD Cert.DwInFlIdeal.τ).loc Cert.DwInFlIdeal.main_arg1) = m ((c.tc : Thread Cert.DwInFlIdeal.nD Cert.DwInFlIdeal.τ).loc Cert.DwInFlIdeal.main_arg1))
      ∧ θ_run (Cert.DwInFlRefIdeal.defs (F := Ideal)) (onTc (τ := Cert.DwInFlRefIdeal.τ) (Cert.DwInFlRefIdeal.main (F := Ideal))) ⟨m', fun _ => 0, g'⟩ (fun r => ∀ c : Dev Cert.DwInFlRefIdeal.nD,
          r.2.mem ((c.tc : Thread Cert.DwInFlRefIdeal.nD Cert.DwInFlRefIdeal.τ).loc Cert.DwInFlRefIdeal.main_v5) = v0 c
          ∧ r.2.mem ((c.tc : Thread Cert.DwInFlRefIdeal.nD Cert.DwInFlRefIdeal.τ).loc Cert.DwInFlRefIdeal.main_arg0) = m' ((c.tc : Thread Cert.DwInFlRefIdeal.nD Cert.DwInFlRefIdeal.τ).loc Cert.DwInFlRefIdeal.main_arg0)
          ∧ r.2.mem ((c.tc : Thread Cert.DwInFlRefIdeal.nD Cert.DwInFlRefIdeal.τ).loc Cert.DwInFlRefIdeal.main_arg1) = m' ((c.tc : Thread Cert.DwInFlRefIdeal.nD Cert.DwInFlRefIdeal.τ).loc Cert.DwInFlRefIdeal.main_arg1))

def preserves_DH1Fl_DH1FlIdeal : Prop :=
  True

def algebraic_DH1FlIdeal_DH1FlRefIdeal [hDH1FlIdeal : Cert.DH1FlIdeal.Facts] [hDH1FlRefIdeal : Cert.DH1FlRefIdeal.Facts] : Prop :=
  ∀ (m : (ℓ : Loc Cert.DH1FlIdeal.nD Cert.DH1FlIdeal.τ Cert.DH1FlIdeal.sig) → Buf (Elt Ideal) ℓ) (g : Dev Cert.DH1FlIdeal.nD → PrngReg)
    (m' : (ℓ : Loc Cert.DH1FlRefIdeal.nD Cert.DH1FlRefIdeal.τ Cert.DH1FlRefIdeal.sig) → Buf (Elt Ideal) ℓ) (g' : Dev Cert.DH1FlRefIdeal.nD → PrngReg), Pre_DH1FlIdeal m →
    (∀ c : Dev Cert.DH1FlIdeal.nD,
      m' ((c.tc : Thread Cert.DH1FlRefIdeal.nD Cert.DH1FlRefIdeal.τ).loc Cert.DH1FlRefIdeal.main_arg0) = m ((c.tc : Thread Cert.DH1FlIdeal.nD Cert.DH1FlIdeal.τ).loc Cert.DH1FlIdeal.main_arg0)
      ∧ m' ((c.tc : Thread Cert.DH1FlRefIdeal.nD Cert.DH1FlRefIdeal.τ).loc Cert.DH1FlRefIdeal.main_arg1) = m ((c.tc : Thread Cert.DH1FlIdeal.nD Cert.DH1FlIdeal.τ).loc Cert.DH1FlIdeal.main_arg1)) →
    ∃ (v0 : (c : Dev Cert.DH1FlIdeal.nD) → Buf (Elt Ideal) ((c.tc : Thread Cert.DH1FlIdeal.nD Cert.DH1FlIdeal.τ).loc Cert.DH1FlIdeal.main_v0)),
      θ_run (Cert.DH1FlIdeal.defs (F := Ideal)) (onTc (τ := Cert.DH1FlIdeal.τ) (Cert.DH1FlIdeal.main (F := Ideal))) ⟨m, fun _ => 0, g⟩ (fun r => ∀ c : Dev Cert.DH1FlIdeal.nD,
          r.2.mem ((c.tc : Thread Cert.DH1FlIdeal.nD Cert.DH1FlIdeal.τ).loc Cert.DH1FlIdeal.main_v0) = v0 c
          ∧ r.2.mem ((c.tc : Thread Cert.DH1FlIdeal.nD Cert.DH1FlIdeal.τ).loc Cert.DH1FlIdeal.main_arg0) = m ((c.tc : Thread Cert.DH1FlIdeal.nD Cert.DH1FlIdeal.τ).loc Cert.DH1FlIdeal.main_arg0)
          ∧ r.2.mem ((c.tc : Thread Cert.DH1FlIdeal.nD Cert.DH1FlIdeal.τ).loc Cert.DH1FlIdeal.main_arg1) = m ((c.tc : Thread Cert.DH1FlIdeal.nD Cert.DH1FlIdeal.τ).loc Cert.DH1FlIdeal.main_arg1))
      ∧ θ_run (Cert.DH1FlRefIdeal.defs (F := Ideal)) (onTc (τ := Cert.DH1FlRefIdeal.τ) (Cert.DH1FlRefIdeal.main (F := Ideal))) ⟨m', fun _ => 0, g'⟩ (fun r => ∀ c : Dev Cert.DH1FlRefIdeal.nD,
          r.2.mem ((c.tc : Thread Cert.DH1FlRefIdeal.nD Cert.DH1FlRefIdeal.τ).loc Cert.DH1FlRefIdeal.main_v4) = v0 c
          ∧ r.2.mem ((c.tc : Thread Cert.DH1FlRefIdeal.nD Cert.DH1FlRefIdeal.τ).loc Cert.DH1FlRefIdeal.main_arg0) = m' ((c.tc : Thread Cert.DH1FlRefIdeal.nD Cert.DH1FlRefIdeal.τ).loc Cert.DH1FlRefIdeal.main_arg0)
          ∧ r.2.mem ((c.tc : Thread Cert.DH1FlRefIdeal.nD Cert.DH1FlRefIdeal.τ).loc Cert.DH1FlRefIdeal.main_arg1) = m' ((c.tc : Thread Cert.DH1FlRefIdeal.nD Cert.DH1FlRefIdeal.τ).loc Cert.DH1FlRefIdeal.main_arg1))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v24) = v0 c
          ∧ r.2.mem ((c.tc : Thread Cert.MergeBwdRefIdeal.nD Cert.MergeBwdRefIdeal.τ).loc Cert.MergeBwdRefIdeal.main_v25) = v1 c
          ∧ r.2.mem ((c.tc : Thread Cert.MergeBwdRefIdeal.nD Cert.MergeBwdRefIdeal.τ).loc Cert.MergeBwdRefIdeal.main_v26) = v2 c
          ∧ r.2.mem ((c.tc : Thread Cert.MergeBwdRefIdeal.nD Cert.MergeBwdRefIdeal.τ).loc Cert.MergeBwdRefIdeal.main_v27) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v11) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2))

def preserves_Norm1_Norm1Ideal : Prop :=
  True

def algebraic_Norm1Ideal_Norm1RefIdeal [hNorm1Ideal : Cert.Norm1Ideal.Facts] [hNorm1RefIdeal : Cert.Norm1RefIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)
      ∧ m' ((c.tc : Thread Cert.Norm1RefIdeal.nD Cert.Norm1RefIdeal.τ).loc Cert.Norm1RefIdeal.main_arg3) = m ((c.tc : Thread Cert.Norm1Ideal.nD Cert.Norm1Ideal.τ).loc Cert.Norm1Ideal.main_arg3)) →
    ∃ (v0 : (c : Dev Cert.Norm1Ideal.nD) → Buf (Elt Ideal) ((c.tc : Thread Cert.Norm1Ideal.nD Cert.Norm1Ideal.τ).loc Cert.Norm1Ideal.main_v0)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v0) = v0 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v20) = v0 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2)
          ∧ r.2.mem ((c.tc : Thread Cert.Norm1RefIdeal.nD Cert.Norm1RefIdeal.τ).loc Cert.Norm1RefIdeal.main_arg3) = m' ((c.tc : Thread Cert.Norm1RefIdeal.nD Cert.Norm1RefIdeal.τ).loc Cert.Norm1RefIdeal.main_arg3))

def preserves_Norm2_Norm2Ideal : Prop :=
  True

def algebraic_Norm2Ideal_Norm2RefIdeal [hNorm2Ideal : Cert.Norm2Ideal.Facts] [hNorm2RefIdeal : Cert.Norm2RefIdeal.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)
      ∧ m' ((c.tc : Thread Cert.Norm2RefIdeal.nD Cert.Norm2RefIdeal.τ).loc Cert.Norm2RefIdeal.main_arg2) = m ((c.tc : Thread Cert.Norm2Ideal.nD Cert.Norm2Ideal.τ).loc Cert.Norm2Ideal.main_arg2)
      ∧ m' ((c.tc : Thread Cert.Norm2RefIdeal.nD Cert.Norm2RefIdeal.τ).loc Cert.Norm2RefIdeal.main_arg3) = m ((c.tc : Thread Cert.Norm2Ideal.nD Cert.Norm2Ideal.τ).loc Cert.Norm2Ideal.main_arg3)
      ∧ m' ((c.tc : Thread Cert.Norm2RefIdeal.nD Cert.Norm2RefIdeal.τ).loc Cert.Norm2RefIdeal.main_arg4) = m ((c.tc : Thread Cert.Norm2Ideal.nD Cert.Norm2Ideal.τ).loc Cert.Norm2Ideal.main_arg4)
      ∧ m' ((c.tc : Thread Cert.Norm2RefIdeal.nD Cert.Norm2RefIdeal.τ).loc Cert.Norm2RefIdeal.main_arg5) = m ((c.tc : Thread Cert.Norm2Ideal.nD Cert.Norm2Ideal.τ).loc Cert.Norm2Ideal.main_arg5)) →
    ∃ (v0 : (c : Dev Cert.Norm2Ideal.nD) → Buf (Elt Ideal) ((c.tc : Thread Cert.Norm2Ideal.nD Cert.Norm2Ideal.τ).loc Cert.Norm2Ideal.main_v0_0)) (v1 : (c : Dev Cert.Norm2Ideal.nD) → Buf (Elt Ideal) ((c.tc : Thread Cert.Norm2Ideal.nD Cert.Norm2Ideal.τ).loc Cert.Norm2Ideal.main_v0_1)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v0_0) = v0 c
          ∧ r.2.mem ((c.tc : Thread Cert.Norm2Ideal.nD Cert.Norm2Ideal.τ).loc Cert.Norm2Ideal.main_v0_1) = v1 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
          ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
          ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v2) = v0 c
          ∧ r.2.mem ((c.tc : Thread Cert.Norm2RefIdeal.nD Cert.Norm2RefIdeal.τ).loc Cert.Norm2RefIdeal.main_v23) = v1 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1)
          ∧ r.2.mem ((c.tc : Thread Cert.Norm2RefIdeal.nD Cert.Norm2RefIdeal.τ).loc Cert.Norm2RefIdeal.main_arg2) = m' ((c.tc : Thread Cert.Norm2RefIdeal.nD Cert.Norm2RefIdeal.τ).loc Cert.Norm2RefIdeal.main_arg2)
          ∧ r.2.mem ((c.tc : Thread Cert.Norm2RefIdeal.nD Cert.Norm2RefIdeal.τ).loc Cert.Norm2RefIdeal.main_arg3) = m' ((c.tc : Thread Cert.Norm2RefIdeal.nD Cert.Norm2RefIdeal.τ).loc Cert.Norm2RefIdeal.main_arg3)
          ∧ r.2.mem ((c.tc : Thread Cert.Norm2RefIdeal.nD Cert.Norm2RefIdeal.τ).loc Cert.Norm2RefIdeal.main_arg4) = m' ((c.tc : Thread Cert.Norm2RefIdeal.nD Cert.Norm2RefIdeal.τ).loc Cert.Norm2RefIdeal.main_arg4)
          ∧ r.2.mem ((c.tc : Thread Cert.Norm2RefIdeal.nD Cert.Norm2RefIdeal.τ).loc Cert.Norm2RefIdeal.main_arg5) = m' ((c.tc : Thread Cert.Norm2RefIdeal.nD Cert.Norm2RefIdeal.τ).loc Cert.Norm2RefIdeal.main_arg5))

def preserves_Norm1Bwd_Norm1BwdIdeal : Prop :=
  True

def algebraic_Norm1BwdIdeal_Norm1BwdRefIdeal [hNorm1BwdIdeal : Cert.Norm1BwdIdeal.Facts] [hNorm1BwdRefIdeal : Cert.Norm1BwdRefIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg)
    (m' : (ℓ : Loc Cert.Norm1BwdRefIdeal.nD Cert.Norm1BwdRefIdeal.τ Cert.Norm1BwdRefIdeal.sig) → Buf (Elt Ideal) ℓ) (g' : Dev Cert.Norm1BwdRefIdeal.nD → PrngReg), Pre_Norm1BwdIdeal m →
    (∀ c : Dev Cert.Norm1BwdIdeal.nD,
      m' ((c.tc : Thread Cert.Norm1BwdRefIdeal.nD Cert.Norm1BwdRefIdeal.τ).loc Cert.Norm1BwdRefIdeal.main_arg0) = m ((c.tc : Thread Cert.Norm1BwdIdeal.nD Cert.Norm1BwdIdeal.τ).loc Cert.Norm1BwdIdeal.main_arg0)
      ∧ m' ((c.tc : Thread Cert.Norm1BwdRefIdeal.nD Cert.Norm1BwdRefIdeal.τ).loc Cert.Norm1BwdRefIdeal.main_arg1) = m ((c.tc : Thread Cert.Norm1BwdIdeal.nD Cert.Norm1BwdIdeal.τ).loc Cert.Norm1BwdIdeal.main_arg1)
      ∧ m' ((c.tc : Thread Cert.Norm1BwdRefIdeal.nD Cert.Norm1BwdRefIdeal.τ).loc Cert.Norm1BwdRefIdeal.main_arg2) = m ((c.tc : Thread Cert.Norm1BwdIdeal.nD Cert.Norm1BwdIdeal.τ).loc Cert.Norm1BwdIdeal.main_arg2)
      ∧ m' ((c.tc : Thread Cert.Norm1BwdRefIdeal.nD Cert.Norm1BwdRefIdeal.τ).loc Cert.Norm1BwdRefIdeal.main_arg3) = m ((c.tc : Thread Cert.Norm1BwdIdeal.nD Cert.Norm1BwdIdeal.τ).loc Cert.Norm1BwdIdeal.main_arg3)
      ∧ m' ((c.tc : Thread Cert.Norm1BwdRefIdeal.nD Cert.Norm1BwdRefIdeal.τ).loc Cert.Norm1BwdRefIdeal.main_arg4) = m ((c.tc : Thread Cert.Norm1BwdIdeal.nD Cert.Norm1BwdIdeal.τ).loc Cert.Norm1BwdIdeal.main_arg4)) →
    ∃ (v0 : (c : Dev Cert.Norm1BwdIdeal.nD) → Buf (Elt Ideal) ((c.tc : Thread Cert.Norm1BwdIdeal.nD Cert.Norm1BwdIdeal.τ).loc Cert.Norm1BwdIdeal.main_v0_0)) (v1 : (c : Dev Cert.Norm1BwdIdeal.nD) → Buf (Elt Ideal) ((c.tc : Thread Cert.Norm1BwdIdeal.nD Cert.Norm1BwdIdeal.τ).loc Cert.Norm1BwdIdeal.main_v0_1)) (v2 : (c : Dev Cert.Norm1BwdIdeal.nD) → Buf (Elt Ideal) ((c.tc : Thread Cert.Norm1BwdIdeal.nD Cert.Norm1BwdIdeal.τ).loc Cert.Norm1BwdIdeal.main_v0_2)) (v3 : (c : Dev Cert.Norm1BwdIdeal.nD) → Buf (Elt Ideal) ((c.tc : Thread Cert.Norm1BwdIdeal.nD Cert.Norm1BwdIdeal.τ).loc Cert.Norm1BwdIdeal.main_v0_3)),
      θ_run (Cert.Norm1BwdIdeal.defs (F := Ideal)) (onTc (τ := Cert.Norm1BwdIdeal.τ) (Cert.Norm1BwdIdeal.main (F := Ideal))) ⟨m, fun _ => 0, g⟩ (fun r => ∀ c : Dev Cert.Norm1BwdIdeal.nD,
          r.2.mem ((c.tc : Thread Cert.Norm1BwdIdeal.nD Cert.Norm1BwdIdeal.τ).loc Cert.Norm1BwdIdeal.main_v0_0) = v0 c
          ∧ r.2.mem ((c.tc : Thread Cert.Norm1BwdIdeal.nD Cert.Norm1BwdIdeal.τ).loc Cert.Norm1BwdIdeal.main_v0_1) = v1 c
          ∧ r.2.mem ((c.tc : Thread Cert.Norm1BwdIdeal.nD Cert.Norm1BwdIdeal.τ).loc Cert.Norm1BwdIdeal.main_v0_2) = v2 c
          ∧ r.2.mem ((c.tc : Thread Cert.Norm1BwdIdeal.nD Cert.Norm1BwdIdeal.τ).loc Cert.Norm1BwdIdeal.main_v0_3) = v3 c
          ∧ r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
          ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
          ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
          ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
          ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4))
      ∧ θ_run (Cert.Norm1BwdRefIdeal.defs (F := Ideal)) (onTc (τ := Cert.Norm1BwdRefIdeal.τ) (Cert.Norm1BwdRefIdeal.main (F := Ideal))) ⟨m', fun _ => 0, g'⟩ (fun r => ∀ c : Dev Cert.Norm1BwdRefIdeal.nD,
          r.2.mem ((c.tc : Thread Cert.Norm1BwdRefIdeal.nD Cert.Norm1BwdRefIdeal.τ).loc Cert.Norm1BwdRefIdeal.main_v53) = v0 c
          ∧ r.2.mem ((c.tc : Thread Cert.Norm1BwdRefIdeal.nD Cert.Norm1BwdRefIdeal.τ).loc Cert.Norm1BwdRefIdeal.main_v26) = v1 c
          ∧ r.2.mem ((c.tc : Thread Cert.Norm1BwdRefIdeal.nD Cert.Norm1BwdRefIdeal.τ).loc Cert.Norm1BwdRefIdeal.main_v29) = v2 c
          ∧ r.2.mem ((c.tc : Thread Cert.Norm1BwdRefIdeal.nD Cert.Norm1BwdRefIdeal.τ).loc Cert.Norm1BwdRefIdeal.main_v38) = v3 c
          ∧ r.2.mem ((c.tc : Thread Cert.Norm1BwdRefIdeal.nD Cert.Norm1BwdRefIdeal.τ).loc Cert.Norm1BwdRefIdeal.main_arg0) = m' ((c.tc : Thread Cert.Norm1BwdRefIdeal.nD Cert.Norm1BwdRefIdeal.τ).loc Cert.Norm1BwdRefIdeal.main_arg0)
          ∧ r.2.mem ((c.tc : Thread Cert.Norm1BwdRefIdeal.nD Cert.Norm1BwdRefIdeal.τ).loc Cert.Norm1BwdRefIdeal.main_arg1) = m' ((c.tc : Thread Cert.Norm1BwdRefIdeal.nD Cert.Norm1BwdRefIdeal.τ).loc Cert.Norm1BwdRefIdeal.main_arg1)
          ∧ r.2.mem ((c.tc : Thread Cert.Norm1BwdRefIdeal.nD Cert.Norm1BwdRefIdeal.τ).loc Cert.Norm1BwdRefIdeal.main_arg2) = m' ((c.tc : Thread Cert.Norm1BwdRefIdeal.nD Cert.Norm1BwdRefIdeal.τ).loc Cert.Norm1BwdRefIdeal.main_arg2)
          ∧ r.2.mem ((c.tc : Thread Cert.Norm1BwdRefIdeal.nD Cert.Norm1BwdRefIdeal.τ).loc Cert.Norm1BwdRefIdeal.main_arg3) = m' ((c.tc : Thread Cert.Norm1BwdRefIdeal.nD Cert.Norm1BwdRefIdeal.τ).loc Cert.Norm1BwdRefIdeal.main_arg3)
          ∧ r.2.mem ((c.tc : Thread Cert.Norm1BwdRefIdeal.nD Cert.Norm1BwdRefIdeal.τ).loc Cert.Norm1BwdRefIdeal.main_arg4) = m' ((c.tc : Thread Cert.Norm1BwdRefIdeal.nD Cert.Norm1BwdRefIdeal.τ).loc Cert.Norm1BwdRefIdeal.main_arg4))

def preserves_Norm2Bwd_Norm2BwdIdeal : Prop :=
  True

def algebraic_Norm2BwdIdeal_Norm2BwdRefIdeal [hNorm2BwdIdeal : Cert.Norm2BwdIdeal.Facts] [hNorm2BwdRefIdeal : Cert.Norm2BwdRefIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg)
    (m' : (ℓ : Loc Cert.Norm2BwdRefIdeal.nD Cert.Norm2BwdRefIdeal.τ Cert.Norm2BwdRefIdeal.sig) → Buf (Elt Ideal) ℓ) (g' : Dev Cert.Norm2BwdRefIdeal.nD → PrngReg), Pre_Norm2BwdIdeal m →
    (∀ c : Dev Cert.Norm2BwdIdeal.nD,
      m' ((c.tc : Thread Cert.Norm2BwdRefIdeal.nD Cert.Norm2BwdRefIdeal.τ).loc Cert.Norm2BwdRefIdeal.main_arg0) = m ((c.tc : Thread Cert.Norm2BwdIdeal.nD Cert.Norm2BwdIdeal.τ).loc Cert.Norm2BwdIdeal.main_arg0)
      ∧ m' ((c.tc : Thread Cert.Norm2BwdRefIdeal.nD Cert.Norm2BwdRefIdeal.τ).loc Cert.Norm2BwdRefIdeal.main_arg1) = m ((c.tc : Thread Cert.Norm2BwdIdeal.nD Cert.Norm2BwdIdeal.τ).loc Cert.Norm2BwdIdeal.main_arg1)
      ∧ m' ((c.tc : Thread Cert.Norm2BwdRefIdeal.nD Cert.Norm2BwdRefIdeal.τ).loc Cert.Norm2BwdRefIdeal.main_arg2) = m ((c.tc : Thread Cert.Norm2BwdIdeal.nD Cert.Norm2BwdIdeal.τ).loc Cert.Norm2BwdIdeal.main_arg2)
      ∧ m' ((c.tc : Thread Cert.Norm2BwdRefIdeal.nD Cert.Norm2BwdRefIdeal.τ).loc Cert.Norm2BwdRefIdeal.main_arg3) = m ((c.tc : Thread Cert.Norm2BwdIdeal.nD Cert.Norm2BwdIdeal.τ).loc Cert.Norm2BwdIdeal.main_arg3)
      ∧ m' ((c.tc : Thread Cert.Norm2BwdRefIdeal.nD Cert.Norm2BwdRefIdeal.τ).loc Cert.Norm2BwdRefIdeal.main_arg4) = m ((c.tc : Thread Cert.Norm2BwdIdeal.nD Cert.Norm2BwdIdeal.τ).loc Cert.Norm2BwdIdeal.main_arg4)
      ∧ m' ((c.tc : Thread Cert.Norm2BwdRefIdeal.nD Cert.Norm2BwdRefIdeal.τ).loc Cert.Norm2BwdRefIdeal.main_arg5) = m ((c.tc : Thread Cert.Norm2BwdIdeal.nD Cert.Norm2BwdIdeal.τ).loc Cert.Norm2BwdIdeal.main_arg5)
      ∧ m' ((c.tc : Thread Cert.Norm2BwdRefIdeal.nD Cert.Norm2BwdRefIdeal.τ).loc Cert.Norm2BwdRefIdeal.main_arg6) = m ((c.tc : Thread Cert.Norm2BwdIdeal.nD Cert.Norm2BwdIdeal.τ).loc Cert.Norm2BwdIdeal.main_arg6)) →
    ∃ (v0 : (c : Dev Cert.Norm2BwdIdeal.nD) → Buf (Elt Ideal) ((c.tc : Thread Cert.Norm2BwdIdeal.nD Cert.Norm2BwdIdeal.τ).loc Cert.Norm2BwdIdeal.main_v0_0)) (v1 : (c : Dev Cert.Norm2BwdIdeal.nD) → Buf (Elt Ideal) ((c.tc : Thread Cert.Norm2BwdIdeal.nD Cert.Norm2BwdIdeal.τ).loc Cert.Norm2BwdIdeal.main_v0_1)) (v2 : (c : Dev Cert.Norm2BwdIdeal.nD) → Buf (Elt Ideal) ((c.tc : Thread Cert.Norm2BwdIdeal.nD Cert.Norm2BwdIdeal.τ).loc Cert.Norm2BwdIdeal.main_v0_2)) (v3 : (c : Dev Cert.Norm2BwdIdeal.nD) → Buf (Elt Ideal) ((c.tc : Thread Cert.Norm2BwdIdeal.nD Cert.Norm2BwdIdeal.τ).loc Cert.Norm2BwdIdeal.main_v0_3)) (v4 : (c : Dev Cert.Norm2BwdIdeal.nD) → Buf (Elt Ideal) ((c.tc : Thread Cert.Norm2BwdIdeal.nD Cert.Norm2BwdIdeal.τ).loc Cert.Norm2BwdIdeal.main_v0_4)) (v5 : (c : Dev Cert.Norm2BwdIdeal.nD) → Buf (Elt Ideal) ((c.tc : Thread Cert.Norm2BwdIdeal.nD Cert.Norm2BwdIdeal.τ).loc Cert.Norm2BwdIdeal.main_v0_5)),
      θ_run (Cert.Norm2BwdIdeal.defs (F := Ideal)) (onTc (τ := Cert.Norm2BwdIdeal.τ) (Cert.Norm2BwdIdeal.main (F := Ideal))) ⟨m, fun _ => 0, g⟩ (fun r => ∀ c : Dev Cert.Norm2BwdIdeal.nD,
          r.2.mem ((c.tc : Thread Cert.Norm2BwdIdeal.nD Cert.Norm2BwdIdeal.τ).loc Cert.Norm2BwdIdeal.main_v0_0) = v0 c
          ∧ r.2.mem ((c.tc : Thread Cert.Norm2BwdIdeal.nD Cert.Norm2BwdIdeal.τ).loc Cert.Norm2BwdIdeal.main_v0_1) = v1 c
          ∧ r.2.mem ((c.tc : Thread Cert.Norm2BwdIdeal.nD Cert.Norm2BwdIdeal.τ).loc Cert.Norm2BwdIdeal.main_v0_2) = v2 c
          ∧ r.2.mem ((c.tc : Thread Cert.Norm2BwdIdeal.nD Cert.Norm2BwdIdeal.τ).loc Cert.Norm2BwdIdeal.main_v0_3) = v3 c
          ∧ r.2.mem ((c.tc : Thread Cert.Norm2BwdIdeal.nD Cert.Norm2BwdIdeal.τ).loc Cert.Norm2BwdIdeal.main_v0_4) = v4 c
          ∧ r.2.mem ((c.tc : Thread Cert.Norm2BwdIdeal.nD Cert.Norm2BwdIdeal.τ).loc Cert.Norm2BwdIdeal.main_v0_5) = v5 c
          ∧ r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
          ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
          ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
          ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
          ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
          ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5)
          ∧ r.2.mem ((c.tc : Thread Cert.Norm2BwdIdeal.nD Cert.Norm2BwdIdeal.τ).loc Cert.Norm2BwdIdeal.main_arg6) = m ((c.tc : Thread Cert.Norm2BwdIdeal.nD Cert.Norm2BwdIdeal.τ).loc Cert.Norm2BwdIdeal.main_arg6))
      ∧ θ_run (Cert.Norm2BwdRefIdeal.defs (F := Ideal)) (onTc (τ := Cert.Norm2BwdRefIdeal.τ) (Cert.Norm2BwdRefIdeal.main (F := Ideal))) ⟨m', fun _ => 0, g'⟩ (fun r => ∀ c : Dev Cert.Norm2BwdRefIdeal.nD,
          r.2.mem ((c.tc : Thread Cert.Norm2BwdRefIdeal.nD Cert.Norm2BwdRefIdeal.τ).loc Cert.Norm2BwdRefIdeal.main_v61) = v0 c
          ∧ r.2.mem ((c.tc : Thread Cert.Norm2BwdRefIdeal.nD Cert.Norm2BwdRefIdeal.τ).loc Cert.Norm2BwdRefIdeal.main_v60) = v1 c
          ∧ r.2.mem ((c.tc : Thread Cert.Norm2BwdRefIdeal.nD Cert.Norm2BwdRefIdeal.τ).loc Cert.Norm2BwdRefIdeal.main_v53) = v2 c
          ∧ r.2.mem ((c.tc : Thread Cert.Norm2BwdRefIdeal.nD Cert.Norm2BwdRefIdeal.τ).loc Cert.Norm2BwdRefIdeal.main_v26) = v3 c
          ∧ r.2.mem ((c.tc : Thread Cert.Norm2BwdRefIdeal.nD Cert.Norm2BwdRefIdeal.τ).loc Cert.Norm2BwdRefIdeal.main_v29) = v4 c
          ∧ r.2.mem ((c.tc : Thread Cert.Norm2BwdRefIdeal.nD Cert.Norm2BwdRefIdeal.τ).loc Cert.Norm2BwdRefIdeal.main_v38) = v5 c
          ∧ r.2.mem ((c.tc : Thread Cert.Norm2BwdRefIdeal.nD Cert.Norm2BwdRefIdeal.τ).loc Cert.Norm2BwdRefIdeal.main_arg0) = m' ((c.tc : Thread Cert.Norm2BwdRefIdeal.nD Cert.Norm2BwdRefIdeal.τ).loc Cert.Norm2BwdRefIdeal.main_arg0)
          ∧ r.2.mem ((c.tc : Thread Cert.Norm2BwdRefIdeal.nD Cert.Norm2BwdRefIdeal.τ).loc Cert.Norm2BwdRefIdeal.main_arg1) = m' ((c.tc : Thread Cert.Norm2BwdRefIdeal.nD Cert.Norm2BwdRefIdeal.τ).loc Cert.Norm2BwdRefIdeal.main_arg1)
          ∧ r.2.mem ((c.tc : Thread Cert.Norm2BwdRefIdeal.nD Cert.Norm2BwdRefIdeal.τ).loc Cert.Norm2BwdRefIdeal.main_arg2) = m' ((c.tc : Thread Cert.Norm2BwdRefIdeal.nD Cert.Norm2BwdRefIdeal.τ).loc Cert.Norm2BwdRefIdeal.main_arg2)
          ∧ r.2.mem ((c.tc : Thread Cert.Norm2BwdRefIdeal.nD Cert.Norm2BwdRefIdeal.τ).loc Cert.Norm2BwdRefIdeal.main_arg3) = m' ((c.tc : Thread Cert.Norm2BwdRefIdeal.nD Cert.Norm2BwdRefIdeal.τ).loc Cert.Norm2BwdRefIdeal.main_arg3)
          ∧ r.2.mem ((c.tc : Thread Cert.Norm2BwdRefIdeal.nD Cert.Norm2BwdRefIdeal.τ).loc Cert.Norm2BwdRefIdeal.main_arg4) = m' ((c.tc : Thread Cert.Norm2BwdRefIdeal.nD Cert.Norm2BwdRefIdeal.τ).loc Cert.Norm2BwdRefIdeal.main_arg4)
          ∧ r.2.mem ((c.tc : Thread Cert.Norm2BwdRefIdeal.nD Cert.Norm2BwdRefIdeal.τ).loc Cert.Norm2BwdRefIdeal.main_arg5) = m' ((c.tc : Thread Cert.Norm2BwdRefIdeal.nD Cert.Norm2BwdRefIdeal.τ).loc Cert.Norm2BwdRefIdeal.main_arg5)
          ∧ r.2.mem ((c.tc : Thread Cert.Norm2BwdRefIdeal.nD Cert.Norm2BwdRefIdeal.τ).loc Cert.Norm2BwdRefIdeal.main_arg6) = m' ((c.tc : Thread Cert.Norm2BwdRefIdeal.nD Cert.Norm2BwdRefIdeal.τ).loc Cert.Norm2BwdRefIdeal.main_arg6))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamProjRnn_AdamProjRnnIdeal : Prop :=
  True

def algebraic_AdamProjRnnIdeal_AdamProjRnnRefIdeal [hAdamProjRnnIdeal : Cert.AdamProjRnnIdeal.Facts] [hAdamProjRnnRefIdeal : Cert.AdamProjRnnRefIdeal.Facts] : Prop :=
  ∀ (m : (ℓ : Loc Cert.AdamProjRnnIdeal.nD Cert.AdamProjRnnIdeal.τ Cert.AdamProjRnnIdeal.sig) → Buf (Elt Ideal) ℓ) (g : Dev Cert.AdamProjRnnIdeal.nD → PrngReg)
    (m' : (ℓ : Loc Cert.AdamProjRnnRefIdeal.nD Cert.AdamProjRnnRefIdeal.τ Cert.AdamProjRnnRefIdeal.sig) → Buf (Elt Ideal) ℓ) (g' : Dev Cert.AdamProjRnnRefIdeal.nD → PrngReg), Pre_AdamProjRnnIdeal m →
    (∀ c : Dev Cert.AdamProjRnnIdeal.nD,
      m' ((c.tc : Thread Cert.AdamProjRnnRefIdeal.nD Cert.AdamProjRnnRefIdeal.τ).loc Cert.AdamProjRnnRefIdeal.main_arg0) = m ((c.tc : Thread Cert.AdamProjRnnIdeal.nD Cert.AdamProjRnnIdeal.τ).loc Cert.AdamProjRnnIdeal.main_arg0)
      ∧ m' ((c.tc : Thread Cert.AdamProjRnnRefIdeal.nD Cert.AdamProjRnnRefIdeal.τ).loc Cert.AdamProjRnnRefIdeal.main_arg1) = m ((c.tc : Thread Cert.AdamProjRnnIdeal.nD Cert.AdamProjRnnIdeal.τ).loc Cert.AdamProjRnnIdeal.main_arg1)
      ∧ m' ((c.tc : Thread Cert.AdamProjRnnRefIdeal.nD Cert.AdamProjRnnRefIdeal.τ).loc Cert.AdamProjRnnRefIdeal.main_arg2) = m ((c.tc : Thread Cert.AdamProjRnnIdeal.nD Cert.AdamProjRnnIdeal.τ).loc Cert.AdamProjRnnIdeal.main_arg2)
      ∧ m' ((c.tc : Thread Cert.AdamProjRnnRefIdeal.nD Cert.AdamProjRnnRefIdeal.τ).loc Cert.AdamProjRnnRefIdeal.main_arg3) = m ((c.tc : Thread Cert.AdamProjRnnIdeal.nD Cert.AdamProjRnnIdeal.τ).loc Cert.AdamProjRnnIdeal.main_arg3)) →
    ∃ (v0 : (c : Dev Cert.AdamProjRnnIdeal.nD) → Buf (Elt Ideal) ((c.tc : Thread Cert.AdamProjRnnIdeal.nD Cert.AdamProjRnnIdeal.τ).loc Cert.AdamProjRnnIdeal.main_v0_0)) (v1 : (c : Dev Cert.AdamProjRnnIdeal.nD) → Buf (Elt Ideal) ((c.tc : Thread Cert.AdamProjRnnIdeal.nD Cert.AdamProjRnnIdeal.τ).loc Cert.AdamProjRnnIdeal.main_v0_1)) (v2 : (c : Dev Cert.AdamProjRnnIdeal.nD) → Buf (Elt Ideal) ((c.tc : Thread Cert.AdamProjRnnIdeal.nD Cert.AdamProjRnnIdeal.τ).loc Cert.AdamProjRnnIdeal.main_v0_2)),
      θ_run (Cert.AdamProjRnnIdeal.defs (F := Ideal)) (onTc (τ := Cert.AdamProjRnnIdeal.τ) (Cert.AdamProjRnnIdeal.main (F := Ideal))) ⟨m, fun _ => 0, g⟩ (fun r => ∀ c : Dev Cert.AdamProjRnnIdeal.nD,
          r.2.mem ((c.tc : Thread Cert.AdamProjRnnIdeal.nD Cert.AdamProjRnnIdeal.τ).loc Cert.AdamProjRnnIdeal.main_v0_0) = v0 c
          ∧ r.2.mem ((c.tc : Thread Cert.AdamProjRnnIdeal.nD Cert.AdamProjRnnIdeal.τ).loc Cert.AdamProjRnnIdeal.main_v0_1) = v1 c
          ∧ r.2.mem ((c.tc : Thread Cert.AdamProjRnnIdeal.nD Cert.AdamProjRnnIdeal.τ).loc Cert.AdamProjRnnIdeal.main_v0_2) = v2 c
          ∧ r.2.mem ((c.tc : Thread Cert.AdamProjRnnIdeal.nD Cert.AdamProjRnnIdeal.τ).loc Cert.AdamProjRnnIdeal.main_arg0) = m ((c.tc : Thread Cert.AdamProjRnnIdeal.nD Cert.AdamProjRnnIdeal.τ).loc Cert.AdamProjRnnIdeal.main_arg0)
          ∧ r.2.mem ((c.tc : Thread Cert.AdamProjRnnIdeal.nD Cert.AdamProjRnnIdeal.τ).loc Cert.AdamProjRnnIdeal.main_arg1) = m ((c.tc : Thread Cert.AdamProjRnnIdeal.nD Cert.AdamProjRnnIdeal.τ).loc Cert.AdamProjRnnIdeal.main_arg1)
          ∧ r.2.mem ((c.tc : Thread Cert.AdamProjRnnIdeal.nD Cert.AdamProjRnnIdeal.τ).loc Cert.AdamProjRnnIdeal.main_arg2) = m ((c.tc : Thread Cert.AdamProjRnnIdeal.nD Cert.AdamProjRnnIdeal.τ).loc Cert.AdamProjRnnIdeal.main_arg2)
          ∧ r.2.mem ((c.tc : Thread Cert.AdamProjRnnIdeal.nD Cert.AdamProjRnnIdeal.τ).loc Cert.AdamProjRnnIdeal.main_arg3) = m ((c.tc : Thread Cert.AdamProjRnnIdeal.nD Cert.AdamProjRnnIdeal.τ).loc Cert.AdamProjRnnIdeal.main_arg3))
      ∧ θ_run (Cert.AdamProjRnnRefIdeal.defs (F := Ideal)) (onTc (τ := Cert.AdamProjRnnRefIdeal.τ) (Cert.AdamProjRnnRefIdeal.main (F := Ideal))) ⟨m', fun _ => 0, g'⟩ (fun r => ∀ c : Dev Cert.AdamProjRnnRefIdeal.nD,
          r.2.mem ((c.tc : Thread Cert.AdamProjRnnRefIdeal.nD Cert.AdamProjRnnRefIdeal.τ).loc Cert.AdamProjRnnRefIdeal.main_v23) = v0 c
          ∧ r.2.mem ((c.tc : Thread Cert.AdamProjRnnRefIdeal.nD Cert.AdamProjRnnRefIdeal.τ).loc Cert.AdamProjRnnRefIdeal.main_v4) = v1 c
          ∧ r.2.mem ((c.tc : Thread Cert.AdamProjRnnRefIdeal.nD Cert.AdamProjRnnRefIdeal.τ).loc Cert.AdamProjRnnRefIdeal.main_v10) = v2 c
          ∧ r.2.mem ((c.tc : Thread Cert.AdamProjRnnRefIdeal.nD Cert.AdamProjRnnRefIdeal.τ).loc Cert.AdamProjRnnRefIdeal.main_arg0) = m' ((c.tc : Thread Cert.AdamProjRnnRefIdeal.nD Cert.AdamProjRnnRefIdeal.τ).loc Cert.AdamProjRnnRefIdeal.main_arg0)
          ∧ r.2.mem ((c.tc : Thread Cert.AdamProjRnnRefIdeal.nD Cert.AdamProjRnnRefIdeal.τ).loc Cert.AdamProjRnnRefIdeal.main_arg1) = m' ((c.tc : Thread Cert.AdamProjRnnRefIdeal.nD Cert.AdamProjRnnRefIdeal.τ).loc Cert.AdamProjRnnRefIdeal.main_arg1)
          ∧ r.2.mem ((c.tc : Thread Cert.AdamProjRnnRefIdeal.nD Cert.AdamProjRnnRefIdeal.τ).loc Cert.AdamProjRnnRefIdeal.main_arg2) = m' ((c.tc : Thread Cert.AdamProjRnnRefIdeal.nD Cert.AdamProjRnnRefIdeal.τ).loc Cert.AdamProjRnnRefIdeal.main_arg2)
          ∧ r.2.mem ((c.tc : Thread Cert.AdamProjRnnRefIdeal.nD Cert.AdamProjRnnRefIdeal.τ).loc Cert.AdamProjRnnRefIdeal.main_arg3) = m' ((c.tc : Thread Cert.AdamProjRnnRefIdeal.nD Cert.AdamProjRnnRefIdeal.τ).loc Cert.AdamProjRnnRefIdeal.main_arg3))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v23) = v0 c
          ∧ r.2.mem ((c.tc : Thread Cert.AdamSquareRefIdeal.nD Cert.AdamSquareRefIdeal.τ).loc Cert.AdamSquareRefIdeal.main_v4) = v1 c
          ∧ r.2.mem ((c.tc : Thread Cert.AdamSquareRefIdeal.nD Cert.AdamSquareRefIdeal.τ).loc Cert.AdamSquareRefIdeal.main_v10) = v2 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamAdaFinal_AdamAdaFinalIdeal : Prop :=
  True

def algebraic_AdamAdaFinalIdeal_AdamAdaFinalRefIdeal [hAdamAdaFinalIdeal : Cert.AdamAdaFinalIdeal.Facts] [hAdamAdaFinalRefIdeal : Cert.AdamAdaFinalRefIdeal.Facts] : Prop :=
  ∀ (m : (ℓ : Loc Cert.AdamAdaFinalIdeal.nD Cert.AdamAdaFinalIdeal.τ Cert.AdamAdaFinalIdeal.sig) → Buf (Elt Ideal) ℓ) (g : Dev Cert.AdamAdaFinalIdeal.nD → PrngReg)
    (m' : (ℓ : Loc Cert.AdamAdaFinalRefIdeal.nD Cert.AdamAdaFinalRefIdeal.τ Cert.AdamAdaFinalRefIdeal.sig) → Buf (Elt Ideal) ℓ) (g' : Dev Cert.AdamAdaFinalRefIdeal.nD → PrngReg), Pre_AdamAdaFinalIdeal m →
    (∀ c : Dev Cert.AdamAdaFinalIdeal.nD,
      m' ((c.tc : Thread Cert.AdamAdaFinalRefIdeal.nD Cert.AdamAdaFinalRefIdeal.τ).loc Cert.AdamAdaFinalRefIdeal.main_arg0) = m ((c.tc : Thread Cert.AdamAdaFinalIdeal.nD Cert.AdamAdaFinalIdeal.τ).loc Cert.AdamAdaFinalIdeal.main_arg0)
      ∧ m' ((c.tc : Thread Cert.AdamAdaFinalRefIdeal.nD Cert.AdamAdaFinalRefIdeal.τ).loc Cert.AdamAdaFinalRefIdeal.main_arg1) = m ((c.tc : Thread Cert.AdamAdaFinalIdeal.nD Cert.AdamAdaFinalIdeal.τ).loc Cert.AdamAdaFinalIdeal.main_arg1)
      ∧ m' ((c.tc : Thread Cert.AdamAdaFinalRefIdeal.nD Cert.AdamAdaFinalRefIdeal.τ).loc Cert.AdamAdaFinalRefIdeal.main_arg2) = m ((c.tc : Thread Cert.AdamAdaFinalIdeal.nD Cert.AdamAdaFinalIdeal.τ).loc Cert.AdamAdaFinalIdeal.main_arg2)
      ∧ m' ((c.tc : Thread Cert.AdamAdaFinalRefIdeal.nD Cert.AdamAdaFinalRefIdeal.τ).loc Cert.AdamAdaFinalRefIdeal.main_arg3) = m ((c.tc : Thread Cert.AdamAdaFinalIdeal.nD Cert.AdamAdaFinalIdeal.τ).loc Cert.AdamAdaFinalIdeal.main_arg3)) →
    ∃ (v0 : (c : Dev Cert.AdamAdaFinalIdeal.nD) → Buf (Elt Ideal) ((c.tc : Thread Cert.AdamAdaFinalIdeal.nD Cert.AdamAdaFinalIdeal.τ).loc Cert.AdamAdaFinalIdeal.main_v0_0)) (v1 : (c : Dev Cert.AdamAdaFinalIdeal.nD) → Buf (Elt Ideal) ((c.tc : Thread Cert.AdamAdaFinalIdeal.nD Cert.AdamAdaFinalIdeal.τ).loc Cert.AdamAdaFinalIdeal.main_v0_1)) (v2 : (c : Dev Cert.AdamAdaFinalIdeal.nD) → Buf (Elt Ideal) ((c.tc : Thread Cert.AdamAdaFinalIdeal.nD Cert.AdamAdaFinalIdeal.τ).loc Cert.AdamAdaFinalIdeal.main_v0_2)),
      θ_run (Cert.AdamAdaFinalIdeal.defs (F := Ideal)) (onTc (τ := Cert.AdamAdaFinalIdeal.τ) (Cert.AdamAdaFinalIdeal.main (F := Ideal))) ⟨m, fun _ => 0, g⟩ (fun r => ∀ c : Dev Cert.AdamAdaFinalIdeal.nD,
          r.2.mem ((c.tc : Thread Cert.AdamAdaFinalIdeal.nD Cert.AdamAdaFinalIdeal.τ).loc Cert.AdamAdaFinalIdeal.main_v0_0) = v0 c
          ∧ r.2.mem ((c.tc : Thread Cert.AdamAdaFinalIdeal.nD Cert.AdamAdaFinalIdeal.τ).loc Cert.AdamAdaFinalIdeal.main_v0_1) = v1 c
          ∧ r.2.mem ((c.tc : Thread Cert.AdamAdaFinalIdeal.nD Cert.AdamAdaFinalIdeal.τ).loc Cert.AdamAdaFinalIdeal.main_v0_2) = v2 c
          ∧ r.2.mem ((c.tc : Thread Cert.AdamAdaFinalIdeal.nD Cert.AdamAdaFinalIdeal.τ).loc Cert.AdamAdaFinalIdeal.main_arg0) = m ((c.tc : Thread Cert.AdamAdaFinalIdeal.nD Cert.AdamAdaFinalIdeal.τ).loc Cert.AdamAdaFinalIdeal.main_arg0)
          ∧ r.2.mem ((c.tc : Thread Cert.AdamAdaFinalIdeal.nD Cert.AdamAdaFinalIdeal.τ).loc Cert.AdamAdaFinalIdeal.main_arg1) = m ((c.tc : Thread Cert.AdamAdaFinalIdeal.nD Cert.AdamAdaFinalIdeal.τ).loc Cert.AdamAdaFinalIdeal.main_arg1)
          ∧ r.2.mem ((c.tc : Thread Cert.AdamAdaFinalIdeal.nD Cert.AdamAdaFinalIdeal.τ).loc Cert.AdamAdaFinalIdeal.main_arg2) = m ((c.tc : Thread Cert.AdamAdaFinalIdeal.nD Cert.AdamAdaFinalIdeal.τ).loc Cert.AdamAdaFinalIdeal.main_arg2)
          ∧ r.2.mem ((c.tc : Thread Cert.AdamAdaFinalIdeal.nD Cert.AdamAdaFinalIdeal.τ).loc Cert.AdamAdaFinalIdeal.main_arg3) = m ((c.tc : Thread Cert.AdamAdaFinalIdeal.nD Cert.AdamAdaFinalIdeal.τ).loc Cert.AdamAdaFinalIdeal.main_arg3))
      ∧ θ_run (Cert.AdamAdaFinalRefIdeal.defs (F := Ideal)) (onTc (τ := Cert.AdamAdaFinalRefIdeal.τ) (Cert.AdamAdaFinalRefIdeal.main (F := Ideal))) ⟨m', fun _ => 0, g'⟩ (fun r => ∀ c : Dev Cert.AdamAdaFinalRefIdeal.nD,
          r.2.mem ((c.tc : Thread Cert.AdamAdaFinalRefIdeal.nD Cert.AdamAdaFinalRefIdeal.τ).loc Cert.AdamAdaFinalRefIdeal.main_v23) = v0 c
          ∧ r.2.mem ((c.tc : Thread Cert.AdamAdaFinalRefIdeal.nD Cert.AdamAdaFinalRefIdeal.τ).loc Cert.AdamAdaFinalRefIdeal.main_v4) = v1 c
          ∧ r.2.mem ((c.tc : Thread Cert.AdamAdaFinalRefIdeal.nD Cert.AdamAdaFinalRefIdeal.τ).loc Cert.AdamAdaFinalRefIdeal.main_v10) = v2 c
          ∧ r.2.mem ((c.tc : Thread Cert.AdamAdaFinalRefIdeal.nD Cert.AdamAdaFinalRefIdeal.τ).loc Cert.AdamAdaFinalRefIdeal.main_arg0) = m' ((c.tc : Thread Cert.AdamAdaFinalRefIdeal.nD Cert.AdamAdaFinalRefIdeal.τ).loc Cert.AdamAdaFinalRefIdeal.main_arg0)
          ∧ r.2.mem ((c.tc : Thread Cert.AdamAdaFinalRefIdeal.nD Cert.AdamAdaFinalRefIdeal.τ).loc Cert.AdamAdaFinalRefIdeal.main_arg1) = m' ((c.tc : Thread Cert.AdamAdaFinalRefIdeal.nD Cert.AdamAdaFinalRefIdeal.τ).loc Cert.AdamAdaFinalRefIdeal.main_arg1)
          ∧ r.2.mem ((c.tc : Thread Cert.AdamAdaFinalRefIdeal.nD Cert.AdamAdaFinalRefIdeal.τ).loc Cert.AdamAdaFinalRefIdeal.main_arg2) = m' ((c.tc : Thread Cert.AdamAdaFinalRefIdeal.nD Cert.AdamAdaFinalRefIdeal.τ).loc Cert.AdamAdaFinalRefIdeal.main_arg2)
          ∧ r.2.mem ((c.tc : Thread Cert.AdamAdaFinalRefIdeal.nD Cert.AdamAdaFinalRefIdeal.τ).loc Cert.AdamAdaFinalRefIdeal.main_arg3) = m' ((c.tc : Thread Cert.AdamAdaFinalRefIdeal.nD Cert.AdamAdaFinalRefIdeal.τ).loc Cert.AdamAdaFinalRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)
      ∧ m' ((c.tc : Thread Cert.FinalRefIdeal.nD Cert.FinalRefIdeal.τ).loc Cert.FinalRefIdeal.main_arg5) = m ((c.tc : Thread Cert.FinalIdeal.nD Cert.FinalIdeal.τ).loc Cert.FinalIdeal.main_arg5)
      ∧ m' ((c.tc : Thread Cert.FinalRefIdeal.nD Cert.FinalRefIdeal.τ).loc Cert.FinalRefIdeal.main_arg6) = m ((c.tc : Thread Cert.FinalIdeal.nD Cert.FinalIdeal.τ).loc Cert.FinalIdeal.main_arg6)) →
    ∃ (v0 : (c : Dev Cert.FinalIdeal.nD) → Buf (Elt Ideal) ((c.tc : Thread Cert.FinalIdeal.nD Cert.FinalIdeal.τ).loc Cert.FinalIdeal.main_v0_0)) (v1 : (c : Dev Cert.FinalIdeal.nD) → Buf (Elt Ideal) ((c.tc : Thread Cert.FinalIdeal.nD Cert.FinalIdeal.τ).loc Cert.FinalIdeal.main_v0_1)) (v2 : (c : Dev Cert.FinalIdeal.nD) → Buf (Elt Ideal) ((c.tc : Thread Cert.FinalIdeal.nD Cert.FinalIdeal.τ).loc Cert.FinalIdeal.main_v0_2)) (v3 : (c : Dev Cert.FinalIdeal.nD) → Buf (Elt Ideal) ((c.tc : Thread Cert.FinalIdeal.nD Cert.FinalIdeal.τ).loc Cert.FinalIdeal.main_v0_3)) (v4 : (c : Dev Cert.FinalIdeal.nD) → Buf (Elt Ideal) ((c.tc : Thread Cert.FinalIdeal.nD Cert.FinalIdeal.τ).loc Cert.FinalIdeal.main_v0_4)) (v5 : (c : Dev Cert.FinalIdeal.nD) → Buf (Elt Ideal) ((c.tc : Thread Cert.FinalIdeal.nD Cert.FinalIdeal.τ).loc Cert.FinalIdeal.main_v0_5)) (v6 : (c : Dev Cert.FinalIdeal.nD) → Buf (Elt Ideal) ((c.tc : Thread Cert.FinalIdeal.nD Cert.FinalIdeal.τ).loc Cert.FinalIdeal.main_v0_6)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0_0) = v0 c
          ∧ r.2.mem ((c.tc : Thread Cert.FinalIdeal.nD Cert.FinalIdeal.τ).loc Cert.FinalIdeal.main_v0_1) = v1 c
          ∧ r.2.mem ((c.tc : Thread Cert.FinalIdeal.nD Cert.FinalIdeal.τ).loc Cert.FinalIdeal.main_v0_2) = v2 c
          ∧ r.2.mem ((c.tc : Thread Cert.FinalIdeal.nD Cert.FinalIdeal.τ).loc Cert.FinalIdeal.main_v0_3) = v3 c
          ∧ r.2.mem ((c.tc : Thread Cert.FinalIdeal.nD Cert.FinalIdeal.τ).loc Cert.FinalIdeal.main_v0_4) = v4 c
          ∧ r.2.mem ((c.tc : Thread Cert.FinalIdeal.nD Cert.FinalIdeal.τ).loc Cert.FinalIdeal.main_v0_5) = v5 c
          ∧ r.2.mem ((c.tc : Thread Cert.FinalIdeal.nD Cert.FinalIdeal.τ).loc Cert.FinalIdeal.main_v0_6) = v6 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
          ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v68) = v0 c
          ∧ r.2.mem ((c.tc : Thread Cert.FinalRefIdeal.nD Cert.FinalRefIdeal.τ).loc Cert.FinalRefIdeal.main_v74) = v1 c
          ∧ r.2.mem ((c.tc : Thread Cert.FinalRefIdeal.nD Cert.FinalRefIdeal.τ).loc Cert.FinalRefIdeal.main_v73) = v2 c
          ∧ r.2.mem ((c.tc : Thread Cert.FinalRefIdeal.nD Cert.FinalRefIdeal.τ).loc Cert.FinalRefIdeal.main_v42) = v3 c
          ∧ r.2.mem ((c.tc : Thread Cert.FinalRefIdeal.nD Cert.FinalRefIdeal.τ).loc Cert.FinalRefIdeal.main_v45) = v4 c
          ∧ r.2.mem ((c.tc : Thread Cert.FinalRefIdeal.nD Cert.FinalRefIdeal.τ).loc Cert.FinalRefIdeal.main_v54) = v5 c
          ∧ r.2.mem ((c.tc : Thread Cert.FinalRefIdeal.nD Cert.FinalRefIdeal.τ).loc Cert.FinalRefIdeal.main_v75) = v6 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4)
          ∧ r.2.mem ((c.tc : Thread Cert.FinalRefIdeal.nD Cert.FinalRefIdeal.τ).loc Cert.FinalRefIdeal.main_arg5) = m' ((c.tc : Thread Cert.FinalRefIdeal.nD Cert.FinalRefIdeal.τ).loc Cert.FinalRefIdeal.main_arg5)
          ∧ r.2.mem ((c.tc : Thread Cert.FinalRefIdeal.nD Cert.FinalRefIdeal.τ).loc Cert.FinalRefIdeal.main_arg6) = m' ((c.tc : Thread Cert.FinalRefIdeal.nD Cert.FinalRefIdeal.τ).loc Cert.FinalRefIdeal.main_arg6))

def Claim : Prop :=
  ∃ (hKernel : Cert.Kernel.Facts) (hKernelIdeal : Cert.KernelIdeal.Facts) (hReferenceIdeal : Cert.ReferenceIdeal.Facts) (hDwSquare : Cert.DwSquare.Facts) (hDwSquareIdeal : Cert.DwSquareIdeal.Facts) (hDwSquareRefIdeal : Cert.DwSquareRefIdeal.Facts) (hDFfnAct : Cert.DFfnAct.Facts) (hDFfnActIdeal : Cert.DFfnActIdeal.Facts) (hDFfnActRefIdeal : Cert.DFfnActRefIdeal.Facts) (hFfnUp : Cert.FfnUp.Facts) (hFfnUpIdeal : Cert.FfnUpIdeal.Facts) (hFfnUpRefIdeal : Cert.FfnUpRefIdeal.Facts) (hDwFfnUp : Cert.DwFfnUp.Facts) (hDwFfnUpIdeal : Cert.DwFfnUpIdeal.Facts) (hDwFfnUpRefIdeal : Cert.DwFfnUpRefIdeal.Facts) (hDH2 : Cert.DH2.Facts) (hDH2Ideal : Cert.DH2Ideal.Facts) (hDH2RefIdeal : Cert.DH2RefIdeal.Facts) (hDH1 : Cert.DH1.Facts) (hDH1Ideal : Cert.DH1Ideal.Facts) (hDH1RefIdeal : Cert.DH1RefIdeal.Facts) (hDwFfnDown : Cert.DwFfnDown.Facts) (hDwFfnDownIdeal : Cert.DwFfnDownIdeal.Facts) (hDwFfnDownRefIdeal : Cert.DwFfnDownRefIdeal.Facts) (hFfnDown : Cert.FfnDown.Facts) (hFfnDownIdeal : Cert.FfnDownIdeal.Facts) (hFfnDownRefIdeal : Cert.FfnDownRefIdeal.Facts) (hInRnn : Cert.InRnn.Facts) (hInRnnIdeal : Cert.InRnnIdeal.Facts) (hInRnnRefIdeal : Cert.InRnnRefIdeal.Facts) (hDwInRnn : Cert.DwInRnn.Facts) (hDwInRnnIdeal : Cert.DwInRnnIdeal.Facts) (hDwInRnnRefIdeal : Cert.DwInRnnRefIdeal.Facts) (hDH1Rnn : Cert.DH1Rnn.Facts) (hDH1RnnIdeal : Cert.DH1RnnIdeal.Facts) (hDH1RnnRefIdeal : Cert.DH1RnnRefIdeal.Facts) (hMixOut : Cert.MixOut.Facts) (hMixOutIdeal : Cert.MixOutIdeal.Facts) (hMixOutRefIdeal : Cert.MixOutRefIdeal.Facts) (hDMerged : Cert.DMerged.Facts) (hDMergedIdeal : Cert.DMergedIdeal.Facts) (hDMergedRefIdeal : Cert.DMergedRefIdeal.Facts) (hInKv : Cert.InKv.Facts) (hInKvIdeal : Cert.InKvIdeal.Facts) (hInKvRefIdeal : Cert.InKvRefIdeal.Facts) (hInMg : Cert.InMg.Facts) (hInMgIdeal : Cert.InMgIdeal.Facts) (hInMgRefIdeal : Cert.InMgRefIdeal.Facts) (hDYRnn : Cert.DYRnn.Facts) (hDYRnnIdeal : Cert.DYRnnIdeal.Facts) (hDYRnnRefIdeal : Cert.DYRnnRefIdeal.Facts) (hDwProjRnn : Cert.DwProjRnn.Facts) (hDwProjRnnIdeal : Cert.DwProjRnnIdeal.Facts) (hDwProjRnnRefIdeal : Cert.DwProjRnnRefIdeal.Facts) (hProjRnn : Cert.ProjRnn.Facts) (hProjRnnIdeal : Cert.ProjRnnIdeal.Facts) (hProjRnnRefIdeal : Cert.ProjRnnRefIdeal.Facts) (hInQ : Cert.InQ.Facts) (hInQIdeal : Cert.InQIdeal.Facts) (hInQRefIdeal : Cert.InQRefIdeal.Facts) (hProjAttn : Cert.ProjAttn.Facts) (hProjAttnIdeal : Cert.ProjAttnIdeal.Facts) (hProjAttnRefIdeal : Cert.ProjAttnRefIdeal.Facts) (hDwProjAttn : Cert.DwProjAttn.Facts) (hDwProjAttnIdeal : Cert.DwProjAttnIdeal.Facts) (hDwProjAttnRefIdeal : Cert.DwProjAttnRefIdeal.Facts) (hInFl : Cert.InFl.Facts) (hInFlIdeal : Cert.InFlIdeal.Facts) (hInFlRefIdeal : Cert.InFlRefIdeal.Facts) (hDwInFl : Cert.DwInFl.Facts) (hDwInFlIdeal : Cert.DwInFlIdeal.Facts) (hDwInFlRefIdeal : Cert.DwInFlRefIdeal.Facts) (hDH1Fl : Cert.DH1Fl.Facts) (hDH1FlIdeal : Cert.DH1FlIdeal.Facts) (hDH1FlRefIdeal : Cert.DH1FlRefIdeal.Facts) (hMergeBwd : Cert.MergeBwd.Facts) (hMergeBwdIdeal : Cert.MergeBwdIdeal.Facts) (hMergeBwdRefIdeal : Cert.MergeBwdRefIdeal.Facts) (hMergeFwd : Cert.MergeFwd.Facts) (hMergeFwdIdeal : Cert.MergeFwdIdeal.Facts) (hMergeFwdRefIdeal : Cert.MergeFwdRefIdeal.Facts) (hNorm1 : Cert.Norm1.Facts) (hNorm1Ideal : Cert.Norm1Ideal.Facts) (hNorm1RefIdeal : Cert.Norm1RefIdeal.Facts) (hNorm2 : Cert.Norm2.Facts) (hNorm2Ideal : Cert.Norm2Ideal.Facts) (hNorm2RefIdeal : Cert.Norm2RefIdeal.Facts) (hNorm1Bwd : Cert.Norm1Bwd.Facts) (hNorm1BwdIdeal : Cert.Norm1BwdIdeal.Facts) (hNorm1BwdRefIdeal : Cert.Norm1BwdRefIdeal.Facts) (hNorm2Bwd : Cert.Norm2Bwd.Facts) (hNorm2BwdIdeal : Cert.Norm2BwdIdeal.Facts) (hNorm2BwdRefIdeal : Cert.Norm2BwdRefIdeal.Facts) (hAdamIn : Cert.AdamIn.Facts) (hAdamInIdeal : Cert.AdamInIdeal.Facts) (hAdamInRefIdeal : Cert.AdamInRefIdeal.Facts) (hAdamUp : Cert.AdamUp.Facts) (hAdamUpIdeal : Cert.AdamUpIdeal.Facts) (hAdamUpRefIdeal : Cert.AdamUpRefIdeal.Facts) (hAdamProjRnn : Cert.AdamProjRnn.Facts) (hAdamProjRnnIdeal : Cert.AdamProjRnnIdeal.Facts) (hAdamProjRnnRefIdeal : Cert.AdamProjRnnRefIdeal.Facts) (hAdamSquare : Cert.AdamSquare.Facts) (hAdamSquareIdeal : Cert.AdamSquareIdeal.Facts) (hAdamSquareRefIdeal : Cert.AdamSquareRefIdeal.Facts) (hAdamDown : Cert.AdamDown.Facts) (hAdamDownIdeal : Cert.AdamDownIdeal.Facts) (hAdamDownRefIdeal : Cert.AdamDownRefIdeal.Facts) (hAdamAdaFinal : Cert.AdamAdaFinal.Facts) (hAdamAdaFinalIdeal : Cert.AdamAdaFinalIdeal.Facts) (hAdamAdaFinalRefIdeal : Cert.AdamAdaFinalRefIdeal.Facts) (hAdamSmall : Cert.AdamSmall.Facts) (hAdamSmallIdeal : Cert.AdamSmallIdeal.Facts) (hAdamSmallRefIdeal : Cert.AdamSmallRefIdeal.Facts) (hFinal : Cert.Final.Facts) (hFinalIdeal : Cert.FinalIdeal.Facts) (hFinalRefIdeal : Cert.FinalRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwSquare (hDwSquare := hDwSquare)
    ∧ quiescent_DwSquareIdeal (hDwSquareIdeal := hDwSquareIdeal)
    ∧ quiescent_DwSquareRefIdeal (hDwSquareRefIdeal := hDwSquareRefIdeal)
    ∧ quiescent_DFfnAct (hDFfnAct := hDFfnAct)
    ∧ quiescent_DFfnActIdeal (hDFfnActIdeal := hDFfnActIdeal)
    ∧ quiescent_DFfnActRefIdeal (hDFfnActRefIdeal := hDFfnActRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_DwFfnUp (hDwFfnUp := hDwFfnUp)
    ∧ quiescent_DwFfnUpIdeal (hDwFfnUpIdeal := hDwFfnUpIdeal)
    ∧ quiescent_DwFfnUpRefIdeal (hDwFfnUpRefIdeal := hDwFfnUpRefIdeal)
    ∧ quiescent_DH2 (hDH2 := hDH2)
    ∧ quiescent_DH2Ideal (hDH2Ideal := hDH2Ideal)
    ∧ quiescent_DH2RefIdeal (hDH2RefIdeal := hDH2RefIdeal)
    ∧ quiescent_DH1 (hDH1 := hDH1)
    ∧ quiescent_DH1Ideal (hDH1Ideal := hDH1Ideal)
    ∧ quiescent_DH1RefIdeal (hDH1RefIdeal := hDH1RefIdeal)
    ∧ quiescent_DwFfnDown (hDwFfnDown := hDwFfnDown)
    ∧ quiescent_DwFfnDownIdeal (hDwFfnDownIdeal := hDwFfnDownIdeal)
    ∧ quiescent_DwFfnDownRefIdeal (hDwFfnDownRefIdeal := hDwFfnDownRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_InRnn (hInRnn := hInRnn)
    ∧ quiescent_InRnnIdeal (hInRnnIdeal := hInRnnIdeal)
    ∧ quiescent_InRnnRefIdeal (hInRnnRefIdeal := hInRnnRefIdeal)
    ∧ quiescent_DwInRnn (hDwInRnn := hDwInRnn)
    ∧ quiescent_DwInRnnIdeal (hDwInRnnIdeal := hDwInRnnIdeal)
    ∧ quiescent_DwInRnnRefIdeal (hDwInRnnRefIdeal := hDwInRnnRefIdeal)
    ∧ quiescent_DH1Rnn (hDH1Rnn := hDH1Rnn)
    ∧ quiescent_DH1RnnIdeal (hDH1RnnIdeal := hDH1RnnIdeal)
    ∧ quiescent_DH1RnnRefIdeal (hDH1RnnRefIdeal := hDH1RnnRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ quiescent_InKv (hInKv := hInKv)
    ∧ quiescent_InKvIdeal (hInKvIdeal := hInKvIdeal)
    ∧ quiescent_InKvRefIdeal (hInKvRefIdeal := hInKvRefIdeal)
    ∧ quiescent_InMg (hInMg := hInMg)
    ∧ quiescent_InMgIdeal (hInMgIdeal := hInMgIdeal)
    ∧ quiescent_InMgRefIdeal (hInMgRefIdeal := hInMgRefIdeal)
    ∧ quiescent_DYRnn (hDYRnn := hDYRnn)
    ∧ quiescent_DYRnnIdeal (hDYRnnIdeal := hDYRnnIdeal)
    ∧ quiescent_DYRnnRefIdeal (hDYRnnRefIdeal := hDYRnnRefIdeal)
    ∧ quiescent_DwProjRnn (hDwProjRnn := hDwProjRnn)
    ∧ quiescent_DwProjRnnIdeal (hDwProjRnnIdeal := hDwProjRnnIdeal)
    ∧ quiescent_DwProjRnnRefIdeal (hDwProjRnnRefIdeal := hDwProjRnnRefIdeal)
    ∧ quiescent_ProjRnn (hProjRnn := hProjRnn)
    ∧ quiescent_ProjRnnIdeal (hProjRnnIdeal := hProjRnnIdeal)
    ∧ quiescent_ProjRnnRefIdeal (hProjRnnRefIdeal := hProjRnnRefIdeal)
    ∧ quiescent_InQ (hInQ := hInQ)
    ∧ quiescent_InQIdeal (hInQIdeal := hInQIdeal)
    ∧ quiescent_InQRefIdeal (hInQRefIdeal := hInQRefIdeal)
    ∧ quiescent_ProjAttn (hProjAttn := hProjAttn)
    ∧ quiescent_ProjAttnIdeal (hProjAttnIdeal := hProjAttnIdeal)
    ∧ quiescent_ProjAttnRefIdeal (hProjAttnRefIdeal := hProjAttnRefIdeal)
    ∧ quiescent_DwProjAttn (hDwProjAttn := hDwProjAttn)
    ∧ quiescent_DwProjAttnIdeal (hDwProjAttnIdeal := hDwProjAttnIdeal)
    ∧ quiescent_DwProjAttnRefIdeal (hDwProjAttnRefIdeal := hDwProjAttnRefIdeal)
    ∧ quiescent_InFl (hInFl := hInFl)
    ∧ quiescent_InFlIdeal (hInFlIdeal := hInFlIdeal)
    ∧ quiescent_InFlRefIdeal (hInFlRefIdeal := hInFlRefIdeal)
    ∧ quiescent_DwInFl (hDwInFl := hDwInFl)
    ∧ quiescent_DwInFlIdeal (hDwInFlIdeal := hDwInFlIdeal)
    ∧ quiescent_DwInFlRefIdeal (hDwInFlRefIdeal := hDwInFlRefIdeal)
    ∧ quiescent_DH1Fl (hDH1Fl := hDH1Fl)
    ∧ quiescent_DH1FlIdeal (hDH1FlIdeal := hDH1FlIdeal)
    ∧ quiescent_DH1FlRefIdeal (hDH1FlRefIdeal := hDH1FlRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_Norm1 (hNorm1 := hNorm1)
    ∧ quiescent_Norm1Ideal (hNorm1Ideal := hNorm1Ideal)
    ∧ quiescent_Norm1RefIdeal (hNorm1RefIdeal := hNorm1RefIdeal)
    ∧ quiescent_Norm2 (hNorm2 := hNorm2)
    ∧ quiescent_Norm2Ideal (hNorm2Ideal := hNorm2Ideal)
    ∧ quiescent_Norm2RefIdeal (hNorm2RefIdeal := hNorm2RefIdeal)
    ∧ quiescent_Norm1Bwd (hNorm1Bwd := hNorm1Bwd)
    ∧ quiescent_Norm1BwdIdeal (hNorm1BwdIdeal := hNorm1BwdIdeal)
    ∧ quiescent_Norm1BwdRefIdeal (hNorm1BwdRefIdeal := hNorm1BwdRefIdeal)
    ∧ quiescent_Norm2Bwd (hNorm2Bwd := hNorm2Bwd)
    ∧ quiescent_Norm2BwdIdeal (hNorm2BwdIdeal := hNorm2BwdIdeal)
    ∧ quiescent_Norm2BwdRefIdeal (hNorm2BwdRefIdeal := hNorm2BwdRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamProjRnn (hAdamProjRnn := hAdamProjRnn)
    ∧ quiescent_AdamProjRnnIdeal (hAdamProjRnnIdeal := hAdamProjRnnIdeal)
    ∧ quiescent_AdamProjRnnRefIdeal (hAdamProjRnnRefIdeal := hAdamProjRnnRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamAdaFinal (hAdamAdaFinal := hAdamAdaFinal)
    ∧ quiescent_AdamAdaFinalIdeal (hAdamAdaFinalIdeal := hAdamAdaFinalIdeal)
    ∧ quiescent_AdamAdaFinalRefIdeal (hAdamAdaFinalRefIdeal := hAdamAdaFinalRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Final (hFinal := hFinal)
    ∧ quiescent_FinalIdeal (hFinalIdeal := hFinalIdeal)
    ∧ quiescent_FinalRefIdeal (hFinalRefIdeal := hFinalRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwSquare_DwSquareIdeal
    ∧ algebraic_DwSquareIdeal_DwSquareRefIdeal (hDwSquareIdeal := hDwSquareIdeal) (hDwSquareRefIdeal := hDwSquareRefIdeal)
    ∧ preserves_DFfnAct_DFfnActIdeal
    ∧ algebraic_DFfnActIdeal_DFfnActRefIdeal (hDFfnActIdeal := hDFfnActIdeal) (hDFfnActRefIdeal := hDFfnActRefIdeal)
    ∧ preserves_FfnUp_FfnUpIdeal
    ∧ algebraic_FfnUpIdeal_FfnUpRefIdeal (hFfnUpIdeal := hFfnUpIdeal) (hFfnUpRefIdeal := hFfnUpRefIdeal)
    ∧ preserves_DwFfnUp_DwFfnUpIdeal
    ∧ algebraic_DwFfnUpIdeal_DwFfnUpRefIdeal (hDwFfnUpIdeal := hDwFfnUpIdeal) (hDwFfnUpRefIdeal := hDwFfnUpRefIdeal)
    ∧ preserves_DH2_DH2Ideal
    ∧ algebraic_DH2Ideal_DH2RefIdeal (hDH2Ideal := hDH2Ideal) (hDH2RefIdeal := hDH2RefIdeal)
    ∧ preserves_DH1_DH1Ideal
    ∧ algebraic_DH1Ideal_DH1RefIdeal (hDH1Ideal := hDH1Ideal) (hDH1RefIdeal := hDH1RefIdeal)
    ∧ preserves_DwFfnDown_DwFfnDownIdeal
    ∧ algebraic_DwFfnDownIdeal_DwFfnDownRefIdeal (hDwFfnDownIdeal := hDwFfnDownIdeal) (hDwFfnDownRefIdeal := hDwFfnDownRefIdeal)
    ∧ preserves_FfnDown_FfnDownIdeal
    ∧ algebraic_FfnDownIdeal_FfnDownRefIdeal (hFfnDownIdeal := hFfnDownIdeal) (hFfnDownRefIdeal := hFfnDownRefIdeal)
    ∧ preserves_InRnn_InRnnIdeal
    ∧ algebraic_InRnnIdeal_InRnnRefIdeal (hInRnnIdeal := hInRnnIdeal) (hInRnnRefIdeal := hInRnnRefIdeal)
    ∧ preserves_DwInRnn_DwInRnnIdeal
    ∧ algebraic_DwInRnnIdeal_DwInRnnRefIdeal (hDwInRnnIdeal := hDwInRnnIdeal) (hDwInRnnRefIdeal := hDwInRnnRefIdeal)
    ∧ preserves_DH1Rnn_DH1RnnIdeal
    ∧ algebraic_DH1RnnIdeal_DH1RnnRefIdeal (hDH1RnnIdeal := hDH1RnnIdeal) (hDH1RnnRefIdeal := hDH1RnnRefIdeal)
    ∧ preserves_MixOut_MixOutIdeal
    ∧ algebraic_MixOutIdeal_MixOutRefIdeal (hMixOutIdeal := hMixOutIdeal) (hMixOutRefIdeal := hMixOutRefIdeal)
    ∧ preserves_DMerged_DMergedIdeal
    ∧ algebraic_DMergedIdeal_DMergedRefIdeal (hDMergedIdeal := hDMergedIdeal) (hDMergedRefIdeal := hDMergedRefIdeal)
    ∧ preserves_InKv_InKvIdeal
    ∧ algebraic_InKvIdeal_InKvRefIdeal (hInKvIdeal := hInKvIdeal) (hInKvRefIdeal := hInKvRefIdeal)
    ∧ preserves_InMg_InMgIdeal
    ∧ algebraic_InMgIdeal_InMgRefIdeal (hInMgIdeal := hInMgIdeal) (hInMgRefIdeal := hInMgRefIdeal)
    ∧ preserves_DYRnn_DYRnnIdeal
    ∧ algebraic_DYRnnIdeal_DYRnnRefIdeal (hDYRnnIdeal := hDYRnnIdeal) (hDYRnnRefIdeal := hDYRnnRefIdeal)
    ∧ preserves_DwProjRnn_DwProjRnnIdeal
    ∧ algebraic_DwProjRnnIdeal_DwProjRnnRefIdeal (hDwProjRnnIdeal := hDwProjRnnIdeal) (hDwProjRnnRefIdeal := hDwProjRnnRefIdeal)
    ∧ preserves_ProjRnn_ProjRnnIdeal
    ∧ algebraic_ProjRnnIdeal_ProjRnnRefIdeal (hProjRnnIdeal := hProjRnnIdeal) (hProjRnnRefIdeal := hProjRnnRefIdeal)
    ∧ preserves_InQ_InQIdeal
    ∧ algebraic_InQIdeal_InQRefIdeal (hInQIdeal := hInQIdeal) (hInQRefIdeal := hInQRefIdeal)
    ∧ preserves_ProjAttn_ProjAttnIdeal
    ∧ algebraic_ProjAttnIdeal_ProjAttnRefIdeal (hProjAttnIdeal := hProjAttnIdeal) (hProjAttnRefIdeal := hProjAttnRefIdeal)
    ∧ preserves_DwProjAttn_DwProjAttnIdeal
    ∧ algebraic_DwProjAttnIdeal_DwProjAttnRefIdeal (hDwProjAttnIdeal := hDwProjAttnIdeal) (hDwProjAttnRefIdeal := hDwProjAttnRefIdeal)
    ∧ preserves_InFl_InFlIdeal
    ∧ algebraic_InFlIdeal_InFlRefIdeal (hInFlIdeal := hInFlIdeal) (hInFlRefIdeal := hInFlRefIdeal)
    ∧ preserves_DwInFl_DwInFlIdeal
    ∧ algebraic_DwInFlIdeal_DwInFlRefIdeal (hDwInFlIdeal := hDwInFlIdeal) (hDwInFlRefIdeal := hDwInFlRefIdeal)
    ∧ preserves_DH1Fl_DH1FlIdeal
    ∧ algebraic_DH1FlIdeal_DH1FlRefIdeal (hDH1FlIdeal := hDH1FlIdeal) (hDH1FlRefIdeal := hDH1FlRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_Norm1_Norm1Ideal
    ∧ algebraic_Norm1Ideal_Norm1RefIdeal (hNorm1Ideal := hNorm1Ideal) (hNorm1RefIdeal := hNorm1RefIdeal)
    ∧ preserves_Norm2_Norm2Ideal
    ∧ algebraic_Norm2Ideal_Norm2RefIdeal (hNorm2Ideal := hNorm2Ideal) (hNorm2RefIdeal := hNorm2RefIdeal)
    ∧ preserves_Norm1Bwd_Norm1BwdIdeal
    ∧ algebraic_Norm1BwdIdeal_Norm1BwdRefIdeal (hNorm1BwdIdeal := hNorm1BwdIdeal) (hNorm1BwdRefIdeal := hNorm1BwdRefIdeal)
    ∧ preserves_Norm2Bwd_Norm2BwdIdeal
    ∧ algebraic_Norm2BwdIdeal_Norm2BwdRefIdeal (hNorm2BwdIdeal := hNorm2BwdIdeal) (hNorm2BwdRefIdeal := hNorm2BwdRefIdeal)
    ∧ preserves_AdamIn_AdamInIdeal
    ∧ algebraic_AdamInIdeal_AdamInRefIdeal (hAdamInIdeal := hAdamInIdeal) (hAdamInRefIdeal := hAdamInRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamProjRnn_AdamProjRnnIdeal
    ∧ algebraic_AdamProjRnnIdeal_AdamProjRnnRefIdeal (hAdamProjRnnIdeal := hAdamProjRnnIdeal) (hAdamProjRnnRefIdeal := hAdamProjRnnRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamAdaFinal_AdamAdaFinalIdeal
    ∧ algebraic_AdamAdaFinalIdeal_AdamAdaFinalRefIdeal (hAdamAdaFinalIdeal := hAdamAdaFinalIdeal) (hAdamAdaFinalRefIdeal := hAdamAdaFinalRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Final_FinalIdeal
    ∧ algebraic_FinalIdeal_FinalRefIdeal (hFinalIdeal := hFinalIdeal) (hFinalRefIdeal := hFinalRefIdeal)
-- ==== Pre_finite.lean ====
abbrev S4x2048x1024 : Shape := ⟨3, ![4, 2048, 1024]⟩
abbrev S4x8x2048 : Shape := ⟨3, ![4, 8, 2048]⟩
abbrev S4x2048x8 : Shape := ⟨3, ![4, 2048, 8]⟩
abbrev S4x2048x8x1 : Shape := ⟨4, ![4, 2048, 8, 1]⟩
abbrev S4x2048x8x128 : Shape := ⟨4, ![4, 2048, 8, 128]⟩
abbrev S_ : Shape := ⟨0, ![]⟩

class Facts : Prop where
  transposes_S4x8x2048_S4x2048x8_0_2_1 : S4x8x2048.Transposes [0, 2, 1] S4x2048x8
  bcast_S4x2048x8_S4x2048x8x1_0_1_2 : S4x2048x8.BroadcastsInDim S4x2048x8x1 (![0, 1, 2] : Fin 3 → Fin S4x2048x8x1.rank)
  bcast_S4x2048x8x1_S4x2048x8x128_0_1_2_3 : S4x2048x8x1.BroadcastsInDim S4x2048x8x128 (![0, 1, 2, 3] : Fin 4 → Fin S4x2048x8x128.rank)
  shapeCasts_S4x2048x8x128_S4x2048x1024 : S4x2048x8x128.ShapeCasts S4x2048x1024
  bcast_S_S4x2048x1024 : S_.BroadcastsInDim S4x2048x1024 (![] : Fin 0 → Fin S4x2048x1024.rank)

variable [Facts]

def fn_part1 {F : FTy → Type} [FloatOps F] (main_v18 : IVec S4x2048x1024 1) (main_v19 : FVec F S4x2048x1024 .f32) : IVec S4x2048x1024 1 :=
  let main_cst_3 : FVec F S_ .f32 := constant S_ .f32 0x7F800000#32
  let main_v20 : FVec F S4x2048x1024 .f32 := broadcastInDim S4x2048x1024 ![] bcast_S_S4x2048x1024 main_cst_3
  let main_v21 : IVec S4x2048x1024 1 := cmpf .olt main_v19 main_v20
  let main_v22 : IVec S4x2048x1024 1 := andi main_v18 main_v21
  main_v22

def fn {F : FTy → Type} [FloatOps F] (main_arg0 : FVec F S4x2048x1024 .f32) (main_arg1 : FVec F S4x2048x1024 .f32) (main_arg2 : FVec F S4x2048x1024 .f32) (main_arg3 : FVec F S4x8x2048 .f32) (main_arg4 : FVec F S4x2048x1024 .f32) : IVec S4x2048x1024 1 :=
  let main_v0 : FVec F S4x2048x8 .f32 := (transpose S4x2048x8 [0, 2, 1] · transposes_S4x8x2048_S4x2048x8_0_2_1) main_arg3
  let main_v1 : FVec F S4x2048x8x1 .f32 := broadcastInDim S4x2048x8x1 ![0, 1, 2] bcast_S4x2048x8_S4x2048x8x1_0_1_2 main_v0
  let main_v2 : FVec F S4x2048x8x128 .f32 := broadcastInDim S4x2048x8x128 ![0, 1, 2, 3] bcast_S4x2048x8x1_S4x2048x8x128_0_1_2_3 main_v1
  let main_v3 : FVec F S4x2048x1024 .f32 := shapeCast S4x2048x1024 main_v2 shapeCasts_S4x2048x8x128_S4x2048x1024
  let main_v4 : FVec F S4x2048x1024 .f32 := Host.absf main_arg0
  let main_cst : FVec F S_ .f32 := constant S_ .f32 0x7F800000#32
  let main_v5 : FVec F S4x2048x1024 .f32 := broadcastInDim S4x2048x1024 ![] bcast_S_S4x2048x1024 main_cst
  let main_v6 : IVec S4x2048x1024 1 := cmpf .olt main_v4 main_v5
  let main_v7 : FVec F S4x2048x1024 .f32 := Host.absf main_arg1
  let main_cst_0 : FVec F S_ .f32 := constant S_ .f32 0x7F800000#32
  let main_v8 : FVec F S4x2048x1024 .f32 := broadcastInDim S4x2048x1024 ![] bcast_S_S4x2048x1024 main_cst_0
  let main_v9 : IVec S4x2048x1024 1 := cmpf .olt main_v7 main_v8
  let main_v10 : IVec S4x2048x1024 1 := andi main_v6 main_v9
  let main_v11 : FVec F S4x2048x1024 .f32 := Host.absf main_arg2
  let main_cst_1 : FVec F S_ .f32 := constant S_ .f32 0x7F800000#32
  let main_v12 : FVec F S4x2048x1024 .f32 := broadcastInDim S4x2048x1024 ![] bcast_S_S4x2048x1024 main_cst_1
  let main_v13 : IVec S4x2048x1024 1 := cmpf .olt main_v11 main_v12
  let main_v14 : IVec S4x2048x1024 1 := andi main_v10 main_v13
  let main_v15 : FVec F S4x2048x1024 .f32 := Host.absf main_arg4
  let main_cst_2 : FVec F S_ .f32 := constant S_ .f32 0x7F800000#32
  let main_v16 : FVec F S4x2048x1024 .f32 := broadcastInDim S4x2048x1024 ![] bcast_S_S4x2048x1024 main_cst_2
  let main_v17 : IVec S4x2048x1024 1 := cmpf .olt main_v15 main_v16
  let main_v18 : IVec S4x2048x1024 1 := andi main_v14 main_v17
  let main_v19 : FVec F S4x2048x1024 .f32 := Host.absf main_v3
  fn_part1 (F := F) main_v18 main_v19
-- ==== Kernel.lean ====
abbrev S4x2048x1024 : Shape := ⟨3, ![4, 2048, 1024]⟩
abbrev S4x8x2048 : Shape := ⟨3, ![4, 8, 2048]⟩
abbrev S10 : Shape := ⟨1, ![10]⟩
abbrev S_ : Shape := ⟨0, ![]⟩
abbrev S4x2048x8x128 : Shape := ⟨4, ![4, 2048, 8, 128]⟩
abbrev S4x8x2048x128 : Shape := ⟨4, ![4, 8, 2048, 128]⟩
abbrev S4x8x2048x2048 : Shape := ⟨4, ![4, 8, 2048, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S32x1x2048 : Shape := ⟨3, ![32, 1, 2048]⟩
abbrev S32x2048 : Shape := ⟨2, ![32, 2048]⟩
abbrev S32x2048x1 : Shape := ⟨3, ![32, 2048, 1]⟩
abbrev S32x2048x128 : Shape := ⟨3, ![32, 2048, 128]⟩
abbrev S4x2048x2048 : Shape := ⟨3, ![4, 2048, 2048]⟩
abbrev S32x4x512 : Shape := ⟨3, ![32, 4, 512]⟩
abbrev S1x512x128 : Shape := ⟨3, ![1, 512, 128]⟩
abbrev S1 : Shape := ⟨1, ![1]⟩
abbrev S1x1x512 : Shape := ⟨3, ![1, 1, 512]⟩
abbrev S1x2048x128 : Shape := ⟨3, ![1, 2048, 128]⟩
abbrev S1x4x512 : Shape := ⟨3, ![1, 4, 512]⟩
abbrev S2048x128 : Shape := ⟨2, ![2048, 128]⟩
abbrev S512x256 : Shape := ⟨2, ![512, 256]⟩
abbrev S512x128 : Shape := ⟨2, ![512, 128]⟩
abbrev S4x512 : Shape := ⟨2, ![4, 512]⟩
abbrev S8x128 : Shape := ⟨2, ![8, 128]⟩
abbrev S8x512 : Shape := ⟨2, ![8, 512]⟩
abbrev S1x512 : Shape := ⟨2, ![1, 512]⟩
abbrev S512x512 : Shape := ⟨2, ![512, 512]⟩
abbrev S512 : Shape := ⟨1, ![512]⟩

abbrev nBuf : Space → Nat
  | .hbm => 103
  | .vmem => 31
  | .smem => 2
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x8x2048, .f32⟩
  | .hbm, ⟨4, _⟩ => ⟨S4x2048x1024, .f32⟩
  | .hbm, ⟨5, _⟩ => ⟨S_, .f32⟩
  | .hbm, ⟨6, _⟩ => ⟨S4x2048x1024, .f32⟩
  | .hbm, ⟨7, _⟩ => ⟨S4x2048x1024, .f32⟩
  | .hbm, ⟨8, _⟩ => ⟨S4x2048x8x128, .f32⟩
  | .hbm, ⟨9, _⟩ => ⟨S4x8x2048x128, .f32⟩
  | .hbm, ⟨10, _⟩ => ⟨S4x2048x8x128, .f32⟩
  | .hbm, ⟨11, _⟩ => ⟨S4x8x2048x128, .f32⟩
  | .hbm, ⟨12, _⟩ => ⟨S4x8x2048x2048, .f32⟩
  | .hbm, ⟨13, _⟩ => ⟨S4x8x2048x1, .f32⟩
  | .hbm, ⟨14, _⟩ => ⟨S4x8x2048x2048, .f32⟩
  | .hbm, ⟨15, _⟩ => ⟨S4x8x2048x2048, .f32⟩
  | .hbm, ⟨16, _⟩ => ⟨S4x8x1x2048, .f32⟩
  | .hbm, ⟨17, _⟩ => ⟨S4x8x2048x2048, .f32⟩
  | .hbm, ⟨18, _⟩ => ⟨S4x8x2048x2048, .f32⟩
  | .hbm, ⟨19, _⟩ => ⟨S2048, .i32⟩
  | .hbm, ⟨20, _⟩ => ⟨S2048x1, .i32⟩
  | .hbm, ⟨21, _⟩ => ⟨S2048, .i32⟩
  | .hbm, ⟨22, _⟩ => ⟨S1x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S4x8x2048x2048, .i1⟩
  | .hbm, ⟨29, _⟩ => ⟨S4x8x2048x2048, .f32⟩
  | .hbm, ⟨30, _⟩ => ⟨S4x8x2048x2048, .f32⟩
  | .hbm, ⟨31, _⟩ => ⟨S_, .f32⟩
  | .hbm, ⟨32, _⟩ => ⟨S4x8x2048, .f32⟩
  | .hbm, ⟨33, _⟩ => ⟨S_, .f32⟩
  | .hbm, ⟨34, _⟩ => ⟨S4x8x2048, .f32⟩
  | .hbm, ⟨35, _⟩ => ⟨S4x8x2048, .f32⟩
  | .hbm, ⟨36, _⟩ => ⟨S4x8x2048x1, .f32⟩
  | .hbm, ⟨37, _⟩ => ⟨S4x8x2048x2048, .f32⟩
  | .hbm, ⟨38, _⟩ => ⟨S4x8x2048x2048, .f32⟩
  | .hbm, ⟨39, _⟩ => ⟨S4x8x2048x2048, .f32⟩
  | .hbm, ⟨40, _⟩ => ⟨S_, .f32⟩
  | .hbm, ⟨41, _⟩ => ⟨S4x8x2048, .f32⟩
  | .hbm, ⟨42, _⟩ => ⟨S4x8x2048x1, .f32⟩
  | .hbm, ⟨43, _⟩ => ⟨S4x8x2048x2048, .f32⟩
  | .hbm, ⟨44, _⟩ => ⟨S4x8x2048x2048, .f32⟩
  | .hbm, ⟨45, _⟩ => ⟨S4x2048x8x128, .f32⟩
  | .hbm, ⟨46, _⟩ => ⟨S4x8x2048x128, .f32⟩
  | .hbm, ⟨47, _⟩ => ⟨S4x8x2048x128, .f32⟩
  | .hbm, ⟨48, _⟩ => ⟨S4x2048x8x128, .f32⟩
  | .hbm, ⟨49, _⟩ => ⟨S4x2048x1024, .f32⟩
  | .hbm, ⟨50, _⟩ => ⟨S_, .f32⟩
  | .hbm, ⟨51, _⟩ => ⟨S4x2048x1024, .f32⟩
  | .hbm, ⟨52, _⟩ => ⟨S4x2048x1024, .f32⟩
  | .hbm, ⟨53, _⟩ => ⟨S4x2048x8x128, .f32⟩
  | .hbm, ⟨54, _⟩ => ⟨S4x8x2048x128, .f32⟩
  | .hbm, ⟨55, _⟩ => ⟨S4x2048x8x128, .f32⟩
  | .hbm, ⟨56, _⟩ => ⟨S4x8x2048x128, .f32⟩
  | .hbm, ⟨57, _⟩ => ⟨S4x8x2048x2048, .f32⟩
  | .hbm, ⟨58, _⟩ => ⟨S4x8x2048x1, .f32⟩
  | .hbm, ⟨59, _⟩ => ⟨S4x8x2048x2048, .f32⟩
  | .hbm, ⟨60, _⟩ => ⟨S4x8x2048x2048, .f32⟩
  | .hbm, ⟨61, _⟩ => ⟨S4x8x1x2048, .f32⟩
  | .hbm, ⟨62, _⟩ => ⟨S4x8x2048x2048, .f32⟩
  | .hbm, ⟨63, _⟩ => ⟨S4x8x2048x2048, .f32⟩
  | .hbm, ⟨64, _⟩ => ⟨S2048, .i32⟩
  | .hbm, ⟨65, _⟩ => ⟨S2048x1, .i32⟩
  | .hbm, ⟨66, _⟩ => ⟨S2048, .i32⟩
  | .hbm, ⟨67, _⟩ => ⟨S1x2048, .i32⟩
  | .hbm, ⟨68, _⟩ => ⟨S2048x2048, .i32⟩
  | .hbm, ⟨69, _⟩ => ⟨S2048x2048, .i32⟩
  | .hbm, ⟨70, _⟩ => ⟨S2048x2048, .i1⟩
  | .hbm, ⟨71, _⟩ => ⟨S_, .f32⟩
  | .hbm, ⟨72, _⟩ => ⟨S_, .f32⟩
  | .hbm, ⟨73, _⟩ => ⟨S4x8x2048x2048, .i1⟩
  | .hbm, ⟨74, _⟩ => ⟨S4x8x2048x2048, .f32⟩
  | .hbm, ⟨75, _⟩ => ⟨S4x8x2048x2048, .f32⟩
  | .hbm, ⟨76, _⟩ => ⟨S_, .f32⟩
  | .hbm, ⟨77, _⟩ => ⟨S4x8x2048, .f32⟩
  | .hbm, ⟨78, _⟩ => ⟨S4x8x2048x1, .f32⟩
  | .hbm, ⟨79, _⟩ => ⟨S4x8x2048x2048, .f32⟩
  | .hbm, ⟨80, _⟩ => ⟨S4x8x2048x2048, .f32⟩
  | .hbm, ⟨81, _⟩ => ⟨S4x8x2048x2048, .f32⟩
  | .hbm, ⟨82, _⟩ => ⟨S_, .f32⟩
  | .hbm, ⟨83, _⟩ => ⟨S4x8x2048, .f32⟩
  | .hbm, ⟨84, _⟩ => ⟨S4x8x2048x1, .f32⟩
  | .hbm, ⟨85, _⟩ => ⟨S4x8x2048x1, .f32⟩
  | .hbm, ⟨86, _⟩ => ⟨S4x8x2048x1, .f32⟩
  | .hbm, ⟨87, _⟩ => ⟨S32x1x2048, .f32⟩
  | .hbm, ⟨88, _⟩ => ⟨S32x2048, .f32⟩
  | .hbm, ⟨89, _⟩ => ⟨S32x2048x1, .f32⟩
  | .hbm, ⟨90, _⟩ => ⟨S32x2048x128, .f32⟩
  | .hbm, ⟨91, _⟩ => ⟨S32x1x2048, .f32⟩
  | .hbm, ⟨92, _⟩ => ⟨S_, .f32⟩
  | .hbm, ⟨93, _⟩ => ⟨S4x2048x1024, .f32⟩
  | .hbm, ⟨94, _⟩ => ⟨S4x2048x1024, .f32⟩
  | .hbm, ⟨95, _⟩ => ⟨S4x2048x1024, .bf16⟩
  | .hbm, ⟨96, _⟩ => ⟨S4x2048x2048, .f32⟩
  | .hbm, ⟨97, _⟩ => ⟨S4x2048x2048, .bf16⟩
  | .hbm, ⟨98, _⟩ => ⟨S4x2048x1024, .bf16⟩
  | .hbm, ⟨99, _⟩ => ⟨S4x2048x1024, .bf16⟩
  | .hbm, ⟨100, _⟩ => ⟨S4x2048x1024, .bf16⟩
  | .hbm, ⟨101, _⟩ => ⟨S32x2048x128, .f32⟩
  | .hbm, ⟨102, _⟩ => ⟨S32x4x512, .f32⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x1x512, .f32⟩
  | .local _ .vmem, ⟨11, _⟩ => ⟨S1x1x512, .f32⟩
  | .local _ .vmem, ⟨12, _⟩ => ⟨S1x512x128, .f32⟩
  | .local _ .vmem, ⟨13, _⟩ => ⟨S1x512x128, .f32⟩
  | .local _ .vmem, ⟨14, _⟩ => ⟨S1x1x512, .f32⟩
  | .local _ .vmem, ⟨15, _⟩ => ⟨S1x1x512, .f32⟩
  | .local _ .vmem, ⟨16, _⟩ => ⟨S1x2048x128, .bf16⟩
  | .local _ .vmem, ⟨17, _⟩ => ⟨S1x2048x128, .bf16⟩
  | .local _ .vmem, ⟨18, _⟩ => ⟨S1x512x128, .bf16⟩
  | .local _ .vmem, ⟨19, _⟩ => ⟨S1x512x128, .bf16⟩
  | .local _ .vmem, ⟨20, _⟩ => ⟨S1x512x128, .bf16⟩
  | .local _ .vmem, ⟨21, _⟩ => ⟨S1x512x128, .bf16⟩
  | .local _ .vmem, ⟨22, _⟩ => ⟨S1x512x128, .f32⟩
  | .local _ .vmem, ⟨23, _⟩ => ⟨S1x512x128, .f32⟩
  | .local _ .vmem, ⟨24, _⟩ => ⟨S1x4x512, .f32⟩
  | .local _ .vmem, ⟨25, _⟩ => ⟨S1x4x512, .f32⟩
  | .local _ .vmem, ⟨26, _⟩ => ⟨S2048x128, .f32⟩
  | .local _ .vmem, ⟨27, _⟩ => ⟨S512x256, .f32⟩
  | .local _ .vmem, ⟨28, _⟩ => ⟨S512x128, .f32⟩
  | .local _ .vmem, ⟨29, _⟩ => ⟨S4x512, .f32⟩
  | .local _ .vmem, ⟨30, _⟩ => ⟨S4x512, .f32⟩
  | .local _ .smem, ⟨0, _⟩ => ⟨S10, .i32⟩
  | .local _ .smem, ⟨1, _⟩ => ⟨S10, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_6 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_8 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_9 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77_0 : Ref sig .tc := ⟨.hbm, 98, rfl⟩
abbrev main_v77_1 : Ref sig .tc := ⟨.hbm, 99, rfl⟩
abbrev main_v77_2 : Ref sig .tc := ⟨.hbm, 100, rfl⟩
abbrev main_v77_3 : Ref sig .tc := ⟨.hbm, 101, rfl⟩
abbrev main_v77_4 : Ref sig .tc := ⟨.hbm, 102, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![4, 8, 10], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_off2 (v3 : BitVec 32) : Fin 2 → Nat :=
  let v33 : Index := Scalar.indexCast v3
  let c0_14 : Index := 0#32
  ![v33.toNat, 0]
def k0_cond2 (v1 : BitVec 32) : BitVec 1 :=
  let c0_i32_1 : BitVec 32 := 0#32
  let v7 : BitVec 1 := Scalar.cmpi .eq v1 c0_i32_1
  let v8 : BitVec 32 := Scalar.extui v7
  let c0_i32_2 : BitVec 32 := 0#32
  let v9 : BitVec 1 := Scalar.cmpi .ne v8 c0_i32_2
  v9

def k0_off3 (v3 : BitVec 32) : Fin 2 → Nat :=
  let v59 : Index := Scalar.indexCast v3
  let c0_37 : Index := 0#32
  ![v59.toNat, 0]
def k0_cond4 (v1 : BitVec 32) (v3 : BitVec 32) : BitVec 1 :=
  let v13 : BitVec 1 := Scalar.cmpi .sgt v3 v1
  let v14 : BitVec 32 := Scalar.extui v13
  let c0_i32_4 : BitVec 32 := 0#32
  let v15 : BitVec 1 := Scalar.cmpi .ne v14 c0_i32_4
  v15

def k0_mult1 (v3 : BitVec 32) : BitVec 32 :=
  let c512_i32 : BitVec 32 := 512#32
  let v73 : BitVec 32 := Scalar.muli v3 c512_i32
  v73
def k0_off4 (v3 : BitVec 32) : Fin 2 → Nat :=
  let c512_i32 : BitVec 32 := 512#32
  let v73 : BitVec 32 := Scalar.muli v3 c512_i32
  let v74 : BitVec 32 := v73
  let v75 : Index := Scalar.indexCast v74
  let c0_44 : Index := 0#32
  ![v75.toNat, 0]
def k0_off5 (v3 : BitVec 32) : Fin 2 → Nat :=
  let v70 : Index := Scalar.indexCast v3
  let c0_39 : Index := 0#32
  ![v70.toNat, 0]
def k0_cond5 (v1 : BitVec 32) (v3 : BitVec 32) : BitVec 1 :=
  let v16 : BitVec 1 := Scalar.cmpi .eq v3 v1
  let v17 : BitVec 32 := Scalar.extui v16
  let c0_i32_5 : BitVec 32 := 0#32
  let v18 : BitVec 1 := Scalar.cmpi .ne v17 c0_i32_5
  v18

def k0_mult2 (v3 : BitVec 32) : BitVec 32 :=
  let c512_i32_46 : BitVec 32 := 512#32
  let v84 : BitVec 32 := Scalar.muli v3 c512_i32_46
  v84
def k0_off6 (v3 : BitVec 32) : Fin 2 → Nat :=
  let c512_i32_46 : BitVec 32 := 512#32
  let v84 : BitVec 32 := Scalar.muli v3 c512_i32_46
  let v85 : BitVec 32 := v84
  let v86 : Index := Scalar.indexCast v85
  let c0_47 : Index := 0#32
  ![v86.toNat, 0]

def k0_chk1 (v1 : BitVec 32) (v3 : BitVec 32) : Prop :=
  (∀ (k0_h2 : k0_cond2 v1 = 1#1), ∀ a, (k0_off2 v3) a + S1x512.size a ≤ S4x512.size a) ∧
  (∀ (k0_h4 : k0_cond4 v1 v3 = 1#1), ∀ a, (k0_off3 v3) a + S1x512.size a ≤ S4x512.size a) ∧
  (∀ (k0_h4 : k0_cond4 v1 v3 = 1#1), 512 ∣ (k0_mult1 v3).toNat) ∧
  (∀ (k0_h4 : k0_cond4 v1 v3 = 1#1), ∀ a, (k0_off4 v3) a + S512x128.size a ≤ S2048x128.size a) ∧
  (∀ (k0_h5 : k0_cond5 v1 v3 = 1#1), ∀ a, (k0_off5 v3) a + S1x512.size a ≤ S4x512.size a) ∧
  (∀ (k0_h5 : k0_cond5 v1 v3 = 1#1), 512 ∣ (k0_mult2 v3).toNat) ∧
  (∀ (k0_h5 : k0_cond5 v1 v3 = 1#1), ∀ a, (k0_off6 v3) a + S512x128.size a ≤ S2048x128.size a)
theorem k0_off2_inb : ∀ (v1 : BitVec 32) (v3 : BitVec 32) (k0_hw1 : k0_chk1 v1 v3), ∀ (k0_h2 : k0_cond2 v1 = 1#1), ∀ a, (k0_off2 v3) a + S1x512.size a ≤ S4x512.size a := fun v1 v3 k0_hw1 k0_h2 => k0_hw1.1 k0_h2
theorem k0_off3_inb : ∀ (v1 : BitVec 32) (v3 : BitVec 32) (k0_hw1 : k0_chk1 v1 v3), ∀ (k0_h4 : k0_cond4 v1 v3 = 1#1), ∀ a, (k0_off3 v3) a + S1x512.size a ≤ S4x512.size a := fun v1 v3 k0_hw1 k0_h4 => k0_hw1.2.1 k0_h4
theorem k0_mult1_dvd : ∀ (v1 : BitVec 32) (v3 : BitVec 32) (k0_hw1 : k0_chk1 v1 v3), ∀ (k0_h4 : k0_cond4 v1 v3 = 1#1), 512 ∣ (k0_mult1 v3).toNat := fun v1 v3 k0_hw1 k0_h4 => k0_hw1.2.2.1 k0_h4
theorem k0_off4_inb : ∀ (v1 : BitVec 32) (v3 : BitVec 32) (k0_hw1 : k0_chk1 v1 v3), ∀ (k0_h4 : k0_cond4 v1 v3 = 1#1), ∀ a, (k0_off4 v3) a + S512x128.size a ≤ S2048x128.size a := fun v1 v3 k0_hw1 k0_h4 => k0_hw1.2.2.2.1 k0_h4
theorem k0_off5_inb : ∀ (v1 : BitVec 32) (v3 : BitVec 32) (k0_hw1 : k0_chk1 v1 v3), ∀ (k0_h5 : k0_cond5 v1 v3 = 1#1), ∀ a, (k0_off5 v3) a + S1x512.size a ≤ S4x512.size a := fun v1 v3 k0_hw1 k0_h5 => k0_hw1.2.2.2.2.1 k0_h5
theorem k0_mult2_dvd : ∀ (v1 : BitVec 32) (v3 : BitVec 32) (k0_hw1 : k0_chk1 v1 v3), ∀ (k0_h5 : k0_cond5 v1 v3 = 1#1), 512 ∣ (k0_mult2 v3).toNat := fun v1 v3 k0_hw1 k0_h5 => k0_hw1.2.2.2.2.2.1 k0_h5
theorem k0_off6_inb : ∀ (v1 : BitVec 32) (v3 : BitVec 32) (k0_hw1 : k0_chk1 v1 v3), ∀ (k0_h5 : k0_cond5 v1 v3 = 1#1), ∀ a, (k0_off6 v3) a + S512x128.size a ≤ S2048x128.size a := fun v1 v3 k0_hw1 k0_h5 => k0_hw1.2.2.2.2.2.2 k0_h5

def k0_cond7 (i : grid0.Coords) : BitVec 1 :=
  let arg2 : BitVec 32 := BitVec.ofNat 32 (i 2).val
  let c9_i32 : BitVec 32 := 9#32
  let v22 : BitVec 1 := Scalar.cmpi .eq arg2 c9_i32
  let v23 : BitVec 32 := Scalar.extui v22
  let c0_i32_7 : BitVec 32 := 0#32
  let v24 : BitVec 1 := Scalar.cmpi .ne v23 c0_i32_7
  v24

def k0_cond6 (v3 : BitVec 32) : BitVec 1 :=
  let c3_i32 : BitVec 32 := 3#32
  let v19 : BitVec 1 := Scalar.cmpi .eq v3 c3_i32
  let v20 : BitVec 32 := Scalar.extui v19
  let c0_i32_6 : BitVec 32 := 0#32
  let v21 : BitVec 1 := Scalar.cmpi .ne v20 c0_i32_6
  v21

def cc0_transform_0 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S10) ![v0.toNat] S1.size (k0_off1_inb i)) numel1_S1
  let c0_i32 : BitVec 32 := 0#32
  ![arg0.toNat, v1.toNat, arg1.toNat]

def cc0_transform_1 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S10) ![v0.toNat] S1.size (k0_off1_inb i)) numel1_S1
  let c0_i32 : BitVec 32 := 0#32
  let v2 : BitVec 32 := Scalar.addi c0_i32 arg1
  let c0_i32_0 : BitVec 32 := 0#32
  ![arg0.toNat, v1.toNat, v2.toNat]

def cc0_transform_2 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S10) ![v0.toNat] S1.size (k0_off1_inb i)) numel1_S1
  let c8_i32 : BitVec 32 := 8#32
  let v2 : BitVec 32 := Scalar.addi c8_i32 arg1
  let c0_i32 : BitVec 32 := 0#32
  ![arg0.toNat, v1.toNat, v2.toNat]

def cc0_transform_3 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S10) ![v0.toNat] S1.size (k0_off1_inb i)) numel1_S1
  let c0_i32 : BitVec 32 := 0#32
  ![arg0.toNat, v1.toNat, arg1.toNat]

def cc0_transform_4 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S10) ![v0.toNat] S1.size (k0_off1_inb i)) numel1_S1
  let c0_i32 : BitVec 32 := 0#32
  let v2 : BitVec 1 := Scalar.cmpi .eq v1 c0_i32
  let v3 : Index := Scalar.indexCast arg2
  let v4 : BitVec 32 := pf.at 1 (Rect.unit (s := S10) ![v3.toNat] S1.size (k0_off1_inb i)) numel1_S1
  let c0_i32_0 : BitVec 32 := 0#32
  let v5 : BitVec 32 := Scalar.select v2 v4 c0_i32_0
  let c0_i32_1 : BitVec 32 := 0#32
  ![arg0.toNat, v5.toNat, arg1.toNat]

def cc0_transform_5 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let v2 : Index := Scalar.indexCast arg2
  let v3 : BitVec 32 := pf.at 1 (Rect.unit (s := S10) ![v2.toNat] S1.size (k0_off1_inb i)) numel1_S1
  let c0_i32 : BitVec 32 := 0#32
  let c0_i32_0 : BitVec 32 := 0#32
  ![v1.toNat, c0_i32.toNat, v3.toNat]

def cc0_transform_6 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let v2 : Index := Scalar.indexCast arg2
  let v3 : BitVec 32 := pf.at 0 (Rect.unit (s := S10) ![v2.toNat] S1.size (k0_off1_inb i)) numel1_S1
  let c0_i32 : BitVec 32 := 0#32
  let c0_i32_0 : BitVec 32 := 0#32
  ![v1.toNat, v3.toNat, c0_i32.toNat]

def cc0_transform_7 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let v2 : Index := Scalar.indexCast arg2
  let v3 : BitVec 32 := pf.at 1 (Rect.unit (s := S10) ![v2.toNat] S1.size (k0_off1_inb i)) numel1_S1
  let c0_i32 : BitVec 32 := 0#32
  let c0_i32_0 : BitVec 32 := 0#32
  ![v1.toNat, c0_i32.toNat, v3.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S10) ![v0.toNat] S1.size (k0_off1_inb i)) numel1_S1
  let c0_i32 : BitVec 32 := 0#32
  let v2 : BitVec 32 := Scalar.addi c0_i32 arg1
  let c0_i32_0 : BitVec 32 := 0#32
  ![arg0.toNat, v1.toNat, v2.toNat]

def cc0_transform_10 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S10) ![v0.toNat] S1.size (k0_off1_inb i)) numel1_S1
  let c0_i32 : BitVec 32 := 0#32
  let v2 : BitVec 32 := Scalar.addi c0_i32 arg1
  let c0_i32_0 : BitVec 32 := 0#32
  ![arg0.toNat, v1.toNat, v2.toNat]

def cc0_transform_11 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let v2 : Index := Scalar.indexCast arg2
  let v3 : BitVec 32 := pf.at 0 (Rect.unit (s := S10) ![v2.toNat] S1.size (k0_off1_inb i)) numel1_S1
  let c0_i32 : BitVec 32 := 0#32
  let c0_i32_0 : BitVec 32 := 0#32
  ![v1.toNat, v3.toNat, c0_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x4x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S4x2048x1024 : Shape := ⟨3, ![4, 2048, 1024]⟩
abbrev S4x8x2048 : Shape := ⟨3, ![4, 8, 2048]⟩
abbrev S_ : Shape := ⟨0, ![]⟩
abbrev S4x2048x8x128 : Shape := ⟨4, ![4, 2048, 8, 128]⟩
abbrev S4x8x2048x128 : Shape := ⟨4, ![4, 8, 2048, 128]⟩
abbrev S4x8x2048x2048 : Shape := ⟨4, ![4, 8, 2048, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8x128x2048 : Shape := ⟨4, ![4, 8, 128, 2048]⟩
abbrev S32x2048 : Shape := ⟨2, ![32, 2048]⟩
abbrev S32x2048x1 : Shape := ⟨3, ![32, 2048, 1]⟩
abbrev S32x2048x128 : Shape := ⟨3, ![32, 2048, 128]⟩
abbrev S32x4x512 : Shape := ⟨3, ![32, 4, 512]⟩

abbrev nBuf : Space → Nat
  | .hbm => 127
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x8x2048, .f32⟩
  | .hbm, ⟨4, _⟩ => ⟨S4x2048x1024, .f32⟩
  | .hbm, ⟨5, _⟩ => ⟨S_, .f32⟩
  | .hbm, ⟨6, _⟩ => ⟨S4x2048x1024, .f32⟩
  | .hbm, ⟨7, _⟩ => ⟨S4x2048x1024, .f32⟩
  | .hbm, ⟨8, _⟩ => ⟨S4x2048x8x128, .f32⟩
  | .hbm, ⟨9, _⟩ => ⟨S4x8x2048x128, .f32⟩
  | .hbm, ⟨10, _⟩ => ⟨S4x2048x8x128, .f32⟩
  | .hbm, ⟨11, _⟩ => ⟨S4x8x2048x128, .f32⟩
  | .hbm, ⟨12, _⟩ => ⟨S4x8x2048x2048, .f32⟩
  | .hbm, ⟨13, _⟩ => ⟨S4x8x2048x1, .f32⟩
  | .hbm, ⟨14, _⟩ => ⟨S4x8x2048x2048, .f32⟩
  | .hbm, ⟨15, _⟩ => ⟨S4x8x2048x2048, .f32⟩
  | .hbm, ⟨16, _⟩ => ⟨S4x8x1x2048, .f32⟩
  | .hbm, ⟨17, _⟩ => ⟨S4x8x2048x2048, .f32⟩
  | .hbm, ⟨18, _⟩ => ⟨S4x8x2048x2048, .f32⟩
  | .hbm, ⟨19, _⟩ => ⟨S2048, .i32⟩
  | .hbm, ⟨20, _⟩ => ⟨S2048x1, .i32⟩
  | .hbm, ⟨21, _⟩ => ⟨S2048, .i32⟩
  | .hbm, ⟨22, _⟩ => ⟨S1x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S4x8x2048x2048, .i1⟩
  | .hbm, ⟨29, _⟩ => ⟨S4x8x2048x2048, .f32⟩
  | .hbm, ⟨30, _⟩ => ⟨S4x8x2048x2048, .f32⟩
  | .hbm, ⟨31, _⟩ => ⟨S_, .f32⟩
  | .hbm, ⟨32, _⟩ => ⟨S4x8x2048x2048, .f32⟩
  | .hbm, ⟨33, _⟩ => ⟨S_, .f32⟩
  | .hbm, ⟨34, _⟩ => ⟨S4x8x2048, .f32⟩
  | .hbm, ⟨35, _⟩ => ⟨S4x8x2048x1, .f32⟩
  | .hbm, ⟨36, _⟩ => ⟨S4x8x2048x2048, .f32⟩
  | .hbm, ⟨37, _⟩ => ⟨S4x8x2048x2048, .i1⟩
  | .hbm, ⟨38, _⟩ => ⟨S4x8x2048x2048, .f32⟩
  | .hbm, ⟨39, _⟩ => ⟨S_, .f32⟩
  | .hbm, ⟨40, _⟩ => ⟨S4x8x2048, .f32⟩
  | .hbm, ⟨41, _⟩ => ⟨S_, .f32⟩
  | .hbm, ⟨42, _⟩ => ⟨S4x8x2048, .f32⟩
  | .hbm, ⟨43, _⟩ => ⟨S4x8x2048, .f32⟩
  | .hbm, ⟨44, _⟩ => ⟨S_, .f32⟩
  | .hbm, ⟨45, _⟩ => ⟨S4x8x2048, .f32⟩
  | .hbm, ⟨46, _⟩ => ⟨S4x8x2048, .i1⟩
  | .hbm, ⟨47, _⟩ => ⟨S_, .f32⟩
  | .hbm, ⟨48, _⟩ => ⟨S4x8x2048, .f32⟩
  | .hbm, ⟨49, _⟩ => ⟨S4x8x2048, .i1⟩
  | .hbm, ⟨50, _⟩ => ⟨S_, .f32⟩
  | .hbm, ⟨51, _⟩ => ⟨S4x8x2048, .f32⟩
  | .hbm, ⟨52, _⟩ => ⟨S_, .f32⟩
  | .hbm, ⟨53, _⟩ => ⟨S4x8x2048, .f32⟩
  | .hbm, ⟨54, _⟩ => ⟨S_, .f32⟩
  | .hbm, ⟨55, _⟩ => ⟨S4x8x2048, .f32⟩
  | .hbm, ⟨56, _⟩ => ⟨S4x8x2048, .f32⟩
  | .hbm, ⟨57, _⟩ => ⟨S4x8x2048, .f32⟩
  | .hbm, ⟨58, _⟩ => ⟨S4x8x2048x1, .f32⟩
  | .hbm, ⟨59, _⟩ => ⟨S4x8x2048x2048, .f32⟩
  | .hbm, ⟨60, _⟩ => ⟨S4x8x2048x2048, .f32⟩
  | .hbm, ⟨61, _⟩ => ⟨S4x8x2048x2048, .f32⟩
  | .hbm, ⟨62, _⟩ => ⟨S_, .f32⟩
  | .hbm, ⟨63, _⟩ => ⟨S4x8x2048, .f32⟩
  | .hbm, ⟨64, _⟩ => ⟨S4x8x2048x1, .f32⟩
  | .hbm, ⟨65, _⟩ => ⟨S4x8x2048x2048, .f32⟩
  | .hbm, ⟨66, _⟩ => ⟨S4x8x2048x2048, .f32⟩
  | .hbm, ⟨67, _⟩ => ⟨S4x8x2048x1, .f32⟩
  | .hbm, ⟨68, _⟩ => ⟨S_, .f32⟩
  | .hbm, ⟨69, _⟩ => ⟨S4x8x2048x1, .f32⟩
  | .hbm, ⟨70, _⟩ => ⟨S4x8x2048x1, .f32⟩
  | .hbm, ⟨71, _⟩ => ⟨S4x2048x8x128, .f32⟩
  | .hbm, ⟨72, _⟩ => ⟨S4x8x2048x128, .f32⟩
  | .hbm, ⟨73, _⟩ => ⟨S4x8x2048x128, .f32⟩
  | .hbm, ⟨74, _⟩ => ⟨S4x2048x8x128, .f32⟩
  | .hbm, ⟨75, _⟩ => ⟨S4x2048x1024, .f32⟩
  | .hbm, ⟨76, _⟩ => ⟨S4x2048x8x128, .f32⟩
  | .hbm, ⟨77, _⟩ => ⟨S4x8x2048x128, .f32⟩
  | .hbm, ⟨78, _⟩ => ⟨S4x8x128x2048, .f32⟩
  | .hbm, ⟨79, _⟩ => ⟨S4x8x2048x128, .f32⟩
  | .hbm, ⟨80, _⟩ => ⟨S4x8x2048x2048, .f32⟩
  | .hbm, ⟨81, _⟩ => ⟨S4x2048x8x128, .f32⟩
  | .hbm, ⟨82, _⟩ => ⟨S4x2048x1024, .f32⟩
  | .hbm, ⟨83, _⟩ => ⟨S4x8x2048x2048, .f32⟩
  | .hbm, ⟨84, _⟩ => ⟨S4x8x2048x2048, .f32⟩
  | .hbm, ⟨85, _⟩ => ⟨S4x8x2048x2048, .f32⟩
  | .hbm, ⟨86, _⟩ => ⟨S_, .f32⟩
  | .hbm, ⟨87, _⟩ => ⟨S4x8x2048, .f32⟩
  | .hbm, ⟨88, _⟩ => ⟨S4x8x2048x1, .f32⟩
  | .hbm, ⟨89, _⟩ => ⟨S4x8x2048x1, .f32⟩
  | .hbm, ⟨90, _⟩ => ⟨S4x8x2048x2048, .f32⟩
  | .hbm, ⟨91, _⟩ => ⟨S4x8x2048x2048, .f32⟩
  | .hbm, ⟨92, _⟩ => ⟨S_, .f32⟩
  | .hbm, ⟨93, _⟩ => ⟨S4x8x2048, .f32⟩
  | .hbm, ⟨94, _⟩ => ⟨S4x8x2048x2048, .f32⟩
  | .hbm, ⟨95, _⟩ => ⟨S4x8x2048x2048, .f32⟩
  | .hbm, ⟨96, _⟩ => ⟨S4x8x2048x2048, .f32⟩
  | .hbm, ⟨97, _⟩ => ⟨S_, .f32⟩
  | .hbm, ⟨98, _⟩ => ⟨S4x8x2048x2048, .f32⟩
  | .hbm, ⟨99, _⟩ => ⟨S4x8x2048x2048, .f32⟩
  | .hbm, ⟨100, _⟩ => ⟨S4x8x2048x2048, .f32⟩
  | .hbm, ⟨101, _⟩ => ⟨S_, .f32⟩
  | .hbm, ⟨102, _⟩ => ⟨S4x8x2048, .f32⟩
  | .hbm, ⟨103, _⟩ => ⟨S4x8x1x2048, .f32⟩
  | .hbm, ⟨104, _⟩ => ⟨S_, .f32⟩
  | .hbm, ⟨105, _⟩ => ⟨S4x8x2048, .f32⟩
  | .hbm, ⟨106, _⟩ => ⟨S_, .f32⟩
  | .hbm, ⟨107, _⟩ => ⟨S4x8x2048, .f32⟩
  | .hbm, ⟨108, _⟩ => ⟨S4x8x2048x1, .f32⟩
  | .hbm, ⟨109, _⟩ => ⟨S_, .f32⟩
  | .hbm, ⟨110, _⟩ => ⟨S4x8x2048, .f32⟩
  | .hbm, ⟨111, _⟩ => ⟨S4x8x2048x128, .f32⟩
  | .hbm, ⟨112, _⟩ => ⟨S4x8x2048x128, .f32⟩
  | .hbm, ⟨113, _⟩ => ⟨S4x2048x8x128, .f32⟩
  | .hbm, ⟨114, _⟩ => ⟨S4x2048x1024, .f32⟩
  | .hbm, ⟨115, _⟩ => ⟨S4x2048x8x128, .f32⟩
  | .hbm, ⟨116, _⟩ => ⟨S4x2048x1024, .f32⟩
  | .hbm, ⟨117, _⟩ => ⟨S_, .f32⟩
  | .hbm, ⟨118, _⟩ => ⟨S4x2048x1024, .f32⟩
  | .hbm, ⟨119, _⟩ => ⟨S4x2048x1024, .f32⟩
  | .hbm, ⟨120, _⟩ => ⟨S4x2048x1024, .bf16⟩
  | .hbm, ⟨121, _⟩ => ⟨S4x2048x1024, .bf16⟩
  | .hbm, ⟨122, _⟩ => ⟨S4x2048x1024, .bf16⟩
  | .hbm, ⟨123, _⟩ => ⟨S32x2048, .f32⟩
  | .hbm, ⟨124, _⟩ => ⟨S32x2048x1, .f32⟩
  | .hbm, ⟨125, _⟩ => ⟨S32x2048x128, .f32⟩
  | .hbm, ⟨126, _⟩ => ⟨S32x4x512, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_17 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩

abbrev nD : Nat := 1
abbrev τ : Topo := Topo.v7x

variable {F : FTy → Type} [FloatOps F]
-- ==== DwSquare.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwSquareRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DFfnAct.lean ====
abbrev S8192x1024 : Shape := ⟨2, ![8192, 1024]⟩
abbrev S3072x1024 : Shape := ⟨2, ![3072, 1024]⟩
abbrev S8192x3072 : Shape := ⟨2, ![8192, 3072]⟩
abbrev S1024x1024 : Shape := ⟨2, ![1024, 1024]⟩
abbrev S1536x1024 : Shape := ⟨2, ![1536, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1536, .f32⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DFfnActRefIdeal.lean ====
abbrev S8192x1024 : Shape := ⟨2, ![8192, 1024]⟩
abbrev S3072x1024 : Shape := ⟨2, ![3072, 1024]⟩
abbrev S_ : Shape := ⟨0, ![]⟩
abbrev S8192x3072 : Shape := ⟨2, ![8192, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S_, .f32⟩
  | .hbm, ⟨3, _⟩ => ⟨S8192x3072, .f32⟩
  | .hbm, ⟨4, _⟩ => ⟨S3072x1024, .f32⟩
  | .hbm, ⟨5, _⟩ => ⟨S8192x1024, .f32⟩
  | .hbm, ⟨6, _⟩ => ⟨S8192x1024, .f32⟩
  | .hbm, ⟨7, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnUp.lean ====
abbrev S8192x1024 : Shape := ⟨2, ![8192, 1024]⟩
abbrev S4x1024x1536 : Shape := ⟨3, ![4, 1024, 1536]⟩
abbrev S8192x6144 : Shape := ⟨2, ![8192, 6144]⟩
abbrev S1024x1024 : Shape := ⟨2, ![1024, 1024]⟩
abbrev S1x1024x1536 : Shape := ⟨3, ![1, 1024, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1024x1536, .bf16⟩
  | .hbm, ⟨2, _⟩ => ⟨S8192x6144, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1536, .f32⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S8192x1024 : Shape := ⟨2, ![8192, 1024]⟩
abbrev S4x1024x1536 : Shape := ⟨3, ![4, 1024, 1536]⟩
abbrev S1024x4x1536 : Shape := ⟨3, ![1024, 4, 1536]⟩
abbrev S1024x6144 : Shape := ⟨2, ![1024, 6144]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1536, .bf16⟩
  | .hbm, ⟨2, _⟩ => ⟨S8192x1024, .f32⟩
  | .hbm, ⟨3, _⟩ => ⟨S4x1024x1536, .f32⟩
  | .hbm, ⟨4, _⟩ => ⟨S1024x4x1536, .f32⟩
  | .hbm, ⟨5, _⟩ => ⟨S1024x6144, .f32⟩
  | .hbm, ⟨6, _⟩ => ⟨S8192x6144, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwFfnUp.lean ====
abbrev S8192x1024 : Shape := ⟨2, ![8192, 1024]⟩
abbrev S8192x3072 : Shape := ⟨2, ![8192, 3072]⟩
abbrev S2x1024x1536 : Shape := ⟨3, ![2, 1024, 1536]⟩
abbrev S1024x1024 : Shape := ⟨2, ![1024, 1024]⟩
abbrev S1024x1536 : Shape := ⟨2, ![1024, 1536]⟩
abbrev S1x1024x1536 : Shape := ⟨3, ![1, 1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S2x1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1x1024x1536, .f32⟩
  | .local _ .vmem, ⟨5, _⟩ => ⟨S1x1024x1536, .f32⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFfnUpRefIdeal.lean ====
abbrev S8192x1024 : Shape := ⟨2, ![8192, 1024]⟩
abbrev S8192x3072 : Shape := ⟨2, ![8192, 3072]⟩
abbrev S_ : Shape := ⟨0, ![]⟩
abbrev S2x1024x1536 : Shape := ⟨3, ![2, 1024, 1536]⟩
abbrev S1024x2x1536 : Shape := ⟨3, ![1024, 2, 1536]⟩
abbrev S1024x3072 : Shape := ⟨2, ![1024, 3072]⟩
abbrev S3072x1024 : Shape := ⟨2, ![3072, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S2x1024x1536, .f32⟩
  | .hbm, ⟨4, _⟩ => ⟨S8192x1024, .f32⟩
  | .hbm, ⟨5, _⟩ => ⟨S1024x2x1536, .f32⟩
  | .hbm, ⟨6, _⟩ => ⟨S1024x3072, .f32⟩
  | .hbm, ⟨7, _⟩ => ⟨S8192x3072, .f32⟩
  | .hbm, ⟨8, _⟩ => ⟨S8192x3072, .f32⟩
  | .hbm, ⟨9, _⟩ => ⟨S3072x1024, .f32⟩
  | .hbm, ⟨10, _⟩ => ⟨S1024x3072, .f32⟩
  | .hbm, ⟨11, _⟩ => ⟨S1024x2x1536, .f32⟩
  | .hbm, ⟨12, _⟩ => ⟨S2x1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DH2.lean ====
abbrev S8192x3072 : Shape := ⟨2, ![8192, 3072]⟩
abbrev S4x1024x1536 : Shape := ⟨3, ![4, 1024, 1536]⟩
abbrev S8192x1024 : Shape := ⟨2, ![8192, 1024]⟩
abbrev S1024x768 : Shape := ⟨2, ![1024, 768]⟩
abbrev S1x1024x768 : Shape := ⟨3, ![1, 1024, 768]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S4x1024x1536, .bf16⟩
  | .hbm, ⟨3, _⟩ => ⟨S8192x1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 8], ![false, false, false]⟩

def k0_cond4 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DH2RefIdeal.lean ====
abbrev S8192x3072 : Shape := ⟨2, ![8192, 3072]⟩
abbrev S4x1024x1536 : Shape := ⟨3, ![4, 1024, 1536]⟩
abbrev S_ : Shape := ⟨0, ![]⟩
abbrev S8192x1024 : Shape := ⟨2, ![8192, 1024]⟩
abbrev S1024x4x1536 : Shape := ⟨3, ![1024, 4, 1536]⟩
abbrev S1024x6144 : Shape := ⟨2, ![1024, 6144]⟩
abbrev S8192x6144 : Shape := ⟨2, ![8192, 6144]⟩

abbrev nBuf : Space → Nat
  | .hbm => 15
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S4x1024x1536, .bf16⟩
  | .hbm, ⟨3, _⟩ => ⟨S_, .f32⟩
  | .hbm, ⟨4, _⟩ => ⟨S8192x1024, .f32⟩
  | .hbm, ⟨5, _⟩ => ⟨S4x1024x1536, .f32⟩
  | .hbm, ⟨6, _⟩ => ⟨S1024x4x1536, .f32⟩
  | .hbm, ⟨7, _⟩ => ⟨S1024x6144, .f32⟩
  | .hbm, ⟨8, _⟩ => ⟨S8192x6144, .f32⟩
  | .hbm, ⟨9, _⟩ => ⟨S8192x3072, .f32⟩
  | .hbm, ⟨10, _⟩ => ⟨S8192x3072, .f32⟩
  | .hbm, ⟨11, _⟩ => ⟨S8192x3072, .f32⟩
  | .hbm, ⟨12, _⟩ => ⟨S8192x3072, .f32⟩
  | .hbm, ⟨13, _⟩ => ⟨S8192x6144, .f32⟩
  | .hbm, ⟨14, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== DH1.lean ====
abbrev S8192x1024 : Shape := ⟨2, ![8192, 1024]⟩
abbrev S1024x5120 : Shape := ⟨2, ![1024, 5120]⟩
abbrev S1024x1024 : Shape := ⟨2, ![1024, 1024]⟩

abbrev nBuf : Space → Nat
  | .hbm => 8
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S1024x5120, .bf16⟩
  | .hbm, ⟨6, _⟩ => ⟨S8192x1024, .f32⟩
  | .hbm, ⟨7, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 1, 5], ![false, false, false]⟩

def k0_cond7 (i : grid0.Coords) : BitVec 1 :=
  let arg2 : BitVec 32 := BitVec.ofNat 32 (i 2).val
  let c4_i32_11 : BitVec 32 := 4#32
  let v28 : BitVec 1 := Scalar.cmpi .eq arg2 c4_i32_11
  let v29 : BitVec 32 := Scalar.extui v28
  let c0_i32_12 : BitVec 32 := 0#32
  let v30 : BitVec 1 := Scalar.cmpi .ne v29 c0_i32_12
  v30

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== DH1RefIdeal.lean ====
abbrev S8192x1024 : Shape := ⟨2, ![8192, 1024]⟩
abbrev S1024x5120 : Shape := ⟨2, ![1024, 5120]⟩
abbrev S_ : Shape := ⟨0, ![]⟩
abbrev S8192x5120 : Shape := ⟨2, ![8192, 5120]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S1024x5120, .bf16⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S1024x5120, .f32⟩
  | .hbm, ⟨10, _⟩ => ⟨S8192x5120, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x5120, .f32⟩
  | .hbm, ⟨22, _⟩ => ⟨S8192x1024, .f32⟩
  | .hbm, ⟨23, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== DwFfnDown.lean ====
abbrev S8192x3072 : Shape := ⟨2, ![8192, 3072]⟩
abbrev S8192x1024 : Shape := ⟨2, ![8192, 1024]⟩
abbrev S3072x1024 : Shape := ⟨2, ![3072, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFfnDownRefIdeal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S_, .f32⟩
  | .hbm, ⟨3, _⟩ => ⟨S3072x1024, .f32⟩
  | .hbm, ⟨4, _⟩ => ⟨S8192x3072, .f32⟩
  | .hbm, ⟨5, _⟩ => ⟨S8192x1024, .f32⟩
  | .hbm, ⟨6, _⟩ => ⟨S8192x1024, .f32⟩
  | .hbm, ⟨7, _⟩ => ⟨S1024x3072, .f32⟩
  | .hbm, ⟨8, _⟩ => ⟨S3072x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnDown.lean ====
abbrev S8192x3072 : Shape := ⟨2, ![8192, 3072]⟩
abbrev S3072x1024 : Shape := ⟨2, ![3072, 1024]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S8192x3072 : Shape := ⟨2, ![8192, 3072]⟩
abbrev S3072x1024 : Shape := ⟨2, ![3072, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x3072, .f32⟩
  | .hbm, ⟨3, _⟩ => ⟨S3072x1024, .f32⟩
  | .hbm, ⟨4, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InRnn.lean ====
abbrev S8192x1024 : Shape := ⟨2, ![8192, 1024]⟩
abbrev S1024x2560 : Shape := ⟨2, ![1024, 2560]⟩
abbrev S8192x2560 : Shape := ⟨2, ![8192, 2560]⟩
abbrev S1024x1024 : Shape := ⟨2, ![1024, 1024]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .bf16⟩
  | .hbm, ⟨2, _⟩ => ⟨S8192x2560, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRnnRefIdeal.lean ====
abbrev S8192x1024 : Shape := ⟨2, ![8192, 1024]⟩
abbrev S1024x2560 : Shape := ⟨2, ![1024, 2560]⟩
abbrev S8192x2560 : Shape := ⟨2, ![8192, 2560]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .bf16⟩
  | .hbm, ⟨2, _⟩ => ⟨S8192x1024, .f32⟩
  | .hbm, ⟨3, _⟩ => ⟨S1024x2560, .f32⟩
  | .hbm, ⟨4, _⟩ => ⟨S8192x2560, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwInRnn.lean ====
abbrev S8192x1024 : Shape := ⟨2, ![8192, 1024]⟩
abbrev S8192x1280 : Shape := ⟨2, ![8192, 1280]⟩
abbrev S1024x1280 : Shape := ⟨2, ![1024, 1280]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1280, .bf16⟩
  | .hbm, ⟨2, _⟩ => ⟨S1024x1280, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwInRnnRefIdeal.lean ====
abbrev S8192x1024 : Shape := ⟨2, ![8192, 1024]⟩
abbrev S8192x1280 : Shape := ⟨2, ![8192, 1280]⟩
abbrev S_ : Shape := ⟨0, ![]⟩
abbrev S1024x1280 : Shape := ⟨2, ![1024, 1280]⟩
abbrev S1280x1024 : Shape := ⟨2, ![1280, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1280, .bf16⟩
  | .hbm, ⟨2, _⟩ => ⟨S_, .f32⟩
  | .hbm, ⟨3, _⟩ => ⟨S1024x1280, .f32⟩
  | .hbm, ⟨4, _⟩ => ⟨S8192x1024, .f32⟩
  | .hbm, ⟨5, _⟩ => ⟨S8192x1280, .f32⟩
  | .hbm, ⟨6, _⟩ => ⟨S8192x1280, .f32⟩
  | .hbm, ⟨7, _⟩ => ⟨S1280x1024, .f32⟩
  | .hbm, ⟨8, _⟩ => ⟨S1024x1280, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DH1Rnn.lean ====
abbrev S8192x1280 : Shape := ⟨2, ![8192, 1280]⟩
abbrev S1024x2560 : Shape := ⟨2, ![1024, 2560]⟩
abbrev S8192x1024 : Shape := ⟨2, ![8192, 1024]⟩
abbrev S1024x640 : Shape := ⟨2, ![1024, 640]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x1280, .bf16⟩
  | .hbm, ⟨1, _⟩ => ⟨S8192x1280, .bf16⟩
  | .hbm, ⟨2, _⟩ => ⟨S1024x2560, .bf16⟩
  | .hbm, ⟨3, _⟩ => ⟨S8192x1024, .f32⟩
  | .hbm, ⟨4, _⟩ => ⟨S8192x1024, .f32⟩
  | .local _ .vmem, ⟨0, _⟩ => ⟨S1024x640, .bf16⟩
  | .local _ .vmem, ⟨1, _⟩ => ⟨S1024x640, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 1, 4], ![false, false, false]⟩

def k0_cond4 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DH1RnnRefIdeal.lean ====
abbrev S8192x1280 : Shape := ⟨2, ![8192, 1280]⟩
abbrev S1024x2560 : Shape := ⟨2, ![1024, 2560]⟩
abbrev S8192x1024 : Shape := ⟨2, ![8192, 1024]⟩
abbrev S_ : Shape := ⟨0, ![]⟩
abbrev S8192x2560 : Shape := ⟨2, ![8192, 2560]⟩

abbrev nBuf : Space → Nat
  | .hbm => 15
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S8192x1280, .bf16⟩
  | .hbm, ⟨2, _⟩ => ⟨S1024x2560, .bf16⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S1024x2560, .f32⟩
  | .hbm, ⟨7, _⟩ => ⟨S8192x2560, .f32⟩
  | .hbm, ⟨8, _⟩ => ⟨S8192x1280, .f32⟩
  | .hbm, ⟨9, _⟩ => ⟨S8192x1280, .f32⟩
  | .hbm, ⟨10, _⟩ => ⟨S8192x1280, .f32⟩
  | .hbm, ⟨11, _⟩ => ⟨S8192x1280, .f32⟩
  | .hbm, ⟨12, _⟩ => ⟨S8192x2560, .f32⟩
  | .hbm, ⟨13, _⟩ => ⟨S8192x1024, .f32⟩
  | .hbm, ⟨14, _⟩ => ⟨S8192x1024, .f32⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== MixOut.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DMerged.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InKv.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InKvRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InMg.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .f32⟩
  | .local _ .vmem, ⟨4, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InMgRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DYRnn.lean ====
abbrev S8192x1024 : Shape := ⟨2, ![8192, 1024]⟩
abbrev S1280x1024 : Shape := ⟨2, ![1280, 1024]⟩
abbrev S8192x1280 : Shape := ⟨2, ![8192, 1280]⟩
abbrev S1024x1024 : Shape := ⟨2, ![1024, 1024]⟩
abbrev S1024x1280 : Shape := ⟨2, ![1024, 1280]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1280x1024, .bf16⟩
  | .hbm, ⟨2, _⟩ => ⟨S8192x1280, .f32⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1024x1280, .f32⟩
  | .local _ .vmem, ⟨4, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYRnnRefIdeal.lean ====
abbrev S8192x1024 : Shape := ⟨2, ![8192, 1024]⟩
abbrev S1280x1024 : Shape := ⟨2, ![1280, 1024]⟩
abbrev S_ : Shape := ⟨0, ![]⟩
abbrev S8192x1280 : Shape := ⟨2, ![8192, 1280]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1280x1024, .bf16⟩
  | .hbm, ⟨2, _⟩ => ⟨S_, .f32⟩
  | .hbm, ⟨3, _⟩ => ⟨S8192x1280, .f32⟩
  | .hbm, ⟨4, _⟩ => ⟨S1280x1024, .f32⟩
  | .hbm, ⟨5, _⟩ => ⟨S8192x1024, .f32⟩
  | .hbm, ⟨6, _⟩ => ⟨S8192x1024, .f32⟩
  | .hbm, ⟨7, _⟩ => ⟨S8192x1280, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwProjRnn.lean ====
abbrev S8192x1280 : Shape := ⟨2, ![8192, 1280]⟩
abbrev S8192x1024 : Shape := ⟨2, ![8192, 1024]⟩
abbrev S1280x1024 : Shape := ⟨2, ![1280, 1024]⟩
abbrev S1024x1280 : Shape := ⟨2, ![1024, 1280]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .bf16⟩
  | .hbm, ⟨2, _⟩ => ⟨S1280x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .f32⟩
  | .local _ .vmem, ⟨5, _⟩ => ⟨S1280x1024, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1280x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwProjRnnRefIdeal.lean ====
abbrev S8192x1280 : Shape := ⟨2, ![8192, 1280]⟩
abbrev S8192x1024 : Shape := ⟨2, ![8192, 1024]⟩
abbrev S_ : Shape := ⟨0, ![]⟩
abbrev S1280x1024 : Shape := ⟨2, ![1280, 1024]⟩
abbrev S1024x1280 : Shape := ⟨2, ![1024, 1280]⟩

abbrev nBuf : Space → Nat
  | .hbm => 9
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .bf16⟩
  | .hbm, ⟨2, _⟩ => ⟨S_, .f32⟩
  | .hbm, ⟨3, _⟩ => ⟨S1280x1024, .f32⟩
  | .hbm, ⟨4, _⟩ => ⟨S8192x1280, .f32⟩
  | .hbm, ⟨5, _⟩ => ⟨S8192x1024, .f32⟩
  | .hbm, ⟨6, _⟩ => ⟨S8192x1024, .f32⟩
  | .hbm, ⟨7, _⟩ => ⟨S1024x1280, .f32⟩
  | .hbm, ⟨8, _⟩ => ⟨S1280x1024, .f32⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjRnn.lean ====
abbrev S8192x1280 : Shape := ⟨2, ![8192, 1280]⟩
abbrev S1280x1024 : Shape := ⟨2, ![1280, 1024]⟩
abbrev S8192x1024 : Shape := ⟨2, ![8192, 1024]⟩
abbrev S1024x640 : Shape := ⟨2, ![1024, 640]⟩
abbrev S640x1024 : Shape := ⟨2, ![640, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1280, .bf16⟩
  | .hbm, ⟨1, _⟩ => ⟨S1280x1024, .bf16⟩
  | .hbm, ⟨2, _⟩ => ⟨S8192x1024, .f32⟩
  | .local _ .vmem, ⟨0, _⟩ => ⟨S1024x640, .bf16⟩
  | .local _ .vmem, ⟨1, _⟩ => ⟨S1024x640, .bf16⟩
  | .local _ .vmem, ⟨2, _⟩ => ⟨S640x1024, .bf16⟩
  | .local _ .vmem, ⟨3, _⟩ => ⟨S640x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRnnRefIdeal.lean ====
abbrev S8192x1280 : Shape := ⟨2, ![8192, 1280]⟩
abbrev S1280x1024 : Shape := ⟨2, ![1280, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S1280x1024, .bf16⟩
  | .hbm, ⟨2, _⟩ => ⟨S8192x1280, .f32⟩
  | .hbm, ⟨3, _⟩ => ⟨S1280x1024, .f32⟩
  | .hbm, ⟨4, _⟩ => ⟨S8192x1024, .f32⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InQ.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InQRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjAttn.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAttnRefIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DwProjAttn.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwProjAttnRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InFl.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFlRefIdeal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwInFl.lean ====
abbrev S8192x1024 : Shape := ⟨2, ![8192, 1024]⟩
abbrev S8192x128 : Shape := ⟨2, ![8192, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwInFlRefIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S8192x128, .f32⟩
  | .hbm, ⟨7, _⟩ => ⟨S128x1024, .f32⟩
  | .hbm, ⟨8, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DH1Fl.lean ====
abbrev S8192x128 : Shape := ⟨2, ![8192, 128]⟩
abbrev S1024x128 : Shape := ⟨2, ![1024, 128]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH1FlRefIdeal.lean ====
abbrev S8192x128 : Shape := ⟨2, ![8192, 128]⟩
abbrev S1024x128 : Shape := ⟨2, ![1024, 128]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S_, .f32⟩
  | .hbm, ⟨3, _⟩ => ⟨S8192x1024, .f32⟩
  | .hbm, ⟨4, _⟩ => ⟨S1024x128, .f32⟩
  | .hbm, ⟨5, _⟩ => ⟨S8192x128, .f32⟩
  | .hbm, ⟨6, _⟩ => ⟨S8192x128, .f32⟩
  | .hbm, ⟨7, _⟩ => ⟨S8192x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MergeBwd.lean ====
abbrev S4x2048x1024 : Shape := ⟨3, ![4, 2048, 1024]⟩
abbrev S4x2048x2048 : Shape := ⟨3, ![4, 2048, 2048]⟩
abbrev S1x512x1024 : Shape := ⟨3, ![1, 512, 1024]⟩
abbrev S512x1024 : Shape := ⟨2, ![512, 1024]⟩

abbrev nBuf : Space → Nat
  | .hbm => 8
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .f32⟩
  | .hbm, ⟨2, _⟩ => ⟨S4x2048x1024, .f32⟩
  | .hbm, ⟨3, _⟩ => ⟨S4x2048x1024, .f32⟩
  | .hbm, ⟨4, _⟩ => ⟨S4x2048x1024, .bf16⟩
  | .hbm, ⟨5, _⟩ => ⟨S4x2048x1024, .bf16⟩
  | .hbm, ⟨6, _⟩ => ⟨S4x2048x1024, .bf16⟩
  | .hbm, ⟨7, _⟩ => ⟨S4x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeBwdRefIdeal.lean ====
abbrev S4x2048x1024 : Shape := ⟨3, ![4, 2048, 1024]⟩
abbrev S4x2048x2048 : Shape := ⟨3, ![4, 2048, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .f32⟩
  | .hbm, ⟨2, _⟩ => ⟨S4x2048x1024, .f32⟩
  | .hbm, ⟨3, _⟩ => ⟨S4x2048x1024, .f32⟩
  | .hbm, ⟨4, _⟩ => ⟨S4x2048x2048, .f32⟩
  | .hbm, ⟨5, _⟩ => ⟨S4x2048x2048, .f32⟩
  | .hbm, ⟨6, _⟩ => ⟨S_, .f32⟩
  | .hbm, ⟨7, _⟩ => ⟨S4x2048x2048, .f32⟩
  | .hbm, ⟨8, _⟩ => ⟨S4x2048x2048, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x2048, .f32⟩
  | .hbm, ⟨28, _⟩ => ⟨S4x2048x2048, .f32⟩
  | .hbm, ⟨29, _⟩ => ⟨S4x2048x1024, .f32⟩
  | .hbm, ⟨30, _⟩ => ⟨S4x2048x1024, .f32⟩
  | .hbm, ⟨31, _⟩ => ⟨S4x2048x1024, .bf16⟩
  | .hbm, ⟨32, _⟩ => ⟨S4x2048x1024, .bf16⟩
  | .hbm, ⟨33, _⟩ => ⟨S4x2048x1024, .bf16⟩
  | .hbm, ⟨34, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== MergeFwd.lean ====
abbrev S4x2048x2048 : Shape := ⟨3, ![4, 2048, 2048]⟩
abbrev S4x2048x1024 : Shape := ⟨3, ![4, 2048, 1024]⟩
abbrev S1x512x1024 : Shape := ⟨3, ![1, 512, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .f32⟩
  | .hbm, ⟨2, _⟩ => ⟨S4x2048x1024, .f32⟩
  | .hbm, ⟨3, _⟩ => ⟨S4x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .bf16⟩
  | .local _ .vmem, ⟨9, _⟩ => ⟨S1x512x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeFwdRefIdeal.lean ====
abbrev S4x2048x2048 : Shape := ⟨3, ![4, 2048, 2048]⟩
abbrev S4x2048x1024 : Shape := ⟨3, ![4, 2048, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .f32⟩
  | .hbm, ⟨2, _⟩ => ⟨S4x2048x1024, .f32⟩
  | .hbm, ⟨3, _⟩ => ⟨S4x2048x2048, .f32⟩
  | .hbm, ⟨4, _⟩ => ⟨S4x2048x2048, .f32⟩
  | .hbm, ⟨5, _⟩ => ⟨S_, .f32⟩
  | .hbm, ⟨6, _⟩ => ⟨S4x2048x2048, .f32⟩
  | .hbm, ⟨7, _⟩ => ⟨S4x2048x2048, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S4x2048x1024, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Norm1.lean ====
abbrev S4x2048x1024 : Shape := ⟨3, ![4, 2048, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S4x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .bf16⟩
  | .local _ .vmem, ⟨8, _⟩ => ⟨S1x512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Norm1RefIdeal.lean ====
abbrev S4x2048x1024 : Shape := ⟨3, ![4, 2048, 1024]⟩
abbrev S1x1024 : Shape := ⟨2, ![1, 1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Norm2.lean ====
abbrev S4x2048x1024 : Shape := ⟨3, ![4, 2048, 1024]⟩
abbrev S4x1x1024 : Shape := ⟨3, ![4, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 15
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x1x1024, .f32⟩
  | .hbm, ⟨3, _⟩ => ⟨S1x1024, .f32⟩
  | .hbm, ⟨4, _⟩ => ⟨S4x1x1024, .f32⟩
  | .hbm, ⟨5, _⟩ => ⟨S4x1x1024, .f32⟩
  | .hbm, ⟨6, _⟩ => ⟨S4x2048x1024, .f32⟩
  | .hbm, ⟨7, _⟩ => ⟨S4x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .bf16⟩
  | .local _ .vmem, ⟨14, _⟩ => ⟨S1x512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Norm2RefIdeal.lean ====
abbrev S4x2048x1024 : Shape := ⟨3, ![4, 2048, 1024]⟩
abbrev S4x1x1024 : Shape := ⟨3, ![4, 1, 1024]⟩
abbrev S1x1024 : Shape := ⟨2, ![1, 1024]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x1x1024, .f32⟩
  | .hbm, ⟨3, _⟩ => ⟨S1x1024, .f32⟩
  | .hbm, ⟨4, _⟩ => ⟨S4x1x1024, .f32⟩
  | .hbm, ⟨5, _⟩ => ⟨S4x1x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Norm1Bwd.lean ====
abbrev S4x2048x1024 : Shape := ⟨3, ![4, 2048, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1x1024, .f32⟩
  | .hbm, ⟨4, _⟩ => ⟨S4x1x1024, .f32⟩
  | .hbm, ⟨5, _⟩ => ⟨S4x2048x1024, .f32⟩
  | .hbm, ⟨6, _⟩ => ⟨S4x1x1024, .f32⟩
  | .hbm, ⟨7, _⟩ => ⟨S4x1x1024, .f32⟩
  | .hbm, ⟨8, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Norm1BwdRefIdeal.lean ====
abbrev S4x2048x1024 : Shape := ⟨3, ![4, 2048, 1024]⟩
abbrev S1x1024 : Shape := ⟨2, ![1, 1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S4x1024 : Shape := ⟨2, ![4, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1x1024, .f32⟩
  | .hbm, ⟨4, _⟩ => ⟨S4x1x1024, .f32⟩
  | .hbm, ⟨5, _⟩ => ⟨S_, .f32⟩
  | .hbm, ⟨6, _⟩ => ⟨S4x1x1024, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S4x1024, .f32⟩
  | .hbm, ⟨38, _⟩ => ⟨S4x1x1024, .f32⟩
  | .hbm, ⟨39, _⟩ => ⟨S4x2048x1024, .f32⟩
  | .hbm, ⟨40, _⟩ => ⟨S_, .f32⟩
  | .hbm, ⟨41, _⟩ => ⟨S4x1024, .f32⟩
  | .hbm, ⟨42, _⟩ => ⟨S4x1x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S_, .f32⟩
  | .hbm, ⟨47, _⟩ => ⟨S1024, .f32⟩
  | .hbm, ⟨48, _⟩ => ⟨S1x1x1024, .f32⟩
  | .hbm, ⟨49, _⟩ => ⟨S4x2048x1024, .f32⟩
  | .hbm, ⟨50, _⟩ => ⟨S4x2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4x2048x1024, .f32⟩
  | .hbm, ⟨55, _⟩ => ⟨S_, .f32⟩
  | .hbm, ⟨56, _⟩ => ⟨S4x2048, .f32⟩
  | .hbm, ⟨57, _⟩ => ⟨S4x2048x1, .f32⟩
  | .hbm, ⟨58, _⟩ => ⟨S4x2048x1024, .f32⟩
  | .hbm, ⟨59, _⟩ => ⟨S4x2048x1024, .f32⟩
  | .hbm, ⟨60, _⟩ => ⟨S4x2048x1, .f32⟩
  | .hbm, ⟨61, _⟩ => ⟨S_, .f32⟩
  | .hbm, ⟨62, _⟩ => ⟨S4x2048x1, .f32⟩
  | .hbm, ⟨63, _⟩ => ⟨S4x2048x1, .f32⟩
  | .hbm, ⟨64, _⟩ => ⟨S_, .f32⟩
  | .hbm, ⟨65, _⟩ => ⟨S4x2048, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | .hbm, ⟨71, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Norm2Bwd.lean ====
abbrev S4x2048x1024 : Shape := ⟨3, ![4, 2048, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1x1024, .f32⟩
  | .hbm, ⟨4, _⟩ => ⟨S4x1x1024, .f32⟩
  | .hbm, ⟨5, _⟩ => ⟨S4x2048x1024, .f32⟩
  | .hbm, ⟨6, _⟩ => ⟨S4x1x1024, .f32⟩
  | .hbm, ⟨7, _⟩ => ⟨S4x2048x1024, .bf16⟩
  | .hbm, ⟨8, _⟩ => ⟨S4x1x1024, .f32⟩
  | .hbm, ⟨9, _⟩ => ⟨S4x2048x1024, .f32⟩
  | .hbm, ⟨10, _⟩ => ⟨S4x1x1024, .f32⟩
  | .hbm, ⟨11, _⟩ => ⟨S4x1x1024, .f32⟩
  | .hbm, ⟨12, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x512x1024, .bf16⟩
  | .local _ .vmem, ⟨14, _⟩ => ⟨S1x512x1024, .bf16⟩
  | .local _ .vmem, ⟨15, _⟩ => ⟨S1x1x1024, .f32⟩
  | .local _ .vmem, ⟨16, _⟩ => ⟨S1x1x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Norm2BwdRefIdeal.lean ====
abbrev S4x2048x1024 : Shape := ⟨3, ![4, 2048, 1024]⟩
abbrev S1x1024 : Shape := ⟨2, ![1, 1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S4x1024 : Shape := ⟨2, ![4, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1x1024, .f32⟩
  | .hbm, ⟨4, _⟩ => ⟨S4x1x1024, .f32⟩
  | .hbm, ⟨5, _⟩ => ⟨S4x2048x1024, .f32⟩
  | .hbm, ⟨6, _⟩ => ⟨S4x1x1024, .f32⟩
  | .hbm, ⟨7, _⟩ => ⟨S_, .f32⟩
  | .hbm, ⟨8, _⟩ => ⟨S4x1x1024, .f32⟩
  | .hbm, ⟨9, _⟩ => ⟨S4x2048x1024, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S_, .f32⟩
  | .hbm, ⟨39, _⟩ => ⟨S4x1024, .f32⟩
  | .hbm, ⟨40, _⟩ => ⟨S4x1x1024, .f32⟩
  | .hbm, ⟨41, _⟩ => ⟨S4x2048x1024, .f32⟩
  | .hbm, ⟨42, _⟩ => ⟨S_, .f32⟩
  | .hbm, ⟨43, _⟩ => ⟨S4x1024, .f32⟩
  | .hbm, ⟨44, _⟩ => ⟨S4x1x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S_, .f32⟩
  | .hbm, ⟨49, _⟩ => ⟨S1024, .f32⟩
  | .hbm, ⟨50, _⟩ => ⟨S1x1x1024, .f32⟩
  | .hbm, ⟨51, _⟩ => ⟨S4x2048x1024, .f32⟩
  | .hbm, ⟨52, _⟩ => ⟨S4x2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4x2048x1024, .f32⟩
  | .hbm, ⟨57, _⟩ => ⟨S_, .f32⟩
  | .hbm, ⟨58, _⟩ => ⟨S4x2048, .f32⟩
  | .hbm, ⟨59, _⟩ => ⟨S4x2048x1, .f32⟩
  | .hbm, ⟨60, _⟩ => ⟨S4x2048x1024, .f32⟩
  | .hbm, ⟨61, _⟩ => ⟨S4x2048x1024, .f32⟩
  | .hbm, ⟨62, _⟩ => ⟨S4x2048x1, .f32⟩
  | .hbm, ⟨63, _⟩ => ⟨S_, .f32⟩
  | .hbm, ⟨64, _⟩ => ⟨S4x2048x1, .f32⟩
  | .hbm, ⟨65, _⟩ => ⟨S4x2048x1, .f32⟩
  | .hbm, ⟨66, _⟩ => ⟨S_, .f32⟩
  | .hbm, ⟨67, _⟩ => ⟨S4x2048, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | .hbm, ⟨71, _⟩ => ⟨S4x2048x1024, .f32⟩
  | .hbm, ⟨72, _⟩ => ⟨S4x2048x1024, .f32⟩
  | .hbm, ⟨73, _⟩ => ⟨S4x2048x1024, .f32⟩
  | .hbm, ⟨74, _⟩ => ⟨S4x2048x1024, .f32⟩
  | .hbm, ⟨75, _⟩ => ⟨S4x2048x1024, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S_, .f32⟩
  | .hbm, ⟨80, _⟩ => ⟨S4x1024, .f32⟩
  | .hbm, ⟨81, _⟩ => ⟨S4x1x1024, .f32⟩
  | .hbm, ⟨82, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== AdamIn.lean ====
abbrev S1024x1922 : Shape := ⟨2, ![1024, 1922]⟩
abbrev S128x1922 : Shape := ⟨2, ![128, 1922]⟩

abbrev nBuf : Space → Nat
  | .hbm => 7
  | .vmem => 14
  | .smem => 0
  | _ => 0

abbrev bufTy : (tb : Table) → Fin (tcTables nBuf tb) → BufTy
  | .hbm, ⟨0, _⟩ => ⟨S1024x1922, .f32⟩
  | .hbm, ⟨1, _⟩ => ⟨S1024x1922, .f32⟩
  | .hbm, ⟨2, _⟩ => ⟨S1024x1922, .f32⟩
  | .hbm, ⟨3, _⟩ => ⟨S1024x1922, .f32⟩
  | .hbm, ⟨4, _⟩ => ⟨S1024x1922, .f32⟩
  | .hbm, ⟨5, _⟩ => ⟨S1024x1922, .f32⟩
  | .hbm, ⟨6, _⟩ => ⟨S1024x1922, .f32⟩
  | .local _ .vmem, ⟨0, _⟩ => ⟨S128x1922, .f32⟩
  | .local _ .vmem, ⟨1, _⟩ => ⟨S128x1922, .f32⟩
  | .local _ .vmem, ⟨2, _⟩ => ⟨S128x1922, .f32⟩
  | .local _ .vmem, ⟨3, _⟩ => ⟨S128x1922, .f32⟩
  | .local _ .vmem, ⟨4, _⟩ => ⟨S128x1922, .f32⟩
  | .local _ .vmem, ⟨5, _⟩ => ⟨S128x1922, .f32⟩
  | .local _ .vmem, ⟨6, _⟩ => ⟨S128x1922, .f32⟩
  | .local _ .vmem, ⟨7, _⟩ => ⟨S128x1922, .f32⟩
  | .local _ .vmem, ⟨8, _⟩ => ⟨S128x1922, .f32⟩
  | .local _ .vmem, ⟨9, _⟩ => ⟨S128x1922, .f32⟩
  | .local _ .vmem, ⟨10, _⟩ => ⟨S128x1922, .f32⟩
  | .local _ .vmem, ⟨11, _⟩ => ⟨S128x1922, .f32⟩
  | .local _ .vmem, ⟨12, _⟩ => ⟨S128x1922, .f32⟩
  | .local _ .vmem, ⟨13, _⟩ => ⟨S128x1922, .f32⟩
  | _, _ => ⟨S1024x1922, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1922 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1922 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1922 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1922 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1922 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1922 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1922 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1024x1922 : Shape := ⟨2, ![1024, 1922]⟩
abbrev S128x1922 : Shape := ⟨2, ![128, 1922]⟩

abbrev nBuf : Space → Nat
  | .hbm => 7
  | .vmem => 14
  | .smem => 0
  | _ => 0

abbrev bufTy : (tb : Table) → Fin (tcTables nBuf tb) → BufTy
  | .hbm, ⟨0, _⟩ => ⟨S1024x1922, .f32⟩
  | .hbm, ⟨1, _⟩ => ⟨S1024x1922, .f32⟩
  | .hbm, ⟨2, _⟩ => ⟨S1024x1922, .f32⟩
  | .hbm, ⟨3, _⟩ => ⟨S1024x1922, .f32⟩
  | .hbm, ⟨4, _⟩ => ⟨S1024x1922, .f32⟩
  | .hbm, ⟨5, _⟩ => ⟨S1024x1922, .f32⟩
  | .hbm, ⟨6, _⟩ => ⟨S1024x1922, .f32⟩
  | .local _ .vmem, ⟨0, _⟩ => ⟨S128x1922, .f32⟩
  | .local _ .vmem, ⟨1, _⟩ => ⟨S128x1922, .f32⟩
  | .local _ .vmem, ⟨2, _⟩ => ⟨S128x1922, .f32⟩
  | .local _ .vmem, ⟨3, _⟩ => ⟨S128x1922, .f32⟩
  | .local _ .vmem, ⟨4, _⟩ => ⟨S128x1922, .f32⟩
  | .local _ .vmem, ⟨5, _⟩ => ⟨S128x1922, .f32⟩
  | .local _ .vmem, ⟨6, _⟩ => ⟨S128x1922, .f32⟩
  | .local _ .vmem, ⟨7, _⟩ => ⟨S128x1922, .f32⟩
  | .local _ .vmem, ⟨8, _⟩ => ⟨S128x1922, .f32⟩
  | .local _ .vmem, ⟨9, _⟩ => ⟨S128x1922, .f32⟩
  | .local _ .vmem, ⟨10, _⟩ => ⟨S128x1922, .f32⟩
  | .local _ .vmem, ⟨11, _⟩ => ⟨S128x1922, .f32⟩
  | .local _ .vmem, ⟨12, _⟩ => ⟨S128x1922, .f32⟩
  | .local _ .vmem, ⟨13, _⟩ => ⟨S128x1922, .f32⟩
  | _, _ => ⟨S1024x1922, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1922 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1922 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1922 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1922 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1922 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1922 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1922 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1024x1922 : Shape := ⟨2, ![1024, 1922]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1922, .f32⟩
  | .hbm, ⟨1, _⟩ => ⟨S1024x1922, .f32⟩
  | .hbm, ⟨2, _⟩ => ⟨S1024x1922, .f32⟩
  | .hbm, ⟨3, _⟩ => ⟨S1024x1922, .f32⟩
  | .hbm, ⟨4, _⟩ => ⟨S_, .f32⟩
  | .hbm, ⟨5, _⟩ => ⟨S1024x1922, .f32⟩
  | .hbm, ⟨6, _⟩ => ⟨S1024x1922, .f32⟩
  | .hbm, ⟨7, _⟩ => ⟨S_, .f32⟩
  | .hbm, ⟨8, _⟩ => ⟨S1024x1922, .f32⟩
  | .hbm, ⟨9, _⟩ => ⟨S1024x1922, .f32⟩
  | .hbm, ⟨10, _⟩ => ⟨S1024x1922, .f32⟩
  | .hbm, ⟨11, _⟩ => ⟨S_, .f32⟩
  | .hbm, ⟨12, _⟩ => ⟨S1024x1922, .f32⟩
  | .hbm, ⟨13, _⟩ => ⟨S1024x1922, .f32⟩
  | .hbm, ⟨14, _⟩ => ⟨S1024x1922, .f32⟩
  | .hbm, ⟨15, _⟩ => ⟨S_, .f32⟩
  | .hbm, ⟨16, _⟩ => ⟨S1024x1922, .f32⟩
  | .hbm, ⟨17, _⟩ => ⟨S1024x1922, .f32⟩
  | .hbm, ⟨18, _⟩ => ⟨S1024x1922, .f32⟩
  | .hbm, ⟨19, _⟩ => ⟨S_, .f32⟩
  | .hbm, ⟨20, _⟩ => ⟨S1024x1922, .f32⟩
  | .hbm, ⟨21, _⟩ => ⟨S1024x1922, .f32⟩
  | .hbm, ⟨22, _⟩ => ⟨S_, .f32⟩
  | .hbm, ⟨23, _⟩ => ⟨S1024x1922, .f32⟩
  | .hbm, ⟨24, _⟩ => ⟨S1024x1922, .f32⟩
  | .hbm, ⟨25, _⟩ => ⟨S1024x1922, .f32⟩
  | .hbm, ⟨26, _⟩ => ⟨S_, .f32⟩
  | .hbm, ⟨27, _⟩ => ⟨S1024x1922, .f32⟩
  | .hbm, ⟨28, _⟩ => ⟨S1024x1922, .f32⟩
  | .hbm, ⟨29, _⟩ => ⟨S1024x1922, .f32⟩
  | .hbm, ⟨30, _⟩ => ⟨S_, .f32⟩
  | .hbm, ⟨31, _⟩ => ⟨S1024x1922, .f32⟩
  | .hbm, ⟨32, _⟩ => ⟨S1024x1922, .f32⟩
  | .hbm, ⟨33, _⟩ => ⟨S1024x1922, .f32⟩
  | .hbm, ⟨34, _⟩ => ⟨S_, .f32⟩
  | .hbm, ⟨35, _⟩ => ⟨S1024x1922, .f32⟩
  | .hbm, ⟨36, _⟩ => ⟨S1024x1922, .f32⟩
  | _, _ => ⟨S1024x1922, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S1024x1536 : Shape := ⟨2, ![1024, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S1024x1536 : Shape := ⟨2, ![1024, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamProjRnn.lean ====
abbrev S320x1024 : Shape := ⟨2, ![320, 1024]⟩
abbrev S160x1024 : Shape := ⟨2, ![160, 1024]⟩

abbrev nBuf : Space → Nat
  | .hbm => 7
  | .vmem => 14
  | .smem => 0
  | _ => 0

abbrev bufTy : (tb : Table) → Fin (tcTables nBuf tb) → BufTy
  | .hbm, ⟨0, _⟩ => ⟨S320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S320x1024, .f32⟩
  | .hbm, ⟨5, _⟩ => ⟨S320x1024, .f32⟩
  | .hbm, ⟨6, _⟩ => ⟨S320x1024, .f32⟩
  | .local _ .vmem, ⟨0, _⟩ => ⟨S160x1024, .f32⟩
  | .local _ .vmem, ⟨1, _⟩ => ⟨S160x1024, .f32⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | .local _ .vmem, ⟨7, _⟩ => ⟨S160x1024, .f32⟩
  | .local _ .vmem, ⟨8, _⟩ => ⟨S160x1024, .f32⟩
  | .local _ .vmem, ⟨9, _⟩ => ⟨S160x1024, .f32⟩
  | .local _ .vmem, ⟨10, _⟩ => ⟨S160x1024, .f32⟩
  | .local _ .vmem, ⟨11, _⟩ => ⟨S160x1024, .f32⟩
  | .local _ .vmem, ⟨12, _⟩ => ⟨S160x1024, .f32⟩
  | .local _ .vmem, ⟨13, _⟩ => ⟨S160x1024, .f32⟩
  | _, _ => ⟨S320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamProjRnnIdeal.lean ====
abbrev S320x1024 : Shape := ⟨2, ![320, 1024]⟩
abbrev S160x1024 : Shape := ⟨2, ![160, 1024]⟩

abbrev nBuf : Space → Nat
  | .hbm => 7
  | .vmem => 14
  | .smem => 0
  | _ => 0

abbrev bufTy : (tb : Table) → Fin (tcTables nBuf tb) → BufTy
  | .hbm, ⟨0, _⟩ => ⟨S320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S320x1024, .f32⟩
  | .hbm, ⟨5, _⟩ => ⟨S320x1024, .f32⟩
  | .hbm, ⟨6, _⟩ => ⟨S320x1024, .f32⟩
  | .local _ .vmem, ⟨0, _⟩ => ⟨S160x1024, .f32⟩
  | .local _ .vmem, ⟨1, _⟩ => ⟨S160x1024, .f32⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | .local _ .vmem, ⟨7, _⟩ => ⟨S160x1024, .f32⟩
  | .local _ .vmem, ⟨8, _⟩ => ⟨S160x1024, .f32⟩
  | .local _ .vmem, ⟨9, _⟩ => ⟨S160x1024, .f32⟩
  | .local _ .vmem, ⟨10, _⟩ => ⟨S160x1024, .f32⟩
  | .local _ .vmem, ⟨11, _⟩ => ⟨S160x1024, .f32⟩
  | .local _ .vmem, ⟨12, _⟩ => ⟨S160x1024, .f32⟩
  | .local _ .vmem, ⟨13, _⟩ => ⟨S160x1024, .f32⟩
  | _, _ => ⟨S320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamProjRnnRefIdeal.lean ====
abbrev S320x1024 : Shape := ⟨2, ![320, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S_, .f32⟩
  | .hbm, ⟨5, _⟩ => ⟨S320x1024, .f32⟩
  | .hbm, ⟨6, _⟩ => ⟨S320x1024, .f32⟩
  | .hbm, ⟨7, _⟩ => ⟨S_, .f32⟩
  | .hbm, ⟨8, _⟩ => ⟨S320x1024, .f32⟩
  | .hbm, ⟨9, _⟩ => ⟨S320x1024, .f32⟩
  | .hbm, ⟨10, _⟩ => ⟨S320x1024, .f32⟩
  | .hbm, ⟨11, _⟩ => ⟨S_, .f32⟩
  | .hbm, ⟨12, _⟩ => ⟨S320x1024, .f32⟩
  | .hbm, ⟨13, _⟩ => ⟨S320x1024, .f32⟩
  | .hbm, ⟨14, _⟩ => ⟨S320x1024, .f32⟩
  | .hbm, ⟨15, _⟩ => ⟨S_, .f32⟩
  | .hbm, ⟨16, _⟩ => ⟨S320x1024, .f32⟩
  | .hbm, ⟨17, _⟩ => ⟨S320x1024, .f32⟩
  | .hbm, ⟨18, _⟩ => ⟨S320x1024, .f32⟩
  | .hbm, ⟨19, _⟩ => ⟨S_, .f32⟩
  | .hbm, ⟨20, _⟩ => ⟨S320x1024, .f32⟩
  | .hbm, ⟨21, _⟩ => ⟨S320x1024, .f32⟩
  | .hbm, ⟨22, _⟩ => ⟨S_, .f32⟩
  | .hbm, ⟨23, _⟩ => ⟨S320x1024, .f32⟩
  | .hbm, ⟨24, _⟩ => ⟨S320x1024, .f32⟩
  | .hbm, ⟨25, _⟩ => ⟨S320x1024, .f32⟩
  | .hbm, ⟨26, _⟩ => ⟨S_, .f32⟩
  | .hbm, ⟨27, _⟩ => ⟨S320x1024, .f32⟩
  | .hbm, ⟨28, _⟩ => ⟨S320x1024, .f32⟩
  | .hbm, ⟨29, _⟩ => ⟨S320x1024, .f32⟩
  | .hbm, ⟨30, _⟩ => ⟨S_, .f32⟩
  | .hbm, ⟨31, _⟩ => ⟨S320x1024, .f32⟩
  | .hbm, ⟨32, _⟩ => ⟨S320x1024, .f32⟩
  | .hbm, ⟨33, _⟩ => ⟨S320x1024, .f32⟩
  | .hbm, ⟨34, _⟩ => ⟨S_, .f32⟩
  | .hbm, ⟨35, _⟩ => ⟨S320x1024, .f32⟩
  | .hbm, ⟨36, _⟩ => ⟨S320x1024, .f32⟩
  | _, _ => ⟨S320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSquare.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S768x1024 : Shape := ⟨2, ![768, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S768x1024, .f32⟩
  | .hbm, ⟨5, _⟩ => ⟨S768x1024, .f32⟩
  | .hbm, ⟨6, _⟩ => ⟨S768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S768x1024 : Shape := ⟨2, ![768, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S768x1024, .f32⟩
  | .hbm, ⟨5, _⟩ => ⟨S768x1024, .f32⟩
  | .hbm, ⟨6, _⟩ => ⟨S768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S768x1024 : Shape := ⟨2, ![768, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S_, .f32⟩
  | .hbm, ⟨5, _⟩ => ⟨S768x1024, .f32⟩
  | .hbm, ⟨6, _⟩ => ⟨S768x1024, .f32⟩
  | .hbm, ⟨7, _⟩ => ⟨S_, .f32⟩
  | .hbm, ⟨8, _⟩ => ⟨S768x1024, .f32⟩
  | .hbm, ⟨9, _⟩ => ⟨S768x1024, .f32⟩
  | .hbm, ⟨10, _⟩ => ⟨S768x1024, .f32⟩
  | .hbm, ⟨11, _⟩ => ⟨S_, .f32⟩
  | .hbm, ⟨12, _⟩ => ⟨S768x1024, .f32⟩
  | .hbm, ⟨13, _⟩ => ⟨S768x1024, .f32⟩
  | .hbm, ⟨14, _⟩ => ⟨S768x1024, .f32⟩
  | .hbm, ⟨15, _⟩ => ⟨S_, .f32⟩
  | .hbm, ⟨16, _⟩ => ⟨S768x1024, .f32⟩
  | .hbm, ⟨17, _⟩ => ⟨S768x1024, .f32⟩
  | .hbm, ⟨18, _⟩ => ⟨S768x1024, .f32⟩
  | .hbm, ⟨19, _⟩ => ⟨S_, .f32⟩
  | .hbm, ⟨20, _⟩ => ⟨S768x1024, .f32⟩
  | .hbm, ⟨21, _⟩ => ⟨S768x1024, .f32⟩
  | .hbm, ⟨22, _⟩ => ⟨S_, .f32⟩
  | .hbm, ⟨23, _⟩ => ⟨S768x1024, .f32⟩
  | .hbm, ⟨24, _⟩ => ⟨S768x1024, .f32⟩
  | .hbm, ⟨25, _⟩ => ⟨S768x1024, .f32⟩
  | .hbm, ⟨26, _⟩ => ⟨S_, .f32⟩
  | .hbm, ⟨27, _⟩ => ⟨S768x1024, .f32⟩
  | .hbm, ⟨28, _⟩ => ⟨S768x1024, .f32⟩
  | .hbm, ⟨29, _⟩ => ⟨S768x1024, .f32⟩
  | .hbm, ⟨30, _⟩ => ⟨S_, .f32⟩
  | .hbm, ⟨31, _⟩ => ⟨S768x1024, .f32⟩
  | .hbm, ⟨32, _⟩ => ⟨S768x1024, .f32⟩
  | .hbm, ⟨33, _⟩ => ⟨S768x1024, .f32⟩
  | .hbm, ⟨34, _⟩ => ⟨S_, .f32⟩
  | .hbm, ⟨35, _⟩ => ⟨S768x1024, .f32⟩
  | .hbm, ⟨36, _⟩ => ⟨S768x1024, .f32⟩
  | _, _ => ⟨S768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAdaFinal.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaFinalIdeal.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaFinalRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S344x1024 : Shape := ⟨2, ![344, 1024]⟩
abbrev S8x1024 : Shape := ⟨2, ![8, 1024]⟩

abbrev nBuf : Space → Nat
  | .hbm => 7
  | .vmem => 14
  | .smem => 0
  | _ => 0

abbrev bufTy : (tb : Table) → Fin (tcTables nBuf tb) → BufTy
  | .hbm, ⟨0, _⟩ => ⟨S344x1024, .f32⟩
  | .hbm, ⟨1, _⟩ => ⟨S344x1024, .f32⟩
  | .hbm, ⟨2, _⟩ => ⟨S344x1024, .f32⟩
  | .hbm, ⟨3, _⟩ => ⟨S344x1024, .f32⟩
  | .hbm, ⟨4, _⟩ => ⟨S344x1024, .f32⟩
  | .hbm, ⟨5, _⟩ => ⟨S344x1024, .f32⟩
  | .hbm, ⟨6, _⟩ => ⟨S344x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | _, _ => ⟨S344x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S344x1024 : Shape := ⟨2, ![344, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S344x1024, .f32⟩
  | .hbm, ⟨1, _⟩ => ⟨S344x1024, .f32⟩
  | .hbm, ⟨2, _⟩ => ⟨S344x1024, .f32⟩
  | .hbm, ⟨3, _⟩ => ⟨S344x1024, .f32⟩
  | .hbm, ⟨4, _⟩ => ⟨S_, .f32⟩
  | .hbm, ⟨5, _⟩ => ⟨S344x1024, .f32⟩
  | .hbm, ⟨6, _⟩ => ⟨S344x1024, .f32⟩
  | .hbm, ⟨7, _⟩ => ⟨S_, .f32⟩
  | .hbm, ⟨8, _⟩ => ⟨S344x1024, .f32⟩
  | .hbm, ⟨9, _⟩ => ⟨S344x1024, .f32⟩
  | .hbm, ⟨10, _⟩ => ⟨S344x1024, .f32⟩
  | .hbm, ⟨11, _⟩ => ⟨S_, .f32⟩
  | .hbm, ⟨12, _⟩ => ⟨S344x1024, .f32⟩
  | .hbm, ⟨13, _⟩ => ⟨S344x1024, .f32⟩
  | .hbm, ⟨14, _⟩ => ⟨S344x1024, .f32⟩
  | .hbm, ⟨15, _⟩ => ⟨S_, .f32⟩
  | .hbm, ⟨16, _⟩ => ⟨S344x1024, .f32⟩
  | .hbm, ⟨17, _⟩ => ⟨S344x1024, .f32⟩
  | .hbm, ⟨18, _⟩ => ⟨S344x1024, .f32⟩
  | .hbm, ⟨19, _⟩ => ⟨S_, .f32⟩
  | .hbm, ⟨20, _⟩ => ⟨S344x1024, .f32⟩
  | .hbm, ⟨21, _⟩ => ⟨S344x1024, .f32⟩
  | .hbm, ⟨22, _⟩ => ⟨S_, .f32⟩
  | .hbm, ⟨23, _⟩ => ⟨S344x1024, .f32⟩
  | .hbm, ⟨24, _⟩ => ⟨S344x1024, .f32⟩
  | .hbm, ⟨25, _⟩ => ⟨S344x1024, .f32⟩
  | .hbm, ⟨26, _⟩ => ⟨S_, .f32⟩
  | .hbm, ⟨27, _⟩ => ⟨S344x1024, .f32⟩
  | .hbm, ⟨28, _⟩ => ⟨S344x1024, .f32⟩
  | .hbm, ⟨29, _⟩ => ⟨S344x1024, .f32⟩
  | .hbm, ⟨30, _⟩ => ⟨S_, .f32⟩
  | .hbm, ⟨31, _⟩ => ⟨S344x1024, .f32⟩
  | .hbm, ⟨32, _⟩ => ⟨S344x1024, .f32⟩
  | .hbm, ⟨33, _⟩ => ⟨S344x1024, .f32⟩
  | .hbm, ⟨34, _⟩ => ⟨S_, .f32⟩
  | .hbm, ⟨35, _⟩ => ⟨S344x1024, .f32⟩
  | .hbm, ⟨36, _⟩ => ⟨S344x1024, .f32⟩
  | _, _ => ⟨S344x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Final.lean ====
abbrev S4x2048x1024 : Shape := ⟨3, ![4, 2048, 1024]⟩
abbrev S4x1x1024 : Shape := ⟨3, ![4, 1, 1024]⟩
abbrev S1x1024 : Shape := ⟨2, ![1, 1024]⟩
abbrev S1x1 : Shape := ⟨2, ![1, 1]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩

abbrev nBuf : Space → Nat
  | .hbm => 14
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x1x1024, .f32⟩
  | .hbm, ⟨3, _⟩ => ⟨S1x1024, .f32⟩
  | .hbm, ⟨4, _⟩ => ⟨S4x1x1024, .f32⟩
  | .hbm, ⟨5, _⟩ => ⟨S4x1x1024, .f32⟩
  | .hbm, ⟨6, _⟩ => ⟨S4x2048x1024, .f32⟩
  | .hbm, ⟨7, _⟩ => ⟨S4x2048x1024, .f32⟩
  | .hbm, ⟨8, _⟩ => ⟨S4x2048x1024, .bf16⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S1x1024, .f32⟩
  | .hbm, ⟨13, _⟩ => ⟨S1x1, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .bf16⟩
  | .local _ .vmem, ⟨16, _⟩ => ⟨S1x512x1024, .bf16⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1024, .f32⟩
  | .local _ .vmem, ⟨24, _⟩ => ⟨S1x1, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== FinalRefIdeal.lean ====
abbrev S4x2048x1024 : Shape := ⟨3, ![4, 2048, 1024]⟩
abbrev S4x1x1024 : Shape := ⟨3, ![4, 1, 1024]⟩
abbrev S1x1024 : Shape := ⟨2, ![1, 1024]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S4x1024 : Shape := ⟨2, ![4, 1024]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x1x1024, .f32⟩
  | .hbm, ⟨3, _⟩ => ⟨S1x1024, .f32⟩
  | .hbm, ⟨4, _⟩ => ⟨S4x1x1024, .f32⟩
  | .hbm, ⟨5, _⟩ => ⟨S4x1x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1024, .f32⟩
  | .hbm, ⟨26, _⟩ => ⟨S4x2048x1024, .f32⟩
  | .hbm, ⟨27, _⟩ => ⟨S1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S_, .f32⟩
  | .hbm, ⟨41, _⟩ => ⟨S4x2048x1024, .f32⟩
  | .hbm, ⟨42, _⟩ => ⟨S4x2048x1024, .f32⟩
  | .hbm, ⟨43, _⟩ => ⟨S_, .f32⟩
  | .hbm, ⟨44, _⟩ => ⟨S4x2048, .f32⟩
  | .hbm, ⟨45, _⟩ => ⟨S_, .f32⟩
  | .hbm, ⟨46, _⟩ => ⟨S4x2048, .f32⟩
  | .hbm, ⟨47, _⟩ => ⟨S4x2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4x2048, .f32⟩
  | .hbm, ⟨56, _⟩ => ⟨S_, .f32⟩
  | .hbm, ⟨57, _⟩ => ⟨S4x2048, .f32⟩
  | .hbm, ⟨58, _⟩ => ⟨S4x2048, .f32⟩
  | .hbm, ⟨59, _⟩ => ⟨S4x2048x1024, .f32⟩
  | .hbm, ⟨60, _⟩ => ⟨S4x2048x1024, .f32⟩
  | .hbm, ⟨61, _⟩ => ⟨S_, .f32⟩
  | .hbm, ⟨62, _⟩ => ⟨S4x1024, .f32⟩
  | .hbm, ⟨63, _⟩ => ⟨S4x1x1024, .f32⟩
  | .hbm, ⟨64, _⟩ => ⟨S4x2048x1024, .f32⟩
  | .hbm, ⟨65, _⟩ => ⟨S_, .f32⟩
  | .hbm, ⟨66, _⟩ => ⟨S4x1024, .f32⟩
  | .hbm, ⟨67, _⟩ => ⟨S4x1x1024, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | .hbm, ⟨71, _⟩ => ⟨S_, .f32⟩
  | .hbm, ⟨72, _⟩ => ⟨S1024, .f32⟩
  | .hbm, ⟨73, _⟩ => ⟨S1x1x1024, .f32⟩
  | .hbm, ⟨74, _⟩ => ⟨S4x2048x1024, .f32⟩
  | .hbm, ⟨75, _⟩ => ⟨S4x2048x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4x2048x1024, .f32⟩
  | .hbm, ⟨80, _⟩ => ⟨S_, .f32⟩
  | .hbm, ⟨81, _⟩ => ⟨S4x2048, .f32⟩
  | .hbm, ⟨82, _⟩ => ⟨S4x2048x1, .f32⟩
  | .hbm, ⟨83, _⟩ => ⟨S4x2048x1024, .f32⟩
  | .hbm, ⟨84, _⟩ => ⟨S4x2048x1024, .f32⟩
  | .hbm, ⟨85, _⟩ => ⟨S4x2048x1, .f32⟩
  | .hbm, ⟨86, _⟩ => ⟨S_, .f32⟩
  | .hbm, ⟨87, _⟩ => ⟨S4x2048x1, .f32⟩
  | .hbm, ⟨88, _⟩ => ⟨S4x2048x1, .f32⟩
  | .hbm, ⟨89, _⟩ => ⟨S_, .f32⟩
  | .hbm, ⟨90, _⟩ => ⟨S4x2048, .f32⟩
  | .hbm, ⟨91, _⟩ => ⟨S4x2048x1024, .f32⟩
  | .hbm, ⟨92, _⟩ => ⟨S4x2048x1024, .f32⟩
  | .hbm, ⟨93, _⟩ => ⟨S4x2048x1024, .f32⟩
  | .hbm, ⟨94, _⟩ => ⟨S4x2048x1024, .f32⟩
  | .hbm, ⟨95, _⟩ => ⟨S4x2048x1024, .f32⟩
  | .hbm, ⟨96, _⟩ => ⟨S4x2048x1024, .f32⟩
  | .hbm, ⟨97, _⟩ => ⟨S4x2048x1024, .f32⟩
  | .hbm, ⟨98, _⟩ => ⟨S4x2048x1024, .f32⟩
  | .hbm, ⟨99, _⟩ => ⟨S_, .f32⟩
  | .hbm, ⟨100, _⟩ => ⟨S4x1024, .f32⟩
  | .hbm, ⟨101, _⟩ => ⟨S4x1x1024, .f32⟩
  | .hbm, ⟨102, _⟩ => ⟨S4x2048x1024, .bf16⟩
  | .hbm, ⟨103, _⟩ => ⟨S1x1, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_cst_9 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_13 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_14 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_15 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_16 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_17 : Ref sig .tc := ⟨.hbm, 86, rfl⟩
abbrev main_v61 : Ref sig .tc := ⟨.hbm, 87, rfl⟩
abbrev main_v62 : Ref sig .tc := ⟨.hbm, 88, rfl⟩
abbrev main_cst_18 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_19 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]
-- ==== Proof.AttnI.Body.lean ====
module

public import proofs.«01_k».proof.Proof.Gen.KernelIdeal.Skeleton
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp

/-! The body of the attention backward kernel as seven conditional blocks, and what each leaves. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (i : grid0.Coords) (arg3 : Memref sig .tc .smem S10 .i32) (harg3 : arg3.IsWhole) (arg4 : Memref sig .tc .smem S10 .i32) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x1x512 .f32) (harg10 : arg10.IsWhole) (arg11 : Memref sig .tc .vmem S1x512x128 .f32) (harg11 : arg11.IsWhole) (arg12 : Memref sig .tc .vmem S1x1x512 .f32) (harg12 : arg12.IsWhole) (arg13 : Memref sig .tc .vmem S1x2048x128 .bf16) (harg13 : arg13.IsWhole) (arg14 : Memref sig .tc .vmem S1x512x128 .bf16) (harg14 : arg14.IsWhole) (arg15 : Memref sig .tc .vmem S1x512x128 .bf16) (harg15 : arg15.IsWhole) (arg16 : Memref sig .tc .vmem S1x512x128 .f32) (harg16 : arg16.IsWhole) (arg17 : Memref sig .tc .vmem S1x4x512 .f32) (harg17 : arg17.IsWhole) (arg18 : Memref sig .tc .vmem S2048x128 .f32) (harg18 : arg18.IsWhole) (arg19 : Memref sig .tc .vmem S512x256 .f32) (harg19 : arg19.IsWhole) (arg20 : Memref sig .tc .vmem S512x128 .f32) (harg20 : arg20.IsWhole) (arg21 : Memref sig .tc .vmem S4x512 .f32) (harg21 : arg21.IsWhole) (arg22 : Memref sig .tc .vmem S4x512 .f32) (harg22 : arg22.IsWhole)

noncomputable def blk1 (k : Prog (TpuEff nD τ sig (Elt F) Λ₀ .tc) PUnit.{1}) :
    Prog (TpuEff nD τ sig (Elt F) Λ₀ .tc) PUnit.{1} := do
  let arg2 : BitVec 32 := BitVec.ofNat 32 (i 2).val
  let v4 : BitVec 1 := Scalar.cmpi .eq arg2 0#32
  let v5 : BitVec 32 := Scalar.extui v4
  let v6 : BitVec 1 := Scalar.cmpi .ne v5 0#32
  if k0_h1 : v6 = 1#1 then do
    let v26 : Vec F S2048x128 .f32 ← Prog.lift (.load arg18 (Rect.unit (s := S2048x128) ![0, 0] S2048x128.size inb_S2048x128_S2048x128_0_0).toLoadRect (View.loadsAt_vmem h_S2048x128))
    Prog.lift (.store arg18 (Rect.unit (s := S2048x128) ![0, 0] S2048x128.size inb_S2048x128_S2048x128_0_0) (k0_pay1 (F := F)) Finset.univ (View.stores_vmem_bits_univ h_S2048x128 rfl) (.inl rfl))
    let v30 : Vec F S4x512 .f32 ← Prog.lift (.load arg21 (Rect.unit (s := S4x512) ![0, 0] S4x512.size inb_S4x512_S4x512_0_0).toLoadRect (View.loadsAt_vmem h_S4x512))
    Prog.lift (.store arg21 (Rect.unit (s := S4x512) ![0, 0] S4x512.size inb_S4x512_S4x512_0_0) (k0_pay2 (F := F)) Finset.univ (View.stores_vmem_bits_univ h_S4x512 rfl) (.inl rfl))
    k
  else do
    k

noncomputable def blk2 (v1 v3 : Elt F .i32) (k0_hw1 : k0_chk1 v1 v3) (k : Prog (TpuEff nD τ sig (Elt F) Λ₀ .tc) PUnit.{1}) :
    Prog (TpuEff nD τ sig (Elt F) Λ₀ .tc) PUnit.{1} := do
  if k0_h2 : k0_cond2 v1 = 1#1 then do
    let v25 : Vec F S1x512x128 .f32 ← Prog.lift (.load arg8 (Rect.unit (s := S1x512x128) ![0, 0, 0] S1x512x128.size inb_S1x512x128_S1x512x128_0_0_0).toLoadRect (View.loadsAt_vmem h_S1x512x128))
    let v27 : Vec F S1x512x128 .f32 ← Prog.lift (.load arg9 (Rect.unit (s := S1x512x128) ![0, 0, 0] S1x512x128.size inb_S1x512x128_S1x512x128_0_0_0).toLoadRect (View.loadsAt_vmem h_S1x512x128))
    let v34 : Vec F S1x512 .f32 ← Prog.lift (.load arg22 (Rect.unit (s := S4x512) (k0_off2 v3) S1x512.size (k0_off2_inb v1 v3 k0_hw1 k0_h2)).toLoadRect (View.loadsAt_vmem h_S1x512))
    Prog.lift (.store arg22 (Rect.unit (s := S4x512) (k0_off2 v3) S1x512.size (k0_off2_inb v1 v3 k0_hw1 k0_h2)) (k0_pay3 v25 v27) Finset.univ (View.stores_vmem_bits_univ h_S1x512 rfl) (.inl rfl))
    k
  else do
    k

noncomputable def blk3 (v1 v3 : Elt F .i32) (k0_hw1 : k0_chk1 v1 v3) (k : Prog (TpuEff nD τ sig (Elt F) Λ₀ .tc) PUnit.{1}) :
    Prog (TpuEff nD τ sig (Elt F) Λ₀ .tc) PUnit.{1} := do
  let v10 : BitVec 1 := Scalar.cmpi .eq v3 v1
  let v11 : BitVec 32 := Scalar.extui v10
  let v12 : BitVec 1 := Scalar.cmpi .ne v11 0#32
  if v12 = 1#1 then do
    let v26 : Vec F S512x256 .f32 ← Prog.lift (.load arg19 (Rect.unit (s := S512x256) ![0, 0] S512x256.size inb_S512x256_S512x256_0_0).toLoadRect (View.loadsAt_vmem h_S512x256))
    Prog.lift (.store arg19 (Rect.unit (s := S512x256) ![0, 0] S512x256.size inb_S512x256_S512x256_0_0) (k0_pay4 (F := F)) Finset.univ (View.stores_vmem_bits_univ h_S512x256 rfl) (.inl rfl))
    let v30 : Vec F S512x128 .f32 ← Prog.lift (.load arg20 (Rect.unit (s := S512x128) ![0, 0] S512x128.size inb_S512x128_S512x128_0_0).toLoadRect (View.loadsAt_vmem h_S512x128))
    Prog.lift (.store arg20 (Rect.unit (s := S512x128) ![0, 0] S512x128.size inb_S512x128_S512x128_0_0) (k0_pay5 (F := F)) Finset.univ (View.stores_vmem_bits_univ h_S512x128 rfl) (.inl rfl))
    k
  else do
    k

noncomputable def blk4 (v1 v3 : Elt F .i32) (k0_hw1 : k0_chk1 v1 v3) (k : Prog (TpuEff nD τ sig (Elt F) Λ₀ .tc) PUnit.{1}) :
    Prog (TpuEff nD τ sig (Elt F) Λ₀ .tc) PUnit.{1} := do
  if k0_h4 : k0_cond4 v1 v3 = 1#1 then do
    let ⟨v26, v42, v54⟩ : Σ' (v26 : FVec F S512x128 .bf16) (v42 : FVec F S512x512 .f32), FVec F S512x128 .bf16 ← k0_part1_skel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
    let v90 : FVec F S1x512 .f32 ← k0_part2_skel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v3 k0_hw1 k0_h4 v26 v42 v54
    Prog.lift (.store arg21 (Rect.unit (s := S4x512) (k0_off3 v3) S1x512.size (k0_off3_inb v1 v3 k0_hw1 k0_h4)) (k0_pay6 v90) Finset.univ (View.stores_vmem_bits_univ h_S1x512 rfl) (.inl rfl))
    k
  else do
    k

noncomputable def blk5 (v1 v3 : Elt F .i32) (k0_hw1 : k0_chk1 v1 v3) (k : Prog (TpuEff nD τ sig (Elt F) Λ₀ .tc) PUnit.{1}) :
    Prog (TpuEff nD τ sig (Elt F) Λ₀ .tc) PUnit.{1} := do
  if k0_h5 : k0_cond5 v1 v3 = 1#1 then do
    let ⟨v26, v53, v54, v59⟩ : Σ' (v26 : FVec F S512x128 .bf16) (v53 : FVec F S512x512 .f32) (v54 : Vec F S512x128 .f32), FVec F S512x128 .f32 ← k0_part3_skel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v3
    let ⟨v75, v91⟩ : Σ' (v75 : FVec F S512x512 .bf16), FVec F S512x128 .f32 ← k0_part4_skel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v3 k0_hw1 k0_h5 v26 v53 v54 v59
    Prog.lift (.store arg18 (Rect.unit (s := S2048x128) (k0_off6 v3) S512x128.size (k0_off6_inb v1 v3 k0_hw1 k0_h5)) (k0_pay7 v91) Finset.univ (View.stores_vmem_bits_univ h_S512x128 rfl) (.inl rfl))
    let v97 : Vec F S1x512 .f32 ← Prog.lift (.load arg21 (Rect.unit (s := S4x512) (k0_off5 v3) S1x512.size (k0_off5_inb v1 v3 k0_hw1 k0_h5)).toLoadRect (View.loadsAt_vmem h_S1x512))
    let v103 : Vec F S1x512 .f32 ← Prog.lift (.load arg21 (Rect.unit (s := S4x512) (k0_off5 v3) S1x512.size (k0_off5_inb v1 v3 k0_hw1 k0_h5)).toLoadRect (View.loadsAt_vmem h_S1x512))
    Prog.lift (.store arg21 (Rect.unit (s := S4x512) (k0_off5 v3) S1x512.size (k0_off5_inb v1 v3 k0_hw1 k0_h5)) (k0_pay8 v75 v97) Finset.univ (View.stores_vmem_bits_univ h_S1x512 rfl) (.inl rfl))
    k
  else do
    k

noncomputable def blk6 (v1 v3 : Elt F .i32) (k0_hw1 : k0_chk1 v1 v3) (k : Prog (TpuEff nD τ sig (Elt F) Λ₀ .tc) PUnit.{1}) :
    Prog (TpuEff nD τ sig (Elt F) Λ₀ .tc) PUnit.{1} := do
  if k0_h6 : k0_cond6 v3 = 1#1 then do
    let v25 : Vec F S512x256 .f32 ← Prog.lift (.load arg19 (Rect.unit (s := S512x256) ![0, 0] S512x256.size inb_S512x256_S512x256_0_0).toLoadRect (View.loadsAt_vmem h_S512x256))
    let v28 : Vec F S1x512x128 .bf16 ← Prog.lift (.load arg14 (Rect.unit (s := S1x512x128) ![0, 0, 0] S1x512x128.size inb_S1x512x128_S1x512x128_0_0_0).toLoadRect (View.loadsAt_vmem h_S1x512x128))
    Prog.lift (.store arg14 (Rect.unit (s := S1x512x128) ![0, 0, 0] S1x512x128.size inb_S1x512x128_S1x512x128_0_0_0) (k0_pay9 v25) Finset.univ (View.stores_vmem h_S1x512x128 (harg14.storeExact_slice rfl _ packedbf16_S1x512x128_S1x512x128_0_0_0) (fun _ => rfl)) (.inl rfl))
    let v34 : Vec F S1x512x128 .f32 ← Prog.lift (.load arg16 (Rect.unit (s := S1x512x128) ![0, 0, 0] S1x512x128.size inb_S1x512x128_S1x512x128_0_0_0).toLoadRect (View.loadsAt_vmem h_S1x512x128))
    Prog.lift (.store arg16 (Rect.unit (s := S1x512x128) ![0, 0, 0] S1x512x128.size inb_S1x512x128_S1x512x128_0_0_0) (k0_pay10 v25) Finset.univ (View.stores_vmem_bits_univ h_S1x512x128 rfl) (.inl rfl))
    let v37 : Vec F S512x128 .f32 ← Prog.lift (.load arg20 (Rect.unit (s := S512x128) ![0, 0] S512x128.size inb_S512x128_S512x128_0_0).toLoadRect (View.loadsAt_vmem h_S512x128))
    let v39 : Vec F S1x512x128 .bf16 ← Prog.lift (.load arg15 (Rect.unit (s := S1x512x128) ![0, 0, 0] S1x512x128.size inb_S1x512x128_S1x512x128_0_0_0).toLoadRect (View.loadsAt_vmem h_S1x512x128))
    Prog.lift (.store arg15 (Rect.unit (s := S1x512x128) ![0, 0, 0] S1x512x128.size inb_S1x512x128_S1x512x128_0_0_0) (k0_pay11 v37) Finset.univ (View.stores_vmem h_S1x512x128 (harg15.storeExact_slice rfl _ packedbf16_S1x512x128_S1x512x128_0_0_0) (fun _ => rfl)) (.inl rfl))
    k
  else do
    k

noncomputable def blk7 (k : Prog (TpuEff nD τ sig (Elt F) Λ₀ .tc) PUnit.{1}) :
    Prog (TpuEff nD τ sig (Elt F) Λ₀ .tc) PUnit.{1} := do
  if k0_h7 : k0_cond7 i = 1#1 then do
    let v25 : Vec F S2048x128 .f32 ← Prog.lift (.load arg18 (Rect.unit (s := S2048x128) ![0, 0] S2048x128.size inb_S2048x128_S2048x128_0_0).toLoadRect (View.loadsAt_vmem h_S2048x128))
    let v29 : Vec F S1x2048x128 .bf16 ← Prog.lift (.load arg13 (Rect.unit (s := S1x2048x128) ![0, 0, 0] S1x2048x128.size inb_S1x2048x128_S1x2048x128_0_0_0).toLoadRect (View.loadsAt_vmem h_S1x2048x128))
    Prog.lift (.store arg13 (Rect.unit (s := S1x2048x128) ![0, 0, 0] S1x2048x128.size inb_S1x2048x128_S1x2048x128_0_0_0) (k0_pay12 v25) Finset.univ (View.stores_vmem h_S1x2048x128 (harg13.storeExact_slice rfl _ packedbf16_S1x2048x128_S1x2048x128_0_0_0) (fun _ => rfl)) (.inl rfl))
    let v32 : Vec F S4x512 .f32 ← Prog.lift (.load arg21 (Rect.unit (s := S4x512) ![0, 0] S4x512.size inb_S4x512_S4x512_0_0).toLoadRect (View.loadsAt_vmem h_S4x512))
    let v33 : Vec F S1x4x512 .f32 ← Prog.lift (.load arg17 (Rect.unit (s := S1x4x512) ![0, 0, 0] S1x4x512.size inb_S1x4x512_S1x4x512_0_0_0).toLoadRect (View.loadsAt_vmem h_S1x4x512))
    Prog.lift (.store arg17 (Rect.unit (s := S1x4x512) ![0, 0, 0] S1x4x512.size inb_S1x4x512_S1x4x512_0_0_0) (k0_pay13 v32) Finset.univ (View.stores_vmem_bits_univ h_S1x4x512 rfl) (.inl rfl))
    k
  else do
    k

/-- The body: two table words, the check of them, then the seven blocks. -/
noncomputable def body : Prog (TpuEff nD τ sig (Elt F) Λ₀ .tc) PUnit.{1} := do
  let v1 : Elt F .i32 ← smemLoad arg3 (Rect.unit (s := S10) (k0_off1 i) S1.size (k0_off1_inb i)) numel1_S1 rfl
  let v3 : Elt F .i32 ← smemLoad arg4 (Rect.unit (s := S10) (k0_off1 i) S1.size (k0_off1_inb i)) numel1_S1 rfl
  have hw : k0_chk1 v1 v3 := (← Prog.lift (TpuEff.assume (k0_chk1 v1 v3) (k0_chk1.dec v1 v3))).down
  blk1 i arg18 arg21 <|
  blk2 arg8 arg9 arg22 v1 v3 hw <|
  blk3 arg19 arg20 v1 v3 hw <|
  blk4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v3 hw <|
  blk5 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v3 hw <|
  blk6 arg14 harg14 arg15 harg15 arg16 arg19 arg20 v1 v3 hw <|
  blk7 i arg13 harg13 arg17 arg18 arg21 <|
  pure ⟨⟩

theorem skel_eq_body : cc0_attn_bwd_skel (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
    = body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 := by
  rfl

variable (c : Dev nD) (E : Set ℕ)
variable (X5 X6 X7 : Vec F S1x512x128 .bf16) (X8 X9 : Vec F S1x512x128 .f32) (X10 : Vec F S1x1x512 .f32) (X11 : Vec F S1x512x128 .f32) (X12 : Vec F S1x1x512 .f32)
variable (X18 : Vec F S2048x128 .f32) (X19 : Vec F S512x256 .f32) (X20 : Vec F S512x128 .f32) (X21 X22 : Vec F S4x512 .f32)

/-- The condition of the first block: the step is the first of its head. -/
abbrev cond1 (i : grid0.Coords) : BitVec 1 := Scalar.cmpi .ne (Scalar.extui (Scalar.cmpi .eq (BitVec.ofNat 32 (i 2).val) 0#32 : BitVec 1) : BitVec 32) 0#32

theorem blk1_pos (h1 : cond1 i = 1#1) (k : Prog (TpuEff nD τ sig (Elt F) Λ₀ .tc) PUnit) (K : PUnit → sProp 𝕄) :
    iprop(owns (c : Thread nD τ) arg18 fullShare X18 ∗ owns (c : Thread nD τ) arg21 fullShare X21
        ∗ (iprop(owns (c : Thread nD τ) arg18 fullShare (k0_pay1 (F := F)) ∗ owns (c : Thread nD τ) arg21 fullShare (k0_pay2 (F := F)))
            -∗ wp frame (wpE (defs₀ (F := F)) Variants.none c none) E k K))
      ⊢ wp frame (wpE (defs₀ (F := F)) Variants.none c none) E (blk1 i arg18 arg21 k) K := by
  simp only [owns_eq_rep]
  unfold blk1
  iintro ⟨H18, H21, Hk⟩
  sl_exec (disch := sl_exact h1)
  iapply Hk
  isplitl [H18]
  · iapply (pointsTo_rep_of_read (c : Thread nD τ) arg18 _ fullShare _ ?_) $$ H18
    exact View.read_writes_full _ _ _ _ _
  · iapply (pointsTo_rep_of_read (c : Thread nD τ) arg21 _ fullShare _ ?_) $$ H21
    exact View.read_writes_full _ _ _ _ _

theorem blk2_pos (v1 v3 : Elt F .i32) (hw : k0_chk1 v1 v3) (h2 : k0_cond2 v1 = 1#1) (k : Prog (TpuEff nD τ sig (Elt F) Λ₀ .tc) PUnit) (K : PUnit → sProp 𝕄) :
    iprop(owns (c : Thread nD τ) arg8 fullShare X8 ∗ owns (c : Thread nD τ) arg9 fullShare X9 ∗ owns (c : Thread nD τ) arg22 fullShare X22
        ∗ (iprop(owns (c : Thread nD τ) arg8 fullShare X8 ∗ owns (c : Thread nD τ) arg9 fullShare X9
              ∗ owns (c : Thread nD τ) arg22 fullShare (VecWindow.put X22 (k0_off2 v3) S1x512.size (k0_pay3 X8 X9)))
            -∗ wp frame (wpE (defs₀ (F := F)) Variants.none c none) E k K))
      ⊢ wp frame (wpE (defs₀ (F := F)) Variants.none c none) E (blk2 arg8 arg9 arg22 v1 v3 hw k) K := by
  simp only [owns_eq_rep]
  unfold blk2
  iintro ⟨H8, H9, H22, Hk⟩
  sl_exec (disch := sl_exact h2)
  iapply Hk
  isplitl [H8]
  · iexact H8
  isplitl [H9]
  · iexact H9
  · iapply (pointsTo_rep_of_read (c : Thread nD τ) arg22 _ fullShare _ ?_) $$ H22
    rw [View.read_writes_cons_put _ _ _ _ _ rfl]
    rw [View.writes_nil, View.read_rep, View.readAt_rep_full, View.readAt_rep_full]

/-- The condition of the third and fifth blocks: the block lies on the diagonal. -/
abbrev cond3 (v1 v3 : BitVec 32) : BitVec 1 := Scalar.cmpi .ne (Scalar.extui (Scalar.cmpi .eq v3 v1 : BitVec 1) : BitVec 32) 0#32

theorem blk3_pos (v1 v3 : Elt F .i32) (hw : k0_chk1 v1 v3) (h3 : cond3 v1 v3 = 1#1) (k : Prog (TpuEff nD τ sig (Elt F) Λ₀ .tc) PUnit) (K : PUnit → sProp 𝕄) :
    iprop(owns (c : Thread nD τ) arg19 fullShare X19 ∗ owns (c : Thread nD τ) arg20 fullShare X20
        ∗ (iprop(owns (c : Thread nD τ) arg19 fullShare (k0_pay4 (F := F)) ∗ owns (c : Thread nD τ) arg20 fullShare (k0_pay5 (F := F)))
            -∗ wp frame (wpE (defs₀ (F := F)) Variants.none c none) E k K))
      ⊢ wp frame (wpE (defs₀ (F := F)) Variants.none c none) E (blk3 arg19 arg20 v1 v3 hw k) K := by
  simp only [owns_eq_rep]
  unfold blk3
  iintro ⟨H19, H20, Hk⟩
  sl_exec (disch := sl_exact h3)
  iapply Hk
  isplitl [H19]
  · iapply (pointsTo_rep_of_read (c : Thread nD τ) arg19 _ fullShare _ ?_) $$ H19
    exact View.read_writes_full _ _ _ _ _
  · iapply (pointsTo_rep_of_read (c : Thread nD τ) arg20 _ fullShare _ ?_) $$ H20
    exact View.read_writes_full _ _ _ _ _

theorem blk4_pos (v1 v3 : Elt F .i32) (hw : k0_chk1 v1 v3) (h4 : k0_cond4 v1 v3 = 1#1) (k : Prog (TpuEff nD τ sig (Elt F) Λ₀ .tc) PUnit) (K : PUnit → sProp 𝕄) :
    iprop(owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg10 fullShare X10 ∗ owns (c : Thread nD τ) arg11 fullShare X11 ∗ owns (c : Thread nD τ) arg12 fullShare X12 ∗ owns (c : Thread nD τ) arg22 fullShare X22 ∗ owns (c : Thread nD τ) arg18 fullShare X18 ∗ owns (c : Thread nD τ) arg19 fullShare X19 ∗ owns (c : Thread nD τ) arg20 fullShare X20 ∗ owns (c : Thread nD τ) arg21 fullShare X21
        ∗ (iprop(owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg10 fullShare X10 ∗ owns (c : Thread nD τ) arg11 fullShare X11 ∗ owns (c : Thread nD τ) arg12 fullShare X12 ∗ owns (c : Thread nD τ) arg22 fullShare X22 ∗ owns (c : Thread nD τ) arg18 fullShare (VecWindow.put X18 (k0_off4 v3) S512x128.size (k0_pay20 (k0_pay15 X5 X6 X11 X12 X10) (k0_pay17 X7) X8 (VecWindow.window X22 (k0_off3 v3) S1x512.size (k0_off3_inb v1 v3 hw h4)) (VecWindow.window X18 (k0_off4 v3) S512x128.size (k0_off4_inb v1 v3 hw h4)) X6)) ∗ owns (c : Thread nD τ) arg19 fullShare (k0_pay19 (k0_pay14 X5) (k0_pay15 X5 X6 X11 X12 X10) (k0_pay17 X7) X8 (VecWindow.window X22 (k0_off3 v3) S1x512.size (k0_off3_inb v1 v3 hw h4)) X19) ∗ owns (c : Thread nD τ) arg20 fullShare (k0_pay16 X5 X6 X11 X12 X10 X20 X8) ∗ owns (c : Thread nD τ) arg21 fullShare (VecWindow.put X21 (k0_off3 v3) S1x512.size (k0_pay6 (k0_pay21 (k0_pay15 X5 X6 X11 X12 X10) (k0_pay17 X7) X8 (VecWindow.window X22 (k0_off3 v3) S1x512.size (k0_off3_inb v1 v3 hw h4)) (VecWindow.window X21 (k0_off3 v3) S1x512.size (k0_off3_inb v1 v3 hw h4))))))
            -∗ wp frame (wpE (defs₀ (F := F)) Variants.none c none) E k K))
      ⊢ wp frame (wpE (defs₀ (F := F)) Variants.none c none) E (blk4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v3 hw k) K := by
  simp only [owns_eq_rep]
  unfold blk4
  unfold k0_part1_skel k0_part2_skel
  iintro ⟨H5, H6, H7, H8, H10, H11, H12, H22, H18, H19, H20, H21, Hk⟩
  sl_exec (disch := sl_exact h4)
  iapply Hk
  isplitl [H5]
  · iexact H5
  isplitl [H6]
  · iexact H6
  isplitl [H7]
  · iexact H7
  isplitl [H8]
  · iexact H8
  isplitl [H10]
  · iexact H10
  isplitl [H11]
  · iexact H11
  isplitl [H12]
  · iexact H12
  isplitl [H22]
  · iexact H22
  isplitl [H18]
  · iapply (pointsTo_rep_of_read (c : Thread nD τ) arg18 _ fullShare _ ?_) $$ H18
    rw [View.read_writes_cons_put _ _ _ _ _ rfl, View.writes_nil, View.read_rep]
    repeat rw [View.readAt_rep_full]
    repeat rw [View.readAt_rep_unit _ _ _ rfl (k0_off3_inb v1 v3 hw h4)]
    repeat rw [View.readAt_rep_unit _ _ _ rfl (k0_off4_inb v1 v3 hw h4)]
  isplitl [H19]
  · iapply (pointsTo_rep_of_read (c : Thread nD τ) arg19 _ fullShare _ ?_) $$ H19
    refine (View.read_writes_full _ _ _ _ _).trans ?_
    repeat rw [View.readAt_rep_full]
    repeat rw [View.readAt_rep_unit _ _ _ rfl (k0_off3_inb v1 v3 hw h4)]
  isplitl [H20]
  · iapply (pointsTo_rep_of_read (c : Thread nD τ) arg20 _ fullShare _ ?_) $$ H20
    refine (View.read_writes_full _ _ _ _ _).trans ?_
    repeat rw [View.readAt_rep_full]
  · iapply (pointsTo_rep_of_read (c : Thread nD τ) arg21 _ fullShare _ ?_) $$ H21
    rw [View.read_writes_cons_put _ _ _ _ _ rfl, View.writes_nil, View.read_rep]
    repeat rw [View.readAt_rep_full]
    repeat rw [View.readAt_rep_unit _ _ _ rfl (k0_off3_inb v1 v3 hw h4)]

theorem blk5_pos (v1 v3 : Elt F .i32) (hw : k0_chk1 v1 v3) (h5 : cond3 v1 v3 = 1#1) (k : Prog (TpuEff nD τ sig (Elt F) Λ₀ .tc) PUnit) (K : PUnit → sProp 𝕄) :
    iprop(owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg10 fullShare X10 ∗ owns (c : Thread nD τ) arg11 fullShare X11 ∗ owns (c : Thread nD τ) arg12 fullShare X12 ∗ owns (c : Thread nD τ) arg22 fullShare X22 ∗ owns (c : Thread nD τ) arg18 fullShare X18 ∗ owns (c : Thread nD τ) arg19 fullShare X19 ∗ owns (c : Thread nD τ) arg20 fullShare X20 ∗ owns (c : Thread nD τ) arg21 fullShare X21
        ∗ (iprop(owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg10 fullShare X10 ∗ owns (c : Thread nD τ) arg11 fullShare X11 ∗ owns (c : Thread nD τ) arg12 fullShare X12 ∗ owns (c : Thread nD τ) arg22 fullShare X22 ∗ owns (c : Thread nD τ) arg18 fullShare (VecWindow.put X18 (k0_off6 v3) S512x128.size (k0_pay7 (k0_pay28 (k0_pay23 v1 v3 X5 X6 X11 X12 X10) X7 X8 (VecWindow.window X22 (k0_off5 v3) S1x512.size (k0_off5_inb v1 v3 hw h5)) (VecWindow.window X18 (k0_off6 v3) S512x128.size (k0_off6_inb v1 v3 hw h5)) X6))) ∗ owns (c : Thread nD τ) arg19 fullShare (k0_pay27 (k0_pay22 X5) (k0_pay23 v1 v3 X5 X6 X11 X12 X10) X7 X8 (VecWindow.window X22 (k0_off5 v3) S1x512.size (k0_off5_inb v1 v3 hw h5)) X19) ∗ owns (c : Thread nD τ) arg20 fullShare (k0_pay25 X20 (k0_pay24 v1 v3 X5 X6 X11 X12 X10 X8)) ∗ owns (c : Thread nD τ) arg21 fullShare (VecWindow.put X21 (k0_off5 v3) S1x512.size (k0_pay8 (k0_pay26 (k0_pay23 v1 v3 X5 X6 X11 X12 X10) X7 X8 (VecWindow.window X22 (k0_off5 v3) S1x512.size (k0_off5_inb v1 v3 hw h5))) (VecWindow.window X21 (k0_off5 v3) S1x512.size (k0_off5_inb v1 v3 hw h5)))))
            -∗ wp frame (wpE (defs₀ (F := F)) Variants.none c none) E k K))
      ⊢ wp frame (wpE (defs₀ (F := F)) Variants.none c none) E (blk5 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v3 hw k) K := by
  simp only [owns_eq_rep]
  unfold blk5
  unfold k0_part3_skel k0_part4_skel
  iintro ⟨H5, H6, H7, H8, H10, H11, H12, H22, H18, H19, H20, H21, Hk⟩
  sl_exec (disch := sl_exact h5)
  iapply Hk
  isplitl [H5]
  · iexact H5
  isplitl [H6]
  · iexact H6
  isplitl [H7]
  · iexact H7
  isplitl [H8]
  · iexact H8
  isplitl [H10]
  · iexact H10
  isplitl [H11]
  · iexact H11
  isplitl [H12]
  · iexact H12
  isplitl [H22]
  · iexact H22
  isplitl [H18]
  · iapply (pointsTo_rep_of_read (c : Thread nD τ) arg18 _ fullShare _ ?_) $$ H18
    rw [View.read_writes_cons_put _ _ _ _ _ rfl, View.writes_nil, View.read_rep]
    repeat rw [View.readAt_rep_full]
    repeat rw [View.readAt_rep_unit _ _ _ rfl (k0_off5_inb v1 v3 hw h5)]
    repeat rw [View.readAt_rep_unit _ _ _ rfl (k0_off6_inb v1 v3 hw h5)]
  isplitl [H19]
  · iapply (pointsTo_rep_of_read (c : Thread nD τ) arg19 _ fullShare _ ?_) $$ H19
    refine (View.read_writes_full _ _ _ _ _).trans ?_
    repeat rw [View.readAt_rep_full]
    repeat rw [View.readAt_rep_unit _ _ _ rfl (k0_off5_inb v1 v3 hw h5)]
  isplitl [H20]
  · iapply (pointsTo_rep_of_read (c : Thread nD τ) arg20 _ fullShare _ ?_) $$ H20
    refine (View.read_writes_full _ _ _ _ _).trans ?_
    repeat rw [View.readAt_rep_full]
  · iapply (pointsTo_rep_of_read (c : Thread nD τ) arg21 _ fullShare _ ?_) $$ H21
    rw [View.read_writes_cons_put _ _ _ _ _ rfl, View.writes_nil, View.read_rep]
    repeat rw [View.readAt_rep_full]
    repeat rw [View.readAt_rep_unit _ _ _ rfl (k0_off5_inb v1 v3 hw h5)]

theorem blk6_pos (Y14 Y15 : Vec F S1x512x128 .bf16) (Y16 : Vec F S1x512x128 .f32) (v1 v3 : Elt F .i32) (hw : k0_chk1 v1 v3) (h6 : k0_cond6 v3 = 1#1) (k : Prog (TpuEff nD τ sig (Elt F) Λ₀ .tc) PUnit) (K : PUnit → sProp 𝕄) :
    iprop(owns (c : Thread nD τ) arg19 fullShare X19 ∗ owns (c : Thread nD τ) arg20 fullShare X20 ∗ owns (c : Thread nD τ) arg14 fullShare Y14 ∗ owns (c : Thread nD τ) arg15 fullShare Y15 ∗ owns (c : Thread nD τ) arg16 fullShare Y16
        ∗ (iprop(owns (c : Thread nD τ) arg19 fullShare X19 ∗ owns (c : Thread nD τ) arg20 fullShare X20 ∗ owns (c : Thread nD τ) arg14 fullShare (k0_pay9 X19) ∗ owns (c : Thread nD τ) arg15 fullShare (k0_pay11 X20) ∗ owns (c : Thread nD τ) arg16 fullShare (k0_pay10 X19))
            -∗ wp frame (wpE (defs₀ (F := F)) Variants.none c none) E k K))
      ⊢ wp frame (wpE (defs₀ (F := F)) Variants.none c none) E (blk6 arg14 harg14 arg15 harg15 arg16 arg19 arg20 v1 v3 hw k) K := by
  simp only [owns_eq_rep]
  unfold blk6
  iintro ⟨H19, H20, H14, H15, H16, Hk⟩
  sl_exec (disch := sl_exact h6)
  iapply Hk
  isplitl [H19]
  · iexact H19
  isplitl [H20]
  · iexact H20
  isplitl [H14]
  · iapply (pointsTo_rep_of_read (c : Thread nD τ) arg14 _ fullShare _ ?_) $$ H14
    refine (View.read_writes_full _ _ _ _ _).trans ?_
    repeat rw [View.readAt_rep_full]
  isplitl [H15]
  · iapply (pointsTo_rep_of_read (c : Thread nD τ) arg15 _ fullShare _ ?_) $$ H15
    refine (View.read_writes_full _ _ _ _ _).trans ?_
    repeat rw [View.readAt_rep_full]
  · iapply (pointsTo_rep_of_read (c : Thread nD τ) arg16 _ fullShare _ ?_) $$ H16
    refine (View.read_writes_full _ _ _ _ _).trans ?_
    repeat rw [View.readAt_rep_full]

theorem blk7_pos (Y13 : Vec F S1x2048x128 .bf16) (Y17 : Vec F S1x4x512 .f32) (h7 : k0_cond7 i = 1#1) (k : Prog (TpuEff nD τ sig (Elt F) Λ₀ .tc) PUnit) (K : PUnit → sProp 𝕄) :
    iprop(owns (c : Thread nD τ) arg18 fullShare X18 ∗ owns (c : Thread nD τ) arg21 fullShare X21 ∗ owns (c : Thread nD τ) arg13 fullShare Y13 ∗ owns (c : Thread nD τ) arg17 fullShare Y17
        ∗ (iprop(owns (c : Thread nD τ) arg18 fullShare X18 ∗ owns (c : Thread nD τ) arg21 fullShare X21 ∗ owns (c : Thread nD τ) arg13 fullShare (k0_pay12 X18) ∗ owns (c : Thread nD τ) arg17 fullShare (k0_pay13 X21))
            -∗ wp frame (wpE (defs₀ (F := F)) Variants.none c none) E k K))
      ⊢ wp frame (wpE (defs₀ (F := F)) Variants.none c none) E (blk7 i arg13 harg13 arg17 arg18 arg21 k) K := by
  simp only [owns_eq_rep]
  unfold blk7
  iintro ⟨H18, H21, H13, H17, Hk⟩
  sl_exec (disch := sl_exact h7)
  iapply Hk
  isplitl [H18]
  · iexact H18
  isplitl [H21]
  · iexact H21
  isplitl [H13]
  · iapply (pointsTo_rep_of_read (c : Thread nD τ) arg13 _ fullShare _ ?_) $$ H13
    refine (View.read_writes_full _ _ _ _ _).trans ?_
    repeat rw [View.readAt_rep_full]
  · iapply (pointsTo_rep_of_read (c : Thread nD τ) arg17 _ fullShare _ ?_) $$ H17
    refine (View.read_writes_full _ _ _ _ _).trans ?_
    repeat rw [View.readAt_rep_full]

theorem blk1_neg (h : ¬ cond1 i = 1#1) (k : Prog (TpuEff nD τ sig (Elt F) Λ₀ .tc) PUnit) :
    blk1 i arg18 arg21 k = k := dif_neg h

theorem blk2_neg (v1 v3 : Elt F .i32) (hw : k0_chk1 v1 v3) (h : ¬ k0_cond2 v1 = 1#1) (k : Prog (TpuEff nD τ sig (Elt F) Λ₀ .tc) PUnit) :
    blk2 arg8 arg9 arg22 v1 v3 hw k = k := dif_neg h

theorem blk3_neg (v1 v3 : Elt F .i32) (hw : k0_chk1 v1 v3) (h : ¬ cond3 v1 v3 = 1#1) (k : Prog (TpuEff nD τ sig (Elt F) Λ₀ .tc) PUnit) :
    blk3 arg19 arg20 v1 v3 hw k = k := if_neg h

theorem blk4_neg (v1 v3 : Elt F .i32) (hw : k0_chk1 v1 v3) (h : ¬ k0_cond4 v1 v3 = 1#1) (k : Prog (TpuEff nD τ sig (Elt F) Λ₀ .tc) PUnit) :
    blk4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v3 hw k = k := dif_neg h

theorem blk5_neg (v1 v3 : Elt F .i32) (hw : k0_chk1 v1 v3) (h : ¬ cond3 v1 v3 = 1#1) (k : Prog (TpuEff nD τ sig (Elt F) Λ₀ .tc) PUnit) :
    blk5 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v3 hw k = k := dif_neg h

theorem blk6_neg (v1 v3 : Elt F .i32) (hw : k0_chk1 v1 v3) (h : ¬ k0_cond6 v3 = 1#1) (k : Prog (TpuEff nD τ sig (Elt F) Λ₀ .tc) PUnit) :
    blk6 arg14 harg14 arg15 harg15 arg16 arg19 arg20 v1 v3 hw k = k := dif_neg h

theorem blk7_neg (h : ¬ k0_cond7 i = 1#1) (k : Prog (TpuEff nD τ sig (Elt F) Λ₀ .tc) PUnit) :
    blk7 i arg13 harg13 arg17 arg18 arg21 k = k := dif_neg h

/-- The query gradient cleared at the first step of a head. -/
def z18 (i : grid0.Coords) (X18 : Vec F S2048x128 .f32) : Vec F S2048x128 .f32 :=
  if cond1 i = 1#1 then k0_pay1 (F := F) else X18

/-- The row gradient of the gate cleared at the first step of a head. -/
def z21 (i : grid0.Coords) (X21 : Vec F S4x512 .f32) : Vec F S4x512 .f32 :=
  if cond1 i = 1#1 then k0_pay2 (F := F) else X21

/-- The row sums of the output times its gradient, written in the first column of blocks. -/
def z22 (v1 v3 : Elt F .i32) (X8 X9 : Vec F S1x512x128 .f32) (X22 : Vec F S4x512 .f32) : Vec F S4x512 .f32 :=
  if k0_cond2 v1 = 1#1 then VecWindow.put X22 (k0_off2 v3) S1x512.size (k0_pay3 X8 X9) else X22

/-- The key gradient cleared on the diagonal. -/
def z19 (v1 v3 : Elt F .i32) (X19 : Vec F S512x256 .f32) : Vec F S512x256 .f32 :=
  if cond3 v1 v3 = 1#1 then k0_pay4 (F := F) else X19

/-- The value gradient cleared on the diagonal. -/
def z20 (v1 v3 : Elt F .i32) (X20 : Vec F S512x128 .f32) : Vec F S512x128 .f32 :=
  if cond3 v1 v3 = 1#1 then k0_pay5 (F := F) else X20

/-- What a block above the diagonal leaves of the query gradient. -/
def u18 (v1 v3 : Elt F .i32) (hw : k0_chk1 v1 v3) (X5 X6 X7 : Vec F S1x512x128 .bf16) (X8 : Vec F S1x512x128 .f32) (X10 : Vec F S1x1x512 .f32) (X11 : Vec F S1x512x128 .f32) (X12 : Vec F S1x1x512 .f32) (X22 : Vec F S4x512 .f32) (X18 : Vec F S2048x128 .f32) : Vec F S2048x128 .f32 :=
  if h4 : k0_cond4 v1 v3 = 1#1 then VecWindow.put X18 (k0_off4 v3) S512x128.size (k0_pay20 (k0_pay15 X5 X6 X11 X12 X10) (k0_pay17 X7) X8 (VecWindow.window X22 (k0_off3 v3) S1x512.size (k0_off3_inb v1 v3 hw h4)) (VecWindow.window X18 (k0_off4 v3) S512x128.size (k0_off4_inb v1 v3 hw h4)) X6) else X18

/-- What a block above the diagonal leaves of the key gradient. -/
def u19 (v1 v3 : Elt F .i32) (hw : k0_chk1 v1 v3) (X5 X6 X7 : Vec F S1x512x128 .bf16) (X8 : Vec F S1x512x128 .f32) (X10 : Vec F S1x1x512 .f32) (X11 : Vec F S1x512x128 .f32) (X12 : Vec F S1x1x512 .f32) (X22 : Vec F S4x512 .f32) (X19 : Vec F S512x256 .f32) : Vec F S512x256 .f32 :=
  if h4 : k0_cond4 v1 v3 = 1#1 then k0_pay19 (k0_pay14 X5) (k0_pay15 X5 X6 X11 X12 X10) (k0_pay17 X7) X8 (VecWindow.window X22 (k0_off3 v3) S1x512.size (k0_off3_inb v1 v3 hw h4)) X19 else X19

/-- What a block above the diagonal leaves of the value gradient. -/
def u20 (v1 v3 : Elt F .i32) (hw : k0_chk1 v1 v3) (X5 X6 X7 : Vec F S1x512x128 .bf16) (X8 : Vec F S1x512x128 .f32) (X10 : Vec F S1x1x512 .f32) (X11 : Vec F S1x512x128 .f32) (X12 : Vec F S1x1x512 .f32) (X22 : Vec F S4x512 .f32) (X20 : Vec F S512x128 .f32) : Vec F S512x128 .f32 :=
  if k0_cond4 v1 v3 = 1#1 then k0_pay16 X5 X6 X11 X12 X10 X20 X8 else X20

/-- What a block above the diagonal leaves of the row gradient of the gate. -/
def u21 (v1 v3 : Elt F .i32) (hw : k0_chk1 v1 v3) (X5 X6 X7 : Vec F S1x512x128 .bf16) (X8 : Vec F S1x512x128 .f32) (X10 : Vec F S1x1x512 .f32) (X11 : Vec F S1x512x128 .f32) (X12 : Vec F S1x1x512 .f32) (X22 : Vec F S4x512 .f32) (X21 : Vec F S4x512 .f32) : Vec F S4x512 .f32 :=
  if h4 : k0_cond4 v1 v3 = 1#1 then VecWindow.put X21 (k0_off3 v3) S1x512.size (k0_pay6 (k0_pay21 (k0_pay15 X5 X6 X11 X12 X10) (k0_pay17 X7) X8 (VecWindow.window X22 (k0_off3 v3) S1x512.size (k0_off3_inb v1 v3 hw h4)) (VecWindow.window X21 (k0_off3 v3) S1x512.size (k0_off3_inb v1 v3 hw h4)))) else X21

/-- What a block on the diagonal leaves of the query gradient. -/
def w18 (v1 v3 : Elt F .i32) (hw : k0_chk1 v1 v3) (X5 X6 X7 : Vec F S1x512x128 .bf16) (X8 : Vec F S1x512x128 .f32) (X10 : Vec F S1x1x512 .f32) (X11 : Vec F S1x512x128 .f32) (X12 : Vec F S1x1x512 .f32) (X22 : Vec F S4x512 .f32) (X18 : Vec F S2048x128 .f32) : Vec F S2048x128 .f32 :=
  if h5 : cond3 v1 v3 = 1#1 then VecWindow.put X18 (k0_off6 v3) S512x128.size (k0_pay7 (k0_pay28 (k0_pay23 v1 v3 X5 X6 X11 X12 X10) X7 X8 (VecWindow.window X22 (k0_off5 v3) S1x512.size (k0_off5_inb v1 v3 hw h5)) (VecWindow.window X18 (k0_off6 v3) S512x128.size (k0_off6_inb v1 v3 hw h5)) X6)) else X18

/-- What a block on the diagonal leaves of the key gradient. -/
def w19 (v1 v3 : Elt F .i32) (hw : k0_chk1 v1 v3) (X5 X6 X7 : Vec F S1x512x128 .bf16) (X8 : Vec F S1x512x128 .f32) (X10 : Vec F S1x1x512 .f32) (X11 : Vec F S1x512x128 .f32) (X12 : Vec F S1x1x512 .f32) (X22 : Vec F S4x512 .f32) (X19 : Vec F S512x256 .f32) : Vec F S512x256 .f32 :=
  if h5 : cond3 v1 v3 = 1#1 then k0_pay27 (k0_pay22 X5) (k0_pay23 v1 v3 X5 X6 X11 X12 X10) X7 X8 (VecWindow.window X22 (k0_off5 v3) S1x512.size (k0_off5_inb v1 v3 hw h5)) X19 else X19

/-- What a block on the diagonal leaves of the value gradient. -/
def w20 (v1 v3 : Elt F .i32) (hw : k0_chk1 v1 v3) (X5 X6 X7 : Vec F S1x512x128 .bf16) (X8 : Vec F S1x512x128 .f32) (X10 : Vec F S1x1x512 .f32) (X11 : Vec F S1x512x128 .f32) (X12 : Vec F S1x1x512 .f32) (X22 : Vec F S4x512 .f32) (X20 : Vec F S512x128 .f32) : Vec F S512x128 .f32 :=
  if cond3 v1 v3 = 1#1 then k0_pay25 X20 (k0_pay24 v1 v3 X5 X6 X11 X12 X10 X8) else X20

/-- What a block on the diagonal leaves of the row gradient of the gate. -/
def w21 (v1 v3 : Elt F .i32) (hw : k0_chk1 v1 v3) (X5 X6 X7 : Vec F S1x512x128 .bf16) (X8 : Vec F S1x512x128 .f32) (X10 : Vec F S1x1x512 .f32) (X11 : Vec F S1x512x128 .f32) (X12 : Vec F S1x1x512 .f32) (X22 : Vec F S4x512 .f32) (X21 : Vec F S4x512 .f32) : Vec F S4x512 .f32 :=
  if h5 : cond3 v1 v3 = 1#1 then VecWindow.put X21 (k0_off5 v3) S1x512.size (k0_pay8 (k0_pay26 (k0_pay23 v1 v3 X5 X6 X11 X12 X10) X7 X8 (VecWindow.window X22 (k0_off5 v3) S1x512.size (k0_off5_inb v1 v3 hw h5))) (VecWindow.window X21 (k0_off5 v3) S1x512.size (k0_off5_inb v1 v3 hw h5))) else X21

theorem blk1_wp (k : Prog (TpuEff nD τ sig (Elt F) Λ₀ .tc) PUnit) (K : PUnit → sProp 𝕄) :
    iprop(owns (c : Thread nD τ) arg18 fullShare X18 ∗ owns (c : Thread nD τ) arg21 fullShare X21
        ∗ (iprop(owns (c : Thread nD τ) arg18 fullShare (z18 i X18) ∗ owns (c : Thread nD τ) arg21 fullShare (z21 i X21))
            -∗ wp frame (wpE (defs₀ (F := F)) Variants.none c none) E k K))
      ⊢ wp frame (wpE (defs₀ (F := F)) Variants.none c none) E (blk1 i arg18 arg21 k) K := by
  by_cases h : cond1 i = 1#1
  · simp only [z18, z21, dif_pos h, if_pos h]
    apply blk1_pos (h1 := h)
  · simp only [z18, z21, dif_neg h, if_neg h]
    rw [blk1_neg (h := h)]
    iintro ⟨H18, H21, Hk⟩
    iapply Hk
    isplitl [H18]
    · iexact H18
    · iexact H21

theorem blk2_wp (v1 v3 : Elt F .i32) (hw : k0_chk1 v1 v3) (k : Prog (TpuEff nD τ sig (Elt F) Λ₀ .tc) PUnit) (K : PUnit → sProp 𝕄) :
    iprop(owns (c : Thread nD τ) arg8 fullShare X8 ∗ owns (c : Thread nD τ) arg9 fullShare X9 ∗ owns (c : Thread nD τ) arg22 fullShare X22
        ∗ (iprop(owns (c : Thread nD τ) arg8 fullShare X8 ∗ owns (c : Thread nD τ) arg9 fullShare X9 ∗ owns (c : Thread nD τ) arg22 fullShare (z22 v1 v3 X8 X9 X22))
            -∗ wp frame (wpE (defs₀ (F := F)) Variants.none c none) E k K))
      ⊢ wp frame (wpE (defs₀ (F := F)) Variants.none c none) E (blk2 arg8 arg9 arg22 v1 v3 hw k) K := by
  by_cases h : k0_cond2 v1 = 1#1
  · simp only [z22, dif_pos h, if_pos h]
    apply blk2_pos (h2 := h)
  · simp only [z22, dif_neg h, if_neg h]
    rw [blk2_neg (h := h)]
    iintro ⟨H8, H9, H22, Hk⟩
    iapply Hk
    isplitl [H8]
    · iexact H8
    isplitl [H9]
    · iexact H9
    · iexact H22

theorem blk3_wp (v1 v3 : Elt F .i32) (hw : k0_chk1 v1 v3) (k : Prog (TpuEff nD τ sig (Elt F) Λ₀ .tc) PUnit) (K : PUnit → sProp 𝕄) :
    iprop(owns (c : Thread nD τ) arg19 fullShare X19 ∗ owns (c : Thread nD τ) arg20 fullShare X20
        ∗ (iprop(owns (c : Thread nD τ) arg19 fullShare (z19 v1 v3 X19) ∗ owns (c : Thread nD τ) arg20 fullShare (z20 v1 v3 X20))
            -∗ wp frame (wpE (defs₀ (F := F)) Variants.none c none) E k K))
      ⊢ wp frame (wpE (defs₀ (F := F)) Variants.none c none) E (blk3 arg19 arg20 v1 v3 hw k) K := by
  by_cases h : cond3 v1 v3 = 1#1
  · simp only [z19, z20, dif_pos h, if_pos h]
    apply blk3_pos (h3 := h)
  · simp only [z19, z20, dif_neg h, if_neg h]
    rw [blk3_neg (h := h)]
    iintro ⟨H19, H20, Hk⟩
    iapply Hk
    isplitl [H19]
    · iexact H19
    · iexact H20

theorem blk4_wp (v1 v3 : Elt F .i32) (hw : k0_chk1 v1 v3) (k : Prog (TpuEff nD τ sig (Elt F) Λ₀ .tc) PUnit) (K : PUnit → sProp 𝕄) :
    iprop(owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg10 fullShare X10 ∗ owns (c : Thread nD τ) arg11 fullShare X11 ∗ owns (c : Thread nD τ) arg12 fullShare X12 ∗ owns (c : Thread nD τ) arg22 fullShare X22 ∗ owns (c : Thread nD τ) arg18 fullShare X18 ∗ owns (c : Thread nD τ) arg19 fullShare X19 ∗ owns (c : Thread nD τ) arg20 fullShare X20 ∗ owns (c : Thread nD τ) arg21 fullShare X21
        ∗ (iprop(owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg10 fullShare X10 ∗ owns (c : Thread nD τ) arg11 fullShare X11 ∗ owns (c : Thread nD τ) arg12 fullShare X12 ∗ owns (c : Thread nD τ) arg22 fullShare X22 ∗ owns (c : Thread nD τ) arg18 fullShare (u18 v1 v3 hw X5 X6 X7 X8 X10 X11 X12 X22 X18) ∗ owns (c : Thread nD τ) arg19 fullShare (u19 v1 v3 hw X5 X6 X7 X8 X10 X11 X12 X22 X19) ∗ owns (c : Thread nD τ) arg20 fullShare (u20 v1 v3 hw X5 X6 X7 X8 X10 X11 X12 X22 X20) ∗ owns (c : Thread nD τ) arg21 fullShare (u21 v1 v3 hw X5 X6 X7 X8 X10 X11 X12 X22 X21))
            -∗ wp frame (wpE (defs₀ (F := F)) Variants.none c none) E k K))
      ⊢ wp frame (wpE (defs₀ (F := F)) Variants.none c none) E (blk4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v3 hw k) K := by
  by_cases h : k0_cond4 v1 v3 = 1#1
  · simp only [u18, u19, u20, u21, dif_pos h, if_pos h]
    apply blk4_pos (h4 := h)
  · simp only [u18, u19, u20, u21, dif_neg h, if_neg h]
    rw [blk4_neg (h := h)]
    iintro ⟨H5, H6, H7, H8, H10, H11, H12, H22, H18, H19, H20, H21, Hk⟩
    iapply Hk
    isplitl [H5]
    · iexact H5
    isplitl [H6]
    · iexact H6
    isplitl [H7]
    · iexact H7
    isplitl [H8]
    · iexact H8
    isplitl [H10]
    · iexact H10
    isplitl [H11]
    · iexact H11
    isplitl [H12]
    · iexact H12
    isplitl [H22]
    · iexact H22
    isplitl [H18]
    · iexact H18
    isplitl [H19]
    · iexact H19
    isplitl [H20]
    · iexact H20
    · iexact H21

theorem blk5_wp (v1 v3 : Elt F .i32) (hw : k0_chk1 v1 v3) (k : Prog (TpuEff nD τ sig (Elt F) Λ₀ .tc) PUnit) (K : PUnit → sProp 𝕄) :
    iprop(owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg10 fullShare X10 ∗ owns (c : Thread nD τ) arg11 fullShare X11 ∗ owns (c : Thread nD τ) arg12 fullShare X12 ∗ owns (c : Thread nD τ) arg22 fullShare X22 ∗ owns (c : Thread nD τ) arg18 fullShare X18 ∗ owns (c : Thread nD τ) arg19 fullShare X19 ∗ owns (c : Thread nD τ) arg20 fullShare X20 ∗ owns (c : Thread nD τ) arg21 fullShare X21
        ∗ (iprop(owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg10 fullShare X10 ∗ owns (c : Thread nD τ) arg11 fullShare X11 ∗ owns (c : Thread nD τ) arg12 fullShare X12 ∗ owns (c : Thread nD τ) arg22 fullShare X22 ∗ owns (c : Thread nD τ) arg18 fullShare (w18 v1 v3 hw X5 X6 X7 X8 X10 X11 X12 X22 X18) ∗ owns (c : Thread nD τ) arg19 fullShare (w19 v1 v3 hw X5 X6 X7 X8 X10 X11 X12 X22 X19) ∗ owns (c : Thread nD τ) arg20 fullShare (w20 v1 v3 hw X5 X6 X7 X8 X10 X11 X12 X22 X20) ∗ owns (c : Thread nD τ) arg21 fullShare (w21 v1 v3 hw X5 X6 X7 X8 X10 X11 X12 X22 X21))
            -∗ wp frame (wpE (defs₀ (F := F)) Variants.none c none) E k K))
      ⊢ wp frame (wpE (defs₀ (F := F)) Variants.none c none) E (blk5 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v3 hw k) K := by
  by_cases h : cond3 v1 v3 = 1#1
  · simp only [w18, w19, w20, w21, dif_pos h, if_pos h]
    apply blk5_pos (h5 := h)
  · simp only [w18, w19, w20, w21, dif_neg h, if_neg h]
    rw [blk5_neg (h := h)]
    iintro ⟨H5, H6, H7, H8, H10, H11, H12, H22, H18, H19, H20, H21, Hk⟩
    iapply Hk
    isplitl [H5]
    · iexact H5
    isplitl [H6]
    · iexact H6
    isplitl [H7]
    · iexact H7
    isplitl [H8]
    · iexact H8
    isplitl [H10]
    · iexact H10
    isplitl [H11]
    · iexact H11
    isplitl [H12]
    · iexact H12
    isplitl [H22]
    · iexact H22
    isplitl [H18]
    · iexact H18
    isplitl [H19]
    · iexact H19
    isplitl [H20]
    · iexact H20
    · iexact H21

theorem blk6_wp (Y14 Y15 : Vec F S1x512x128 .bf16) (Y16 : Vec F S1x512x128 .f32) (v1 v3 : Elt F .i32) (hw : k0_chk1 v1 v3) (k : Prog (TpuEff nD τ sig (Elt F) Λ₀ .tc) PUnit) (K : PUnit → sProp 𝕄) :
    iprop(owns (c : Thread nD τ) arg19 fullShare X19 ∗ owns (c : Thread nD τ) arg20 fullShare X20 ∗ owns (c : Thread nD τ) arg14 fullShare Y14 ∗ owns (c : Thread nD τ) arg15 fullShare Y15 ∗ owns (c : Thread nD τ) arg16 fullShare Y16
        ∗ (iprop(owns (c : Thread nD τ) arg19 fullShare X19 ∗ owns (c : Thread nD τ) arg20 fullShare X20 ∗ owns (c : Thread nD τ) arg14 fullShare (if k0_cond6 v3 = 1#1 then k0_pay9 X19 else Y14) ∗ owns (c : Thread nD τ) arg15 fullShare (if k0_cond6 v3 = 1#1 then k0_pay11 X20 else Y15) ∗ owns (c : Thread nD τ) arg16 fullShare (if k0_cond6 v3 = 1#1 then k0_pay10 X19 else Y16))
            -∗ wp frame (wpE (defs₀ (F := F)) Variants.none c none) E k K))
      ⊢ wp frame (wpE (defs₀ (F := F)) Variants.none c none) E (blk6 arg14 harg14 arg15 harg15 arg16 arg19 arg20 v1 v3 hw k) K := by
  by_cases h : k0_cond6 v3 = 1#1
  · simp only [dif_pos h, if_pos h]
    apply blk6_pos (h6 := h)
  · simp only [dif_neg h, if_neg h]
    rw [blk6_neg (h := h)]
    iintro ⟨H19, H20, H14, H15, H16, Hk⟩
    iapply Hk
    isplitl [H19]
    · iexact H19
    isplitl [H20]
    · iexact H20
    isplitl [H14]
    · iexact H14
    isplitl [H15]
    · iexact H15
    · iexact H16

theorem blk7_wp (Y13 : Vec F S1x2048x128 .bf16) (Y17 : Vec F S1x4x512 .f32) (k : Prog (TpuEff nD τ sig (Elt F) Λ₀ .tc) PUnit) (K : PUnit → sProp 𝕄) :
    iprop(owns (c : Thread nD τ) arg18 fullShare X18 ∗ owns (c : Thread nD τ) arg21 fullShare X21 ∗ owns (c : Thread nD τ) arg13 fullShare Y13 ∗ owns (c : Thread nD τ) arg17 fullShare Y17
        ∗ (iprop(owns (c : Thread nD τ) arg18 fullShare X18 ∗ owns (c : Thread nD τ) arg21 fullShare X21 ∗ owns (c : Thread nD τ) arg13 fullShare (if k0_cond7 i = 1#1 then k0_pay12 X18 else Y13) ∗ owns (c : Thread nD τ) arg17 fullShare (if k0_cond7 i = 1#1 then k0_pay13 X21 else Y17))
            -∗ wp frame (wpE (defs₀ (F := F)) Variants.none c none) E k K))
      ⊢ wp frame (wpE (defs₀ (F := F)) Variants.none c none) E (blk7 i arg13 harg13 arg17 arg18 arg21 k) K := by
  by_cases h : k0_cond7 i = 1#1
  · simp only [dif_pos h, if_pos h]
    apply blk7_pos (h7 := h)
  · simp only [dif_neg h, if_neg h]
    rw [blk7_neg (h := h)]
    iintro ⟨H18, H21, H13, H17, Hk⟩
    iapply Hk
    isplitl [H18]
    · iexact H18
    isplitl [H21]
    · iexact H21
    isplitl [H13]
    · iexact H13
    · iexact H17

end Cert.KernelIdeal.Attn
-- ==== Proof.AttnI.Step.lean ====
module

public import proofs.«01_k».proof.Proof.AttnI.Body

/-! One point of the attention backward pass's grid: the words it reads off the two tables, and what its body leaves in
    every buffer it touches. -/

@[expose] public noncomputable section

set_option maxRecDepth 16384

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The table of key blocks and the table of query blocks, whole, as the body is handed them. -/
abbrev tb0 : Memref sig .tc .smem S10 .i32 := Memref.whole main_c
abbrev tb1 : Memref sig .tc .smem S10 .i32 := Memref.whole main_c_0

/-- The key block and the query block of the point `i`. -/
def wk (pf : pre0.Contents (Elt F)) (i : grid0.Coords) : Elt F .i32 := pf.atD 0 (k0_off1 i)
def wq (pf : pre0.Contents (Elt F)) (i : grid0.Coords) : Elt F .i32 := pf.atD 1 (k0_off1 i)

section Next

variable (i : grid0.Coords) (v1 v3 : Elt F .i32) (hw : k0_chk1 v1 v3)
variable (X5 X6 X7 : Vec F S1x512x128 .bf16) (X8 X9 : Vec F S1x512x128 .f32) (X10 : Vec F S1x1x512 .f32) (X11 : Vec F S1x512x128 .f32) (X12 : Vec F S1x1x512 .f32)

/-- The five scratch buffers after a point: each conditional block in turn. -/
def n22 (X22 : Vec F S4x512 .f32) : Vec F S4x512 .f32 := z22 v1 v3 X8 X9 X22
def n18 (X18 : Vec F S2048x128 .f32) (X22 : Vec F S4x512 .f32) : Vec F S2048x128 .f32 :=
  w18 v1 v3 hw X5 X6 X7 X8 X10 X11 X12 (n22 v1 v3 X8 X9 X22) (u18 v1 v3 hw X5 X6 X7 X8 X10 X11 X12 (n22 v1 v3 X8 X9 X22) (z18 i X18))
def n19 (X19 : Vec F S512x256 .f32) (X22 : Vec F S4x512 .f32) : Vec F S512x256 .f32 :=
  w19 v1 v3 hw X5 X6 X7 X8 X10 X11 X12 (n22 v1 v3 X8 X9 X22) (u19 v1 v3 hw X5 X6 X7 X8 X10 X11 X12 (n22 v1 v3 X8 X9 X22) (z19 v1 v3 X19))
def n20 (X20 : Vec F S512x128 .f32) (X22 : Vec F S4x512 .f32) : Vec F S512x128 .f32 :=
  w20 v1 v3 hw X5 X6 X7 X8 X10 X11 X12 (n22 v1 v3 X8 X9 X22) (u20 v1 v3 hw X5 X6 X7 X8 X10 X11 X12 (n22 v1 v3 X8 X9 X22) (z20 v1 v3 X20))
def n21 (X21 : Vec F S4x512 .f32) (X22 : Vec F S4x512 .f32) : Vec F S4x512 .f32 :=
  w21 v1 v3 hw X5 X6 X7 X8 X10 X11 X12 (n22 v1 v3 X8 X9 X22) (u21 v1 v3 hw X5 X6 X7 X8 X10 X11 X12 (n22 v1 v3 X8 X9 X22) (z21 i X21))

end Next

variable (i : grid0.Coords) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x1x512 .f32) (harg10 : arg10.IsWhole) (arg11 : Memref sig .tc .vmem S1x512x128 .f32) (harg11 : arg11.IsWhole) (arg12 : Memref sig .tc .vmem S1x1x512 .f32) (harg12 : arg12.IsWhole) (arg13 : Memref sig .tc .vmem S1x2048x128 .bf16) (harg13 : arg13.IsWhole) (arg14 : Memref sig .tc .vmem S1x512x128 .bf16) (harg14 : arg14.IsWhole) (arg15 : Memref sig .tc .vmem S1x512x128 .bf16) (harg15 : arg15.IsWhole) (arg16 : Memref sig .tc .vmem S1x512x128 .f32) (harg16 : arg16.IsWhole) (arg17 : Memref sig .tc .vmem S1x4x512 .f32) (harg17 : arg17.IsWhole) (arg18 : Memref sig .tc .vmem S2048x128 .f32) (harg18 : arg18.IsWhole) (arg19 : Memref sig .tc .vmem S512x256 .f32) (harg19 : arg19.IsWhole) (arg20 : Memref sig .tc .vmem S512x128 .f32) (harg20 : arg20.IsWhole) (arg21 : Memref sig .tc .vmem S4x512 .f32) (harg21 : arg21.IsWhole) (arg22 : Memref sig .tc .vmem S4x512 .f32) (harg22 : arg22.IsWhole)
variable (c : Dev nD) (E : Set ℕ)
variable (X5 X6 X7 : Vec F S1x512x128 .bf16) (X8 X9 : Vec F S1x512x128 .f32) (X10 : Vec F S1x1x512 .f32) (X11 : Vec F S1x512x128 .f32) (X12 : Vec F S1x1x512 .f32)
variable (Y13 : Vec F S1x2048x128 .bf16) (Y14 Y15 : Vec F S1x512x128 .bf16) (Y16 : Vec F S1x512x128 .f32) (Y17 : Vec F S1x4x512 .f32)
variable (X18 : Vec F S2048x128 .f32) (X19 : Vec F S512x256 .f32) (X20 : Vec F S512x128 .f32) (X21 X22 : Vec F S4x512 .f32)

/-- The body past its two table reads. -/
def rest (v1 v3 : Elt F .i32) (hw : k0_chk1 v1 v3) : Prog (TpuEff nD τ sig (Elt F) Λ₀ .tc) PUnit.{1} :=
  blk1 i arg18 arg21 <|
  blk2 arg8 arg9 arg22 v1 v3 hw <|
  blk3 arg19 arg20 v1 v3 hw <|
  blk4 i tb0 (Memref.isWhole_whole _) tb1 (Memref.isWhole_whole _) arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v3 hw <|
  blk5 i tb0 (Memref.isWhole_whole _) tb1 (Memref.isWhole_whole _) arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v3 hw <|
  blk6 arg14 harg14 arg15 harg15 arg16 arg19 arg20 v1 v3 hw <|
  blk7 i arg13 harg13 arg17 arg18 arg21 <|
  pure ⟨⟩

theorem wk_eq (pf : pre0.Contents (Elt F)) : wk pf i = tb0.view.readAt (Elt F) (Rect.unit (s := S10) (k0_off1 i) S1.size (k0_off1_inb i)).toLoadRect (pf 0) (Shape.Idx.first (numel1_S1.symm ▸ Nat.one_pos)) := by
  unfold wk Pipeline.Prefetch.Contents.atD
  split
  · rfl
  · rename_i h; exact absurd (fun a => match a with | ⟨0, _⟩ => k0_off1_inb i 0 | ⟨_ + 1, h⟩ => absurd h (Nat.not_lt.2 (Nat.le_add_left _ _))) h
theorem wq_eq (pf : pre0.Contents (Elt F)) : wq pf i = tb1.view.readAt (Elt F) (Rect.unit (s := S10) (k0_off1 i) S1.size (k0_off1_inb i)).toLoadRect (pf 1) (Shape.Idx.first (numel1_S1.symm ▸ Nat.one_pos)) := by
  unfold wq Pipeline.Prefetch.Contents.atD
  split
  · rfl
  · rename_i h; exact absurd (fun a => match a with | ⟨0, _⟩ => k0_off1_inb i 0 | ⟨_ + 1, h⟩ => absurd h (Nat.not_lt.2 (Nat.le_add_left _ _))) h

theorem words_wp (pf : pre0.Contents (Elt F)) (q : PosShare TreeShare) (hw : k0_chk1 (wk pf i) (wq pf i)) (K : PUnit → sProp 𝕄) :
    iprop((tb0.view.loc (c : Thread nD τ) ↦{q} pf 0) ∗ (tb1.view.loc (c : Thread nD τ) ↦{q} pf 1)
        ∗ (iprop((tb0.view.loc (c : Thread nD τ) ↦{q} pf 0) ∗ (tb1.view.loc (c : Thread nD τ) ↦{q} pf 1)) -∗ wp frame (wpE (defs₀ (F := F)) Variants.none c none) E (rest (F := F) i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (wk pf i) (wq pf i) hw) K))
      ⊢ wp frame (wpE (defs₀ (F := F)) Variants.none c none) E (cc0_attn_bwd (F := F) i tb0 (Memref.isWhole_whole _) tb1 (Memref.isWhole_whole _) arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  rw [cc0_attn_bwd_eq_skeleton, skel_eq_body]
  unfold body
  iintro ⟨H3, H4, Hk⟩
  sl_exec
  rw [show words_wp.sl.r i pf = wk pf i from (wk_eq i pf).symm]
  rw [show words_wp.sl.r_1 i pf = wq pf i from (wq_eq i pf).symm]
  sl_exec
  ihave H := Hk $$ [H3 H4]
  · isplitl [H3]
    · iexact H3
    · iexact H4
  iexact H

theorem rest_wp (v1 v3 : Elt F .i32) (hw : k0_chk1 v1 v3) (K : PUnit → sProp 𝕄) :
    iprop(owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare Y13 ∗ owns (c : Thread nD τ) arg14 fullShare Y14 ∗ owns (c : Thread nD τ) arg15 fullShare Y15 ∗ owns (c : Thread nD τ) arg16 fullShare Y16 ∗ owns (c : Thread nD τ) arg17 fullShare Y17 ∗ owns (c : Thread nD τ) arg18 fullShare X18 ∗ owns (c : Thread nD τ) arg19 fullShare X19 ∗ owns (c : Thread nD τ) arg20 fullShare X20 ∗ owns (c : Thread nD τ) arg21 fullShare X21 ∗ owns (c : Thread nD τ) arg22 fullShare X22
        ∗ (iprop(owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare (if k0_cond7 i = 1#1 then k0_pay12 (n18 i v1 v3 hw X5 X6 X7 X8 X9 X10 X11 X12 X18 X22) else Y13) ∗ owns (c : Thread nD τ) arg14 fullShare (if k0_cond6 v3 = 1#1 then k0_pay9 (n19 v1 v3 hw X5 X6 X7 X8 X9 X10 X11 X12 X19 X22) else Y14) ∗ owns (c : Thread nD τ) arg15 fullShare (if k0_cond6 v3 = 1#1 then k0_pay11 (n20 v1 v3 hw X5 X6 X7 X8 X9 X10 X11 X12 X20 X22) else Y15) ∗ owns (c : Thread nD τ) arg16 fullShare (if k0_cond6 v3 = 1#1 then k0_pay10 (n19 v1 v3 hw X5 X6 X7 X8 X9 X10 X11 X12 X19 X22) else Y16) ∗ owns (c : Thread nD τ) arg17 fullShare (if k0_cond7 i = 1#1 then k0_pay13 (n21 i v1 v3 hw X5 X6 X7 X8 X9 X10 X11 X12 X21 X22) else Y17) ∗ owns (c : Thread nD τ) arg18 fullShare (n18 i v1 v3 hw X5 X6 X7 X8 X9 X10 X11 X12 X18 X22) ∗ owns (c : Thread nD τ) arg19 fullShare (n19 v1 v3 hw X5 X6 X7 X8 X9 X10 X11 X12 X19 X22) ∗ owns (c : Thread nD τ) arg20 fullShare (n20 v1 v3 hw X5 X6 X7 X8 X9 X10 X11 X12 X20 X22) ∗ owns (c : Thread nD τ) arg21 fullShare (n21 i v1 v3 hw X5 X6 X7 X8 X9 X10 X11 X12 X21 X22) ∗ owns (c : Thread nD τ) arg22 fullShare (n22 v1 v3 X8 X9 X22)) -∗ K ⟨⟩))
      ⊢ wp frame (wpE (defs₀ (F := F)) Variants.none c none) E (rest (F := F) i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v3 hw) K := by
  unfold rest n18 n19 n20 n21 n22
  iintro ⟨H5, H6, H7, H8, H9, H10, H11, H12, H13, H14, H15, H16, H17, H18, H19, H20, H21, H22, Hk⟩
  iapply (blk1_wp)
  isplitl [H18]
  · iexact H18
  isplitl [H21]
  · iexact H21
  iintro ⟨H18, H21⟩
  iapply (blk2_wp)
  isplitl [H8]
  · iexact H8
  isplitl [H9]
  · iexact H9
  isplitl [H22]
  · iexact H22
  iintro ⟨H8, H9, H22⟩
  iapply (blk3_wp)
  isplitl [H19]
  · iexact H19
  isplitl [H20]
  · iexact H20
  iintro ⟨H19, H20⟩
  iapply (blk4_wp)
  isplitl [H5]
  · iexact H5
  isplitl [H6]
  · iexact H6
  isplitl [H7]
  · iexact H7
  isplitl [H8]
  · iexact H8
  isplitl [H10]
  · iexact H10
  isplitl [H11]
  · iexact H11
  isplitl [H12]
  · iexact H12
  isplitl [H22]
  · iexact H22
  isplitl [H18]
  · iexact H18
  isplitl [H19]
  · iexact H19
  isplitl [H20]
  · iexact H20
  isplitl [H21]
  · iexact H21
  iintro ⟨H5, H6, H7, H8, H10, H11, H12, H22, H18, H19, H20, H21⟩
  iapply (blk5_wp)
  isplitl [H5]
  · iexact H5
  isplitl [H6]
  · iexact H6
  isplitl [H7]
  · iexact H7
  isplitl [H8]
  · iexact H8
  isplitl [H10]
  · iexact H10
  isplitl [H11]
  · iexact H11
  isplitl [H12]
  · iexact H12
  isplitl [H22]
  · iexact H22
  isplitl [H18]
  · iexact H18
  isplitl [H19]
  · iexact H19
  isplitl [H20]
  · iexact H20
  isplitl [H21]
  · iexact H21
  iintro ⟨H5, H6, H7, H8, H10, H11, H12, H22, H18, H19, H20, H21⟩
  iapply (blk6_wp)
  isplitl [H19]
  · iexact H19
  isplitl [H20]
  · iexact H20
  isplitl [H14]
  · iexact H14
  isplitl [H15]
  · iexact H15
  isplitl [H16]
  · iexact H16
  iintro ⟨H19, H20, H14, H15, H16⟩
  iapply (blk7_wp)
  isplitl [H18]
  · iexact H18
  isplitl [H21]
  · iexact H21
  isplitl [H13]
  · iexact H13
  isplitl [H17]
  · iexact H17
  iintro ⟨H18, H21, H13, H17⟩
  rw [wp_pure]
  imodintro
  iapply Hk
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  iexact H22

end Cert.KernelIdeal.Attn
-- ==== Proof.AttnI.Kit.lean ====
module

public import proofs.«01_k».proof.Proof.AttnI.Step
public import proofs.«01_k».proof.Proof.Gen.KernelIdeal.Launch
public import Idealize.ShloMosaic.Lib.Pipeline.Kit
public import Idealize.ShloMosaic.Lib.Pipeline.Frame

/-! The launch of the attention backward pass: what the host leaves in every buffer when the grid starts, the two
    tables, and where each window is idle and written back. -/

@[expose] public noncomputable section

set_option maxRecDepth 16384

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ)

/-- The host's operations before the grid, in order. -/
abbrev hostLines : List (List (HloOp τ sig (Elt F))) := [hostOps0, hostOps0_1, hostOps0_2, hostOps0_3, hostOps0_4]

/-- What a buffer holds when the grid starts. -/
abbrev V (c : Dev nD) (b : Ref sig .tc) : Buf (Elt F) ((c : Thread nD τ).loc b) :=
  StableHlo.after hostLines.flatten (fun b => m (c, b)) b

theorem fresh_0 : (hostOps0 : List (HloOp τ sig (Elt F))).Forall fun op => op.fresh = ∅ := by
  simp only [List.Forall]; repeat' constructor
theorem fresh_1 : (hostOps0_1 : List (HloOp τ sig (Elt F))).Forall fun op => op.fresh = ∅ := by
  simp only [List.Forall]; repeat' constructor
theorem fresh_2 : (hostOps0_2 : List (HloOp τ sig (Elt F))).Forall fun op => op.fresh = ∅ := by
  simp only [List.Forall]; repeat' constructor
theorem fresh_3 : (hostOps0_3 : List (HloOp τ sig (Elt F))).Forall fun op => op.fresh = ∅ := by
  simp only [List.Forall]; repeat' constructor
theorem fresh_4 : (hostOps0_4 : List (HloOp τ sig (Elt F))).Forall fun op => op.fresh = ∅ := by
  simp only [List.Forall]; repeat' constructor

set_option maxHeartbeats 800000 in
theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main hostLines
    (by simp only [List.Forall]; exact ⟨hostOps0_sub, hostOps0_1_sub, hostOps0_2_sub, hostOps0_3_sub, hostOps0_4_sub⟩)
    (by simp only [List.Forall]; exact ⟨fresh_0, fresh_1, fresh_2, fresh_3, fresh_4⟩) main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostLines, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostLines, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostLines, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostLines, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostLines, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The two tables, as the program states them. -/
def tabs : pre0.Contents (Elt F) := fun
  | 0 => fun i => lit0 (S10.rowMajor i)
  | 1 => fun i => lit1 (S10.rowMajor i)
  | ⟨_ + 2, h⟩ => absurd h (Nat.not_lt.2 (Nat.le_add_left _ _))

theorem V_tab0 (c : Dev nD) : V m c main_c = fun i => lit0 (S10.rowMajor i) := by
  refine (StableHlo.after_of_forall_not_mem (b := Proc.devRef .tc main_c) (hostLines (F := F)).flatten.tail _ (List.forall_iff_forall_mem.mp (by
    simp only [hostLines, hostOps0, hostOps0_1, hostOps0_2, hostOps0_3, hostOps0_4, List.flatten_cons, List.flatten_nil, List.append_nil, List.cons_append,
      List.nil_append, List.tail_cons, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  exact StableHlo.nullary_result' ..
theorem V_tab1 (c : Dev nD) : V m c main_c_0 = fun i => lit1 (S10.rowMajor i) := by
  show StableHlo.after (StableHlo.nullary main_c (fun i => lit0 (S10.rowMajor i)) :: StableHlo.nullary main_c_0 (fun i => lit1 (S10.rowMajor i)) :: (hostLines (F := F)).flatten.tail.tail) _ _ = _
  rw [StableHlo.after_cons, StableHlo.after_cons]
  refine (StableHlo.after_of_forall_not_mem (b := Proc.devRef .tc main_c_0) (hostLines (F := F)).flatten.tail.tail _ (List.forall_iff_forall_mem.mp (by
    simp only [hostLines, hostOps0, hostOps0_1, hostOps0_2, hostOps0_3, hostOps0_4, List.flatten_cons, List.flatten_nil, List.append_nil, List.cons_append,
      List.nil_append, List.tail_cons, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  exact StableHlo.nullary_result' ..
theorem V_pre (c : Dev nD) (j : Fin 2) : V m c (pre0.ref j) = tabs (F := F) j := by
  have h : ∀ (f : (b : Ref sig .tc) → Buf (Elt F) ((c : Thread nD τ).loc b)), f main_c = (fun i => lit0 (S10.rowMajor i)) →
      f main_c_0 = (fun i => lit1 (S10.rowMajor i)) → ∀ j : Fin 2, f (pre0.ref j) = tabs (F := F) j := by
    intro f h0 h1 j
    match j with
    | 0 => exact h0
    | 1 => exact h1
  exact h (V m c) (V_tab0 m c) (V_tab1 m c) j

/-- The key block and the query block of a pair, by its place among the ten. -/
abbrev ikN (p : Fin 10) : ℕ := (![0, 0, 0, 0, 1, 1, 1, 2, 2, 3] : Fin 10 → ℕ) p
abbrev iqN (p : Fin 10) : ℕ := (![0, 1, 2, 3, 1, 2, 3, 2, 3, 3] : Fin 10 → ℕ) p
abbrev ikW (p : Fin 10) : BitVec 32 := BitVec.ofNat 32 (ikN p)
abbrev iqW (p : Fin 10) : BitVec 32 := BitVec.ofNat 32 (iqN p)

theorem at0 (i : grid0.Coords) : (tabs (F := F)).at 0 (Rect.unit (s := S10) (k0_off1 i) S1.size (k0_off1_inb i)) numel1_S1 = ikW (i 2) :=
  (by decide +kernel : ∀ i : grid0.Coords, lit0 (S10.rowMajor ((Rect.unit (s := S10) (k0_off1 i) S1.size (k0_off1_inb i)).emb (Shape.Idx.first (numel1_S1.symm ▸ Nat.one_pos)))) = ikW (i 2)) i
theorem at1 (i : grid0.Coords) : (tabs (F := F)).at 1 (Rect.unit (s := S10) (k0_off1 i) S1.size (k0_off1_inb i)) numel1_S1 = iqW (i 2) :=
  (by decide +kernel : ∀ i : grid0.Coords, lit1 (S10.rowMajor ((Rect.unit (s := S10) (k0_off1 i) S1.size (k0_off1_inb i)).emb (Shape.Idx.first (numel1_S1.symm ▸ Nat.one_pos)))) = iqW (i 2)) i
theorem wk_tabs (i : grid0.Coords) : wk (F := F) tabs i = ikW (i 2) := (wk_eq i tabs).trans (at0 (F := F) i)
theorem wq_tabs (i : grid0.Coords) : wq (F := F) tabs i = iqW (i 2) := (wq_eq i tabs).trans (at1 (F := F) i)
theorem chk : ∀ p : Fin 10, k0_chk1 (ikW p) (iqW p) := by decide +kernel

/-- The block of window 0 at a point. -/
abbrev jx0 (i : grid0.Coords) : Fin 3 → ℕ := ![(i 0).val, iqN (i 2), (i 1).val]
theorem ix0 : cc0_transform_0 (F := F) k0_off1_inb numel1_S1 tabs = jx0 := by
  funext i
  have key : ∀ B : BitVec 32, B = iqW (i 2) → ![(BitVec.ofNat 32 (i 0).val).toNat, (B).toNat, (BitVec.ofNat 32 (i 1).val).toNat] = jx0 i := by
    rintro _ rfl
    revert i; decide +kernel
  exact key _ (at1 i)
/-- The block of window 1 at a point. -/
abbrev jx1 (i : grid0.Coords) : Fin 3 → ℕ := ![(i 0).val, ikN (i 2), (i 1).val]
theorem ix1 : cc0_transform_1 (F := F) k0_off1_inb numel1_S1 tabs = jx1 := by
  funext i
  have key : ∀ A : BitVec 32, A = ikW (i 2) → ![(BitVec.ofNat 32 (i 0).val).toNat, (A).toNat, (Scalar.addi (0#32) (BitVec.ofNat 32 (i 1).val)).toNat] = jx1 i := by
    rintro _ rfl
    revert i; decide +kernel
  exact key _ (at0 i)
/-- The block of window 2 at a point. -/
abbrev jx2 (i : grid0.Coords) : Fin 3 → ℕ := ![(i 0).val, ikN (i 2), 8 + (i 1).val]
theorem ix2 : cc0_transform_2 (F := F) k0_off1_inb numel1_S1 tabs = jx2 := by
  funext i
  have key : ∀ A : BitVec 32, A = ikW (i 2) → ![(BitVec.ofNat 32 (i 0).val).toNat, (A).toNat, (Scalar.addi (8#32) (BitVec.ofNat 32 (i 1).val)).toNat] = jx2 i := by
    rintro _ rfl
    revert i; decide +kernel
  exact key _ (at0 i)
/-- The block of window 3 at a point. -/
abbrev jx3 (i : grid0.Coords) : Fin 3 → ℕ := ![(i 0).val, iqN (i 2), (i 1).val]
theorem ix3 : cc0_transform_3 (F := F) k0_off1_inb numel1_S1 tabs = jx3 := by
  funext i
  have key : ∀ B : BitVec 32, B = iqW (i 2) → ![(BitVec.ofNat 32 (i 0).val).toNat, (B).toNat, (BitVec.ofNat 32 (i 1).val).toNat] = jx3 i := by
    rintro _ rfl
    revert i; decide +kernel
  exact key _ (at1 i)
/-- The block of window 4 at a point. -/
abbrev jx4 (i : grid0.Coords) : Fin 3 → ℕ := ![(i 0).val, if ikN (i 2) = 0 then iqN (i 2) else 0, (i 1).val]
theorem ix4 : cc0_transform_4 (F := F) k0_off1_inb numel1_S1 tabs = jx4 := by
  funext i
  have key : ∀ A B : BitVec 32, A = ikW (i 2) → B = iqW (i 2) → ![(BitVec.ofNat 32 (i 0).val).toNat, (Scalar.select (Scalar.cmpi .eq (A) (0#32)) (B) (0#32)).toNat, (BitVec.ofNat 32 (i 1).val).toNat] = jx4 i := by
    rintro _ _ rfl rfl
    revert i; decide +kernel
  exact key _ _ (at0 i) (at1 i)
/-- The block of window 5 at a point. -/
abbrev jx5 (i : grid0.Coords) : Fin 3 → ℕ := ![(i 0).val * 8 + (i 1).val, 0, iqN (i 2)]
theorem ix5 : cc0_transform_5 (F := F) k0_off1_inb numel1_S1 tabs = jx5 := by
  funext i
  have key : ∀ B : BitVec 32, B = iqW (i 2) → ![(Scalar.addi (Scalar.muli (BitVec.ofNat 32 (i 0).val) (8#32)) (BitVec.ofNat 32 (i 1).val)).toNat, (0#32).toNat, (B).toNat] = jx5 i := by
    rintro _ rfl
    revert i; decide +kernel
  exact key _ (at1 i)
/-- The block of window 6 at a point. -/
abbrev jx6 (i : grid0.Coords) : Fin 3 → ℕ := ![(i 0).val * 8 + (i 1).val, ikN (i 2), 0]
theorem ix6 : cc0_transform_6 (F := F) k0_off1_inb numel1_S1 tabs = jx6 := by
  funext i
  have key : ∀ A : BitVec 32, A = ikW (i 2) → ![(Scalar.addi (Scalar.muli (BitVec.ofNat 32 (i 0).val) (8#32)) (BitVec.ofNat 32 (i 1).val)).toNat, (A).toNat, (0#32).toNat] = jx6 i := by
    rintro _ rfl
    revert i; decide +kernel
  exact key _ (at0 i)
/-- The block of window 7 at a point. -/
abbrev jx7 (i : grid0.Coords) : Fin 3 → ℕ := ![(i 0).val * 8 + (i 1).val, 0, iqN (i 2)]
theorem ix7 : cc0_transform_7 (F := F) k0_off1_inb numel1_S1 tabs = jx7 := by
  funext i
  have key : ∀ B : BitVec 32, B = iqW (i 2) → ![(Scalar.addi (Scalar.muli (BitVec.ofNat 32 (i 0).val) (8#32)) (BitVec.ofNat 32 (i 1).val)).toNat, (0#32).toNat, (B).toNat] = jx7 i := by
    rintro _ rfl
    revert i; decide +kernel
  exact key _ (at1 i)
/-- The block of window 8 at a point. -/
abbrev jx8 (i : grid0.Coords) : Fin 3 → ℕ := ![(i 0).val, 0, (i 1).val]
theorem ix8 : cc0_transform_8 = jx8 := funext (by decide +kernel)
/-- The block of window 9 at a point. -/
abbrev jx9 (i : grid0.Coords) : Fin 3 → ℕ := ![(i 0).val, ikN (i 2), (i 1).val]
theorem ix9 : cc0_transform_9 (F := F) k0_off1_inb numel1_S1 tabs = jx9 := by
  funext i
  have key : ∀ A : BitVec 32, A = ikW (i 2) → ![(BitVec.ofNat 32 (i 0).val).toNat, (A).toNat, (Scalar.addi (0#32) (BitVec.ofNat 32 (i 1).val)).toNat] = jx9 i := by
    rintro _ rfl
    revert i; decide +kernel
  exact key _ (at0 i)
/-- The block of window 10 at a point. -/
abbrev jx10 (i : grid0.Coords) : Fin 3 → ℕ := ![(i 0).val, ikN (i 2), (i 1).val]
theorem ix10 : cc0_transform_10 (F := F) k0_off1_inb numel1_S1 tabs = jx10 := by
  funext i
  have key : ∀ A : BitVec 32, A = ikW (i 2) → ![(BitVec.ofNat 32 (i 0).val).toNat, (A).toNat, (Scalar.addi (0#32) (BitVec.ofNat 32 (i 1).val)).toNat] = jx10 i := by
    rintro _ rfl
    revert i; decide +kernel
  exact key _ (at0 i)
/-- The block of window 11 at a point. -/
abbrev jx11 (i : grid0.Coords) : Fin 3 → ℕ := ![(i 0).val * 8 + (i 1).val, ikN (i 2), 0]
theorem ix11 : cc0_transform_11 (F := F) k0_off1_inb numel1_S1 tabs = jx11 := by
  funext i
  have key : ∀ A : BitVec 32, A = ikW (i 2) → ![(Scalar.addi (Scalar.muli (BitVec.ofNat 32 (i 0).val) (8#32)) (BitVec.ofNat 32 (i 1).val)).toNat, (A).toNat, (0#32).toNat] = jx11 i := by
    rintro _ rfl
    revert i; decide +kernel
  exact key _ (at0 i)
/-- The block of window 12 at a point. -/
abbrev jx12 (i : grid0.Coords) : Fin 3 → ℕ := ![(i 0).val * 8 + (i 1).val, 0, 0]
theorem ix12 : cc0_transform_12 = jx12 := funext (by decide +kernel)

theorem ok : ok0 (F := F) tabs := by
  unfold ok0
  rw [ix0, ix1, ix2, ix3, ix4, ix5, ix6, ix7, ix9, ix10, ix11]
  decide +kernel

abbrev adm : (pcfg0 (F := F)).Adm := ⟨tabs, ok⟩
abbrev cfgA : Pipeline.Cfg sig Λ₀ := cfg0 (F := F) adm
theorem flush8 (t : Fin (cfgA (F := F)).N) : ((cfgA (F := F)).win 8).flush t = ((grid0.coords t 2) == (9 : Fin 10)) :=
  (congrArg (fun ix => Pipeline.Window.flushOf grid0 true ix t) (ix8)).trans
    ((by decide +kernel : ∀ t : Fin grid0.N, Pipeline.Window.flushOf grid0 true jx8 t = ((grid0.coords t 2) == (9 : Fin 10))) t)
theorem flush9 (t : Fin (cfgA (F := F)).N) : ((cfgA (F := F)).win 9).flush t = (iqN (grid0.coords t 2) == 3) :=
  (congrArg (fun ix => Pipeline.Window.flushOf grid0 true ix t) (ix9 (F := F))).trans
    ((by decide +kernel : ∀ t : Fin grid0.N, Pipeline.Window.flushOf grid0 true jx9 t = (iqN (grid0.coords t 2) == 3)) t)
theorem flush10 (t : Fin (cfgA (F := F)).N) : ((cfgA (F := F)).win 10).flush t = (iqN (grid0.coords t 2) == 3) :=
  (congrArg (fun ix => Pipeline.Window.flushOf grid0 true ix t) (ix10 (F := F))).trans
    ((by decide +kernel : ∀ t : Fin grid0.N, Pipeline.Window.flushOf grid0 true jx10 t = (iqN (grid0.coords t 2) == 3)) t)
theorem flush11 (t : Fin (cfgA (F := F)).N) : ((cfgA (F := F)).win 11).flush t = (iqN (grid0.coords t 2) == 3) :=
  (congrArg (fun ix => Pipeline.Window.flushOf grid0 true ix t) (ix11 (F := F))).trans
    ((by decide +kernel : ∀ t : Fin grid0.N, Pipeline.Window.flushOf grid0 true jx11 t = (iqN (grid0.coords t 2) == 3)) t)
theorem flush12 (t : Fin (cfgA (F := F)).N) : ((cfgA (F := F)).win 12).flush t = ((grid0.coords t 2) == (9 : Fin 10)) :=
  (congrArg (fun ix => Pipeline.Window.flushOf grid0 true ix t) (ix12)).trans
    ((by decide +kernel : ∀ t : Fin grid0.N, Pipeline.Window.flushOf grid0 true jx12 t = ((grid0.coords t 2) == (9 : Fin 10))) t)

end Cert.KernelIdeal.Attn
-- ==== Proof.AttnI.Scr.lean ====
module

public import proofs.«01_k».proof.Proof.AttnI.Kit

/-! The scratch buffers of the attention backward pass from point to point, and why what they held before a pair of
    batch and head began does not matter. -/

@[expose] public noncomputable section

set_option maxRecDepth 16384

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open VecWindow (put window)

/-! ## The conditions, by the pair's place -/

theorem cond1_iff : ∀ i : grid0.Coords, cond1 i = 1#1 ↔ (i 2).val = 0 := by decide +kernel
theorem cond2_iff : ∀ p : Fin 10, k0_cond2 (ikW p) = 1#1 ↔ p.val < 4 := by decide +kernel
theorem cond3_zero : cond3 (ikW 0) (iqW 0) = 1#1 := by decide +kernel
theorem off2_eq : ∀ p : Fin 10, k0_off2 (iqW p) = ![iqN p, 0] := by decide +kernel
theorem off3_eq : ∀ p : Fin 10, k0_off3 (iqW p) = ![iqN p, 0] := by decide +kernel
theorem off5_eq : ∀ p : Fin 10, k0_off5 (iqW p) = ![iqN p, 0] := by decide +kernel
theorem off4_eq : ∀ p : Fin 10, k0_off4 (iqW p) = ![512 * iqN p, 0] := by decide +kernel
theorem off6_eq : ∀ p : Fin 10, k0_off6 (iqW p) = ![512 * iqN p, 0] := by decide +kernel
theorem iqN_lt : ∀ p : Fin 10, iqN p < 4 := by decide
theorem iqN_small : ∀ p : Fin 10, p.val < 4 → iqN p = p.val := by decide

/-! ## The scratch buffers -/

/-- What the five scratch buffers hold: the gradient of the queries, that of the keys beside the column of ones, that of
    the values, that of the query biases, and the rows' constants. -/
structure Scr (F : FTy → Type) [FloatOps F] where
  x18 : Vec F S2048x128 .f32
  x19 : Vec F S512x256 .f32
  x20 : Vec F S512x128 .f32
  x21 : Vec F S4x512 .f32
  x22 : Vec F S4x512 .f32

/-- What the eight input windows hold. -/
structure Ins (F : FTy → Type) [FloatOps F] where
  q : Vec F S1x512x128 .bf16
  k : Vec F S1x512x128 .bf16
  v : Vec F S1x512x128 .bf16
  g : Vec F S1x512x128 .f32
  o : Vec F S1x512x128 .f32
  l : Vec F S1x1x512 .f32
  a : Vec F S1x512x128 .f32
  b : Vec F S1x1x512 .f32

/-- The scratch buffers after a point. -/
def stp (i : grid0.Coords) (x : Ins F) (s : Scr F) : Scr F where
  x18 := n18 i (ikW (i 2)) (iqW (i 2)) (chk (i 2)) x.q x.k x.v x.g x.o x.l x.a x.b s.x18 s.x22
  x19 := n19 (ikW (i 2)) (iqW (i 2)) (chk (i 2)) x.q x.k x.v x.g x.o x.l x.a x.b s.x19 s.x22
  x20 := n20 (ikW (i 2)) (iqW (i 2)) (chk (i 2)) x.q x.k x.v x.g x.o x.l x.a x.b s.x20 s.x22
  x21 := n21 i (ikW (i 2)) (iqW (i 2)) (chk (i 2)) x.q x.k x.v x.g x.o x.l x.a x.b s.x21 s.x22
  x22 := n22 (ikW (i 2)) (iqW (i 2)) x.g x.o s.x22

/-- Two states that agree wherever the pairs before the `p`-th have written. -/
def Agr (p : ℕ) (s s' : Scr F) : Prop :=
  (p ≠ 0 → s.x18 = s'.x18 ∧ s.x19 = s'.x19 ∧ s.x20 = s'.x20 ∧ s.x21 = s'.x21)
    ∧ ∀ y : S4x512.Idx, (y 0).val < p → s.x22 y = s'.x22 y

theorem row_agr (p : Fin 10) (X8 X9 : Vec F S1x512x128 .f32) (X X' : Vec F S4x512 .f32)
    (h : ∀ y : S4x512.Idx, (y 0).val < p.val → X y = X' y) (y : S4x512.Idx) (hy : (y 0).val < p.val + 1) :
    n22 (ikW p) (iqW p) X8 X9 X y = n22 (ikW p) (iqW p) X8 X9 X' y := by
  unfold n22 z22
  by_cases hp : k0_cond2 (ikW p) = 1#1
  · rw [if_pos hp, if_pos hp]
    have hp4 := (cond2_iff p).mp hp
    unfold VecWindow.put
    split
    · rfl
    · rename_i hn
      refine h y ?_
      by_contra hc
      refine hn fun a => ?_
      rw [off2_eq, iqN_small p hp4]
      have e : (y 0).val = p.val := by omega
      match a with
      | ⟨0, _⟩ => exact ⟨le_of_eq e.symm, show (y 0).val < p.val + 1 by omega⟩
      | ⟨1, _⟩ => exact ⟨Nat.zero_le _, show (y 1).val < 0 + 512 by have : (y 1).val < 512 := (y 1).isLt; omega⟩
      | ⟨_ + 2, h⟩ => exact absurd h (Nat.not_lt.2 (Nat.le_add_left _ _))
  · rw [if_neg hp, if_neg hp]
    have hp4 : ¬ p.val < 4 := fun h => hp ((cond2_iff p).mpr h)
    exact h y (by have : (y 0).val < 4 := (y 0).isLt; omega)

theorem iqN_lt_succ : ∀ p : Fin 10, iqN p < p.val + 1 := by decide

theorem window_agr (p : Fin 10) (X X' : Vec F S4x512 .f32) (h : ∀ y : S4x512.Idx, (y 0).val < p.val + 1 → X y = X' y)
    (off : Fin 2 → ℕ) (ho : off = ![iqN p, 0]) (inb : ∀ a, off a + S1x512.size a ≤ S4x512.size a) :
    window X off S1x512.size inb = window X' off S1x512.size inb := by
  subst ho
  funext y
  refine h _ ?_
  show iqN p + 1 * (y 0).val < p.val + 1
  have h1 := iqN_lt_succ p
  have h2 : (y 0).val < 1 := (y 0).isLt
  omega

/-- A point carries agreeing states to agreeing states. -/
theorem agr_stp (i : grid0.Coords) (x : Ins F) (s s' : Scr F) (h : Agr (i 2).val s s') : Agr ((i 2).val + 1) (stp i x s) (stp i x s') := by
  obtain ⟨hA, hB⟩ := h
  have hrow := row_agr (i 2) x.g x.o s.x22 s'.x22 hB
  have hz : z18 i s.x18 = z18 i s'.x18 ∧ z19 (ikW (i 2)) (iqW (i 2)) s.x19 = z19 (ikW (i 2)) (iqW (i 2)) s'.x19
      ∧ z20 (ikW (i 2)) (iqW (i 2)) s.x20 = z20 (ikW (i 2)) (iqW (i 2)) s'.x20 ∧ z21 i s.x21 = z21 i s'.x21 := by
    by_cases h0 : (i 2).val = 0
    · have e : i 2 = (⟨0, by decide⟩ : Fin 10) := Fin.ext h0
      unfold z18 z19 z20 z21
      have hc := (cond1_iff i).mpr h0
      have h3 : cond3 (ikW (i 2)) (iqW (i 2)) = 1#1 := by rw [e]; exact cond3_zero
      rw [if_pos hc, if_pos hc, if_pos hc, if_pos hc, if_pos h3, if_pos h3, if_pos h3, if_pos h3]
      exact ⟨rfl, rfl, rfl, rfl⟩
    · obtain ⟨h1, h2, h3, h4⟩ := hA h0
      rw [h1, h2, h3, h4]; exact ⟨rfl, rfl, rfl, rfl⟩
  obtain ⟨z1, z2, z3, z4⟩ := hz
  have w3 := fun inb => window_agr (i 2) _ _ hrow (k0_off3 (iqW (i 2))) (off3_eq _) inb
  have w5 := fun inb => window_agr (i 2) _ _ hrow (k0_off5 (iqW (i 2))) (off5_eq _) inb
  refine ⟨fun _ => ⟨?_, ?_, ?_, ?_⟩, hrow⟩
  · unfold stp n18 w18 u18; dsimp only; simp only [z1, w3, w5]
  · unfold stp n19 w19 u19; dsimp only; simp only [z2, w3, w5]
  · unfold stp n20 w20 u20; dsimp only; simp only [z3]
  · unfold stp n21 w21 u21; dsimp only; simp only [z4, w3, w5]

theorem agr_zero (s s' : Scr F) : Agr 0 s s' := ⟨fun h => absurd rfl h, fun _ h => absurd h (Nat.not_lt_zero _)⟩
theorem agr_refl (p : ℕ) (s : Scr F) : Agr p s s := ⟨fun _ => ⟨rfl, rfl, rfl, rfl⟩, fun _ _ => rfl⟩

theorem coord2 (t : Fin grid0.N) : (grid0.coords t 2).val = t.val % 10 :=
  (by decide +kernel : ∀ t : Fin grid0.N, (grid0.coords t 2).val = t.val % 10) t

theorem agr_next (t : Fin grid0.N) (x : Ins F) (s s' : Scr F) (h : Agr (t.val % 10) s s') :
    Agr ((t.val + 1) % 10) (stp (grid0.coords t) x s) (stp (grid0.coords t) x s') := by
  rw [← coord2] at h
  have h' := agr_stp _ x _ _ h
  rw [coord2] at h'
  by_cases h9 : t.val % 10 = 9
  · rw [show (t.val + 1) % 10 = 0 by omega]; exact agr_zero _ _
  · rw [show (t.val + 1) % 10 = t.val % 10 + 1 by omega]; exact h'

end Cert.KernelIdeal.Attn
-- ==== Proof.AttnI.Dat.lean ====
module

public import proofs.«01_k».proof.Proof.AttnI.Scr

/-! The attention backward pass run over its grid: what every output window holds where it is written back, and the
    run of the whole program. -/

@[expose] public noncomputable section

set_option maxRecDepth 16384

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block of window `w` at point `t`, of the array as the grid finds it. -/
def iblk (c : Dev nD) (w : Fin 13) (t : Fin (cfgA (F := F)).N) : (((cfgA (F := F)).win w).xblock ((cfgA (F := F)).grid.coords t)).Idx → Elt F ((cfgA (F := F)).win w).elt :=
  (((cfgA (F := F)).win w).blk t).view.read (Elt F) (V m c (Pipeline.arrRef spec0 w))

/-- The eight input blocks at point `t`. -/
def ins (c : Dev nD) (t : Fin (cfgA (F := F)).N) : Ins F :=
  ⟨iblk m c 0 t, iblk m c 1 t, iblk m c 2 t, iblk m c 3 t, iblk m c 4 t, iblk m c 5 t, iblk m c 6 t, iblk m c 7 t⟩

/-- The scratch buffers before point `n`, from a start of zeros. -/
def scr (c : Dev nD) : ℕ → Scr F
  | 0 => ⟨k0_pay1, k0_pay4, k0_pay5, k0_pay2, k0_pay2⟩
  | n + 1 => if h : n < (cfgA (F := F)).N then stp (grid0.coords ⟨n, h⟩) (ins m c ⟨n, h⟩) (scr c n) else scr c n

theorem scr_succ (c : Dev nD) (t : Fin (cfgA (F := F)).N) : scr m c (t.val + 1) = stp (grid0.coords t) (ins m c t) (scr m c t.val) := by
  rw [scr]; exact dif_pos t.isLt

/-- What is held between the points: the scratch buffers, agreeing with `scr`; the random register; the body's halves of
    the tables. -/
def Phi (c : Dev nD) (n : ℕ) (_ : n ≤ (cfgA (F := F)).N) : sProp 𝕄 :=
  iprop((∃ s : Scr F, ⌜Agr (n % 10) s (scr m c n)⌝ ∗ owns (c : Thread nD τ) (Memref.whole cc0_scratch0) fullShare s.x18
      ∗ owns (c : Thread nD τ) (Memref.whole cc0_scratch1) fullShare s.x19 ∗ owns (c : Thread nD τ) (Memref.whole cc0_scratch2) fullShare s.x20
      ∗ owns (c : Thread nD τ) (Memref.whole cc0_scratch3) fullShare s.x21 ∗ owns (c : Thread nD τ) (Memref.whole cc0_scratch4) fullShare s.x22)
    ∗ (∃ r, prngReg c r)
    ∗ (tb0.view.loc (c : Thread nD τ) ↦{fullShare.right} tabs (F := F) 0) ∗ (tb1.view.loc (c : Thread nD τ) ↦{fullShare.right} tabs (F := F) 1))

/-- The proof data of the grid. -/
def dats (_ : Fin 1) (c : Dev nD) : Dat τ (Elt F) Unit ℕ (UR sig nD τ) ℕ (cfgA (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay12 (scr m c (t.val + 1)).x18
    | ⟨9, _⟩ => k0_pay9 (scr m c (t.val + 1)).x19
    | ⟨10, _⟩ => k0_pay11 (scr m c (t.val + 1)).x20
    | ⟨11, _⟩ => k0_pay10 (scr m c (t.val + 1)).x19
    | ⟨12, _⟩ => k0_pay13 (scr m c (t.val + 1)).x21
  Φ t := Phi m c t.val (Nat.le_of_lt_succ t.isLt)
  q w := Pipeline.shareOf spec0 w
  owed _ := 0

theorem A_eq (c : Dev nD) (w : Fin (cfgA (F := F)).W) : (dats m 0 c).A w = V m c (Pipeline.arrRef spec0 w) := by
  dsimp only [dats]

theorem Phi_castSucc (c : Dev nD) (t : Fin (cfgA (F := F)).N) : (dats m 0 c).Φ t.castSucc = Phi m c t.val (Nat.le_of_lt t.isLt) := by
  dsimp only [dats]; exact Pipeline.Dat.Φ_castSucc (Phi m c) t
theorem Phi_succ (c : Dev nD) (t : Fin (cfgA (F := F)).N) : (dats m 0 c).Φ t.succ = Phi m c (t.val + 1) t.isLt := by
  dsimp only [dats]; rfl

theorem after0 (c : Dev nD) (t : Fin (cfgA (F := F)).N) : (dats m 0 c).after 0 t = iblk m c 0 t := by dsimp only [dats]; try rfl
theorem before0 (c : Dev nD) (t : Fin (cfgA (F := F)).N) (d) : (dats m 0 c).before 0 t d = (ins m c t).q :=
  ((dats m 0 c).before_in_eq_fetched 0 rfl (fun _ => rfl) (fun _ _ _ => rfl)
      (fun t => by rw [after0]; unfold Dat.blockOf iblk; rw [A_eq]; try rfl) t d).trans
    (by show _ = iblk m c 0 t; unfold Dat.fetched Dat.blockOf iblk; rw [A_eq]; try rfl)
theorem after1 (c : Dev nD) (t : Fin (cfgA (F := F)).N) : (dats m 0 c).after 1 t = iblk m c 1 t := by dsimp only [dats]; try rfl
theorem before1 (c : Dev nD) (t : Fin (cfgA (F := F)).N) (d) : (dats m 0 c).before 1 t d = (ins m c t).k :=
  ((dats m 0 c).before_in_eq_fetched 1 rfl (fun _ => rfl) (fun _ _ _ => rfl)
      (fun t => by rw [after1]; unfold Dat.blockOf iblk; rw [A_eq]; try rfl) t d).trans
    (by show _ = iblk m c 1 t; unfold Dat.fetched Dat.blockOf iblk; rw [A_eq]; try rfl)
theorem after2 (c : Dev nD) (t : Fin (cfgA (F := F)).N) : (dats m 0 c).after 2 t = iblk m c 2 t := by dsimp only [dats]; try rfl
theorem before2 (c : Dev nD) (t : Fin (cfgA (F := F)).N) (d) : (dats m 0 c).before 2 t d = (ins m c t).v :=
  ((dats m 0 c).before_in_eq_fetched 2 rfl (fun _ => rfl) (fun _ _ _ => rfl)
      (fun t => by rw [after2]; unfold Dat.blockOf iblk; rw [A_eq]; try rfl) t d).trans
    (by show _ = iblk m c 2 t; unfold Dat.fetched Dat.blockOf iblk; rw [A_eq]; try rfl)
theorem after3 (c : Dev nD) (t : Fin (cfgA (F := F)).N) : (dats m 0 c).after 3 t = iblk m c 3 t := by dsimp only [dats]; try rfl
theorem before3 (c : Dev nD) (t : Fin (cfgA (F := F)).N) (d) : (dats m 0 c).before 3 t d = (ins m c t).g :=
  ((dats m 0 c).before_in_eq_fetched 3 rfl (fun _ => rfl) (fun _ _ _ => rfl)
      (fun t => by rw [after3]; unfold Dat.blockOf iblk; rw [A_eq]; try rfl) t d).trans
    (by show _ = iblk m c 3 t; unfold Dat.fetched Dat.blockOf iblk; rw [A_eq]; try rfl)
theorem after4 (c : Dev nD) (t : Fin (cfgA (F := F)).N) : (dats m 0 c).after 4 t = iblk m c 4 t := by dsimp only [dats]; try rfl
theorem before4 (c : Dev nD) (t : Fin (cfgA (F := F)).N) (d) : (dats m 0 c).before 4 t d = (ins m c t).o :=
  ((dats m 0 c).before_in_eq_fetched 4 rfl (fun _ => rfl) (fun _ _ _ => rfl)
      (fun t => by rw [after4]; unfold Dat.blockOf iblk; rw [A_eq]; try rfl) t d).trans
    (by show _ = iblk m c 4 t; unfold Dat.fetched Dat.blockOf iblk; rw [A_eq]; try rfl)
theorem after5 (c : Dev nD) (t : Fin (cfgA (F := F)).N) : (dats m 0 c).after 5 t = iblk m c 5 t := by dsimp only [dats]; try rfl
theorem before5 (c : Dev nD) (t : Fin (cfgA (F := F)).N) (d) : (dats m 0 c).before 5 t d = (ins m c t).l :=
  ((dats m 0 c).before_in_eq_fetched 5 rfl (fun _ => rfl) (fun _ _ _ => rfl)
      (fun t => by rw [after5]; unfold Dat.blockOf iblk; rw [A_eq]; try rfl) t d).trans
    (by show _ = iblk m c 5 t; unfold Dat.fetched Dat.blockOf iblk; rw [A_eq]; try rfl)
theorem after6 (c : Dev nD) (t : Fin (cfgA (F := F)).N) : (dats m 0 c).after 6 t = iblk m c 6 t := by dsimp only [dats]; try rfl
theorem before6 (c : Dev nD) (t : Fin (cfgA (F := F)).N) (d) : (dats m 0 c).before 6 t d = (ins m c t).a :=
  ((dats m 0 c).before_in_eq_fetched 6 rfl (fun _ => rfl) (fun _ _ _ => rfl)
      (fun t => by rw [after6]; unfold Dat.blockOf iblk; rw [A_eq]; try rfl) t d).trans
    (by show _ = iblk m c 6 t; unfold Dat.fetched Dat.blockOf iblk; rw [A_eq]; try rfl)
theorem after7 (c : Dev nD) (t : Fin (cfgA (F := F)).N) : (dats m 0 c).after 7 t = iblk m c 7 t := by dsimp only [dats]; try rfl
theorem before7 (c : Dev nD) (t : Fin (cfgA (F := F)).N) (d) : (dats m 0 c).before 7 t d = (ins m c t).b :=
  ((dats m 0 c).before_in_eq_fetched 7 rfl (fun _ => rfl) (fun _ _ _ => rfl)
      (fun t => by rw [after7]; unfold Dat.blockOf iblk; rw [A_eq]; try rfl) t d).trans
    (by show _ = iblk m c 7 t; unfold Dat.fetched Dat.blockOf iblk; rw [A_eq]; try rfl)

/-! ## Where the outputs are idle -/

theorem cond6_iff : ∀ p : Fin 10, k0_cond6 (iqW p) = 1#1 ↔ iqN p = 3 := by decide +kernel
theorem cond7_iff : ∀ i : grid0.Coords, k0_cond7 i = 1#1 ↔ (i 2 == (9 : Fin 10)) = true := by decide +kernel

/-- The staging buffer of window `w` at point `t`. -/
abbrev stg (w : Fin 13) (t : Fin (cfgA (F := F)).N) := ((cfgA (F := F)).win w).stage ((cfgA (F := F)).slots t w)

/-- What the body must leave of an output window that it writes under a condition which holds exactly where the window is
    not idle and exactly where it is written back. -/
theorem leave (c : Dev nD) (w : Fin 13) (t : Fin (cfgA (F := F)).N) (b : Prop) [Decidable b]
    (hi : (cfgA (F := F)).idle w ((cfgA (F := F)).grid.coords t) = !decide b) (hf : ((cfgA (F := F)).win w).flush t = decide b)
    (A : ((cfgA (F := F)).win w).block.Idx → Elt F ((cfgA (F := F)).win w).elt) (hA : b → A = (dats m 0 c).after w t) (d) :
    (owns (c : Thread nD τ) (stg w t) fullShare (if b then A else (dats m 0 c).before w t d) : sProp 𝕄)
      ⊢ (match (cfgA (F := F)).idle w ((cfgA (F := F)).grid.coords t) with
          | true => match ((cfgA (F := F)).win w).flush t with
            | false => iprop(∃ d, owns (c : Thread nD τ) (stg w t) fullShare ((dats m 0 c).before w t d))
            | true => owns (c : Thread nD τ) (stg w t) fullShare ((dats m 0 c).after w t)
          | false => owns (c : Thread nD τ) (stg w t) fullShare ((dats m 0 c).after w t)) := by
  by_cases hb : b
  · have hi' : (cfgA (F := F)).idle w ((cfgA (F := F)).grid.coords t) = false := by rw [hi, decide_eq_true hb]; rfl
    rw [hi', if_pos hb, hA hb]
  · have hi' : (cfgA (F := F)).idle w ((cfgA (F := F)).grid.coords t) = true := by rw [hi, decide_eq_false hb]; rfl
    have hf' : ((cfgA (F := F)).win w).flush t = false := by rw [hf, decide_eq_false hb]
    rw [hi', hf', if_neg hb]
    show _ ⊢ iprop(∃ d, owns (c : Thread nD τ) (stg w t) fullShare ((dats m 0 c).before w t d))
    iintro H; iexists d; iexact H

theorem idle8 (t : Fin (cfgA (F := F)).N) : (cfgA (F := F)).idle 8 ((cfgA (F := F)).grid.coords t) = !decide (k0_cond7 (grid0.coords t) = 1#1) := rfl
theorem fl8 (t : Fin (cfgA (F := F)).N) : ((cfgA (F := F)).win 8).flush t = decide (k0_cond7 (grid0.coords t) = 1#1) := by
  rw [flush8, Bool.eq_iff_iff, decide_eq_true_iff]; exact (cond7_iff _).symm
theorem idle9 (t : Fin (cfgA (F := F)).N) : (cfgA (F := F)).idle 9 ((cfgA (F := F)).grid.coords t) = !decide (k0_cond6 (iqW (grid0.coords t 2)) = 1#1) := by
  rw [← wq_tabs (F := F)]; rfl
theorem fl9 (t : Fin (cfgA (F := F)).N) : ((cfgA (F := F)).win 9).flush t = decide (k0_cond6 (iqW (grid0.coords t 2)) = 1#1) := by
  rw [flush9, Bool.eq_iff_iff, decide_eq_true_iff, beq_iff_eq]; exact (cond6_iff _).symm
theorem idle10 (t : Fin (cfgA (F := F)).N) : (cfgA (F := F)).idle 10 ((cfgA (F := F)).grid.coords t) = !decide (k0_cond6 (iqW (grid0.coords t 2)) = 1#1) := by
  rw [← wq_tabs (F := F)]; rfl
theorem fl10 (t : Fin (cfgA (F := F)).N) : ((cfgA (F := F)).win 10).flush t = decide (k0_cond6 (iqW (grid0.coords t 2)) = 1#1) := by
  rw [flush10, Bool.eq_iff_iff, decide_eq_true_iff, beq_iff_eq]; exact (cond6_iff _).symm
theorem idle11 (t : Fin (cfgA (F := F)).N) : (cfgA (F := F)).idle 11 ((cfgA (F := F)).grid.coords t) = !decide (k0_cond6 (iqW (grid0.coords t 2)) = 1#1) := by
  rw [← wq_tabs (F := F)]; rfl
theorem fl11 (t : Fin (cfgA (F := F)).N) : ((cfgA (F := F)).win 11).flush t = decide (k0_cond6 (iqW (grid0.coords t 2)) = 1#1) := by
  rw [flush11, Bool.eq_iff_iff, decide_eq_true_iff, beq_iff_eq]; exact (cond6_iff _).symm
theorem idle12 (t : Fin (cfgA (F := F)).N) : (cfgA (F := F)).idle 12 ((cfgA (F := F)).grid.coords t) = !decide (k0_cond7 (grid0.coords t) = 1#1) := rfl
theorem fl12 (t : Fin (cfgA (F := F)).N) : ((cfgA (F := F)).win 12).flush t = decide (k0_cond7 (grid0.coords t) = 1#1) := by
  rw [flush12, Bool.eq_iff_iff, decide_eq_true_iff]; exact (cond7_iff _).symm

end Cert.KernelIdeal.Attn
-- ==== Proof.AttnI.Stp.lean ====
module

public import proofs.«01_k».proof.Proof.AttnI.Dat

/-! The attention backward pass run over its grid: what every output window holds where it is written back, and the
    run of the whole program. -/

@[expose] public noncomputable section

set_option maxRecDepth 16384

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (i : grid0.Coords) (v1 v3 : Elt F .i32) (hw : k0_chk1 v1 v3)
variable (X5 X6 X7 : Vec F S1x512x128 .bf16) (X8 X9 : Vec F S1x512x128 .f32) (X10 : Vec F S1x1x512 .f32) (X11 : Vec F S1x512x128 .f32) (X12 : Vec F S1x1x512 .f32)
variable (i : grid0.Coords) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x1x512 .f32) (harg10 : arg10.IsWhole) (arg11 : Memref sig .tc .vmem S1x512x128 .f32) (harg11 : arg11.IsWhole) (arg12 : Memref sig .tc .vmem S1x1x512 .f32) (harg12 : arg12.IsWhole) (arg13 : Memref sig .tc .vmem S1x2048x128 .bf16) (harg13 : arg13.IsWhole) (arg14 : Memref sig .tc .vmem S1x512x128 .bf16) (harg14 : arg14.IsWhole) (arg15 : Memref sig .tc .vmem S1x512x128 .bf16) (harg15 : arg15.IsWhole) (arg16 : Memref sig .tc .vmem S1x512x128 .f32) (harg16 : arg16.IsWhole) (arg17 : Memref sig .tc .vmem S1x4x512 .f32) (harg17 : arg17.IsWhole) (arg18 : Memref sig .tc .vmem S2048x128 .f32) (harg18 : arg18.IsWhole) (arg19 : Memref sig .tc .vmem S512x256 .f32) (harg19 : arg19.IsWhole) (arg20 : Memref sig .tc .vmem S512x128 .f32) (harg20 : arg20.IsWhole) (arg21 : Memref sig .tc .vmem S4x512 .f32) (harg21 : arg21.IsWhole) (arg22 : Memref sig .tc .vmem S4x512 .f32) (harg22 : arg22.IsWhole)
variable (c : Dev nD) (E : Set ℕ)
variable (X5 X6 X7 : Vec F S1x512x128 .bf16) (X8 X9 : Vec F S1x512x128 .f32) (X10 : Vec F S1x1x512 .f32) (X11 : Vec F S1x512x128 .f32) (X12 : Vec F S1x1x512 .f32)
variable (Y13 : Vec F S1x2048x128 .bf16) (Y14 Y15 : Vec F S1x512x128 .bf16) (Y16 : Vec F S1x512x128 .f32) (Y17 : Vec F S1x4x512 .f32)
variable (X18 : Vec F S2048x128 .f32) (X19 : Vec F S512x256 .f32) (X20 : Vec F S512x128 .f32) (X21 X22 : Vec F S4x512 .f32)

theorem rest_stp (x : Ins F) (s : Scr F) (K : PUnit → sProp 𝕄) :
    iprop(owns (c : Thread nD τ) arg5 fullShare x.q ∗ owns (c : Thread nD τ) arg6 fullShare x.k ∗ owns (c : Thread nD τ) arg7 fullShare x.v ∗ owns (c : Thread nD τ) arg8 fullShare x.g ∗ owns (c : Thread nD τ) arg9 fullShare x.o ∗ owns (c : Thread nD τ) arg10 fullShare x.l ∗ owns (c : Thread nD τ) arg11 fullShare x.a ∗ owns (c : Thread nD τ) arg12 fullShare x.b ∗ owns (c : Thread nD τ) arg13 fullShare Y13 ∗ owns (c : Thread nD τ) arg14 fullShare Y14 ∗ owns (c : Thread nD τ) arg15 fullShare Y15 ∗ owns (c : Thread nD τ) arg16 fullShare Y16 ∗ owns (c : Thread nD τ) arg17 fullShare Y17 ∗ owns (c : Thread nD τ) arg18 fullShare s.x18 ∗ owns (c : Thread nD τ) arg19 fullShare s.x19 ∗ owns (c : Thread nD τ) arg20 fullShare s.x20 ∗ owns (c : Thread nD τ) arg21 fullShare s.x21 ∗ owns (c : Thread nD τ) arg22 fullShare s.x22
        ∗ (iprop(owns (c : Thread nD τ) arg5 fullShare x.q ∗ owns (c : Thread nD τ) arg6 fullShare x.k ∗ owns (c : Thread nD τ) arg7 fullShare x.v ∗ owns (c : Thread nD τ) arg8 fullShare x.g ∗ owns (c : Thread nD τ) arg9 fullShare x.o ∗ owns (c : Thread nD τ) arg10 fullShare x.l ∗ owns (c : Thread nD τ) arg11 fullShare x.a ∗ owns (c : Thread nD τ) arg12 fullShare x.b ∗ owns (c : Thread nD τ) arg13 fullShare (if k0_cond7 i = 1#1 then k0_pay12 ((stp i x s).x18) else Y13) ∗ owns (c : Thread nD τ) arg14 fullShare (if k0_cond6 (iqW (i 2)) = 1#1 then k0_pay9 ((stp i x s).x19) else Y14) ∗ owns (c : Thread nD τ) arg15 fullShare (if k0_cond6 (iqW (i 2)) = 1#1 then k0_pay11 ((stp i x s).x20) else Y15) ∗ owns (c : Thread nD τ) arg16 fullShare (if k0_cond6 (iqW (i 2)) = 1#1 then k0_pay10 ((stp i x s).x19) else Y16) ∗ owns (c : Thread nD τ) arg17 fullShare (if k0_cond7 i = 1#1 then k0_pay13 ((stp i x s).x21) else Y17) ∗ owns (c : Thread nD τ) arg18 fullShare ((stp i x s).x18) ∗ owns (c : Thread nD τ) arg19 fullShare ((stp i x s).x19) ∗ owns (c : Thread nD τ) arg20 fullShare ((stp i x s).x20) ∗ owns (c : Thread nD τ) arg21 fullShare ((stp i x s).x21) ∗ owns (c : Thread nD τ) arg22 fullShare ((stp i x s).x22)) -∗ K ⟨⟩))
      ⊢ wp frame (wpE (defs₀ (F := F)) Variants.none c none) E (rest (F := F) i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (ikW (i 2)) (iqW (i 2)) (chk (i 2))) K :=
  rest_wp (i := i) (v1 := ikW (i 2)) (v3 := iqW (i 2)) (hw := chk (i 2)) (K := K) (X5 := x.q) (X6 := x.k) (X7 := x.v) (X8 := x.g) (X9 := x.o) (X10 := x.l) (X11 := x.a) (X12 := x.b) (X18 := s.x18) (X19 := s.x19) (X20 := s.x20) (X21 := s.x21) (X22 := s.x22) (Y13 := Y13) (Y14 := Y14) (Y15 := Y15) (Y16 := Y16) (Y17 := Y17) (c := c) (E := E) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (arg18 := arg18) (harg18 := harg18) (arg19 := arg19) (harg19 := harg19) (arg20 := arg20) (harg20 := harg20) (arg21 := arg21) (harg21 := harg21) (arg22 := arg22) (harg22 := harg22)

theorem body_stp (x : Ins F) (s : Scr F) (r : PosShare TreeShare) (K : PUnit → sProp 𝕄) :
    iprop((tb0.view.loc (c : Thread nD τ) ↦{r} tabs (F := F) 0) ∗ (tb1.view.loc (c : Thread nD τ) ↦{r} tabs (F := F) 1) ∗ owns (c : Thread nD τ) arg5 fullShare x.q ∗ owns (c : Thread nD τ) arg6 fullShare x.k ∗ owns (c : Thread nD τ) arg7 fullShare x.v ∗ owns (c : Thread nD τ) arg8 fullShare x.g ∗ owns (c : Thread nD τ) arg9 fullShare x.o ∗ owns (c : Thread nD τ) arg10 fullShare x.l ∗ owns (c : Thread nD τ) arg11 fullShare x.a ∗ owns (c : Thread nD τ) arg12 fullShare x.b ∗ owns (c : Thread nD τ) arg13 fullShare Y13 ∗ owns (c : Thread nD τ) arg14 fullShare Y14 ∗ owns (c : Thread nD τ) arg15 fullShare Y15 ∗ owns (c : Thread nD τ) arg16 fullShare Y16 ∗ owns (c : Thread nD τ) arg17 fullShare Y17 ∗ owns (c : Thread nD τ) arg18 fullShare s.x18 ∗ owns (c : Thread nD τ) arg19 fullShare s.x19 ∗ owns (c : Thread nD τ) arg20 fullShare s.x20 ∗ owns (c : Thread nD τ) arg21 fullShare s.x21 ∗ owns (c : Thread nD τ) arg22 fullShare s.x22
        ∗ (iprop((tb0.view.loc (c : Thread nD τ) ↦{r} tabs (F := F) 0) ∗ (tb1.view.loc (c : Thread nD τ) ↦{r} tabs (F := F) 1) ∗ owns (c : Thread nD τ) arg5 fullShare x.q ∗ owns (c : Thread nD τ) arg6 fullShare x.k ∗ owns (c : Thread nD τ) arg7 fullShare x.v ∗ owns (c : Thread nD τ) arg8 fullShare x.g ∗ owns (c : Thread nD τ) arg9 fullShare x.o ∗ owns (c : Thread nD τ) arg10 fullShare x.l ∗ owns (c : Thread nD τ) arg11 fullShare x.a ∗ owns (c : Thread nD τ) arg12 fullShare x.b ∗ owns (c : Thread nD τ) arg13 fullShare (if k0_cond7 i = 1#1 then k0_pay12 ((stp i x s).x18) else Y13) ∗ owns (c : Thread nD τ) arg14 fullShare (if k0_cond6 (iqW (i 2)) = 1#1 then k0_pay9 ((stp i x s).x19) else Y14) ∗ owns (c : Thread nD τ) arg15 fullShare (if k0_cond6 (iqW (i 2)) = 1#1 then k0_pay11 ((stp i x s).x20) else Y15) ∗ owns (c : Thread nD τ) arg16 fullShare (if k0_cond6 (iqW (i 2)) = 1#1 then k0_pay10 ((stp i x s).x19) else Y16) ∗ owns (c : Thread nD τ) arg17 fullShare (if k0_cond7 i = 1#1 then k0_pay13 ((stp i x s).x21) else Y17) ∗ owns (c : Thread nD τ) arg18 fullShare ((stp i x s).x18) ∗ owns (c : Thread nD τ) arg19 fullShare ((stp i x s).x19) ∗ owns (c : Thread nD τ) arg20 fullShare ((stp i x s).x20) ∗ owns (c : Thread nD τ) arg21 fullShare ((stp i x s).x21) ∗ owns (c : Thread nD τ) arg22 fullShare ((stp i x s).x22)) -∗ K ⟨⟩))
      ⊢ wp frame (wpE (defs₀ (F := F)) Variants.none c none) E (cc0_attn_bwd (F := F) i tb0 (Memref.isWhole_whole _) tb1 (Memref.isWhole_whole _) arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  have hk := wk_tabs (F := F) i
  have hq := wq_tabs (F := F) i
  have hw : k0_chk1 (wk (F := F) tabs i) (wq (F := F) tabs i) := by rw [hk, hq]; exact chk _
  iintro ⟨T0, T1, H5, H6, H7, H8, H9, H10, H11, H12, H13, H14, H15, H16, H17, H18, H19, H20, H21, H22, Hk⟩
  iapply (words_wp (pf := tabs) (hw := hw))
  isplitl [T0]
  · iexact T0
  isplitl [T1]
  · iexact T1
  iintro ⟨T0, T1⟩
  generalize wk (F := F) tabs i = v1 at hk hw ⊢
  generalize wq (F := F) tabs i = v3 at hq hw ⊢
  subst hk hq
  iapply (rest_stp (x := x) (s := s) (Y13 := Y13) (Y14 := Y14) (Y15 := Y15) (Y16 := Y16) (Y17 := Y17))
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  iintro ⟨H5, H6, H7, H8, H9, H10, H11, H12, H13, H14, H15, H16, H17, H18, H19, H20, H21, H22⟩
  iapply Hk
  isplitl [T0]
  · iexact T0
  isplitl [T1]
  · iexact T1
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  iexact H22

end Cert.KernelIdeal.Attn
-- ==== Proof.AttnI.Run.lean ====
module

public import proofs.«01_k».proof.Proof.AttnI.Stp

/-! The attention backward pass run over its grid: what every output window holds where it is written back, and the
    run of the whole program. -/

@[expose] public noncomputable section

set_option maxRecDepth 16384

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body at point `t`, as the grid calls it. -/
abbrev bodyAt (t : Fin (cfgA (F := F)).N) : Prog (TpuEff nD τ sig (Elt F) Λ₀ .tc) PUnit :=
  cc0_attn_bwd (F := F) (grid0.coords t) (Memref.whole main_c) (Memref.isWhole_whole _) (Memref.whole main_c_0) (Memref.isWhole_whole _) (spec0_0.stage ((cfgA (F := F)).slots t 0)) (hstage0_0 (((cfgA (F := F)).slots t 0).cast nbuf0_0)) (spec0_1.stage ((cfgA (F := F)).slots t 1)) (hstage0_1 (((cfgA (F := F)).slots t 1).cast nbuf0_1)) (spec0_2.stage ((cfgA (F := F)).slots t 2)) (hstage0_2 (((cfgA (F := F)).slots t 2).cast nbuf0_2)) (spec0_3.stage ((cfgA (F := F)).slots t 3)) (hstage0_3 (((cfgA (F := F)).slots t 3).cast nbuf0_3)) (spec0_4.stage ((cfgA (F := F)).slots t 4)) (hstage0_4 (((cfgA (F := F)).slots t 4).cast nbuf0_4)) (spec0_5.stage ((cfgA (F := F)).slots t 5)) (hstage0_5 (((cfgA (F := F)).slots t 5).cast nbuf0_5)) (spec0_6.stage ((cfgA (F := F)).slots t 6)) (hstage0_6 (((cfgA (F := F)).slots t 6).cast nbuf0_6)) (spec0_7.stage ((cfgA (F := F)).slots t 7)) (hstage0_7 (((cfgA (F := F)).slots t 7).cast nbuf0_7)) (spec0_8.stage ((cfgA (F := F)).slots t 8)) (hstage0_8 (((cfgA (F := F)).slots t 8).cast nbuf0_8)) (spec0_9.stage ((cfgA (F := F)).slots t 9)) (hstage0_9 (((cfgA (F := F)).slots t 9).cast nbuf0_9)) (spec0_10.stage ((cfgA (F := F)).slots t 10)) (hstage0_10 (((cfgA (F := F)).slots t 10).cast nbuf0_10)) (spec0_11.stage ((cfgA (F := F)).slots t 11)) (hstage0_11 (((cfgA (F := F)).slots t 11).cast nbuf0_11)) (spec0_12.stage ((cfgA (F := F)).slots t 12)) (hstage0_12 (((cfgA (F := F)).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

theorem row (t : Fin (cfgA (F := F)).N) : defs₀ .tc (cfgA (F := F)).body ((cfgA (F := F)).bodyArgs t ((cfgA (F := F)).slots t)) = bodyAt (F := F) t := by
  unfold defs₀; rw [Defs.onTc_tc]

/-- What the body must leave of output window `w`. -/
def left (c : Dev nD) (t : Fin (cfgA (F := F)).N) (w : Fin 13) : sProp 𝕄 :=
  match (cfgA (F := F)).idle w ((cfgA (F := F)).grid.coords t) with
    | true => match ((cfgA (F := F)).win w).flush t with
      | false => iprop(∃ d, owns (c : Thread nD τ) (stg w t) fullShare ((dats m 0 c).before w t d))
      | true => owns (c : Thread nD τ) (stg w t) fullShare ((dats m 0 c).after w t)
    | false => owns (c : Thread nD τ) (stg w t) fullShare ((dats m 0 c).after w t)

def bodyPre (c : Dev nD) (t : Fin (cfgA (F := F)).N) : sProp 𝕄 :=
  iprop(Phi m c t.val (Nat.le_of_lt t.isLt) ∗ (dats m 0 c).owesAt () t.castSucc ∗ (∃ d, owns (c : Thread nD τ) (stg 0 t) fullShare ((dats m 0 c).before 0 t d)) ∗ (∃ d, owns (c : Thread nD τ) (stg 1 t) fullShare ((dats m 0 c).before 1 t d)) ∗ (∃ d, owns (c : Thread nD τ) (stg 2 t) fullShare ((dats m 0 c).before 2 t d)) ∗ (∃ d, owns (c : Thread nD τ) (stg 3 t) fullShare ((dats m 0 c).before 3 t d)) ∗ (∃ d, owns (c : Thread nD τ) (stg 4 t) fullShare ((dats m 0 c).before 4 t d)) ∗ (∃ d, owns (c : Thread nD τ) (stg 5 t) fullShare ((dats m 0 c).before 5 t d)) ∗ (∃ d, owns (c : Thread nD τ) (stg 6 t) fullShare ((dats m 0 c).before 6 t d)) ∗ (∃ d, owns (c : Thread nD τ) (stg 7 t) fullShare ((dats m 0 c).before 7 t d)) ∗ (∃ d, owns (c : Thread nD τ) (stg 8 t) fullShare ((dats m 0 c).before 8 t d)) ∗ (∃ d, owns (c : Thread nD τ) (stg 9 t) fullShare ((dats m 0 c).before 9 t d)) ∗ (∃ d, owns (c : Thread nD τ) (stg 10 t) fullShare ((dats m 0 c).before 10 t d)) ∗ (∃ d, owns (c : Thread nD τ) (stg 11 t) fullShare ((dats m 0 c).before 11 t d)) ∗ (∃ d, owns (c : Thread nD τ) (stg 12 t) fullShare ((dats m 0 c).before 12 t d)))

def bodyPost (c : Dev nD) (t : Fin (cfgA (F := F)).N) : sProp 𝕄 :=
  iprop(Phi m c (t.val + 1) t.isLt ∗ (dats m 0 c).owesAt () t.succ ∗ owns (c : Thread nD τ) (stg 0 t) fullShare (ins m c t).q ∗ owns (c : Thread nD τ) (stg 1 t) fullShare (ins m c t).k ∗ owns (c : Thread nD τ) (stg 2 t) fullShare (ins m c t).v ∗ owns (c : Thread nD τ) (stg 3 t) fullShare (ins m c t).g ∗ owns (c : Thread nD τ) (stg 4 t) fullShare (ins m c t).o ∗ owns (c : Thread nD τ) (stg 5 t) fullShare (ins m c t).l ∗ owns (c : Thread nD τ) (stg 6 t) fullShare (ins m c t).a ∗ owns (c : Thread nD τ) (stg 7 t) fullShare (ins m c t).b ∗ left m c t 8 ∗ left m c t 9 ∗ left m c t 10 ∗ left m c t 11 ∗ left m c t 12)

theorem leave8 (c : Dev nD) (t : Fin (cfgA (F := F)).N) (s : Scr F) (hs : Agr (t.val % 10) s (scr m c t.val)) (d) :
    (owns (c : Thread nD τ) (stg 8 t) fullShare (if k0_cond7 (grid0.coords t) = 1#1 then k0_pay12 (stp (grid0.coords t) (ins m c t) s).x18 else (dats m 0 c).before 8 t d) : sProp 𝕄) ⊢ left m c t 8 := by
  unfold left
  refine leave m c 8 t _ (idle8 t) (fl8 t) _ (fun _ => ?_) d
  have h := (agr_stp (grid0.coords t) (ins m c t) _ _ (by rw [coord2]; exact hs)).1 (Nat.succ_ne_zero _)
  rw [← scr_succ] at h
  dsimp only [dats]
  exact congrArg k0_pay12 h.1

theorem leave9 (c : Dev nD) (t : Fin (cfgA (F := F)).N) (s : Scr F) (hs : Agr (t.val % 10) s (scr m c t.val)) (d) :
    (owns (c : Thread nD τ) (stg 9 t) fullShare (if k0_cond6 (iqW (grid0.coords t 2)) = 1#1 then k0_pay9 (stp (grid0.coords t) (ins m c t) s).x19 else (dats m 0 c).before 9 t d) : sProp 𝕄) ⊢ left m c t 9 := by
  unfold left
  refine leave m c 9 t _ (idle9 t) (fl9 t) _ (fun _ => ?_) d
  have h := (agr_stp (grid0.coords t) (ins m c t) _ _ (by rw [coord2]; exact hs)).1 (Nat.succ_ne_zero _)
  rw [← scr_succ] at h
  dsimp only [dats]
  exact congrArg k0_pay9 h.2.1

theorem leave10 (c : Dev nD) (t : Fin (cfgA (F := F)).N) (s : Scr F) (hs : Agr (t.val % 10) s (scr m c t.val)) (d) :
    (owns (c : Thread nD τ) (stg 10 t) fullShare (if k0_cond6 (iqW (grid0.coords t 2)) = 1#1 then k0_pay11 (stp (grid0.coords t) (ins m c t) s).x20 else (dats m 0 c).before 10 t d) : sProp 𝕄) ⊢ left m c t 10 := by
  unfold left
  refine leave m c 10 t _ (idle10 t) (fl10 t) _ (fun _ => ?_) d
  have h := (agr_stp (grid0.coords t) (ins m c t) _ _ (by rw [coord2]; exact hs)).1 (Nat.succ_ne_zero _)
  rw [← scr_succ] at h
  dsimp only [dats]
  exact congrArg k0_pay11 h.2.2.1

theorem leave11 (c : Dev nD) (t : Fin (cfgA (F := F)).N) (s : Scr F) (hs : Agr (t.val % 10) s (scr m c t.val)) (d) :
    (owns (c : Thread nD τ) (stg 11 t) fullShare (if k0_cond6 (iqW (grid0.coords t 2)) = 1#1 then k0_pay10 (stp (grid0.coords t) (ins m c t) s).x19 else (dats m 0 c).before 11 t d) : sProp 𝕄) ⊢ left m c t 11 := by
  unfold left
  refine leave m c 11 t _ (idle11 t) (fl11 t) _ (fun _ => ?_) d
  have h := (agr_stp (grid0.coords t) (ins m c t) _ _ (by rw [coord2]; exact hs)).1 (Nat.succ_ne_zero _)
  rw [← scr_succ] at h
  dsimp only [dats]
  exact congrArg k0_pay10 h.2.1

theorem leave12 (c : Dev nD) (t : Fin (cfgA (F := F)).N) (s : Scr F) (hs : Agr (t.val % 10) s (scr m c t.val)) (d) :
    (owns (c : Thread nD τ) (stg 12 t) fullShare (if k0_cond7 (grid0.coords t) = 1#1 then k0_pay13 (stp (grid0.coords t) (ins m c t) s).x21 else (dats m 0 c).before 12 t d) : sProp 𝕄) ⊢ left m c t 12 := by
  unfold left
  refine leave m c 12 t _ (idle12 t) (fl12 t) _ (fun _ => ?_) d
  have h := (agr_stp (grid0.coords t) (ins m c t) _ _ (by rw [coord2]; exact hs)).1 (Nat.succ_ne_zero _)
  rw [← scr_succ] at h
  dsimp only [dats]
  exact congrArg k0_pay13 h.2.2.2

set_option maxHeartbeats 1000000 in
theorem sound_body (c : Dev nD) (t : Fin (cfgA (F := F)).N) :
    bodyPre m c t ⊢ wp frame (wpE (defs₀ (F := F)) Variants.none c none) Set.univ (bodyAt (F := F) t) fun _ => bodyPost m c t := by
  unfold bodyPre bodyPost Phi
  iintro ⟨⟨⟨%s, %hs, S18, S19, S20, S21, S22⟩, Hr, T0, T1⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩⟩
  rw [before0]
  rw [before1]
  rw [before2]
  rw [before3]
  rw [before4]
  rw [before5]
  rw [before6]
  rw [before7]
  iapply (body_stp (x := ins m c t) (s := s) (r := fullShare.right) (Y13 := (dats m 0 c).before 8 t d8) (Y14 := (dats m 0 c).before 9 t d9) (Y15 := (dats m 0 c).before 10 t d10) (Y16 := (dats m 0 c).before 11 t d11) (Y17 := (dats m 0 c).before 12 t d12))
  isplitl [T0]
  · iexact T0
  isplitl [T1]
  · iexact T1
  isplitl [W0]
  · iexact W0
  isplitl [W1]
  · iexact W1
  isplitl [W2]
  · iexact W2
  isplitl [W3]
  · iexact W3
  isplitl [W4]
  · iexact W4
  isplitl [W5]
  · iexact W5
  isplitl [W6]
  · iexact W6
  isplitl [W7]
  · iexact W7
  isplitl [W8]
  · iexact W8
  isplitl [W9]
  · iexact W9
  isplitl [W10]
  · iexact W10
  isplitl [W11]
  · iexact W11
  isplitl [W12]
  · iexact W12
  isplitl [S18]
  · iexact S18
  isplitl [S19]
  · iexact S19
  isplitl [S20]
  · iexact S20
  isplitl [S21]
  · iexact S21
  isplitl [S22]
  · iexact S22
  iintro ⟨T0, T1, W0, W1, W2, W3, W4, W5, W6, W7, W8, W9, W10, W11, W12, S18, S19, S20, S21, S22⟩
  isplitl [S18 S19 S20 S21 S22 Hr T0 T1]
  · isplitl [S18 S19 S20 S21 S22]
    · iexists (stp (grid0.coords t) (ins m c t) s)
      isplitl []
      · ipureintro
        rw [scr_succ]
        exact agr_next t (ins m c t) _ _ hs
      isplitl [S18]
      · iexact S18
      isplitl [S19]
      · iexact S19
      isplitl [S20]
      · iexact S20
      isplitl [S21]
      · iexact S21
      iexact S22
    isplitl [Hr]
    · iexact Hr
    isplitl [T0]
    · iexact T0
    iexact T1
  isplitl [Ho]
  · iexact Ho
  isplitl [W0]
  · iexact W0
  isplitl [W1]
  · iexact W1
  isplitl [W2]
  · iexact W2
  isplitl [W3]
  · iexact W3
  isplitl [W4]
  · iexact W4
  isplitl [W5]
  · iexact W5
  isplitl [W6]
  · iexact W6
  isplitl [W7]
  · iexact W7
  isplitl [W8]
  · iapply (leave8 m c t s hs d8); iexact W8
  isplitl [W9]
  · iapply (leave9 m c t s hs d9); iexact W9
  isplitl [W10]
  · iapply (leave10 m c t s hs d10); iexact W10
  isplitl [W11]
  · iapply (leave11 m c t s hs d11); iexact W11
  iapply (leave12 m c t s hs d12); iexact W12

end Cert.KernelIdeal.Attn
-- ==== Proof.AttnI.Frm.lean ====
module

public import proofs.«01_k».proof.Proof.AttnI.Run

/-! The launch of the attention backward pass, and its frame: it ends, its arguments stand as they were, and every
    semaphore is back at zero. -/

@[expose] public noncomputable section

set_option maxRecDepth 16384

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem body_obligation (c : Dev nD) : BodyObligation (dats (F := F) m 0 c) (defs₀ (F := F)) Variants.none () Set.univ := fun t => by
  rw [bigSep_W0, bigSep_W0, row, Phi_castSucc, Phi_succ]
  exact triple_restated (sound_body m c t) rfl .rfl fun _ => .rfl

theorem tables_eq (c : Dev nD) : (Pipeline.ΦT pre0 (tabs (F := F)) c : sProp 𝕄)
    = iprop((tb0.view.loc (c : Thread nD τ) ↦{fullShare.right} tabs (F := F) 0) ∗ (tb1.view.loc (c : Thread nD τ) ↦{fullShare.right} tabs (F := F) 1)) := by
  unfold Pipeline.ΦT Pipeline.prefHeld
  rw [show (Finset.univ : Finset (Fin 2)) = insert (0 : Fin 2) {(1 : Fin 2)} from by decide,
    bigSep_insert (by decide), bigSep_singleton]
  rfl

/-- Nothing is asked of the scratch buffers before the first point. -/
theorem enter (c : Dev nD) : iprop(Pipeline.ΦA spec0 c ∗ Pipeline.ΦT pre0 (tabs (F := F)) c) ⊢ (Phi m c 0 (Nat.zero_le _) : sProp 𝕄) := by
  unfold Pipeline.ΦA Phi
  rw [scopedRest0_eq, tables_eq]
  iintro ⟨⟨⟨⟨%f0, S0⟩, ⟨%f1, S1⟩, ⟨%f2, S2⟩, ⟨%f3, S3⟩, ⟨%f4, S4⟩⟩, Hr⟩, T0, T1⟩
  isplitl [S0 S1 S2 S3 S4]
  · iexists (⟨f0, f1, f2, f3, f4⟩ : Scr F)
    isplitl []
    · ipureintro; exact agr_zero _ _
    rw [owns_whole, owns_whole, owns_whole, owns_whole, owns_whole]
    isplitl [S0]
    · iexact S0
    isplitl [S1]
    · iexact S1
    isplitl [S2]
    · iexact S2
    isplitl [S3]
    · iexact S3
    iexact S4
  isplitl [Hr]
  · iexact Hr
  isplitl [T0]
  · iexact T0
  iexact T1

theorem leaveAll (c : Dev nD) (n : ℕ) (h : n ≤ (cfgA (F := F)).N) : (Phi m c n h : sProp 𝕄) ⊢ Pipeline.ΦA spec0 c := by
  unfold Pipeline.ΦA Phi
  rw [scopedRest0_eq]
  simp only [owns_whole]
  iintro ⟨⟨%s, -, S0, S1, S2, S3, S4⟩, Hr, -, -⟩
  isplitl [S0 S1 S2 S3 S4]
  · isplitl [S0]
    · iexists _; iexact S0
    isplitl [S1]
    · iexists _; iexact S1
    isplitl [S2]
    · iexists _; iexact S2
    isplitl [S3]
    · iexists _; iexact S3
    iexists _; iexact S4
  iexact Hr

set_option backward.isDefEq.respectTransparency.types false in
/-- The program runs: every array ends at what the grid's data say, and the semaphores at zero. -/
theorem run : θ_run defs (onTc (τ := τ) (main (F := F))) (s₀ m ρ)
    (fun r => Pipeline.FramePost (Pipeline.pin pcfgs fun _ => adm) (dats m) 0 (V m) r ∧ r.2.sem = fun _ => 0) :=
  Pipeline.θ_run_frameP_track_shared (Q' := _) pcfgs (fun _ => adm) (dats m) (0 : Fin 1) launch₀0 defs₀ Variants.none m ρ main
    (hbody := fun c => (body_obligation m c).loose) (hq := fun _ _ _ => rfl) (howed := fun _ _ => rfl) (V := V m) (hmain := hmain m)
    (hA := A_eq m) (hpf := V_pre m) (hin := enter m) (hout := fun c => leaveAll m c (cfgA (F := F)).N (Nat.le_refl _))

theorem args_of {r : PUnit × MemSt nD τ sig (Elt F)} (h : Pipeline.FramePost (Pipeline.pin pcfgs fun _ => adm) (dats m) 0 (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  ⟨((h c).2 main_arg0 (by decide : main_arg0 ∈ Pipeline.restRefs sig spec0)).trans (V_arg0 m c),
    ((h c).2 main_arg1 (by decide : main_arg1 ∈ Pipeline.restRefs sig spec0)).trans (V_arg1 m c),
    ((h c).2 main_arg2 (by decide : main_arg2 ∈ Pipeline.restRefs sig spec0)).trans (V_arg2 m c),
    ((h c).2 main_arg3 (by decide : main_arg3 ∈ Pipeline.restRefs sig spec0)).trans (V_arg3 m c),
    ((h c).1 3).trans (((dats m 0 c).arrAt_in 3 rfl _).trans ((A_eq m c 3).trans (V_arg4 m c)))⟩

/-- The frame. -/
theorem quiet : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) ∧ r.2.sem = fun _ => 0) :=
  (θ_run defs _ _).mono (fun _ h => ⟨args_of m h.1, h.2⟩) (run m ρ)

end Cert.KernelIdeal.Attn
-- ==== Proof.Val.Spec.lean ====
/- One attention head over the reals: the weights, their gradient, and the five gradients the backward
   pass returns, as plain sums; with the few facts about extended reals that carry them across. -/
module

public import Idealize.ShloMosaic.Lib.ValueIdx
public import Idealize.ShloMosaic.Lib.IdealHost
public import Idealize.ShloMosaic.PureOps.Ideal.Laws

@[expose] public section

noncomputable section

namespace Cert.Val

open Idealize.ShloMosaic

/-- The scale of the logits, as a real. -/
def sc : ℝ := 11863283 * (2 ^ 27 : ℝ)⁻¹

/-- The inputs of one head, and the row maxima `M` of its logits. -/
structure Hd where
  q : ℕ → ℕ → ℝ
  k : ℕ → ℕ → ℝ
  v : ℕ → ℕ → ℝ
  g : ℕ → ℕ → ℝ
  f : ℕ → ℝ
  M : ℕ → ℝ

namespace Hd
variable (H : Hd)

/-- The dot product of a scaled query row and a key row. -/
def qk (i j : ℕ) : ℝ := ∑ d ∈ Finset.range 128, (H.q i d * sc) * H.k j d
/-- The logit. -/
def lg (i j : ℕ) : ℝ := H.qk i j + H.f i - H.f j
/-- The exponential of the masked logit less its row maximum. -/
def e (i j : ℕ) : ℝ := if j ≤ i then Real.exp (H.lg i j - H.M i) else 0
/-- The row sum. -/
def l (i : ℕ) : ℝ := ∑ j ∈ Finset.range 2048, H.e i j
/-- The weight. -/
def p (i j : ℕ) : ℝ := H.e i j * (1 / H.l i)
/-- The output. -/
def o (i d : ℕ) : ℝ := ∑ j ∈ Finset.range 2048, H.p i j * H.v j d
/-- The gradient of the weight. -/
def dp (i j : ℕ) : ℝ := ∑ d ∈ Finset.range 128, H.g i d * H.v j d
/-- The row sum of weight times gradient. -/
def D (i : ℕ) : ℝ := ∑ d ∈ Finset.range 128, H.g i d * H.o i d
/-- The gradient of the logit. -/
def ds (i j : ℕ) : ℝ := H.p i j * (H.dp i j - H.D i)
def dq (i d : ℕ) : ℝ := (∑ j ∈ Finset.range 2048, H.ds i j * H.k j d) * sc
def dk (j d : ℕ) : ℝ := ∑ i ∈ Finset.range 2048, H.ds i j * (H.q i d * sc)
def dv (j d : ℕ) : ℝ := ∑ i ∈ Finset.range 2048, H.p i j * H.g i d
def dfk (j : ℕ) : ℝ := -∑ i ∈ Finset.range 2048, H.ds i j
def dfq (i : ℕ) : ℝ := ∑ j ∈ Finset.range 2048, H.ds i j

theorem e_off {i j : ℕ} (h : i < j) : H.e i j = 0 := if_neg (by omega)
theorem p_off {i j : ℕ} (h : i < j) : H.p i j = 0 := by rw [p, H.e_off h, zero_mul]
theorem ds_off {i j : ℕ} (h : i < j) : H.ds i j = 0 := by rw [ds, H.p_off h, zero_mul]
theorem e_nonneg (i j : ℕ) : 0 ≤ H.e i j := by
  unfold e; split
  · exact (Real.exp_pos _).le
  · exact le_rfl
theorem l_pos {i : ℕ} (h : i < 2048) : 0 < H.l i :=
  Finset.sum_pos' (fun j _ => H.e_nonneg i j)
    ⟨i, Finset.mem_range.2 h, by rw [e, if_pos le_rfl]; exact Real.exp_pos _⟩
/-- The row sum of weight times gradient, the other way round. -/
theorem D_eq (i : ℕ) : H.D i = ∑ j ∈ Finset.range 2048, H.p i j * H.dp i j := by
  unfold D o dp
  simp only [Finset.mul_sum]
  rw [Finset.sum_comm]
  exact Finset.sum_congr rfl fun j _ => Finset.sum_congr rfl fun d _ => by ring
/-- The weight as one exponential. -/
theorem p_exp {i j : ℕ} (hi : i < 2048) (h : j ≤ i) :
    H.p i j = Real.exp (H.qk i j - H.f j + H.f i - (H.M i + Real.log (H.l i))) := by
  rw [p, e, if_pos h, ← sub_sub, Real.exp_sub _ (Real.log _), Real.exp_log (H.l_pos hi), lg, mul_one_div]
  congr 2; ring
end Hd

theorem sc_coe : Ideal.ofBits .f32 0x3DB504F3#32 = ((sc : ℝ) : EReal) := by
  unfold sc
  simp [Ideal.ofBits, Ideal.ieee]

theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A sum over `Fin n` of reals, as the sum over the first `n` naturals. -/
theorem sum_fin {n : ℕ} (f : ℕ → ℝ) : (∑ k : Fin n, ((f k.val : ℝ) : EReal)) = ((∑ k ∈ Finset.range n, f k : ℝ) : EReal) := by
  rw [coe_sum, Fin.sum_univ_eq_sum_range]

theorem sum_fin_mul {n : ℕ} (f g : ℕ → ℝ) :
    (∑ k : Fin n, ((f k.val : ℝ) : EReal) * ((g k.val : ℝ) : EReal)) = ((∑ k ∈ Finset.range n, f k * g k : ℝ) : EReal) := by
  simp only [← EReal.coe_mul]; exact sum_fin fun k => f k * g k

/-- A sum over `512` times `n` naturals, block by block. -/
theorem sum_blocks (n : ℕ) (f : ℕ → ℝ) :
    ∑ i ∈ Finset.range (n * 512), f i = ∑ Q ∈ Finset.range n, ∑ a ∈ Finset.range 512, f (512 * Q + a) := by
  induction n with
  | zero => simp
  | succ n ih => rw [Nat.succ_mul, Finset.sum_range_add, Finset.sum_range_succ (n := n), ih, Nat.mul_comm n 512]

theorem ninf : Ideal.ofBits .f32 0xFF800000#32 = (⊥ : EReal) := by simp [Ideal.ofBits, Ideal.ieee]
theorem pinf : Ideal.ofBits .f32 0x7F800000#32 = (⊤ : EReal) := by simp [Ideal.ofBits, Ideal.ieee]

end Cert.Val
-- ==== Proof.Val.Ref.lean ====
/- The reference program's stages at real inputs, one head at a time. -/
module

public import proofs.«01_k».proof.Proof.Val.Spec
public import proofs.«01_k».proof.Proof.Gen.ReferenceIdeal.Read

@[expose] public section

noncomputable section

namespace Cert.Val

open Cert.ReferenceIdeal Cert.ReferenceIdeal.Gen Cert.ReferenceIdeal.Read Idealize.ShloMosaic Idealize.ShloMosaic.TcCoe
  Idealize.ShloMosaic.StableHlo

abbrev X3 := (⟨S4x2048x1024, .f32⟩ : BufTy).Contents (Elt Ideal)
abbrev XF := (⟨S4x8x2048, .f32⟩ : BufTy).Contents (Elt Ideal)

/-- The five argument arrays hold the heads `hd b h`. -/
structure Rep0 (hd : ℕ → ℕ → Hd) (x0 x1 x2 : X3) (x3 : XF) (x4 : X3) : Prop where
  hq : ∀ i : S4x2048x1024.Idx, ∀ b h r d : ℕ, (i 0).val = b → (i 1).val = r → (i 2).val = h * 128 + d → d < 128 →
    x0 i = (((hd b h).q r d : ℝ) : EReal)
  hk : ∀ i : S4x2048x1024.Idx, ∀ b h r d : ℕ, (i 0).val = b → (i 1).val = r → (i 2).val = h * 128 + d → d < 128 →
    x1 i = (((hd b h).k r d : ℝ) : EReal)
  hv : ∀ i : S4x2048x1024.Idx, ∀ b h r d : ℕ, (i 0).val = b → (i 1).val = r → (i 2).val = h * 128 + d → d < 128 →
    x2 i = (((hd b h).v r d : ℝ) : EReal)
  hg : ∀ i : S4x2048x1024.Idx, ∀ b h r d : ℕ, (i 0).val = b → (i 1).val = r → (i 2).val = h * 128 + d → d < 128 →
    x4 i = (((hd b h).g r d : ℝ) : EReal)
  hf : ∀ i : S4x8x2048.Idx, x3 i = (((hd (i 0).val (i 1).val).f (i 2).val : ℝ) : EReal)

/-- … and `M` of each head is its row maxima. -/
structure Rep (hd : ℕ → ℕ → Hd) (x0 x1 x2 : X3) (x3 : XF) (x4 : X3) : Prop extends Rep0 hd x0 x1 x2 x3 x4 where
  hM : ∀ i : S4x8x2048.Idx, val_main_v21 (F := Ideal) x0 x1 x3 i = (((hd (i 0).val (i 1).val).M (i 2).val : ℝ) : EReal)

variable {hd : ℕ → ℕ → Hd} {x0 x1 x2 : X3} {x3 : XF} {x4 : X3}

/-- The causal mask's comparison, of two row numbers as words. -/
theorem sge_word (a b : ℕ) (ha : a < 2 ^ 31) (hb : b < 2 ^ 31) :
    IntOp.cmpi .sge (BitVec.ofNat 32 a) (BitVec.ofNat 32 b) = if b ≤ a then 1#1 else 0#1 := by
  have h : (BitVec.ofNat 32 b).sle (BitVec.ofNat 32 a) = decide (b ≤ a) := by
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat]
    exact decide_eq_decide.2 (by omega)
  unfold IntOp.cmpi
  simp only [h]
  by_cases hab : b ≤ a <;> simp [hab]

theorem select_if (c : Prop) [Decidable c] {α : Type} (x y : α) :
    Scalar.select (if c then 1#1 else 0#1) x y = if c then x else y := by
  by_cases h : c <;> simp [h, Scalar.select]

theorem exp_if (c : Prop) [Decidable c] (x y : ℝ) :
    Ideal.exp ((if c then ((x : ℝ) : EReal) else ⊥) - ((y : ℝ) : EReal)) = ((if c then Real.exp (x - y) else 0 : ℝ) : EReal) := by
  by_cases h : c
  · rw [if_pos h, if_pos h, ← EReal.coe_sub, Ideal.exp_coe]
  · rw [if_neg h, if_neg h, EReal.bot_sub, Ideal.exp_bot, EReal.coe_zero]

namespace Rep0

theorem v3 (R : Rep0 hd x0 x1 x2 x3 x4) (i : S4x8x2048x128.Idx) :
    val_main_v3 (F := Ideal) x0 i = (((hd (i 0).val (i 1).val).q (i 2).val (i 3).val * sc : ℝ) : EReal) := by
  have h0 : (i 0).val < 4 := (i 0).isLt
  have h1 : (i 1).val < 8 := (i 1).isLt
  have h2 : (i 2).val < 2048 := (i 2).isLt
  have h3 : (i 3).val < 128 := (i 3).isLt
  rw [val_main_v3_apply, val_main_v2_apply, val_main_v1_apply, val_main_v0_apply, val_main_cst_apply, Ideal.mulf_def, Ideal.ofBits_def, sc_coe,
    R.hq _ (i 0).val (i 1).val (i 2).val (i 3).val ?_ ?_ ?_ h3, EReal.coe_mul]
  · show ((((i 0).val * 2048 + (i 2).val) * 8 + (i 1).val) * 128 + (i 3).val) / 2097152 = _; omega
  · show ((((i 0).val * 2048 + (i 2).val) * 8 + (i 1).val) * 128 + (i 3).val) / 1024 % 2048 = _; omega
  · show ((((i 0).val * 2048 + (i 2).val) * 8 + (i 1).val) * 128 + (i 3).val) % 1024 = _; omega

theorem v5 (R : Rep0 hd x0 x1 x2 x3 x4) (i : S4x8x2048x128.Idx) :
    val_main_v5 (F := Ideal) x1 i = (((hd (i 0).val (i 1).val).k (i 2).val (i 3).val : ℝ) : EReal) := by
  have h0 : (i 0).val < 4 := (i 0).isLt
  have h1 : (i 1).val < 8 := (i 1).isLt
  have h2 : (i 2).val < 2048 := (i 2).isLt
  have h3 : (i 3).val < 128 := (i 3).isLt
  rw [val_main_v5_apply, val_main_v4_apply, R.hk _ (i 0).val (i 1).val (i 2).val (i 3).val ?_ ?_ ?_ h3]
  · show ((((i 0).val * 2048 + (i 2).val) * 8 + (i 1).val) * 128 + (i 3).val) / 2097152 = _; omega
  · show ((((i 0).val * 2048 + (i 2).val) * 8 + (i 1).val) * 128 + (i 3).val) / 1024 % 2048 = _; omega
  · show ((((i 0).val * 2048 + (i 2).val) * 8 + (i 1).val) * 128 + (i 3).val) % 1024 = _; omega

theorem v50 (R : Rep0 hd x0 x1 x2 x3 x4) (i : S4x8x2048x128.Idx) :
    val_main_v50 (F := Ideal) x2 i = (((hd (i 0).val (i 1).val).v (i 2).val (i 3).val : ℝ) : EReal) := by
  have h0 : (i 0).val < 4 := (i 0).isLt
  have h1 : (i 1).val < 8 := (i 1).isLt
  have h2 : (i 2).val < 2048 := (i 2).isLt
  have h3 : (i 3).val < 128 := (i 3).isLt
  rw [val_main_v50_apply, val_main_v49_apply, R.hv _ (i 0).val (i 1).val (i 2).val (i 3).val ?_ ?_ ?_ h3]
  · show ((((i 0).val * 2048 + (i 2).val) * 8 + (i 1).val) * 128 + (i 3).val) / 2097152 = _; omega
  · show ((((i 0).val * 2048 + (i 2).val) * 8 + (i 1).val) * 128 + (i 3).val) / 1024 % 2048 = _; omega
  · show ((((i 0).val * 2048 + (i 2).val) * 8 + (i 1).val) * 128 + (i 3).val) % 1024 = _; omega

theorem v55 (R : Rep0 hd x0 x1 x2 x3 x4) (i : S4x8x2048x128.Idx) :
    val_main_v55 (F := Ideal) x4 i = (((hd (i 0).val (i 1).val).g (i 2).val (i 3).val : ℝ) : EReal) := by
  have h0 : (i 0).val < 4 := (i 0).isLt
  have h1 : (i 1).val < 8 := (i 1).isLt
  have h2 : (i 2).val < 2048 := (i 2).isLt
  have h3 : (i 3).val < 128 := (i 3).isLt
  rw [val_main_v55_apply, val_main_v54_apply, R.hg _ (i 0).val (i 1).val (i 2).val (i 3).val ?_ ?_ ?_ h3]
  · show ((((i 0).val * 2048 + (i 2).val) * 8 + (i 1).val) * 128 + (i 3).val) / 2097152 = _; omega
  · show ((((i 0).val * 2048 + (i 2).val) * 8 + (i 1).val) * 128 + (i 3).val) / 1024 % 2048 = _; omega
  · show ((((i 0).val * 2048 + (i 2).val) * 8 + (i 1).val) * 128 + (i 3).val) % 1024 = _; omega

theorem v6 (R : Rep0 hd x0 x1 x2 x3 x4) (i : S4x8x2048x2048.Idx) :
    val_main_v6 (F := Ideal) x0 x1 i = (((hd (i 0).val (i 1).val).qk (i 2).val (i 3).val : ℝ) : EReal) := by
  rw [val_main_v6_apply]
  simp only [R.v3, R.v5]
  exact sum_fin_mul (fun d => (hd (i 0).val (i 1).val).q (i 2).val d * sc) (fun d => (hd (i 0).val (i 1).val).k (i 3).val d)

theorem v8 (R : Rep0 hd x0 x1 x2 x3 x4) (i : S4x8x2048x2048.Idx) :
    val_main_v8 (F := Ideal) x3 i = (((hd (i 0).val (i 1).val).f (i 2).val : ℝ) : EReal) := by
  rw [val_main_v8_apply, val_main_v7_apply, R.hf]

theorem v11 (R : Rep0 hd x0 x1 x2 x3 x4) (i : S4x8x2048x2048.Idx) :
    val_main_v11 (F := Ideal) x3 i = (((hd (i 0).val (i 1).val).f (i 3).val : ℝ) : EReal) := by
  rw [val_main_v11_apply, val_main_v10_apply, R.hf]

theorem v12 (R : Rep0 hd x0 x1 x2 x3 x4) (i : S4x8x2048x2048.Idx) :
    val_main_v12 (F := Ideal) x0 x1 x3 i = (((hd (i 0).val (i 1).val).lg (i 2).val (i 3).val : ℝ) : EReal) := by
  rw [val_main_v12_apply, val_main_v9_apply, R.v6, R.v8, R.v11, Hd.lg, Ideal.subf_def, Ideal.addf_def, EReal.coe_sub, EReal.coe_add]

omit hd x0 x1 x2 x3 x4 in
theorem v20_1 (i : S4x8x2048x2048.Idx) :
    val_main_v20_1 (F := Ideal) i = if (i 3).val ≤ (i 2).val then 1#1 else 0#1 := by
  have h0 : (i 0).val < 4 := (i 0).isLt
  have h1 : (i 1).val < 8 := (i 1).isLt
  have h2 : (i 2).val < 2048 := (i 2).isLt
  have h3 : (i 3).val < 2048 := (i 3).isLt
  rw [val_main_v20_1_apply, val_main_v19_apply, val_main_v17_apply, val_main_v18_apply, val_main_v14_apply, val_main_v16_apply,
    val_main_v13_apply, val_main_v15_apply]
  exact sge_word (i 2).val (i 3).val (by omega) (by omega)

theorem v20_0 (R : Rep0 hd x0 x1 x2 x3 x4) (i : S4x8x2048x2048.Idx) :
    val_main_v20_0 (F := Ideal) x0 x1 x3 i = if (i 3).val ≤ (i 2).val then (((hd (i 0).val (i 1).val).lg (i 2).val (i 3).val : ℝ) : EReal) else ⊥ := by
  rw [val_main_v20_0_apply, v20_1, R.v12, val_main_call0_v2_apply, val_main_call0_v0_apply, val_main_cst_0_apply, Ideal.ofBits_def, ninf]
  exact select_if _ _ _

end Rep0

namespace Rep

theorem v28 (R : Rep hd x0 x1 x2 x3 x4) (i : S4x8x2048.Idx) :
    val_main_v28 (F := Ideal) x0 x1 x3 i = (((hd (i 0).val (i 1).val).M (i 2).val : ℝ) : EReal) := by
  rw [val_main_v28_apply, R.hM, val_main_v27_apply, val_main_cst_3_apply, Ideal.ofBits_def, ninf, Ideal.maximumf_def]
  exact max_eq_right bot_le

theorem v41 (R : Rep hd x0 x1 x2 x3 x4) (i : S4x8x2048x2048.Idx) :
    val_main_v41 (F := Ideal) x0 x1 x3 i = (((hd (i 0).val (i 1).val).e (i 2).val (i 3).val : ℝ) : EReal) := by
  rw [val_main_v41_apply, val_main_v40_apply, R.v20_0, val_main_v39_apply, val_main_v38_apply, R.v28, Ideal.subf_def, Ideal.hostUnary_exp_def, Hd.e]
  exact exp_if _ _ _

theorem v42 (R : Rep hd x0 x1 x2 x3 x4) (i : S4x8x2048.Idx) :
    val_main_v42 (F := Ideal) x0 x1 x3 i = (((hd (i 0).val (i 1).val).l (i 2).val : ℝ) : EReal) := by
  rw [val_main_v42_apply, val_main_cst_9_apply, Ideal.ofBits_def, Ideal.ofBits_zero_f32, zero_add]
  simp only [R.v41]
  exact sum_fin (fun j => (hd (i 0).val (i 1).val).e (i 2).val j)

theorem v43 (R : Rep hd x0 x1 x2 x3 x4) (i : S4x8x2048x1.Idx) :
    val_main_v43 (F := Ideal) x0 x1 x3 i = (((hd (i 0).val (i 1).val).l (i 2).val : ℝ) : EReal) := by
  rw [val_main_v43_apply, R.v42]

theorem v45 (R : Rep hd x0 x1 x2 x3 x4) (i : S4x8x2048x2048.Idx) :
    val_main_v45 (F := Ideal) x0 x1 x3 i = (((hd (i 0).val (i 1).val).p (i 2).val (i 3).val : ℝ) : EReal) := by
  have h0 : (i 0).val < 4 := (i 0).isLt
  have h1 : (i 1).val < 8 := (i 1).isLt
  have h2 : (i 2).val < 2048 := (i 2).isLt
  have h3 : (i 3).val < 2048 := (i 3).isLt
  rw [val_main_v45_apply, R.v41, val_main_v44_apply, R.v43, Ideal.hostDivf_def, Ideal.div_coe (ne_of_gt (Hd.l_pos _ h2)), ← EReal.coe_mul]; rfl

theorem v51 (R : Rep hd x0 x1 x2 x3 x4) (i : S4x8x2048x128.Idx) :
    val_main_v51 (F := Ideal) x0 x1 x2 x3 i = (((hd (i 0).val (i 1).val).o (i 2).val (i 3).val : ℝ) : EReal) := by
  rw [val_main_v51_apply]
  simp only [R.v45, R.v50]
  exact sum_fin_mul (fun j => (hd (i 0).val (i 1).val).p (i 2).val j) (fun j => (hd (i 0).val (i 1).val).v j (i 3).val)

theorem v53 (R : Rep hd x0 x1 x2 x3 x4) (i : S4x2048x1024.Idx) :
    val_main_v53 (F := Ideal) x0 x1 x2 x3 i = (((hd (i 0).val ((i 2).val / 128)).o (i 1).val ((i 2).val % 128) : ℝ) : EReal) := by
  have h0 : (i 0).val < 4 := (i 0).isLt
  have h1 : (i 1).val < 2048 := (i 1).isLt
  have h2 : (i 2).val < 1024 := (i 2).isLt
  have e0 : (idx_main_v52 (idx_main_v53 i) 0).val = (i 0).val := by show (((i 0).val * 2048 + (i 1).val) * 1024 + (i 2).val) / 2097152 = _; omega
  have e1 : (idx_main_v52 (idx_main_v53 i) 1).val = (i 2).val / 128 := by show (((i 0).val * 2048 + (i 1).val) * 1024 + (i 2).val) / 128 % 8 = _; omega
  have e2 : (idx_main_v52 (idx_main_v53 i) 2).val = (i 1).val := by show (((i 0).val * 2048 + (i 1).val) * 1024 + (i 2).val) / 1024 % 2048 = _; omega
  have e3 : (idx_main_v52 (idx_main_v53 i) 3).val = (i 2).val % 128 := by show (((i 0).val * 2048 + (i 1).val) * 1024 + (i 2).val) % 128 = _; omega
  rw [val_main_v53_apply, val_main_v52_apply, R.v51, e0, e1, e2, e3]

theorem v57 (R : Rep hd x0 x1 x2 x3 x4) (i : S4x8x2048x128.Idx) :
    val_main_v57 (F := Ideal) x0 x1 x3 x4 i = (((hd (i 0).val (i 1).val).dv (i 2).val (i 3).val : ℝ) : EReal) := by
  rw [val_main_v57_apply, val_main_v56_apply]
  simp only [R.v55, R.v45]
  refine (sum_fin_mul (fun a => (hd (i 0).val (i 1).val).g a (i 3).val) (fun a => (hd (i 0).val (i 1).val).p a (i 2).val)).trans ?_
  exact congrArg _ (Finset.sum_congr rfl fun a _ => mul_comm _ _)

theorem v91 (R : Rep hd x0 x1 x2 x3 x4) (i : S4x2048x1024.Idx) :
    val_main_v91 (F := Ideal) x0 x1 x3 x4 i = (((hd (i 0).val ((i 2).val / 128)).dv (i 1).val ((i 2).val % 128) : ℝ) : EReal) := by
  have h0 : (i 0).val < 4 := (i 0).isLt
  have h1 : (i 1).val < 2048 := (i 1).isLt
  have h2 : (i 2).val < 1024 := (i 2).isLt
  have e0 : (idx_main_v59 (idx_main_v60 i) 0).val = (i 0).val := by show (((i 0).val * 2048 + (i 1).val) * 1024 + (i 2).val) / 2097152 = _; omega
  have e1 : (idx_main_v59 (idx_main_v60 i) 1).val = (i 2).val / 128 := by show (((i 0).val * 2048 + (i 1).val) * 1024 + (i 2).val) / 128 % 8 = _; omega
  have e2 : (idx_main_v59 (idx_main_v60 i) 2).val = (i 1).val := by show (((i 0).val * 2048 + (i 1).val) * 1024 + (i 2).val) / 1024 % 2048 = _; omega
  have e3 : (idx_main_v59 (idx_main_v60 i) 3).val = (i 2).val % 128 := by show (((i 0).val * 2048 + (i 1).val) * 1024 + (i 2).val) % 128 = _; omega
  rw [val_main_v91_apply, Ideal.truncf_def, val_main_v60_apply, val_main_v59_apply, R.v57, e0, e1, e2, e3]

theorem v58 (R : Rep hd x0 x1 x2 x3 x4) (i : S4x8x2048x2048.Idx) :
    val_main_v58 (F := Ideal) x2 x4 i = (((hd (i 0).val (i 1).val).dp (i 2).val (i 3).val : ℝ) : EReal) := by
  rw [val_main_v58_apply]
  simp only [R.v55, R.v50]
  exact sum_fin_mul (fun d => (hd (i 0).val (i 1).val).g (i 2).val d) (fun d => (hd (i 0).val (i 1).val).v (i 3).val d)

theorem v48 (R : Rep hd x0 x1 x2 x3 x4) (i : S4x8x2048x1.Idx) :
    val_main_v48 (F := Ideal) x0 x1 x3 i = ((1 / ((hd (i 0).val (i 1).val).l (i 2).val * (hd (i 0).val (i 1).val).l (i 2).val) : ℝ) : EReal) := by
  have h0 : (i 0).val < 4 := (i 0).isLt
  have h1 : (i 1).val < 8 := (i 1).isLt
  have h2 : (i 2).val < 2048 := (i 2).isLt
  have h3 : (i 3).val < 1 := (i 3).isLt
  rw [val_main_v48_apply, val_main_v47_apply, val_main_cst_10_apply, val_main_v46_apply, R.v43, Ideal.hostDivf_def, Ideal.mulf_def, ← EReal.coe_mul,
    Ideal.ofBits_def, Ideal.ofBits_one_f32, Ideal.div_coe (mul_ne_zero (ne_of_gt (Hd.l_pos _ h2)) (ne_of_gt (Hd.l_pos _ h2))), one_mul]

theorem v63 (R : Rep hd x0 x1 x2 x3 x4) (i : S4x8x2048x2048.Idx) :
    val_main_v63 (F := Ideal) x0 x1 x2 x3 x4 i = (((hd (i 0).val (i 1).val).dp (i 2).val (i 3).val * (1 / ((hd (i 0).val (i 1).val).l (i 2).val * (hd (i 0).val (i 1).val).l (i 2).val)) * (hd (i 0).val (i 1).val).e (i 2).val (i 3).val : ℝ) : EReal) := by
  rw [val_main_v63_apply, val_main_v62_apply, val_main_v61_apply, R.v58, R.v48, R.v41, Ideal.mulf_def, Ideal.mulf_def, EReal.coe_mul, EReal.coe_mul]

theorem v64 (R : Rep hd x0 x1 x2 x3 x4) (i : S4x8x2048.Idx) :
    val_main_v64 (F := Ideal) x0 x1 x2 x3 x4 i = (((hd (i 0).val (i 1).val).D (i 2).val * (1 / (hd (i 0).val (i 1).val).l (i 2).val) : ℝ) : EReal) := by
  have h0 : (i 0).val < 4 := (i 0).isLt
  have h1 : (i 1).val < 8 := (i 1).isLt
  have h2 : (i 2).val < 2048 := (i 2).isLt
  rw [val_main_v64_apply, val_main_cst_11_apply, Ideal.ofBits_def, Ideal.ofBits_zero_f32, zero_add]
  simp only [R.v63]
  refine (sum_fin (fun j => (hd (i 0).val (i 1).val).dp (i 2).val j * (1 / ((hd (i 0).val (i 1).val).l (i 2).val * (hd (i 0).val (i 1).val).l (i 2).val)) * (hd (i 0).val (i 1).val).e (i 2).val j)).trans (congrArg _ ?_)
  rw [Hd.D_eq, Finset.sum_mul]
  have := (ne_of_gt (Hd.l_pos (hd (i 0).val (i 1).val) h2))
  exact Finset.sum_congr rfl fun j _ => by rw [Hd.p]; field_simp

theorem v70 (R : Rep hd x0 x1 x2 x3 x4) (i : S4x8x2048x2048.Idx) :
    val_main_v70 (F := Ideal) x0 x1 x2 x3 x4 i = ((-((hd (i 0).val (i 1).val).D (i 2).val * (1 / (hd (i 0).val (i 1).val).l (i 2).val)) : ℝ) : EReal) := by
  have h0 : (i 0).val < 4 := (i 0).isLt
  have h1 : (i 1).val < 8 := (i 1).isLt
  have h2 : (i 2).val < 2048 := (i 2).isLt
  have h3 : (i 3).val < 2048 := (i 3).isLt
  have e0 : (idx_main_v65 (idx_main_v69 (idx_main_v70 i) 0) 0).val = (i 0).val := by show ((((i 0).val * 8 + (i 1).val) * 2048 + (i 2).val) * 1 + 0) / 16384 = _; omega
  have e1 : (idx_main_v65 (idx_main_v69 (idx_main_v70 i) 0) 1).val = (i 1).val := by show ((((i 0).val * 8 + (i 1).val) * 2048 + (i 2).val) * 1 + 0) / 2048 % 8 = _; omega
  have e2 : (idx_main_v65 (idx_main_v69 (idx_main_v70 i) 0) 2).val = (i 2).val := by show ((((i 0).val * 8 + (i 1).val) * 2048 + (i 2).val) * 1 + 0) % 2048 = _; omega
  rw [val_main_v70_apply, val_main_v69_apply, val_main_cst_12_apply, Ideal.ofBits_def, Ideal.ofBits_zero_f32, zero_add, Fin.sum_univ_one, val_main_v66_apply, val_main_v65_apply,
    R.v64, e0, e1, e2]
  exact (EReal.coe_neg _).symm

theorem v73 (R : Rep hd x0 x1 x2 x3 x4) (i : S4x8x2048x2048.Idx) :
    val_main_v73 (F := Ideal) x0 x1 x2 x3 x4 i = (((hd (i 0).val (i 1).val).ds (i 2).val (i 3).val : ℝ) : EReal) := by
  have h0 : (i 0).val < 4 := (i 0).isLt
  have h1 : (i 1).val < 8 := (i 1).isLt
  have h2 : (i 2).val < 2048 := (i 2).isLt
  have h3 : (i 3).val < 2048 := (i 3).isLt
  rw [val_main_v73_apply, Rep0.v20_1, val_main_v72_apply, val_main_v71_apply, val_main_v68_apply, R.v58, val_main_v67_apply, R.v43, R.v70, R.v41,
    val_main_call1_v0_apply, val_main_call1_cst_apply, Ideal.ofBits_def, Ideal.ofBits_zero_f32, Ideal.mulf_def, Ideal.addf_def, Ideal.hostDivf_def]
  have hl := (ne_of_gt (Hd.l_pos (hd (i 0).val (i 1).val) h2))
  erw [Ideal.div_coe hl, ← EReal.coe_mul, select_if]
  split
  · exact congrArg Real.toEReal (by show (_ + _) * _ = _; rw [Hd.ds, Hd.p]; ring)
  · rw [Hd.ds_off _ (by omega)]; rfl

theorem v81 (R : Rep hd x0 x1 x2 x3 x4) (i : S4x8x2048x128.Idx) :
    val_main_v81 (F := Ideal) x0 x1 x2 x3 x4 i = (((hd (i 0).val (i 1).val).dk (i 2).val (i 3).val : ℝ) : EReal) := by
  rw [val_main_v81_apply]
  simp only [R.v73, R.v3]
  exact sum_fin_mul (fun a => (hd (i 0).val (i 1).val).ds a (i 2).val) (fun a => (hd (i 0).val (i 1).val).q a (i 3).val * sc)

theorem v82 (R : Rep hd x0 x1 x2 x3 x4) (i : S4x8x2048x128.Idx) :
    val_main_v82 (F := Ideal) x0 x1 x2 x3 x4 i = ((∑ j ∈ Finset.range 2048, (hd (i 0).val (i 1).val).ds (i 2).val j * (hd (i 0).val (i 1).val).k j (i 3).val : ℝ) : EReal) := by
  rw [val_main_v82_apply]
  simp only [R.v73, R.v5]
  exact sum_fin_mul (fun a => (hd (i 0).val (i 1).val).ds (i 2).val a) (fun a => (hd (i 0).val (i 1).val).k a (i 3).val)

theorem v90 (R : Rep hd x0 x1 x2 x3 x4) (i : S4x2048x1024.Idx) :
    val_main_v90 (F := Ideal) x0 x1 x2 x3 x4 i = (((hd (i 0).val ((i 2).val / 128)).dk (i 1).val ((i 2).val % 128) : ℝ) : EReal) := by
  have h0 : (i 0).val < 4 := (i 0).isLt
  have h1 : (i 1).val < 2048 := (i 1).isLt
  have h2 : (i 2).val < 1024 := (i 2).isLt
  have e0 : (idx_main_v83 (idx_main_v84 i) 0).val = (i 0).val := by show (((i 0).val * 2048 + (i 1).val) * 1024 + (i 2).val) / 2097152 = _; omega
  have e1 : (idx_main_v83 (idx_main_v84 i) 1).val = (i 2).val / 128 := by show (((i 0).val * 2048 + (i 1).val) * 1024 + (i 2).val) / 128 % 8 = _; omega
  have e2 : (idx_main_v83 (idx_main_v84 i) 2).val = (i 1).val := by show (((i 0).val * 2048 + (i 1).val) * 1024 + (i 2).val) / 1024 % 2048 = _; omega
  have e3 : (idx_main_v83 (idx_main_v84 i) 3).val = (i 2).val % 128 := by show (((i 0).val * 2048 + (i 1).val) * 1024 + (i 2).val) % 128 = _; omega
  rw [val_main_v90_apply, Ideal.truncf_def, val_main_v84_apply, val_main_v83_apply, R.v81, e0, e1, e2, e3]

theorem v89 (R : Rep hd x0 x1 x2 x3 x4) (i : S4x2048x1024.Idx) :
    val_main_v89 (F := Ideal) x0 x1 x2 x3 x4 i = (((hd (i 0).val ((i 2).val / 128)).dq (i 1).val ((i 2).val % 128) : ℝ) : EReal) := by
  have h0 : (i 0).val < 4 := (i 0).isLt
  have h1 : (i 1).val < 2048 := (i 1).isLt
  have h2 : (i 2).val < 1024 := (i 2).isLt
  have e0 : (idx_main_v85 (idx_main_v86 i) 0).val = (i 0).val := by show (((i 0).val * 2048 + (i 1).val) * 1024 + (i 2).val) / 2097152 = _; omega
  have e1 : (idx_main_v85 (idx_main_v86 i) 1).val = (i 2).val / 128 := by show (((i 0).val * 2048 + (i 1).val) * 1024 + (i 2).val) / 128 % 8 = _; omega
  have e2 : (idx_main_v85 (idx_main_v86 i) 2).val = (i 1).val := by show (((i 0).val * 2048 + (i 1).val) * 1024 + (i 2).val) / 1024 % 2048 = _; omega
  have e3 : (idx_main_v85 (idx_main_v86 i) 3).val = (i 2).val % 128 := by show (((i 0).val * 2048 + (i 1).val) * 1024 + (i 2).val) % 128 = _; omega
  rw [val_main_v89_apply, Ideal.truncf_def, val_main_v88_apply, val_main_v86_apply, val_main_v85_apply, R.v82, e0, e1, e2, e3, val_main_v87_apply, val_main_cst_17_apply, Ideal.ofBits_def, sc_coe, Ideal.mulf_def, ← EReal.coe_mul, Hd.dq]

theorem v75 (R : Rep hd x0 x1 x2 x3 x4) (i : S4x8x2048.Idx) :
    val_main_v75 (F := Ideal) x0 x1 x2 x3 x4 i = (((hd (i 0).val (i 1).val).dfk (i 2).val : ℝ) : EReal) := by
  rw [val_main_v75_apply, val_main_cst_13_apply, Ideal.ofBits_def, Ideal.ofBits_zero_f32, zero_add]
  simp only [val_main_v74_apply, R.v73]
  refine Eq.trans ?_ ((sum_fin (fun a => -(hd (i 0).val (i 1).val).ds a (i 2).val)).trans (congrArg _ (by rw [Finset.sum_neg_distrib]; rfl)))
  exact Finset.sum_congr rfl fun a _ => (EReal.coe_neg _).symm

theorem v78 (R : Rep hd x0 x1 x2 x3 x4) (i : S4x8x2048.Idx) :
    val_main_v78 (F := Ideal) x0 x1 x2 x3 x4 i = (((hd (i 0).val (i 1).val).dfq (i 2).val : ℝ) : EReal) := by
  rw [val_main_v78_apply, val_main_cst_15_apply, Ideal.ofBits_def, Ideal.ofBits_zero_f32, zero_add]
  simp only [R.v73]
  exact sum_fin (fun j => (hd (i 0).val (i 1).val).ds (i 2).val j)

theorem v77 (R : Rep hd x0 x1 x2 x3 x4) (i : S4x8x2048.Idx) :
    val_main_v77 (F := Ideal) x0 x1 x2 x3 x4 i = (((hd (i 0).val (i 1).val).dfk (i 2).val : ℝ) : EReal) := by
  have h0 : (i 0).val < 4 := (i 0).isLt
  have h1 : (i 1).val < 8 := (i 1).isLt
  have h2 : (i 2).val < 2048 := (i 2).isLt
  have e0 : (idx_main_v76 (idx_main_v77 i 0) 0).val = (i 0).val := by show ((((i 0).val * 8 + (i 1).val) * 1 + 0) * 2048 + (i 2).val) / 16384 = _; omega
  have e1 : (idx_main_v76 (idx_main_v77 i 0) 1).val = (i 1).val := by show ((((i 0).val * 8 + (i 1).val) * 1 + 0) * 2048 + (i 2).val) / 2048 % 8 = _; omega
  have e2 : (idx_main_v76 (idx_main_v77 i 0) 2).val = (i 2).val := by show ((((i 0).val * 8 + (i 1).val) * 1 + 0) * 2048 + (i 2).val) % 2048 = _; omega
  rw [val_main_v77_apply, val_main_cst_14_apply, Ideal.ofBits_def, Ideal.ofBits_zero_f32, zero_add, Fin.sum_univ_one, val_main_v76_apply, R.v75, e0, e1, e2]

theorem v80 (R : Rep hd x0 x1 x2 x3 x4) (i : S4x8x2048.Idx) :
    val_main_v80 (F := Ideal) x0 x1 x2 x3 x4 i = (((hd (i 0).val (i 1).val).dfq (i 2).val : ℝ) : EReal) := by
  have h0 : (i 0).val < 4 := (i 0).isLt
  have h1 : (i 1).val < 8 := (i 1).isLt
  have h2 : (i 2).val < 2048 := (i 2).isLt
  have e0 : (idx_main_v79 (idx_main_v80 i 0) 0).val = (i 0).val := by show ((((i 0).val * 8 + (i 1).val) * 2048 + (i 2).val) * 1 + 0) / 16384 = _; omega
  have e1 : (idx_main_v79 (idx_main_v80 i 0) 1).val = (i 1).val := by show ((((i 0).val * 8 + (i 1).val) * 2048 + (i 2).val) * 1 + 0) / 2048 % 8 = _; omega
  have e2 : (idx_main_v79 (idx_main_v80 i 0) 2).val = (i 2).val := by show ((((i 0).val * 8 + (i 1).val) * 2048 + (i 2).val) * 1 + 0) % 2048 = _; omega
  rw [val_main_v80_apply, val_main_cst_16_apply, Ideal.ofBits_def, Ideal.ofBits_zero_f32, zero_add, Fin.sum_univ_one, val_main_v79_apply, R.v78, e0, e1, e2]

theorem v94 (R : Rep hd x0 x1 x2 x3 x4) (i : S32x2048x128.Idx) :
    val_main_v94 (F := Ideal) x0 x1 x2 x3 x4 i = (((hd ((i 0).val / 8) ((i 0).val % 8)).dfk (i 1).val : ℝ) : EReal) := by
  have h0 : (i 0).val < 32 := (i 0).isLt
  have h1 : (i 1).val < 2048 := (i 1).isLt
  have h2 : (i 2).val < 128 := (i 2).isLt
  have e0 : (idx_main_v92 (idx_main_v93 (idx_main_v94 i)) 0).val = (i 0).val / 8 := by show ((i 0).val * 2048 + (i 1).val) / 16384 = _; omega
  have e1 : (idx_main_v92 (idx_main_v93 (idx_main_v94 i)) 1).val = (i 0).val % 8 := by show ((i 0).val * 2048 + (i 1).val) / 2048 % 8 = _; omega
  have e2 : (idx_main_v92 (idx_main_v93 (idx_main_v94 i)) 2).val = (i 1).val := by show ((i 0).val * 2048 + (i 1).val) % 2048 = _; omega
  rw [val_main_v94_apply, val_main_v93_apply, val_main_v92_apply, R.v77, e0, e1, e2]

theorem v95 (R : Rep hd x0 x1 x2 x3 x4) (i : S32x4x512.Idx) :
    val_main_v95 (F := Ideal) x0 x1 x2 x3 x4 i = (((hd ((i 0).val / 8) ((i 0).val % 8)).dfq (512 * (i 1).val + (i 2).val) : ℝ) : EReal) := by
  have h0 : (i 0).val < 32 := (i 0).isLt
  have h1 : (i 1).val < 4 := (i 1).isLt
  have h2 : (i 2).val < 512 := (i 2).isLt
  have e0 : (idx_main_v95 i 0).val = (i 0).val / 8 := by show (((i 0).val * 4 + (i 1).val) * 512 + (i 2).val) / 16384 = _; omega
  have e1 : (idx_main_v95 i 1).val = (i 0).val % 8 := by show (((i 0).val * 4 + (i 1).val) * 512 + (i 2).val) / 2048 % 8 = _; omega
  have e2 : (idx_main_v95 i 2).val = 512 * (i 1).val + (i 2).val := by show (((i 0).val * 4 + (i 1).val) * 512 + (i 2).val) % 2048 = _; omega
  rw [val_main_v95_apply, R.v80, e0, e1, e2]

end Rep
end Cert.Val
-- ==== Proof.Val.Pre.lean ====
/- What the precondition says of the arguments: every entry is a real. So the arguments hold heads. -/
module

public import proofs.«01_k».proof.Proof.Val.Ref
public import proofs.«01_k».proof.Pre_finite
public import Idealize.ShloMosaic.Lib.Pointwise.Select
public import Idealize.ShloMosaic.Lib.Pointwise.Reduce

@[expose] public section

noncomputable section

namespace Cert.Val

open Cert.ReferenceIdeal Cert.ReferenceIdeal.Gen Cert.ReferenceIdeal.Read Idealize.ShloMosaic Idealize.ShloMosaic.TcCoe
  Idealize.ShloMosaic.StableHlo

theorem and_one (a b : BitVec 1) (h : IntOp.andi a b = 1#1) : a = 1#1 ∧ b = 1#1 := by
  revert a b; decide

theorem abs_lt_top (x : EReal) (h : Ideal.cmp .olt (FloatOps.hostAbsf (F := Ideal) (φ := .f32) x) (Ideal.ofBits .f32 0x7F800000#32) = 1#1) :
    x = ((x.toReal : ℝ) : EReal) := by
  replace h : max x (-x) < ⊤ := by rw [← pinf]; exact (Ideal.cmp_olt_eq_one _ _).1 h
  refine (EReal.coe_toReal ?_ ?_).symm
  · rintro rfl; exact absurd h (by simp)
  · rintro rfl; exact absurd h (by simp)

section
variable [Cert.Pre_finite.Facts] {x0 x1 x2 : X3} {x3 : XF} {x4 : X3}

theorem real_of_pre (h : Cert.Pre_finite.fn (F := Ideal) x0 x1 x2 x3 x4 = fun _ => 1#1) :
    (∀ i, x0 i = (((x0 i).toReal : ℝ) : EReal)) ∧ (∀ i, x1 i = (((x1 i).toReal : ℝ) : EReal)) ∧
    (∀ i, x2 i = (((x2 i).toReal : ℝ) : EReal)) ∧ (∀ i, x4 i = (((x4 i).toReal : ℝ) : EReal)) ∧
    (∀ i, x3 i = (((x3 i).toReal : ℝ) : EReal)) := by
  have k : ∀ i, _ := fun i => congrFun h i
  have k1 : ∀ i, _ := fun i => and_one _ _ (k i)
  have k2 : ∀ i, _ := fun i => and_one _ _ (k1 i).1
  have k3 : ∀ i, _ := fun i => and_one _ _ (k2 i).1
  have k4 : ∀ i, _ := fun i => and_one _ _ (k3 i).1
  refine ⟨fun i => abs_lt_top _ (k4 i).1, fun i => abs_lt_top _ (k4 i).2, fun i => abs_lt_top _ (k3 i).2, fun i => abs_lt_top _ (k2 i).2, fun i => ?_⟩
  have h0 : (i 0).val < 4 := (i 0).isLt
  have h1 : (i 1).val < 8 := (i 1).isLt
  have h2 : (i 2).val < 2048 := (i 2).isLt
  let j : S4x2048x1024.Idx := ix3 ⟨(i 0).val, h0⟩ ⟨(i 2).val, h2⟩ ⟨(i 1).val * 128, by omega⟩
  have e := abs_lt_top _ (k1 j).2
  have e' : shapeCast S4x2048x1024 (broadcastInDim S4x2048x8x128 ![0, 1, 2, 3] Cert.Pre_finite.Facts.bcast_S4x2048x8x1_S4x2048x8x128_0_1_2_3
      (broadcastInDim Cert.Pre_finite.S4x2048x8x1 ![0, 1, 2] Cert.Pre_finite.Facts.bcast_S4x2048x8_S4x2048x8x1_0_1_2
        (transpose Cert.Pre_finite.S4x2048x8 [0, 2, 1] x3 Cert.Pre_finite.Facts.transposes_S4x8x2048_S4x2048x8_0_2_1)))
      Cert.Pre_finite.Facts.shapeCasts_S4x2048x8x128_S4x2048x1024 j = x3 i := by
    rw [shapeCast_apply _ _ j (ix4 ⟨(i 0).val, h0⟩ ⟨(i 2).val, h2⟩ ⟨(i 1).val, h1⟩ ⟨0, by omega⟩ : S4x2048x8x128.Idx)
        (by rewrite [Shape.rowMajor_val_three, Shape.rowMajor_val_four]
            show (((i 0).val * 2048 + (i 2).val) * 8 + (i 1).val) * 128 + 0 = ((i 0).val * 2048 + (i 2).val) * 1024 + (i 1).val * 128
            omega),
      broadcastInDim_apply _ _ _ _ (ix4 ⟨(i 0).val, h0⟩ ⟨(i 2).val, h2⟩ ⟨(i 1).val, h1⟩ ⟨0, by omega⟩ : Cert.Pre_finite.S4x2048x8x1.Idx) (fun a => match a with
        | ⟨0, _⟩ => rfl | ⟨1, _⟩ => rfl | ⟨2, _⟩ => rfl | ⟨3, _⟩ => rfl),
      broadcastInDim_apply _ _ _ _ (ix3 ⟨(i 0).val, h0⟩ ⟨(i 2).val, h2⟩ ⟨(i 1).val, h1⟩ : Cert.Pre_finite.S4x2048x8.Idx) (fun a => match a with
        | ⟨0, _⟩ => rfl | ⟨1, _⟩ => rfl | ⟨2, _⟩ => rfl)]
    exact transpose_apply [0, 2, 1] x3 Cert.Pre_finite.Facts.transposes_S4x8x2048_S4x2048x8_0_2_1
      (ix3 ⟨(i 0).val, h0⟩ ⟨(i 2).val, h2⟩ ⟨(i 1).val, h1⟩ : Cert.Pre_finite.S4x2048x8.Idx) i
      (fun b => match b with | ⟨0, _⟩ => rfl | ⟨1, _⟩ => rfl | ⟨2, _⟩ => rfl)
  have e2 : x3 i = (((shapeCast S4x2048x1024 (broadcastInDim S4x2048x8x128 ![0, 1, 2, 3] Cert.Pre_finite.Facts.bcast_S4x2048x8x1_S4x2048x8x128_0_1_2_3
      (broadcastInDim Cert.Pre_finite.S4x2048x8x1 ![0, 1, 2] Cert.Pre_finite.Facts.bcast_S4x2048x8_S4x2048x8x1_0_1_2
        (transpose Cert.Pre_finite.S4x2048x8 [0, 2, 1] x3 Cert.Pre_finite.Facts.transposes_S4x8x2048_S4x2048x8_0_2_1)))
      Cert.Pre_finite.Facts.shapeCasts_S4x2048x8x128_S4x2048x1024 j).toReal : ℝ) : EReal) := e'.symm.trans e
  rw [e'] at e2; exact e2
end

/-- An array's entry as a real, at any three numbers. -/
def at3 (x : X3) (b r c : ℕ) : ℝ := if h : b < 4 ∧ r < 2048 ∧ c < 1024 then (x (ix3 ⟨b, h.1⟩ ⟨r, h.2.1⟩ ⟨c, h.2.2⟩)).toReal else 0
def atF (x : XF) (b h r : ℕ) : ℝ := if k : b < 4 ∧ h < 8 ∧ r < 2048 then (x (ix3 ⟨b, k.1⟩ ⟨h, k.2.1⟩ ⟨r, k.2.2⟩)).toReal else 0

theorem at3_eq (x : X3) (hx : ∀ i, x i = (((x i).toReal : ℝ) : EReal)) (i : S4x2048x1024.Idx) (b r c : ℕ)
    (hb : (i 0).val = b) (hr : (i 1).val = r) (hc : (i 2).val = c) : x i = ((at3 x b r c : ℝ) : EReal) := by
  subst hb hr hc
  have : (i 0).val < 4 ∧ (i 1).val < 2048 ∧ (i 2).val < 1024 := ⟨(i 0).isLt, (i 1).isLt, (i 2).isLt⟩
  rw [at3, dif_pos this]
  refine (hx i).trans (congrArg (fun j => (((x j).toReal : ℝ) : EReal)) ?_)
  funext a; match a with | ⟨0, _⟩ => rfl | ⟨1, _⟩ => rfl | ⟨2, _⟩ => rfl

theorem atF_eq (x : XF) (hx : ∀ i, x i = (((x i).toReal : ℝ) : EReal)) (i : S4x8x2048.Idx) :
    x i = ((atF x (i 0).val (i 1).val (i 2).val : ℝ) : EReal) := by
  have : (i 0).val < 4 ∧ (i 1).val < 8 ∧ (i 2).val < 2048 := ⟨(i 0).isLt, (i 1).isLt, (i 2).isLt⟩
  rw [atF, dif_pos this]
  refine (hx i).trans (congrArg (fun j => (((x j).toReal : ℝ) : EReal)) ?_)
  funext a; match a with | ⟨0, _⟩ => rfl | ⟨1, _⟩ => rfl | ⟨2, _⟩ => rfl

/-- The head `h` of batch row `b`. -/
def head (x0 x1 x2 : X3) (x3 : XF) (x4 : X3) (b h : ℕ) : Hd where
  q r d := at3 x0 b r (h * 128 + d)
  k r d := at3 x1 b r (h * 128 + d)
  v r d := at3 x2 b r (h * 128 + d)
  g r d := at3 x4 b r (h * 128 + d)
  f r := atF x3 b h r
  M r := atF (val_main_v21 (F := Ideal) x0 x1 x3) b h r

/-- A maximum of finitely many reals or `-∞`, not all of them `-∞`, is a real. -/
theorem real_max {n : ℕ} (f : Fin n → EReal) (ht : ∀ k, f k ≠ ⊤) (k0 : Fin n) (hb : f k0 ≠ ⊥) :
    (Finset.univ : Finset (Fin n)).fold max ⊥ f = ((((Finset.univ : Finset (Fin n)).fold max ⊥ f).toReal : ℝ) : EReal) := by
  refine (EReal.coe_toReal (ne_of_lt ?_) (ne_of_gt ?_)).symm
  · exact (Finset.fold_max_lt _).2 ⟨bot_lt_top, fun k _ => lt_top_iff_ne_top.2 (ht k)⟩
  · exact (Finset.lt_fold_max _).2 (Or.inr ⟨k0, Finset.mem_univ _, bot_lt_iff_ne_bot.2 hb⟩)

theorem rep [Cert.Pre_finite.Facts] {x0 x1 x2 : X3} {x3 : XF} {x4 : X3} (h : Cert.Pre_finite.fn (F := Ideal) x0 x1 x2 x3 x4 = fun _ => 1#1) :
    Rep (head x0 x1 x2 x3 x4) x0 x1 x2 x3 x4 := by
  obtain ⟨h0, h1, h2, h4, h3⟩ := real_of_pre h
  have R0 : Rep0 (head x0 x1 x2 x3 x4) x0 x1 x2 x3 x4 :=
    { hq := fun i b h r d eb er ed _ => at3_eq x0 h0 i b r _ eb er ed
      hk := fun i b h r d eb er ed _ => at3_eq x1 h1 i b r _ eb er ed
      hv := fun i b h r d eb er ed _ => at3_eq x2 h2 i b r _ eb er ed
      hg := fun i b h r d eb er ed _ => at3_eq x4 h4 i b r _ eb er ed
      hf := fun i => atF_eq x3 h3 i }
  refine { toRep0 := R0, hM := fun i => atF_eq _ (fun i => ?_) i }
  have e : val_main_v21 (F := Ideal) x0 x1 x3 i = (Finset.univ : Finset (Fin 2048)).fold max ⊥
      (fun k => val_main_v20_0 (F := Ideal) x0 x1 x3 (ix4 (i 0) (i 1) (i 2) k)) := by
    unfold val_main_v21
    simp only [pointwise]
    rw [val_main_cst_1_apply, Ideal.ofBits_def, ninf]
  rw [e]
  refine real_max _ (fun k => ?_) (i 2) ?_
  · rw [R0.v20_0]; split
    · exact EReal.coe_ne_top _
    · exact bot_ne_top
  · rw [R0.v20_0]
    exact ne_of_eq_of_ne (if_pos (show (i 2).val ≤ (i 2).val from le_rfl)) (EReal.coe_ne_bot _)

end Cert.Val
-- ==== Proof.Val.Host.lean ====
/- What the arrays hold that the grid reads: the scaled queries, the keys beside the values, the forward pass's output and
   row constants, the biases twice. -/
module

public import proofs.«01_k».proof.Proof.Val.Ref
public import proofs.«01_k».proof.Proof.AttnI.Kit

@[expose] public section

set_option maxRecDepth 16384

noncomputable section

namespace Cert.Val

open Cert.KernelIdeal Cert.KernelIdeal.Gen Cert.KernelIdeal.Attn Cert.ReferenceIdeal.Read Idealize.ShloMosaic Idealize.ShloMosaic.TcCoe
  Idealize.ShloMosaic.StableHlo Idealize.SL.Sem

variable (m : (ℓ : Loc nD τ sig) → Buf (Elt Ideal) ℓ) (c : Dev nD)

abbrev a0 : X3 := m ((c : Thread nD τ).loc main_arg0)
abbrev a1 : X3 := m ((c : Thread nD τ).loc main_arg1)
abbrev a2 : X3 := m ((c : Thread nD τ).loc main_arg2)
abbrev a3 : XF := m ((c : Thread nD τ).loc main_arg3)
abbrev a4 : X3 := m ((c : Thread nD τ).loc main_arg4)

set_option maxHeartbeats 4000000

theorem V_q : V m c main_v74 = fun i => val_main_v1 (F := Ideal) (a0 m c) i := by
  unfold V
  simp only [hostLines, hostOps0, hostOps0_1, hostOps0_2, hostOps0_3, hostOps0_4, List.flatten_cons, List.flatten_nil, List.append_nil, List.cons_append, List.nil_append,
    TRef.nullary, TRef.ternary, TRef.unary, TRef.toBuf, TRef.ofBuf, cast_eq]
  after_results_simp <;> rfl

theorem V_kv : V m c main_v76 = concatenate S4x2048x2048 2 [⟨S4x2048x1024, a1 m c⟩, ⟨S4x2048x1024, a2 m c⟩] concatenates_S4x2048x1024_S4x2048x1024_S4x2048x2048_d2 := by
  unfold V
  simp only [hostLines, hostOps0, hostOps0_1, hostOps0_2, hostOps0_3, hostOps0_4, List.flatten_cons, List.flatten_nil, List.append_nil, List.cons_append, List.nil_append,
    TRef.nullary, TRef.ternary, TRef.unary, TRef.toBuf, TRef.ofBuf, cast_eq]
  after_results_simp <;> rfl

theorem V_o : V m c main_v36 = val_main_v53 (F := Ideal) (a0 m c) (a1 m c) (a2 m c) (a3 m c) := by
  unfold V
  simp only [hostLines, hostOps0, hostOps0_1, hostOps0_2, hostOps0_3, hostOps0_4, List.flatten_cons, List.flatten_nil, List.append_nil, List.cons_append, List.nil_append,
    TRef.nullary, TRef.ternary, TRef.unary, TRef.toBuf, TRef.ofBuf, cast_eq]
  after_results_simp <;> rfl

/-- The rows' constants from a row maximum `M`. -/
def lse (e : (⟨S4x8x2048x2048, .f32⟩ : BufTy).Contents (Elt Ideal)) (M : (⟨S4x8x2048, .f32⟩ : BufTy).Contents (Elt Ideal)) :
    (⟨S4x8x2048x1, .f32⟩ : BufTy).Contents (Elt Ideal) :=
  addf (broadcastInDim S4x8x2048x1 ![0, 1, 2] bcast_S4x8x2048_S4x8x2048x1_0_1_2 M)
    (Host.log (F := Ideal) (φ := .f32) (broadcastInDim S4x8x2048x1 ![0, 1, 2] bcast_S4x8x2048_S4x8x2048x1_0_1_2
      (Host.reduceAdd (F := Ideal) (φ := .f32) (Host.exp (F := Ideal) (φ := .f32) (subf (F := Ideal) (φ := .f32) e (broadcastInDim S4x8x2048x2048 ![0, 1, 2, 3] bcast_S4x8x2048x1_S4x8x2048x2048_0_1_2_3
        (broadcastInDim S4x8x2048x1 ![0, 1, 2] bcast_S4x8x2048_S4x8x2048x1_0_1_2 M)))) (constant S_ .f32 0x00000000#32) reducesTo_S4x8x2048x2048_S4x8x2048_d3 h_S_)))

theorem V_l : V m c main_v67 = shapeCast S32x1x2048 (lse (val_main_v20_0 (F := Ideal) (a0 m c) (a1 m c) (a3 m c)) (val_main_v21 (F := Ideal) (a0 m c) (a1 m c) (a3 m c))) shapeCasts_S4x8x2048x1_S32x1x2048 := by
  unfold V
  simp only [hostLines, hostOps0, hostOps0_1, hostOps0_2, hostOps0_3, hostOps0_4, List.flatten_cons, List.flatten_nil, List.append_nil, List.cons_append, List.nil_append,
    TRef.nullary, TRef.ternary, TRef.unary, TRef.toBuf, TRef.ofBuf, cast_eq]
  after_results_simp <;> rfl

theorem V_fc : V m c main_v70 = broadcastInDim S32x2048x128 ![0, 1, 2] bcast_S32x2048x1_S32x2048x128_0_1_2
    (broadcastInDim S32x2048x1 ![0, 1] bcast_S32x2048_S32x2048x1_0_1 (shapeCast S32x2048 (a3 m c) shapeCasts_S4x8x2048_S32x2048)) := by
  unfold V
  simp only [hostLines, hostOps0, hostOps0_1, hostOps0_2, hostOps0_3, hostOps0_4, List.flatten_cons, List.flatten_nil, List.append_nil, List.cons_append, List.nil_append,
    TRef.nullary, TRef.ternary, TRef.unary, TRef.toBuf, TRef.ofBuf, cast_eq]
  after_results_simp <;> rfl

theorem V_fr : V m c main_v71 = shapeCast S32x1x2048 (shapeCast S32x2048 (a3 m c) shapeCasts_S4x8x2048_S32x2048) shapeCasts_S32x2048_S32x1x2048 := by
  unfold V
  simp only [hostLines, hostOps0, hostOps0_1, hostOps0_2, hostOps0_3, hostOps0_4, List.flatten_cons, List.flatten_nil, List.append_nil, List.cons_append, List.nil_append,
    TRef.nullary, TRef.ternary, TRef.unary, TRef.toBuf, TRef.ofBuf, cast_eq]
  after_results_simp <;> rfl

end Cert.Val
-- ==== Proof.Val.HostAt.lean ====
/- The arrays the grid reads, entry by entry, in terms of the heads. -/
module

public import proofs.«01_k».proof.Proof.Val.Host
public import Idealize.ShloMosaic.Lib.ValueIdxCore

@[expose] public section

set_option maxRecDepth 16384

noncomputable section

namespace Cert.Val

open Cert.KernelIdeal Cert.KernelIdeal.Gen Cert.KernelIdeal.Attn Cert.ReferenceIdeal.Read Idealize.ShloMosaic Idealize.ShloMosaic.TcCoe
  Idealize.ShloMosaic.StableHlo Idealize.SL.Sem

variable {m : (ℓ : Loc nD τ sig) → Buf (Elt Ideal) ℓ} {c : Dev nD} {hd : ℕ → ℕ → Hd}

theorem at_q (R : Rep hd (a0 m c) (a1 m c) (a2 m c) (a3 m c) (a4 m c)) (i : S4x2048x1024.Idx) (b h r d : ℕ) (hb : (i 0).val = b) (hr : (i 1).val = r)
    (hh : (i 2).val = h * 128 + d) (hd' : d < 128) : V m c main_v74 i = (((hd b h).q r d * sc : ℝ) : EReal) := by
  refine (congrFun (V_q m c) i).trans ?_
  show val_main_v1 (F := Ideal) (a0 m c) i = _
  rw [val_main_v1_apply, val_main_v0_apply, val_main_cst_apply, Ideal.mulf_def, Ideal.ofBits_def, sc_coe, R.hq i b h r d hb hr hh hd', EReal.coe_mul]

theorem at_k (R : Rep hd (a0 m c) (a1 m c) (a2 m c) (a3 m c) (a4 m c)) (i : S4x2048x2048.Idx) (b h r d : ℕ) (hb : (i 0).val = b) (hr : (i 1).val = r)
    (hh : (i 2).val = h * 128 + d) (hd' : d < 128) (hh8 : h < 8) : V m c main_v76 i = (((hd b h).k r d : ℝ) : EReal) := by
  have l0 : b < 4 := hb ▸ (i 0).isLt
  have l1 : r < 2048 := hr ▸ (i 1).isLt
  refine (congrFun (V_kv m c) i).trans ?_
  refine (concatenate_pair_apply_left (t := S4x2048x2048) (s₁ := S4x2048x1024) (s₂ := S4x2048x1024) 2 (a1 m c) (a2 m c) _ i rfl
    (Idealize.ShloMosaic.ValueIdx.ix3 (⟨b, l0⟩ : Fin 4) (⟨r, l1⟩ : Fin 2048) (⟨h * 128 + d, by omega⟩ : Fin 1024))
    (fun a => match a with | ⟨0, _⟩ => hb.symm | ⟨1, _⟩ => hr.symm | ⟨2, _⟩ => hh.symm)).trans ?_
  exact R.hk _ b h r d rfl rfl rfl hd'

theorem at_v (R : Rep hd (a0 m c) (a1 m c) (a2 m c) (a3 m c) (a4 m c)) (i : S4x2048x2048.Idx) (b h r d : ℕ) (hb : (i 0).val = b) (hr : (i 1).val = r)
    (hh : (i 2).val = (8 + h) * 128 + d) (hd' : d < 128) (hh8 : h < 8) : V m c main_v76 i = (((hd b h).v r d : ℝ) : EReal) := by
  have l0 : b < 4 := hb ▸ (i 0).isLt
  have l1 : r < 2048 := hr ▸ (i 1).isLt
  refine (congrFun (V_kv m c) i).trans ?_
  refine (concatenate_pair_apply_right (t := S4x2048x2048) (s₁ := S4x2048x1024) (s₂ := S4x2048x1024) 2 (a1 m c) (a2 m c) _ i rfl rfl
    (Idealize.ShloMosaic.ValueIdx.ix3 (⟨b, l0⟩ : Fin 4) (⟨r, l1⟩ : Fin 2048) (⟨h * 128 + d, by omega⟩ : Fin 1024))
    (fun a ha => match a, ha with | ⟨0, _⟩, _ => hb.symm | ⟨1, _⟩, _ => hr.symm | ⟨2, _⟩, ha => absurd rfl ha) ?_).trans ?_
  · refine Eq.trans ?_ hh.symm
    show h * 128 + d + 1024 = (8 + h) * 128 + d; omega
  · exact R.hv _ b h r d rfl rfl rfl hd'

theorem at_g (R : Rep hd (a0 m c) (a1 m c) (a2 m c) (a3 m c) (a4 m c)) (i : S4x2048x1024.Idx) (b h r d : ℕ) (hb : (i 0).val = b) (hr : (i 1).val = r)
    (hh : (i 2).val = h * 128 + d) (hd' : d < 128) : V m c main_arg4 i = (((hd b h).g r d : ℝ) : EReal) :=
  (congrFun (V_arg4 m c) i).trans (R.hg i b h r d hb hr hh hd')

theorem at_o (R : Rep hd (a0 m c) (a1 m c) (a2 m c) (a3 m c) (a4 m c)) (i : S4x2048x1024.Idx) (b h r d : ℕ) (hb : (i 0).val = b) (hr : (i 1).val = r)
    (hh : (i 2).val = h * 128 + d) (hd' : d < 128) : V m c main_v36 i = (((hd b h).o r d : ℝ) : EReal) := by
  refine (congrFun (V_o m c) i).trans ((R.v53 i).trans ?_)
  have e1 : (i 2).val / 128 = h := by omega
  have e2 : (i 2).val % 128 = d := by omega
  rw [e1, e2, hb, hr]

theorem lse_eq (x0 x1 : X3) (x3 : XF) : lse (val_main_v20_0 (F := Ideal) x0 x1 x3) (val_main_v28 (F := Ideal) x0 x1 x3)
    = addf (val_main_v38 (F := Ideal) x0 x1 x3) (Host.log (F := Ideal) (φ := .f32) (val_main_v43 (F := Ideal) x0 x1 x3)) := rfl

theorem add_log (X Y : (⟨S4x8x2048x1, .f32⟩ : BufTy).Contents (Elt Ideal)) (j : S4x8x2048x1.Idx) :
    (addf (F := Ideal) (φ := .f32) X (Host.log (F := Ideal) (φ := .f32) Y)) j = (X j + Ideal.log (Y j) : EReal) := rfl

theorem drop1 {α : Type} (X : S4x8x2048x1.Idx → α) (i : S32x1x2048.Idx) (b : Fin 4) (h : Fin 8) (r : Fin 2048) (hb : (i 0).val = b.val * 8 + h.val)
    (hr : (i 2).val = r.val) : shapeCast S32x1x2048 X shapeCasts_S4x8x2048x1_S32x1x2048 i = X (Idealize.ShloMosaic.ValueIdx.ix4 b h r (0 : Fin 1)) := by
  have l2 : (i 1).val < 1 := (i 1).isLt
  refine shapeCast_apply _ _ i (Idealize.ShloMosaic.ValueIdx.ix4 b h r (0 : Fin 1)) ?_
  rw [Shape.rowMajor_val_three, Shape.rowMajor_val_four]
  show ((b.val * 8 + h.val) * 2048 + r.val) * 1 + 0 = ((i 0).val * 1 + (i 1).val) * 2048 + (i 2).val
  omega

theorem lse_at {x0 x1 x2 : X3} {x3 : XF} {x4 : X3} (R : Rep hd x0 x1 x2 x3 x4) (b : Fin 4) (h : Fin 8) (r : Fin 2048) :
    lse (val_main_v20_0 (F := Ideal) x0 x1 x3) (val_main_v28 (F := Ideal) x0 x1 x3) (Idealize.ShloMosaic.ValueIdx.ix4 b h r (0 : Fin 1))
      = (((hd b.val h.val).M r.val + Real.log ((hd b.val h.val).l r.val) : ℝ) : EReal) := by
  have e1 : val_main_v38 (F := Ideal) x0 x1 x3 (Idealize.ShloMosaic.ValueIdx.ix4 b h r (0 : Fin 1)) = (((hd b.val h.val).M r.val : ℝ) : EReal) :=
    (val_main_v38_apply x0 x1 x3 _).trans (R.v28 _)
  have e2 : val_main_v43 (F := Ideal) x0 x1 x3 (Idealize.ShloMosaic.ValueIdx.ix4 b h r (0 : Fin 1)) = (((hd b.val h.val).l r.val : ℝ) : EReal) := R.v43 _
  rw [lse_eq, add_log, e1, e2, Ideal.log_coe, if_neg (not_le.2 ((hd b.val h.val).l_pos r.isLt)), EReal.coe_add]

theorem v21_eq {x0 x1 x2 : X3} {x3 : XF} {x4 : X3} (R : Rep hd x0 x1 x2 x3 x4) :
    val_main_v21 (F := Ideal) x0 x1 x3 = val_main_v28 (F := Ideal) x0 x1 x3 :=
  funext fun j => (R.hM j).trans (R.v28 j).symm

theorem at_l (R : Rep hd (a0 m c) (a1 m c) (a2 m c) (a3 m c) (a4 m c)) (i : S32x1x2048.Idx) (b : Fin 4) (h : Fin 8) (r : Fin 2048)
    (hb : (i 0).val = b.val * 8 + h.val) (hr : (i 2).val = r.val) :
    V m c main_v67 i = (((hd b.val h.val).M r.val + Real.log ((hd b.val h.val).l r.val) : ℝ) : EReal) := by
  refine (congrFun (V_l m c) i).trans ?_
  rw [v21_eq R]
  exact (drop1 _ i b h r hb hr).trans (lse_at R b h r)

theorem at_l' (R : Rep hd (a0 m c) (a1 m c) (a2 m c) (a3 m c) (a4 m c)) (i : S32x1x2048.Idx) (b : Fin 4) (h : Fin 8) (r : ℕ)
    (hb : (i 0).val = b.val * 8 + h.val) (hr : (i 2).val = r) :
    V m c main_v67 i = (((hd b.val h.val).M r + Real.log ((hd b.val h.val).l r) : ℝ) : EReal) :=
  at_l R i b h ⟨r, hr ▸ (i 2).isLt⟩ hb hr

theorem at_f (R : Rep hd (a0 m c) (a1 m c) (a2 m c) (a3 m c) (a4 m c)) (j : S32x2048.Idx) (b h r : ℕ) (hb : (j 0).val = b * 8 + h)
    (hr : (j 1).val = r) (hb4 : b < 4) (hh8 : h < 8) :
    shapeCast S32x2048 (a3 m c) shapeCasts_S4x8x2048_S32x2048 j = (((hd b h).f r : ℝ) : EReal) := by
  have l1 : r < 2048 := hr ▸ (j 1).isLt
  refine (shapeCast_apply _ _ j (Idealize.ShloMosaic.ValueIdx.ix3 (⟨b, hb4⟩ : Fin 4) (⟨h, hh8⟩ : Fin 8) (⟨r, l1⟩ : Fin 2048)) ?_).trans (R.hf _)
  rw [Shape.rowMajor_val_two, Shape.rowMajor_val_three]
  show (b * 8 + h) * 2048 + r = (j 0).val * 2048 + (j 1).val
  omega

theorem at_fc (R : Rep hd (a0 m c) (a1 m c) (a2 m c) (a3 m c) (a4 m c)) (i : S32x2048x128.Idx) (b h r : ℕ) (hb : (i 0).val = b * 8 + h)
    (hr : (i 1).val = r) (hb4 : b < 4) (hh8 : h < 8) : V m c main_v70 i = (((hd b h).f r : ℝ) : EReal) := by
  have l1 : r < 2048 := hr ▸ (i 1).isLt
  refine (congrFun (V_fc m c) i).trans ?_
  refine (broadcastInDim_apply (s := S32x2048x1) (t := S32x2048x128) ![0, 1, 2] _ _ i (Idealize.ShloMosaic.ValueIdx.ix3 (⟨b * 8 + h, by omega⟩ : Fin 32) (⟨r, l1⟩ : Fin 2048) (0 : Fin 1))
    (fun a => match a with | ⟨0, _⟩ => hb.symm | ⟨1, _⟩ => hr.symm | ⟨2, _⟩ => rfl)).trans ?_
  refine (broadcastInDim_apply (s := S32x2048) (t := S32x2048x1) ![0, 1] _ _ _ (Idealize.ShloMosaic.ValueIdx.ix2 (⟨b * 8 + h, by omega⟩ : Fin 32) (⟨r, l1⟩ : Fin 2048))
    (fun a => match a with | ⟨0, _⟩ => rfl | ⟨1, _⟩ => rfl)).trans ?_
  exact at_f R _ b h r rfl rfl hb4 hh8

theorem at_fr (R : Rep hd (a0 m c) (a1 m c) (a2 m c) (a3 m c) (a4 m c)) (i : S32x1x2048.Idx) (b h r : ℕ) (hb : (i 0).val = b * 8 + h)
    (hr : (i 2).val = r) (hb4 : b < 4) (hh8 : h < 8) : V m c main_v71 i = (((hd b h).f r : ℝ) : EReal) := by
  have l1 : r < 2048 := hr ▸ (i 2).isLt
  have l2 : (i 1).val < 1 := (i 1).isLt
  refine (congrFun (V_fr m c) i).trans ?_
  refine (shapeCast_apply _ _ i (Idealize.ShloMosaic.ValueIdx.ix2 (⟨b * 8 + h, by omega⟩ : Fin 32) (⟨r, l1⟩ : Fin 2048)) ?_).trans (at_f R _ b h r rfl rfl hb4 hh8)
  rw [Shape.rowMajor_val_two, Shape.rowMajor_val_three]
  show (b * 8 + h) * 2048 + r = ((i 0).val * 1 + (i 1).val) * 2048 + (i 2).val
  omega

end Cert.Val
-- ==== Proof.Val.Pay.lean ====
/- One grid point's arithmetic: from blocks that hold a head's rows, the tile of weights, the tile of their gradients, and what the
   point adds to each accumulator. -/
module

public import proofs.«01_k».proof.Proof.Val.Ref
public import proofs.«01_k».proof.Proof.AttnI.Scr
public import Idealize.ShloMosaic.Lib.MatmulPlain
public import Idealize.ShloMosaic.Lib.Pipeline.Value
public import Idealize.ShloMosaic.Lib.Pointwise.Contract
public import Idealize.ShloMosaic.Lib.IdealHost

@[expose] public section

set_option maxRecDepth 16384

noncomputable section

namespace Cert.Val

open Cert.KernelIdeal Cert.KernelIdeal.Gen Cert.KernelIdeal.Attn Idealize.ShloMosaic Idealize.ShloMosaic.TcCoe

/-- The eight blocks of a point hold query rows from `512 * A` and key rows from `512 * B` of the head `H`. -/
structure Blk (H : Hd) (A B : ℕ) (x : Ins Ideal) : Prop where
  q : ∀ (r : Fin 512) (d : Fin 128), x.q (ix3 0 r d) = ((H.q (512 * A + r.val) d.val * sc : ℝ) : EReal)
  k : ∀ (r : Fin 512) (d : Fin 128), x.k (ix3 0 r d) = ((H.k (512 * B + r.val) d.val : ℝ) : EReal)
  v : ∀ (r : Fin 512) (d : Fin 128), x.v (ix3 0 r d) = ((H.v (512 * B + r.val) d.val : ℝ) : EReal)
  g : ∀ (r : Fin 512) (d : Fin 128), x.g (ix3 0 r d) = ((H.g (512 * A + r.val) d.val : ℝ) : EReal)
  o : B = 0 → ∀ (r : Fin 512) (d : Fin 128), x.o (ix3 0 r d) = ((H.o (512 * A + r.val) d.val : ℝ) : EReal)
  l : ∀ r : Fin 512, x.l (ix3 0 0 r) = ((H.M (512 * A + r.val) + Real.log (H.l (512 * A + r.val)) : ℝ) : EReal)
  a : ∀ (r : Fin 512) (d : Fin 128), x.a (ix3 0 r d) = ((H.f (512 * B + r.val) : ℝ) : EReal)
  b : ∀ r : Fin 512, x.b (ix3 0 0 r) = ((H.f (512 * A + r.val) : ℝ) : EReal)

/-! ## Moves -/

theorem sq {α : Type} (X : S1x512x128.Idx → α) (h : S1x512x128.ShapeCasts S512x128) (r : Fin 512) (d : Fin 128) :
    shapeCast S512x128 X h (ix2 r d) = X (ix3 0 r d) :=
  shapeCast_apply X h (ix2 r d) (ix3 0 r d) (by
    rw [Shape.rowMajor_val_three, Shape.rowMajor_val_two]
    show (0 * 512 + r.val) * 128 + d.val = r.val * 128 + d.val; omega)

theorem usq {α : Type} (X : S512x128.Idx → α) (h : S512x128.ShapeCasts S1x512x128) (r : Fin 512) (d : Fin 128) :
    shapeCast S1x512x128 X h (ix3 0 r d) = X (ix2 r d) :=
  shapeCast_apply X h (ix3 0 r d) (ix2 r d) (by
    rw [Shape.rowMajor_val_three, Shape.rowMajor_val_two]
    show r.val * 128 + d.val = (0 * 512 + r.val) * 128 + d.val; omega)

theorem row {α : Type} (X : S1x1x512.Idx → α) (h : S1x1x512.ShapeCasts S1x512) (r : Fin 512) :
    shapeCast S1x512 X h (ix2 0 r) = X (ix3 0 0 r) :=
  shapeCast_apply X h (ix2 0 r) (ix3 0 0 r) (by
    rw [Shape.rowMajor_val_three, Shape.rowMajor_val_two]
    show (0 * 1 + 0) * 512 + r.val = 0 * 512 + r.val; omega)

theorem lift1 {α : Type} (X : S512.Idx → α) (h : S512.ShapeCasts S1x512) (r : Fin 512) :
    shapeCast S1x512 X h (ix2 0 r) = X (ix1 r) :=
  shapeCast_apply X h (ix2 0 r) (ix1 r) (by
    rw [Shape.rowMajor_val_one, Shape.rowMajor_val_two]
    show r.val = 0 * 512 + r.val; omega)

theorem self {s : Shape} {α : Type} (X : s.Idx → α) (h : s.ShapeCasts s) : shapeCast s X h = X :=
  funext fun j => shapeCast_apply X h j j rfl

theorem brow {α : Type} (X : S1x512.Idx → α) (h : S1x512.Broadcasts S512x512) (b a : Fin 512) :
    broadcastTo S512x512 X h (ix2 b a) = X (ix2 0 a) :=
  broadcastTo_apply X h (ix2 b a) (ix2 0 a) (fun c => match c with | ⟨0, _⟩ => rfl | ⟨1, _⟩ => rfl)

/-- Four copies of a block whose columns are all alike. -/
theorem cat4 {α : Type} (X : S512x128.Idx → α) (h) (f : Fin 512 → α) (hX : ∀ (r : Fin 512) (d : Fin 128), X (ix2 r d) = f r) (b a : Fin 512) :
    concatenate S512x512 1 [⟨S512x128, X⟩, ⟨S512x128, X⟩, ⟨S512x128, X⟩, ⟨S512x128, X⟩] h (ix2 b a) = f b := by
  have e : ([⟨S512x128, X⟩, ⟨S512x128, X⟩, ⟨S512x128, X⟩, ⟨S512x128, X⟩] : List ((s : Shape) × (s.Idx → α))) = List.replicate 4 ⟨S512x128, X⟩ := rfl
  refine (concatenate_replicate_apply (t := S512x512) (s₁ := S512x128) 1 4 X h rfl (ix2 b a) (ix2 b ⟨a.val % 128, Nat.mod_lt _ (by decide)⟩) rfl
    (fun c hc => ?_)).trans (hX _ _)
  match c with
  | ⟨0, _⟩ => rfl
  | ⟨1, _⟩ => exact absurd rfl hc

/-- A block beside a block. -/
theorem cat2 {α : Type} (X Y : S512x128.Idx → α) (h) (r : Fin 512) (d : Fin 256) :
    concatenate S512x256 1 [⟨S512x128, X⟩, ⟨S512x128, Y⟩] h (ix2 r d)
      = if hd : d.val < 128 then X (ix2 r ⟨d.val, hd⟩) else Y (ix2 r ⟨d.val - 128, by have := d.isLt; omega⟩) := by
  by_cases hd : d.val < 128
  · rw [dif_pos hd]
    exact concatenate_pair_apply_left (t := S512x256) 1 X Y h (ix2 r d) rfl (ix2 r ⟨d.val, hd⟩) (fun c => match c with | ⟨0, _⟩ => rfl | ⟨1, _⟩ => rfl)
  · rw [dif_neg hd]
    refine concatenate_pair_apply_right (t := S512x256) 1 X Y h (ix2 r d) rfl rfl (ix2 r ⟨d.val - 128, by have := d.isLt; omega⟩) (fun c hc => ?_) ?_
    · match c with
      | ⟨0, _⟩ => rfl
      | ⟨1, _⟩ => exact absurd rfl hc
    · show d.val - 128 + 128 = d.val; omega

/-! ## Products -/

theorem mmT (P : Option ContractPrecision) {φ φ' : FTy} (X : FVec Ideal S512x128 φ) (Y : FVec Ideal S512x128 φ') (acc : FVec Ideal S512x512 .f32) (b a : Fin 512) :
    matmul dot_S512x128_S512x128_S512x512_1_1_0_0_n_n P X Y acc (ix2 b a) = acc (ix2 b a) + ∑ d : Fin 128, X (ix2 b d) * Y (ix2 a d) :=
  Ideal.matmul_transposedRhs_apply P X Y acc b a
theorem mmP (P : Option ContractPrecision) {φ φ' : FTy} (X : FVec Ideal S512x512 φ) (Y : FVec Ideal S512x128 φ') (acc : FVec Ideal S512x128 .f32) (b : Fin 512) (d : Fin 128) :
    matmul dot_S512x512_S512x128_S512x128_1_0_0_1_n_n P X Y acc (ix2 b d) = acc (ix2 b d) + ∑ a : Fin 512, X (ix2 b a) * Y (ix2 a d) :=
  Ideal.matmul_plain_apply P X Y acc b d
theorem mmP2 (P : Option ContractPrecision) {φ φ' : FTy} (X : FVec Ideal S512x512 φ) (Y : FVec Ideal S512x256 φ') (acc : FVec Ideal S512x256 .f32) (b : Fin 512) (d : Fin 256) :
    matmul dot_S512x512_S512x256_S512x256_1_0_0_1_n_n P X Y acc (ix2 b d) = acc (ix2 b d) + ∑ a : Fin 512, X (ix2 b a) * Y (ix2 a d) :=
  Ideal.matmul_plain_apply P X Y acc b d
theorem mm8 (P : Option ContractPrecision) {φ φ' : FTy} (X : FVec Ideal S8x128 φ) (Y : FVec Ideal S512x128 φ') (acc : FVec Ideal S8x512 .f32) (b : Fin 8) (a : Fin 512) :
    matmul dot_S8x128_S512x128_S8x512_1_1_0_0_n_n P X Y acc (ix2 b a) = acc (ix2 b a) + ∑ d : Fin 128, X (ix2 b d) * Y (ix2 a d) :=
  Ideal.matmul_transposedRhs_apply P X Y acc b a
theorem mmN (P : Option ContractPrecision) {φ φ' : FTy} (X : FVec Ideal S512x512 φ) (Y : FVec Ideal S512x128 φ') (acc : FVec Ideal S512x128 .f32) (a : Fin 512) (d : Fin 128) :
    matmul dot_S512x512_S512x128_S512x128_0_0_1_1_n_n P X Y acc (ix2 a d) = acc (ix2 a d) + ∑ b : Fin 512, X (ix2 b a) * Y (ix2 b d) := by
  refine Ideal.matmul_apply₁_of dot_S512x512_S512x128_S512x128_0_0_1_1_n_n rfl (K := 512) rfl X Y acc (ix2 a d) (fun b => ix2 b a) (fun b => ix2 b d) (fun b => ?_) (fun b => ?_)
  · funext c; match c with
    | ⟨0, _⟩ => rfl
    | ⟨1, _⟩ => rfl
  · funext c; match c with
    | ⟨0, _⟩ => rfl
    | ⟨1, _⟩ => rfl

theorem zf {s : Shape} (j : s.Idx) : constant (F := Ideal) s .f32 0x00000000#32 j = 0 := Ideal.ofBits_zero_f32

/-! ## The tile of weights -/

variable {H : Hd} {A B : ℕ} {x : Ins Ideal}

theorem qk_tile (hx : Blk H A B x) (b a : Fin 512) :
    matmul (φ₁ := .bf16) (φ₂ := .bf16) dot_S512x128_S512x128_S512x512_1_1_0_0_n_n none (shapeCast S512x128 x.k shapeCasts_S1x512x128_S512x128) (shapeCast S512x128 x.q shapeCasts_S1x512x128_S512x128)
      (constant (F := Ideal) S512x512 .f32 0x00000000#32) (ix2 b a) = ((H.qk (512 * A + a.val) (512 * B + b.val) : ℝ) : EReal) := by
  rw [mmT, zf, zero_add]
  simp only [sq, hx.k, hx.q]
  rw [sum_fin_mul (fun d => H.k (512 * B + b.val) d) (fun d => H.q (512 * A + a.val) d * sc), Hd.qk]
  exact congrArg _ (Finset.sum_congr rfl fun d _ => mul_comm _ _)

theorem fk_tile (hx : Blk H A B x) (b a : Fin 512) :
    concatenate S512x512 1 [⟨S512x128, shapeCast S512x128 x.a shapeCasts_S1x512x128_S512x128⟩, ⟨S512x128, shapeCast S512x128 x.a shapeCasts_S1x512x128_S512x128⟩,
      ⟨S512x128, shapeCast S512x128 x.a shapeCasts_S1x512x128_S512x128⟩, ⟨S512x128, shapeCast S512x128 x.a shapeCasts_S1x512x128_S512x128⟩]
      concatenates_S512x128_S512x128_S512x128_S512x128_S512x512_d1 (ix2 b a) = ((H.f (512 * B + b.val) : ℝ) : EReal) :=
  cat4 _ _ (fun r => ((H.f (512 * B + r.val) : ℝ) : EReal)) (fun r d => by rw [sq]; exact hx.a r d) b a

theorem fq_tile (hx : Blk H A B x) (b a : Fin 512) :
    broadcastTo S512x512 (shapeCast S1x512 x.b shapeCasts_S1x1x512_S1x512) broadcasts_S1x512_S512x512 (ix2 b a) = ((H.f (512 * A + a.val) : ℝ) : EReal) := by
  rw [brow, row]; exact hx.b a

theorem l_tile (hx : Blk H A B x) (b a : Fin 512) :
    broadcastTo S512x512 (shapeCast S1x512 x.l shapeCasts_S1x1x512_S1x512) broadcasts_S1x512_S512x512 (ix2 b a)
      = ((H.M (512 * A + a.val) + Real.log (H.l (512 * A + a.val)) : ℝ) : EReal) := by
  rw [brow, row]; exact hx.l a

/-- The weights of a block above the diagonal. -/
theorem p_above (hx : Blk H A B x) (hA : A < 4) (hBA : B < A) (b a : Fin 512) :
    k0_pay15 x.q x.k x.a x.b x.l (ix2 b a) = ((H.p (512 * A + a.val) (512 * B + b.val) : ℝ) : EReal) := by
  have ha := a.isLt
  have hb := b.isLt
  rw [H.p_exp (by omega) (by omega), ← Ideal.exp_coe, EReal.coe_sub, EReal.coe_add, EReal.coe_sub, ← qk_tile hx b a, ← fk_tile hx b a, ← fq_tile hx b a, ← l_tile hx b a]
  rfl

/-- The weights of a block on the diagonal. -/
theorem p_diag (hx : Blk H A A x) (hA : A < 4) (b a : Fin 512) :
    k0_pay23 (BitVec.ofNat 32 A) (BitVec.ofNat 32 A) x.q x.k x.a x.b x.l (ix2 b a) = ((H.p (512 * A + a.val) (512 * A + b.val) : ℝ) : EReal) := by
  have ha := a.isLt
  have hb := b.isLt
  have hc : IntOp.cmpi .sge (BitVec.ofNat 32 (0 * 512 + a.val) + BitVec.ofNat 32 A * 512#32) (BitVec.ofNat 32 (0 * 512 + b.val) + BitVec.ofNat 32 A * 512#32)
      = if b.val ≤ a.val then 1#1 else 0#1 := by
    have e : ∀ n : ℕ, BitVec.ofNat 32 n + BitVec.ofNat 32 A * 512#32 = BitVec.ofNat 32 (n + A * 512) := fun n => by
      rw [BitVec.ofNat_add, BitVec.ofNat_mul]
    rw [e, e, sge_word _ _ (by omega) (by omega)]
    simp only [Nat.add_le_add_iff_right, Nat.zero_mul, Nat.zero_add]
  have hm : k0_pay23 (BitVec.ofNat 32 A) (BitVec.ofNat 32 A) x.q x.k x.a x.b x.l (ix2 b a)
      = Ideal.exp (Scalar.select (IntOp.cmpi .sge (BitVec.ofNat 32 (0 * 512 + a.val) + BitVec.ofNat 32 A * 512#32) (BitVec.ofNat 32 (0 * 512 + b.val) + BitVec.ofNat 32 A * 512#32))
          (((H.qk (512 * A + a.val) (512 * A + b.val) : ℝ) : EReal) - ((H.f (512 * A + b.val) : ℝ) : EReal) + ((H.f (512 * A + a.val) : ℝ) : EReal)) ⊥
          - ((H.M (512 * A + a.val) + Real.log (H.l (512 * A + a.val)) : ℝ) : EReal)) := by
    rw [← qk_tile hx b a, ← fk_tile hx b a, ← fq_tile hx b a, ← l_tile hx b a]
    rfl
  rw [hm, hc, select_if, ← EReal.coe_sub, ← EReal.coe_add, exp_if]
  refine congrArg _ ?_
  by_cases h : b.val ≤ a.val
  · rw [if_pos h, H.p_exp (by omega) (by omega)]
  · rw [if_neg h, H.p_off (by omega)]

/-! ## The tile of their gradients, and what a point adds -/

variable {P : FVec Ideal S512x512 .f32} {W : FVec Ideal S1x512 .f32}

theorem ds_tile (hx : Blk H A B x) (hP : ∀ b a : Fin 512, P (ix2 b a) = ((H.p (512 * A + a.val) (512 * B + b.val) : ℝ) : EReal))
    (hW : ∀ a : Fin 512, W (ix2 0 a) = ((H.D (512 * A + a.val) : ℝ) : EReal)) (b a : Fin 512) :
    k0_pay26 P x.v x.g W (ix2 b a) = ((H.ds (512 * A + a.val) (512 * B + b.val) : ℝ) : EReal) := by
  have e : matmul (φ₁ := .bf16) (φ₂ := .f32) dot_S512x128_S512x128_S512x512_1_1_0_0_n_n none (shapeCast S512x128 x.v shapeCasts_S1x512x128_S512x128)
      (shapeCast S512x128 x.g shapeCasts_S1x512x128_S512x128) (constant (F := Ideal) S512x512 .f32 0x00000000#32) (ix2 b a)
      = ((H.dp (512 * A + a.val) (512 * B + b.val) : ℝ) : EReal) := by
    rw [mmT, zf, zero_add]
    simp only [sq, hx.v, hx.g]
    rw [sum_fin_mul (fun d => H.v (512 * B + b.val) d) (fun d => H.g (512 * A + a.val) d), Hd.dp]
    exact congrArg _ (Finset.sum_congr rfl fun d _ => mul_comm _ _)
  rw [Hd.ds, EReal.coe_mul, EReal.coe_sub, ← e, ← hP, ← hW, ← brow W broadcasts_S1x512_S512x512 b a]
  rfl

theorem ds_tile' (hx : Blk H A B x) (hP : ∀ b a : Fin 512, P (ix2 b a) = ((H.p (512 * A + a.val) (512 * B + b.val) : ℝ) : EReal))
    (hW : ∀ a : Fin 512, W (ix2 0 a) = ((H.D (512 * A + a.val) : ℝ) : EReal)) (b a : Fin 512) :
    k0_pay18 P (k0_pay17 x.v) x.g W (ix2 b a) = ((H.ds (512 * A + a.val) (512 * B + b.val) : ℝ) : EReal) :=
  ds_tile hx hP hW b a

/-- A row of the queries beside a row of ones. -/
def qo (H : Hd) (i d : ℕ) : ℝ := if d < 128 then H.q i d * sc else 1

theorem one_bf : Ideal.ofBits .bf16 0x3F80#16 = 1 := Ideal.ofBits_one_bf16

/-- The keys' and the column's addition. -/
theorem add19 (hx : Blk H A B x) {E : FVec Ideal S512x512 .bf16} (hE : ∀ b a : Fin 512, E (ix2 b a) = ((H.ds (512 * A + a.val) (512 * B + b.val) : ℝ) : EReal))
    (X : FVec Ideal S512x256 .f32) (b : Fin 512) (d : Fin 256) :
    shapeCast S512x256 (addf X (matmul (φ₁ := .bf16) (φ₂ := .bf16) dot_S512x512_S512x256_S512x256_1_0_0_1_n_n none E
      (concatenate S512x256 1 [⟨S512x128, shapeCast S512x128 x.q shapeCasts_S1x512x128_S512x128⟩, ⟨S512x128, broadcast S512x128 (Scalar.ofBits (F := Ideal) .bf16 0x3F80#16)⟩] concatenates_S512x128_S512x128_S512x256_d1)
      (constant (F := Ideal) S512x256 .f32 0x00000000#32))) shapeCasts_S512x256_S512x256 (ix2 b d)
      = X (ix2 b d) + ((∑ a ∈ Finset.range 512, H.ds (512 * A + a) (512 * B + b.val) * qo H (512 * A + a) d.val : ℝ) : EReal) := by
  rw [self]
  refine congrArg (X (ix2 b d) + ·) ?_
  rw [mmP2, zf, zero_add, ← sum_fin_mul (fun a => H.ds (512 * A + a) (512 * B + b.val)) (fun a => qo H (512 * A + a) d.val)]
  refine Finset.sum_congr rfl fun a _ => ?_
  rw [hE, cat2]
  refine congrArg _ ?_
  unfold qo
  by_cases hd : d.val < 128
  · rw [dif_pos hd, if_pos hd, sq]; exact hx.q _ _
  · rw [dif_neg hd, if_neg hd]; exact one_bf

/-- The values' addition. -/
theorem add20 (hx : Blk H A B x) (hP : ∀ b a : Fin 512, P (ix2 b a) = ((H.p (512 * A + a.val) (512 * B + b.val) : ℝ) : EReal))
    (X : FVec Ideal S512x128 .f32) (b : Fin 512) (d : Fin 128) :
    shapeCast S512x128 (addf X (matmul (φ₁ := .f32) (φ₂ := .f32) dot_S512x512_S512x128_S512x128_1_0_0_1_n_n none P
      (shapeCast S512x128 x.g shapeCasts_S1x512x128_S512x128) (constant (F := Ideal) S512x128 .f32 0x00000000#32))) shapeCasts_S512x128_S512x128 (ix2 b d)
      = X (ix2 b d) + ((∑ a ∈ Finset.range 512, H.p (512 * A + a) (512 * B + b.val) * H.g (512 * A + a) d.val : ℝ) : EReal) := by
  rw [self]
  refine congrArg (X (ix2 b d) + ·) ?_
  rw [mmP, zf, zero_add, ← sum_fin_mul (fun a => H.p (512 * A + a) (512 * B + b.val)) (fun a => H.g (512 * A + a) d.val)]
  exact Finset.sum_congr rfl fun a _ => by rw [hP, sq, hx.g]

/-- The queries' addition. -/
theorem add18 (hx : Blk H A B x) {E : FVec Ideal S512x512 .bf16} (hE : ∀ b a : Fin 512, E (ix2 b a) = ((H.ds (512 * A + a.val) (512 * B + b.val) : ℝ) : EReal))
    (X : FVec Ideal S512x128 .f32) (a : Fin 512) (d : Fin 128) :
    shapeCast S512x128 (addf X (matmul (φ₁ := .bf16) (φ₂ := .bf16) dot_S512x512_S512x128_S512x128_0_0_1_1_n_n none E
      (shapeCast S512x128 x.k shapeCasts_S1x512x128_S512x128) (constant (F := Ideal) S512x128 .f32 0x00000000#32))) shapeCasts_S512x128_S512x128 (ix2 a d)
      = X (ix2 a d) + ((∑ b ∈ Finset.range 512, H.ds (512 * A + a.val) (512 * B + b) * H.k (512 * B + b) d.val : ℝ) : EReal) := by
  rw [self]
  refine congrArg (X (ix2 a d) + ·) ?_
  rw [mmN, zf, zero_add, ← sum_fin_mul (fun b => H.ds (512 * A + a.val) (512 * B + b)) (fun b => H.k (512 * B + b) d.val)]
  exact Finset.sum_congr rfl fun b _ => by rw [hE, sq, hx.k]

/-- The rows' addition. -/
theorem add21 {E : FVec Ideal S512x512 .bf16} (hE : ∀ b a : Fin 512, E (ix2 b a) = ((H.ds (512 * A + a.val) (512 * B + b.val) : ℝ) : EReal))
    (X : FVec Ideal S1x512 .f32) (a : Fin 512) :
    shapeCast S1x512 (addf X (shapeCast S1x512 (multiReduction (F := Ideal) (φ := .f32) .add [0] S512 E 0x00000000#32 reduces_S512x512_S512 (.inl rfl) rfl) shapeCasts_S512_S1x512)) shapeCasts_S1x512_S1x512 (ix2 0 a)
      = X (ix2 0 a) + ((∑ b ∈ Finset.range 512, H.ds (512 * A + a.val) (512 * B + b) : ℝ) : EReal) := by
  rw [self]
  refine congrArg (X (ix2 0 a) + ·) ?_
  rw [lift1]
  refine (Ideal.multiReduction_add_single (φ := .f32) E 0x00000000#32 reduces_S512x512_S512 (.inl rfl) rfl (ix1 a)).trans ?_
  rw [← sum_fin (n := 512) (fun b => H.ds (512 * A + a.val) (512 * B + b))]
  refine Finset.sum_congr rfl fun b _ => ?_
  refine (congrArg E ?_).trans (hE b a)
  funext c; match c with
  | ⟨0, _⟩ => rfl
  | ⟨1, _⟩ => rfl

/-- The rows' constants. -/
theorem delta (hx : Blk H A 0 x) (a : Fin 512) : k0_pay3 x.g x.o (ix2 0 a) = ((H.D (512 * A + a.val) : ℝ) : EReal) := by
  unfold k0_pay3
  rw [self]
  refine (extractStridedSlice_apply (s := S8x512) (t := S1x512) ![0, 0] _ slices_S8x512_o0_0_S1x512 (ix2 (0 : Fin 1) a) (ix2 (0 : Fin 8) a) (fun c => match c with | ⟨0, _⟩ => rfl | ⟨1, _⟩ => (Nat.zero_add _).symm)).trans ?_
  rw [mm8, zf, zero_add, Hd.D, ← sum_fin_mul (fun d => H.g (512 * A + a.val) d) (fun d => H.o (512 * A + a.val) d)]
  refine Finset.sum_congr rfl fun d _ => ?_
  rw [← hx.g a d, ← hx.o rfl a d, ← sq x.g shapeCasts_S1x512x128_S512x128 a d, ← sq x.o shapeCasts_S1x512x128_S512x128 a d]
  exact (congrArg (· * _) Ideal.ofBits_one_f32).trans (one_mul _)

end Cert.Val
-- ==== Proof.Val.Blk.lean ====
/- The blocks the grid reads, as rows of a head: the block of a window at a point is a cut of an array the host filled. -/
module

public import proofs.«01_k».proof.Proof.Val.HostAt
public import proofs.«01_k».proof.Proof.Val.Pay
public import proofs.«01_k».proof.Proof.AttnI.Dat
public import Idealize.ShloMosaic.Lib.Pipeline.ValueKit.Geometry

@[expose] public section

set_option maxRecDepth 16384

noncomputable section

namespace Cert.Val

open Cert.KernelIdeal Cert.KernelIdeal.Gen Cert.KernelIdeal.Attn Cert.ReferenceIdeal.Read Idealize.ShloMosaic Idealize.ShloMosaic.TcCoe Idealize.SL.Sem

theorem c0 : ∀ t : Fin grid0.N, (grid0.coords t 0).val = t.val / 80 := by decide +kernel
theorem c1 : ∀ t : Fin grid0.N, (grid0.coords t 1).val = t.val / 10 % 8 := by decide +kernel
theorem c2 : ∀ t : Fin grid0.N, (grid0.coords t 2).val = t.val % 10 := by decide +kernel

/-! ## An entry of a block is an entry of the array -/

theorem e0 (t : Fin grid0.N) (y : S1x512x128.Idx) (a : Fin 3) :
    ((((cfgA (F := Ideal)).win 0).blk t).view.emb y a).val = jx0 (grid0.coords t) a * S1x512x128.size a + (y a).val := by
  rw [← congrFun (ix0 (F := Ideal)) (grid0.coords t)]
  exact ValueKit.rect_emb_unit_val (s := S4x2048x1024) _ _ _ y a
theorem e1 (t : Fin grid0.N) (y : S1x512x128.Idx) (a : Fin 3) :
    ((((cfgA (F := Ideal)).win 1).blk t).view.emb y a).val = jx1 (grid0.coords t) a * S1x512x128.size a + (y a).val := by
  rw [← congrFun (ix1 (F := Ideal)) (grid0.coords t)]
  exact ValueKit.rect_emb_unit_val (s := S4x2048x2048) _ _ _ y a
theorem e2 (t : Fin grid0.N) (y : S1x512x128.Idx) (a : Fin 3) :
    ((((cfgA (F := Ideal)).win 2).blk t).view.emb y a).val = jx2 (grid0.coords t) a * S1x512x128.size a + (y a).val := by
  rw [← congrFun (ix2 (F := Ideal)) (grid0.coords t)]
  exact ValueKit.rect_emb_unit_val (s := S4x2048x2048) _ _ _ y a
theorem e3 (t : Fin grid0.N) (y : S1x512x128.Idx) (a : Fin 3) :
    ((((cfgA (F := Ideal)).win 3).blk t).view.emb y a).val = jx3 (grid0.coords t) a * S1x512x128.size a + (y a).val := by
  rw [← congrFun (ix3 (F := Ideal)) (grid0.coords t)]
  exact ValueKit.rect_emb_unit_val (s := S4x2048x1024) _ _ _ y a
theorem e4 (t : Fin grid0.N) (y : S1x512x128.Idx) (a : Fin 3) :
    ((((cfgA (F := Ideal)).win 4).blk t).view.emb y a).val = jx4 (grid0.coords t) a * S1x512x128.size a + (y a).val := by
  rw [← congrFun (ix4 (F := Ideal)) (grid0.coords t)]
  exact ValueKit.rect_emb_unit_val (s := S4x2048x1024) _ _ _ y a
theorem e5 (t : Fin grid0.N) (y : S1x1x512.Idx) (a : Fin 3) :
    ((((cfgA (F := Ideal)).win 5).blk t).view.emb y a).val = jx5 (grid0.coords t) a * S1x1x512.size a + (y a).val := by
  rw [← congrFun (ix5 (F := Ideal)) (grid0.coords t)]
  exact ValueKit.rect_emb_unit_val (s := S32x1x2048) _ _ _ y a
theorem e6 (t : Fin grid0.N) (y : S1x512x128.Idx) (a : Fin 3) :
    ((((cfgA (F := Ideal)).win 6).blk t).view.emb y a).val = jx6 (grid0.coords t) a * S1x512x128.size a + (y a).val := by
  rw [← congrFun (ix6 (F := Ideal)) (grid0.coords t)]
  exact ValueKit.rect_emb_unit_val (s := S32x2048x128) _ _ _ y a
theorem e7 (t : Fin grid0.N) (y : S1x1x512.Idx) (a : Fin 3) :
    ((((cfgA (F := Ideal)).win 7).blk t).view.emb y a).val = jx7 (grid0.coords t) a * S1x1x512.size a + (y a).val := by
  rw [← congrFun (ix7 (F := Ideal)) (grid0.coords t)]
  exact ValueKit.rect_emb_unit_val (s := S32x1x2048) _ _ _ y a
theorem e8 (t : Fin grid0.N) (y : S1x2048x128.Idx) (a : Fin 3) :
    ((((cfgA (F := Ideal)).win 8).blk t).view.emb y a).val = jx8 (grid0.coords t) a * S1x2048x128.size a + (y a).val := by
  rw [← congrFun (ix8) (grid0.coords t)]
  exact ValueKit.rect_emb_unit_val (s := S4x2048x1024) _ _ _ y a
theorem e9 (t : Fin grid0.N) (y : S1x512x128.Idx) (a : Fin 3) :
    ((((cfgA (F := Ideal)).win 9).blk t).view.emb y a).val = jx9 (grid0.coords t) a * S1x512x128.size a + (y a).val := by
  rw [← congrFun (ix9 (F := Ideal)) (grid0.coords t)]
  exact ValueKit.rect_emb_unit_val (s := S4x2048x1024) _ _ _ y a
theorem e10 (t : Fin grid0.N) (y : S1x512x128.Idx) (a : Fin 3) :
    ((((cfgA (F := Ideal)).win 10).blk t).view.emb y a).val = jx10 (grid0.coords t) a * S1x512x128.size a + (y a).val := by
  rw [← congrFun (ix10 (F := Ideal)) (grid0.coords t)]
  exact ValueKit.rect_emb_unit_val (s := S4x2048x1024) _ _ _ y a
theorem e11 (t : Fin grid0.N) (y : S1x512x128.Idx) (a : Fin 3) :
    ((((cfgA (F := Ideal)).win 11).blk t).view.emb y a).val = jx11 (grid0.coords t) a * S1x512x128.size a + (y a).val := by
  rw [← congrFun (ix11 (F := Ideal)) (grid0.coords t)]
  exact ValueKit.rect_emb_unit_val (s := S32x2048x128) _ _ _ y a
theorem e12 (t : Fin grid0.N) (y : S1x4x512.Idx) (a : Fin 3) :
    ((((cfgA (F := Ideal)).win 12).blk t).view.emb y a).val = jx12 (grid0.coords t) a * S1x4x512.size a + (y a).val := by
  rw [← congrFun (ix12) (grid0.coords t)]
  exact ValueKit.rect_emb_unit_val (s := S32x4x512) _ _ _ y a

variable {m : (ℓ : Loc nD τ sig) → Buf (Elt Ideal) ℓ} {c : Dev nD} {hd : ℕ → ℕ → Hd}

theorem rd0 (X : (b : Ref sig .tc) → Buf (Elt Ideal) ((c : Thread nD τ).loc b)) (t : Fin grid0.N) (y : S1x512x128.Idx) :
    (((cfgA (F := Ideal)).win 0).blk t).view.read (Elt Ideal) (X (Pipeline.arrRef spec0 0)) y
      = X main_v74 ((((cfgA (F := Ideal)).win 0).blk t).view.emb y) := rfl
theorem read0 (t : Fin grid0.N) (y : S1x512x128.Idx) :
    (ins m c t).q y = V m c main_v74 ((((cfgA (F := Ideal)).win 0).blk t).view.emb y) := rd0 (V m c) t y
theorem rd1 (X : (b : Ref sig .tc) → Buf (Elt Ideal) ((c : Thread nD τ).loc b)) (t : Fin grid0.N) (y : S1x512x128.Idx) :
    (((cfgA (F := Ideal)).win 1).blk t).view.read (Elt Ideal) (X (Pipeline.arrRef spec0 1)) y
      = X main_v76 ((((cfgA (F := Ideal)).win 1).blk t).view.emb y) := rfl
theorem read1 (t : Fin grid0.N) (y : S1x512x128.Idx) :
    (ins m c t).k y = V m c main_v76 ((((cfgA (F := Ideal)).win 1).blk t).view.emb y) := rd1 (V m c) t y
theorem rd2 (X : (b : Ref sig .tc) → Buf (Elt Ideal) ((c : Thread nD τ).loc b)) (t : Fin grid0.N) (y : S1x512x128.Idx) :
    (((cfgA (F := Ideal)).win 2).blk t).view.read (Elt Ideal) (X (Pipeline.arrRef spec0 2)) y
      = X main_v76 ((((cfgA (F := Ideal)).win 2).blk t).view.emb y) := rfl
theorem read2 (t : Fin grid0.N) (y : S1x512x128.Idx) :
    (ins m c t).v y = V m c main_v76 ((((cfgA (F := Ideal)).win 2).blk t).view.emb y) := rd2 (V m c) t y
theorem rd3 (X : (b : Ref sig .tc) → Buf (Elt Ideal) ((c : Thread nD τ).loc b)) (t : Fin grid0.N) (y : S1x512x128.Idx) :
    (((cfgA (F := Ideal)).win 3).blk t).view.read (Elt Ideal) (X (Pipeline.arrRef spec0 3)) y
      = X main_arg4 ((((cfgA (F := Ideal)).win 3).blk t).view.emb y) := rfl
theorem read3 (t : Fin grid0.N) (y : S1x512x128.Idx) :
    (ins m c t).g y = V m c main_arg4 ((((cfgA (F := Ideal)).win 3).blk t).view.emb y) := rd3 (V m c) t y
theorem rd4 (X : (b : Ref sig .tc) → Buf (Elt Ideal) ((c : Thread nD τ).loc b)) (t : Fin grid0.N) (y : S1x512x128.Idx) :
    (((cfgA (F := Ideal)).win 4).blk t).view.read (Elt Ideal) (X (Pipeline.arrRef spec0 4)) y
      = X main_v36 ((((cfgA (F := Ideal)).win 4).blk t).view.emb y) := rfl
theorem read4 (t : Fin grid0.N) (y : S1x512x128.Idx) :
    (ins m c t).o y = V m c main_v36 ((((cfgA (F := Ideal)).win 4).blk t).view.emb y) := rd4 (V m c) t y
theorem rd5 (X : (b : Ref sig .tc) → Buf (Elt Ideal) ((c : Thread nD τ).loc b)) (t : Fin grid0.N) (y : S1x1x512.Idx) :
    (((cfgA (F := Ideal)).win 5).blk t).view.read (Elt Ideal) (X (Pipeline.arrRef spec0 5)) y
      = X main_v67 ((((cfgA (F := Ideal)).win 5).blk t).view.emb y) := rfl
theorem read5 (t : Fin grid0.N) (y : S1x1x512.Idx) :
    (ins m c t).l y = V m c main_v67 ((((cfgA (F := Ideal)).win 5).blk t).view.emb y) := rd5 (V m c) t y
theorem rd6 (X : (b : Ref sig .tc) → Buf (Elt Ideal) ((c : Thread nD τ).loc b)) (t : Fin grid0.N) (y : S1x512x128.Idx) :
    (((cfgA (F := Ideal)).win 6).blk t).view.read (Elt Ideal) (X (Pipeline.arrRef spec0 6)) y
      = X main_v70 ((((cfgA (F := Ideal)).win 6).blk t).view.emb y) := rfl
theorem read6 (t : Fin grid0.N) (y : S1x512x128.Idx) :
    (ins m c t).a y = V m c main_v70 ((((cfgA (F := Ideal)).win 6).blk t).view.emb y) := rd6 (V m c) t y
theorem rd7 (X : (b : Ref sig .tc) → Buf (Elt Ideal) ((c : Thread nD τ).loc b)) (t : Fin grid0.N) (y : S1x1x512.Idx) :
    (((cfgA (F := Ideal)).win 7).blk t).view.read (Elt Ideal) (X (Pipeline.arrRef spec0 7)) y
      = X main_v71 ((((cfgA (F := Ideal)).win 7).blk t).view.emb y) := rfl
theorem read7 (t : Fin grid0.N) (y : S1x1x512.Idx) :
    (ins m c t).b y = V m c main_v71 ((((cfgA (F := Ideal)).win 7).blk t).view.emb y) := rd7 (V m c) t y

theorem b_q (R : Rep hd (a0 m c) (a1 m c) (a2 m c) (a3 m c) (a4 m c)) (t : Fin grid0.N) (b : Fin 4) (h : Fin 8) (p : Fin 10)
    (hb : (grid0.coords t 0).val = b.val) (hh : (grid0.coords t 1).val = h.val) (hp : grid0.coords t 2 = p) (r : Fin 512) (d : Fin 128) :
    (ins m c t).q (ix3 0 r d) = (((hd b.val h.val).q (512 * iqN p + r.val) d.val * sc : ℝ) : EReal) :=
  (read0 t _).trans (
   at_q R _ b.val h.val (512 * iqN p + r.val) d.val
    ((e0 t _ 0).trans (by show (grid0.coords t 0).val * 1 + 0 = b.val; omega))
    ((e0 t _ 1).trans (by show iqN (grid0.coords t 2) * 512 + r.val = _; rw [hp]; omega))
    ((e0 t _ 2).trans (by show (grid0.coords t 1).val * 128 + d.val = _; rw [hh])) d.isLt
)
theorem b_k (R : Rep hd (a0 m c) (a1 m c) (a2 m c) (a3 m c) (a4 m c)) (t : Fin grid0.N) (b : Fin 4) (h : Fin 8) (p : Fin 10)
    (hb : (grid0.coords t 0).val = b.val) (hh : (grid0.coords t 1).val = h.val) (hp : grid0.coords t 2 = p) (r : Fin 512) (d : Fin 128) :
    (ins m c t).k (ix3 0 r d) = (((hd b.val h.val).k (512 * ikN p + r.val) d.val : ℝ) : EReal) :=
  (read1 t _).trans (
   at_k R _ b.val h.val (512 * ikN p + r.val) d.val
    ((e1 t _ 0).trans (by show (grid0.coords t 0).val * 1 + 0 = b.val; omega))
    ((e1 t _ 1).trans (by show ikN (grid0.coords t 2) * 512 + r.val = _; rw [hp]; omega))
    ((e1 t _ 2).trans (by show (grid0.coords t 1).val * 128 + d.val = _; rw [hh])) d.isLt h.isLt
)
theorem b_v (R : Rep hd (a0 m c) (a1 m c) (a2 m c) (a3 m c) (a4 m c)) (t : Fin grid0.N) (b : Fin 4) (h : Fin 8) (p : Fin 10)
    (hb : (grid0.coords t 0).val = b.val) (hh : (grid0.coords t 1).val = h.val) (hp : grid0.coords t 2 = p) (r : Fin 512) (d : Fin 128) :
    (ins m c t).v (ix3 0 r d) = (((hd b.val h.val).v (512 * ikN p + r.val) d.val : ℝ) : EReal) :=
  (read2 t _).trans (
   at_v R _ b.val h.val (512 * ikN p + r.val) d.val
    ((e2 t _ 0).trans (by show (grid0.coords t 0).val * 1 + 0 = b.val; omega))
    ((e2 t _ 1).trans (by show ikN (grid0.coords t 2) * 512 + r.val = _; rw [hp]; omega))
    ((e2 t _ 2).trans (by show (8 + (grid0.coords t 1).val) * 128 + d.val = _; rw [hh])) d.isLt h.isLt
)
theorem b_g (R : Rep hd (a0 m c) (a1 m c) (a2 m c) (a3 m c) (a4 m c)) (t : Fin grid0.N) (b : Fin 4) (h : Fin 8) (p : Fin 10)
    (hb : (grid0.coords t 0).val = b.val) (hh : (grid0.coords t 1).val = h.val) (hp : grid0.coords t 2 = p) (r : Fin 512) (d : Fin 128) :
    (ins m c t).g (ix3 0 r d) = (((hd b.val h.val).g (512 * iqN p + r.val) d.val : ℝ) : EReal) :=
  (read3 t _).trans (
   at_g R _ b.val h.val (512 * iqN p + r.val) d.val
    ((e3 t _ 0).trans (by show (grid0.coords t 0).val * 1 + 0 = b.val; omega))
    ((e3 t _ 1).trans (by show iqN (grid0.coords t 2) * 512 + r.val = _; rw [hp]; omega))
    ((e3 t _ 2).trans (by show (grid0.coords t 1).val * 128 + d.val = _; rw [hh])) d.isLt
)
theorem b_o (R : Rep hd (a0 m c) (a1 m c) (a2 m c) (a3 m c) (a4 m c)) (t : Fin grid0.N) (b : Fin 4) (h : Fin 8) (p : Fin 10)
    (hb : (grid0.coords t 0).val = b.val) (hh : (grid0.coords t 1).val = h.val) (hp : grid0.coords t 2 = p) (h0 : ikN p = 0) (r : Fin 512) (d : Fin 128) :
    (ins m c t).o (ix3 0 r d) = (((hd b.val h.val).o (512 * iqN p + r.val) d.val : ℝ) : EReal) :=
  (read4 t _).trans (
   at_o R _ b.val h.val (512 * iqN p + r.val) d.val
    ((e4 t _ 0).trans (by show (grid0.coords t 0).val * 1 + 0 = b.val; omega))
    ((e4 t _ 1).trans (by show (if ikN (grid0.coords t 2) = 0 then iqN (grid0.coords t 2) else 0) * 512 + r.val = _; rw [hp, if_pos h0]; omega))
    ((e4 t _ 2).trans (by show (grid0.coords t 1).val * 128 + d.val = _; rw [hh])) d.isLt
)
theorem b_l (R : Rep hd (a0 m c) (a1 m c) (a2 m c) (a3 m c) (a4 m c)) (t : Fin grid0.N) (b : Fin 4) (h : Fin 8) (p : Fin 10)
    (hb : (grid0.coords t 0).val = b.val) (hh : (grid0.coords t 1).val = h.val) (hp : grid0.coords t 2 = p) (r : Fin 512) :
    (ins m c t).l (ix3 0 0 r) = (((hd b.val h.val).M (512 * iqN p + r.val) + Real.log ((hd b.val h.val).l (512 * iqN p + r.val)) : ℝ) : EReal) :=
  (read5 t _).trans (
   at_l' R _ b h (512 * iqN p + r.val)
    ((e5 t _ 0).trans (by show ((grid0.coords t 0).val * 8 + (grid0.coords t 1).val) * 1 + 0 = _; omega))
    ((e5 t _ 2).trans (by show iqN (grid0.coords t 2) * 512 + r.val = _; rw [hp]; omega))
)
theorem b_a (R : Rep hd (a0 m c) (a1 m c) (a2 m c) (a3 m c) (a4 m c)) (t : Fin grid0.N) (b : Fin 4) (h : Fin 8) (p : Fin 10)
    (hb : (grid0.coords t 0).val = b.val) (hh : (grid0.coords t 1).val = h.val) (hp : grid0.coords t 2 = p) (r : Fin 512) (d : Fin 128) :
    (ins m c t).a (ix3 0 r d) = (((hd b.val h.val).f (512 * ikN p + r.val) : ℝ) : EReal) :=
  (read6 t _).trans (
   at_fc R _ b.val h.val (512 * ikN p + r.val)
    ((e6 t _ 0).trans (by show ((grid0.coords t 0).val * 8 + (grid0.coords t 1).val) * 1 + 0 = _; omega))
    ((e6 t _ 1).trans (by show ikN (grid0.coords t 2) * 512 + r.val = _; rw [hp]; omega)) b.isLt h.isLt
)
theorem b_b (R : Rep hd (a0 m c) (a1 m c) (a2 m c) (a3 m c) (a4 m c)) (t : Fin grid0.N) (b : Fin 4) (h : Fin 8) (p : Fin 10)
    (hb : (grid0.coords t 0).val = b.val) (hh : (grid0.coords t 1).val = h.val) (hp : grid0.coords t 2 = p) (r : Fin 512) :
    (ins m c t).b (ix3 0 0 r) = (((hd b.val h.val).f (512 * iqN p + r.val) : ℝ) : EReal) :=
  (read7 t _).trans (
   at_fr R _ b.val h.val (512 * iqN p + r.val)
    ((e7 t _ 0).trans (by show ((grid0.coords t 0).val * 8 + (grid0.coords t 1).val) * 1 + 0 = _; omega))
    ((e7 t _ 2).trans (by show iqN (grid0.coords t 2) * 512 + r.val = _; rw [hp]; omega)) b.isLt h.isLt)

/-- The blocks of a point are the rows of its head. -/
theorem blk (R : Rep hd (a0 m c) (a1 m c) (a2 m c) (a3 m c) (a4 m c)) (t : Fin grid0.N) (b : Fin 4) (h : Fin 8) (p : Fin 10)
    (hb : (grid0.coords t 0).val = b.val) (hh : (grid0.coords t 1).val = h.val) (hp : grid0.coords t 2 = p) :
    Blk (hd b.val h.val) (iqN p) (ikN p) (ins m c t) :=
  ⟨b_q R t b h p hb hh hp, b_k R t b h p hb hh hp, b_v R t b h p hb hh hp, b_g R t b h p hb hh hp, b_o R t b h p hb hh hp, b_l R t b h p hb hh hp, b_a R t b h p hb hh hp, b_b R t b h p hb hh hp⟩

end Cert.Val
-- ==== Proof.Val.Acc.lean ====
/- The accumulators of one head, point by point. -/
module

public import proofs.«01_k».proof.Proof.Val.Pay

@[expose] public section

set_option maxRecDepth 16384

noncomputable section

namespace Cert.Val

open Cert.KernelIdeal Cert.KernelIdeal.Gen Cert.KernelIdeal.Attn Idealize.ShloMosaic Idealize.ShloMosaic.TcCoe
open VecWindow (put window)

/-! ## Windows -/

theorem put_row {α : Type} (X : S4x512.Idx → α) (Q : ℕ) (off : Fin 2 → ℕ) (ho : off = ![Q, 0]) (w : S1x512.Idx → α) (q : Fin 4) (a : Fin 512) :
    put X off S1x512.size w (ix2 q a) = if q.val = Q then w (ix2 0 a) else X (ix2 q a) := by
  subst ho
  have h1 : a.val < 512 := a.isLt
  unfold VecWindow.put
  by_cases h : q.val = Q
  · rw [if_pos h, dif_pos (fun c => match c with
      | ⟨0, _⟩ => ⟨le_of_eq h.symm, show q.val < Q + 1 by omega⟩
      | ⟨1, _⟩ => ⟨Nat.zero_le _, show a.val < 0 + 512 by omega⟩)]
    refine congrArg w (funext fun c => Fin.ext ?_)
    match c with
    | ⟨0, _⟩ => show q.val - Q = 0; omega
    | ⟨1, _⟩ => show a.val - 0 = a.val; omega
  · rw [if_neg h, dif_neg]
    intro hc
    have := hc 0
    have h2 : Q ≤ q.val ∧ q.val < Q + 1 := this
    omega

theorem window_row {α : Type} (X : S4x512.Idx → α) (Q : ℕ) (hQ : Q < 4) (off : Fin 2 → ℕ) (ho : off = ![Q, 0]) (inb : ∀ a, off a + S1x512.size a ≤ S4x512.size a)
    (a : Fin 512) : window X off S1x512.size inb (ix2 0 a) = X (ix2 ⟨Q, hQ⟩ a) := by
  subst ho
  refine congrArg X (funext fun c => Fin.ext ?_)
  match c with
  | ⟨0, _⟩ => show Q + 1 * 0 = Q; omega
  | ⟨1, _⟩ => show 0 + 1 * a.val = a.val; omega

theorem put_blk {α : Type} (X : S2048x128.Idx → α) (Q : ℕ) (off : Fin 2 → ℕ) (ho : off = ![512 * Q, 0]) (w : S512x128.Idx → α) (r : Fin 2048) (d : Fin 128) :
    put X off S512x128.size w (ix2 r d) = if r.val / 512 = Q then w (ix2 ⟨r.val % 512, Nat.mod_lt _ (by decide)⟩ d) else X (ix2 r d) := by
  subst ho
  have h1 : d.val < 128 := d.isLt
  unfold VecWindow.put
  by_cases h : r.val / 512 = Q
  · rw [if_pos h, dif_pos (fun c => match c with
      | ⟨0, _⟩ => ⟨show 512 * Q ≤ r.val by omega, show r.val < 512 * Q + 512 by omega⟩
      | ⟨1, _⟩ => ⟨Nat.zero_le _, show d.val < 0 + 128 by omega⟩)]
    refine congrArg w (funext fun c => Fin.ext ?_)
    match c with
    | ⟨0, _⟩ => show r.val - 512 * Q = r.val % 512; omega
    | ⟨1, _⟩ => show d.val - 0 = d.val; omega
  · rw [if_neg h, dif_neg]
    intro hc
    have h2 : 512 * Q ≤ r.val ∧ r.val < 512 * Q + 512 := hc 0
    omega

theorem window_blk {α : Type} (X : S2048x128.Idx → α) (Q : ℕ) (hQ : Q < 4) (off : Fin 2 → ℕ) (ho : off = ![512 * Q, 0])
    (inb : ∀ a, off a + S512x128.size a ≤ S2048x128.size a) (r : Fin 512) (d : Fin 128) :
    window X off S512x128.size inb (ix2 r d) = X (ix2 ⟨512 * Q + r.val, by have := r.isLt; omega⟩ d) := by
  subst ho
  refine congrArg X (funext fun c => Fin.ext ?_)
  match c with
  | ⟨0, _⟩ => show 512 * Q + 1 * r.val = 512 * Q + r.val; omega
  | ⟨1, _⟩ => show 0 + 1 * d.val = d.val; omega

/-! ## One point -/

theorem c3 : ∀ p : Fin 10, cond3 (ikW p) (iqW p) = 1#1 ↔ ikN p = iqN p := by decide +kernel
theorem c4 : ∀ p : Fin 10, k0_cond4 (ikW p) (iqW p) = 1#1 ↔ ikN p ≠ iqN p := by decide +kernel
theorem k_le : ∀ p : Fin 10, ikN p ≤ iqN p := by decide
theorem k_zero : ∀ p : Fin 10, p.val < 4 → ikN p = 0 := by decide

variable {H : Hd} {x : Ins Ideal} (p : Fin 10)

theorem p_eq {A B : ℕ} (hx : Blk H A B x) (hA : A < 4) (e : B = A) (b a : Fin 512) :
    k0_pay23 (BitVec.ofNat 32 B) (BitVec.ofNat 32 A) x.q x.k x.a x.b x.l (ix2 b a) = ((H.p (512 * A + a.val) (512 * B + b.val) : ℝ) : EReal) := by
  subst e; exact p_diag hx hA b a

theorem n22_at (hx : Blk H (iqN p) (ikN p) x) (X : Vec Ideal S4x512 .f32)
    (h : ∀ (q : Fin 4) (a : Fin 512), q.val < p.val → X (ix2 q a) = ((H.D (512 * q.val + a.val) : ℝ) : EReal)) (q : Fin 4) (a : Fin 512) (hy : q.val < p.val + 1) :
    n22 (ikW p) (iqW p) x.g x.o X (ix2 q a) = ((H.D (512 * q.val + a.val) : ℝ) : EReal) := by
  have h0 : q.val < 4 := q.isLt
  unfold n22 z22
  by_cases hp : p.val < 4
  · rw [if_pos ((cond2_iff p).mpr hp), put_row X (iqN p) _ (off2_eq p), iqN_small p hp]
    by_cases e : q.val = p.val
    · rw [if_pos e, e]
      have hx' : Blk H p.val 0 x := by rw [← iqN_small p hp, ← k_zero p hp]; exact hx
      exact delta hx' a
    · rw [if_neg e]; exact h q a (by omega)
  · rw [if_neg (fun hc => hp ((cond2_iff p).mp hc))]; exact h q a (by omega)

section
variable (hx : Blk H (iqN p) (ikN p) x) (X22 : Vec Ideal S4x512 .f32)
    (hD : ∀ a : Fin 512, X22 (ix2 ⟨iqN p, iqN_lt p⟩ a) = ((H.D (512 * iqN p + a.val) : ℝ) : EReal))
include hx hD

theorem x18_at (Z : Vec Ideal S2048x128 .f32) (r : Fin 2048) (d : Fin 128) :
    w18 (ikW p) (iqW p) (chk p) x.q x.k x.v x.g x.l x.a x.b X22 (u18 (ikW p) (iqW p) (chk p) x.q x.k x.v x.g x.l x.a x.b X22 Z) (ix2 r d)
      = if r.val / 512 = iqN p then Z (ix2 r d) + ((∑ b ∈ Finset.range 512, H.ds r.val (512 * ikN p + b) * H.k (512 * ikN p + b) d.val : ℝ) : EReal) else Z (ix2 r d) := by
  have hy0 : r.val < 2048 := r.isLt
  have fin : ∀ h : r.val / 512 = iqN p, ∀ V : EReal,
      V = Z (ix2 ⟨512 * iqN p + r.val % 512, by have := iqN_lt p; omega⟩ d) + ((∑ b ∈ Finset.range 512, H.ds (512 * iqN p + r.val % 512) (512 * ikN p + b) * H.k (512 * ikN p + b) d.val : ℝ) : EReal) →
      V = Z (ix2 r d) + ((∑ b ∈ Finset.range 512, H.ds r.val (512 * ikN p + b) * H.k (512 * ikN p + b) d.val : ℝ) : EReal) := by
    intro h V hV
    have e : 512 * iqN p + r.val % 512 = r.val := by rw [← h]; omega
    have e2 : ix2 ⟨512 * iqN p + r.val % 512, by have := iqN_lt p; omega⟩ d = ix2 r d := congrArg (ix2 · d) (Fin.ext e)
    rw [hV, e2, e]
  unfold w18 u18
  by_cases hd : ikN p = iqN p
  · rw [dif_pos ((c3 p).mpr hd), dif_neg (fun hc => (c4 p).mp hc hd), put_blk Z (iqN p) _ (off6_eq p)]
    by_cases h : r.val / 512 = iqN p
    · rw [if_pos h, if_pos h]
      refine fin h _ ?_
      exact (add18 hx (ds_tile hx (p_eq hx (iqN_lt p) hd) (fun a => (window_row X22 (iqN p) (iqN_lt p) _ (off5_eq p) (k0_off5_inb _ _ (chk p) ((c3 p).mpr hd)) a).trans (hD a))) _ _ _).trans (congrArg (· + _) (window_blk Z (iqN p) (iqN_lt p) _ (off6_eq p) (k0_off6_inb _ _ (chk p) ((c3 p).mpr hd)) _ _))
    · rw [if_neg h, if_neg h]
  · rw [dif_neg (fun hc => hd ((c3 p).mp hc)), dif_pos ((c4 p).mpr hd), put_blk Z (iqN p) _ (off4_eq p)]
    by_cases h : r.val / 512 = iqN p
    · rw [if_pos h, if_pos h]
      refine fin h _ ?_
      exact (add18 hx (ds_tile' hx (p_above hx (iqN_lt p) (lt_of_le_of_ne (k_le p) hd)) (fun a => (window_row X22 (iqN p) (iqN_lt p) _ (off3_eq p) (k0_off3_inb _ _ (chk p) ((c4 p).mpr hd)) a).trans (hD a))) _ _ _).trans (congrArg (· + _) (window_blk Z (iqN p) (iqN_lt p) _ (off4_eq p) (k0_off4_inb _ _ (chk p) ((c4 p).mpr hd)) _ _))
    · rw [if_neg h, if_neg h]

theorem x21_at (Z : Vec Ideal S4x512 .f32) (q : Fin 4) (a : Fin 512) :
    w21 (ikW p) (iqW p) (chk p) x.q x.k x.v x.g x.l x.a x.b X22 (u21 (ikW p) (iqW p) (chk p) x.q x.k x.v x.g x.l x.a x.b X22 Z) (ix2 q a)
      = if q.val = iqN p then Z (ix2 q a) + ((∑ b ∈ Finset.range 512, H.ds (512 * q.val + a.val) (512 * ikN p + b) : ℝ) : EReal) else Z (ix2 q a) := by
  have fin : ∀ h : q.val = iqN p, ∀ V : EReal,
      V = Z (ix2 ⟨iqN p, iqN_lt p⟩ a) + ((∑ b ∈ Finset.range 512, H.ds (512 * iqN p + a.val) (512 * ikN p + b) : ℝ) : EReal) →
      V = Z (ix2 q a) + ((∑ b ∈ Finset.range 512, H.ds (512 * q.val + a.val) (512 * ikN p + b) : ℝ) : EReal) := by
    intro h V hV
    have e2 : ix2 ⟨iqN p, iqN_lt p⟩ a = ix2 q a := congrArg (ix2 · a) (Fin.ext h.symm)
    rw [hV, e2, h]
  unfold w21 u21
  by_cases hd : ikN p = iqN p
  · rw [dif_pos ((c3 p).mpr hd), dif_neg (fun hc => (c4 p).mp hc hd), put_row Z (iqN p) _ (off5_eq p)]
    by_cases h : q.val = iqN p
    · rw [if_pos h, if_pos h]
      refine fin h _ ?_
      exact (add21 (ds_tile hx (p_eq hx (iqN_lt p) hd) (fun a => (window_row X22 (iqN p) (iqN_lt p) _ (off5_eq p) (k0_off5_inb _ _ (chk p) ((c3 p).mpr hd)) a).trans (hD a))) _ _).trans (congrArg (· + _) (window_row Z (iqN p) (iqN_lt p) _ (off5_eq p) (k0_off5_inb _ _ (chk p) ((c3 p).mpr hd)) _))
    · rw [if_neg h, if_neg h]
  · rw [dif_neg (fun hc => hd ((c3 p).mp hc)), dif_pos ((c4 p).mpr hd), put_row Z (iqN p) _ (off3_eq p)]
    by_cases h : q.val = iqN p
    · rw [if_pos h, if_pos h]
      refine fin h _ ?_
      exact (add21 (ds_tile' hx (p_above hx (iqN_lt p) (lt_of_le_of_ne (k_le p) hd)) (fun a => (window_row X22 (iqN p) (iqN_lt p) _ (off3_eq p) (k0_off3_inb _ _ (chk p) ((c4 p).mpr hd)) a).trans (hD a))) _ _).trans (congrArg (· + _) (window_row Z (iqN p) (iqN_lt p) _ (off3_eq p) (k0_off3_inb _ _ (chk p) ((c4 p).mpr hd)) _))
    · rw [if_neg h, if_neg h]

theorem x19_at (Z : Vec Ideal S512x256 .f32) (b : Fin 512) (d : Fin 256) :
    w19 (ikW p) (iqW p) (chk p) x.q x.k x.v x.g x.l x.a x.b X22 (u19 (ikW p) (iqW p) (chk p) x.q x.k x.v x.g x.l x.a x.b X22 Z) (ix2 b d)
      = Z (ix2 b d) + ((∑ a ∈ Finset.range 512, H.ds (512 * iqN p + a) (512 * ikN p + b.val) * qo H (512 * iqN p + a) d.val : ℝ) : EReal) := by
  unfold w19 u19
  by_cases hd : ikN p = iqN p
  · rw [dif_pos ((c3 p).mpr hd), dif_neg (fun hc => (c4 p).mp hc hd)]
    exact add19 hx (ds_tile hx (p_eq hx (iqN_lt p) hd) (fun a => (window_row X22 (iqN p) (iqN_lt p) _ (off5_eq p) (k0_off5_inb _ _ (chk p) ((c3 p).mpr hd)) a).trans (hD a))) _ _ _
  · rw [dif_neg (fun hc => hd ((c3 p).mp hc)), dif_pos ((c4 p).mpr hd)]
    exact add19 hx (ds_tile' hx (p_above hx (iqN_lt p) (lt_of_le_of_ne (k_le p) hd)) (fun a => (window_row X22 (iqN p) (iqN_lt p) _ (off3_eq p) (k0_off3_inb _ _ (chk p) ((c4 p).mpr hd)) a).trans (hD a))) _ _ _

omit hD in
theorem x20_at (Z : Vec Ideal S512x128 .f32) (b : Fin 512) (d : Fin 128) :
    w20 (ikW p) (iqW p) (chk p) x.q x.k x.v x.g x.l x.a x.b X22 (u20 (ikW p) (iqW p) (chk p) x.q x.k x.v x.g x.l x.a x.b X22 Z) (ix2 b d)
      = Z (ix2 b d) + ((∑ a ∈ Finset.range 512, H.p (512 * iqN p + a) (512 * ikN p + b.val) * H.g (512 * iqN p + a) d.val : ℝ) : EReal) := by
  unfold w20 u20
  by_cases hd : ikN p = iqN p
  · rw [if_pos ((c3 p).mpr hd), if_neg (fun hc => (c4 p).mp hc hd)]
    exact add20 hx (p_eq hx (iqN_lt p) hd) _ _ _
  · rw [if_neg (fun hc => hd ((c3 p).mp hc)), if_pos ((c4 p).mpr hd)]
    exact add20 hx (p_above hx (iqN_lt p) (lt_of_le_of_ne (k_le p) hd)) _ _ _
end

end Cert.Val
-- ==== Proof.Val.Ind.lean ====
/- The accumulators after any number of a head's ten points, and their closed forms where they are written back. -/
module

public import proofs.«01_k».proof.Proof.Val.Acc

@[expose] public section

set_option maxRecDepth 16384

noncomputable section

namespace Cert.Val

open Cert.KernelIdeal Cert.KernelIdeal.Gen Cert.KernelIdeal.Attn Idealize.ShloMosaic Idealize.ShloMosaic.TcCoe

/-- The key block and the query block of the `p`-th pair. -/
def kN (p : ℕ) : ℕ := ikN (Fin.ofNat 10 p)
def qN (p : ℕ) : ℕ := iqN (Fin.ofNat 10 p)
theorem kN_val : ∀ p : Fin 10, kN p.val = ikN p := by decide
theorem qN_val : ∀ p : Fin 10, qN p.val = iqN p := by decide

/-- What the pairs before the `p`-th add to query block `Q`, when key block `B` adds `T B`. -/
def acc (T : ℕ → ℝ) (Q : ℕ) : ℕ → ℝ
  | 0 => 0
  | p + 1 => acc T Q p + if Q = qN p then T (kN p) else 0

/-- What the pairs up to the `p`-th add since the last one on the diagonal, when key block `B` and query block `A` add `T B A`. -/
def col (T : ℕ → ℕ → ℝ) : ℕ → ℝ
  | 0 => 0
  | p + 1 => (if kN p = qN p then 0 else col T p) + T (kN p) (qN p)

theorem acc_ten (T : ℕ → ℝ) (Q : ℕ) (hQ : Q < 4) (hT : ∀ B, Q < B → T B = 0) : acc T Q 10 = ∑ B ∈ Finset.range 4, T B := by
  have e1 : Q < 1 → T 1 = 0 := hT 1
  have e2 : Q < 2 → T 2 = 0 := hT 2
  have e3 : Q < 3 → T 3 = 0 := hT 3
  have q0 : qN 0 = 0 := rfl
  have q1 : qN 1 = 1 := rfl
  have q2 : qN 2 = 2 := rfl
  have q3 : qN 3 = 3 := rfl
  have q4 : qN 4 = 1 := rfl
  have q5 : qN 5 = 2 := rfl
  have q6 : qN 6 = 3 := rfl
  have q7 : qN 7 = 2 := rfl
  have q8 : qN 8 = 3 := rfl
  have q9 : qN 9 = 3 := rfl
  have k0 : kN 0 = 0 := rfl
  have k1 : kN 1 = 0 := rfl
  have k2 : kN 2 = 0 := rfl
  have k3 : kN 3 = 0 := rfl
  have k4 : kN 4 = 1 := rfl
  have k5 : kN 5 = 1 := rfl
  have k6 : kN 6 = 1 := rfl
  have k7 : kN 7 = 2 := rfl
  have k8 : kN 8 = 2 := rfl
  have k9 : kN 9 = 3 := rfl
  simp only [acc, q0, q1, q2, q3, q4, q5, q6, q7, q8, q9, k0, k1, k2, k3, k4, k5, k6, k7, k8, k9, Finset.sum_range_succ, Finset.sum_range_zero]
  interval_cases Q <;> simp_all

theorem col_end (T : ℕ → ℕ → ℝ) : ∀ p : Fin 10, iqN p = 3 → (∀ A, A < ikN p → T (ikN p) A = 0) →
    col T (p.val + 1) = ∑ A ∈ Finset.range 4, T (ikN p) A := by
  have q0 : qN 0 = 0 := rfl
  have q1 : qN 1 = 1 := rfl
  have q2 : qN 2 = 2 := rfl
  have q3 : qN 3 = 3 := rfl
  have q4 : qN 4 = 1 := rfl
  have q5 : qN 5 = 2 := rfl
  have q6 : qN 6 = 3 := rfl
  have q7 : qN 7 = 2 := rfl
  have q8 : qN 8 = 3 := rfl
  have q9 : qN 9 = 3 := rfl
  have k0 : kN 0 = 0 := rfl
  have k1 : kN 1 = 0 := rfl
  have k2 : kN 2 = 0 := rfl
  have k3 : kN 3 = 0 := rfl
  have k4 : kN 4 = 1 := rfl
  have k5 : kN 5 = 1 := rfl
  have k6 : kN 6 = 1 := rfl
  have k7 : kN 7 = 2 := rfl
  have k8 : kN 8 = 2 := rfl
  have k9 : kN 9 = 3 := rfl
  intro p hp hT
  have key : ∀ n : ℕ, n < 10 → qN n = 3 → (∀ A, A < kN n → T (kN n) A = 0) → col T (n + 1) = ∑ A ∈ Finset.range 4, T (kN n) A := by
    intro n hn h3 h
    have h0 := h 0
    have h1 := h 1
    have h2 := h 2
    interval_cases n <;>
      simp_all [col, q0, q1, q2, q3, q4, q5, q6, q7, q8, q9, k0, k1, k2, k3, k4, k5, k6, k7, k8, k9, Finset.sum_range_succ]
  have h := key p.val p.isLt (by rw [qN_val]; exact hp) (by rw [kN_val]; exact hT)
  rw [kN_val] at h
  exact h

section
variable (H : Hd)
def T18 (r d B : ℕ) : ℝ := ∑ b ∈ Finset.range 512, H.ds r (512 * B + b) * H.k (512 * B + b) d
def T21 (r B : ℕ) : ℝ := ∑ b ∈ Finset.range 512, H.ds r (512 * B + b)
def T19 (b d B A : ℕ) : ℝ := ∑ a ∈ Finset.range 512, H.ds (512 * A + a) (512 * B + b) * qo H (512 * A + a) d
def T20 (b d B A : ℕ) : ℝ := ∑ a ∈ Finset.range 512, H.p (512 * A + a) (512 * B + b) * H.g (512 * A + a) d

/-- The scratch buffers before the `p`-th point of a head. -/
structure St (p : ℕ) (s : Scr Ideal) : Prop where
  x18 : p ≠ 0 → ∀ (r : Fin 2048) (d : Fin 128), s.x18 (ix2 r d) = ((acc (T18 H r.val d.val) (r.val / 512) p : ℝ) : EReal)
  x19 : p ≠ 0 → ∀ (b : Fin 512) (d : Fin 256), s.x19 (ix2 b d) = ((col (T19 H b.val d.val) p : ℝ) : EReal)
  x20 : p ≠ 0 → ∀ (b : Fin 512) (d : Fin 128), s.x20 (ix2 b d) = ((col (T20 H b.val d.val) p : ℝ) : EReal)
  x21 : p ≠ 0 → ∀ (q : Fin 4) (a : Fin 512), s.x21 (ix2 q a) = ((acc (T21 H (512 * q.val + a.val)) q.val p : ℝ) : EReal)
  x22 : ∀ (q : Fin 4) (a : Fin 512), q.val < p → s.x22 (ix2 q a) = ((H.D (512 * q.val + a.val) : ℝ) : EReal)
end

variable {H : Hd} {x : Ins Ideal} {s : Scr Ideal}

theorem zero18 (r : Fin 2048) (d : Fin 128) : k0_pay1 (F := Ideal) (ix2 r d) = ((0 : ℝ) : EReal) := by
  unfold k0_pay1; rw [self]; exact Ideal.ofBits_zero_f32
theorem zero19 (r : Fin 512) (d : Fin 256) : k0_pay4 (F := Ideal) (ix2 r d) = ((0 : ℝ) : EReal) := by
  unfold k0_pay4; rw [self]; exact Ideal.ofBits_zero_f32
theorem zero20 (r : Fin 512) (d : Fin 128) : k0_pay5 (F := Ideal) (ix2 r d) = ((0 : ℝ) : EReal) := by
  unfold k0_pay5; rw [self]; exact Ideal.ofBits_zero_f32
theorem zero21 (r : Fin 4) (d : Fin 512) : k0_pay2 (F := Ideal) (ix2 r d) = ((0 : ℝ) : EReal) := by
  unfold k0_pay2; rw [self]; exact Ideal.ofBits_zero_f32

theorem diag_zero : ∀ p : Fin 10, p.val = 0 → ikN p = iqN p := by decide

theorem stp_eq (i : grid0.Coords) (p : Fin 10) (hp : i 2 = p) : stp i x s =
    ⟨n18 i (ikW p) (iqW p) (chk p) x.q x.k x.v x.g x.o x.l x.a x.b s.x18 s.x22, n19 (ikW p) (iqW p) (chk p) x.q x.k x.v x.g x.o x.l x.a x.b s.x19 s.x22,
      n20 (ikW p) (iqW p) (chk p) x.q x.k x.v x.g x.o x.l x.a x.b s.x20 s.x22, n21 i (ikW p) (iqW p) (chk p) x.q x.k x.v x.g x.o x.l x.a x.b s.x21 s.x22,
      n22 (ikW p) (iqW p) x.g x.o s.x22⟩ := by
  subst hp; rfl

theorem St.step (i : grid0.Coords) (p : Fin 10) (hp : i 2 = p) (hx : Blk H (iqN p) (ikN p) x) (h : St H p.val s) : St H (p.val + 1) (stp i x s) := by
  have h22 := fun q a hy => n22_at p hx s.x22 h.x22 q a hy
  have hD : ∀ a : Fin 512, n22 (ikW p) (iqW p) x.g x.o s.x22 (ix2 ⟨iqN p, iqN_lt p⟩ a) = ((H.D (512 * iqN p + a.val) : ℝ) : EReal) :=
    fun a => h22 ⟨iqN p, iqN_lt p⟩ a (iqN_lt_succ p)
  have c1 : cond1 i = 1#1 ↔ p.val = 0 := by rw [← hp]; exact cond1_iff i
  rw [stp_eq i p hp]
  have d0 : p.val = 0 → ikN p = iqN p := diag_zero p
  refine ⟨fun _ r d => ?_, fun _ b d => ?_, fun _ b d => ?_, fun _ q a => ?_, h22⟩
  · have e : z18 i s.x18 (ix2 r d) = ((acc (T18 H r.val d.val) (r.val / 512) p.val : ℝ) : EReal) := by
      unfold z18
      by_cases h0 : p.val = 0
      · rw [if_pos (c1.mpr h0), h0]; exact zero18 r d
      · rw [if_neg (fun hc => h0 (c1.mp hc))]; exact h.x18 h0 r d
    refine (x18_at p hx _ hD (z18 i s.x18) r d).trans ?_
    rw [e, acc, qN_val, kN_val, EReal.coe_add]
    by_cases hq : r.val / 512 = iqN p
    · rw [if_pos hq, if_pos hq]; rfl
    · rw [if_neg hq, if_neg hq, EReal.coe_zero, add_zero]
  · have e : z19 (ikW p) (iqW p) s.x19 (ix2 b d) = ((if kN p.val = qN p.val then 0 else col (T19 H b.val d.val) p.val : ℝ) : EReal) := by
      unfold z19
      rw [kN_val, qN_val]
      by_cases h0 : ikN p = iqN p
      · rw [if_pos ((c3 p).mpr h0), if_pos h0]; exact zero19 b d
      · rw [if_neg (fun hc => h0 ((c3 p).mp hc)), if_neg h0]; exact h.x19 (fun hc => h0 (d0 hc)) b d
    refine (x19_at p hx _ hD (z19 (ikW p) (iqW p) s.x19) b d).trans ?_
    rw [e, col, EReal.coe_add, T19, kN_val, qN_val]
  · have e : z20 (ikW p) (iqW p) s.x20 (ix2 b d) = ((if kN p.val = qN p.val then 0 else col (T20 H b.val d.val) p.val : ℝ) : EReal) := by
      unfold z20
      rw [kN_val, qN_val]
      by_cases h0 : ikN p = iqN p
      · rw [if_pos ((c3 p).mpr h0), if_pos h0]; exact zero20 b d
      · rw [if_neg (fun hc => h0 ((c3 p).mp hc)), if_neg h0]; exact h.x20 (fun hc => h0 (d0 hc)) b d
    refine (x20_at p hx (n22 (ikW p) (iqW p) x.g x.o s.x22) (z20 (ikW p) (iqW p) s.x20) b d).trans ?_
    rw [e, col, EReal.coe_add, T20, kN_val, qN_val]
  · have e : z21 i s.x21 (ix2 q a) = ((acc (T21 H (512 * q.val + a.val)) q.val p.val : ℝ) : EReal) := by
      unfold z21
      by_cases h0 : p.val = 0
      · rw [if_pos (c1.mpr h0), h0]; exact zero21 q a
      · rw [if_neg (fun hc => h0 (c1.mp hc))]; exact h.x21 h0 q a
    refine (x21_at p hx _ hD (z21 i s.x21) q a).trans ?_
    rw [e, acc, qN_val, kN_val, EReal.coe_add]
    by_cases hq : q.val = iqN p
    · rw [if_pos hq, if_pos hq]; rfl
    · rw [if_neg hq, if_neg hq, EReal.coe_zero, add_zero]

/-! ## Closed forms -/

theorem blocks4 (f : ℕ → ℝ) : ∑ i ∈ Finset.range 2048, f i = ∑ Q ∈ Finset.range 4, ∑ a ∈ Finset.range 512, f (512 * Q + a) := sum_blocks 4 f

theorem end18 (r d : ℕ) (hr : r < 2048) : acc (T18 H r d) (r / 512) 10 * sc = H.dq r d := by
  rw [acc_ten (T18 H r d) _ (by omega) (fun B hB => Finset.sum_eq_zero fun b hb => by rw [H.ds_off (by omega), zero_mul]), Hd.dq, blocks4]
  rfl
theorem end21 (q a : ℕ) (hq : q < 4) (ha : a < 512) : acc (T21 H (512 * q + a)) q 10 = H.dfq (512 * q + a) := by
  rw [acc_ten (T21 H (512 * q + a)) _ hq (fun B hB => Finset.sum_eq_zero fun b hb => H.ds_off (by omega)), Hd.dfq, blocks4]
  rfl
theorem end19q (p : Fin 10) (hp : iqN p = 3) (b d : ℕ) (hb : b < 512) (hd : d < 128) : col (T19 H b d) (p.val + 1) = H.dk (512 * ikN p + b) d := by
  rw [col_end _ p hp (fun A hA => Finset.sum_eq_zero fun a ha => by rw [H.ds_off (by have := Finset.mem_range.1 ha; omega), zero_mul]), Hd.dk, blocks4]
  refine Finset.sum_congr rfl fun A _ => Finset.sum_congr rfl fun a _ => ?_
  rw [qo, if_pos hd]
theorem end19f (p : Fin 10) (hp : iqN p = 3) (b d : ℕ) (hb : b < 512) (hd : ¬ d < 128) : -col (T19 H b d) (p.val + 1) = H.dfk (512 * ikN p + b) := by
  rw [col_end _ p hp (fun A hA => Finset.sum_eq_zero fun a ha => by rw [H.ds_off (by have := Finset.mem_range.1 ha; omega), zero_mul]), Hd.dfk, blocks4]
  refine congrArg _ (Finset.sum_congr rfl fun A _ => Finset.sum_congr rfl fun a _ => ?_)
  rw [qo, if_neg hd, mul_one]
theorem end20 (p : Fin 10) (hp : iqN p = 3) (b d : ℕ) (hb : b < 512) : col (T20 H b d) (p.val + 1) = H.dv (512 * ikN p + b) d := by
  rw [col_end _ p hp (fun A hA => Finset.sum_eq_zero fun a ha => by rw [H.p_off (by have := Finset.mem_range.1 ha; omega), zero_mul]), Hd.dv, blocks4]
  rfl

end Cert.Val
-- ==== Proof.Val.Grid.lean ====
/- The grid's scratch buffers over the ten block pairs of a head, and the blocks written back. -/
module

public import proofs.«01_k».proof.Proof.Val.Blk
public import proofs.«01_k».proof.Proof.Val.Ind

@[expose] public section

set_option maxRecDepth 16384

noncomputable section

namespace Cert.Val

open Cert.KernelIdeal Cert.KernelIdeal.Gen Cert.KernelIdeal.Attn Cert.ReferenceIdeal.Read Idealize.ShloMosaic Idealize.ShloMosaic.TcCoe Idealize.SL.Sem

variable {m : (ℓ : Loc nD τ sig) → Buf (Elt Ideal) ℓ} {c : Dev nD} {hd : ℕ → ℕ → Hd}

theorem n320 : grid0.N = 320 := by decide +kernel

/-- Before its `p`-th pair, a head's scratch buffers hold the sums over the pairs before it. -/
theorem grid (R : Rep hd (a0 m c) (a1 m c) (a2 m c) (a3 m c) (a4 m c)) (b : Fin 4) (h : Fin 8) :
    ∀ p : ℕ, p ≤ 10 → St (hd b.val h.val) p (scr m c (80 * b.val + 10 * h.val + p))
  | 0, _ => ⟨fun n => absurd rfl n, fun n => absurd rfl n, fun n => absurd rfl n, fun n => absurd rfl n, fun q _ hq => absurd hq (Nat.not_lt_zero _)⟩
  | p + 1, hp => by
    have hN := n320
    have ht : 80 * b.val + 10 * h.val + p < grid0.N := by omega
    have c0' := c0 ⟨_, ht⟩
    have c1' := c1 ⟨_, ht⟩
    have c2' := c2 ⟨_, ht⟩
    have h0 : (grid0.coords ⟨_, ht⟩ 0).val = b.val := c0'.trans (by show (80 * b.val + 10 * h.val + p) / 80 = b.val; omega)
    have h1 : (grid0.coords ⟨_, ht⟩ 1).val = h.val := c1'.trans (by show (80 * b.val + 10 * h.val + p) / 10 % 8 = h.val; omega)
    have h2 : grid0.coords ⟨_, ht⟩ 2 = (⟨p, by omega⟩ : Fin 10) := Fin.ext (c2'.trans (by show (80 * b.val + 10 * h.val + p) % 10 = p; omega))
    have e := scr_succ m c ⟨_, ht⟩
    have s := St.step (grid0.coords ⟨_, ht⟩) ⟨p, by omega⟩ h2 (blk R ⟨_, ht⟩ b h ⟨p, by omega⟩ h0 h1 h2) (grid R b h p (by omega))
    rw [← Nat.add_assoc]
    exact (e ▸ s :)

/-! ## The blocks written back, entry by entry -/

theorem pay9 (X : Vec Ideal S512x256 .f32) (r : Fin 512) (d : Fin 128) : k0_pay9 X (ix3 0 r d) = X (ix2 r ⟨d.val, by omega⟩) := by
  unfold k0_pay9
  refine (usq _ _ r d).trans ?_
  exact extractStridedSlice_apply (s := S512x256) (t := S512x128) ![0, 0] X slices_S512x256_o0_0_S512x128 (ix2 r d) (ix2 r ⟨d.val, by omega⟩)
    (fun a => match a with | ⟨0, _⟩ => (Nat.zero_add _).symm | ⟨1, _⟩ => (Nat.zero_add _).symm)

theorem pay10 (X : Vec Ideal S512x256 .f32) (r : Fin 512) (d : Fin 128) :
    k0_pay10 X (ix3 0 r d) = (0 - X (ix2 r ⟨128 + d.val, by omega⟩) : EReal) := by
  unfold k0_pay10
  refine (usq _ _ r d).trans ?_
  have e := extractStridedSlice_apply (s := S512x256) (t := S512x128) ![0, 128] X slices_S512x256_o0_128_S512x128 (ix2 r d) (ix2 r ⟨128 + d.val, by omega⟩)
    (fun a => match a with | ⟨0, _⟩ => (Nat.zero_add _).symm | ⟨1, _⟩ => rfl)
  show (Ideal.ofBits .f32 0x00000000#32 - extractStridedSlice S512x128 ![0, 128] X slices_S512x256_o0_128_S512x128 (ix2 r d) : EReal) = _
  rw [e, Ideal.ofBits_zero_f32]

theorem pay11 (X : Vec Ideal S512x128 .f32) (r : Fin 512) (d : Fin 128) : k0_pay11 X (ix3 0 r d) = X (ix2 r d) := by
  unfold k0_pay11
  exact usq _ _ r d

theorem pay12 (X : Vec Ideal S2048x128 .f32) (r : Fin 2048) (d : Fin 128) : k0_pay12 X (ix3 0 r d) = (X (ix2 r d) * ((sc : ℝ) : EReal) : EReal) := by
  unfold k0_pay12
  refine (shapeCast_apply (s := S2048x128) (t := S1x2048x128) _ _ (ix3 0 r d) (ix2 r d) (by
    rw [Shape.rowMajor_val_three, Shape.rowMajor_val_two]
    show r.val * 128 + d.val = (0 * 2048 + r.val) * 128 + d.val; omega)).trans ?_
  show (X (ix2 r d) * Ideal.ofBits .f32 0x3DB504F3#32 : EReal) = _
  rw [sc_coe]

theorem pay13 (X : Vec Ideal S4x512 .f32) (q : Fin 4) (a : Fin 512) : k0_pay13 X (ix3 0 q a) = X (ix2 q a) := by
  unfold k0_pay13
  exact shapeCast_apply (s := S4x512) (t := S1x4x512) _ _ (ix3 0 q a) (ix2 q a) (by
    rw [Shape.rowMajor_val_three, Shape.rowMajor_val_two]
    show q.val * 512 + a.val = (0 * 4 + q.val) * 512 + a.val; omega)

end Cert.Val
-- ==== Proof.Val.Out.lean ====
/- What the five result arrays hold after the run: the reference program's results. -/
module

public import proofs.«01_k».proof.Proof.Val.Grid

@[expose] public section

set_option maxRecDepth 16384

noncomputable section

namespace Cert.Val

open Cert.KernelIdeal Cert.KernelIdeal.Gen Cert.KernelIdeal.Attn Cert.ReferenceIdeal.Read Idealize.ShloMosaic Idealize.ShloMosaic.TcCoe Idealize.SL.Sem

variable {m : (ℓ : Loc nD τ sig) → Buf (Elt Ideal) ℓ} {c : Dev nD} {hd : ℕ → ℕ → Hd}

/-- A point is a batch, a head and a pair. -/
theorem dec (t : Fin grid0.N) : ∃ (b : Fin 4) (h : Fin 8) (p : Fin 10), t.val = 80 * b.val + 10 * h.val + p.val
    ∧ (grid0.coords t 0).val = b.val ∧ (grid0.coords t 1).val = h.val ∧ grid0.coords t 2 = p := by
  have hN := n320
  have ht := t.isLt
  refine ⟨⟨t.val / 80, by omega⟩, ⟨t.val / 10 % 8, by omega⟩, ⟨t.val % 10, by omega⟩, ?_, c0 t, c1 t, Fin.ext (c2 t)⟩
  show t.val = 80 * (t.val / 80) + 10 * (t.val / 10 % 8) + t.val % 10
  omega

theorem enc (b : Fin 4) (h : Fin 8) (p : Fin 10) : ∃ t : Fin grid0.N, (grid0.coords t 0).val = b.val ∧ (grid0.coords t 1).val = h.val ∧ grid0.coords t 2 = p := by
  have hN := n320
  have hb := b.isLt
  have hh := h.isLt
  have hp := p.isLt
  have ht : 80 * b.val + 10 * h.val + p.val < grid0.N := by omega
  refine ⟨⟨_, ht⟩, (c0 ⟨_, ht⟩).trans ?_, (c1 ⟨_, ht⟩).trans ?_, Fin.ext ((c2 ⟨_, ht⟩).trans ?_)⟩
  · show (80 * b.val + 10 * h.val + p.val) / 80 = b.val; omega
  · show (80 * b.val + 10 * h.val + p.val) / 10 % 8 = h.val; omega
  · show (80 * b.val + 10 * h.val + p.val) % 10 = p.val; omega

/-- The scratch buffers after a point. -/
theorem grid' (R : Rep hd (a0 m c) (a1 m c) (a2 m c) (a3 m c) (a4 m c)) (t : Fin grid0.N) (b : Fin 4) (h : Fin 8) (p : Fin 10)
    (ht : t.val = 80 * b.val + 10 * h.val + p.val) : St (hd b.val h.val) (p.val + 1) (scr m c (t.val + 1)) := by
  have s := grid R b h (p.val + 1) (by omega)
  rw [ht]; exact s

/-- The last pair of a key block. -/
theorem last_of : ∀ k : Fin 4, ∃ p : Fin 10, iqN p = 3 ∧ ikN p = k.val := by decide

theorem three {n0 n1 n2 : ℕ} (y : (⟨3, ![n0, n1, n2]⟩ : Shape).Idx) : ∃ (a : Fin n0) (b : Fin n1) (d : Fin n2), y = Idealize.ShloMosaic.ix3 a b d :=
  ⟨y 0, y 1, y 2, funext fun a => match a with | ⟨0, _⟩ => rfl | ⟨1, _⟩ => rfl | ⟨2, _⟩ => rfl⟩

end Cert.Val
-- ==== Proof.Val.Out8.lean ====
/- A result array after the run is the reference program's result. -/
module

public import proofs.«01_k».proof.Proof.Val.Out

@[expose] public section

set_option maxRecDepth 16384

noncomputable section

namespace Cert.Val

open Cert.KernelIdeal Cert.KernelIdeal.Gen Cert.KernelIdeal.Attn Cert.ReferenceIdeal.Read Idealize.ShloMosaic Idealize.ShloMosaic.TcCoe Idealize.SL.Sem

variable {m : (ℓ : Loc nD τ sig) → Buf (Elt Ideal) ℓ} {c : Dev nD} {hd : ℕ → ℕ → Hd}

/-! ## Window 8 -/

theorem aft8 (t : Fin grid0.N) : (dats m 0 c).after 8 t = k0_pay12 (scr m c (t.val + 1)).x18 := by
  dsimp only [dats]; try rfl

theorem at8 (R : Rep hd (a0 m c) (a1 m c) (a2 m c) (a3 m c) (a4 m c)) (t : Fin grid0.N) (b : Fin 4) (h : Fin 8) (p : Fin 10)
    (ht : t.val = 80 * b.val + 10 * h.val + p.val) (h0 : (grid0.coords t 0).val = b.val) (h1 : (grid0.coords t 1).val = h.val) (h2 : grid0.coords t 2 = p)
    (hp9 : p = 9) (r : Fin 2048) (d : Fin 128) :
    k0_pay12 (scr m c (t.val + 1)).x18 (ix3 0 r d)
      = val_main_v89 (F := Ideal) (a0 m c) (a1 m c) (a2 m c) (a3 m c) (a4 m c) ((((cfgA (F := Ideal)).win 8).blk t).view.emb (ix3 (0 : Fin 1) (r : Fin 2048) (d : Fin 128))) := by
  have i0 : (((((cfgA (F := Ideal)).win 8).blk t).view.emb (ix3 (0 : Fin 1) (r : Fin 2048) (d : Fin 128))) 0).val = b.val := (e8 t _ 0).trans (by show (grid0.coords t 0).val * 1 + 0 = b.val; omega)
  have i1 : (((((cfgA (F := Ideal)).win 8).blk t).view.emb (ix3 (0 : Fin 1) (r : Fin 2048) (d : Fin 128))) 1).val = r.val := (e8 t _ 1).trans (by show 0 * 2048 + r.val = r.val; omega)
  have i2 : (((((cfgA (F := Ideal)).win 8).blk t).view.emb (ix3 (0 : Fin 1) (r : Fin 2048) (d : Fin 128))) 2).val = h.val * 128 + d.val := (e8 t _ 2).trans (by show (grid0.coords t 1).val * 128 + d.val = h.val * 128 + d.val; rw [h1])
  have s := grid' R t b h p ht
  subst hp9
  refine (pay12 _ r d).trans (Eq.trans ?_ (R.v89 _).symm)
  rw [i0, i1, i2, show (h.val * 128 + d.val) / 128 = h.val by omega, show (h.val * 128 + d.val) % 128 = d.val by omega]
  refine (congrArg (fun z : EReal => z * ((sc : ℝ) : EReal)) (s.x18 (by decide) r d)).trans ?_
  rw [← EReal.coe_mul]
  exact congrArg _ (end18 r.val d.val r.isLt)

theorem cov8 (i : S4x2048x1024.Idx) : ∃ t : Fin grid0.N, ((cfgA (F := Ideal)).win 8).flush t = true ∧ i ∈ (((cfgA (F := Ideal)).win 8).blk t).view.set := by
  obtain ⟨x, y, z, rfl⟩ := three i
  obtain ⟨t, h0, h1, h2⟩ := enc x (⟨z.val / 128, by omega⟩ : Fin 8) 9
  have key : (((cfgA (F := Ideal)).win 8).blk t).view.emb (ix3 (0 : Fin 1) y (⟨z.val % 128, by omega⟩ : Fin 128)) = (Idealize.ShloMosaic.ix3 x y z : S4x2048x1024.Idx) :=
    funext fun a => Fin.ext (match a with
      | ⟨0, _⟩ => (e8 t _ 0).trans (by show (grid0.coords t 0).val * 1 + 0 = x.val; omega)
      | ⟨1, _⟩ => (e8 t _ 1).trans (by show 0 * 2048 + y.val = y.val; omega)
      | ⟨2, _⟩ => (e8 t _ 2).trans (by show (grid0.coords t 1).val * 128 + z.val % 128 = z.val; rw [h1]; show z.val / 128 * 128 + z.val % 128 = z.val; omega))
  refine ⟨t, (flush8 t).trans (by rw [h2]; rfl), ?_⟩
  rw [← key]
  exact View.emb_mem_set _ _

theorem out8 (R : Rep hd (a0 m c) (a1 m c) (a2 m c) (a3 m c) (a4 m c)) :
    (dats m 0 c).arrAt 8 (cfgA (F := Ideal)).N = val_main_v89 (F := Ideal) (a0 m c) (a1 m c) (a2 m c) (a3 m c) (a4 m c) := by
  refine (dats m 0 c).arrAt_eq_of_emb 8 _ (fun t hf y => ?_) (fun i => cov8 i)
  obtain ⟨b, h, p, ht, h0, h1, h2⟩ := dec t
  have h9 : p = 9 := by rw [flush8, h2] at hf; exact (by decide : ∀ p : Fin 10, (p == (9 : Fin 10)) = true → p = 9) p hf
  obtain ⟨x, r, d, rfl⟩ := three (n0 := 1) (n1 := 2048) (n2 := 128) y
  rw [aft8, Subsingleton.elim x 0]
  exact at8 R t b h p ht h0 h1 h2 h9 r d

end Cert.Val
-- ==== Proof.Val.Out9.lean ====
/- A result array after the run is the reference program's result. -/
module

public import proofs.«01_k».proof.Proof.Val.Out

@[expose] public section

set_option maxRecDepth 16384

noncomputable section

namespace Cert.Val

open Cert.KernelIdeal Cert.KernelIdeal.Gen Cert.KernelIdeal.Attn Cert.ReferenceIdeal.Read Idealize.ShloMosaic Idealize.ShloMosaic.TcCoe Idealize.SL.Sem

variable {m : (ℓ : Loc nD τ sig) → Buf (Elt Ideal) ℓ} {c : Dev nD} {hd : ℕ → ℕ → Hd}

/-! ## Window 9 -/

theorem aft9 (t : Fin grid0.N) : (dats m 0 c).after 9 t = k0_pay9 (scr m c (t.val + 1)).x19 := by
  dsimp only [dats]; try rfl

theorem at9 (R : Rep hd (a0 m c) (a1 m c) (a2 m c) (a3 m c) (a4 m c)) (t : Fin grid0.N) (b : Fin 4) (h : Fin 8) (p : Fin 10)
    (ht : t.val = 80 * b.val + 10 * h.val + p.val) (h0 : (grid0.coords t 0).val = b.val) (h1 : (grid0.coords t 1).val = h.val) (h2 : grid0.coords t 2 = p)
    (h3 : iqN p = 3) (r : Fin 512) (d : Fin 128) :
    k0_pay9 (scr m c (t.val + 1)).x19 (ix3 0 r d)
      = val_main_v90 (F := Ideal) (a0 m c) (a1 m c) (a2 m c) (a3 m c) (a4 m c) ((((cfgA (F := Ideal)).win 9).blk t).view.emb (ix3 (0 : Fin 1) (r : Fin 512) (d : Fin 128))) := by
  have i0 : (((((cfgA (F := Ideal)).win 9).blk t).view.emb (ix3 (0 : Fin 1) (r : Fin 512) (d : Fin 128))) 0).val = b.val := (e9 t _ 0).trans (by show (grid0.coords t 0).val * 1 + 0 = b.val; omega)
  have i1 : (((((cfgA (F := Ideal)).win 9).blk t).view.emb (ix3 (0 : Fin 1) (r : Fin 512) (d : Fin 128))) 1).val = 512 * ikN p + r.val := (e9 t _ 1).trans (by show ikN (grid0.coords t 2) * 512 + r.val = 512 * ikN p + r.val; rw [h2]; omega)
  have i2 : (((((cfgA (F := Ideal)).win 9).blk t).view.emb (ix3 (0 : Fin 1) (r : Fin 512) (d : Fin 128))) 2).val = h.val * 128 + d.val := (e9 t _ 2).trans (by show (grid0.coords t 1).val * 128 + d.val = h.val * 128 + d.val; rw [h1])
  have s := grid' R t b h p ht
  refine (pay9 _ r d).trans (Eq.trans ?_ (R.v90 _).symm)
  rw [i0, i1, i2, show (h.val * 128 + d.val) / 128 = h.val by omega, show (h.val * 128 + d.val) % 128 = d.val by omega]
  refine (s.x19 (Nat.succ_ne_zero _) r ⟨d.val, by omega⟩).trans (congrArg _ ?_)
  exact end19q p h3 r.val d.val r.isLt d.isLt

theorem cov9 (i : S4x2048x1024.Idx) : ∃ t : Fin grid0.N, ((cfgA (F := Ideal)).win 9).flush t = true ∧ i ∈ (((cfgA (F := Ideal)).win 9).blk t).view.set := by
  obtain ⟨x, y, z, rfl⟩ := three i
  obtain ⟨p, h3, hk⟩ := last_of ⟨y.val / 512, by omega⟩
  obtain ⟨t, h0, h1, h2⟩ := enc x (⟨z.val / 128, by omega⟩ : Fin 8) p
  have key : (((cfgA (F := Ideal)).win 9).blk t).view.emb (ix3 (0 : Fin 1) (⟨y.val % 512, by omega⟩ : Fin 512) (⟨z.val % 128, by omega⟩ : Fin 128)) = (Idealize.ShloMosaic.ix3 x y z : S4x2048x1024.Idx) :=
    funext fun a => Fin.ext (match a with
      | ⟨0, _⟩ => (e9 t _ 0).trans (by show (grid0.coords t 0).val * 1 + 0 = x.val; omega)
      | ⟨1, _⟩ => (e9 t _ 1).trans (by show ikN (grid0.coords t 2) * 512 + y.val % 512 = y.val; rw [h2, hk]; show y.val / 512 * 512 + y.val % 512 = y.val; omega)
      | ⟨2, _⟩ => (e9 t _ 2).trans (by show (grid0.coords t 1).val * 128 + z.val % 128 = z.val; rw [h1]; show z.val / 128 * 128 + z.val % 128 = z.val; omega))
  refine ⟨t, (flush9 t).trans (by rw [h2, h3]; rfl), ?_⟩
  rw [← key]
  exact View.emb_mem_set _ _

theorem out9 (R : Rep hd (a0 m c) (a1 m c) (a2 m c) (a3 m c) (a4 m c)) :
    (dats m 0 c).arrAt 9 (cfgA (F := Ideal)).N = val_main_v90 (F := Ideal) (a0 m c) (a1 m c) (a2 m c) (a3 m c) (a4 m c) := by
  refine (dats m 0 c).arrAt_eq_of_emb 9 _ (fun t hf y => ?_) (fun i => cov9 i)
  obtain ⟨b, h, p, ht, h0, h1, h2⟩ := dec t
  have h9 : iqN p = 3 := by rw [flush9, h2] at hf; exact beq_iff_eq.1 hf
  obtain ⟨x, r, d, rfl⟩ := three (n0 := 1) (n1 := 512) (n2 := 128) y
  rw [aft9, Subsingleton.elim x 0]
  exact at9 R t b h p ht h0 h1 h2 h9 r d

end Cert.Val
-- ==== Proof.Val.Out10.lean ====
/- A result array after the run is the reference program's result. -/
module

public import proofs.«01_k».proof.Proof.Val.Out

@[expose] public section

set_option maxRecDepth 16384

noncomputable section

namespace Cert.Val

open Cert.KernelIdeal Cert.KernelIdeal.Gen Cert.KernelIdeal.Attn Cert.ReferenceIdeal.Read Idealize.ShloMosaic Idealize.ShloMosaic.TcCoe Idealize.SL.Sem

variable {m : (ℓ : Loc nD τ sig) → Buf (Elt Ideal) ℓ} {c : Dev nD} {hd : ℕ → ℕ → Hd}

/-! ## Window 10 -/

theorem aft10 (t : Fin grid0.N) : (dats m 0 c).after 10 t = k0_pay11 (scr m c (t.val + 1)).x20 := by
  dsimp only [dats]; try rfl

theorem at10 (R : Rep hd (a0 m c) (a1 m c) (a2 m c) (a3 m c) (a4 m c)) (t : Fin grid0.N) (b : Fin 4) (h : Fin 8) (p : Fin 10)
    (ht : t.val = 80 * b.val + 10 * h.val + p.val) (h0 : (grid0.coords t 0).val = b.val) (h1 : (grid0.coords t 1).val = h.val) (h2 : grid0.coords t 2 = p)
    (h3 : iqN p = 3) (r : Fin 512) (d : Fin 128) :
    k0_pay11 (scr m c (t.val + 1)).x20 (ix3 0 r d)
      = val_main_v91 (F := Ideal) (a0 m c) (a1 m c) (a3 m c) (a4 m c) ((((cfgA (F := Ideal)).win 10).blk t).view.emb (ix3 (0 : Fin 1) (r : Fin 512) (d : Fin 128))) := by
  have i0 : (((((cfgA (F := Ideal)).win 10).blk t).view.emb (ix3 (0 : Fin 1) (r : Fin 512) (d : Fin 128))) 0).val = b.val := (e10 t _ 0).trans (by show (grid0.coords t 0).val * 1 + 0 = b.val; omega)
  have i1 : (((((cfgA (F := Ideal)).win 10).blk t).view.emb (ix3 (0 : Fin 1) (r : Fin 512) (d : Fin 128))) 1).val = 512 * ikN p + r.val := (e10 t _ 1).trans (by show ikN (grid0.coords t 2) * 512 + r.val = 512 * ikN p + r.val; rw [h2]; omega)
  have i2 : (((((cfgA (F := Ideal)).win 10).blk t).view.emb (ix3 (0 : Fin 1) (r : Fin 512) (d : Fin 128))) 2).val = h.val * 128 + d.val := (e10 t _ 2).trans (by show (grid0.coords t 1).val * 128 + d.val = h.val * 128 + d.val; rw [h1])
  have s := grid' R t b h p ht
  refine (pay11 _ r d).trans (Eq.trans ?_ (R.v91 _).symm)
  rw [i0, i1, i2, show (h.val * 128 + d.val) / 128 = h.val by omega, show (h.val * 128 + d.val) % 128 = d.val by omega]
  refine (s.x20 (Nat.succ_ne_zero _) r d).trans (congrArg _ ?_)
  exact end20 p h3 r.val d.val r.isLt

theorem cov10 (i : S4x2048x1024.Idx) : ∃ t : Fin grid0.N, ((cfgA (F := Ideal)).win 10).flush t = true ∧ i ∈ (((cfgA (F := Ideal)).win 10).blk t).view.set := by
  obtain ⟨x, y, z, rfl⟩ := three i
  obtain ⟨p, h3, hk⟩ := last_of ⟨y.val / 512, by omega⟩
  obtain ⟨t, h0, h1, h2⟩ := enc x (⟨z.val / 128, by omega⟩ : Fin 8) p
  have key : (((cfgA (F := Ideal)).win 10).blk t).view.emb (ix3 (0 : Fin 1) (⟨y.val % 512, by omega⟩ : Fin 512) (⟨z.val % 128, by omega⟩ : Fin 128)) = (Idealize.ShloMosaic.ix3 x y z : S4x2048x1024.Idx) :=
    funext fun a => Fin.ext (match a with
      | ⟨0, _⟩ => (e10 t _ 0).trans (by show (grid0.coords t 0).val * 1 + 0 = x.val; omega)
      | ⟨1, _⟩ => (e10 t _ 1).trans (by show ikN (grid0.coords t 2) * 512 + y.val % 512 = y.val; rw [h2, hk]; show y.val / 512 * 512 + y.val % 512 = y.val; omega)
      | ⟨2, _⟩ => (e10 t _ 2).trans (by show (grid0.coords t 1).val * 128 + z.val % 128 = z.val; rw [h1]; show z.val / 128 * 128 + z.val % 128 = z.val; omega))
  refine ⟨t, (flush10 t).trans (by rw [h2, h3]; rfl), ?_⟩
  rw [← key]
  exact View.emb_mem_set _ _

theorem out10 (R : Rep hd (a0 m c) (a1 m c) (a2 m c) (a3 m c) (a4 m c)) :
    (dats m 0 c).arrAt 10 (cfgA (F := Ideal)).N = val_main_v91 (F := Ideal) (a0 m c) (a1 m c) (a3 m c) (a4 m c) := by
  refine (dats m 0 c).arrAt_eq_of_emb 10 _ (fun t hf y => ?_) (fun i => cov10 i)
  obtain ⟨b, h, p, ht, h0, h1, h2⟩ := dec t
  have h9 : iqN p = 3 := by rw [flush10, h2] at hf; exact beq_iff_eq.1 hf
  obtain ⟨x, r, d, rfl⟩ := three (n0 := 1) (n1 := 512) (n2 := 128) y
  rw [aft10, Subsingleton.elim x 0]
  exact at10 R t b h p ht h0 h1 h2 h9 r d

end Cert.Val
-- ==== Proof.Val.Out11.lean ====
/- A result array after the run is the reference program's result. -/
module

public import proofs.«01_k».proof.Proof.Val.Out

@[expose] public section

set_option maxRecDepth 16384

noncomputable section

namespace Cert.Val

open Cert.KernelIdeal Cert.KernelIdeal.Gen Cert.KernelIdeal.Attn Cert.ReferenceIdeal.Read Idealize.ShloMosaic Idealize.ShloMosaic.TcCoe Idealize.SL.Sem

variable {m : (ℓ : Loc nD τ sig) → Buf (Elt Ideal) ℓ} {c : Dev nD} {hd : ℕ → ℕ → Hd}

/-! ## Window 11 -/

theorem aft11 (t : Fin grid0.N) : (dats m 0 c).after 11 t = k0_pay10 (scr m c (t.val + 1)).x19 := by
  dsimp only [dats]; try rfl

theorem at11 (R : Rep hd (a0 m c) (a1 m c) (a2 m c) (a3 m c) (a4 m c)) (t : Fin grid0.N) (b : Fin 4) (h : Fin 8) (p : Fin 10)
    (ht : t.val = 80 * b.val + 10 * h.val + p.val) (h0 : (grid0.coords t 0).val = b.val) (h1 : (grid0.coords t 1).val = h.val) (h2 : grid0.coords t 2 = p)
    (h3 : iqN p = 3) (r : Fin 512) (d : Fin 128) :
    k0_pay10 (scr m c (t.val + 1)).x19 (ix3 0 r d)
      = val_main_v94 (F := Ideal) (a0 m c) (a1 m c) (a2 m c) (a3 m c) (a4 m c) ((((cfgA (F := Ideal)).win 11).blk t).view.emb (ix3 (0 : Fin 1) (r : Fin 512) (d : Fin 128))) := by
  have i0 : (((((cfgA (F := Ideal)).win 11).blk t).view.emb (ix3 (0 : Fin 1) (r : Fin 512) (d : Fin 128))) 0).val = b.val * 8 + h.val := (e11 t _ 0).trans (by show ((grid0.coords t 0).val * 8 + (grid0.coords t 1).val) * 1 + 0 = b.val * 8 + h.val; omega)
  have i1 : (((((cfgA (F := Ideal)).win 11).blk t).view.emb (ix3 (0 : Fin 1) (r : Fin 512) (d : Fin 128))) 1).val = 512 * ikN p + r.val := (e11 t _ 1).trans (by show ikN (grid0.coords t 2) * 512 + r.val = 512 * ikN p + r.val; rw [h2]; omega)
  have s := grid' R t b h p ht
  refine (pay10 _ r d).trans (Eq.trans ?_ (R.v94 _).symm)
  rw [i0, i1, show (b.val * 8 + h.val) / 8 = b.val by omega, show (b.val * 8 + h.val) % 8 = h.val by omega]
  refine (congrArg (fun z : EReal => (0 : EReal) - z) (s.x19 (Nat.succ_ne_zero _) r ⟨128 + d.val, by omega⟩)).trans ?_
  show ((0 : EReal) - _) = _
  rw [zero_sub, ← EReal.coe_neg]
  exact congrArg _ (end19f p h3 r.val (128 + d.val) r.isLt (by omega))

theorem cov11 (i : S32x2048x128.Idx) : ∃ t : Fin grid0.N, ((cfgA (F := Ideal)).win 11).flush t = true ∧ i ∈ (((cfgA (F := Ideal)).win 11).blk t).view.set := by
  obtain ⟨x, y, z, rfl⟩ := three i
  obtain ⟨p, h3, hk⟩ := last_of ⟨y.val / 512, by omega⟩
  obtain ⟨t, h0, h1, h2⟩ := enc (⟨x.val / 8, by omega⟩ : Fin 4) (⟨x.val % 8, by omega⟩ : Fin 8) p
  have key : (((cfgA (F := Ideal)).win 11).blk t).view.emb (ix3 (0 : Fin 1) (⟨y.val % 512, by omega⟩ : Fin 512) z) = (Idealize.ShloMosaic.ix3 x y z : S32x2048x128.Idx) :=
    funext fun a => Fin.ext (match a with
      | ⟨0, _⟩ => (e11 t _ 0).trans (by show ((grid0.coords t 0).val * 8 + (grid0.coords t 1).val) * 1 + 0 = x.val; rw [h0, h1]; show (x.val / 8 * 8 + x.val % 8) * 1 + 0 = x.val; omega)
      | ⟨1, _⟩ => (e11 t _ 1).trans (by show ikN (grid0.coords t 2) * 512 + y.val % 512 = y.val; rw [h2, hk]; show y.val / 512 * 512 + y.val % 512 = y.val; omega)
      | ⟨2, _⟩ => (e11 t _ 2).trans (by show 0 * 128 + z.val = z.val; omega))
  refine ⟨t, (flush11 t).trans (by rw [h2, h3]; rfl), ?_⟩
  rw [← key]
  exact View.emb_mem_set _ _

theorem out11 (R : Rep hd (a0 m c) (a1 m c) (a2 m c) (a3 m c) (a4 m c)) :
    (dats m 0 c).arrAt 11 (cfgA (F := Ideal)).N = val_main_v94 (F := Ideal) (a0 m c) (a1 m c) (a2 m c) (a3 m c) (a4 m c) := by
  refine (dats m 0 c).arrAt_eq_of_emb 11 _ (fun t hf y => ?_) (fun i => cov11 i)
  obtain ⟨b, h, p, ht, h0, h1, h2⟩ := dec t
  have h9 : iqN p = 3 := by rw [flush11, h2] at hf; exact beq_iff_eq.1 hf
  obtain ⟨x, r, d, rfl⟩ := three (n0 := 1) (n1 := 512) (n2 := 128) y
  rw [aft11, Subsingleton.elim x 0]
  exact at11 R t b h p ht h0 h1 h2 h9 r d

end Cert.Val
-- ==== Proof.Val.Out12.lean ====
/- A result array after the run is the reference program's result. -/
module

public import proofs.«01_k».proof.Proof.Val.Out

@[expose] public section

set_option maxRecDepth 16384

noncomputable section

namespace Cert.Val

open Cert.KernelIdeal Cert.KernelIdeal.Gen Cert.KernelIdeal.Attn Cert.ReferenceIdeal.Read Idealize.ShloMosaic Idealize.ShloMosaic.TcCoe Idealize.SL.Sem

variable {m : (ℓ : Loc nD τ sig) → Buf (Elt Ideal) ℓ} {c : Dev nD} {hd : ℕ → ℕ → Hd}

/-! ## Window 12 -/

theorem aft12 (t : Fin grid0.N) : (dats m 0 c).after 12 t = k0_pay13 (scr m c (t.val + 1)).x21 := by
  dsimp only [dats]; try rfl

theorem at12 (R : Rep hd (a0 m c) (a1 m c) (a2 m c) (a3 m c) (a4 m c)) (t : Fin grid0.N) (b : Fin 4) (h : Fin 8) (p : Fin 10)
    (ht : t.val = 80 * b.val + 10 * h.val + p.val) (h0 : (grid0.coords t 0).val = b.val) (h1 : (grid0.coords t 1).val = h.val) (h2 : grid0.coords t 2 = p)
    (hp9 : p = 9) (r : Fin 4) (d : Fin 512) :
    k0_pay13 (scr m c (t.val + 1)).x21 (ix3 0 r d)
      = val_main_v95 (F := Ideal) (a0 m c) (a1 m c) (a2 m c) (a3 m c) (a4 m c) ((((cfgA (F := Ideal)).win 12).blk t).view.emb (ix3 (0 : Fin 1) (r : Fin 4) (d : Fin 512))) := by
  have i0 : (((((cfgA (F := Ideal)).win 12).blk t).view.emb (ix3 (0 : Fin 1) (r : Fin 4) (d : Fin 512))) 0).val = b.val * 8 + h.val := (e12 t _ 0).trans (by show ((grid0.coords t 0).val * 8 + (grid0.coords t 1).val) * 1 + 0 = b.val * 8 + h.val; omega)
  have i1 : (((((cfgA (F := Ideal)).win 12).blk t).view.emb (ix3 (0 : Fin 1) (r : Fin 4) (d : Fin 512))) 1).val = r.val := (e12 t _ 1).trans (by show 0 * 4 + r.val = r.val; omega)
  have i2 : (((((cfgA (F := Ideal)).win 12).blk t).view.emb (ix3 (0 : Fin 1) (r : Fin 4) (d : Fin 512))) 2).val = d.val := (e12 t _ 2).trans (by show 0 * 512 + d.val = d.val; omega)
  have s := grid' R t b h p ht
  subst hp9
  refine (pay13 _ r d).trans (Eq.trans ?_ (R.v95 _).symm)
  rw [i0, i1, i2, show (b.val * 8 + h.val) / 8 = b.val by omega, show (b.val * 8 + h.val) % 8 = h.val by omega]
  refine (s.x21 (by decide) r d).trans (congrArg _ ?_)
  exact end21 r.val d.val r.isLt d.isLt

theorem cov12 (i : S32x4x512.Idx) : ∃ t : Fin grid0.N, ((cfgA (F := Ideal)).win 12).flush t = true ∧ i ∈ (((cfgA (F := Ideal)).win 12).blk t).view.set := by
  obtain ⟨x, y, z, rfl⟩ := three i
  obtain ⟨t, h0, h1, h2⟩ := enc (⟨x.val / 8, by omega⟩ : Fin 4) (⟨x.val % 8, by omega⟩ : Fin 8) 9
  have key : (((cfgA (F := Ideal)).win 12).blk t).view.emb (ix3 (0 : Fin 1) y z) = (Idealize.ShloMosaic.ix3 x y z : S32x4x512.Idx) :=
    funext fun a => Fin.ext (match a with
      | ⟨0, _⟩ => (e12 t _ 0).trans (by show ((grid0.coords t 0).val * 8 + (grid0.coords t 1).val) * 1 + 0 = x.val; rw [h0, h1]; show (x.val / 8 * 8 + x.val % 8) * 1 + 0 = x.val; omega)
      | ⟨1, _⟩ => (e12 t _ 1).trans (by show 0 * 4 + y.val = y.val; omega)
      | ⟨2, _⟩ => (e12 t _ 2).trans (by show 0 * 512 + z.val = z.val; omega))
  refine ⟨t, (flush12 t).trans (by rw [h2]; rfl), ?_⟩
  rw [← key]
  exact View.emb_mem_set _ _

theorem out12 (R : Rep hd (a0 m c) (a1 m c) (a2 m c) (a3 m c) (a4 m c)) :
    (dats m 0 c).arrAt 12 (cfgA (F := Ideal)).N = val_main_v95 (F := Ideal) (a0 m c) (a1 m c) (a2 m c) (a3 m c) (a4 m c) := by
  refine (dats m 0 c).arrAt_eq_of_emb 12 _ (fun t hf y => ?_) (fun i => cov12 i)
  obtain ⟨b, h, p, ht, h0, h1, h2⟩ := dec t
  have h9 : p = 9 := by rw [flush12, h2] at hf; exact (by decide : ∀ p : Fin 10, (p == (9 : Fin 10)) = true → p = 9) p hf
  obtain ⟨x, r, d, rfl⟩ := three (n0 := 1) (n1 := 4) (n2 := 512) y
  rw [aft12, Subsingleton.elim x 0]
  exact at12 R t b h p ht h0 h1 h2 h9 r d

end Cert.Val
-- ==== Proof.Val.Alg.lean ====
/- The value claim: from real inputs both programs end with the same five gradients. -/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.AttnI.Frm
public import proofs.«01_k».proof.Proof.Val.Pre
public import proofs.«01_k».proof.Proof.Val.Out8
public import proofs.«01_k».proof.Proof.Val.Out9
public import proofs.«01_k».proof.Proof.Val.Out10
public import proofs.«01_k».proof.Proof.Val.Out11
public import proofs.«01_k».proof.Proof.Val.Out12

@[expose] public section

set_option maxRecDepth 16384

noncomputable section

namespace Cert.Val

open Cert.KernelIdeal Cert.KernelIdeal.Gen Cert.KernelIdeal.Attn Cert.ReferenceIdeal.Read Idealize.ShloMosaic Idealize.ShloMosaic.TcCoe Idealize.SL.Sem

section
variable {m : (ℓ : Loc nD τ sig) → Buf (Elt Ideal) ℓ}
theorem mem8 {r : PUnit × MemSt nD τ sig (Elt Ideal)}
    (hr : Pipeline.FramePost (Pipeline.pin pcfgs fun _ => adm) (dats m) 0 (V m) r) (c : Dev nD) :
    r.2.mem ((c.tc : Thread nD τ).loc main_v77_0) = (dats m 0 c).arrAt 8 (cfgA (F := Ideal)).N := (hr c).1 8
theorem res8 {r : PUnit × MemSt nD τ sig (Elt Ideal)}
    (hr : Pipeline.FramePost (Pipeline.pin pcfgs fun _ => adm) (dats m) 0 (V m) r) (c : Dev nD) (h : Cert.Pre_KernelIdeal_finite m) :
    r.2.mem ((c.tc : Thread nD τ).loc main_v77_0) = val_main_v89 (F := Ideal) (a0 m c) (a1 m c) (a2 m c) (a3 m c) (a4 m c) :=
  (mem8 hr c).trans (out8 (rep (h c)))
theorem mem9 {r : PUnit × MemSt nD τ sig (Elt Ideal)}
    (hr : Pipeline.FramePost (Pipeline.pin pcfgs fun _ => adm) (dats m) 0 (V m) r) (c : Dev nD) :
    r.2.mem ((c.tc : Thread nD τ).loc main_v77_1) = (dats m 0 c).arrAt 9 (cfgA (F := Ideal)).N := (hr c).1 9
theorem res9 {r : PUnit × MemSt nD τ sig (Elt Ideal)}
    (hr : Pipeline.FramePost (Pipeline.pin pcfgs fun _ => adm) (dats m) 0 (V m) r) (c : Dev nD) (h : Cert.Pre_KernelIdeal_finite m) :
    r.2.mem ((c.tc : Thread nD τ).loc main_v77_1) = val_main_v90 (F := Ideal) (a0 m c) (a1 m c) (a2 m c) (a3 m c) (a4 m c) :=
  (mem9 hr c).trans (out9 (rep (h c)))
theorem mem10 {r : PUnit × MemSt nD τ sig (Elt Ideal)}
    (hr : Pipeline.FramePost (Pipeline.pin pcfgs fun _ => adm) (dats m) 0 (V m) r) (c : Dev nD) :
    r.2.mem ((c.tc : Thread nD τ).loc main_v77_2) = (dats m 0 c).arrAt 10 (cfgA (F := Ideal)).N := (hr c).1 10
theorem res10 {r : PUnit × MemSt nD τ sig (Elt Ideal)}
    (hr : Pipeline.FramePost (Pipeline.pin pcfgs fun _ => adm) (dats m) 0 (V m) r) (c : Dev nD) (h : Cert.Pre_KernelIdeal_finite m) :
    r.2.mem ((c.tc : Thread nD τ).loc main_v77_2) = val_main_v91 (F := Ideal) (a0 m c) (a1 m c) (a3 m c) (a4 m c) :=
  (mem10 hr c).trans (out10 (rep (h c)))
theorem mem11 {r : PUnit × MemSt nD τ sig (Elt Ideal)}
    (hr : Pipeline.FramePost (Pipeline.pin pcfgs fun _ => adm) (dats m) 0 (V m) r) (c : Dev nD) :
    r.2.mem ((c.tc : Thread nD τ).loc main_v77_3) = (dats m 0 c).arrAt 11 (cfgA (F := Ideal)).N := (hr c).1 11
theorem res11 {r : PUnit × MemSt nD τ sig (Elt Ideal)}
    (hr : Pipeline.FramePost (Pipeline.pin pcfgs fun _ => adm) (dats m) 0 (V m) r) (c : Dev nD) (h : Cert.Pre_KernelIdeal_finite m) :
    r.2.mem ((c.tc : Thread nD τ).loc main_v77_3) = val_main_v94 (F := Ideal) (a0 m c) (a1 m c) (a2 m c) (a3 m c) (a4 m c) :=
  (mem11 hr c).trans (out11 (rep (h c)))
theorem mem12 {r : PUnit × MemSt nD τ sig (Elt Ideal)}
    (hr : Pipeline.FramePost (Pipeline.pin pcfgs fun _ => adm) (dats m) 0 (V m) r) (c : Dev nD) :
    r.2.mem ((c.tc : Thread nD τ).loc main_v77_4) = (dats m 0 c).arrAt 12 (cfgA (F := Ideal)).N := (hr c).1 12
theorem res12 {r : PUnit × MemSt nD τ sig (Elt Ideal)}
    (hr : Pipeline.FramePost (Pipeline.pin pcfgs fun _ => adm) (dats m) 0 (V m) r) (c : Dev nD) (h : Cert.Pre_KernelIdeal_finite m) :
    r.2.mem ((c.tc : Thread nD τ).loc main_v77_4) = val_main_v95 (F := Ideal) (a0 m c) (a1 m c) (a2 m c) (a3 m c) (a4 m c) :=
  (mem12 hr c).trans (out12 (rep (h c)))
end

/-- The kernel's run, its results named. -/
theorem kernel_run (m : (ℓ : Loc nD τ sig) → Buf (Elt Ideal) ℓ) (g : Dev nD → PrngReg) (h : Cert.Pre_KernelIdeal_finite m) :
    θ_run (Cert.KernelIdeal.defs (F := Ideal)) (onTc (τ := τ) (Cert.KernelIdeal.main (F := Ideal))) ⟨m, fun _ => 0, g⟩ (fun r => ∀ c : Dev nD,
      r.2.mem ((c.tc : Thread nD τ).loc main_v77_0) = val_main_v89 (F := Ideal) (a0 m c) (a1 m c) (a2 m c) (a3 m c) (a4 m c)
      ∧ r.2.mem ((c.tc : Thread nD τ).loc main_v77_1) = val_main_v90 (F := Ideal) (a0 m c) (a1 m c) (a2 m c) (a3 m c) (a4 m c)
      ∧ r.2.mem ((c.tc : Thread nD τ).loc main_v77_2) = val_main_v91 (F := Ideal) (a0 m c) (a1 m c) (a3 m c) (a4 m c)
      ∧ r.2.mem ((c.tc : Thread nD τ).loc main_v77_3) = val_main_v94 (F := Ideal) (a0 m c) (a1 m c) (a2 m c) (a3 m c) (a4 m c)
      ∧ r.2.mem ((c.tc : Thread nD τ).loc main_v77_4) = val_main_v95 (F := Ideal) (a0 m c) (a1 m c) (a2 m c) (a3 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run Cert.KernelIdeal.defs _ _).mono (fun r hr c =>
    ⟨res8 hr.1 c h, res9 hr.1 c h, res10 hr.1 c h, res11 hr.1 c h, res12 hr.1 c h, args_of m hr.1 c⟩) (Cert.KernelIdeal.Attn.run m g)

theorem alg : Cert.algebraic_KernelIdeal_ReferenceIdeal_pre_finite := fun m g m' g' h hm =>
  ⟨fun c => val_main_v89 (F := Ideal) (a0 m c) (a1 m c) (a2 m c) (a3 m c) (a4 m c),
    fun c => val_main_v90 (F := Ideal) (a0 m c) (a1 m c) (a2 m c) (a3 m c) (a4 m c),
    fun c => val_main_v91 (F := Ideal) (a0 m c) (a1 m c) (a3 m c) (a4 m c),
    fun c => val_main_v94 (F := Ideal) (a0 m c) (a1 m c) (a2 m c) (a3 m c) (a4 m c),
    fun c => val_main_v95 (F := Ideal) (a0 m c) (a1 m c) (a2 m c) (a3 m c) (a4 m c),
    kernel_run m g h,
    (θ_run Cert.ReferenceIdeal.defs _ _).mono (fun r hr c => by
      obtain ⟨e0, e1, e2, e3, e4⟩ := hm c
      obtain ⟨r0, r1, r2, r3, r4, ra⟩ := hr c
      refine ⟨r0.trans ((val_main_v89_eq m' c).trans ?_), r1.trans ((val_main_v90_eq m' c).trans ?_), r2.trans ((val_main_v91_eq m' c).trans ?_),
        r3.trans ((val_main_v94_eq m' c).trans ?_), r4.trans ((val_main_v95_eq m' c).trans ?_), ra⟩
      · rw [e0, e1, e2, e3, e4]
      · rw [e0, e1, e2, e3, e4]
      · rw [e0, e1, e3, e4]
      · rw [e0, e1, e2, e3, e4]
      · rw [e0, e1, e2, e3, e4])
      (Cert.ReferenceIdeal.Value.run (F := Ideal) m' g')⟩

end Cert.Val
-- ==== Proof.Mm.Base.lean ====
/- The products of the step as sums over natural numbers: reads of an array at row and column numbers, the three products
   (rows by columns, rows by rows, columns by columns), and a sum in blocks as one sum. -/
module

public import Idealize.ShloMosaic.Lib.Pipeline.ValueKit
public import Idealize.ShloMosaic.Lib.Pointwise

@[expose] public section

noncomputable section

namespace Cert.Mm

open Idealize.ShloMosaic Finset

variable {M N K n0 n1 n2 : ℕ}

/-- The entry of a matrix at row `r` and column `k`, and 0 outside. -/
def at2 (A : (⟨2, ![n0, n1]⟩ : Shape).Idx → EReal) (r k : ℕ) : EReal :=
  if h : r < n0 ∧ k < n1 then A (ValueIdx.ix2 ⟨r, h.1⟩ ⟨k, h.2⟩) else 0

/-- The entry of a stack of matrices at member `p`, row `r` and column `k`, and 0 outside. -/
def at3 (A : (⟨3, ![n0, n1, n2]⟩ : Shape).Idx → EReal) (p r k : ℕ) : EReal :=
  if h : p < n0 ∧ r < n1 ∧ k < n2 then A (ValueIdx.ix3 ⟨p, h.1⟩ ⟨r, h.2.1⟩ ⟨k, h.2.2⟩) else 0

/-- An entry is the one at its coordinates' numbers. -/
theorem at2_of (A : (⟨2, ![n0, n1]⟩ : Shape).Idx → EReal) (i : (⟨2, ![n0, n1]⟩ : Shape).Idx) {r k : ℕ} (h0 : (i 0).val = r) (h1 : (i 1).val = k) :
    A i = at2 A r k := by
  subst h0 h1
  unfold at2
  rw [dif_pos ⟨ValueIdx.idx2_lt0 i, ValueIdx.idx2_lt1 i⟩]
  exact congrArg A (ValueIdx.eq_ix2 i)

theorem at3_of (A : (⟨3, ![n0, n1, n2]⟩ : Shape).Idx → EReal) (i : (⟨3, ![n0, n1, n2]⟩ : Shape).Idx) {p r k : ℕ} (h0 : (i 0).val = p)
    (h1 : (i 1).val = r) (h2 : (i 2).val = k) : A i = at3 A p r k := by
  subst h0 h1 h2
  unfold at3
  rw [dif_pos ⟨(i 0).isLt, (i 1).isLt, (i 2).isLt⟩]
  exact congrArg A (ValueIdx.eq_ix3 i)

/-- The entry at row `r` and column `k` of matrices of one shape side by side, and 0 outside. -/
def side {J : ℕ} (f : Fin J → (⟨2, ![n0, n1]⟩ : Shape).Idx → EReal) (r k : ℕ) : EReal :=
  if h : k / n1 < J then at2 (f ⟨k / n1, h⟩) r (k % n1) else 0

theorem side_at {J : ℕ} (f : Fin J → (⟨2, ![n0, n1]⟩ : Shape).Idx → EReal) (p : Fin J) {r k l : ℕ} (h : k / n1 = p.val) (hl : k % n1 = l) :
    side f r k = at2 (f p) r l := by
  subst hl
  unfold side
  rw [dif_pos (h ▸ p.isLt)]
  exact congrArg (fun p => at2 (f p) r (k % n1)) (Fin.ext h)

theorem side_of {J : ℕ} (f : Fin J → (⟨2, ![n0, n1]⟩ : Shape).Idx → EReal)
    (h : Shape.Concatenates ((List.ofFn fun n : Fin J => (⟨⟨2, ![n0, n1]⟩, f n⟩ : (s : Shape) × (s.Idx → EReal))).map (·.1)) ⟨2, ![n0, n2]⟩ 1)
    (j : (⟨2, ![n0, n2]⟩ : Shape).Idx) (hp : 0 < n1) (hn : n2 = J * n1) :
    concatenate ⟨2, ![n0, n2]⟩ 1 (List.ofFn fun n : Fin J => (⟨⟨2, ![n0, n1]⟩, f n⟩ : (s : Shape) × (s.Idx → EReal))) h j
      = side f (j 0).val (j 1).val := by
  have hj : (j 1).val / n1 < J := Nat.div_lt_of_lt_mul (by rw [Nat.mul_comm, ← hn]; exact (j 1).isLt)
  rw [side_at f ⟨(j 1).val / n1, hj⟩ rfl rfl]
  refine (concatenate_ofFn_apply (t := ⟨2, ![n0, n2]⟩) (s₁ := ⟨2, ![n0, n1]⟩) 1 f h rfl n1 rfl j ⟨(j 1).val / n1, hj⟩ rfl
    (ValueIdx.ix2 (j 0) ⟨(j 1).val % n1, Nat.mod_lt _ hp⟩) rfl (fun b hb => ?_)).trans (at2_of _ _ rfl rfl)
  match b with
  | ⟨0, _⟩ => rfl
  | ⟨1, _⟩ => exact absurd rfl hb

/-- Rows of the first by columns of the second. -/
def nn (A : (⟨2, ![M, K]⟩ : Shape).Idx → EReal) (B : (⟨2, ![K, N]⟩ : Shape).Idx → EReal) : (⟨2, ![M, N]⟩ : Shape).Idx → EReal :=
  fun i => ∑ k ∈ range K, at2 A (i 0).val k * at2 B k (i 1).val

/-- Rows of the first by rows of the second. -/
def nt (A : (⟨2, ![M, K]⟩ : Shape).Idx → EReal) (B : (⟨2, ![N, K]⟩ : Shape).Idx → EReal) : (⟨2, ![M, N]⟩ : Shape).Idx → EReal :=
  fun i => ∑ k ∈ range K, at2 A (i 0).val k * at2 B (i 1).val k

/-- Columns of the first by columns of the second. -/
def tn (A : (⟨2, ![K, M]⟩ : Shape).Idx → EReal) (B : (⟨2, ![K, N]⟩ : Shape).Idx → EReal) : (⟨2, ![M, N]⟩ : Shape).Idx → EReal :=
  fun i => ∑ k ∈ range K, at2 A k (i 0).val * at2 B k (i 1).val

/-- A sum over `Fin n` of a function of the numbers is one over the range. -/
theorem sum_fin {n : ℕ} {f : Fin n → EReal} (g : ℕ → EReal) (h : ∀ k : Fin n, f k = g k.val) : ∑ k, f k = ∑ k ∈ range n, g k := by
  rw [← Fin.sum_univ_eq_sum_range g n]
  exact sum_congr rfl fun k _ => h k

/-- An accumulator that starts anew every `J` points and adds a block of `B` terms at each: at the last of its points it holds
    the sum of all `J * B` terms. -/
theorem acc_eq {P : ℕ} {ι : Type} (f : (n : ℕ) → n < P → ι → EReal) (J B : ℕ) (g : ℕ → ι → ℕ → EReal)
    (h0 : ∀ t : Fin P, t.val % J = 0 → ∀ i, f t.val t.isLt i = ∑ b ∈ range B, g (t.val / J) i (t.val % J * B + b))
    (hs : ∀ t : Fin P, ¬t.val % J = 0 → ∀ i, f t.val t.isLt i
      = f (t.val - 1) (Nat.lt_of_le_of_lt (Nat.sub_le _ _) t.isLt) i + ∑ b ∈ range B, g (t.val / J) i (t.val % J * B + b))
    (t : Fin P) {r : ℕ} (hr : t.val % J = r) (i : ι) :
    f t.val t.isLt i = ∑ k ∈ range ((r + 1) * B), g (t.val / J) i k := by
  rw [Pipeline.eq_sum_of_reset_step_apply_divmod f J (fun _ => 0) (fun q s i => ∑ b ∈ range B, g q i (s * B + b))
    (fun t h i => (h0 t h i).trans (zero_add _).symm) hs t i, zero_add, hr, sum_range_mul_split]

end Cert.Mm

end
-- ==== Proof.Mm.DwSquare.lean ====
/- The gradient of a square weight: columns by columns over all tokens, eight k blocks into one accumulator. -/
module

public import proofs.«01_k».proof.Proof.Gen.DwSquareIdeal.Value
public import proofs.«01_k».proof.Proof.Gen.DwSquareRefIdeal.Run
public import proofs.«01_k».proof.Proof.Gen.DwSquareRefIdeal.Read
public import proofs.«01_k».proof.Proof.Gen.DwSquare.Frame
public import proofs.«01_k».proof.Proof.Mm.Base
public import proofs.«01_k».proof.Defs
public import Idealize.ShloMosaic.Adequacy
public import Idealize.ShloMosaic.Lib.Pipeline.ReadBack

@[expose] public section

set_option maxRecDepth 16384

noncomputable section

namespace Cert.DwSquareIdeal.Mm

open Cert.DwSquareIdeal Cert.DwSquareIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val % 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![0, 0] := (by decide +kernel : ∀ t : Fin grid0.N, _)

theorem at_x (t : Fin cfg0.N) (y : S1024x1024.Idx) :
    iblk m c 0 t y = at2 (m ((c : Thread nD τ).loc main_arg0)) (t.val % 8 * 1024 + (y 0).val) (y 1).val := by
  refine at2_of (n0 := 8192) (n1 := 1024) (m ((c : Thread nD τ).loc main_arg0)) _ ?_ ?_
  all_goals blk_simp [idx0]
  all_goals simp

theorem at_ct (t : Fin cfg0.N) (y : S1024x1024.Idx) :
    iblk m c 1 t y = at2 (m ((c : Thread nD τ).loc main_arg1)) (t.val % 8 * 1024 + (y 0).val) (y 1).val := by
  refine at2_of (n0 := 8192) (n1 := 1024) (m ((c : Thread nD τ).loc main_arg1)) _ ?_ ?_
  all_goals blk_simp [idx1]
  all_goals simp

theorem zero (y : S1024x1024.Idx) : k0_pay1 (F := Ideal) y = 0 := by
  unfold k0_pay1
  pointwise

theorem pay (z : Vec Ideal S1024x1024 .f32) (a b : Vec Ideal S1024x1024 .bf16) (y : S1024x1024.Idx) :
    k0_pay2 z a b y = z y + ∑ k : Fin 1024, a (ix2 k (y 0)) * b (ix2 k (y 1)) := by
  unfold k0_pay2
  pointwise

/-- The product of token `k` that goes to an entry. -/
def term (i : S1024x1024.Idx) (k : ℕ) : EReal :=
  at2 (m ((c : Thread nD τ).loc main_arg0)) k (i 0).val * at2 (m ((c : Thread nD τ).loc main_arg1)) k (i 1).val

theorem step (z : Vec Ideal S1024x1024 .f32) (t : Fin cfg0.N) (y : S1024x1024.Idx) :
    k0_pay2 z (iblk m c 0 t) (iblk m c 1 t) y = z y + ∑ b ∈ Finset.range 1024, term m c y (t.val % 8 * 1024 + b) := by
  rw [pay]
  refine congrArg (z y + ·) (sum_fin _ fun k => ?_)
  rw [at_x, at_ct]
  rfl

/-- The accumulator after point `t`. -/
theorem acc (t : Fin cfg0.N) {r : ℕ} (hr : t.val % 8 = r) (y : S1024x1024.Idx) :
    (outsAt0 m c t.val t.isLt).2 y = ∑ k ∈ Finset.range ((r + 1) * 1024), term m c y k := by
  refine acc_eq (fun n h => (outsAt0 m c n h).2) 8 1024 (fun _ => term m c) (fun t h y => ?_) (fun t h y => ?_) t hr y
  · rw [outsAt0_A m c t h (by omega)]
    frame_out
    rw [step, zero, zero_add]
  · by_cases h7 : t.val % 8 = 7
    · rw [outsAt0_C m c t h h7]
      frame_out
      rw [step]
      simp only [read_unread_whole]
    · rw [outsAt0_B m c t h h7]
      frame_out
      rw [step]
      simp only [read_unread_whole]

theorem out (t : Fin cfg0.N) (h : t.val % 8 = 7) : (outsAt0 m c t.val t.isLt).1 = (outsAt0 m c t.val t.isLt).2 := by
  rw [outsAt0_C m c t (by omega) h]
  funext y
  frame_out

theorem final : (dats m 0 c).arrAt 2 cfg0.N = tn (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, out m c t h7, acc m c t h7]
  unfold tn term
  blk_simp [idx2]

theorem ref (a : Vec Ideal S8192x1024 .bf16) (b : Vec Ideal S8192x1024 .bf16) : Cert.DwSquareRefIdeal.Read.val_main_v5 (F := Ideal) a b = tn a b := by
  funext i
  rw [Cert.DwSquareRefIdeal.Read.val_main_v5_apply, Cert.DwSquareRefIdeal.Read.val_main_v4_apply]
  refine sum_fin _ fun k => ?_
  exact (mul_comm _ _).trans (congrArg₂ (· * ·) (at2_of a _ rfl rfl) (at2_of b _ rfl rfl))

theorem alg : Cert.algebraic_DwSquareIdeal_DwSquareRefIdeal := fun m g m' g' _ hm =>
  ⟨fun c => tn (m ((c : Thread nD τ).loc main_arg0)) (m ((c : Thread nD τ).loc main_arg1)),
    (θ_run defs _ _).mono (fun _ h c => ⟨(h c).1.trans (final m c), (h c).2⟩) (Value.run_blocks m g),
    (θ_run Cert.DwSquareRefIdeal.defs _ _).mono (fun _ h c => ⟨(h c).1.trans ((ref _ _).trans (congrArg₂ tn (hm c).1 (hm c).2)), (h c).2⟩)
      (Cert.DwSquareRefIdeal.Value.run (F := Ideal) m' g')⟩

theorem frame_p : Cert.quiescent_DwSquare := fun m g _ => Cert.DwSquare.Gen.frame m g
theorem frame_pi : Cert.quiescent_DwSquareIdeal := fun m g _ => Gen.frame m g
theorem frame_ri : Cert.quiescent_DwSquareRefIdeal := fun m g _ =>
  (θ_run Cert.DwSquareRefIdeal.defs _ _).mono (fun r h => ⟨fun c => (h c).2, sem_eq_zero_of_no_sems (by decide) r.2⟩)
    (Cert.DwSquareRefIdeal.Value.run (F := Ideal) m g)

end Cert.DwSquareIdeal.Mm

end
-- ==== Proof.Mm.DFfnAct.lean ====
/- The gradient of the feed-forward activation: a product with the weight's rows, one k block. -/
module

public import proofs.«01_k».proof.Proof.Gen.DFfnActIdeal.Value
public import proofs.«01_k».proof.Proof.Gen.DFfnActRefIdeal.Run
public import proofs.«01_k».proof.Proof.Gen.DFfnActRefIdeal.Read
public import proofs.«01_k».proof.Proof.Mm.Base
public import proofs.«01_k».proof.Proof.Gen.DFfnAct.Frame
public import proofs.«01_k».proof.Defs
public import Idealize.ShloMosaic.Adequacy

@[expose] public section

set_option maxRecDepth 16384

noncomputable section

namespace Cert.DFfnActIdeal.Mm

open Cert.DFfnActIdeal Cert.DFfnActIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

theorem at_x (t : Fin cfg0.N) (y : S1024x1024.Idx) :
    iblk m c 0 t y = at2 (m ((c : Thread nD τ).loc main_arg0)) (t.val / 2 * 1024 + (y 0).val) (y 1).val := by
  refine at2_of (n0 := 8192) (n1 := 1024) (m ((c : Thread nD τ).loc main_arg0)) _ ?_ ?_
  all_goals blk_simp [idx0]
  all_goals simp

theorem at_w (t : Fin cfg0.N) (y : S1536x1024.Idx) :
    iblk m c 1 t y = at2 (m ((c : Thread nD τ).loc main_arg1)) (t.val % 2 * 1536 + (y 0).val) (y 1).val := by
  refine at2_of (n0 := 3072) (n1 := 1024) (m ((c : Thread nD τ).loc main_arg1)) _ ?_ ?_
  all_goals blk_simp [idx1]
  all_goals simp

theorem pay (a : Vec Ideal S1024x1024 .bf16) (b : Vec Ideal S1536x1024 .bf16) (y : S1024x1536.Idx) :
    k0_pay1 a b y = ∑ k : Fin 1024, a (ix2 (y 0) k) * b (ix2 (y 1) k) := by
  unfold k0_pay1
  pointwise

/-- The array the call leaves is the product of the rows. -/
theorem final : (dats m 0 c).arrAt 2 cfg0.N = nt (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold nt
  blk_simp [idx2]
  refine sum_fin _ fun k => ?_
  rw [at_x, at_w]
  rfl

theorem ref (a : Vec Ideal S8192x1024 .bf16) (b : Vec Ideal S3072x1024 .bf16) : Cert.DFfnActRefIdeal.Read.val_main_v4 (F := Ideal) a b = nt a b := by
  funext i
  rw [Cert.DFfnActRefIdeal.Read.val_main_v4_apply]
  refine sum_fin _ fun k => ?_
  exact congrArg₂ (· * ·) (at2_of a _ rfl rfl) (at2_of b _ rfl rfl)

theorem alg : Cert.algebraic_DFfnActIdeal_DFfnActRefIdeal := fun m g m' g' _ hm =>
  ⟨fun c => nt (m ((c : Thread nD τ).loc main_arg0)) (m ((c : Thread nD τ).loc main_arg1)),
    (θ_run defs _ _).mono (fun _ h c => ⟨(h c).1.trans (final m c), (h c).2⟩) (Value.run_blocks m g),
    (θ_run Cert.DFfnActRefIdeal.defs _ _).mono (fun _ h c => ⟨(h c).1.trans ((ref _ _).trans (congrArg₂ nt (hm c).1 (hm c).2)), (h c).2⟩)
      (Cert.DFfnActRefIdeal.Value.run (F := Ideal) m' g')⟩

theorem frame_p : Cert.quiescent_DFfnAct := fun m g _ => Cert.DFfnAct.Gen.frame m g
theorem frame_pi : Cert.quiescent_DFfnActIdeal := fun m g _ => Gen.frame m g
theorem frame_ri : Cert.quiescent_DFfnActRefIdeal := fun m g _ =>
  (θ_run Cert.DFfnActRefIdeal.defs _ _).mono (fun r h => ⟨fun c => (h c).2, sem_eq_zero_of_no_sems (by decide) r.2⟩)
    (Cert.DFfnActRefIdeal.Value.run (F := Ideal) m g)

end Cert.DFfnActIdeal.Mm

end
-- ==== Proof.Mm.FfnUp.lean ====
/- The product with the weight of the network's first layer, stored as four chunks of columns, one chunk a grid point. -/
module

public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Gen.FfnUp.Frame
public import proofs.«01_k».proof.Proof.Mm.Base
public import proofs.«01_k».proof.Defs
public import Idealize.ShloMosaic.Adequacy

@[expose] public section

set_option maxRecDepth 16384

noncomputable section

namespace Cert.FfnUpIdeal.Mm

open Cert.FfnUpIdeal Cert.FfnUpIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val / 4, 0] := (by decide +kernel : ∀ t : Fin grid0.N, _)
theorem idx1 : ∀ t : Fin cfg0.N, win0_1.index t = ![t.val % 4, 0, 0] := (by decide +kernel : ∀ t : Fin grid0.N, _)
theorem idx2 : ∀ t : Fin cfg0.N, win0_2.index t = ![t.val / 4, t.val % 4] := (by decide +kernel : ∀ t : Fin grid0.N, _)

theorem at_x (t : Fin cfg0.N) (y : S1024x1024.Idx) :
    iblk m c 0 t y = at2 (m ((c : Thread nD τ).loc main_arg0)) (t.val / 4 * 1024 + (y 0).val) (y 1).val := by
  refine at2_of (n0 := 8192) (n1 := 1024) (m ((c : Thread nD τ).loc main_arg0)) _ ?_ ?_
  all_goals blk_simp [idx0]
  all_goals simp

theorem at_w (t : Fin cfg0.N) (y : S1x1024x1536.Idx) :
    iblk m c 1 t y = at3 (m ((c : Thread nD τ).loc main_arg1)) (t.val % 4) (y 1).val (y 2).val := by
  have h : (y 0).val = 0 := Nat.lt_one_iff.mp (y 0).isLt
  refine at3_of (n0 := 4) (n1 := 1024) (n2 := 1536) (m ((c : Thread nD τ).loc main_arg1)) _ ?_ ?_ ?_
  all_goals blk_simp [idx1]
  all_goals simp [h]

theorem pay (a : Vec Ideal S1024x1024 .bf16) (b : Vec Ideal S1x1024x1536 .bf16) (y : S1024x1536.Idx) :
    k0_pay1 a b y = ∑ k : Fin 1024, a (ix2 (y 0) k) * b (ix3 0 k (y 1)) := by
  unfold k0_pay1
  pointwise

/-- The products, the weight's columns numbered through its chunks. -/
def up (a : Vec Ideal S8192x1024 .bf16) (w : Vec Ideal S4x1024x1536 .bf16) : Vec Ideal S8192x6144 .f32 := fun i =>
  ∑ k ∈ Finset.range 1024, at2 a (i 0).val k * at3 w ((i 1).val / 1536) k ((i 1).val % 1536)

theorem final : (dats m 0 c).arrAt 2 cfg0.N = up (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold up
  blk_simp [idx2]
  have h : (y 1).val < 1536 := (y 1).isLt
  have h1 : (t.val % 4 * 1536 + (y 1).val) / 1536 = t.val % 4 := by omega
  have h2 : (t.val % 4 * 1536 + (y 1).val) % 1536 = (y 1).val := by omega
  rw [h1, h2]
  refine sum_fin _ fun k => ?_
  rw [at_x, at_w]
  rfl

theorem ref (a : Vec Ideal S8192x1024 .bf16) (b : Vec Ideal S4x1024x1536 .bf16) : Cert.FfnUpRefIdeal.Read.val_main_v4 (F := Ideal) a b = up a b := by
  funext i
  rw [Cert.FfnUpRefIdeal.Read.val_main_v4_apply]
  refine sum_fin _ fun k => ?_
  have h : (i 1).val < 6144 := (i 1).isLt
  have hk := k.isLt
  rw [Cert.FfnUpRefIdeal.Read.val_main_v3_apply, Cert.FfnUpRefIdeal.Read.val_main_v2_apply]
  refine congrArg₂ (· * ·) (at2_of a _ rfl rfl) (at3_of b _ ?_ ?_ ?_)
  · show (k.val * 6144 + (i 1).val) / 1536 % 4 = _
    omega
  · show (k.val * 6144 + (i 1).val) / 6144 = _
    omega
  · show (k.val * 6144 + (i 1).val) % 1536 = _
    omega

theorem alg : Cert.algebraic_FfnUpIdeal_FfnUpRefIdeal := fun m g m' g' _ hm =>
  ⟨fun c => up (m ((c : Thread nD τ).loc main_arg0)) (m ((c : Thread nD τ).loc main_arg1)),
    (θ_run defs _ _).mono (fun _ h c => ⟨(h c).1.trans (final m c), (h c).2⟩) (Value.run_blocks m g),
    (θ_run Cert.FfnUpRefIdeal.defs _ _).mono (fun _ h c => ⟨(h c).1.trans ((ref _ _).trans (congrArg₂ up (hm c).1 (hm c).2)), (h c).2⟩)
      (Cert.FfnUpRefIdeal.Value.run (F := Ideal) m' g')⟩

theorem frame_p : Cert.quiescent_FfnUp := fun m g _ => Cert.FfnUp.Gen.frame m g
theorem frame_pi : Cert.quiescent_FfnUpIdeal := fun m g _ => Gen.frame m g
theorem frame_ri : Cert.quiescent_FfnUpRefIdeal := fun m g _ =>
  (θ_run Cert.FfnUpRefIdeal.defs _ _).mono (fun r h => ⟨fun c => (h c).2, sem_eq_zero_of_no_sems (by decide) r.2⟩)
    (Cert.FfnUpRefIdeal.Value.run (F := Ideal) m g)

end Cert.FfnUpIdeal.Mm

end
-- ==== Proof.Mm.DwFfnUp.lean ====
/- The gradient of one half of the network's first weight, stored as two chunks of columns: a chunk's entries take eight k
   blocks into one accumulator. -/
module

public import proofs.«01_k».proof.Proof.Gen.DwFfnUpIdeal.Value
public import proofs.«01_k».proof.Proof.Gen.DwFfnUpRefIdeal.Run
public import proofs.«01_k».proof.Proof.Gen.DwFfnUpRefIdeal.Read
public import proofs.«01_k».proof.Proof.Gen.DwFfnUp.Frame
public import proofs.«01_k».proof.Proof.Mm.Base
public import proofs.«01_k».proof.Defs
public import Idealize.ShloMosaic.Adequacy
public import Idealize.ShloMosaic.Lib.Pipeline.ReadBack

@[expose] public section

set_option maxRecDepth 16384

noncomputable section

namespace Cert.DwFfnUpIdeal.Mm

open Cert.DwFfnUpIdeal Cert.DwFfnUpIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![t.val / 8, 0, 0] := (by decide +kernel : ∀ t : Fin grid0.N, _)

theorem at_x (t : Fin cfg0.N) (y : S1024x1024.Idx) :
    iblk m c 0 t y = at2 (m ((c : Thread nD τ).loc main_arg0)) (t.val % 8 * 1024 + (y 0).val) (y 1).val := by
  refine at2_of (n0 := 8192) (n1 := 1024) (m ((c : Thread nD τ).loc main_arg0)) _ ?_ ?_
  all_goals blk_simp [idx0]
  all_goals simp

theorem at_ct (t : Fin cfg0.N) (y : S1024x1536.Idx) :
    iblk m c 1 t y = at2 (m ((c : Thread nD τ).loc main_arg1)) (t.val % 8 * 1024 + (y 0).val) (t.val / 8 * 1536 + (y 1).val) := by
  refine at2_of (n0 := 8192) (n1 := 3072) (m ((c : Thread nD τ).loc main_arg1)) _ ?_ ?_
  all_goals blk_simp [idx1]

theorem zero (y : S1024x1536.Idx) : k0_pay1 (F := Ideal) y = 0 := by
  unfold k0_pay1
  pointwise

theorem pay (z : Vec Ideal S1024x1536 .f32) (a : Vec Ideal S1024x1024 .bf16) (b : Vec Ideal S1024x1536 .bf16) (y : S1024x1536.Idx) :
    k0_pay2 z a b y = z y + ∑ k : Fin 1024, a (ix2 k (y 0)) * b (ix2 k (y 1)) := by
  unfold k0_pay2
  pointwise

theorem stored (z : Vec Ideal S1024x1536 .f32) (y : S1x1024x1536.Idx) : k0_pay3 z y = z (ix2 (y 1) (y 2)) := by
  unfold k0_pay3
  pointwise

/-- The product of token `k` that goes to an entry of chunk `q`. -/
def term (q : ℕ) (i : S1024x1536.Idx) (k : ℕ) : EReal :=
  at2 (m ((c : Thread nD τ).loc main_arg0)) k (i 0).val * at2 (m ((c : Thread nD τ).loc main_arg1)) k (q * 1536 + (i 1).val)

theorem step (z : Vec Ideal S1024x1536 .f32) (t : Fin cfg0.N) (y : S1024x1536.Idx) :
    k0_pay2 z (iblk m c 0 t) (iblk m c 1 t) y = z y + ∑ b ∈ Finset.range 1024, term m c (t.val / 8) y (t.val % 8 * 1024 + b) := by
  rw [pay]
  refine congrArg (z y + ·) (sum_fin _ fun k => ?_)
  rw [at_x, at_ct]
  rfl

/-- The accumulator after point `t`. -/
theorem acc (t : Fin cfg0.N) {r : ℕ} (hr : t.val % 8 = r) (y : S1024x1536.Idx) :
    (outsAt0 m c t.val t.isLt).2 y = ∑ k ∈ Finset.range ((r + 1) * 1024), term m c (t.val / 8) y k := by
  refine acc_eq (fun n h => (outsAt0 m c n h).2) 8 1024 (term m c) (fun t h y => ?_) (fun t h y => ?_) t hr y
  · rw [outsAt0_A m c t h (by omega)]
    frame_out
    rw [step, zero, zero_add]
  · by_cases h7 : t.val % 8 = 7
    · rw [outsAt0_C m c t h h7]
      frame_out
      rw [step]
      simp only [read_unread_whole]
    · rw [outsAt0_B m c t h h7]
      frame_out
      rw [step]
      simp only [read_unread_whole]

theorem out (t : Fin cfg0.N) (h : t.val % 8 = 7) (y : S1x1024x1536.Idx) :
    (outsAt0 m c t.val t.isLt).1 y = (outsAt0 m c t.val t.isLt).2 (ix2 (y 1) (y 2)) := by
  rw [outsAt0_C m c t (by omega) h]
  frame_out
  rw [stored]

/-- The gradient, chunk by chunk. -/
def dw (a : Vec Ideal S8192x1024 .bf16) (b : Vec Ideal S8192x3072 .bf16) : Vec Ideal S2x1024x1536 .f32 := fun i =>
  ∑ k ∈ Finset.range 8192, at2 a k (i 1).val * at2 b k ((i 0).val * 1536 + (i 2).val)

theorem final : (dats m 0 c).arrAt 2 cfg0.N = dw (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, out m c t h7, acc m c t h7]
  unfold dw term
  blk_simp [idx2]

theorem ref (a : Vec Ideal S8192x1024 .bf16) (b : Vec Ideal S8192x3072 .bf16) : Cert.DwFfnUpRefIdeal.Read.val_main_v9 (F := Ideal) a b = dw a b := by
  funext i
  rw [Cert.DwFfnUpRefIdeal.Read.val_main_v9_apply, Cert.DwFfnUpRefIdeal.Read.val_main_v8_apply, Cert.DwFfnUpRefIdeal.Read.val_main_v7_apply,
    Cert.DwFfnUpRefIdeal.Read.val_main_v6_apply]
  refine sum_fin _ fun k => ?_
  have h0 : (i 0).val < 2 := (i 0).isLt
  have h1 : (i 1).val < 1024 := (i 1).isLt
  have h2 : (i 2).val < 1536 := (i 2).isLt
  refine (mul_comm _ _).trans (congrArg₂ (· * ·) (at2_of a _ rfl ?_) (at2_of b _ rfl ?_))
  · show (((i 1).val * 2 + (i 0).val) * 1536 + (i 2).val) / 3072 = _
    omega
  · show (((i 1).val * 2 + (i 0).val) * 1536 + (i 2).val) % 3072 = _
    omega

theorem alg : Cert.algebraic_DwFfnUpIdeal_DwFfnUpRefIdeal := fun m g m' g' _ hm =>
  ⟨fun c => dw (m ((c : Thread nD τ).loc main_arg0)) (m ((c : Thread nD τ).loc main_arg1)),
    (θ_run defs _ _).mono (fun _ h c => ⟨(h c).1.trans (final m c), (h c).2⟩) (Value.run_blocks m g),
    (θ_run Cert.DwFfnUpRefIdeal.defs _ _).mono (fun _ h c => ⟨(h c).1.trans ((ref _ _).trans (congrArg₂ dw (hm c).1 (hm c).2)), (h c).2⟩)
      (Cert.DwFfnUpRefIdeal.Value.run (F := Ideal) m' g')⟩

theorem frame_p : Cert.quiescent_DwFfnUp := fun m g _ => Cert.DwFfnUp.Gen.frame m g
theorem frame_pi : Cert.quiescent_DwFfnUpIdeal := fun m g _ => Gen.frame m g
theorem frame_ri : Cert.quiescent_DwFfnUpRefIdeal := fun m g _ =>
  (θ_run Cert.DwFfnUpRefIdeal.defs _ _).mono (fun r h => ⟨fun c => (h c).2, sem_eq_zero_of_no_sems (by decide) r.2⟩)
    (Cert.DwFfnUpRefIdeal.Value.run (F := Ideal) m g)

end Cert.DwFfnUpIdeal.Mm

end
-- ==== Proof.Mm.DH2.lean ====
/- The gradient of the first layer's input: the gradients of the two halves, side by side, times the rows of the weight stored
   as four chunks of columns. Eight k blocks go into one accumulator, four of each half. -/
module

public import proofs.«01_k».proof.Proof.Gen.DH2Ideal.Value
public import proofs.«01_k».proof.Proof.Gen.DH2RefIdeal.Run
public import proofs.«01_k».proof.Proof.Gen.DH2RefIdeal.Read
public import proofs.«01_k».proof.Proof.Gen.DH2.Frame
public import proofs.«01_k».proof.Proof.Mm.Base
public import proofs.«01_k».proof.Defs
public import Idealize.ShloMosaic.Adequacy
public import Idealize.ShloMosaic.Lib.Pipeline.ReadBack

@[expose] public section

set_option maxRecDepth 16384

noncomputable section

namespace Cert.DH2Ideal.Mm

open Cert.DH2Ideal Cert.DH2Ideal.Gen Idealize.ShloMosaic Idealize.ShloMosaic.TcCoe Idealize.SL.Sem Cert.Mm

variable (m : (ℓ : Loc nD τ sig) → Buf (Elt Ideal) ℓ) (c : Dev nD)

/-- The two halves of the gradient. -/
def halves : Fin 2 → Vec Ideal S8192x3072 .bf16 := ![m ((c : Thread nD τ).loc main_arg0), m ((c : Thread nD τ).loc main_arg1)]

theorem idx0 : ∀ t : Fin cfg0.N, win0_0.index t = ![t.val / 8, min (t.val % 8) 3] := (by decide +kernel : ∀ t : Fin grid0.N, _)
theorem idx1 : ∀ t : Fin cfg0.N, win0_1.index t = ![t.val / 8, t.val % 8 - 4] := (by decide +kernel : ∀ t : Fin grid0.N, _)
theorem idx2 : ∀ t : Fin cfg0.N, win0_2.index t = ![t.val % 8 / 2, 0, t.val % 8 % 2] := (by decide +kernel : ∀ t : Fin grid0.N, _)
theorem idx3 : ∀ t : Fin cfg0.N, win0_3.index t = ![t.val / 8, 0] := (by decide +kernel : ∀ t : Fin grid0.N, _)

theorem at_g (t : Fin cfg0.N) (h : t.val % 8 ≤ 3) (y : S1024x768.Idx) :
    iblk m c 0 t y = side (halves m c) (t.val / 8 * 1024 + (y 0).val) (t.val % 8 * 768 + (y 1).val) := by
  have h1 : (y 1).val < 768 := (y 1).isLt
  refine (at2_of (n0 := 8192) (n1 := 3072) (m ((c : Thread nD τ).loc main_arg0)) _ ?_ ?_).trans
    (side_at (halves m c) 0 (Nat.div_eq_of_lt (by omega)) (Nat.mod_eq_of_lt (by omega))).symm
  all_goals blk_simp [idx0]
  rw [min_eq_left h]

theorem at_u (t : Fin cfg0.N) (h : 4 ≤ t.val % 8) (y : S1024x768.Idx) :
    iblk m c 1 t y = side (halves m c) (t.val / 8 * 1024 + (y 0).val) (t.val % 8 * 768 + (y 1).val) := by
  have h1 : (y 1).val < 768 := (y 1).isLt
  refine (at2_of (n0 := 8192) (n1 := 3072) (m ((c : Thread nD τ).loc main_arg1)) _ ?_ ?_).trans
    (side_at (halves m c) 1 (l := (t.val % 8 - 4) * 768 + (y 1).val) (show _ / 3072 = 1 by omega) (by omega)).symm
  all_goals blk_simp [idx1]

theorem at_w (t : Fin cfg0.N) (y : S1x1024x768.Idx) :
    iblk m c 2 t y = at3 (m ((c : Thread nD τ).loc main_arg2)) ((t.val % 8 * 768 + (y 2).val) / 1536) (y 1).val ((t.val % 8 * 768 + (y 2).val) % 1536) := by
  have h : (y 0).val = 0 := Nat.lt_one_iff.mp (y 0).isLt
  have h2 : (y 2).val < 768 := (y 2).isLt
  refine at3_of (n0 := 4) (n1 := 1024) (n2 := 1536) (m ((c : Thread nD τ).loc main_arg2)) _ ?_ ?_ ?_
  all_goals blk_simp [idx2]
  all_goals omega

theorem zero (y : S1024x1024.Idx) : k0_pay1 (F := Ideal) y = 0 := by
  unfold k0_pay1
  pointwise

theorem pay (z : Vec Ideal S1024x1024 .f32) (a : Vec Ideal S1024x768 .bf16) (b : Vec Ideal S1x1024x768 .bf16) (y : S1024x1024.Idx) :
    k0_pay2 z a b y = z y + ∑ k : Fin 768, a (ix2 (y 0) k) * b (ix3 0 (y 1) k) := by
  unfold k0_pay2
  pointwise

/-- The product of column `k` that goes to an entry of row block `q`. -/
def term (q : ℕ) (i : S1024x1024.Idx) (k : ℕ) : EReal :=
  side (halves m c) (q * 1024 + (i 0).val) k * at3 (m ((c : Thread nD τ).loc main_arg2)) (k / 1536) (i 1).val (k % 1536)

theorem step_g (z : Vec Ideal S1024x1024 .f32) (t : Fin cfg0.N) (h : t.val % 8 ≤ 3) (y : S1024x1024.Idx) :
    k0_pay2 z (iblk m c 0 t) (iblk m c 2 t) y = z y + ∑ b ∈ Finset.range 768, term m c (t.val / 8) y (t.val % 8 * 768 + b) := by
  rw [pay]
  refine congrArg (z y + ·) (sum_fin _ fun k => ?_)
  rw [at_g m c t h, at_w]
  rfl

theorem step_u (z : Vec Ideal S1024x1024 .f32) (t : Fin cfg0.N) (h : 4 ≤ t.val % 8) (y : S1024x1024.Idx) :
    k0_pay3 z (iblk m c 1 t) (iblk m c 2 t) y = z y + ∑ b ∈ Finset.range 768, term m c (t.val / 8) y (t.val % 8 * 768 + b) := by
  refine (pay z (iblk m c 1 t) (iblk m c 2 t) y).trans (congrArg (z y + ·) (sum_fin _ fun k => ?_))
  rw [at_u m c t h, at_w]
  rfl

/-- The accumulator after point `t`. -/
theorem acc (t : Fin cfg0.N) {r : ℕ} (hr : t.val % 8 = r) (y : S1024x1024.Idx) :
    (outsAt0 m c t.val t.isLt).2 y = ∑ k ∈ Finset.range ((r + 1) * 768), term m c (t.val / 8) y k := by
  refine acc_eq (fun n h => (outsAt0 m c n h).2) 8 768 (term m c) (fun t h y => ?_) (fun t h y => ?_) t hr y
  · rw [outsAt0_A m c t h (by omega) (by omega) (by omega)]
    frame_out
    rw [step_g m c _ t (by omega), zero, zero_add]
  · by_cases h3 : t.val % 8 ≤ 3
    · rw [outsAt0_B m c t h h3 (by omega) (by omega)]
      frame_out
      rw [step_g m c _ t h3]
      simp only [read_unread_whole]
    · by_cases h7 : t.val % 8 = 7
      · rw [outsAt0_D m c t h h3 (by omega) h7]
        frame_out
        rw [step_u m c _ t (by omega)]
        simp only [read_unread_whole]
      · rw [outsAt0_C m c t h h3 (by omega) h7]
        frame_out
        rw [step_u m c _ t (by omega)]
        simp only [read_unread_whole]

theorem out (t : Fin cfg0.N) (h : t.val % 8 = 7) : (outsAt0 m c t.val t.isLt).1 = (outsAt0 m c t.val t.isLt).2 := by
  rw [outsAt0_D m c t (by omega) (by omega) (by omega) h]
  funext y
  frame_out

/-- The gradient. -/
def dx (g u : Vec Ideal S8192x3072 .bf16) (w : Vec Ideal S4x1024x1536 .bf16) : Vec Ideal S8192x1024 .f32 := fun i =>
  ∑ k ∈ Finset.range 6144, side ![g, u] (i 0).val k * at3 w (k / 1536) (i 1).val (k % 1536)

theorem final : (dats m 0 c).arrAt 3 cfg0.N
    = dx (m ((c : Thread nD τ).loc main_arg0)) (m ((c : Thread nD τ).loc main_arg1)) (m ((c : Thread nD τ).loc main_arg2)) := by
  refine (dats m 0 c).arrAt_eq_of_covers 3 _ (by decide +kernel) fun t hf y => ?_
  have h7 := (flush0_3 t).mp hf
  blk_simp
  rw [after0_3, out m c t h7, acc m c t h7]
  unfold dx term halves
  blk_simp [idx3]

theorem ref (g u : Vec Ideal S8192x3072 .bf16) (w : Vec Ideal S4x1024x1536 .bf16) :
    Cert.DH2RefIdeal.Read.val_main_v10 (F := Ideal) g u w = dx g u w := by
  funext i
  rw [Cert.DH2RefIdeal.Read.val_main_v10_apply]
  refine sum_fin _ fun k => ?_
  have h : (i 1).val < 1024 := (i 1).isLt
  have hk := k.isLt
  rw [Cert.DH2RefIdeal.Read.val_main_v3_apply, Cert.DH2RefIdeal.Read.val_main_v2_apply]
  refine congrArg₂ (· * ·) (side_of ![g, u] Cert.DH2RefIdeal.Facts₀.concatenates_S8192x3072_S8192x3072_S8192x6144_d1 _ (by decide) rfl) (at3_of w _ ?_ ?_ ?_)
  · show ((i 1).val * 6144 + k.val) / 1536 % 4 = _
    omega
  · show ((i 1).val * 6144 + k.val) / 6144 = _
    omega
  · show ((i 1).val * 6144 + k.val) % 1536 = _
    omega

theorem alg : Cert.algebraic_DH2Ideal_DH2RefIdeal := fun m g m' g' _ hm =>
  ⟨fun c => dx (m ((c : Thread nD τ).loc main_arg0)) (m ((c : Thread nD τ).loc main_arg1)) (m ((c : Thread nD τ).loc main_arg2)),
    (θ_run defs _ _).mono (fun _ h c => ⟨(h c).1.trans (final m c), (h c).2⟩) (Value.run_blocks m g),
    (θ_run Cert.DH2RefIdeal.defs _ _).mono
      (fun _ h c => ⟨(h c).1.trans ((ref _ _ _).trans (by rw [(hm c).1, (hm c).2.1, (hm c).2.2])), (h c).2⟩)
      (Cert.DH2RefIdeal.Value.run (F := Ideal) m' g')⟩

theorem frame_p : Cert.quiescent_DH2 := fun m g _ => Cert.DH2.Gen.frame m g
theorem frame_pi : Cert.quiescent_DH2Ideal := fun m g _ => Gen.frame m g
theorem frame_ri : Cert.quiescent_DH2RefIdeal := fun m g _ =>
  (θ_run Cert.DH2RefIdeal.defs _ _).mono (fun r h => ⟨fun c => (h c).2, sem_eq_zero_of_no_sems (by decide) r.2⟩)
    (Cert.DH2RefIdeal.Value.run (F := Ideal) m g)

end Cert.DH2Ideal.Mm

end
-- ==== Proof.Mm.DH1.lean ====
/- The last part of the gradient of the mixing layer's input: the gradients of five products, side by side, times the rows of
   the weight, and the part before added. One k block of each of the five goes into the accumulator. -/
module

public import proofs.«01_k».proof.Proof.Gen.DH1Ideal.Value
public import proofs.«01_k».proof.Proof.Gen.DH1RefIdeal.Run
public import proofs.«01_k».proof.Proof.Gen.DH1RefIdeal.Read
public import proofs.«01_k».proof.Proof.Gen.DH1.Frame
public import proofs.«01_k».proof.Proof.Mm.Base
public import proofs.«01_k».proof.Defs
public import Idealize.ShloMosaic.Adequacy
public import Idealize.ShloMosaic.Lib.Pipeline.ReadBack

@[expose] public section

set_option maxRecDepth 16384

noncomputable section

namespace Cert.DH1Ideal.Mm

open Cert.DH1Ideal Cert.DH1Ideal.Gen Idealize.ShloMosaic Idealize.ShloMosaic.TcCoe Idealize.SL.Sem Cert.Mm

variable (m : (ℓ : Loc nD τ sig) → Buf (Elt Ideal) ℓ) (c : Dev nD)

/-- The five gradients. -/
def parts : Fin 5 → Vec Ideal S8192x1024 .bf16 :=
  ![m ((c : Thread nD τ).loc main_arg0), m ((c : Thread nD τ).loc main_arg1), m ((c : Thread nD τ).loc main_arg2), m ((c : Thread nD τ).loc main_arg3),
    m ((c : Thread nD τ).loc main_arg4)]

theorem idx0 : ∀ t : Fin cfg0.N, win0_0.index t = ![t.val / 5, 0] := (by decide +kernel : ∀ t : Fin grid0.N, _)
theorem idx1 : ∀ t : Fin cfg0.N, win0_1.index t = ![t.val / 5, 0] := (by decide +kernel : ∀ t : Fin grid0.N, _)
theorem idx2 : ∀ t : Fin cfg0.N, win0_2.index t = ![t.val / 5, 0] := (by decide +kernel : ∀ t : Fin grid0.N, _)
theorem idx3 : ∀ t : Fin cfg0.N, win0_3.index t = ![t.val / 5, 0] := (by decide +kernel : ∀ t : Fin grid0.N, _)
theorem idx4 : ∀ t : Fin cfg0.N, win0_4.index t = ![t.val / 5, 0] := (by decide +kernel : ∀ t : Fin grid0.N, _)
theorem idx5 : ∀ t : Fin cfg0.N, win0_5.index t = ![0, t.val % 5] := (by decide +kernel : ∀ t : Fin grid0.N, _)
theorem idx6 : ∀ t : Fin cfg0.N, win0_6.index t = ![t.val / 5, 0] := (by decide +kernel : ∀ t : Fin grid0.N, _)
theorem idx7 : ∀ t : Fin cfg0.N, win0_7.index t = ![t.val / 5, 0] := (by decide +kernel : ∀ t : Fin grid0.N, _)

/-- Block `t` of the part that point `t` takes. -/
def part (t : Fin cfg0.N) (y : S1024x1024.Idx) : EReal := side (parts m c) (t.val / 5 * 1024 + (y 0).val) (t.val % 5 * 1024 + (y 1).val)

theorem part_at (p : Fin 5) (t : Fin cfg0.N) (h : t.val % 5 = p.val) (y : S1024x1024.Idx) {i : S8192x1024.Idx}
    (h0 : (i 0).val = t.val / 5 * 1024 + (y 0).val) (h1 : (i 1).val = (y 1).val) : parts m c p i = part m c t y := by
  have hy : (y 1).val < 1024 := (y 1).isLt
  refine (at2_of (n0 := 8192) (n1 := 1024) (parts m c p) i h0 h1).trans (side_at (parts m c) p ?_ ?_).symm
  · rw [← h]; show _ / 1024 = _; omega
  · omega

theorem at_0 (t : Fin cfg0.N) (h : t.val % 5 = 0) (y : S1024x1024.Idx) : iblk m c 0 t y = part m c t y := by
  refine part_at m c 0 t h y ?_ ?_
  all_goals blk_simp [idx0]
  all_goals simp
theorem at_1 (t : Fin cfg0.N) (h : t.val % 5 = 1) (y : S1024x1024.Idx) : iblk m c 1 t y = part m c t y := by
  refine part_at m c 1 t h y ?_ ?_
  all_goals blk_simp [idx1]
  all_goals simp
theorem at_2 (t : Fin cfg0.N) (h : t.val % 5 = 2) (y : S1024x1024.Idx) : iblk m c 2 t y = part m c t y := by
  refine part_at m c 2 t h y ?_ ?_
  all_goals blk_simp [idx2]
  all_goals simp
theorem at_3 (t : Fin cfg0.N) (h : t.val % 5 = 3) (y : S1024x1024.Idx) : iblk m c 3 t y = part m c t y := by
  refine part_at m c 3 t h y ?_ ?_
  all_goals blk_simp [idx3]
  all_goals simp
theorem at_4 (t : Fin cfg0.N) (h : t.val % 5 = 4) (y : S1024x1024.Idx) : iblk m c 4 t y = part m c t y := by
  refine part_at m c 4 t h y ?_ ?_
  all_goals blk_simp [idx4]
  all_goals simp

theorem at_w (t : Fin cfg0.N) (y : S1024x1024.Idx) :
    iblk m c 5 t y = at2 (m ((c : Thread nD τ).loc main_arg5)) (y 0).val (t.val % 5 * 1024 + (y 1).val) := by
  refine at2_of (n0 := 1024) (n1 := 5120) (m ((c : Thread nD τ).loc main_arg5)) _ ?_ ?_
  all_goals blk_simp [idx5]
  all_goals simp

theorem at_add (t : Fin cfg0.N) (y : S1024x1024.Idx) :
    iblk m c 6 t y = at2 (m ((c : Thread nD τ).loc main_arg6)) (t.val / 5 * 1024 + (y 0).val) (y 1).val := by
  refine at2_of (n0 := 8192) (n1 := 1024) (m ((c : Thread nD τ).loc main_arg6)) _ ?_ ?_
  all_goals blk_simp [idx6]
  all_goals simp

theorem zero (y : S1024x1024.Idx) : k0_pay1 (F := Ideal) y = 0 := by
  unfold k0_pay1
  pointwise

theorem pay (z : Vec Ideal S1024x1024 .f32) (a b : Vec Ideal S1024x1024 .bf16) (y : S1024x1024.Idx) :
    k0_pay2 z a b y = z y + ∑ k : Fin 1024, a (ix2 (y 0) k) * b (ix2 (y 1) k) := by
  unfold k0_pay2
  pointwise

theorem added (z a : Vec Ideal S1024x1024 .f32) (y : S1024x1024.Idx) : k0_pay7 z a y = z y + a y := by
  unfold k0_pay7
  pointwise

/-- The product of column `k` that goes to an entry of row block `q`. -/
def term (q : ℕ) (i : S1024x1024.Idx) (k : ℕ) : EReal :=
  side (parts m c) (q * 1024 + (i 0).val) k * at2 (m ((c : Thread nD τ).loc main_arg5)) (i 1).val k

theorem step (z : Vec Ideal S1024x1024 .f32) (a : Vec Ideal S1024x1024 .bf16) (t : Fin cfg0.N) (h : ∀ y, a y = part m c t y) (y : S1024x1024.Idx) :
    k0_pay2 z a (iblk m c 5 t) y = z y + ∑ b ∈ Finset.range 1024, term m c (t.val / 5) y (t.val % 5 * 1024 + b) := by
  rw [pay]
  refine congrArg (z y + ·) (sum_fin _ fun k => ?_)
  rw [h, at_w]
  rfl

/-- The accumulator after point `t`. -/
theorem acc (t : Fin cfg0.N) {r : ℕ} (hr : t.val % 5 = r) (y : S1024x1024.Idx) :
    (outsAt0 m c t.val t.isLt).2 y = ∑ k ∈ Finset.range ((r + 1) * 1024), term m c (t.val / 5) y k := by
  refine acc_eq (fun n h => (outsAt0 m c n h).2) 5 1024 (term m c) (fun t h y => ?_) (fun t h y => ?_) t hr y
  · rw [outsAt0_A m c t h h (by omega) (by omega) (by omega) (by omega) (by omega)]
    frame_out
    rw [step m c _ _ t (at_0 m c t h), zero, zero_add]
  · have h5 : t.val % 5 < 5 := Nat.mod_lt _ (by decide)
    by_cases h1 : t.val % 5 = 1
    · rw [outsAt0_B m c t h h h1 (by omega) (by omega) (by omega) (by omega)]
      frame_out
      refine (step m c _ _ t (at_1 m c t h1) y).trans ?_
      simp only [read_unread_whole]
    by_cases h2 : t.val % 5 = 2
    · rw [outsAt0_C m c t h h h1 h2 (by omega) (by omega) (by omega)]
      frame_out
      refine (step m c _ _ t (at_2 m c t h2) y).trans ?_
      simp only [read_unread_whole]
    by_cases h3 : t.val % 5 = 3
    · rw [outsAt0_D m c t h h h1 h2 h3 (by omega) (by omega)]
      frame_out
      refine (step m c _ _ t (at_3 m c t h3) y).trans ?_
      simp only [read_unread_whole]
    · rw [outsAt0_E m c t h h h1 h2 h3 (by omega) (by omega)]
      frame_out
      refine (step m c _ _ t (at_4 m c t (by omega)) y).trans ?_
      simp only [read_unread_whole]

theorem out (t : Fin cfg0.N) (h : t.val % 5 = 4) (y : S1024x1024.Idx) :
    (outsAt0 m c t.val t.isLt).1 y = (outsAt0 m c t.val t.isLt).2 y + iblk m c 6 t y := by
  rw [outsAt0_E m c t (by omega) (by omega) (by omega) (by omega) (by omega) h h]
  frame_out
  rw [added]

/-- The gradient. -/
def dx (p : Fin 5 → Vec Ideal S8192x1024 .bf16) (w : Vec Ideal S1024x5120 .bf16) (s : Vec Ideal S8192x1024 .f32) : Vec Ideal S8192x1024 .f32 := fun i =>
  at2 s (i 0).val (i 1).val + ∑ k ∈ Finset.range 5120, side p (i 0).val k * at2 w (i 1).val k

theorem final : (dats m 0 c).arrAt 7 cfg0.N = dx (parts m c) (m ((c : Thread nD τ).loc main_arg5)) (m ((c : Thread nD τ).loc main_arg6)) := by
  refine (dats m 0 c).arrAt_eq_of_covers 7 _ (by decide +kernel) fun t hf y => ?_
  have h4 := (flush0_7 t).mp hf
  blk_simp
  rw [after0_7, out m c t h4, acc m c t h4, at_add, add_comm]
  unfold dx term
  blk_simp [idx7]

theorem ref (p : Fin 5 → Vec Ideal S8192x1024 .bf16) (w : Vec Ideal S1024x5120 .bf16) (s : Vec Ideal S8192x1024 .f32) :
    Cert.DH1RefIdeal.Read.val_main_v15 (F := Ideal) (p 0) (p 1) (p 2) (p 3) (p 4) w s = dx p w s := by
  funext i
  rw [Cert.DH1RefIdeal.Read.val_main_v15_apply, Cert.DH1RefIdeal.Read.val_main_v14_apply]
  refine congrArg₂ (· + ·) (at2_of s i rfl rfl) (sum_fin _ fun k => ?_)
  exact congrArg₂ (· * ·)
    (side_of p Cert.DH1RefIdeal.Facts₀.concatenates_S8192x1024_S8192x1024_S8192x1024_S8192x1024_S8192x1024_S8192x5120_d1 _ (by decide) rfl)
    (at2_of w _ rfl rfl)

theorem alg : Cert.algebraic_DH1Ideal_DH1RefIdeal := fun m g m' g' _ hm =>
  ⟨fun c => dx (parts m c) (m ((c : Thread nD τ).loc main_arg5)) (m ((c : Thread nD τ).loc main_arg6)),
    (θ_run defs _ _).mono (fun _ h c => ⟨(h c).1.trans (final m c), (h c).2⟩) (Value.run_blocks m g),
    (θ_run Cert.DH1RefIdeal.defs _ _).mono
      (fun _ h c => ⟨(h c).1.trans (by
        obtain ⟨e0, e1, e2, e3, e4, e5, e6⟩ := hm c
        rw [e0, e1, e2, e3, e4, e5, e6]
        exact ref (parts m c) _ _), (h c).2⟩)
      (Cert.DH1RefIdeal.Value.run (F := Ideal) m' g')⟩

theorem frame_p : Cert.quiescent_DH1 := fun m g _ => Cert.DH1.Gen.frame m g
theorem frame_pi : Cert.quiescent_DH1Ideal := fun m g _ => Gen.frame m g
theorem frame_ri : Cert.quiescent_DH1RefIdeal := fun m g _ =>
  (θ_run Cert.DH1RefIdeal.defs _ _).mono (fun r h => ⟨fun c => (h c).2, sem_eq_zero_of_no_sems (by decide) r.2⟩)
    (Cert.DH1RefIdeal.Value.run (F := Ideal) m g)

end Cert.DH1Ideal.Mm

end
-- ==== Proof.Mm.DwFfnDown.lean ====
/- The gradient of the network's second weight: columns by columns over all tokens, a block of rows of the result at a time, eight
   k blocks into one accumulator. -/
module

public import proofs.«01_k».proof.Proof.Gen.DwFfnDownIdeal.Value
public import proofs.«01_k».proof.Proof.Gen.DwFfnDownRefIdeal.Run
public import proofs.«01_k».proof.Proof.Gen.DwFfnDownRefIdeal.Read
public import proofs.«01_k».proof.Proof.Gen.DwFfnDown.Frame
public import proofs.«01_k».proof.Proof.Mm.Base
public import proofs.«01_k».proof.Defs
public import Idealize.ShloMosaic.Adequacy
public import Idealize.ShloMosaic.Lib.Pipeline.ReadBack

@[expose] public section

set_option maxRecDepth 16384

noncomputable section

namespace Cert.DwFfnDownIdeal.Mm

open Cert.DwFfnDownIdeal Cert.DwFfnDownIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val % 8, t.val / 8] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![t.val / 8, 0] := (by decide +kernel : ∀ t : Fin grid0.N, _)

theorem at_x (t : Fin cfg0.N) (y : S1024x1024.Idx) :
    iblk m c 0 t y = at2 (m ((c : Thread nD τ).loc main_arg0)) (t.val % 8 * 1024 + (y 0).val) (t.val / 8 * 1024 + (y 1).val) := by
  refine at2_of (n0 := 8192) (n1 := 3072) (m ((c : Thread nD τ).loc main_arg0)) _ ?_ ?_
  all_goals blk_simp [idx0]

theorem at_ct (t : Fin cfg0.N) (y : S1024x1024.Idx) :
    iblk m c 1 t y = at2 (m ((c : Thread nD τ).loc main_arg1)) (t.val % 8 * 1024 + (y 0).val) (y 1).val := by
  refine at2_of (n0 := 8192) (n1 := 1024) (m ((c : Thread nD τ).loc main_arg1)) _ ?_ ?_
  all_goals blk_simp [idx1]
  all_goals simp

theorem zero (y : S1024x1024.Idx) : k0_pay1 (F := Ideal) y = 0 := by
  unfold k0_pay1
  pointwise

theorem pay (z : Vec Ideal S1024x1024 .f32) (a b : Vec Ideal S1024x1024 .bf16) (y : S1024x1024.Idx) :
    k0_pay2 z a b y = z y + ∑ k : Fin 1024, a (ix2 k (y 0)) * b (ix2 k (y 1)) := by
  unfold k0_pay2
  pointwise

/-- The product of token `k` that goes to an entry of row block `q`. -/
def term (q : ℕ) (i : S1024x1024.Idx) (k : ℕ) : EReal :=
  at2 (m ((c : Thread nD τ).loc main_arg0)) k (q * 1024 + (i 0).val) * at2 (m ((c : Thread nD τ).loc main_arg1)) k (i 1).val

theorem step (z : Vec Ideal S1024x1024 .f32) (t : Fin cfg0.N) (y : S1024x1024.Idx) :
    k0_pay2 z (iblk m c 0 t) (iblk m c 1 t) y = z y + ∑ b ∈ Finset.range 1024, term m c (t.val / 8) y (t.val % 8 * 1024 + b) := by
  rw [pay]
  refine congrArg (z y + ·) (sum_fin _ fun k => ?_)
  rw [at_x, at_ct]
  rfl

/-- The accumulator after point `t`. -/
theorem acc (t : Fin cfg0.N) {r : ℕ} (hr : t.val % 8 = r) (y : S1024x1024.Idx) :
    (outsAt0 m c t.val t.isLt).2 y = ∑ k ∈ Finset.range ((r + 1) * 1024), term m c (t.val / 8) y k := by
  refine acc_eq (fun n h => (outsAt0 m c n h).2) 8 1024 (term m c) (fun t h y => ?_) (fun t h y => ?_) t hr y
  · rw [outsAt0_A m c t h (by omega)]
    frame_out
    rw [step, zero, zero_add]
  · by_cases h7 : t.val % 8 = 7
    · rw [outsAt0_C m c t h h7]
      frame_out
      rw [step]
      simp only [read_unread_whole]
    · rw [outsAt0_B m c t h h7]
      frame_out
      rw [step]
      simp only [read_unread_whole]

theorem out (t : Fin cfg0.N) (h : t.val % 8 = 7) : (outsAt0 m c t.val t.isLt).1 = (outsAt0 m c t.val t.isLt).2 := by
  rw [outsAt0_C m c t (by omega) h]
  funext y
  frame_out

theorem final : (dats m 0 c).arrAt 2 cfg0.N = tn (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, out m c t h7, acc m c t h7]
  unfold tn term
  blk_simp [idx2]

theorem ref (a : Vec Ideal S8192x3072 .bf16) (b : Vec Ideal S8192x1024 .bf16) : Cert.DwFfnDownRefIdeal.Read.val_main_v5 (F := Ideal) a b = tn a b := by
  funext i
  rw [Cert.DwFfnDownRefIdeal.Read.val_main_v5_apply, Cert.DwFfnDownRefIdeal.Read.val_main_v4_apply]
  refine sum_fin _ fun k => ?_
  exact (mul_comm _ _).trans (congrArg₂ (· * ·) (at2_of a _ rfl rfl) (at2_of b _ rfl rfl))

theorem alg : Cert.algebraic_DwFfnDownIdeal_DwFfnDownRefIdeal := fun m g m' g' _ hm =>
  ⟨fun c => tn (m ((c : Thread nD τ).loc main_arg0)) (m ((c : Thread nD τ).loc main_arg1)),
    (θ_run defs _ _).mono (fun _ h c => ⟨(h c).1.trans (final m c), (h c).2⟩) (Value.run_blocks m g),
    (θ_run Cert.DwFfnDownRefIdeal.defs _ _).mono (fun _ h c => ⟨(h c).1.trans ((ref _ _).trans (congrArg₂ tn (hm c).1 (hm c).2)), (h c).2⟩)
      (Cert.DwFfnDownRefIdeal.Value.run (F := Ideal) m' g')⟩

theorem frame_p : Cert.quiescent_DwFfnDown := fun m g _ => Cert.DwFfnDown.Gen.frame m g
theorem frame_pi : Cert.quiescent_DwFfnDownIdeal := fun m g _ => Gen.frame m g
theorem frame_ri : Cert.quiescent_DwFfnDownRefIdeal := fun m g _ =>
  (θ_run Cert.DwFfnDownRefIdeal.defs _ _).mono (fun r h => ⟨fun c => (h c).2, sem_eq_zero_of_no_sems (by decide) r.2⟩)
    (Cert.DwFfnDownRefIdeal.Value.run (F := Ideal) m g)

end Cert.DwFfnDownIdeal.Mm

end
-- ==== Proof.Mm.FfnDown.lean ====
/- The product with the weight of the network's second layer: three k blocks into one accumulator of 2048 rows. -/
module

public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Gen.FfnDown.Frame
public import proofs.«01_k».proof.Proof.Mm.Base
public import proofs.«01_k».proof.Defs
public import Idealize.ShloMosaic.Adequacy
public import Idealize.ShloMosaic.Lib.Pipeline.ReadBack

@[expose] public section

set_option maxRecDepth 16384

noncomputable section

namespace Cert.FfnDownIdeal.Mm

open Cert.FfnDownIdeal Cert.FfnDownIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val / 3, t.val % 3] := (by decide +kernel : ∀ t : Fin grid0.N, _)
theorem idx1 : ∀ t : Fin cfg0.N, win0_1.index t = ![t.val % 3, 0] := (by decide +kernel : ∀ t : Fin grid0.N, _)
theorem idx2 : ∀ t : Fin cfg0.N, win0_2.index t = ![t.val / 3, 0] := (by decide +kernel : ∀ t : Fin grid0.N, _)

theorem at_x (t : Fin cfg0.N) (y : S2048x1024.Idx) :
    iblk m c 0 t y = at2 (m ((c : Thread nD τ).loc main_arg0)) (t.val / 3 * 2048 + (y 0).val) (t.val % 3 * 1024 + (y 1).val) := by
  refine at2_of (n0 := 8192) (n1 := 3072) (m ((c : Thread nD τ).loc main_arg0)) _ ?_ ?_
  all_goals blk_simp [idx0]

theorem at_w (t : Fin cfg0.N) (y : S1024x1024.Idx) :
    iblk m c 1 t y = at2 (m ((c : Thread nD τ).loc main_arg1)) (t.val % 3 * 1024 + (y 0).val) (y 1).val := by
  refine at2_of (n0 := 3072) (n1 := 1024) (m ((c : Thread nD τ).loc main_arg1)) _ ?_ ?_
  all_goals blk_simp [idx1]
  all_goals simp

theorem zero (y : S2048x1024.Idx) : k0_pay1 (F := Ideal) y = 0 := by
  unfold k0_pay1
  pointwise

theorem pay (z : Vec Ideal S2048x1024 .f32) (a : Vec Ideal S2048x1024 .bf16) (b : Vec Ideal S1024x1024 .bf16) (y : S2048x1024.Idx) :
    k0_pay2 z a b y = z y + ∑ k : Fin 1024, a (ix2 (y 0) k) * b (ix2 k (y 1)) := by
  unfold k0_pay2
  pointwise

/-- The product of column `k` that goes to an entry of row block `q`. -/
def term (q : ℕ) (i : S2048x1024.Idx) (k : ℕ) : EReal :=
  at2 (m ((c : Thread nD τ).loc main_arg0)) (q * 2048 + (i 0).val) k * at2 (m ((c : Thread nD τ).loc main_arg1)) k (i 1).val

theorem step (z : Vec Ideal S2048x1024 .f32) (t : Fin cfg0.N) (y : S2048x1024.Idx) :
    k0_pay2 z (iblk m c 0 t) (iblk m c 1 t) y = z y + ∑ b ∈ Finset.range 1024, term m c (t.val / 3) y (t.val % 3 * 1024 + b) := by
  rw [pay]
  refine congrArg (z y + ·) (sum_fin _ fun k => ?_)
  rw [at_x, at_w]
  rfl

/-- The accumulator after point `t`. -/
theorem acc (t : Fin cfg0.N) {r : ℕ} (hr : t.val % 3 = r) (y : S2048x1024.Idx) :
    (outsAt0 m c t.val t.isLt).2 y = ∑ k ∈ Finset.range ((r + 1) * 1024), term m c (t.val / 3) y k := by
  refine acc_eq (fun n h => (outsAt0 m c n h).2) 3 1024 (term m c) (fun t h y => ?_) (fun t h y => ?_) t hr y
  · rw [outsAt0_A m c t h (by omega)]
    frame_out
    rw [step, zero, zero_add]
  · by_cases h2 : t.val % 3 = 2
    · rw [outsAt0_C m c t h h2]
      frame_out
      rw [step]
      simp only [read_unread_whole]
    · rw [outsAt0_B m c t h h2]
      frame_out
      rw [step]
      simp only [read_unread_whole]

theorem out (t : Fin cfg0.N) (h : t.val % 3 = 2) : (outsAt0 m c t.val t.isLt).1 = (outsAt0 m c t.val t.isLt).2 := by
  rw [outsAt0_C m c t (by omega) h]
  funext y
  frame_out

theorem final : (dats m 0 c).arrAt 2 cfg0.N = nn (m ((c : Thread nD τ).loc main_arg0)) (m ((c : Thread nD τ).loc main_arg1)) := by
  refine (dats m 0 c).arrAt_eq_of_covers 2 _ (by decide +kernel) fun t hf y => ?_
  have h2 := (flush0_2 t).mp hf
  blk_simp
  rw [after0_2, out m c t h2, acc m c t h2]
  unfold nn term
  blk_simp [idx2]

theorem ref (a : Vec Ideal S8192x3072 .bf16) (b : Vec Ideal S3072x1024 .bf16) : Cert.FfnDownRefIdeal.Read.val_main_v2 (F := Ideal) a b = nn a b := by
  funext i
  rw [Cert.FfnDownRefIdeal.Read.val_main_v2_apply]
  exact sum_fin _ fun k => congrArg₂ (· * ·) (at2_of a _ rfl rfl) (at2_of b _ rfl rfl)

theorem alg : Cert.algebraic_FfnDownIdeal_FfnDownRefIdeal := fun m g m' g' _ hm =>
  ⟨fun c => nn (m ((c : Thread nD τ).loc main_arg0)) (m ((c : Thread nD τ).loc main_arg1)),
    (θ_run defs _ _).mono (fun _ h c => ⟨(h c).1.trans (final m c), (h c).2⟩) (Value.run_blocks m g),
    (θ_run Cert.FfnDownRefIdeal.defs _ _).mono (fun _ h c => ⟨(h c).1.trans ((ref _ _).trans (congrArg₂ nn (hm c).1 (hm c).2)), (h c).2⟩)
      (Cert.FfnDownRefIdeal.Value.run (F := Ideal) m' g')⟩

theorem frame_p : Cert.quiescent_FfnDown := fun m g _ => Cert.FfnDown.Gen.frame m g
theorem frame_pi : Cert.quiescent_FfnDownIdeal := fun m g _ => Gen.frame m g
theorem frame_ri : Cert.quiescent_FfnDownRefIdeal := fun m g _ =>
  (θ_run Cert.FfnDownRefIdeal.defs _ _).mono (fun r h => ⟨fun c => (h c).2, sem_eq_zero_of_no_sems (by decide) r.2⟩)
    (Cert.FfnDownRefIdeal.Value.run (F := Ideal) m g)

end Cert.FfnDownIdeal.Mm

end
-- ==== Proof.Mm.InRnn.lean ====
/- The recurrent input product: 1280 columns of the weight a grid point. -/
module

public import proofs.«01_k».proof.Proof.Gen.InRnnIdeal.Value
public import proofs.«01_k».proof.Proof.Gen.InRnnRefIdeal.Run
public import proofs.«01_k».proof.Proof.Gen.InRnnRefIdeal.Read
public import proofs.«01_k».proof.Proof.Mm.Base
public import proofs.«01_k».proof.Proof.Gen.InRnn.Frame
public import proofs.«01_k».proof.Defs
public import Idealize.ShloMosaic.Adequacy

@[expose] public section

set_option maxRecDepth 16384

noncomputable section

namespace Cert.InRnnIdeal.Mm

open Cert.InRnnIdeal Cert.InRnnIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

theorem at_x (t : Fin cfg0.N) (y : S1024x1024.Idx) :
    iblk m c 0 t y = at2 (m ((c : Thread nD τ).loc main_arg0)) (t.val / 2 * 1024 + (y 0).val) (y 1).val := by
  refine at2_of (n0 := 8192) (n1 := 1024) (m ((c : Thread nD τ).loc main_arg0)) _ ?_ ?_
  all_goals blk_simp [idx0]
  all_goals simp

theorem at_w (t : Fin cfg0.N) (y : S1024x1280.Idx) :
    iblk m c 1 t y = at2 (m ((c : Thread nD τ).loc main_arg1)) (y 0).val (t.val % 2 * 1280 + (y 1).val) := by
  refine at2_of (n0 := 1024) (n1 := 2560) (m ((c : Thread nD τ).loc main_arg1)) _ ?_ ?_
  all_goals blk_simp [idx1]
  all_goals simp

theorem pay (a : Vec Ideal S1024x1024 .bf16) (b : Vec Ideal S1024x1280 .bf16) (y : S1024x1280.Idx) :
    k0_pay1 a b y = ∑ k : Fin 1024, a (ix2 (y 0) k) * b (ix2 k (y 1)) := by
  unfold k0_pay1
  pointwise

/-- The array the call leaves is the product. -/
theorem final : (dats m 0 c).arrAt 2 cfg0.N = nn (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold nn
  blk_simp [idx2]
  refine sum_fin _ fun k => ?_
  rw [at_x, at_w]
  rfl

theorem ref (a : Vec Ideal S8192x1024 .bf16) (b : Vec Ideal S1024x2560 .bf16) : Cert.InRnnRefIdeal.Read.val_main_v2 (F := Ideal) a b = nn a b := by
  funext i
  rw [Cert.InRnnRefIdeal.Read.val_main_v2_apply]
  refine sum_fin _ fun k => ?_
  exact congrArg₂ (· * ·) (at2_of a _ rfl rfl) (at2_of b _ rfl rfl)

theorem alg : Cert.algebraic_InRnnIdeal_InRnnRefIdeal := fun m g m' g' _ hm =>
  ⟨fun c => nn (m ((c : Thread nD τ).loc main_arg0)) (m ((c : Thread nD τ).loc main_arg1)),
    (θ_run defs _ _).mono (fun _ h c => ⟨(h c).1.trans (final m c), (h c).2⟩) (Value.run_blocks m g),
    (θ_run Cert.InRnnRefIdeal.defs _ _).mono (fun _ h c => ⟨(h c).1.trans ((ref _ _).trans (congrArg₂ nn (hm c).1 (hm c).2)), (h c).2⟩)
      (Cert.InRnnRefIdeal.Value.run (F := Ideal) m' g')⟩

theorem frame_p : Cert.quiescent_InRnn := fun m g _ => Cert.InRnn.Gen.frame m g
theorem frame_pi : Cert.quiescent_InRnnIdeal := fun m g _ => Gen.frame m g
theorem frame_ri : Cert.quiescent_InRnnRefIdeal := fun m g _ =>
  (θ_run Cert.InRnnRefIdeal.defs _ _).mono (fun r h => ⟨fun c => (h c).2, sem_eq_zero_of_no_sems (by decide) r.2⟩)
    (Cert.InRnnRefIdeal.Value.run (F := Ideal) m g)

end Cert.InRnnIdeal.Mm

end
-- ==== Proof.Mm.DwInRnn.lean ====
/- The gradient of a recurrent input weight: columns by columns over all tokens, eight k blocks into one accumulator. -/
module

public import proofs.«01_k».proof.Proof.Gen.DwInRnnIdeal.Value
public import proofs.«01_k».proof.Proof.Gen.DwInRnnRefIdeal.Run
public import proofs.«01_k».proof.Proof.Gen.DwInRnnRefIdeal.Read
public import proofs.«01_k».proof.Proof.Gen.DwInRnn.Frame
public import proofs.«01_k».proof.Proof.Mm.Base
public import proofs.«01_k».proof.Defs
public import Idealize.ShloMosaic.Adequacy
public import Idealize.ShloMosaic.Lib.Pipeline.ReadBack

@[expose] public section

set_option maxRecDepth 16384

noncomputable section

namespace Cert.DwInRnnIdeal.Mm

open Cert.DwInRnnIdeal Cert.DwInRnnIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val % 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![0, 0] := (by decide +kernel : ∀ t : Fin grid0.N, _)

theorem at_x (t : Fin cfg0.N) (y : S1024x1024.Idx) :
    iblk m c 0 t y = at2 (m ((c : Thread nD τ).loc main_arg0)) (t.val % 8 * 1024 + (y 0).val) (y 1).val := by
  refine at2_of (n0 := 8192) (n1 := 1024) (m ((c : Thread nD τ).loc main_arg0)) _ ?_ ?_
  all_goals blk_simp [idx0]
  all_goals simp

theorem at_ct (t : Fin cfg0.N) (y : S1024x1280.Idx) :
    iblk m c 1 t y = at2 (m ((c : Thread nD τ).loc main_arg1)) (t.val % 8 * 1024 + (y 0).val) (y 1).val := by
  refine at2_of (n0 := 8192) (n1 := 1280) (m ((c : Thread nD τ).loc main_arg1)) _ ?_ ?_
  all_goals blk_simp [idx1]
  all_goals simp

theorem zero (y : S1024x1280.Idx) : k0_pay1 (F := Ideal) y = 0 := by
  unfold k0_pay1
  pointwise

theorem pay (z : Vec Ideal S1024x1280 .f32) (a : Vec Ideal S1024x1024 .bf16) (b : Vec Ideal S1024x1280 .bf16) (y : S1024x1280.Idx) :
    k0_pay2 z a b y = z y + ∑ k : Fin 1024, a (ix2 k (y 0)) * b (ix2 k (y 1)) := by
  unfold k0_pay2
  pointwise

/-- The product of token `k` that goes to an entry. -/
def term (i : S1024x1280.Idx) (k : ℕ) : EReal :=
  at2 (m ((c : Thread nD τ).loc main_arg0)) k (i 0).val * at2 (m ((c : Thread nD τ).loc main_arg1)) k (i 1).val

theorem step (z : Vec Ideal S1024x1280 .f32) (t : Fin cfg0.N) (y : S1024x1280.Idx) :
    k0_pay2 z (iblk m c 0 t) (iblk m c 1 t) y = z y + ∑ b ∈ Finset.range 1024, term m c y (t.val % 8 * 1024 + b) := by
  rw [pay]
  refine congrArg (z y + ·) (sum_fin _ fun k => ?_)
  rw [at_x, at_ct]
  rfl

/-- The accumulator after point `t`. -/
theorem acc (t : Fin cfg0.N) {r : ℕ} (hr : t.val % 8 = r) (y : S1024x1280.Idx) :
    (outsAt0 m c t.val t.isLt).2 y = ∑ k ∈ Finset.range ((r + 1) * 1024), term m c y k := by
  refine acc_eq (fun n h => (outsAt0 m c n h).2) 8 1024 (fun _ => term m c) (fun t h y => ?_) (fun t h y => ?_) t hr y
  · rw [outsAt0_A m c t h (by omega)]
    frame_out
    rw [step, zero, zero_add]
  · by_cases h7 : t.val % 8 = 7
    · rw [outsAt0_C m c t h h7]
      frame_out
      rw [step]
      simp only [read_unread_whole]
    · rw [outsAt0_B m c t h h7]
      frame_out
      rw [step]
      simp only [read_unread_whole]

theorem out (t : Fin cfg0.N) (h : t.val % 8 = 7) : (outsAt0 m c t.val t.isLt).1 = (outsAt0 m c t.val t.isLt).2 := by
  rw [outsAt0_C m c t (by omega) h]
  funext y
  frame_out

theorem final : (dats m 0 c).arrAt 2 cfg0.N = tn (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, out m c t h7, acc m c t h7]
  unfold tn term
  blk_simp [idx2]

theorem ref (a : Vec Ideal S8192x1024 .bf16) (b : Vec Ideal S8192x1280 .bf16) : Cert.DwInRnnRefIdeal.Read.val_main_v5 (F := Ideal) a b = tn a b := by
  funext i
  rw [Cert.DwInRnnRefIdeal.Read.val_main_v5_apply, Cert.DwInRnnRefIdeal.Read.val_main_v4_apply]
  refine sum_fin _ fun k => ?_
  exact (mul_comm _ _).trans (congrArg₂ (· * ·) (at2_of a _ rfl rfl) (at2_of b _ rfl rfl))

theorem alg : Cert.algebraic_DwInRnnIdeal_DwInRnnRefIdeal := fun m g m' g' _ hm =>
  ⟨fun c => tn (m ((c : Thread nD τ).loc main_arg0)) (m ((c : Thread nD τ).loc main_arg1)),
    (θ_run defs _ _).mono (fun _ h c => ⟨(h c).1.trans (final m c), (h c).2⟩) (Value.run_blocks m g),
    (θ_run Cert.DwInRnnRefIdeal.defs _ _).mono (fun _ h c => ⟨(h c).1.trans ((ref _ _).trans (congrArg₂ tn (hm c).1 (hm c).2)), (h c).2⟩)
      (Cert.DwInRnnRefIdeal.Value.run (F := Ideal) m' g')⟩

theorem frame_p : Cert.quiescent_DwInRnn := fun m g _ => Cert.DwInRnn.Gen.frame m g
theorem frame_pi : Cert.quiescent_DwInRnnIdeal := fun m g _ => Gen.frame m g
theorem frame_ri : Cert.quiescent_DwInRnnRefIdeal := fun m g _ =>
  (θ_run Cert.DwInRnnRefIdeal.defs _ _).mono (fun r h => ⟨fun c => (h c).2, sem_eq_zero_of_no_sems (by decide) r.2⟩)
    (Cert.DwInRnnRefIdeal.Value.run (F := Ideal) m g)

end Cert.DwInRnnIdeal.Mm

end
-- ==== Proof.Mm.DH1Rnn.lean ====
/- The middle part of the gradient of the mixing layer's input: the gradients of the two recurrent products, side by side, times
   the rows of the weight, and the part before added. Four k blocks go into one accumulator, two of each gradient. -/
module

public import proofs.«01_k».proof.Proof.Gen.DH1RnnIdeal.Value
public import proofs.«01_k».proof.Proof.Gen.DH1RnnRefIdeal.Run
public import proofs.«01_k».proof.Proof.Gen.DH1RnnRefIdeal.Read
public import proofs.«01_k».proof.Proof.Gen.DH1Rnn.Frame
public import proofs.«01_k».proof.Proof.Mm.Base
public import proofs.«01_k».proof.Defs
public import Idealize.ShloMosaic.Adequacy
public import Idealize.ShloMosaic.Lib.Pipeline.ReadBack

@[expose] public section

set_option maxRecDepth 16384

noncomputable section

namespace Cert.DH1RnnIdeal.Mm

open Cert.DH1RnnIdeal Cert.DH1RnnIdeal.Gen Idealize.ShloMosaic Idealize.ShloMosaic.TcCoe Idealize.SL.Sem Cert.Mm

variable (m : (ℓ : Loc nD τ sig) → Buf (Elt Ideal) ℓ) (c : Dev nD)

/-- The two gradients. -/
def parts : Fin 2 → Vec Ideal S8192x1280 .bf16 := ![m ((c : Thread nD τ).loc main_arg0), m ((c : Thread nD τ).loc main_arg1)]

theorem idx0 : ∀ t : Fin cfg0.N, win0_0.index t = ![t.val / 4, min (t.val % 4) 1] := (by decide +kernel : ∀ t : Fin grid0.N, _)
theorem idx1 : ∀ t : Fin cfg0.N, win0_1.index t = ![t.val / 4, t.val % 4 - 2] := (by decide +kernel : ∀ t : Fin grid0.N, _)
theorem idx2 : ∀ t : Fin cfg0.N, win0_2.index t = ![0, t.val % 4] := (by decide +kernel : ∀ t : Fin grid0.N, _)
theorem idx3 : ∀ t : Fin cfg0.N, win0_3.index t = ![t.val / 4, 0] := (by decide +kernel : ∀ t : Fin grid0.N, _)
theorem idx4 : ∀ t : Fin cfg0.N, win0_4.index t = ![t.val / 4, 0] := (by decide +kernel : ∀ t : Fin grid0.N, _)

theorem at_g (t : Fin cfg0.N) (h : t.val % 4 ≤ 1) (y : S1024x640.Idx) :
    iblk m c 0 t y = side (parts m c) (t.val / 4 * 1024 + (y 0).val) (t.val % 4 * 640 + (y 1).val) := by
  have h1 : (y 1).val < 640 := (y 1).isLt
  refine (at2_of (n0 := 8192) (n1 := 1280) (m ((c : Thread nD τ).loc main_arg0)) _ ?_ ?_).trans
    (side_at (parts m c) 0 (Nat.div_eq_of_lt (by omega)) (Nat.mod_eq_of_lt (by omega))).symm
  all_goals blk_simp [idx0]
  rw [min_eq_left h]

theorem at_u (t : Fin cfg0.N) (h : 2 ≤ t.val % 4) (y : S1024x640.Idx) :
    iblk m c 1 t y = side (parts m c) (t.val / 4 * 1024 + (y 0).val) (t.val % 4 * 640 + (y 1).val) := by
  have h1 : (y 1).val < 640 := (y 1).isLt
  refine (at2_of (n0 := 8192) (n1 := 1280) (m ((c : Thread nD τ).loc main_arg1)) _ ?_ ?_).trans
    (side_at (parts m c) 1 (l := (t.val % 4 - 2) * 640 + (y 1).val) (show _ / 1280 = 1 by omega) (by omega)).symm
  all_goals blk_simp [idx1]

theorem at_w (t : Fin cfg0.N) (y : S1024x640.Idx) :
    iblk m c 2 t y = at2 (m ((c : Thread nD τ).loc main_arg2)) (y 0).val (t.val % 4 * 640 + (y 1).val) := by
  refine at2_of (n0 := 1024) (n1 := 2560) (m ((c : Thread nD τ).loc main_arg2)) _ ?_ ?_
  all_goals blk_simp [idx2]
  all_goals simp

theorem at_add (t : Fin cfg0.N) (y : S1024x1024.Idx) :
    iblk m c 3 t y = at2 (m ((c : Thread nD τ).loc main_arg3)) (t.val / 4 * 1024 + (y 0).val) (y 1).val := by
  refine at2_of (n0 := 8192) (n1 := 1024) (m ((c : Thread nD τ).loc main_arg3)) _ ?_ ?_
  all_goals blk_simp [idx3]
  all_goals simp

theorem zero (y : S1024x1024.Idx) : k0_pay1 (F := Ideal) y = 0 := by
  unfold k0_pay1
  pointwise

theorem pay (z : Vec Ideal S1024x1024 .f32) (a b : Vec Ideal S1024x640 .bf16) (y : S1024x1024.Idx) :
    k0_pay2 z a b y = z y + ∑ k : Fin 640, a (ix2 (y 0) k) * b (ix2 (y 1) k) := by
  unfold k0_pay2
  pointwise

theorem added (z a : Vec Ideal S1024x1024 .f32) (y : S1024x1024.Idx) : k0_pay4 z a y = z y + a y := by
  unfold k0_pay4
  pointwise

/-- The product of column `k` that goes to an entry of row block `q`. -/
def term (q : ℕ) (i : S1024x1024.Idx) (k : ℕ) : EReal :=
  side (parts m c) (q * 1024 + (i 0).val) k * at2 (m ((c : Thread nD τ).loc main_arg2)) (i 1).val k

theorem step_g (z : Vec Ideal S1024x1024 .f32) (t : Fin cfg0.N) (h : t.val % 4 ≤ 1) (y : S1024x1024.Idx) :
    k0_pay2 z (iblk m c 0 t) (iblk m c 2 t) y = z y + ∑ b ∈ Finset.range 640, term m c (t.val / 4) y (t.val % 4 * 640 + b) := by
  rw [pay]
  refine congrArg (z y + ·) (sum_fin _ fun k => ?_)
  rw [at_g m c t h, at_w]
  rfl

theorem step_u (z : Vec Ideal S1024x1024 .f32) (t : Fin cfg0.N) (h : 2 ≤ t.val % 4) (y : S1024x1024.Idx) :
    k0_pay3 z (iblk m c 1 t) (iblk m c 2 t) y = z y + ∑ b ∈ Finset.range 640, term m c (t.val / 4) y (t.val % 4 * 640 + b) := by
  refine (pay z (iblk m c 1 t) (iblk m c 2 t) y).trans (congrArg (z y + ·) (sum_fin _ fun k => ?_))
  rw [at_u m c t h, at_w]
  rfl

/-- The accumulator after point `t`. -/
theorem acc (t : Fin cfg0.N) {r : ℕ} (hr : t.val % 4 = r) (y : S1024x1024.Idx) :
    (outsAt0 m c t.val t.isLt).2 y = ∑ k ∈ Finset.range ((r + 1) * 640), term m c (t.val / 4) y k := by
  refine acc_eq (fun n h => (outsAt0 m c n h).2) 4 640 (term m c) (fun t h y => ?_) (fun t h y => ?_) t hr y
  · rw [outsAt0_A m c t h (by omega) (by omega) (by omega)]
    frame_out
    rw [step_g m c _ t (by omega), zero, zero_add]
  · by_cases h3 : t.val % 4 ≤ 1
    · rw [outsAt0_B m c t h h3 (by omega) (by omega)]
      frame_out
      rw [step_g m c _ t h3]
      simp only [read_unread_whole]
    · by_cases hl : t.val % 4 = 3
      · rw [outsAt0_D m c t h h3 (by omega) hl]
        frame_out
        rw [step_u m c _ t (by omega)]
        simp only [read_unread_whole]
      · rw [outsAt0_C m c t h h3 (by omega) hl]
        frame_out
        rw [step_u m c _ t (by omega)]
        simp only [read_unread_whole]

theorem out (t : Fin cfg0.N) (h : t.val % 4 = 3) (y : S1024x1024.Idx) :
    (outsAt0 m c t.val t.isLt).1 y = (outsAt0 m c t.val t.isLt).2 y + iblk m c 3 t y := by
  rw [outsAt0_D m c t (by omega) (by omega) (by omega) h]
  frame_out
  rw [added]

/-- The gradient. -/
def dx (p : Fin 2 → Vec Ideal S8192x1280 .bf16) (w : Vec Ideal S1024x2560 .bf16) (s : Vec Ideal S8192x1024 .f32) : Vec Ideal S8192x1024 .f32 := fun i =>
  at2 s (i 0).val (i 1).val + ∑ k ∈ Finset.range 2560, side p (i 0).val k * at2 w (i 1).val k

theorem final : (dats m 0 c).arrAt 4 cfg0.N = dx (parts m c) (m ((c : Thread nD τ).loc main_arg2)) (m ((c : Thread nD τ).loc main_arg3)) := by
  refine (dats m 0 c).arrAt_eq_of_covers 4 _ (by decide +kernel) fun t hf y => ?_
  have hl := (flush0_4 t).mp hf
  blk_simp
  rw [after0_4, out m c t hl, acc m c t hl, at_add, add_comm]
  unfold dx term
  blk_simp [idx4]

theorem ref (p : Fin 2 → Vec Ideal S8192x1280 .bf16) (w : Vec Ideal S1024x2560 .bf16) (s : Vec Ideal S8192x1024 .f32) :
    Cert.DH1RnnRefIdeal.Read.val_main_v9 (F := Ideal) (p 0) (p 1) w s = dx p w s := by
  funext i
  rw [Cert.DH1RnnRefIdeal.Read.val_main_v9_apply, Cert.DH1RnnRefIdeal.Read.val_main_v8_apply]
  refine congrArg₂ (· + ·) (at2_of s i rfl rfl) (sum_fin _ fun k => ?_)
  exact congrArg₂ (· * ·) (side_of p Cert.DH1RnnRefIdeal.Facts₀.concatenates_S8192x1280_S8192x1280_S8192x2560_d1 _ (by decide) rfl) (at2_of w _ rfl rfl)

theorem alg : Cert.algebraic_DH1RnnIdeal_DH1RnnRefIdeal := fun m g m' g' _ hm =>
  ⟨fun c => dx (parts m c) (m ((c : Thread nD τ).loc main_arg2)) (m ((c : Thread nD τ).loc main_arg3)),
    (θ_run defs _ _).mono (fun _ h c => ⟨(h c).1.trans (final m c), (h c).2⟩) (Value.run_blocks m g),
    (θ_run Cert.DH1RnnRefIdeal.defs _ _).mono
      (fun _ h c => ⟨(h c).1.trans (by
        obtain ⟨e0, e1, e2, e3⟩ := hm c
        rw [e0, e1, e2, e3]
        exact ref (parts m c) _ _), (h c).2⟩)
      (Cert.DH1RnnRefIdeal.Value.run (F := Ideal) m' g')⟩

theorem frame_p : Cert.quiescent_DH1Rnn := fun m g _ => Cert.DH1Rnn.Gen.frame m g
theorem frame_pi : Cert.quiescent_DH1RnnIdeal := fun m g _ => Gen.frame m g
theorem frame_ri : Cert.quiescent_DH1RnnRefIdeal := fun m g _ =>
  (θ_run Cert.DH1RnnRefIdeal.defs _ _).mono (fun r h => ⟨fun c => (h c).2, sem_eq_zero_of_no_sems (by decide) r.2⟩)
    (Cert.DH1RnnRefIdeal.Value.run (F := Ideal) m g)

end Cert.DH1RnnIdeal.Mm

end
-- ==== Proof.Mm.MixOut.lean ====
/- A product with a square weight, a block of 1024 tokens a grid point. -/
module

public import proofs.«01_k».proof.Proof.Gen.MixOutIdeal.Value
public import proofs.«01_k».proof.Proof.Gen.MixOutRefIdeal.Run
public import proofs.«01_k».proof.Proof.Gen.MixOutRefIdeal.Read
public import proofs.«01_k».proof.Proof.Mm.Base
public import proofs.«01_k».proof.Proof.Gen.MixOut.Frame
public import proofs.«01_k».proof.Defs
public import Idealize.ShloMosaic.Adequacy

@[expose] public section

set_option maxRecDepth 16384

noncomputable section

namespace Cert.MixOutIdeal.Mm

open Cert.MixOutIdeal Cert.MixOutIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem at_x (t : Fin cfg0.N) (y : S1024x1024.Idx) :
    iblk m c 0 t y = at2 (m ((c : Thread nD τ).loc main_arg0)) (t.val * 1024 + (y 0).val) (y 1).val := by
  refine at2_of (n0 := 8192) (n1 := 1024) (m ((c : Thread nD τ).loc main_arg0)) _ ?_ ?_
  all_goals blk_simp [idx0]
  all_goals simp

theorem at_w (t : Fin cfg0.N) (y : S1024x1024.Idx) :
    iblk m c 1 t y = at2 (m ((c : Thread nD τ).loc main_arg1)) (y 0).val (y 1).val := by
  refine at2_of (n0 := 1024) (n1 := 1024) (m ((c : Thread nD τ).loc main_arg1)) _ ?_ ?_
  all_goals blk_simp [idx1]
  all_goals simp

theorem pay (a : Vec Ideal S1024x1024 .bf16) (b : Vec Ideal S1024x1024 .bf16) (y : S1024x1024.Idx) :
    k0_pay1 a b y = ∑ k : Fin 1024, a (ix2 (y 0) k) * b (ix2 k (y 1)) := by
  unfold k0_pay1
  pointwise

/-- The array the call leaves is the product. -/
theorem final : (dats m 0 c).arrAt 2 cfg0.N = nn (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold nn
  blk_simp [idx2]
  refine sum_fin _ fun k => ?_
  rw [at_x, at_w]
  rfl

theorem ref (a : Vec Ideal S8192x1024 .bf16) (b : Vec Ideal S1024x1024 .bf16) : Cert.MixOutRefIdeal.Read.val_main_v2 (F := Ideal) a b = nn a b := by
  funext i
  rw [Cert.MixOutRefIdeal.Read.val_main_v2_apply]
  refine sum_fin _ fun k => ?_
  exact congrArg₂ (· * ·) (at2_of a _ rfl rfl) (at2_of b _ rfl rfl)

theorem alg : Cert.algebraic_MixOutIdeal_MixOutRefIdeal := fun m g m' g' _ hm =>
  ⟨fun c => nn (m ((c : Thread nD τ).loc main_arg0)) (m ((c : Thread nD τ).loc main_arg1)),
    (θ_run defs _ _).mono (fun _ h c => ⟨(h c).1.trans (final m c), (h c).2⟩) (Value.run_blocks m g),
    (θ_run Cert.MixOutRefIdeal.defs _ _).mono (fun _ h c => ⟨(h c).1.trans ((ref _ _).trans (congrArg₂ nn (hm c).1 (hm c).2)), (h c).2⟩)
      (Cert.MixOutRefIdeal.Value.run (F := Ideal) m' g')⟩

theorem frame_p : Cert.quiescent_MixOut := fun m g _ => Cert.MixOut.Gen.frame m g
theorem frame_pi : Cert.quiescent_MixOutIdeal := fun m g _ => Gen.frame m g
theorem frame_ri : Cert.quiescent_MixOutRefIdeal := fun m g _ =>
  (θ_run Cert.MixOutRefIdeal.defs _ _).mono (fun r h => ⟨fun c => (h c).2, sem_eq_zero_of_no_sems (by decide) r.2⟩)
    (Cert.MixOutRefIdeal.Value.run (F := Ideal) m g)

end Cert.MixOutIdeal.Mm

end
-- ==== Proof.Mm.DMerged.lean ====
/- The gradient of a square product's input: rows by rows of the weight, a block of 1024 tokens a grid point. -/
module

public import proofs.«01_k».proof.Proof.Gen.DMergedIdeal.Value
public import proofs.«01_k».proof.Proof.Gen.DMergedRefIdeal.Run
public import proofs.«01_k».proof.Proof.Gen.DMergedRefIdeal.Read
public import proofs.«01_k».proof.Proof.Mm.Base
public import proofs.«01_k».proof.Proof.Gen.DMerged.Frame
public import proofs.«01_k».proof.Defs
public import Idealize.ShloMosaic.Adequacy

@[expose] public section

set_option maxRecDepth 16384

noncomputable section

namespace Cert.DMergedIdeal.Mm

open Cert.DMergedIdeal Cert.DMergedIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem at_x (t : Fin cfg0.N) (y : S1024x1024.Idx) :
    iblk m c 0 t y = at2 (m ((c : Thread nD τ).loc main_arg0)) (t.val * 1024 + (y 0).val) (y 1).val := by
  refine at2_of (n0 := 8192) (n1 := 1024) (m ((c : Thread nD τ).loc main_arg0)) _ ?_ ?_
  all_goals blk_simp [idx0]
  all_goals simp

theorem at_w (t : Fin cfg0.N) (y : S1024x1024.Idx) :
    iblk m c 1 t y = at2 (m ((c : Thread nD τ).loc main_arg1)) (y 0).val (y 1).val := by
  refine at2_of (n0 := 1024) (n1 := 1024) (m ((c : Thread nD τ).loc main_arg1)) _ ?_ ?_
  all_goals blk_simp [idx1]
  all_goals simp

theorem pay (a : Vec Ideal S1024x1024 .bf16) (b : Vec Ideal S1024x1024 .bf16) (y : S1024x1024.Idx) :
    k0_pay1 a b y = ∑ k : Fin 1024, a (ix2 (y 0) k) * b (ix2 (y 1) k) := by
  unfold k0_pay1
  pointwise

/-- The array the call leaves is the product of the rows. -/
theorem final : (dats m 0 c).arrAt 2 cfg0.N = nt (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold nt
  blk_simp [idx2]
  refine sum_fin _ fun k => ?_
  rw [at_x, at_w]
  rfl

theorem ref (a : Vec Ideal S8192x1024 .bf16) (b : Vec Ideal S1024x1024 .bf16) : Cert.DMergedRefIdeal.Read.val_main_v4 (F := Ideal) a b = nt a b := by
  funext i
  rw [Cert.DMergedRefIdeal.Read.val_main_v4_apply]
  refine sum_fin _ fun k => ?_
  exact congrArg₂ (· * ·) (at2_of a _ rfl rfl) (at2_of b _ rfl rfl)

theorem alg : Cert.algebraic_DMergedIdeal_DMergedRefIdeal := fun m g m' g' _ hm =>
  ⟨fun c => nt (m ((c : Thread nD τ).loc main_arg0)) (m ((c : Thread nD τ).loc main_arg1)),
    (θ_run defs _ _).mono (fun _ h c => ⟨(h c).1.trans (final m c), (h c).2⟩) (Value.run_blocks m g),
    (θ_run Cert.DMergedRefIdeal.defs _ _).mono (fun _ h c => ⟨(h c).1.trans ((ref _ _).trans (congrArg₂ nt (hm c).1 (hm c).2)), (h c).2⟩)
      (Cert.DMergedRefIdeal.Value.run (F := Ideal) m' g')⟩

theorem frame_p : Cert.quiescent_DMerged := fun m g _ => Cert.DMerged.Gen.frame m g
theorem frame_pi : Cert.quiescent_DMergedIdeal := fun m g _ => Gen.frame m g
theorem frame_ri : Cert.quiescent_DMergedRefIdeal := fun m g _ =>
  (θ_run Cert.DMergedRefIdeal.defs _ _).mono (fun r h => ⟨fun c => (h c).2, sem_eq_zero_of_no_sems (by decide) r.2⟩)
    (Cert.DMergedRefIdeal.Value.run (F := Ideal) m g)

end Cert.DMergedIdeal.Mm

end
-- ==== Proof.Mm.InKv.lean ====
/- The product with the weights of the keys and the values, a block of 1024 tokens a grid point. -/
module

public import proofs.«01_k».proof.Proof.Gen.InKvIdeal.Value
public import proofs.«01_k».proof.Proof.Gen.InKvRefIdeal.Run
public import proofs.«01_k».proof.Proof.Gen.InKvRefIdeal.Read
public import proofs.«01_k».proof.Proof.Mm.Base
public import proofs.«01_k».proof.Proof.Gen.InKv.Frame
public import proofs.«01_k».proof.Defs
public import Idealize.ShloMosaic.Adequacy

@[expose] public section

set_option maxRecDepth 16384

noncomputable section

namespace Cert.InKvIdeal.Mm

open Cert.InKvIdeal Cert.InKvIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem at_x (t : Fin cfg0.N) (y : S1024x1024.Idx) :
    iblk m c 0 t y = at2 (m ((c : Thread nD τ).loc main_arg0)) (t.val * 1024 + (y 0).val) (y 1).val := by
  refine at2_of (n0 := 8192) (n1 := 1024) (m ((c : Thread nD τ).loc main_arg0)) _ ?_ ?_
  all_goals blk_simp [idx0]
  all_goals simp

theorem at_w (t : Fin cfg0.N) (y : S1024x2048.Idx) :
    iblk m c 1 t y = at2 (m ((c : Thread nD τ).loc main_arg1)) (y 0).val (y 1).val := by
  refine at2_of (n0 := 1024) (n1 := 2048) (m ((c : Thread nD τ).loc main_arg1)) _ ?_ ?_
  all_goals blk_simp [idx1]
  all_goals simp

theorem pay (a : Vec Ideal S1024x1024 .bf16) (b : Vec Ideal S1024x2048 .bf16) (y : S1024x2048.Idx) :
    k0_pay1 a b y = ∑ k : Fin 1024, a (ix2 (y 0) k) * b (ix2 k (y 1)) := by
  unfold k0_pay1
  pointwise

/-- The array the call leaves is the product. -/
theorem final : (dats m 0 c).arrAt 2 cfg0.N = nn (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold nn
  blk_simp [idx2]
  refine sum_fin _ fun k => ?_
  rw [at_x, at_w]
  rfl

theorem ref (a : Vec Ideal S8192x1024 .bf16) (b : Vec Ideal S1024x2048 .bf16) : Cert.InKvRefIdeal.Read.val_main_v2 (F := Ideal) a b = nn a b := by
  funext i
  rw [Cert.InKvRefIdeal.Read.val_main_v2_apply]
  refine sum_fin _ fun k => ?_
  exact congrArg₂ (· * ·) (at2_of a _ rfl rfl) (at2_of b _ rfl rfl)

theorem alg : Cert.algebraic_InKvIdeal_InKvRefIdeal := fun m g m' g' _ hm =>
  ⟨fun c => nn (m ((c : Thread nD τ).loc main_arg0)) (m ((c : Thread nD τ).loc main_arg1)),
    (θ_run defs _ _).mono (fun _ h c => ⟨(h c).1.trans (final m c), (h c).2⟩) (Value.run_blocks m g),
    (θ_run Cert.InKvRefIdeal.defs _ _).mono (fun _ h c => ⟨(h c).1.trans ((ref _ _).trans (congrArg₂ nn (hm c).1 (hm c).2)), (h c).2⟩)
      (Cert.InKvRefIdeal.Value.run (F := Ideal) m' g')⟩

theorem frame_p : Cert.quiescent_InKv := fun m g _ => Cert.InKv.Gen.frame m g
theorem frame_pi : Cert.quiescent_InKvIdeal := fun m g _ => Gen.frame m g
theorem frame_ri : Cert.quiescent_InKvRefIdeal := fun m g _ =>
  (θ_run Cert.InKvRefIdeal.defs _ _).mono (fun r h => ⟨fun c => (h c).2, sem_eq_zero_of_no_sems (by decide) r.2⟩)
    (Cert.InKvRefIdeal.Value.run (F := Ideal) m g)

end Cert.InKvIdeal.Mm

end
-- ==== Proof.Mm.InMg.lean ====
/- The product with the weights of the two merge gates, a block of 1024 tokens a grid point. -/
module

public import proofs.«01_k».proof.Proof.Gen.InMgIdeal.Value
public import proofs.«01_k».proof.Proof.Gen.InMgRefIdeal.Run
public import proofs.«01_k».proof.Proof.Gen.InMgRefIdeal.Read
public import proofs.«01_k».proof.Proof.Mm.Base
public import proofs.«01_k».proof.Proof.Gen.InMg.Frame
public import proofs.«01_k».proof.Defs
public import Idealize.ShloMosaic.Adequacy

@[expose] public section

set_option maxRecDepth 16384

noncomputable section

namespace Cert.InMgIdeal.Mm

open Cert.InMgIdeal Cert.InMgIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem at_x (t : Fin cfg0.N) (y : S1024x1024.Idx) :
    iblk m c 0 t y = at2 (m ((c : Thread nD τ).loc main_arg0)) (t.val * 1024 + (y 0).val) (y 1).val := by
  refine at2_of (n0 := 8192) (n1 := 1024) (m ((c : Thread nD τ).loc main_arg0)) _ ?_ ?_
  all_goals blk_simp [idx0]
  all_goals simp

theorem at_w (t : Fin cfg0.N) (y : S1024x2048.Idx) :
    iblk m c 1 t y = at2 (m ((c : Thread nD τ).loc main_arg1)) (y 0).val (y 1).val := by
  refine at2_of (n0 := 1024) (n1 := 2048) (m ((c : Thread nD τ).loc main_arg1)) _ ?_ ?_
  all_goals blk_simp [idx1]
  all_goals simp

theorem pay (a : Vec Ideal S1024x1024 .bf16) (b : Vec Ideal S1024x2048 .bf16) (y : S1024x2048.Idx) :
    k0_pay1 a b y = ∑ k : Fin 1024, a (ix2 (y 0) k) * b (ix2 k (y 1)) := by
  unfold k0_pay1
  pointwise

/-- The array the call leaves is the product. -/
theorem final : (dats m 0 c).arrAt 2 cfg0.N = nn (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold nn
  blk_simp [idx2]
  refine sum_fin _ fun k => ?_
  rw [at_x, at_w]
  rfl

theorem ref (a : Vec Ideal S8192x1024 .bf16) (b : Vec Ideal S1024x2048 .bf16) : Cert.InMgRefIdeal.Read.val_main_v2 (F := Ideal) a b = nn a b := by
  funext i
  rw [Cert.InMgRefIdeal.Read.val_main_v2_apply]
  refine sum_fin _ fun k => ?_
  exact congrArg₂ (· * ·) (at2_of a _ rfl rfl) (at2_of b _ rfl rfl)

theorem alg : Cert.algebraic_InMgIdeal_InMgRefIdeal := fun m g m' g' _ hm =>
  ⟨fun c => nn (m ((c : Thread nD τ).loc main_arg0)) (m ((c : Thread nD τ).loc main_arg1)),
    (θ_run defs _ _).mono (fun _ h c => ⟨(h c).1.trans (final m c), (h c).2⟩) (Value.run_blocks m g),
    (θ_run Cert.InMgRefIdeal.defs _ _).mono (fun _ h c => ⟨(h c).1.trans ((ref _ _).trans (congrArg₂ nn (hm c).1 (hm c).2)), (h c).2⟩)
      (Cert.InMgRefIdeal.Value.run (F := Ideal) m' g')⟩

theorem frame_p : Cert.quiescent_InMg := fun m g _ => Cert.InMg.Gen.frame m g
theorem frame_pi : Cert.quiescent_InMgIdeal := fun m g _ => Gen.frame m g
theorem frame_ri : Cert.quiescent_InMgRefIdeal := fun m g _ =>
  (θ_run Cert.InMgRefIdeal.defs _ _).mono (fun r h => ⟨fun c => (h c).2, sem_eq_zero_of_no_sems (by decide) r.2⟩)
    (Cert.InMgRefIdeal.Value.run (F := Ideal) m g)

end Cert.InMgIdeal.Mm

end
-- ==== Proof.Mm.DYRnn.lean ====
/- The gradient of the recurrent output product's input: rows by rows of the weight, a block of 1024 tokens a grid point. -/
module

public import proofs.«01_k».proof.Proof.Gen.DYRnnIdeal.Value
public import proofs.«01_k».proof.Proof.Gen.DYRnnRefIdeal.Run
public import proofs.«01_k».proof.Proof.Gen.DYRnnRefIdeal.Read
public import proofs.«01_k».proof.Proof.Mm.Base
public import proofs.«01_k».proof.Proof.Gen.DYRnn.Frame
public import proofs.«01_k».proof.Defs
public import Idealize.ShloMosaic.Adequacy

@[expose] public section

set_option maxRecDepth 16384

noncomputable section

namespace Cert.DYRnnIdeal.Mm

open Cert.DYRnnIdeal Cert.DYRnnIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem at_x (t : Fin cfg0.N) (y : S1024x1024.Idx) :
    iblk m c 0 t y = at2 (m ((c : Thread nD τ).loc main_arg0)) (t.val * 1024 + (y 0).val) (y 1).val := by
  refine at2_of (n0 := 8192) (n1 := 1024) (m ((c : Thread nD τ).loc main_arg0)) _ ?_ ?_
  all_goals blk_simp [idx0]
  all_goals simp

theorem at_w (t : Fin cfg0.N) (y : S1280x1024.Idx) :
    iblk m c 1 t y = at2 (m ((c : Thread nD τ).loc main_arg1)) (y 0).val (y 1).val := by
  refine at2_of (n0 := 1280) (n1 := 1024) (m ((c : Thread nD τ).loc main_arg1)) _ ?_ ?_
  all_goals blk_simp [idx1]
  all_goals simp

theorem pay (a : Vec Ideal S1024x1024 .bf16) (b : Vec Ideal S1280x1024 .bf16) (y : S1024x1280.Idx) :
    k0_pay1 a b y = ∑ k : Fin 1024, a (ix2 (y 0) k) * b (ix2 (y 1) k) := by
  unfold k0_pay1
  pointwise

/-- The array the call leaves is the product of the rows. -/
theorem final : (dats m 0 c).arrAt 2 cfg0.N = nt (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold nt
  blk_simp [idx2]
  refine sum_fin _ fun k => ?_
  rw [at_x, at_w]
  rfl

theorem ref (a : Vec Ideal S8192x1024 .bf16) (b : Vec Ideal S1280x1024 .bf16) : Cert.DYRnnRefIdeal.Read.val_main_v4 (F := Ideal) a b = nt a b := by
  funext i
  rw [Cert.DYRnnRefIdeal.Read.val_main_v4_apply]
  refine sum_fin _ fun k => ?_
  exact congrArg₂ (· * ·) (at2_of a _ rfl rfl) (at2_of b _ rfl rfl)

theorem alg : Cert.algebraic_DYRnnIdeal_DYRnnRefIdeal := fun m g m' g' _ hm =>
  ⟨fun c => nt (m ((c : Thread nD τ).loc main_arg0)) (m ((c : Thread nD τ).loc main_arg1)),
    (θ_run defs _ _).mono (fun _ h c => ⟨(h c).1.trans (final m c), (h c).2⟩) (Value.run_blocks m g),
    (θ_run Cert.DYRnnRefIdeal.defs _ _).mono (fun _ h c => ⟨(h c).1.trans ((ref _ _).trans (congrArg₂ nt (hm c).1 (hm c).2)), (h c).2⟩)
      (Cert.DYRnnRefIdeal.Value.run (F := Ideal) m' g')⟩

theorem frame_p : Cert.quiescent_DYRnn := fun m g _ => Cert.DYRnn.Gen.frame m g
theorem frame_pi : Cert.quiescent_DYRnnIdeal := fun m g _ => Gen.frame m g
theorem frame_ri : Cert.quiescent_DYRnnRefIdeal := fun m g _ =>
  (θ_run Cert.DYRnnRefIdeal.defs _ _).mono (fun r h => ⟨fun c => (h c).2, sem_eq_zero_of_no_sems (by decide) r.2⟩)
    (Cert.DYRnnRefIdeal.Value.run (F := Ideal) m g)

end Cert.DYRnnIdeal.Mm

end
-- ==== Proof.Mm.DwProjRnn.lean ====
/- The gradient of the recurrent output weight: columns by columns over all tokens, eight k blocks into one accumulator. -/
module

public import proofs.«01_k».proof.Proof.Gen.DwProjRnnIdeal.Value
public import proofs.«01_k».proof.Proof.Gen.DwProjRnnRefIdeal.Run
public import proofs.«01_k».proof.Proof.Gen.DwProjRnnRefIdeal.Read
public import proofs.«01_k».proof.Proof.Gen.DwProjRnn.Frame
public import proofs.«01_k».proof.Proof.Mm.Base
public import proofs.«01_k».proof.Defs
public import Idealize.ShloMosaic.Adequacy
public import Idealize.ShloMosaic.Lib.Pipeline.ReadBack

@[expose] public section

set_option maxRecDepth 16384

noncomputable section

namespace Cert.DwProjRnnIdeal.Mm

open Cert.DwProjRnnIdeal Cert.DwProjRnnIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val % 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![0, 0] := (by decide +kernel : ∀ t : Fin grid0.N, _)

theorem at_x (t : Fin cfg0.N) (y : S1024x1280.Idx) :
    iblk m c 0 t y = at2 (m ((c : Thread nD τ).loc main_arg0)) (t.val % 8 * 1024 + (y 0).val) (y 1).val := by
  refine at2_of (n0 := 8192) (n1 := 1280) (m ((c : Thread nD τ).loc main_arg0)) _ ?_ ?_
  all_goals blk_simp [idx0]
  all_goals simp

theorem at_ct (t : Fin cfg0.N) (y : S1024x1024.Idx) :
    iblk m c 1 t y = at2 (m ((c : Thread nD τ).loc main_arg1)) (t.val % 8 * 1024 + (y 0).val) (y 1).val := by
  refine at2_of (n0 := 8192) (n1 := 1024) (m ((c : Thread nD τ).loc main_arg1)) _ ?_ ?_
  all_goals blk_simp [idx1]
  all_goals simp

theorem zero (y : S1280x1024.Idx) : k0_pay1 (F := Ideal) y = 0 := by
  unfold k0_pay1
  pointwise

theorem pay (z : Vec Ideal S1280x1024 .f32) (a : Vec Ideal S1024x1280 .bf16) (b : Vec Ideal S1024x1024 .bf16) (y : S1280x1024.Idx) :
    k0_pay2 z a b y = z y + ∑ k : Fin 1024, a (ix2 k (y 0)) * b (ix2 k (y 1)) := by
  unfold k0_pay2
  pointwise

/-- The product of token `k` that goes to an entry. -/
def term (i : S1280x1024.Idx) (k : ℕ) : EReal :=
  at2 (m ((c : Thread nD τ).loc main_arg0)) k (i 0).val * at2 (m ((c : Thread nD τ).loc main_arg1)) k (i 1).val

theorem step (z : Vec Ideal S1280x1024 .f32) (t : Fin cfg0.N) (y : S1280x1024.Idx) :
    k0_pay2 z (iblk m c 0 t) (iblk m c 1 t) y = z y + ∑ b ∈ Finset.range 1024, term m c y (t.val % 8 * 1024 + b) := by
  rw [pay]
  refine congrArg (z y + ·) (sum_fin _ fun k => ?_)
  rw [at_x, at_ct]
  rfl

/-- The accumulator after point `t`. -/
theorem acc (t : Fin cfg0.N) {r : ℕ} (hr : t.val % 8 = r) (y : S1280x1024.Idx) :
    (outsAt0 m c t.val t.isLt).2 y = ∑ k ∈ Finset.range ((r + 1) * 1024), term m c y k := by
  refine acc_eq (fun n h => (outsAt0 m c n h).2) 8 1024 (fun _ => term m c) (fun t h y => ?_) (fun t h y => ?_) t hr y
  · rw [outsAt0_A m c t h (by omega)]
    frame_out
    rw [step, zero, zero_add]
  · by_cases h7 : t.val % 8 = 7
    · rw [outsAt0_C m c t h h7]
      frame_out
      rw [step]
      simp only [read_unread_whole]
    · rw [outsAt0_B m c t h h7]
      frame_out
      rw [step]
      simp only [read_unread_whole]

theorem out (t : Fin cfg0.N) (h : t.val % 8 = 7) : (outsAt0 m c t.val t.isLt).1 = (outsAt0 m c t.val t.isLt).2 := by
  rw [outsAt0_C m c t (by omega) h]
  funext y
  frame_out

theorem final : (dats m 0 c).arrAt 2 cfg0.N = tn (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, out m c t h7, acc m c t h7]
  unfold tn term
  blk_simp [idx2]

theorem ref (a : Vec Ideal S8192x1280 .bf16) (b : Vec Ideal S8192x1024 .bf16) : Cert.DwProjRnnRefIdeal.Read.val_main_v5 (F := Ideal) a b = tn a b := by
  funext i
  rw [Cert.DwProjRnnRefIdeal.Read.val_main_v5_apply, Cert.DwProjRnnRefIdeal.Read.val_main_v4_apply]
  refine sum_fin _ fun k => ?_
  exact (mul_comm _ _).trans (congrArg₂ (· * ·) (at2_of a _ rfl rfl) (at2_of b _ rfl rfl))

theorem alg : Cert.algebraic_DwProjRnnIdeal_DwProjRnnRefIdeal := fun m g m' g' _ hm =>
  ⟨fun c => tn (m ((c : Thread nD τ).loc main_arg0)) (m ((c : Thread nD τ).loc main_arg1)),
    (θ_run defs _ _).mono (fun _ h c => ⟨(h c).1.trans (final m c), (h c).2⟩) (Value.run_blocks m g),
    (θ_run Cert.DwProjRnnRefIdeal.defs _ _).mono (fun _ h c => ⟨(h c).1.trans ((ref _ _).trans (congrArg₂ tn (hm c).1 (hm c).2)), (h c).2⟩)
      (Cert.DwProjRnnRefIdeal.Value.run (F := Ideal) m' g')⟩

theorem frame_p : Cert.quiescent_DwProjRnn := fun m g _ => Cert.DwProjRnn.Gen.frame m g
theorem frame_pi : Cert.quiescent_DwProjRnnIdeal := fun m g _ => Gen.frame m g
theorem frame_ri : Cert.quiescent_DwProjRnnRefIdeal := fun m g _ =>
  (θ_run Cert.DwProjRnnRefIdeal.defs _ _).mono (fun r h => ⟨fun c => (h c).2, sem_eq_zero_of_no_sems (by decide) r.2⟩)
    (Cert.DwProjRnnRefIdeal.Value.run (F := Ideal) m g)

end Cert.DwProjRnnIdeal.Mm

end
-- ==== Proof.Mm.ProjRnn.lean ====
/- The product with the recurrent output weight: two k blocks into one accumulator. -/
module

public import proofs.«01_k».proof.Proof.Gen.ProjRnnIdeal.Value
public import proofs.«01_k».proof.Proof.Gen.ProjRnnRefIdeal.Run
public import proofs.«01_k».proof.Proof.Gen.ProjRnnRefIdeal.Read
public import proofs.«01_k».proof.Proof.Gen.ProjRnn.Frame
public import proofs.«01_k».proof.Proof.Mm.Base
public import proofs.«01_k».proof.Defs
public import Idealize.ShloMosaic.Adequacy
public import Idealize.ShloMosaic.Lib.Pipeline.ReadBack

@[expose] public section

set_option maxRecDepth 16384

noncomputable section

namespace Cert.ProjRnnIdeal.Mm

open Cert.ProjRnnIdeal Cert.ProjRnnIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val / 2, t.val % 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, 0] := (by decide +kernel : ∀ t : Fin grid0.N, _)

theorem at_x (t : Fin cfg0.N) (y : S1024x640.Idx) :
    iblk m c 0 t y = at2 (m ((c : Thread nD τ).loc main_arg0)) (t.val / 2 * 1024 + (y 0).val) (t.val % 2 * 640 + (y 1).val) := by
  refine at2_of (n0 := 8192) (n1 := 1280) (m ((c : Thread nD τ).loc main_arg0)) _ ?_ ?_
  all_goals blk_simp [idx0]

theorem at_w (t : Fin cfg0.N) (y : S640x1024.Idx) :
    iblk m c 1 t y = at2 (m ((c : Thread nD τ).loc main_arg1)) (t.val % 2 * 640 + (y 0).val) (y 1).val := by
  refine at2_of (n0 := 1280) (n1 := 1024) (m ((c : Thread nD τ).loc main_arg1)) _ ?_ ?_
  all_goals blk_simp [idx1]
  all_goals simp

theorem zero (y : S1024x1024.Idx) : k0_pay1 (F := Ideal) y = 0 := by
  unfold k0_pay1
  pointwise

theorem pay (z : Vec Ideal S1024x1024 .f32) (a : Vec Ideal S1024x640 .bf16) (b : Vec Ideal S640x1024 .bf16) (y : S1024x1024.Idx) :
    k0_pay2 z a b y = z y + ∑ k : Fin 640, a (ix2 (y 0) k) * b (ix2 k (y 1)) := by
  unfold k0_pay2
  pointwise

/-- The product of column `k` that goes to an entry of row block `q`. -/
def term (q : ℕ) (i : S1024x1024.Idx) (k : ℕ) : EReal :=
  at2 (m ((c : Thread nD τ).loc main_arg0)) (q * 1024 + (i 0).val) k * at2 (m ((c : Thread nD τ).loc main_arg1)) k (i 1).val

theorem step (z : Vec Ideal S1024x1024 .f32) (t : Fin cfg0.N) (y : S1024x1024.Idx) :
    k0_pay2 z (iblk m c 0 t) (iblk m c 1 t) y = z y + ∑ b ∈ Finset.range 640, term m c (t.val / 2) y (t.val % 2 * 640 + b) := by
  rw [pay]
  refine congrArg (z y + ·) (sum_fin _ fun k => ?_)
  rw [at_x, at_w]
  rfl

/-- The accumulator after point `t`. -/
theorem acc (t : Fin cfg0.N) {r : ℕ} (hr : t.val % 2 = r) (y : S1024x1024.Idx) :
    (outsAt0 m c t.val t.isLt).2 y = ∑ k ∈ Finset.range ((r + 1) * 640), term m c (t.val / 2) y k := by
  refine acc_eq (fun n h => (outsAt0 m c n h).2) 2 640 (term m c) (fun t h y => ?_) (fun t h y => ?_) t hr y
  · rw [outsAt0_A m c t h (by omega)]
    frame_out
    rw [step, zero, zero_add]
  · rw [outsAt0_B m c t h (by omega)]
    frame_out
    rw [step]
    simp only [read_unread_whole]

theorem out (t : Fin cfg0.N) (h : t.val % 2 = 1) : (outsAt0 m c t.val t.isLt).1 = (outsAt0 m c t.val t.isLt).2 := by
  rw [outsAt0_B m c t (by omega) h]
  funext y
  frame_out

theorem final : (dats m 0 c).arrAt 2 cfg0.N = nn (m ((c : Thread nD τ).loc main_arg0)) (m ((c : Thread nD τ).loc main_arg1)) := by
  refine (dats m 0 c).arrAt_eq_of_covers 2 _ (by decide +kernel) fun t hf y => ?_
  have h1 := (flush0_2 t).mp hf
  blk_simp
  rw [after0_2, out m c t h1, acc m c t h1]
  unfold nn term
  blk_simp [idx2]

theorem ref (a : Vec Ideal S8192x1280 .bf16) (b : Vec Ideal S1280x1024 .bf16) : Cert.ProjRnnRefIdeal.Read.val_main_v2 (F := Ideal) a b = nn a b := by
  funext i
  rw [Cert.ProjRnnRefIdeal.Read.val_main_v2_apply]
  exact sum_fin _ fun k => congrArg₂ (· * ·) (at2_of a _ rfl rfl) (at2_of b _ rfl rfl)

theorem alg : Cert.algebraic_ProjRnnIdeal_ProjRnnRefIdeal := fun m g m' g' _ hm =>
  ⟨fun c => nn (m ((c : Thread nD τ).loc main_arg0)) (m ((c : Thread nD τ).loc main_arg1)),
    (θ_run defs _ _).mono (fun _ h c => ⟨(h c).1.trans (final m c), (h c).2⟩) (Value.run_blocks m g),
    (θ_run Cert.ProjRnnRefIdeal.defs _ _).mono (fun _ h c => ⟨(h c).1.trans ((ref _ _).trans (congrArg₂ nn (hm c).1 (hm c).2)), (h c).2⟩)
      (Cert.ProjRnnRefIdeal.Value.run (F := Ideal) m' g')⟩

theorem frame_p : Cert.quiescent_ProjRnn := fun m g _ => Cert.ProjRnn.Gen.frame m g
theorem frame_pi : Cert.quiescent_ProjRnnIdeal := fun m g _ => Gen.frame m g
theorem frame_ri : Cert.quiescent_ProjRnnRefIdeal := fun m g _ =>
  (θ_run Cert.ProjRnnRefIdeal.defs _ _).mono (fun r h => ⟨fun c => (h c).2, sem_eq_zero_of_no_sems (by decide) r.2⟩)
    (Cert.ProjRnnRefIdeal.Value.run (F := Ideal) m g)

end Cert.ProjRnnIdeal.Mm

end
-- ==== Proof.Mm.InQ.lean ====
/- The queries' projection with its scale, a block of 1024 tokens a grid point. -/
module

public import proofs.«01_k».proof.Proof.Gen.InQIdeal.Value
public import proofs.«01_k».proof.Proof.Gen.InQRefIdeal.Run
public import proofs.«01_k».proof.Proof.Gen.InQRefIdeal.Read
public import proofs.«01_k».proof.Proof.Mm.Base
public import proofs.«01_k».proof.Proof.Gen.InQ.Frame
public import proofs.«01_k».proof.Defs
public import Idealize.ShloMosaic.Adequacy

@[expose] public section

set_option maxRecDepth 16384

noncomputable section

namespace Cert.InQIdeal.Mm

open Cert.InQIdeal Cert.InQIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem at_x (t : Fin cfg0.N) (y : S1024x1024.Idx) :
    iblk m c 0 t y = at2 (m ((c : Thread nD τ).loc main_arg0)) (t.val * 1024 + (y 0).val) (y 1).val := by
  refine at2_of (n0 := 8192) (n1 := 1024) (m ((c : Thread nD τ).loc main_arg0)) _ ?_ ?_
  all_goals blk_simp [idx0]
  all_goals simp

theorem at_w (t : Fin cfg0.N) (y : S1024x1024.Idx) :
    iblk m c 1 t y = at2 (m ((c : Thread nD τ).loc main_arg1)) (y 0).val (y 1).val := by
  refine at2_of (n0 := 1024) (n1 := 1024) (m ((c : Thread nD τ).loc main_arg1)) _ ?_ ?_
  all_goals blk_simp [idx1]
  all_goals simp

/-- The scale of the queries. -/
def scale : EReal := FloatOps.ofBits (F := Ideal) .f32 0x3DB504F3#32

theorem pay (a : Vec Ideal S1024x1024 .bf16) (b : Vec Ideal S1024x1024 .bf16) (y : S1024x1024.Idx) :
    k0_pay1 a b y = (∑ k : Fin 1024, a (ix2 (y 0) k) * b (ix2 k (y 1))) * scale := by
  unfold k0_pay1 scale
  pointwise

/-- The array the call leaves is the scaled product. -/
theorem final : (dats m 0 c).arrAt 2 cfg0.N
    = fun i => nn (m ((c : Thread nD τ).loc main_arg0)) (m ((c : Thread nD τ).loc main_arg1)) i * scale := by
  refine (dats m 0 c).arrAt_eq_of_covers 2 _ (by decide +kernel) fun t hf y => ?_
  blk_simp
  rw [after0_2]
  frame_out
  rw [pay]
  unfold nn
  blk_simp [idx2]
  refine congrArg (· * scale) (sum_fin _ fun k => ?_)
  rw [at_x, at_w]
  rfl

theorem ref (a : Vec Ideal S8192x1024 .bf16) (b : Vec Ideal S1024x1024 .bf16) : Cert.InQRefIdeal.Read.val_main_v5 (F := Ideal) a b = fun i => nn a b i * scale := by
  funext i
  rw [Cert.InQRefIdeal.Read.val_main_v5_apply, Cert.InQRefIdeal.Read.val_main_v4_apply, Cert.InQRefIdeal.Read.val_main_v3_apply,
    Cert.InQRefIdeal.Read.val_main_v2_apply]
  refine congrArg (· * scale) (sum_fin _ fun k => ?_)
  exact congrArg₂ (· * ·) (at2_of a _ rfl rfl) (at2_of b _ rfl rfl)

theorem alg : Cert.algebraic_InQIdeal_InQRefIdeal := fun m g m' g' _ hm =>
  ⟨fun c i => nn (m ((c : Thread nD τ).loc main_arg0)) (m ((c : Thread nD τ).loc main_arg1)) i * scale,
    (θ_run defs _ _).mono (fun _ h c => ⟨(h c).1.trans (final m c), (h c).2⟩) (Value.run_blocks m g),
    (θ_run Cert.InQRefIdeal.defs _ _).mono (fun _ h c => ⟨(h c).1.trans ((ref _ _).trans (congrArg₂ (fun a b i => nn a b i * scale) (hm c).1 (hm c).2)), (h c).2⟩)
      (Cert.InQRefIdeal.Value.run (F := Ideal) m' g')⟩

theorem frame_p : Cert.quiescent_InQ := fun m g _ => Cert.InQ.Gen.frame m g
theorem frame_pi : Cert.quiescent_InQIdeal := fun m g _ => Gen.frame m g
theorem frame_ri : Cert.quiescent_InQRefIdeal := fun m g _ =>
  (θ_run Cert.InQRefIdeal.defs _ _).mono (fun r h => ⟨fun c => (h c).2, sem_eq_zero_of_no_sems (by decide) r.2⟩)
    (Cert.InQRefIdeal.Value.run (F := Ideal) m g)

end Cert.InQIdeal.Mm

end
-- ==== Proof.Mm.ProjAttn.lean ====
/- The attention's output projection, a block of 1024 tokens a grid point. -/
module

public import proofs.«01_k».proof.Proof.Gen.ProjAttnIdeal.Value
public import proofs.«01_k».proof.Proof.Gen.ProjAttnRefIdeal.Run
public import proofs.«01_k».proof.Proof.Gen.ProjAttnRefIdeal.Read
public import proofs.«01_k».proof.Proof.Mm.Base
public import proofs.«01_k».proof.Proof.Gen.ProjAttn.Frame
public import proofs.«01_k».proof.Defs
public import Idealize.ShloMosaic.Adequacy

@[expose] public section

set_option maxRecDepth 16384

noncomputable section

namespace Cert.ProjAttnIdeal.Mm

open Cert.ProjAttnIdeal Cert.ProjAttnIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem at_x (t : Fin cfg0.N) (y : S1024x1024.Idx) :
    iblk m c 0 t y = at2 (m ((c : Thread nD τ).loc main_arg0)) (t.val * 1024 + (y 0).val) (y 1).val := by
  refine at2_of (n0 := 8192) (n1 := 1024) (m ((c : Thread nD τ).loc main_arg0)) _ ?_ ?_
  all_goals blk_simp [idx0]
  all_goals simp

theorem at_w (t : Fin cfg0.N) (y : S1024x1024.Idx) :
    iblk m c 1 t y = at2 (m ((c : Thread nD τ).loc main_arg1)) (y 0).val (y 1).val := by
  refine at2_of (n0 := 1024) (n1 := 1024) (m ((c : Thread nD τ).loc main_arg1)) _ ?_ ?_
  all_goals blk_simp [idx1]
  all_goals simp

theorem pay (a : Vec Ideal S1024x1024 .f32) (b : Vec Ideal S1024x1024 .bf16) (y : S1024x1024.Idx) :
    k0_pay1 a b y = ∑ k : Fin 1024, a (ix2 (y 0) k) * b (ix2 k (y 1)) := by
  unfold k0_pay1
  pointwise

/-- The array the call leaves is the product. -/
theorem final : (dats m 0 c).arrAt 2 cfg0.N = nn (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold nn
  blk_simp [idx2]
  refine sum_fin _ fun k => ?_
  rw [at_x, at_w]
  rfl

theorem ref (a : Vec Ideal S8192x1024 .f32) (b : Vec Ideal S1024x1024 .bf16) : Cert.ProjAttnRefIdeal.Read.val_main_v1 (F := Ideal) a b = nn a b := by
  funext i
  rw [Cert.ProjAttnRefIdeal.Read.val_main_v1_apply]
  refine sum_fin _ fun k => ?_
  exact congrArg₂ (· * ·) (at2_of a _ rfl rfl) (at2_of b _ rfl rfl)

theorem alg : Cert.algebraic_ProjAttnIdeal_ProjAttnRefIdeal := fun m g m' g' _ hm =>
  ⟨fun c => nn (m ((c : Thread nD τ).loc main_arg0)) (m ((c : Thread nD τ).loc main_arg1)),
    (θ_run defs _ _).mono (fun _ h c => ⟨(h c).1.trans (final m c), (h c).2⟩) (Value.run_blocks m g),
    (θ_run Cert.ProjAttnRefIdeal.defs _ _).mono (fun _ h c => ⟨(h c).1.trans ((ref _ _).trans (congrArg₂ nn (hm c).1 (hm c).2)), (h c).2⟩)
      (Cert.ProjAttnRefIdeal.Value.run (F := Ideal) m' g')⟩

theorem frame_p : Cert.quiescent_ProjAttn := fun m g _ => Cert.ProjAttn.Gen.frame m g
theorem frame_pi : Cert.quiescent_ProjAttnIdeal := fun m g _ => Gen.frame m g
theorem frame_ri : Cert.quiescent_ProjAttnRefIdeal := fun m g _ =>
  (θ_run Cert.ProjAttnRefIdeal.defs _ _).mono (fun r h => ⟨fun c => (h c).2, sem_eq_zero_of_no_sems (by decide) r.2⟩)
    (Cert.ProjAttnRefIdeal.Value.run (F := Ideal) m g)

end Cert.ProjAttnIdeal.Mm

end
-- ==== Proof.Mm.DwProjAttn.lean ====
/- The gradient of the attention's output projection: columns by columns over all tokens, eight k blocks into one accumulator. -/
module

public import proofs.«01_k».proof.Proof.Gen.DwProjAttnIdeal.Value
public import proofs.«01_k».proof.Proof.Gen.DwProjAttnRefIdeal.Run
public import proofs.«01_k».proof.Proof.Gen.DwProjAttnRefIdeal.Read
public import proofs.«01_k».proof.Proof.Gen.DwProjAttn.Frame
public import proofs.«01_k».proof.Proof.Mm.Base
public import proofs.«01_k».proof.Defs
public import Idealize.ShloMosaic.Adequacy
public import Idealize.ShloMosaic.Lib.Pipeline.ReadBack

@[expose] public section

set_option maxRecDepth 16384

noncomputable section

namespace Cert.DwProjAttnIdeal.Mm

open Cert.DwProjAttnIdeal Cert.DwProjAttnIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val % 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![0, 0] := (by decide +kernel : ∀ t : Fin grid0.N, _)

theorem at_x (t : Fin cfg0.N) (y : S1024x1024.Idx) :
    iblk m c 0 t y = at2 (m ((c : Thread nD τ).loc main_arg0)) (t.val % 8 * 1024 + (y 0).val) (y 1).val := by
  refine at2_of (n0 := 8192) (n1 := 1024) (m ((c : Thread nD τ).loc main_arg0)) _ ?_ ?_
  all_goals blk_simp [idx0]
  all_goals simp

theorem at_ct (t : Fin cfg0.N) (y : S1024x1024.Idx) :
    iblk m c 1 t y = at2 (m ((c : Thread nD τ).loc main_arg1)) (t.val % 8 * 1024 + (y 0).val) (y 1).val := by
  refine at2_of (n0 := 8192) (n1 := 1024) (m ((c : Thread nD τ).loc main_arg1)) _ ?_ ?_
  all_goals blk_simp [idx1]
  all_goals simp

theorem zero (y : S1024x1024.Idx) : k0_pay1 (F := Ideal) y = 0 := by
  unfold k0_pay1
  pointwise

theorem pay (z : Vec Ideal S1024x1024 .f32) (a : Vec Ideal S1024x1024 .f32) (b : Vec Ideal S1024x1024 .bf16) (y : S1024x1024.Idx) :
    k0_pay2 z a b y = z y + ∑ k : Fin 1024, a (ix2 k (y 0)) * b (ix2 k (y 1)) := by
  unfold k0_pay2
  pointwise

/-- The product of token `k` that goes to an entry. -/
def term (i : S1024x1024.Idx) (k : ℕ) : EReal :=
  at2 (m ((c : Thread nD τ).loc main_arg0)) k (i 0).val * at2 (m ((c : Thread nD τ).loc main_arg1)) k (i 1).val

theorem step (z : Vec Ideal S1024x1024 .f32) (t : Fin cfg0.N) (y : S1024x1024.Idx) :
    k0_pay2 z (iblk m c 0 t) (iblk m c 1 t) y = z y + ∑ b ∈ Finset.range 1024, term m c y (t.val % 8 * 1024 + b) := by
  rw [pay]
  refine congrArg (z y + ·) (sum_fin _ fun k => ?_)
  rw [at_x, at_ct]
  rfl

/-- The accumulator after point `t`. -/
theorem acc (t : Fin cfg0.N) {r : ℕ} (hr : t.val % 8 = r) (y : S1024x1024.Idx) :
    (outsAt0 m c t.val t.isLt).2 y = ∑ k ∈ Finset.range ((r + 1) * 1024), term m c y k := by
  refine acc_eq (fun n h => (outsAt0 m c n h).2) 8 1024 (fun _ => term m c) (fun t h y => ?_) (fun t h y => ?_) t hr y
  · rw [outsAt0_A m c t h (by omega)]
    frame_out
    rw [step, zero, zero_add]
  · by_cases h7 : t.val % 8 = 7
    · rw [outsAt0_C m c t h h7]
      frame_out
      rw [step]
      simp only [read_unread_whole]
    · rw [outsAt0_B m c t h h7]
      frame_out
      rw [step]
      simp only [read_unread_whole]

theorem out (t : Fin cfg0.N) (h : t.val % 8 = 7) : (outsAt0 m c t.val t.isLt).1 = (outsAt0 m c t.val t.isLt).2 := by
  rw [outsAt0_C m c t (by omega) h]
  funext y
  frame_out

theorem final : (dats m 0 c).arrAt 2 cfg0.N = tn (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, out m c t h7, acc m c t h7]
  unfold tn term
  blk_simp [idx2]

theorem ref (a : Vec Ideal S8192x1024 .f32) (b : Vec Ideal S8192x1024 .bf16) : Cert.DwProjAttnRefIdeal.Read.val_main_v4 (F := Ideal) a b = tn a b := by
  funext i
  rw [Cert.DwProjAttnRefIdeal.Read.val_main_v4_apply, Cert.DwProjAttnRefIdeal.Read.val_main_v3_apply]
  refine sum_fin _ fun k => ?_
  exact (mul_comm _ _).trans (congrArg₂ (· * ·) (at2_of a _ rfl rfl) (at2_of b _ rfl rfl))

theorem alg : Cert.algebraic_DwProjAttnIdeal_DwProjAttnRefIdeal := fun m g m' g' _ hm =>
  ⟨fun c => tn (m ((c : Thread nD τ).loc main_arg0)) (m ((c : Thread nD τ).loc main_arg1)),
    (θ_run defs _ _).mono (fun _ h c => ⟨(h c).1.trans (final m c), (h c).2⟩) (Value.run_blocks m g),
    (θ_run Cert.DwProjAttnRefIdeal.defs _ _).mono (fun _ h c => ⟨(h c).1.trans ((ref _ _).trans (congrArg₂ tn (hm c).1 (hm c).2)), (h c).2⟩)
      (Cert.DwProjAttnRefIdeal.Value.run (F := Ideal) m' g')⟩

theorem frame_p : Cert.quiescent_DwProjAttn := fun m g _ => Cert.DwProjAttn.Gen.frame m g
theorem frame_pi : Cert.quiescent_DwProjAttnIdeal := fun m g _ => Gen.frame m g
theorem frame_ri : Cert.quiescent_DwProjAttnRefIdeal := fun m g _ =>
  (θ_run Cert.DwProjAttnRefIdeal.defs _ _).mono (fun r h => ⟨fun c => (h c).2, sem_eq_zero_of_no_sems (by decide) r.2⟩)
    (Cert.DwProjAttnRefIdeal.Value.run (F := Ideal) m g)

end Cert.DwProjAttnIdeal.Mm

end
-- ==== Proof.Mm.InFl.lean ====
/- The forget gate's logits, one lane tile of columns, a block of 1024 tokens a grid point. -/
module

public import proofs.«01_k».proof.Proof.Gen.InFlIdeal.Value
public import proofs.«01_k».proof.Proof.Gen.InFlRefIdeal.Run
public import proofs.«01_k».proof.Proof.Gen.InFlRefIdeal.Read
public import proofs.«01_k».proof.Proof.Mm.Base
public import proofs.«01_k».proof.Proof.Gen.InFl.Frame
public import proofs.«01_k».proof.Defs
public import Idealize.ShloMosaic.Adequacy

@[expose] public section

set_option maxRecDepth 16384

noncomputable section

namespace Cert.InFlIdeal.Mm

open Cert.InFlIdeal Cert.InFlIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem at_x (t : Fin cfg0.N) (y : S1024x1024.Idx) :
    iblk m c 0 t y = at2 (m ((c : Thread nD τ).loc main_arg0)) (t.val * 1024 + (y 0).val) (y 1).val := by
  refine at2_of (n0 := 8192) (n1 := 1024) (m ((c : Thread nD τ).loc main_arg0)) _ ?_ ?_
  all_goals blk_simp [idx0]
  all_goals simp

theorem at_w (t : Fin cfg0.N) (y : S1024x128.Idx) :
    iblk m c 1 t y = at2 (m ((c : Thread nD τ).loc main_arg1)) (y 0).val (y 1).val := by
  refine at2_of (n0 := 1024) (n1 := 128) (m ((c : Thread nD τ).loc main_arg1)) _ ?_ ?_
  all_goals blk_simp [idx1]
  all_goals simp

theorem pay (a : Vec Ideal S1024x1024 .bf16) (b : Vec Ideal S1024x128 .bf16) (y : S1024x128.Idx) :
    k0_pay1 a b y = ∑ k : Fin 1024, a (ix2 (y 0) k) * b (ix2 k (y 1)) := by
  unfold k0_pay1
  pointwise

/-- The array the call leaves is the product. -/
theorem final : (dats m 0 c).arrAt 2 cfg0.N = nn (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold nn
  blk_simp [idx2]
  refine sum_fin _ fun k => ?_
  rw [at_x, at_w]
  rfl

theorem ref (a : Vec Ideal S8192x1024 .bf16) (b : Vec Ideal S1024x128 .bf16) : Cert.InFlRefIdeal.Read.val_main_v2 (F := Ideal) a b = nn a b := by
  funext i
  rw [Cert.InFlRefIdeal.Read.val_main_v2_apply]
  refine sum_fin _ fun k => ?_
  exact congrArg₂ (· * ·) (at2_of a _ rfl rfl) (at2_of b _ rfl rfl)

theorem alg : Cert.algebraic_InFlIdeal_InFlRefIdeal := fun m g m' g' _ hm =>
  ⟨fun c => nn (m ((c : Thread nD τ).loc main_arg0)) (m ((c : Thread nD τ).loc main_arg1)),
    (θ_run defs _ _).mono (fun _ h c => ⟨(h c).1.trans (final m c), (h c).2⟩) (Value.run_blocks m g),
    (θ_run Cert.InFlRefIdeal.defs _ _).mono (fun _ h c => ⟨(h c).1.trans ((ref _ _).trans (congrArg₂ nn (hm c).1 (hm c).2)), (h c).2⟩)
      (Cert.InFlRefIdeal.Value.run (F := Ideal) m' g')⟩

theorem frame_p : Cert.quiescent_InFl := fun m g _ => Cert.InFl.Gen.frame m g
theorem frame_pi : Cert.quiescent_InFlIdeal := fun m g _ => Gen.frame m g
theorem frame_ri : Cert.quiescent_InFlRefIdeal := fun m g _ =>
  (θ_run Cert.InFlRefIdeal.defs _ _).mono (fun r h => ⟨fun c => (h c).2, sem_eq_zero_of_no_sems (by decide) r.2⟩)
    (Cert.InFlRefIdeal.Value.run (F := Ideal) m g)

end Cert.InFlIdeal.Mm

end
-- ==== Proof.Mm.DwInFl.lean ====
/- The gradient of the forget gate's weight: columns by columns over all tokens, eight k blocks into one accumulator. -/
module

public import proofs.«01_k».proof.Proof.Gen.DwInFlIdeal.Value
public import proofs.«01_k».proof.Proof.Gen.DwInFlRefIdeal.Run
public import proofs.«01_k».proof.Proof.Gen.DwInFlRefIdeal.Read
public import proofs.«01_k».proof.Proof.Gen.DwInFl.Frame
public import proofs.«01_k».proof.Proof.Mm.Base
public import proofs.«01_k».proof.Defs
public import Idealize.ShloMosaic.Adequacy
public import Idealize.ShloMosaic.Lib.Pipeline.ReadBack

@[expose] public section

set_option maxRecDepth 16384

noncomputable section

namespace Cert.DwInFlIdeal.Mm

open Cert.DwInFlIdeal Cert.DwInFlIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val % 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![0, 0] := (by decide +kernel : ∀ t : Fin grid0.N, _)

theorem at_x (t : Fin cfg0.N) (y : S1024x1024.Idx) :
    iblk m c 0 t y = at2 (m ((c : Thread nD τ).loc main_arg0)) (t.val % 8 * 1024 + (y 0).val) (y 1).val := by
  refine at2_of (n0 := 8192) (n1 := 1024) (m ((c : Thread nD τ).loc main_arg0)) _ ?_ ?_
  all_goals blk_simp [idx0]
  all_goals simp

theorem at_ct (t : Fin cfg0.N) (y : S1024x128.Idx) :
    iblk m c 1 t y = at2 (m ((c : Thread nD τ).loc main_arg1)) (t.val % 8 * 1024 + (y 0).val) (y 1).val := by
  refine at2_of (n0 := 8192) (n1 := 128) (m ((c : Thread nD τ).loc main_arg1)) _ ?_ ?_
  all_goals blk_simp [idx1]
  all_goals simp

theorem zero (y : S1024x128.Idx) : k0_pay1 (F := Ideal) y = 0 := by
  unfold k0_pay1
  pointwise

theorem pay (z : Vec Ideal S1024x128 .f32) (a : Vec Ideal S1024x1024 .bf16) (b : Vec Ideal S1024x128 .bf16) (y : S1024x128.Idx) :
    k0_pay2 z a b y = z y + ∑ k : Fin 1024, a (ix2 k (y 0)) * b (ix2 k (y 1)) := by
  unfold k0_pay2
  pointwise

/-- The product of token `k` that goes to an entry. -/
def term (i : S1024x128.Idx) (k : ℕ) : EReal :=
  at2 (m ((c : Thread nD τ).loc main_arg0)) k (i 0).val * at2 (m ((c : Thread nD τ).loc main_arg1)) k (i 1).val

theorem step (z : Vec Ideal S1024x128 .f32) (t : Fin cfg0.N) (y : S1024x128.Idx) :
    k0_pay2 z (iblk m c 0 t) (iblk m c 1 t) y = z y + ∑ b ∈ Finset.range 1024, term m c y (t.val % 8 * 1024 + b) := by
  rw [pay]
  refine congrArg (z y + ·) (sum_fin _ fun k => ?_)
  rw [at_x, at_ct]
  rfl

/-- The accumulator after point `t`. -/
theorem acc (t : Fin cfg0.N) {r : ℕ} (hr : t.val % 8 = r) (y : S1024x128.Idx) :
    (outsAt0 m c t.val t.isLt).2 y = ∑ k ∈ Finset.range ((r + 1) * 1024), term m c y k := by
  refine acc_eq (fun n h => (outsAt0 m c n h).2) 8 1024 (fun _ => term m c) (fun t h y => ?_) (fun t h y => ?_) t hr y
  · rw [outsAt0_A m c t h (by omega)]
    frame_out
    rw [step, zero, zero_add]
  · by_cases h7 : t.val % 8 = 7
    · rw [outsAt0_C m c t h h7]
      frame_out
      rw [step]
      simp only [read_unread_whole]
    · rw [outsAt0_B m c t h h7]
      frame_out
      rw [step]
      simp only [read_unread_whole]

theorem out (t : Fin cfg0.N) (h : t.val % 8 = 7) : (outsAt0 m c t.val t.isLt).1 = (outsAt0 m c t.val t.isLt).2 := by
  rw [outsAt0_C m c t (by omega) h]
  funext y
  frame_out

theorem final : (dats m 0 c).arrAt 2 cfg0.N = tn (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, out m c t h7, acc m c t h7]
  unfold tn term
  blk_simp [idx2]

theorem ref (a : Vec Ideal S8192x1024 .bf16) (b : Vec Ideal S8192x128 .bf16) : Cert.DwInFlRefIdeal.Read.val_main_v5 (F := Ideal) a b = tn a b := by
  funext i
  rw [Cert.DwInFlRefIdeal.Read.val_main_v5_apply, Cert.DwInFlRefIdeal.Read.val_main_v4_apply]
  refine sum_fin _ fun k => ?_
  exact (mul_comm _ _).trans (congrArg₂ (· * ·) (at2_of a _ rfl rfl) (at2_of b _ rfl rfl))

theorem alg : Cert.algebraic_DwInFlIdeal_DwInFlRefIdeal := fun m g m' g' _ hm =>
  ⟨fun c => tn (m ((c : Thread nD τ).loc main_arg0)) (m ((c : Thread nD τ).loc main_arg1)),
    (θ_run defs _ _).mono (fun _ h c => ⟨(h c).1.trans (final m c), (h c).2⟩) (Value.run_blocks m g),
    (θ_run Cert.DwInFlRefIdeal.defs _ _).mono (fun _ h c => ⟨(h c).1.trans ((ref _ _).trans (congrArg₂ tn (hm c).1 (hm c).2)), (h c).2⟩)
      (Cert.DwInFlRefIdeal.Value.run (F := Ideal) m' g')⟩

theorem frame_p : Cert.quiescent_DwInFl := fun m g _ => Cert.DwInFl.Gen.frame m g
theorem frame_pi : Cert.quiescent_DwInFlIdeal := fun m g _ => Gen.frame m g
theorem frame_ri : Cert.quiescent_DwInFlRefIdeal := fun m g _ =>
  (θ_run Cert.DwInFlRefIdeal.defs _ _).mono (fun r h => ⟨fun c => (h c).2, sem_eq_zero_of_no_sems (by decide) r.2⟩)
    (Cert.DwInFlRefIdeal.Value.run (F := Ideal) m g)

end Cert.DwInFlIdeal.Mm

end
-- ==== Proof.Mm.DH1Fl.lean ====
/- The forget gate's part of the gradient of its input, a block of 1024 tokens a grid point. -/
module

public import proofs.«01_k».proof.Proof.Gen.DH1FlIdeal.Value
public import proofs.«01_k».proof.Proof.Gen.DH1FlRefIdeal.Run
public import proofs.«01_k».proof.Proof.Gen.DH1FlRefIdeal.Read
public import proofs.«01_k».proof.Proof.Mm.Base
public import proofs.«01_k».proof.Proof.Gen.DH1Fl.Frame
public import proofs.«01_k».proof.Defs
public import Idealize.ShloMosaic.Adequacy

@[expose] public section

set_option maxRecDepth 16384

noncomputable section

namespace Cert.DH1FlIdeal.Mm

open Cert.DH1FlIdeal Cert.DH1FlIdeal.Gen Idealize.ShloMosaic Idealize.ShloMosaic.TcCoe Idealize.SL.Sem Cert.Mm

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem at_x (t : Fin cfg0.N) (y : S1024x128.Idx) :
    iblk m c 0 t y = at2 (m ((c : Thread nD τ).loc main_arg0)) (t.val * 1024 + (y 0).val) (y 1).val := by
  refine at2_of (n0 := 8192) (n1 := 128) (m ((c : Thread nD τ).loc main_arg0)) _ ?_ ?_
  all_goals blk_simp [idx0]
  all_goals simp

theorem at_w (t : Fin cfg0.N) (y : S1024x128.Idx) :
    iblk m c 1 t y = at2 (m ((c : Thread nD τ).loc main_arg1)) (y 0).val (y 1).val := by
  refine at2_of (n0 := 1024) (n1 := 128) (m ((c : Thread nD τ).loc main_arg1)) _ ?_ ?_
  all_goals blk_simp [idx1]
  all_goals simp

theorem pay (a : Vec Ideal S1024x128 .bf16) (b : Vec Ideal S1024x128 .bf16) (y : S1024x1024.Idx) :
    k0_pay1 a b y = ∑ k : Fin 128, a (ix2 (y 0) k) * b (ix2 (y 1) k) := by
  unfold k0_pay1
  pointwise

/-- The array the call leaves is the product of the rows. -/
theorem final : (dats m 0 c).arrAt 2 cfg0.N = nt (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold nt
  blk_simp [idx2]
  refine sum_fin _ fun k => ?_
  rw [at_x, at_w]
  rfl

theorem ref (a : Vec Ideal S8192x128 .bf16) (b : Vec Ideal S1024x128 .bf16) : Cert.DH1FlRefIdeal.Read.val_main_v4 (F := Ideal) a b = nt a b := by
  funext i
  rw [Cert.DH1FlRefIdeal.Read.val_main_v4_apply]
  refine sum_fin _ fun k => ?_
  exact congrArg₂ (· * ·) (at2_of a _ rfl rfl) (at2_of b _ rfl rfl)

theorem alg : Cert.algebraic_DH1FlIdeal_DH1FlRefIdeal := fun m g m' g' _ hm =>
  ⟨fun c => nt (m ((c : Thread nD τ).loc main_arg0)) (m ((c : Thread nD τ).loc main_arg1)),
    (θ_run defs _ _).mono (fun _ h c => ⟨(h c).1.trans (final m c), (h c).2⟩) (Value.run_blocks m g),
    (θ_run Cert.DH1FlRefIdeal.defs _ _).mono (fun _ h c => ⟨(h c).1.trans ((ref _ _).trans (congrArg₂ nt (hm c).1 (hm c).2)), (h c).2⟩)
      (Cert.DH1FlRefIdeal.Value.run (F := Ideal) m' g')⟩

theorem frame_p : Cert.quiescent_DH1Fl := fun m g _ => Cert.DH1Fl.Gen.frame m g
theorem frame_pi : Cert.quiescent_DH1FlIdeal := fun m g _ => Gen.frame m g
theorem frame_ri : Cert.quiescent_DH1FlRefIdeal := fun m g _ =>
  (θ_run Cert.DH1FlRefIdeal.defs _ _).mono (fun r h => ⟨fun c => (h c).2, sem_eq_zero_of_no_sems (by decide) r.2⟩)
    (Cert.DH1FlRefIdeal.Value.run (F := Ideal) m g)

end Cert.DH1FlIdeal.Mm

end
-- ==== Proof.Ew.Base.lean ====
/- The gate of the merge and its slope on the extended reals: half of the hyperbolic tangent of half an argument, plus a half,
   is the logistic function; and a row of two arrays joined on the last axis. -/
module

public import proofs.«01_k».proof.Proof.Mm.Base
public import Idealize.ShloMosaic.Lib.Pipeline.Value

@[expose] public section

noncomputable section

namespace Cert.Ew

open Idealize.ShloMosaic Cert.Mm

theorem half : Ideal.ofBits .f32 0x3F000000#32 = ((1 / 2 : ℝ) : EReal) := by
  simp [Ideal.ofBits, Ideal.ieee, -EReal.coe_mul]
  norm_num

theorem tanh_half (r : ℝ) : 1 / 2 * Real.tanh (1 / 2 * r) + 1 / 2 = (1 + Real.exp (-r))⁻¹ := by
  have h : Real.exp (1 / 2 * r) ≠ 0 := (Real.exp_pos _).ne'
  have e : Real.exp (-r) = (Real.exp (1 / 2 * r))⁻¹ * (Real.exp (1 / 2 * r))⁻¹ := by
    rw [← Real.exp_neg, ← Real.exp_add]
    congr 1
    ring
  have p : 0 < Real.exp (1 / 2 * r) := Real.exp_pos _
  rw [Real.tanh_eq_sinh_div_cosh, Real.sinh_eq, Real.cosh_eq, e, Real.exp_neg]
  field_simp
  ring

/-- The gate by the hyperbolic tangent is the logistic function. -/
theorem gate (x : EReal) : Ideal.ofBits .f32 0x3F000000#32 * Ideal.tanh (Ideal.ofBits .f32 0x3F000000#32 * x) + Ideal.ofBits .f32 0x3F000000#32
    = Ideal.logistic x := by
  rw [half]
  induction x with
  | bot =>
    rw [EReal.coe_mul_bot_of_pos (by norm_num), Ideal.tanh_bot, Ideal.logistic_bot, show (-1 : EReal) = ((-1 : ℝ) : EReal) by rw [EReal.coe_neg, EReal.coe_one],
      ← EReal.coe_mul, ← EReal.coe_add]
    norm_num
  | coe r =>
    rw [← EReal.coe_mul, Ideal.tanh_coe, Ideal.logistic_coe, ← EReal.coe_mul, ← EReal.coe_add, tanh_half]
  | top =>
    rw [EReal.coe_mul_top_of_pos (by norm_num), Ideal.tanh_top, Ideal.logistic_top, mul_one, ← EReal.coe_add]
    norm_num

variable {n0 n1 n2 n3 : ℕ}

/-- Gate number `j` of a merge: the logistic function of half `j` of the gates' rows. -/
def gateOf (j : ℕ) (mg : (⟨3, ![n0, n1, n3]⟩ : Shape).Idx → EReal) (i : (⟨3, ![n0, n1, n2]⟩ : Shape).Idx) : EReal :=
  Ideal.logistic (at3 mg (i 0).val (i 1).val (j * n2 + (i 2).val))

/-- The gradient of branch `j`. -/
def dBranch (j : ℕ) (dm : (⟨3, ![n0, n1, n2]⟩ : Shape).Idx → EReal) (mg : (⟨3, ![n0, n1, n3]⟩ : Shape).Idx → EReal) :
    (⟨3, ![n0, n1, n2]⟩ : Shape).Idx → EReal := fun i =>
  gateOf j mg i * dm i

/-- The gradient of gate `j` before the logistic function, of branch `p`. -/
def dGate (j : ℕ) (dm : (⟨3, ![n0, n1, n2]⟩ : Shape).Idx → EReal) (mg : (⟨3, ![n0, n1, n3]⟩ : Shape).Idx → EReal)
    (p : (⟨3, ![n0, n1, n2]⟩ : Shape).Idx → EReal) : (⟨3, ![n0, n1, n2]⟩ : Shape).Idx → EReal := fun i =>
  dm i * p i * (gateOf j mg i * (1 - gateOf j mg i))

/-- The merge of two branches. -/
def merged (mg : (⟨3, ![n0, n1, n3]⟩ : Shape).Idx → EReal) (p q : (⟨3, ![n0, n1, n2]⟩ : Shape).Idx → EReal) :
    (⟨3, ![n0, n1, n2]⟩ : Shape).Idx → EReal := fun i =>
  gateOf 0 mg i * p i + gateOf 1 mg i * q i

end Cert.Ew

end
-- ==== Proof.Ew.MergeBwd.lean ====
/- The gradient of the merge: of both branches, and of both gates before the logistic function. -/
module

public import proofs.«01_k».proof.Proof.Gen.MergeBwdIdeal.Value
public import proofs.«01_k».proof.Proof.Gen.MergeBwdRefIdeal.Run
public import proofs.«01_k».proof.Proof.Gen.MergeBwdRefIdeal.Read
public import proofs.«01_k».proof.Proof.Gen.MergeBwd.Frame
public import proofs.«01_k».proof.Proof.Ew.Base
public import proofs.«01_k».proof.Defs
public import Idealize.ShloMosaic.Lib.IdealHost
public import Idealize.ShloMosaic.Adequacy

@[expose] public section

set_option maxRecDepth 16384

noncomputable section

namespace Cert.MergeBwdIdeal.Ew

open Cert.MergeBwdIdeal Cert.MergeBwdIdeal.Gen Idealize.ShloMosaic Idealize.ShloMosaic.TcCoe Idealize.SL.Sem Cert.Mm Cert.Ew

variable (m : (ℓ : Loc nD τ sig) → Buf (Elt Ideal) ℓ) (c : Dev nD)

theorem idx0 : ∀ t : Fin cfg0.N, win0_0.index t = ![t.val / 4, t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![t.val / 4, t.val % 4, 1] := (by decide +kernel : ∀ t : Fin grid0.N, _)
theorem idx3 : ∀ t : Fin cfg0.N, win0_3.index t = ![t.val / 4, t.val % 4, 0] := (by decide +kernel : ∀ t : Fin grid0.N, _)
theorem idx4 : ∀ t : Fin cfg0.N, win0_4.index t = ![t.val / 4, t.val % 4, 0] := (by decide +kernel : ∀ t : Fin grid0.N, _)
theorem idx5 : ∀ t : Fin cfg0.N, win0_5.index t = ![t.val / 4, t.val % 4, 0] := (by decide +kernel : ∀ t : Fin grid0.N, _)
theorem idx6 : ∀ t : Fin cfg0.N, win0_6.index t = ![t.val / 4, t.val % 4, 0] := (by decide +kernel : ∀ t : Fin grid0.N, _)
theorem idx7 : ∀ t : Fin cfg0.N, win0_7.index t = ![t.val / 4, t.val % 4, 0] := (by decide +kernel : ∀ t : Fin grid0.N, _)
theorem idx8 : ∀ t : Fin cfg0.N, win0_8.index t = ![t.val / 4, t.val % 4, 0] := (by decide +kernel : ∀ t : Fin grid0.N, _)

theorem at_dm (t : Fin cfg0.N) (y : S1x512x1024.Idx) :
    iblk m c 0 t y = at3 (m ((c : Thread nD τ).loc main_arg0)) (t.val / 4 + (y 0).val) (t.val % 4 * 512 + (y 1).val) (y 2).val := by
  refine at3_of (n0 := 4) (n1 := 2048) (n2 := 1024) (m ((c : Thread nD τ).loc main_arg0)) _ ?_ ?_ ?_
  all_goals blk_simp [idx0]
  all_goals simp

theorem at_mr (t : Fin cfg0.N) (y : S1x512x1024.Idx) :
    iblk m c 1 t y = at3 (m ((c : Thread nD τ).loc main_arg1)) (t.val / 4 + (y 0).val) (t.val % 4 * 512 + (y 1).val) (y 2).val := by
  refine at3_of (n0 := 4) (n1 := 2048) (n2 := 2048) (m ((c : Thread nD τ).loc main_arg1)) _ ?_ ?_ ?_
  all_goals blk_simp [idx1]
  all_goals simp

theorem at_ma (t : Fin cfg0.N) (y : S1x512x1024.Idx) :
    iblk m c 2 t y = at3 (m ((c : Thread nD τ).loc main_arg1)) (t.val / 4 + (y 0).val) (t.val % 4 * 512 + (y 1).val) (1024 + (y 2).val) := by
  refine at3_of (n0 := 4) (n1 := 2048) (n2 := 2048) (m ((c : Thread nD τ).loc main_arg1)) _ ?_ ?_ ?_
  all_goals blk_simp [idx2]
  all_goals simp

theorem at_pr (t : Fin cfg0.N) (y : S1x512x1024.Idx) :
    iblk m c 3 t y = at3 (m ((c : Thread nD τ).loc main_arg2)) (t.val / 4 + (y 0).val) (t.val % 4 * 512 + (y 1).val) (y 2).val := by
  refine at3_of (n0 := 4) (n1 := 2048) (n2 := 1024) (m ((c : Thread nD τ).loc main_arg2)) _ ?_ ?_ ?_
  all_goals blk_simp [idx3]
  all_goals simp

theorem at_pa (t : Fin cfg0.N) (y : S1x512x1024.Idx) :
    iblk m c 4 t y = at3 (m ((c : Thread nD τ).loc main_arg3)) (t.val / 4 + (y 0).val) (t.val % 4 * 512 + (y 1).val) (y 2).val := by
  refine at3_of (n0 := 4) (n1 := 2048) (n2 := 1024) (m ((c : Thread nD τ).loc main_arg3)) _ ?_ ?_ ?_
  all_goals blk_simp [idx4]
  all_goals simp

theorem pay_dm (v : Vec Ideal S1x512x1024 .f32) (y : S512x1024.Idx) : k0_pay3 v y = v (ix3 0 (y 0) (y 1)) := by
  unfold k0_pay3
  pointwise

theorem pay_p (v : Vec Ideal S1x512x1024 .f32) (y : S512x1024.Idx) : k0_pay8 v y = v (ix3 0 (y 0) (y 1)) := by
  unfold k0_pay8
  pointwise

theorem pay_gr (v : Vec Ideal S1x512x1024 .f32) (y : S512x1024.Idx) : k0_pay4 v y = Ideal.logistic (v (ix3 0 (y 0) (y 1))) := by
  rw [← gate]
  unfold k0_pay4
  pointwise

theorem pay_ga (v : Vec Ideal S1x512x1024 .f32) (y : S512x1024.Idx) : k0_pay5 v y = Ideal.logistic (v (ix3 0 (y 0) (y 1))) := by
  rw [← gate]
  unfold k0_pay5
  pointwise

theorem pay_dpr (a b : Vec Ideal S1x512x1024 .f32) (y : S1x512x1024.Idx) : k0_pay6 a b y
    = Ideal.logistic (b (ix3 0 (y 1) (y 2))) * a (ix3 0 (y 1) (y 2)) := by
  unfold k0_pay6
  pointwise [pay_gr, pay_dm]

theorem pay_dpa (a b : Vec Ideal S1x512x1024 .f32) (y : S1x512x1024.Idx) : k0_pay7 a b y
    = Ideal.logistic (b (ix3 0 (y 1) (y 2))) * a (ix3 0 (y 1) (y 2)) := by
  unfold k0_pay7
  pointwise [pay_ga, pay_dm]

theorem pay_dm' (a b d e f : Vec Ideal S1x512x1024 .f32) : k0_pay9 a b d e f = k0_pay3 a := by
  unfold k0_pay9
  frame_out

theorem pay_dmr (a b : Vec Ideal S1x512x1024 .f32) (p : Vec Ideal S1x512x1024 .f32) (y : S1x512x1024.Idx) :
    k0_pay1 (k0_pay3 a) (k0_pay4 b) (k0_pay8 p) y = a (ix3 0 (y 1) (y 2)) * p (ix3 0 (y 1) (y 2)) * Ideal.logistic (b (ix3 0 (y 1) (y 2)))
      * (1 - Ideal.logistic (b (ix3 0 (y 1) (y 2)))) := by
  unfold k0_pay1
  pointwise [pay_gr, pay_dm, pay_p, Ideal.ofBits_one_f32]

theorem pay_dma (a b : Vec Ideal S1x512x1024 .f32) (p : Vec Ideal S1x512x1024 .f32) (y : S1x512x1024.Idx) :
    k0_pay2 (k0_pay3 a) (k0_pay5 b) p y = a (ix3 0 (y 1) (y 2)) * p y * Ideal.logistic (b (ix3 0 (y 1) (y 2)))
      * (1 - Ideal.logistic (b (ix3 0 (y 1) (y 2)))) := by
  unfold k0_pay2
  pointwise [pay_ga, pay_dm, Ideal.ofBits_one_f32]

theorem final5 : (dats m 0 c).arrAt 5 cfg0.N = dBranch 0 (m ((c : Thread nD τ).loc main_arg0)) (m ((c : Thread nD τ).loc main_arg1)) := by
  refine (dats m 0 c).arrAt_eq_of_covers 5 _ (by decide +kernel) fun t hf y => ?_
  blk_simp
  rw [after0_5]
  frame_out
  rw [pay_dpr, at_dm, at_mr]
  unfold dBranch gateOf
  rw [at3_of (m ((c : Thread nD τ).loc main_arg0)) _ rfl rfl rfl]
  blk_simp [idx5]
  simp

theorem final6 : (dats m 0 c).arrAt 6 cfg0.N = dBranch 1 (m ((c : Thread nD τ).loc main_arg0)) (m ((c : Thread nD τ).loc main_arg1)) := by
  refine (dats m 0 c).arrAt_eq_of_covers 6 _ (by decide +kernel) fun t hf y => ?_
  blk_simp
  rw [after0_6]
  frame_out
  rw [pay_dpa, at_dm, at_ma]
  unfold dBranch gateOf
  rw [at3_of (m ((c : Thread nD τ).loc main_arg0)) _ rfl rfl rfl]
  blk_simp [idx6]
  simp

theorem final7 : (dats m 0 c).arrAt 7 cfg0.N
    = dGate 0 (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  frame_out
  rw [pay_dm', pay_dmr, at_dm, at_mr, at_pr]
  unfold dGate gateOf
  rw [at3_of (m ((c : Thread nD τ).loc main_arg0)) _ rfl rfl rfl, at3_of (m ((c : Thread nD τ).loc main_arg2)) _ rfl rfl rfl]
  blk_simp [idx7]
  simp [mul_assoc]

theorem final8 : (dats m 0 c).arrAt 8 cfg0.N
    = dGate 1 (m ((c : Thread nD τ).loc main_arg0)) (m ((c : Thread nD τ).loc main_arg1)) (m ((c : Thread nD τ).loc main_arg3)) := by
  refine (dats m 0 c).arrAt_eq_of_covers 8 _ (by decide +kernel) fun t hf y => ?_
  blk_simp
  rw [after0_8]
  frame_out
  rw [pay_dm', pay_dma, at_dm, at_ma, at_pa]
  unfold dGate gateOf
  rw [at3_of (m ((c : Thread nD τ).loc main_arg0)) _ rfl rfl rfl, at3_of (m ((c : Thread nD τ).loc main_arg3)) _ rfl rfl rfl]
  blk_simp [idx8]
  simp [mul_assoc]

section
open Cert.MergeBwdRefIdeal.Read

/-- The reference's logistic function of the gates. -/
theorem ref_gate (mg : Vec Ideal S4x2048x2048 .f32) (i : S4x2048x2048.Idx) : val_main_v5 (F := Ideal) mg i = Ideal.logistic (mg i) := by
  rw [val_main_v5_apply, val_main_v4_apply, val_main_v3_apply, val_main_v2_apply, val_main_v1_apply, val_main_v0_apply, val_main_cst_apply,
    val_main_cst_0_apply, Ideal.ofBits_def, Ideal.ofBits_one_f32]
  rfl

theorem ref_slope (mg : Vec Ideal S4x2048x2048 .f32) (i : S4x2048x2048.Idx) : val_main_v8 (F := Ideal) mg i
    = Ideal.logistic (mg i) * (1 - Ideal.logistic (mg i)) := by
  rw [val_main_v8_apply, val_main_v7_apply, val_main_v6_apply, val_main_cst_1_apply, Ideal.ofBits_def, Ideal.ofBits_one_f32, ref_gate]
  rfl

theorem gate_0 (mg : Vec Ideal S4x2048x2048 .f32) (i : S4x2048x1024.Idx) : Ideal.logistic (mg (idx_main_v9 i)) = gateOf 0 mg i :=
  congrArg Ideal.logistic (at3_of mg _ rfl rfl (by simp))

theorem gate_1 (mg : Vec Ideal S4x2048x2048 .f32) (i : S4x2048x1024.Idx) : Ideal.logistic (mg (idx_main_v10 i)) = gateOf 1 mg i :=
  congrArg Ideal.logistic (at3_of mg _ rfl rfl (by simp))

theorem ref_dm (dm : Vec Ideal S4x2048x1024 .f32) : val_main_v14 (F := Ideal) dm = dm := shapeCast_self dm _
theorem ref_dm' (dm : Vec Ideal S4x2048x1024 .f32) : val_main_v15 (F := Ideal) dm = dm := shapeCast_self dm _

theorem ref5 (dm : Vec Ideal S4x2048x1024 .f32) (mg : Vec Ideal S4x2048x2048 .f32) : val_main_v24 (F := Ideal) dm mg = dBranch 0 dm mg := by
  funext i
  rw [val_main_v24_apply, Ideal.truncf_def, val_main_v18_apply, val_main_v9_apply, ref_gate, gate_0, ref_dm]
  rfl

theorem ref6 (dm : Vec Ideal S4x2048x1024 .f32) (mg : Vec Ideal S4x2048x2048 .f32) : val_main_v25 (F := Ideal) dm mg = dBranch 1 dm mg := by
  funext i
  rw [val_main_v25_apply, Ideal.truncf_def, val_main_v16_apply, val_main_v10_apply, ref_gate, gate_1, ref_dm']
  rfl

theorem ref7 (dm : Vec Ideal S4x2048x1024 .f32) (mg : Vec Ideal S4x2048x2048 .f32) (p q : Vec Ideal S4x2048x1024 .f32) :
    val_main_v26 (F := Ideal) dm mg p q = dGate 0 dm mg p := by
  funext i
  rw [val_main_v26_apply, Ideal.truncf_def, val_main_v22_apply, val_main_v21_apply, ref_slope,
    show idx_main_v22 i = idx_main_v9 i from rfl, gate_0]
  unfold val_main_v20
  rw [concatenate_pair_apply_left (t := S4x2048x2048) (s₁ := S4x2048x1024) (s₂ := S4x2048x1024) 2 _ _ _ _ rfl i (fun b => by match b with | ⟨0, _⟩ => rfl | ⟨1, _⟩ => rfl | ⟨2, _⟩ => rfl),
    val_main_v19_apply, ref_dm]
  rfl

theorem ref8 (dm : Vec Ideal S4x2048x1024 .f32) (mg : Vec Ideal S4x2048x2048 .f32) (p q : Vec Ideal S4x2048x1024 .f32) :
    val_main_v27 (F := Ideal) dm mg p q = dGate 1 dm mg q := by
  funext i
  rw [val_main_v27_apply, Ideal.truncf_def, val_main_v23_apply, val_main_v21_apply, ref_slope,
    show idx_main_v23 i = idx_main_v10 i from rfl, gate_1]
  unfold val_main_v20
  rw [concatenate_pair_apply_right (t := S4x2048x2048) (s₁ := S4x2048x1024) (s₂ := S4x2048x1024) 2 _ _ _ _ rfl rfl i (fun b hb => by
      match b with
      | ⟨0, _⟩ => rfl
      | ⟨1, _⟩ => rfl
      | ⟨2, _⟩ => exact absurd rfl hb) (Nat.add_comm _ _), val_main_v17_apply, ref_dm']
  rfl

end

theorem alg : Cert.algebraic_MergeBwdIdeal_MergeBwdRefIdeal := fun m g m' g' _ hm =>
  ⟨fun c => dBranch 0 (m ((c : Thread nD τ).loc main_arg0)) (m ((c : Thread nD τ).loc main_arg1)),
    fun c => dBranch 1 (m ((c : Thread nD τ).loc main_arg0)) (m ((c : Thread nD τ).loc main_arg1)),
    fun c => dGate 0 (m ((c : Thread nD τ).loc main_arg0)) (m ((c : Thread nD τ).loc main_arg1)) (m ((c : Thread nD τ).loc main_arg2)),
    fun c => dGate 1 (m ((c : Thread nD τ).loc main_arg0)) (m ((c : Thread nD τ).loc main_arg1)) (m ((c : Thread nD τ).loc main_arg3)),
    (θ_run defs _ _).mono (fun _ h c => by
      obtain ⟨r0, r1, r2, r3, ra⟩ := h c
      exact ⟨r0.trans (final5 m c), r1.trans (final6 m c), r2.trans (final7 m c), r3.trans (final8 m c), ra⟩) (Value.run_blocks m g),
    (θ_run Cert.MergeBwdRefIdeal.defs _ _).mono (fun _ h c => by
      obtain ⟨e0, e1, e2, e3⟩ := hm c
      obtain ⟨r0, r1, r2, r3, ra⟩ := h c
      beta_reduce
      rw [← e0, ← e1, ← e2, ← e3]
      exact ⟨r0.trans (ref5 _ _), r1.trans (ref6 _ _), r2.trans (ref7 _ _ _ _), r3.trans (ref8 _ _ _ _), ra⟩)
      (Cert.MergeBwdRefIdeal.Value.run (F := Ideal) m' g')⟩

theorem frame_p : Cert.quiescent_MergeBwd := fun m g _ => Cert.MergeBwd.Gen.frame m g
theorem frame_pi : Cert.quiescent_MergeBwdIdeal := fun m g _ => Gen.frame m g
theorem frame_ri : Cert.quiescent_MergeBwdRefIdeal := fun m g _ =>
  (θ_run Cert.MergeBwdRefIdeal.defs _ _).mono (fun r h => ⟨fun c => (h c).2.2.2.2, sem_eq_zero_of_no_sems (by decide) r.2⟩)
    (Cert.MergeBwdRefIdeal.Value.run (F := Ideal) m g)

end Cert.MergeBwdIdeal.Ew

end
-- ==== Proof.Ew.MergeFwd.lean ====
/- The merge of the two branches, each by its gate. -/
module

public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.Gen.MergeFwd.Frame
public import proofs.«01_k».proof.Proof.Ew.Base
public import proofs.«01_k».proof.Defs
public import Idealize.ShloMosaic.Lib.IdealHost
public import Idealize.ShloMosaic.Adequacy

@[expose] public section

set_option maxRecDepth 16384

noncomputable section

namespace Cert.MergeFwdIdeal.Ew

open Cert.MergeFwdIdeal Cert.MergeFwdIdeal.Gen Idealize.ShloMosaic Idealize.ShloMosaic.TcCoe Idealize.SL.Sem Cert.Mm Cert.Ew

variable (m : (ℓ : Loc nD τ sig) → Buf (Elt Ideal) ℓ) (c : Dev nD)

theorem idx0 : ∀ t : Fin cfg0.N, win0_0.index t = ![t.val / 4, t.val % 4, 0] := (by decide +kernel : ∀ t : Fin grid0.N, _)
theorem idx1 : ∀ t : Fin cfg0.N, win0_1.index t = ![t.val / 4, t.val % 4, 1] := (by decide +kernel : ∀ t : Fin grid0.N, _)
theorem idx2 : ∀ t : Fin cfg0.N, win0_2.index t = ![t.val / 4, t.val % 4, 0] := (by decide +kernel : ∀ t : Fin grid0.N, _)
theorem idx3 : ∀ t : Fin cfg0.N, win0_3.index t = ![t.val / 4, t.val % 4, 0] := (by decide +kernel : ∀ t : Fin grid0.N, _)
theorem idx4 : ∀ t : Fin cfg0.N, win0_4.index t = ![t.val / 4, t.val % 4, 0] := (by decide +kernel : ∀ t : Fin grid0.N, _)

theorem at_mr (t : Fin cfg0.N) (y : S1x512x1024.Idx) :
    iblk m c 0 t y = at3 (m ((c : Thread nD τ).loc main_arg0)) (t.val / 4 + (y 0).val) (t.val % 4 * 512 + (y 1).val) (y 2).val := by
  refine at3_of (n0 := 4) (n1 := 2048) (n2 := 2048) (m ((c : Thread nD τ).loc main_arg0)) _ ?_ ?_ ?_
  all_goals blk_simp [idx0]
  all_goals simp

theorem at_ma (t : Fin cfg0.N) (y : S1x512x1024.Idx) :
    iblk m c 1 t y = at3 (m ((c : Thread nD τ).loc main_arg0)) (t.val / 4 + (y 0).val) (t.val % 4 * 512 + (y 1).val) (1024 + (y 2).val) := by
  refine at3_of (n0 := 4) (n1 := 2048) (n2 := 2048) (m ((c : Thread nD τ).loc main_arg0)) _ ?_ ?_ ?_
  all_goals blk_simp [idx1]
  all_goals simp

theorem at_pr (t : Fin cfg0.N) (y : S1x512x1024.Idx) :
    iblk m c 2 t y = at3 (m ((c : Thread nD τ).loc main_arg1)) (t.val / 4 + (y 0).val) (t.val % 4 * 512 + (y 1).val) (y 2).val := by
  refine at3_of (n0 := 4) (n1 := 2048) (n2 := 1024) (m ((c : Thread nD τ).loc main_arg1)) _ ?_ ?_ ?_
  all_goals blk_simp [idx2]
  all_goals simp

theorem at_pa (t : Fin cfg0.N) (y : S1x512x1024.Idx) :
    iblk m c 3 t y = at3 (m ((c : Thread nD τ).loc main_arg2)) (t.val / 4 + (y 0).val) (t.val % 4 * 512 + (y 1).val) (y 2).val := by
  refine at3_of (n0 := 4) (n1 := 2048) (n2 := 1024) (m ((c : Thread nD τ).loc main_arg2)) _ ?_ ?_ ?_
  all_goals blk_simp [idx3]
  all_goals simp

theorem pay (a p b q : Vec Ideal S1x512x1024 .f32) (y : S1x512x1024.Idx) : k0_pay1 a p b q y
    = Ideal.logistic (a y) * p y + Ideal.logistic (b y) * q y := by
  rw [← gate, ← gate]
  unfold k0_pay1
  pointwise

theorem final : (dats m 0 c).arrAt 4 cfg0.N
    = merged (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  rw [pay, at_mr, at_ma, at_pr, at_pa]
  unfold merged gateOf
  rw [at3_of (m ((c : Thread nD τ).loc main_arg1)) _ rfl rfl rfl, at3_of (m ((c : Thread nD τ).loc main_arg2)) _ rfl rfl rfl]
  blk_simp [idx4]

section
open Cert.MergeFwdRefIdeal.Read

theorem ref_gate (mg : Vec Ideal S4x2048x2048 .f32) (i : S4x2048x2048.Idx) : val_main_v5 (F := Ideal) mg i = Ideal.logistic (mg i) := by
  rw [val_main_v5_apply, val_main_v4_apply, val_main_v3_apply, val_main_v2_apply, val_main_v1_apply, val_main_v0_apply, val_main_cst_apply,
    val_main_cst_0_apply, Ideal.ofBits_def, Ideal.ofBits_one_f32]
  rfl

theorem ref (mg : Vec Ideal S4x2048x2048 .f32) (p q : Vec Ideal S4x2048x1024 .f32) : val_main_v11 (F := Ideal) mg p q = merged mg p q := by
  funext i
  rw [val_main_v11_apply, Ideal.truncf_def, val_main_v10_apply, val_main_v9_apply, val_main_v8_apply, val_main_v7_apply, val_main_v6_apply,
    ref_gate, ref_gate]
  unfold merged gateOf
  rw [← at3_of mg (idx_main_v6 i) rfl rfl (by simp), ← at3_of mg (idx_main_v7 i) rfl rfl (by simp)]
  rfl

end

theorem alg : Cert.algebraic_MergeFwdIdeal_MergeFwdRefIdeal := fun m g m' g' _ hm =>
  ⟨fun c => merged (m ((c : Thread nD τ).loc main_arg0)) (m ((c : Thread nD τ).loc main_arg1)) (m ((c : Thread nD τ).loc main_arg2)),
    (θ_run defs _ _).mono (fun _ h c => ⟨(h c).1.trans (final m c), (h c).2⟩) (Value.run_blocks m g),
    (θ_run Cert.MergeFwdRefIdeal.defs _ _).mono (fun _ h c => by
      obtain ⟨e0, e1, e2⟩ := hm c
      beta_reduce
      rw [← e0, ← e1, ← e2]
      exact ⟨(h c).1.trans (ref _ _ _), (h c).2⟩)
      (Cert.MergeFwdRefIdeal.Value.run (F := Ideal) m' g')⟩

theorem frame_p : Cert.quiescent_MergeFwd := fun m g _ => Cert.MergeFwd.Gen.frame m g
theorem frame_pi : Cert.quiescent_MergeFwdIdeal := fun m g _ => Gen.frame m g
theorem frame_ri : Cert.quiescent_MergeFwdRefIdeal := fun m g _ =>
  (θ_run Cert.MergeFwdRefIdeal.defs _ _).mono (fun r h => ⟨fun c => (h c).2, sem_eq_zero_of_no_sems (by decide) r.2⟩)
    (Cert.MergeFwdRefIdeal.Value.run (F := Ideal) m g)

end Cert.MergeFwdIdeal.Ew

end
-- ==== Proof.Ew.Norm.lean ====
/- A row's normalisation by its root mean square on the extended reals, and the gradient of its row: the reference differentiates
   the mean of the squares and the reciprocal root one after the other, the kernel takes the projection off at once. The two agree
   for every row: where an entry is infinite the reciprocal root is zero, and both sides with it. -/
module

public import proofs.«01_k».proof.Proof.Mm.Base
public import Idealize.ShloMosaic.Lib.Pipeline.Value
public import Idealize.ShloMosaic.Lib.IdealHost

@[expose] public section

noncomputable section

namespace Cert.Ew

open Idealize.ShloMosaic Cert.Mm Finset

/-- The mean of the squares of a row of 1024 entries, and the small number added to it. -/
def den (x : ℕ → EReal) : EReal :=
  Ideal.div (∑ k ∈ range 1024, x k * x k) (Ideal.ofBits .f32 0x44800000#32) + Ideal.ofBits .f32 0x358637BD#32

/-- The reciprocal root. -/
def inv (x : ℕ → EReal) : EReal := Ideal.rsqrt (den x)

/-- An entry of a normalised row, before the weight and the scale. -/
def unit (x : ℕ → EReal) (i : ℕ) : EReal := x i * inv x

/-- The gradient of a row `x`, of the gradient `d` of the normalised row. -/
def dRow (x d : ℕ → EReal) (i : ℕ) : EReal :=
  inv x * (d i - unit x i * Ideal.div (∑ k ∈ range 1024, d k * unit x k) (Ideal.ofBits .f32 0x44800000#32))

/-- What the reference sends through the mean of the squares, half of it. -/
def slope (x d : ℕ → EReal) : EReal :=
  Ideal.div ((∑ k ∈ range 1024, x k * d k) * (Ideal.ofBits .f32 0xBF000000#32 * Ideal.div (inv x) (den x))) (Ideal.ofBits .f32 0x44800000#32)

theorem lit_n : Ideal.ofBits .f32 0x44800000#32 = ((1024 : ℝ) : EReal) := by
  simp [Ideal.ofBits, Ideal.ieee, -EReal.coe_mul]
  norm_num

theorem lit_mhalf : Ideal.ofBits .f32 0xBF000000#32 = ((-(1 / 2) : ℝ) : EReal) := by
  simp [Ideal.ofBits, Ideal.ieee, -EReal.coe_mul]
  norm_num

theorem lit_eps : ∃ e : ℝ, 0 < e ∧ Ideal.ofBits .f32 0x358637BD#32 = (e : EReal) := by
  refine ⟨_, ?_, by simp [Ideal.ofBits, Ideal.ieee, -EReal.coe_mul]; rfl⟩
  norm_num

theorem div_n (x : EReal) : Ideal.div x (Ideal.ofBits .f32 0x44800000#32) = x * ((1 / 1024 : ℝ) : EReal) := by
  rw [lit_n, Ideal.div_coe (by norm_num)]

theorem sq_nonneg' (x : EReal) : 0 ≤ x * x := by
  induction x with
  | bot => simp
  | top => simp
  | coe r => rw [← EReal.coe_mul]; exact_mod_cast mul_self_nonneg r

theorem coe_mul_sum {r : ℝ} (h : 0 ≤ r) (s : Finset ℕ) (f : ℕ → EReal) : (r : EReal) * ∑ k ∈ s, f k = ∑ k ∈ s, (r : EReal) * f k := by
  classical
  induction s using Finset.induction_on with
  | empty => simp
  | insert a s ha ih =>
    rw [sum_insert ha, sum_insert ha, EReal.left_distrib_of_nonneg_of_ne_top (by exact_mod_cast h) (EReal.coe_ne_top _), ih]

theorem add_self (q : EReal) : q + q = ((2 : ℝ) : EReal) * q := by
  induction q with
  | bot => rw [EReal.coe_mul_bot_of_pos (by norm_num)]; rfl
  | top => rw [EReal.coe_mul_top_of_pos (by norm_num)]; rfl
  | coe r => rw [← EReal.coe_mul, ← EReal.coe_add, two_mul]

/-- A row with an infinite entry has an infinite mean of squares. -/
theorem den_top (x : ℕ → EReal) {k : ℕ} (hk : k ∈ range 1024) (h : x k * x k = ⊤) : den x = ⊤ := by
  have hs : ∑ k ∈ range 1024, x k * x k = ⊤ :=
    top_le_iff.mp (h ▸ single_le_sum (f := fun k => x k * x k) (fun i _ => sq_nonneg' (x i)) hk)
  obtain ⟨e, -, he⟩ := lit_eps
  unfold den
  rw [hs, div_n, EReal.top_mul_coe_of_pos (by norm_num), he, EReal.top_add_coe]

/-- A row of reals has a positive real mean of squares. -/
theorem den_real (x : ℕ → EReal) (y : ℕ → ℝ) (h : ∀ k ∈ range 1024, x k = (y k : EReal)) : ∃ q : ℝ, 0 < q ∧ den x = (q : EReal) := by
  obtain ⟨e, hp, he⟩ := lit_eps
  have hc : ∀ s : Finset ℕ, s ⊆ range 1024 → ∑ k ∈ s, x k * x k = ((∑ k ∈ s, y k * y k : ℝ) : EReal) := fun s hs => by
    classical
    induction s using Finset.induction_on with
    | empty => simp
    | insert a s ha ih =>
      rw [sum_insert ha, sum_insert ha, ih fun k hk => hs (mem_insert_of_mem hk), h a (hs (mem_insert_self a s)), ← EReal.coe_mul, ← EReal.coe_add]
  have hn : 0 ≤ ∑ k ∈ range 1024, y k * y k := sum_nonneg fun k _ => mul_self_nonneg (y k)
  refine ⟨(∑ k ∈ range 1024, y k * y k) * (1 / 1024) + e, by positivity, ?_⟩
  unfold den
  rw [hc _ subset_rfl, div_n, he, ← EReal.coe_mul, ← EReal.coe_add]

theorem dRow_eq (x d : ℕ → EReal) {i : ℕ} (hi : i < 1024) : d i * inv x + x i * slope x d + slope x d * x i = dRow x d i := by
  by_cases hx : ∀ k ∈ range 1024, ∃ r : ℝ, x k = (r : EReal)
  · choose! y hy using hx
    obtain ⟨q, hq, hd⟩ := den_real x y hy
    have hs : 0 < Real.sqrt q := Real.sqrt_pos.mpr hq
    have hr : inv x = (((Real.sqrt q)⁻¹ : ℝ) : EReal) := by
      unfold inv
      rw [hd, Ideal.rsqrt_coe, if_neg (not_lt.mpr hq.le), if_neg hq.ne']
    have hr2 : (Real.sqrt q)⁻¹ * (Real.sqrt q)⁻¹ = 1 / q := by
      rw [← mul_inv, Real.mul_self_sqrt hq.le, one_div]
    have hr0 : 0 ≤ (Real.sqrt q)⁻¹ := (inv_pos.mpr hs).le
    generalize (Real.sqrt q)⁻¹ = r at hr hr2 hr0
    unfold dRow slope unit
    rw [div_n, div_n, hr, hd, Ideal.div_coe hq.ne', lit_mhalf, hy i (mem_range.mpr hi)]
    have e : ∑ k ∈ range 1024, d k * (x k * (r : EReal)) = (r : EReal) * ∑ k ∈ range 1024, x k * d k := by
      rw [coe_mul_sum hr0]
      exact sum_congr rfl fun k _ => by rw [← mul_assoc, mul_comm (d k), mul_comm]
    rw [e]
    generalize ∑ k ∈ range 1024, x k * d k = S
    rw [sub_eq_add_neg, EReal.left_distrib_of_nonneg_of_ne_top (by exact_mod_cast hr0) (EReal.coe_ne_top _), ← EReal.neg_mul,
      mul_comm (d i), add_assoc, mul_comm _ ((y i : ℝ) : EReal), add_self]
    refine congrArg ((r : EReal) * d i + ·) ?_
    rw [mul_comm S, mul_right_comm _ S, mul_right_comm (r : EReal) S]
    simp only [← EReal.coe_neg, ← mul_assoc, ← EReal.coe_mul]
    refine congrArg (· * S) (congrArg _ ?_)
    rw [← hr2]
    ring
  · push_neg at hx
    obtain ⟨k, hk, hn⟩ := hx
    have hd : den x = ⊤ := den_top x hk (by
      rcases h : x k with _ | _ | r
      · rfl
      · rfl
      · exact absurd h (hn r))
    have hr : inv x = 0 := by
      unfold inv
      rw [hd, Ideal.rsqrt_top]
    have h0 : Ideal.div 0 ⊤ = 0 := by
      unfold Ideal.div
      simp
    unfold dRow slope unit
    rw [div_n, div_n, hr, hd, h0]
    simp

/-- A reduction over the first two of three axes, axis by axis. -/
theorem reduce_01 {n0 n1 n2 : ℕ} (h : (⟨3, ![n0, n1, n2]⟩ : Shape).ReducesTo [0, 1] ⟨1, ![n2]⟩) (v : (⟨3, ![n0, n1, n2]⟩ : Shape).Idx → EReal)
    (init : EReal) (j : (⟨1, ![n2]⟩ : Shape).Idx) :
    Ideal.hostReduceAdd h v init j = init + ∑ a ∈ range n0, ∑ b ∈ range n1, at3 v a b (j 0).val := by
  refine congrArg (init + ·) ?_
  rw [sum_filter, sum_idx3]
  refine sum_fin _ fun a => sum_fin _ fun b => ?_
  refine (sum_eq_single (ι := Fin n2) (j 0) ?_ ?_).trans ?_
  · intro k _ hk
    rw [if_neg]
    intro hj
    exact hk (Fin.ext (congrArg Fin.val (congrFun hj 0)))
  · intro hk
    exact absurd (mem_univ _) hk
  · rw [if_pos]
    · exact at3_of v _ rfl rfl rfl
    · funext z
      match z with
      | ⟨0, _⟩ => rfl

/-- Two rows that agree entry by entry are one. -/
theorem row_eq {m0 m1 n0 n1 n2 : ℕ} (B : (⟨3, ![m0, m1, n2]⟩ : Shape).Idx → EReal) (A : (⟨3, ![n0, n1, n2]⟩ : Shape).Idx → EReal)
    {p r q s : ℕ} (hp : p < m0) (hr : r < m1) (h : ∀ (k : ℕ) (hk : k < n2), B (ix3 ⟨p, hp⟩ ⟨r, hr⟩ ⟨k, hk⟩) = at3 A q s k) : at3 B p r = at3 A q s := by
  funext k
  by_cases hk : k < n2
  · exact (at3_of B (ix3 ⟨p, hp⟩ ⟨r, hr⟩ ⟨k, hk⟩) rfl rfl rfl).symm.trans (h k hk)
  · unfold at3
    rw [dif_neg fun z => hk z.2.2, dif_neg fun z => hk z.2.2]

theorem at2_row {n : ℕ} (g : (⟨2, ![1, n]⟩ : Shape).Idx → EReal) (k : Fin n) : at2 g 0 k.val = g (ix2 0 k) :=
  (at2_of g (ix2 0 k) rfl rfl).symm

theorem at3_row {n : ℕ} (g : (⟨3, ![1, 1, n]⟩ : Shape).Idx → EReal) (k : Fin n) : at3 g 0 0 k.val = g (ix3 0 0 k) :=
  (at3_of g (ix3 0 0 k) rfl rfl rfl).symm

variable {n0 n1 : ℕ}

/-- The normalised rows, by the weight, the scale and the shift. -/
def normed (x : (⟨3, ![n0, n1, 1024]⟩ : Shape).Idx → EReal) (g : (⟨2, ![1, 1024]⟩ : Shape).Idx → EReal)
    (sc sh : (⟨3, ![n0, 1, 1024]⟩ : Shape).Idx → EReal) : (⟨3, ![n0, n1, 1024]⟩ : Shape).Idx → EReal := fun i =>
  unit (at3 x (i 0).val (i 1).val) (i 2).val * at2 g 0 (i 2).val * (1 + at3 sc (i 0).val 0 (i 2).val) + at3 sh (i 0).val 0 (i 2).val

/-- The gradient behind the scale. -/
def scaled (dh : (⟨3, ![n0, n1, 1024]⟩ : Shape).Idx → EReal) (sc : (⟨3, ![n0, 1, 1024]⟩ : Shape).Idx → EReal) (p r : ℕ) (k : ℕ) : EReal :=
  at3 dh p r k * (1 + at3 sc p 0 k)

/-- The gradient of the rows: what the residual passes on, and what goes through the normalisation. -/
def dRows (dh x res : (⟨3, ![n0, n1, 1024]⟩ : Shape).Idx → EReal) (g : (⟨2, ![1, 1024]⟩ : Shape).Idx → EReal)
    (sc : (⟨3, ![n0, 1, 1024]⟩ : Shape).Idx → EReal) : (⟨3, ![n0, n1, 1024]⟩ : Shape).Idx → EReal := fun i =>
  res i + dRow (at3 x (i 0).val (i 1).val) (fun k => scaled dh sc (i 0).val (i 1).val k * at2 g 0 k) (i 2).val

/-- The gradient of the shift: the sum over a sequence's rows. -/
def dShift (dh : (⟨3, ![n0, n1, 1024]⟩ : Shape).Idx → EReal) : (⟨3, ![n0, 1, 1024]⟩ : Shape).Idx → EReal := fun i =>
  ∑ s ∈ range n1, at3 dh (i 0).val s (i 2).val

/-- What a row gives to the gradient of the scale. -/
def ofScale (dh x : (⟨3, ![n0, n1, 1024]⟩ : Shape).Idx → EReal) (g : (⟨2, ![1, 1024]⟩ : Shape).Idx → EReal) (p j s : ℕ) : EReal :=
  at3 dh p s j * (unit (at3 x p s) j * at2 g 0 j)

/-- The gradient of the scale. -/
def dScale (dh x : (⟨3, ![n0, n1, 1024]⟩ : Shape).Idx → EReal) (g : (⟨2, ![1, 1024]⟩ : Shape).Idx → EReal) :
    (⟨3, ![n0, 1, 1024]⟩ : Shape).Idx → EReal := fun i =>
  ∑ s ∈ range n1, ofScale dh x g (i 0).val (i 2).val s

/-- What row `k` of all gives to the gradient of the weight. -/
def ofWeight (dh x : (⟨3, ![n0, n1, 1024]⟩ : Shape).Idx → EReal) (sc : (⟨3, ![n0, 1, 1024]⟩ : Shape).Idx → EReal) (j k : ℕ) : EReal :=
  scaled dh sc (k / n1) (k % n1) j * unit (at3 x (k / n1) (k % n1)) j

/-- The gradient of the weight: the sum over all rows of all sequences. -/
def dWeight (dh x : (⟨3, ![n0, n1, 1024]⟩ : Shape).Idx → EReal) (sc : (⟨3, ![n0, 1, 1024]⟩ : Shape).Idx → EReal) :
    (⟨2, ![1, 1024]⟩ : Shape).Idx → EReal := fun i =>
  ∑ k ∈ range (n0 * n1), ofWeight dh x sc (i 1).val k

/-- The gradient of a branch that a gate per sequence and column multiplies. -/
def gated (gt : (⟨3, ![n0, 1, 1024]⟩ : Shape).Idx → EReal) (r : (⟨3, ![n0, n1, 1024]⟩ : Shape).Idx → EReal) :
    (⟨3, ![n0, n1, 1024]⟩ : Shape).Idx → EReal := fun i => at3 gt (i 0).val 0 (i 2).val * r i

/-- The gradient of such a gate. -/
def dGated (r y : (⟨3, ![n0, n1, 1024]⟩ : Shape).Idx → EReal) : (⟨3, ![n0, 1, 1024]⟩ : Shape).Idx → EReal := fun i =>
  ∑ s ∈ range n1, at3 r (i 0).val s (i 2).val * at3 y (i 0).val s (i 2).val

end Cert.Ew

end
-- ==== Proof.Ew.Norm1.lean ====
/- The first normalisation: rows scaled to unit mean square, times a weight and a scale, plus a shift. -/
module

public import proofs.«01_k».proof.Proof.Gen.Norm1Ideal.Value
public import proofs.«01_k».proof.Proof.Gen.Norm1RefIdeal.Run
public import proofs.«01_k».proof.Proof.Gen.Norm1RefIdeal.Read
public import proofs.«01_k».proof.Proof.Gen.Norm1.Frame
public import proofs.«01_k».proof.Proof.Ew.Norm
public import proofs.«01_k».proof.Defs
public import Idealize.ShloMosaic.Adequacy

@[expose] public section

set_option maxRecDepth 16384

noncomputable section

namespace Cert.Norm1Ideal.Ew

open Cert.Norm1Ideal Cert.Norm1Ideal.Gen Idealize.ShloMosaic Idealize.ShloMosaic.TcCoe Idealize.SL.Sem Cert.Mm Cert.Ew

section
variable (x : Vec Ideal S1x512x1024 .f32) (g : Vec Ideal S1x1024 .f32) (sc sh : Vec Ideal S1x1x1024 .f32) (y : S1x512x1024.Idx)
  {X : Vec Ideal S4x2048x1024 .f32} {SC SH : Vec Ideal S4x1x1024 .f32} (p r : ℕ)
  (hx : at3 x 0 (y 1).val = at3 X p r) (hsc : at3 sc 0 0 = at3 SC p 0) (hsh : at3 sh 0 0 = at3 SH p 0)

include hx hsc hsh in
/-- A block is the block of the whole, where its arguments are the whole's. -/
theorem block : k0_pay1 x g sc sh y = unit (at3 X p r) (y 2).val * at2 g 0 (y 2).val * (1 + at3 SC p 0 (y 2).val) + at3 SH p 0 (y 2).val := by
  rw [← hx, ← hsc, ← hsh, at2_row g (y 2), at3_row sc (y 2), at3_row sh (y 2)]
  unfold k0_pay1 unit
  pointwise [Ideal.ofBits_one_f32]
  have h0 : (y 0).val < 1 := (y 0).isLt
  refine congrArg₂ (fun a s => a * Ideal.rsqrt (Ideal.div s _ + _) * _ * _ + _) (at3_of x y (by omega) rfl rfl) (sum_fin _ fun k => ?_)
  exact congrArg₂ (· * ·) (at3_of x (ix3 0 (y 1) k) rfl rfl rfl) (at3_of x (ix3 0 (y 1) k) rfl rfl rfl)

end

variable (m : (ℓ : Loc nD τ sig) → Buf (Elt Ideal) ℓ) (c : Dev nD)

theorem idx0 : ∀ t : Fin cfg0.N, win0_0.index t = ![t.val / 4, t.val % 4, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 4, 0, 0] := (by decide +kernel : ∀ t : Fin grid0.N, _)
theorem idx3 : ∀ t : Fin cfg0.N, win0_3.index t = ![t.val / 4, 0, 0] := (by decide +kernel : ∀ t : Fin grid0.N, _)
theorem idx4 : ∀ t : Fin cfg0.N, win0_4.index t = ![t.val / 4, t.val % 4, 0] := (by decide +kernel : ∀ t : Fin grid0.N, _)

theorem row_x (t : Fin cfg0.N) {r : ℕ} (hr : r < 512) :
    at3 (iblk m c 0 t) 0 r = at3 (m ((c : Thread nD τ).loc main_arg0)) (t.val / 4) (t.val % 4 * 512 + r) := by
  refine row_eq _ _ (by decide) hr fun k hk => at3_of (n0 := 4) (n1 := 2048) (n2 := 1024) (m ((c : Thread nD τ).loc main_arg0)) _ ?_ ?_ ?_
  all_goals blk_simp [idx0]
  all_goals simp

theorem whole_g (t : Fin cfg0.N) : iblk m c 1 t = m ((c : Thread nD τ).loc main_arg1) := by
  funext y
  refine congrArg (m ((c : Thread nD τ).loc main_arg1)) (funext fun a => Fin.ext ?_)
  match a with
  | ⟨0, _⟩ => blk_simp [idx1]
  | ⟨1, _⟩ => blk_simp [idx1]

theorem row_sh (t : Fin cfg0.N) : at3 (iblk m c 2 t) 0 0 = at3 (m ((c : Thread nD τ).loc main_arg2)) (t.val / 4) 0 := by
  refine row_eq _ _ (by decide) (by decide) fun k hk => at3_of (n0 := 4) (n1 := 1) (n2 := 1024) (m ((c : Thread nD τ).loc main_arg2)) _ ?_ ?_ ?_
  all_goals blk_simp [idx2]
  all_goals simp

theorem row_sc (t : Fin cfg0.N) : at3 (iblk m c 3 t) 0 0 = at3 (m ((c : Thread nD τ).loc main_arg3)) (t.val / 4) 0 := by
  refine row_eq _ _ (by decide) (by decide) fun k hk => at3_of (n0 := 4) (n1 := 1) (n2 := 1024) (m ((c : Thread nD τ).loc main_arg3)) _ ?_ ?_ ?_
  all_goals blk_simp [idx3]
  all_goals simp

theorem final4 : (dats m 0 c).arrAt 4 cfg0.N = normed (m ((c : Thread nD τ).loc main_arg0)) (m ((c : Thread nD τ).loc main_arg1))
    (m ((c : Thread nD τ).loc main_arg3)) (m ((c : Thread nD τ).loc main_arg2)) := by
  refine (dats m 0 c).arrAt_eq_of_covers 4 _ (by decide +kernel) fun t hf y => ?_
  blk_simp
  rw [after0_4]
  frame_out
  rw [block _ _ _ _ y _ _ (row_x m c t (y 1).isLt) (row_sc m c t) (row_sh m c t), whole_g]
  have h0 : (y 0).val = 0 := by
    have : (y 0).val < 1 := (y 0).isLt
    omega
  unfold normed
  blk_simp [idx4]

section
open Cert.Norm1RefIdeal.Read

variable (x : Vec Ideal S4x2048x1024 .f32) (g : Vec Ideal S1x1024 .f32) (sh sc : Vec Ideal S4x1x1024 .f32)

theorem ref_sq (i : Cert.Norm1RefIdeal.S4x2048.Idx) : val_main_v1 (F := Ideal) x i
    = ∑ k ∈ Finset.range 1024, at3 x (i 0).val (i 1).val k * at3 x (i 0).val (i 1).val k := by
  rw [val_main_v1_apply]
  refine (congrArg₂ (· + ·) Ideal.ofBits_zero_f32 (sum_fin _ fun k => ?_)).trans (zero_add _)
  exact congrArg₂ (· * ·) (at3_of x _ rfl rfl rfl) (at3_of x _ rfl rfl rfl)

theorem ref_inv (i : Cert.Norm1RefIdeal.S4x2048x1.Idx) : val_main_v7 (F := Ideal) x i = Cert.Ew.inv (at3 x (i 0).val (i 1).val) := by
  rw [val_main_v7_apply, val_main_v6_apply, val_main_v5_apply, val_main_v4_apply, val_main_v3_apply, val_main_v2_apply, ref_sq]
  rfl

theorem ref_unit (i : S4x2048x1024.Idx) : val_main_v9 (F := Ideal) x i = unit (at3 x (i 0).val (i 1).val) (i 2).val := by
  rw [val_main_v9_apply, val_main_v8_apply, ref_inv, at3_of x i rfl rfl rfl]
  rfl

theorem ref_g (i : S4x2048x1024.Idx) : val_main_v12 (F := Ideal) g i = at2 g 0 (i 2).val := by
  rw [val_main_v12_apply, val_main_v11_apply, val_main_v10_apply]
  exact at2_of g _ rfl (Nat.mod_eq_of_lt (i 2).isLt)

theorem ref_sc (i : S4x2048x1024.Idx) : val_main_v16 (F := Ideal) sc i = 1 + at3 sc (i 0).val 0 (i 2).val := by
  rw [val_main_v16_apply, val_main_v15_apply, val_main_v14_apply, val_main_cst_2_apply, Ideal.ofBits_def, Ideal.ofBits_one_f32]
  exact congrArg (1 + ·) (at3_of sc _ rfl rfl rfl)

theorem ref4 : val_main_v20 (F := Ideal) x g sh sc = normed x g sc sh := by
  funext i
  rw [val_main_v20_apply, Ideal.truncf_def, val_main_v19_apply, val_main_v18_apply, val_main_v17_apply, val_main_v13_apply, ref_unit, ref_g, ref_sc]
  exact congrArg (_ + ·) (at3_of sh _ rfl rfl rfl)

end

theorem alg : Cert.algebraic_Norm1Ideal_Norm1RefIdeal := fun m g m' g' _ hm =>
  ⟨fun c => normed (m ((c : Thread nD τ).loc main_arg0)) (m ((c : Thread nD τ).loc main_arg1)) (m ((c : Thread nD τ).loc main_arg3))
      (m ((c : Thread nD τ).loc main_arg2)),
    (θ_run defs _ _).mono (fun _ h c => by
      obtain ⟨r0, ra⟩ := h c
      exact ⟨r0.trans (final4 m c), ra⟩) (Value.run_blocks m g),
    (θ_run Cert.Norm1RefIdeal.defs _ _).mono (fun _ h c => by
      obtain ⟨e0, e1, e2, e3⟩ := hm c
      obtain ⟨r0, ra⟩ := h c
      beta_reduce
      rw [← e0, ← e1, ← e2, ← e3]
      exact ⟨r0.trans (ref4 _ _ _ _), ra⟩) (Cert.Norm1RefIdeal.Value.run (F := Ideal) m' g')⟩

theorem frame_p : Cert.quiescent_Norm1 := fun m g _ => Cert.Norm1.Gen.frame m g
theorem frame_pi : Cert.quiescent_Norm1Ideal := fun m g _ => Gen.frame m g
theorem frame_ri : Cert.quiescent_Norm1RefIdeal := fun m g _ =>
  (θ_run Cert.Norm1RefIdeal.defs _ _).mono (fun r h => ⟨fun c => (h c).2, sem_eq_zero_of_no_sems (by decide) r.2⟩)
    (Cert.Norm1RefIdeal.Value.run (F := Ideal) m g)

end Cert.Norm1Ideal.Ew

end
-- ==== Proof.Ew.Norm2.lean ====
/- The gated residual and the second normalisation. The normalisation is the first's, of the rows the residual gives. -/
module

public import proofs.«01_k».proof.Proof.Gen.Norm2Ideal.Value
public import proofs.«01_k».proof.Proof.Gen.Norm2RefIdeal.Run
public import proofs.«01_k».proof.Proof.Gen.Norm2RefIdeal.Read
public import proofs.«01_k».proof.Proof.Gen.Norm2.Frame
public import proofs.«01_k».proof.Proof.Ew.Norm1
public import proofs.«01_k».proof.Defs
public import Idealize.ShloMosaic.Adequacy

@[expose] public section

set_option maxRecDepth 16384

noncomputable section

namespace Cert.Norm2Ideal.Ew

open Cert.Norm2Ideal Cert.Norm2Ideal.Gen Idealize.ShloMosaic Idealize.ShloMosaic.TcCoe Idealize.SL.Sem Cert.Mm Cert.Ew

theorem pay_rows (x : Vec Ideal S1x512x1024 .f32) (gt : Vec Ideal S1x1x1024 .f32) (b : Vec Ideal S1x512x1024 .f32) (y : S1x512x1024.Idx) :
    k0_pay3 x gt b y = at3 x 0 (y 1).val (y 2).val + at3 gt 0 0 (y 2).val * at3 b 0 (y 1).val (y 2).val := by
  have h0 : (y 0).val < 1 := (y 0).isLt
  rw [← at3_of x y (by omega) rfl rfl, ← at3_of b y (by omega) rfl rfl, at3_row gt (y 2)]
  unfold k0_pay3 k0_pay2
  pointwise

/-- The rows read back from the block they are stored as. -/
theorem pay_back (x : Vec Ideal S1x512x1024 .f32) (gt : Vec Ideal S1x1x1024 .f32) (b : Vec Ideal S1x512x1024 .f32) :
    shapeCast S512x1024 (k0_pay3 x gt b) shapeCasts_S1x512x1024_S512x1024 = k0_pay2 x gt b := by
  funext y
  unfold k0_pay3
  pointwise

theorem pay_norm (x : Vec Ideal S1x512x1024 .f32) (gt : Vec Ideal S1x1x1024 .f32) (b : Vec Ideal S1x512x1024 .f32) (g : Vec Ideal S1x1024 .f32)
    (sc sh : Vec Ideal S1x1x1024 .f32) : k0_pay1 (k0_pay4 x gt b g sc) (k0_pay5 sh) = Cert.Norm1Ideal.Gen.k0_pay1 (k0_pay3 x gt b) g sc sh := by
  unfold k0_pay4 Cert.Norm1Ideal.Gen.k0_pay1
  rw [← pay_back]
  rfl

variable (m : (ℓ : Loc nD τ sig) → Buf (Elt Ideal) ℓ) (c : Dev nD)

theorem idx0 : ∀ t : Fin cfg0.N, win0_0.index t = ![t.val / 4, t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![t.val / 4, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 4, 0, 0] := (by decide +kernel : ∀ t : Fin grid0.N, _)
theorem idx5 : ∀ t : Fin cfg0.N, win0_5.index t = ![t.val / 4, 0, 0] := (by decide +kernel : ∀ t : Fin grid0.N, _)
theorem idx6 : ∀ t : Fin cfg0.N, win0_6.index t = ![t.val / 4, t.val % 4, 0] := (by decide +kernel : ∀ t : Fin grid0.N, _)
theorem idx7 : ∀ t : Fin cfg0.N, win0_7.index t = ![t.val / 4, t.val % 4, 0] := (by decide +kernel : ∀ t : Fin grid0.N, _)

theorem row_x (t : Fin cfg0.N) {r : ℕ} (hr : r < 512) :
    at3 (iblk m c 0 t) 0 r = at3 (m ((c : Thread nD τ).loc main_arg0)) (t.val / 4) (t.val % 4 * 512 + r) := by
  refine row_eq _ _ (by decide) hr fun k hk => at3_of (n0 := 4) (n1 := 2048) (n2 := 1024) (m ((c : Thread nD τ).loc main_arg0)) _ ?_ ?_ ?_
  all_goals blk_simp [idx0]
  all_goals simp

theorem row_b (t : Fin cfg0.N) {r : ℕ} (hr : r < 512) :
    at3 (iblk m c 1 t) 0 r = at3 (m ((c : Thread nD τ).loc main_arg1)) (t.val / 4) (t.val % 4 * 512 + r) := by
  refine row_eq _ _ (by decide) hr fun k hk => at3_of (n0 := 4) (n1 := 2048) (n2 := 1024) (m ((c : Thread nD τ).loc main_arg1)) _ ?_ ?_ ?_
  all_goals blk_simp [idx1]
  all_goals simp

theorem row_gt (t : Fin cfg0.N) : at3 (iblk m c 2 t) 0 0 = at3 (m ((c : Thread nD τ).loc main_arg2)) (t.val / 4) 0 := by
  refine row_eq _ _ (by decide) (by decide) fun k hk => at3_of (n0 := 4) (n1 := 1) (n2 := 1024) (m ((c : Thread nD τ).loc main_arg2)) _ ?_ ?_ ?_
  all_goals blk_simp [idx2]
  all_goals simp

theorem whole_g (t : Fin cfg0.N) : iblk m c 3 t = m ((c : Thread nD τ).loc main_arg3) := by
  funext y
  refine congrArg (m ((c : Thread nD τ).loc main_arg3)) (funext fun a => Fin.ext ?_)
  match a with
  | ⟨0, _⟩ => blk_simp [idx3]
  | ⟨1, _⟩ => blk_simp [idx3]

theorem row_sh (t : Fin cfg0.N) : at3 (iblk m c 4 t) 0 0 = at3 (m ((c : Thread nD τ).loc main_arg4)) (t.val / 4) 0 := by
  refine row_eq _ _ (by decide) (by decide) fun k hk => at3_of (n0 := 4) (n1 := 1) (n2 := 1024) (m ((c : Thread nD τ).loc main_arg4)) _ ?_ ?_ ?_
  all_goals blk_simp [idx4]
  all_goals simp

theorem row_sc (t : Fin cfg0.N) : at3 (iblk m c 5 t) 0 0 = at3 (m ((c : Thread nD τ).loc main_arg5)) (t.val / 4) 0 := by
  refine row_eq _ _ (by decide) (by decide) fun k hk => at3_of (n0 := 4) (n1 := 1) (n2 := 1024) (m ((c : Thread nD τ).loc main_arg5)) _ ?_ ?_ ?_
  all_goals blk_simp [idx5]
  all_goals simp

/-- The rows with the gated branch added. -/
def summed (x b : Vec Ideal S4x2048x1024 .f32) (gt : Vec Ideal S4x1x1024 .f32) : Vec Ideal S4x2048x1024 .f32 := fun i => x i + gated gt b i

/-- A row of the block, of the rows and the gate it is read from. -/
theorem row_summed {x b : Vec Ideal S1x512x1024 .f32} {gt : Vec Ideal S1x1x1024 .f32} (X B : Vec Ideal S4x2048x1024 .f32) (GT : Vec Ideal S4x1x1024 .f32)
    {p r s : ℕ} (hp : p < 4) (hs : s < 2048) (hr : r < 512) (hx : at3 x 0 r = at3 X p s) (hb : at3 b 0 r = at3 B p s) (hg : at3 gt 0 0 = at3 GT p 0) :
    at3 (k0_pay3 x gt b) 0 r = at3 (summed X B GT) p s := by
  refine row_eq _ _ (by decide) hr fun k hk => ?_
  refine (pay_rows x gt b _).trans ?_
  refine Eq.trans ?_ (at3_of (summed X B GT) (ix3 ⟨p, hp⟩ ⟨s, hs⟩ ⟨k, hk⟩) rfl rfl rfl)
  refine congrArg₂ (· + ·) ?_ (congrArg₂ (· * ·) (congrFun hg k) ?_)
  · exact (congrFun hx k).trans (at3_of X (ix3 ⟨p, hp⟩ ⟨s, hs⟩ ⟨k, hk⟩) rfl rfl rfl).symm
  · exact (congrFun hb k).trans (at3_of B (ix3 ⟨p, hp⟩ ⟨s, hs⟩ ⟨k, hk⟩) rfl rfl rfl).symm

/-- The same, of the kernel's arguments. -/
def rows : Vec Ideal S4x2048x1024 .f32 :=
  summed (m ((c : Thread nD τ).loc main_arg0)) (m ((c : Thread nD τ).loc main_arg1)) (m ((c : Thread nD τ).loc main_arg2))

theorem row_rows (t : Fin cfg0.N) {r : ℕ} (hr : r < 512) :
    at3 (k0_pay3 (iblk m c 0 t) (iblk m c 2 t) (iblk m c 1 t)) 0 r = at3 (rows m c) (t.val / 4) (t.val % 4 * 512 + r) := by
  have ht : t.val < 16 := t.isLt
  exact row_summed _ _ _ (by omega) (by omega) hr (row_x m c t hr) (row_b m c t hr) (row_gt m c t)

theorem block (t : Fin cfg0.N) (y : S1x512x1024.Idx) :
    k0_pay3 (iblk m c 0 t) (iblk m c 2 t) (iblk m c 1 t) y = at3 (rows m c) (t.val / 4) (t.val % 4 * 512 + (y 1).val) (y 2).val := by
  have h0 : (y 0).val < 1 := (y 0).isLt
  exact (at3_of _ y (by omega) rfl rfl).trans (congrFun (row_rows m c t (y 1).isLt) _)

theorem final6 : (dats m 0 c).arrAt 6 cfg0.N = rows m c := by
  refine (dats m 0 c).arrAt_eq_of_covers 6 _ (by decide +kernel) fun t hf y => ?_
  blk_simp
  rw [after0_6]
  frame_out
  rw [block, at3_of (rows m c) _ rfl rfl rfl]
  have h0 : (y 0).val = 0 := by
    have : (y 0).val < 1 := (y 0).isLt
    omega
  blk_simp [idx6]

theorem final7 : (dats m 0 c).arrAt 7 cfg0.N = normed (rows m c) (m ((c : Thread nD τ).loc main_arg3)) (m ((c : Thread nD τ).loc main_arg5))
    (m ((c : Thread nD τ).loc main_arg4)) := by
  refine (dats m 0 c).arrAt_eq_of_covers 7 _ (by decide +kernel) fun t hf y => ?_
  blk_simp
  rw [after0_7]
  frame_out
  rw [pay_norm, Cert.Norm1Ideal.Ew.block _ _ _ _ y _ _ (row_rows m c t (y 1).isLt) (row_sc m c t) (row_sh m c t), whole_g]
  have h0 : (y 0).val = 0 := by
    have : (y 0).val < 1 := (y 0).isLt
    omega
  unfold normed
  blk_simp [idx7]

section
open Cert.Norm2RefIdeal.Read

variable (x b : Vec Ideal S4x2048x1024 .f32) (gt : Vec Ideal S4x1x1024 .f32) (g : Vec Ideal S1x1024 .f32) (sh sc : Vec Ideal S4x1x1024 .f32)

theorem ref6 : val_main_v2 (F := Ideal) x b gt = summed x b gt := by
  funext i
  rw [val_main_v2_apply, val_main_v1_apply, val_main_v0_apply]
  exact congrArg (_ + · * _) (at3_of gt _ rfl rfl rfl)

/-- The reference normalises the summed rows as the first normalisation's does its argument. -/
theorem ref7 : val_main_v23 (F := Ideal) x b gt g sh sc = normed (summed x b gt) g sc sh :=
  (Cert.Norm1Ideal.Ew.ref4 (val_main_v2 (F := Ideal) x b gt) g sh sc).trans (by rw [ref6])

end

theorem alg : Cert.algebraic_Norm2Ideal_Norm2RefIdeal := fun m g m' g' _ hm =>
  ⟨fun c => rows m c, fun c => normed (rows m c) (m ((c : Thread nD τ).loc main_arg3)) (m ((c : Thread nD τ).loc main_arg5))
      (m ((c : Thread nD τ).loc main_arg4)),
    (θ_run defs _ _).mono (fun _ h c => by
      obtain ⟨r0, r1, ra⟩ := h c
      exact ⟨r0.trans (final6 m c), r1.trans (final7 m c), ra⟩) (Value.run_blocks m g),
    (θ_run Cert.Norm2RefIdeal.defs _ _).mono (fun _ h c => by
      obtain ⟨e0, e1, e2, e3, e4, e5⟩ := hm c
      obtain ⟨r0, r1, ra⟩ := h c
      beta_reduce
      unfold rows
      rw [← e0, ← e1, ← e2, ← e3, ← e4, ← e5]
      exact ⟨r0.trans (ref6 _ _ _), r1.trans (ref7 _ _ _ _ _ _), ra⟩) (Cert.Norm2RefIdeal.Value.run (F := Ideal) m' g')⟩

theorem frame_p : Cert.quiescent_Norm2 := fun m g _ => Cert.Norm2.Gen.frame m g
theorem frame_pi : Cert.quiescent_Norm2Ideal := fun m g _ => Gen.frame m g
theorem frame_ri : Cert.quiescent_Norm2RefIdeal := fun m g _ =>
  (θ_run Cert.Norm2RefIdeal.defs _ _).mono (fun r h => ⟨fun c => (h c).2.2, sem_eq_zero_of_no_sems (by decide) r.2⟩)
    (Cert.Norm2RefIdeal.Value.run (F := Ideal) m g)

end Cert.Norm2Ideal.Ew

end
-- ==== Proof.Ew.Norm1Bwd.lean ====
/- The gradient of the first normalisation: of its rows, the residual's added, and of the shift, the scale and the weight, which
   are sums over the blocks of a sequence's rows and over all blocks. -/
module

public import proofs.«01_k».proof.Proof.Gen.Norm1BwdIdeal.Value
public import proofs.«01_k».proof.Proof.Gen.Norm1BwdRefIdeal.Run
public import proofs.«01_k».proof.Proof.Gen.Norm1BwdRefIdeal.Read
public import proofs.«01_k».proof.Proof.Gen.Norm1Bwd.Frame
public import proofs.«01_k».proof.Proof.Ew.Norm
public import proofs.«01_k».proof.Defs
public import Idealize.ShloMosaic.Adequacy

@[expose] public section

set_option maxRecDepth 16384

noncomputable section

namespace Cert.Norm1BwdIdeal.Ew

open Cert.Norm1BwdIdeal Cert.Norm1BwdIdeal.Gen Idealize.ShloMosaic Idealize.ShloMosaic.TcCoe Idealize.SL.Sem Cert.Mm Cert.Ew

variable (m : (ℓ : Loc nD τ sig) → Buf (Elt Ideal) ℓ) (c : Dev nD)

theorem idx0 : ∀ t : Fin cfg0.N, win0_0.index t = ![t.val / 4, t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![t.val / 4, t.val % 4, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 4, 0, 0] := (by decide +kernel : ∀ t : Fin grid0.N, _)
theorem idx5 : ∀ t : Fin cfg0.N, win0_5.index t = ![t.val / 4, t.val % 4, 0] := (by decide +kernel : ∀ t : Fin grid0.N, _)
theorem idx6 : ∀ t : Fin cfg0.N, win0_6.index t = ![t.val / 4, 0, 0] := (by decide +kernel : ∀ t : Fin grid0.N, _)
theorem idx7 : ∀ t : Fin cfg0.N, win0_7.index t = ![t.val / 4, 0, 0] := (by decide +kernel : ∀ t : Fin grid0.N, _)
theorem idx8 : ∀ t : Fin cfg0.N, win0_8.index t = ![0, 0] := (by decide +kernel : ∀ t : Fin grid0.N, _)

theorem row_dh (t : Fin cfg0.N) {r : ℕ} (hr : r < 512) :
    at3 (iblk m c 0 t) 0 r = at3 (m ((c : Thread nD τ).loc main_arg0)) (t.val / 4) (t.val % 4 * 512 + r) := by
  refine row_eq _ _ (by decide) hr fun k hk => at3_of (n0 := 4) (n1 := 2048) (n2 := 1024) (m ((c : Thread nD τ).loc main_arg0)) _ ?_ ?_ ?_
  all_goals blk_simp [idx0]
  all_goals simp

theorem row_x (t : Fin cfg0.N) {r : ℕ} (hr : r < 512) :
    at3 (iblk m c 1 t) 0 r = at3 (m ((c : Thread nD τ).loc main_arg1)) (t.val / 4) (t.val % 4 * 512 + r) := by
  refine row_eq _ _ (by decide) hr fun k hk => at3_of (n0 := 4) (n1 := 2048) (n2 := 1024) (m ((c : Thread nD τ).loc main_arg1)) _ ?_ ?_ ?_
  all_goals blk_simp [idx1]
  all_goals simp

theorem at_res (t : Fin cfg0.N) (y : S1x512x1024.Idx) :
    iblk m c 2 t y = at3 (m ((c : Thread nD τ).loc main_arg2)) (t.val / 4 + (y 0).val) (t.val % 4 * 512 + (y 1).val) (y 2).val := by
  refine at3_of (n0 := 4) (n1 := 2048) (n2 := 1024) (m ((c : Thread nD τ).loc main_arg2)) _ ?_ ?_ ?_
  all_goals blk_simp [idx2]
  all_goals simp

theorem whole_g (t : Fin cfg0.N) : iblk m c 3 t = m ((c : Thread nD τ).loc main_arg3) := by
  funext y
  refine congrArg (m ((c : Thread nD τ).loc main_arg3)) (funext fun a => Fin.ext ?_)
  match a with
  | ⟨0, _⟩ => blk_simp [idx3]
  | ⟨1, _⟩ => blk_simp [idx3]

theorem row_sc (t : Fin cfg0.N) : at3 (iblk m c 4 t) 0 0 = at3 (m ((c : Thread nD τ).loc main_arg4)) (t.val / 4) 0 := by
  refine row_eq _ _ (by decide) (by decide) fun k hk => at3_of (n0 := 4) (n1 := 1) (n2 := 1024) (m ((c : Thread nD τ).loc main_arg4)) _ ?_ ?_ ?_
  all_goals blk_simp [idx4]
  all_goals simp

theorem pay_row (v : Vec Ideal S1x512x1024 .f32) (y : S512x1024.Idx) : k0_pay2 v y = at3 v 0 (y 0).val (y 1).val := by
  refine Eq.trans ?_ (at3_of v (ix3 0 (y 0) (y 1)) rfl rfl rfl)
  unfold k0_pay2
  pointwise

theorem pay_inv (v : Vec Ideal S1x512x1024 .f32) (y : S512x1.Idx) : k0_pay3 v y = inv (at3 v 0 (y 0).val) := by
  unfold k0_pay3
  pointwise [pay_row]
  exact congrArg (fun s => Ideal.rsqrt (Ideal.div s _ + _)) (sum_fin _ fun k => rfl)

theorem pay_unit (v : Vec Ideal S1x512x1024 .f32) (y : S512x1024.Idx) : k0_pay4 v y = unit (at3 v 0 (y 0).val) (y 1).val := by
  unfold k0_pay4 unit
  pointwise [pay_row, pay_inv]

theorem pay_dh (v : Vec Ideal S1x512x1024 .f32) (y : S512x1024.Idx) : k0_pay5 v y = at3 v 0 (y 0).val (y 1).val := by
  refine Eq.trans ?_ (at3_of v (ix3 0 (y 0) (y 1)) rfl rfl rfl)
  unfold k0_pay5
  pointwise

theorem pay_scaled (d : Vec Ideal S1x512x1024 .f32) (s : Vec Ideal S1x1x1024 .f32) (y : S512x1024.Idx) :
    k0_pay6 d s y = at3 d 0 (y 0).val (y 1).val * (1 + at3 s 0 0 (y 1).val) := by
  refine Eq.trans ?_ (congrArg (fun z => _ * (1 + z)) (at3_row s (y 1)).symm)
  unfold k0_pay6
  pointwise [pay_dh, Ideal.ofBits_one_f32]

theorem pay_dx (g : Vec Ideal S1x1024 .f32) (x d : Vec Ideal S1x512x1024 .f32) (s : Vec Ideal S1x1x1024 .f32) (y : S512x1024.Idx) :
    k0_pay7 g x d s y
      = dRow (at3 x 0 (y 0).val) (fun k => at3 d 0 (y 0).val k * (1 + at3 s 0 0 k) * at2 g 0 k) (y 1).val := by
  unfold k0_pay7
  pointwise [pay_scaled, pay_unit, pay_inv]
  unfold dRow
  refine congrArg₂ (fun a b => _ * (_ * a - _ * Ideal.div b _)) (at2_row g (y 1)).symm (sum_fin _ fun k => ?_)
  exact congrArg (fun a => _ * a * _) (at2_row g k).symm

theorem pay_dsc (g : Vec Ideal S1x1024 .f32) (x d : Vec Ideal S1x512x1024 .f32) (y : S512x1024.Idx) :
    k0_pay8 g x d y = at3 d 0 (y 0).val (y 1).val * (unit (at3 x 0 (y 0).val) (y 1).val * at2 g 0 (y 1).val) := by
  refine Eq.trans ?_ (congrArg (fun z => _ * (_ * z)) (at2_row g (y 1)).symm)
  unfold k0_pay8
  pointwise [pay_dh, pay_unit]

theorem pay_dg (x d : Vec Ideal S1x512x1024 .f32) (s : Vec Ideal S1x1x1024 .f32) (y : S512x1024.Idx) :
    k0_pay9 x d s y = at3 d 0 (y 0).val (y 1).val * (1 + at3 s 0 0 (y 1).val) * unit (at3 x 0 (y 0).val) (y 1).val := by
  unfold k0_pay9
  pointwise [pay_scaled, pay_unit]

theorem pay_res (v : FVec Ideal S512x1024 .f32) (w : Vec Ideal S1x512x1024 .f32) (y : S1x512x1024.Idx) :
    k0_pay10 v w y = w y + v (ix2 (y 1) (y 2)) := by
  unfold k0_pay10
  pointwise

theorem zero6 (y : S1x1x1024.Idx) : k0_pay11 (F := Ideal) y = 0 := by
  unfold k0_pay11
  pointwise

theorem zero7 (y : S1x1x1024.Idx) : k0_pay12 (F := Ideal) y = 0 := by
  unfold k0_pay12
  pointwise

theorem zero8 (y : S1x1024.Idx) : k0_pay13 (F := Ideal) y = 0 := by
  unfold k0_pay13
  pointwise

theorem pay_acc6 (v : FVec Ideal S512x1024 .f32) (z : Vec Ideal S1x1x1024 .f32) (y : S1x1x1024.Idx) :
    k0_pay14 v z y = z y + ∑ k : Fin 512, v (ix2 k (y 2)) := by
  unfold k0_pay14
  pointwise

theorem pay_acc7 (v : FVec Ideal S512x1024 .f32) (z : Vec Ideal S1x1x1024 .f32) (y : S1x1x1024.Idx) :
    k0_pay15 v z y = z y + ∑ k : Fin 512, v (ix2 k (y 2)) := by
  unfold k0_pay15
  pointwise

theorem pay_same (z : Vec Ideal S1x1024 .f32) : k0_pay16 z = z := by
  unfold k0_pay16
  exact shapeCast_self z _

theorem pay_acc8 (v : FVec Ideal S512x1024 .f32) (z : Vec Ideal S1x1024 .f32) (y : S1x1024.Idx) :
    k0_pay1 v z y = z y + ∑ k : Fin 512, v (ix2 k (y 1)) := by
  unfold k0_pay1
  pointwise

section
variable {d x : Vec Ideal S1x512x1024 .f32} {s : Vec Ideal S1x1x1024 .f32} (D X : Vec Ideal S4x2048x1024 .f32) (g : Vec Ideal S1x1024 .f32)
  (C : Vec Ideal S4x1x1024 .f32) {p q : ℕ} (hd : ∀ r, r < 512 → at3 d 0 r = at3 D p (q * 512 + r))
  (hx : ∀ r, r < 512 → at3 x 0 r = at3 X p (q * 512 + r)) (hs : at3 s 0 0 = at3 C p 0)

include hd hx hs in
/-- The rows' gradient, of block `q` of sequence `p`. -/
theorem block (y : S512x1024.Idx) : k0_pay7 g x d s y
    = dRow (at3 X p (q * 512 + (y 0).val)) (fun k => scaled D C p (q * 512 + (y 0).val) k * at2 g 0 k) (y 1).val := by
  rw [pay_dx, hd _ (y 0).isLt, hx _ (y 0).isLt, hs]
  rfl

include hd in
/-- What such a block adds to the three sums. -/
theorem step6 (z : Vec Ideal S1x1x1024 .f32) (y : S1x1x1024.Idx) : k0_pay14 (k0_pay5 d) z y
    = z y + ∑ b ∈ Finset.range 512, at3 D p (q * 512 + b) (y 2).val := by
  rw [pay_acc6]
  refine congrArg (z y + ·) (sum_fin _ fun k => ?_)
  rw [pay_dh, ← hd _ k.isLt]
  rfl

include hd hx in
theorem step7 (z : Vec Ideal S1x1x1024 .f32) (y : S1x1x1024.Idx) : k0_pay15 (k0_pay8 g x d) z y
    = z y + ∑ b ∈ Finset.range 512, ofScale D X g p (y 2).val (q * 512 + b) := by
  rw [pay_acc7]
  refine congrArg (z y + ·) (sum_fin _ fun k => ?_)
  unfold ofScale
  rw [pay_dsc, ← hd _ k.isLt, ← hx _ k.isLt]
  rfl

include hd hx hs in
theorem step8 {n : ℕ} (hn : n < 16) (hp : p = n / 4) (hq : q = n % 4) (z : Vec Ideal S1x1024 .f32) (y : S1x1024.Idx) :
    k0_pay1 (k0_pay9 x d s) z y = z y + ∑ b ∈ Finset.range 512, ofWeight D X C (y 1).val (n % 16 * 512 + b) := by
  rw [pay_acc8]
  refine congrArg (z y + ·) (sum_fin _ fun k => ?_)
  have hk : k.val < 512 := k.isLt
  unfold ofWeight scaled
  rw [show (n % 16 * 512 + k.val) / 2048 = p by omega, show (n % 16 * 512 + k.val) % 2048 = q * 512 + k.val by omega,
    pay_dg, ← hd _ k.isLt, ← hx _ k.isLt, ← hs]
  rfl

end

theorem out5 (t : Fin cfg0.N) : (outsAt0 m c t.val t.isLt).1
    = k0_pay10 (k0_pay7 (iblk m c 3 t) (iblk m c 1 t) (iblk m c 0 t) (iblk m c 4 t)) (iblk m c 2 t) := by
  by_cases h4 : t.val % 4 = 0
  · by_cases h : t.val % 16 = 0
    · rw [outsAt0_A m c t h4 h]
      frame_out
    · rw [outsAt0_C m c t h4 h]
      frame_out
  · rw [outsAt0_B m c t h4 (by omega)]
    frame_out

theorem acc6 (t : Fin cfg0.N) {r : ℕ} (hr : t.val % 4 = r) (y : S1x1x1024.Idx) :
    (outsAt0 m c t.val t.isLt).2.1 y = ∑ k ∈ Finset.range ((r + 1) * 512), at3 (m ((c : Thread nD τ).loc main_arg0)) (t.val / 4) k (y 2).val := by
  refine acc_eq (fun n h => (outsAt0 m c n h).2.1) 4 512 (fun q y k => at3 (m ((c : Thread nD τ).loc main_arg0)) q k (y 2).val) (fun t h y => ?_)
    (fun t h y => ?_) t hr y
  · by_cases h16 : t.val % 16 = 0
    · rw [outsAt0_A m c t h h16]
      frame_out
      rw [step6 _ fun _ => row_dh m c t, zero6, zero_add]
    · rw [outsAt0_C m c t h h16]
      frame_out
      rw [step6 _ fun _ => row_dh m c t, zero6, zero_add]
  · rw [outsAt0_B m c t h (by omega)]
    frame_out
    rw [step6 _ fun _ => row_dh m c t]

theorem acc7 (t : Fin cfg0.N) {r : ℕ} (hr : t.val % 4 = r) (y : S1x1x1024.Idx) :
    (outsAt0 m c t.val t.isLt).2.2.1 y = ∑ k ∈ Finset.range ((r + 1) * 512), ofScale (m ((c : Thread nD τ).loc main_arg0)) (m ((c : Thread nD τ).loc main_arg1)) (m ((c : Thread nD τ).loc main_arg3)) (t.val / 4) (y 2).val k := by
  refine acc_eq (fun n h => (outsAt0 m c n h).2.2.1) 4 512 (fun q y k => ofScale (m ((c : Thread nD τ).loc main_arg0)) (m ((c : Thread nD τ).loc main_arg1)) (m ((c : Thread nD τ).loc main_arg3)) q (y 2).val k)
    (fun t h y => ?_) (fun t h y => ?_) t hr y
  · by_cases h16 : t.val % 16 = 0
    · rw [outsAt0_A m c t h h16]
      frame_out
      rw [step7 _ _ _ (fun _ => row_dh m c t) fun _ => row_x m c t, zero7, zero_add, whole_g]
    · rw [outsAt0_C m c t h h16]
      frame_out
      rw [step7 _ _ _ (fun _ => row_dh m c t) fun _ => row_x m c t, zero7, zero_add, whole_g]
  · rw [outsAt0_B m c t h (by omega)]
    frame_out
    rw [step7 _ _ _ (fun _ => row_dh m c t) fun _ => row_x m c t, whole_g]

theorem acc8 (t : Fin cfg0.N) {r : ℕ} (hr : t.val % 16 = r) (y : S1x1024.Idx) :
    (outsAt0 m c t.val t.isLt).2.2.2 y = ∑ k ∈ Finset.range ((r + 1) * 512), ofWeight (m ((c : Thread nD τ).loc main_arg0)) (m ((c : Thread nD τ).loc main_arg1)) (m ((c : Thread nD τ).loc main_arg4)) (y 1).val k := by
  refine acc_eq (fun n h => (outsAt0 m c n h).2.2.2) 16 512 (fun _ y k => ofWeight (m ((c : Thread nD τ).loc main_arg0)) (m ((c : Thread nD τ).loc main_arg1)) (m ((c : Thread nD τ).loc main_arg4)) (y 1).val k)
    (fun t h y => ?_) (fun t h y => ?_) t hr y
  · rw [outsAt0_A m c t (by omega) h]
    frame_out
    rw [pay_same, step8 _ _ _ (fun _ => row_dh m c t) (fun _ => row_x m c t) (row_sc m c t) t.isLt rfl rfl, zero8, zero_add]
  · by_cases h4 : t.val % 4 = 0
    · rw [outsAt0_C m c t h4 h]
      frame_out
      rw [pay_same, step8 _ _ _ (fun _ => row_dh m c t) (fun _ => row_x m c t) (row_sc m c t) t.isLt rfl rfl]
    · rw [outsAt0_B m c t h4 h]
      frame_out
      rw [pay_same, step8 _ _ _ (fun _ => row_dh m c t) (fun _ => row_x m c t) (row_sc m c t) t.isLt rfl rfl]

theorem final5 : (dats m 0 c).arrAt 5 cfg0.N = dRows (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, out5, pay_res, block _ _ _ _ (fun _ => row_dh m c t) (fun _ => row_x m c t) (row_sc m c t), at_res, whole_g]
  unfold dRows
  rw [at3_of (m ((c : Thread nD τ).loc main_arg2)) _ rfl rfl rfl]
  blk_simp [idx5]

theorem final6 : (dats m 0 c).arrAt 6 cfg0.N = dShift (m ((c : Thread nD τ).loc main_arg0)) := by
  refine (dats m 0 c).arrAt_eq_of_covers 6 _ (by decide +kernel) fun t hf y => ?_
  have h3 := (flush0_6 t).mp hf
  have h0 : (y 0).val = 0 := by
    have : (y 0).val < 1 := (y 0).isLt
    omega
  blk_simp
  rw [after0_6, acc6 m c t h3]
  unfold dShift
  blk_simp [idx6]

theorem final7 : (dats m 0 c).arrAt 7 cfg0.N = dScale (m ((c : Thread nD τ).loc main_arg0)) (m ((c : Thread nD τ).loc main_arg1))
    (m ((c : Thread nD τ).loc main_arg3)) := by
  refine (dats m 0 c).arrAt_eq_of_covers 7 _ (by decide +kernel) fun t hf y => ?_
  have h3 := (flush0_7 t).mp hf
  have h0 : (y 0).val = 0 := by
    have : (y 0).val < 1 := (y 0).isLt
    omega
  blk_simp
  rw [after0_7, acc7 m c t h3]
  unfold dScale
  blk_simp [idx7]

theorem final8 : (dats m 0 c).arrAt 8 cfg0.N = dWeight (m ((c : Thread nD τ).loc main_arg0)) (m ((c : Thread nD τ).loc main_arg1))
    (m ((c : Thread nD τ).loc main_arg4)) := by
  refine (dats m 0 c).arrAt_eq_of_covers 8 _ (by decide +kernel) fun t hf y => ?_
  have h15 := (flush0_8 t).mp hf
  blk_simp
  rw [after0_8, acc8 m c t h15]
  unfold dWeight
  blk_simp [idx8]

section
open Cert.Norm1BwdRefIdeal.Read

variable (dh x res : Vec Ideal S4x2048x1024 .f32) (g : Vec Ideal S1x1024 .f32) (sc : Vec Ideal S4x1x1024 .f32)

theorem ref_sq (i : Cert.Norm1BwdRefIdeal.S4x2048.Idx) : val_main_v2 (F := Ideal) x i
    = ∑ k ∈ Finset.range 1024, at3 x (i 0).val (i 1).val k * at3 x (i 0).val (i 1).val k := by
  rw [val_main_v2_apply]
  refine (congrArg₂ (· + ·) Ideal.ofBits_zero_f32 (sum_fin _ fun k => ?_)).trans (zero_add _)
  exact congrArg₂ (· * ·) (at3_of x _ rfl rfl rfl) (at3_of x _ rfl rfl rfl)

theorem ref_den (i : Cert.Norm1BwdRefIdeal.S4x2048x1.Idx) : val_main_v7 (F := Ideal) x i = den (at3 x (i 0).val (i 1).val) := by
  rw [val_main_v7_apply, val_main_v6_apply, val_main_v5_apply, val_main_v4_apply, val_main_v3_apply, ref_sq]
  rfl

theorem ref_inv (i : Cert.Norm1BwdRefIdeal.S4x2048x1.Idx) : val_main_v8 (F := Ideal) x i = Cert.Ew.inv (at3 x (i 0).val (i 1).val) := by
  rw [val_main_v8_apply, ref_den]
  rfl

theorem ref_unit (i : S4x2048x1024.Idx) : val_main_v13 (F := Ideal) x i = unit (at3 x (i 0).val (i 1).val) (i 2).val := by
  rw [val_main_v13_apply, val_main_v12_apply, ref_inv, at3_of x i rfl rfl rfl]
  rfl

theorem ref_g (i : S4x2048x1024.Idx) : val_main_v16 (F := Ideal) g i = at2 g 0 (i 2).val := by
  rw [val_main_v16_apply, val_main_v15_apply, val_main_v14_apply]
  exact at2_of g _ rfl (Nat.mod_eq_of_lt (i 2).isLt)

theorem ref_sc (i : S4x1x1024.Idx) : val_main_v19 (F := Ideal) sc i = 1 + at3 sc (i 0).val 0 (i 2).val := by
  rw [val_main_v19_apply, val_main_v18_apply, val_main_cst_4_apply, Ideal.ofBits_def, Ideal.ofBits_one_f32]
  refine congrArg (1 + ·) (at3_of sc i rfl ?_ rfl)
  have : (i 1).val < 1 := (i 1).isLt
  omega

theorem ref_dh : val_main_v24 (F := Ideal) dh = dh := shapeCast_self dh _

theorem ref_scaled (i : S4x2048x1024.Idx) : val_main_v31 (F := Ideal) dh sc i = scaled dh sc (i 0).val (i 1).val (i 2).val := by
  rw [val_main_v31_apply, val_main_v30_apply, ref_sc, ref_dh, at3_of dh i rfl rfl rfl]
  rfl

theorem ref_d (i : S4x2048x1024.Idx) : val_main_v36 (F := Ideal) dh g sc i = scaled dh sc (i 0).val (i 1).val (i 2).val * at2 g 0 (i 2).val := by
  rw [val_main_v36_apply, ref_scaled, ← ref_g]
  rfl

theorem ref_dot (i : Cert.Norm1BwdRefIdeal.S4x2048.Idx) : val_main_v40 (F := Ideal) dh x g sc i
    = ∑ k ∈ Finset.range 1024, at3 x (i 0).val (i 1).val k * (scaled dh sc (i 0).val (i 1).val k * at2 g 0 k) := by
  rw [val_main_v40_apply]
  refine (congrArg₂ (· + ·) Ideal.ofBits_zero_f32 (sum_fin _ fun k => ?_)).trans (zero_add _)
  exact congrArg₂ (· * ·) (at3_of x _ rfl rfl rfl) (ref_d dh g sc _)

theorem idx_row (i : Cert.Norm1BwdRefIdeal.S4x2048x1.Idx) :
    (idx_main_v41 i 0).val = (i 0).val ∧ (idx_main_v41 i 1).val = (i 1).val := by
  have h1 : (i 1).val < 2048 := (i 1).isLt
  have h2 : (i 2).val < 1 := (i 2).isLt
  constructor
  · show (((i 0).val * 2048 + (i 1).val) * 1 + (i 2).val) / 2048 = _
    omega
  · show (((i 0).val * 2048 + (i 1).val) * 1 + (i 2).val) % 2048 = _
    omega

theorem ref_slope (i : Cert.Norm1BwdRefIdeal.S4x2048x1.Idx) : val_main_v46 (F := Ideal) dh x g sc i
    = slope (at3 x (i 0).val (i 1).val) (fun k => scaled dh sc (i 0).val (i 1).val k * at2 g 0 k) := by
  rw [val_main_v46_apply, val_main_v45_apply, val_main_v44_apply, val_main_v41_apply, ref_dot, val_main_v11_apply, val_main_v10_apply,
    val_main_v9_apply, ref_inv, ref_den, (idx_row i).1, (idx_row i).2]
  rfl

theorem ref_slope' (i : S4x2048x1024.Idx) : val_main_v48 (F := Ideal) dh x g sc i
    = slope (at3 x (i 0).val (i 1).val) (fun k => scaled dh sc (i 0).val (i 1).val k * at2 g 0 k) := by
  rw [val_main_v48_apply, val_main_v47_apply, Fin.sum_univ_one, ref_slope]
  exact (congrArg (· + _) Ideal.ofBits_zero_f32).trans (zero_add _)

theorem ref5 : val_main_v53 (F := Ideal) dh x res g sc = dRows dh x res g sc := by
  funext i
  rw [val_main_v53_apply, val_main_v52_apply, val_main_v51_apply, val_main_v50_apply, val_main_v49_apply, val_main_v43_apply, val_main_v42_apply,
    ref_inv, ref_d, ref_slope']
  unfold dRows
  rw [← dRow_eq _ _ (i 2).isLt, ← at3_of x i rfl rfl rfl]
  rfl

theorem idx_seq (i : S4x1x1024.Idx) (k : Fin 2048) : idx_main_v25 (idx_main_v26 i) k = ix3 (i 0) k (i 2) := by
  have h1 : (i 1).val < 1 := (i 1).isLt
  have h2 : (i 2).val < 1024 := (i 2).isLt
  funext a
  match a with
  | ⟨0, _⟩ => exact Fin.ext (show (((i 0).val * 1 + (i 1).val) * 1024 + (i 2).val) / 1024 = (i 0).val by omega)
  | ⟨1, _⟩ => rfl
  | ⟨2, _⟩ => exact Fin.ext (show (((i 0).val * 1 + (i 1).val) * 1024 + (i 2).val) % 1024 = (i 2).val by omega)

theorem ref6 : val_main_v26 (F := Ideal) dh = dShift dh := by
  funext i
  rw [val_main_v26_apply, val_main_v25_apply]
  refine (congrArg₂ (· + ·) Ideal.ofBits_zero_f32 (sum_fin _ fun k => ?_)).trans (zero_add _)
  rw [idx_seq]
  exact at3_of dh _ rfl rfl rfl

theorem ref7 : val_main_v29 (F := Ideal) dh x g = dScale dh x g := by
  funext i
  rw [val_main_v29_apply, val_main_v28_apply]
  refine (congrArg₂ (· + ·) Ideal.ofBits_zero_f32 (sum_fin _ fun k => ?_)).trans (zero_add _)
  rw [val_main_v27_apply, val_main_v17_apply, ref_unit, ref_g, ref_dh, show idx_main_v28 (idx_main_v29 i) k = _ from idx_seq i k]
  exact (mul_comm _ _).trans (congrArg (· * (unit (at3 x (i 0).val k.val) (i 2).val * at2 g 0 (i 2).val))
    (at3_of dh (ix3 (i 0) k (i 2)) rfl rfl rfl))

theorem ref8 : val_main_v38 (F := Ideal) dh x sc = dWeight dh x sc := by
  funext i
  rw [val_main_v38_apply]
  have hk (j : Cert.Norm1BwdRefIdeal.S1024.Idx) : val_main_v33 (F := Ideal) dh x sc j
      = ∑ a ∈ Finset.range 4, ∑ b ∈ Finset.range 2048, scaled dh sc a b (j 0).val * unit (at3 x a b) (j 0).val := by
    refine (reduce_01 _ (val_main_v32 (F := Ideal) dh x sc) _ j).trans ?_
    refine (congrArg (· + _) Ideal.ofBits_zero_f32).trans ((zero_add _).trans ?_)
    refine Finset.sum_congr rfl fun a ha => Finset.sum_congr rfl fun b hb => ?_
    refine (at3_of (val_main_v32 (F := Ideal) dh x sc) (ix3 ⟨a, Finset.mem_range.mp ha⟩ ⟨b, Finset.mem_range.mp hb⟩ (j 0)) rfl rfl rfl).symm.trans ?_
    rw [val_main_v32_apply, ref_unit, ref_scaled]
    exact mul_comm _ _
  refine (reduce_01 _ (val_main_v34 (F := Ideal) dh x sc) _ _).trans ?_
  refine (congrArg (· + _) Ideal.ofBits_zero_f32).trans ((zero_add _).trans ?_)
  rw [Finset.sum_range_one, Finset.sum_range_one]
  refine (at3_of (val_main_v34 (F := Ideal) dh x sc) (ix3 0 0 (i 1)) rfl rfl rfl).symm.trans ?_
  rw [val_main_v34_apply, hk]
  unfold dWeight ofWeight
  rw [Finset.sum_range_mul_split, show (idx_main_v34 (ix3 0 0 (i 1)) 0).val = (i 1).val from (by
    show (0 * 1 + 0) * 1024 + (i 1).val = (i 1).val
    omega)]
  refine Finset.sum_congr rfl fun a _ => Finset.sum_congr rfl fun b hb => ?_
  have h := Finset.mem_range.mp hb
  rw [show (a * 2048 + b) / 2048 = a by omega, show (a * 2048 + b) % 2048 = b by omega]

end

theorem alg : Cert.algebraic_Norm1BwdIdeal_Norm1BwdRefIdeal := fun m g m' g' _ hm =>
  ⟨fun c => dRows (m ((c : Thread nD τ).loc main_arg0)) (m ((c : Thread nD τ).loc main_arg1)) (m ((c : Thread nD τ).loc main_arg2))
      (m ((c : Thread nD τ).loc main_arg3)) (m ((c : Thread nD τ).loc main_arg4)),
    fun c => dShift (m ((c : Thread nD τ).loc main_arg0)),
    fun c => dScale (m ((c : Thread nD τ).loc main_arg0)) (m ((c : Thread nD τ).loc main_arg1)) (m ((c : Thread nD τ).loc main_arg3)),
    fun c => dWeight (m ((c : Thread nD τ).loc main_arg0)) (m ((c : Thread nD τ).loc main_arg1)) (m ((c : Thread nD τ).loc main_arg4)),
    (θ_run defs _ _).mono (fun _ h c => by
      obtain ⟨r0, r1, r2, r3, ra⟩ := h c
      exact ⟨r0.trans (final5 m c), r1.trans (final6 m c), r2.trans (final7 m c), r3.trans (final8 m c), ra⟩) (Value.run_blocks m g),
    (θ_run Cert.Norm1BwdRefIdeal.defs _ _).mono (fun _ h c => by
      obtain ⟨e0, e1, e2, e3, e4⟩ := hm c
      obtain ⟨r0, r1, r2, r3, ra⟩ := h c
      beta_reduce
      rw [← e0, ← e1, ← e2, ← e3, ← e4]
      exact ⟨r0.trans (ref5 _ _ _ _ _), r1.trans (ref6 _), r2.trans (ref7 _ _ _), r3.trans (ref8 _ _ _), ra⟩)
      (Cert.Norm1BwdRefIdeal.Value.run (F := Ideal) m' g')⟩

theorem frame_p : Cert.quiescent_Norm1Bwd := fun m g _ => Cert.Norm1Bwd.Gen.frame m g
theorem frame_pi : Cert.quiescent_Norm1BwdIdeal := fun m g _ => Gen.frame m g
theorem frame_ri : Cert.quiescent_Norm1BwdRefIdeal := fun m g _ =>
  (θ_run Cert.Norm1BwdRefIdeal.defs _ _).mono (fun r h => ⟨fun c => (h c).2.2.2.2, sem_eq_zero_of_no_sems (by decide) r.2⟩)
    (Cert.Norm1BwdRefIdeal.Value.run (F := Ideal) m g)

end Cert.Norm1BwdIdeal.Ew

end
-- ==== Proof.Ew.Norm2Bwd.lean ====
/- The gradient of the second normalisation and of the gated residual before it: of the rows, the gated branch, the gate, the
   shift, the scale and the weight. The rows, the three sums of the first normalisation's gradient and its reference return, on
   other arguments; two results come to them. -/
module

public import proofs.«01_k».proof.Proof.Gen.Norm2BwdIdeal.Value
public import proofs.«01_k».proof.Proof.Gen.Norm2BwdRefIdeal.Run
public import proofs.«01_k».proof.Proof.Gen.Norm2BwdRefIdeal.Read
public import proofs.«01_k».proof.Proof.Gen.Norm2Bwd.Frame
public import proofs.«01_k».proof.Proof.Ew.Norm1Bwd
public import proofs.«01_k».proof.Defs
public import Idealize.ShloMosaic.Adequacy

@[expose] public section

set_option maxRecDepth 16384

noncomputable section

namespace Cert.Norm2BwdIdeal.Ew

open Cert.Norm2BwdIdeal Cert.Norm2BwdIdeal.Gen Idealize.ShloMosaic Idealize.ShloMosaic.TcCoe Idealize.SL.Sem Cert.Mm Cert.Ew

variable (m : (ℓ : Loc nD τ sig) → Buf (Elt Ideal) ℓ) (c : Dev nD)

theorem idx0 : ∀ t : Fin cfg0.N, win0_0.index t = ![t.val / 4, t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![t.val / 4, t.val % 4, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 4, 0, 0] := (by decide +kernel : ∀ t : Fin grid0.N, _)
theorem idx5 : ∀ t : Fin cfg0.N, win0_5.index t = ![t.val / 4, t.val % 4, 0] := (by decide +kernel : ∀ t : Fin grid0.N, _)
theorem idx6 : ∀ t : Fin cfg0.N, win0_6.index t = ![t.val / 4, 0, 0] := (by decide +kernel : ∀ t : Fin grid0.N, _)
theorem idx7 : ∀ t : Fin cfg0.N, win0_7.index t = ![t.val / 4, t.val % 4, 0] := (by decide +kernel : ∀ t : Fin grid0.N, _)
theorem idx8 : ∀ t : Fin cfg0.N, win0_8.index t = ![t.val / 4, 0, 0] := (by decide +kernel : ∀ t : Fin grid0.N, _)
theorem idx9 : ∀ t : Fin cfg0.N, win0_9.index t = ![t.val / 4, t.val % 4, 0] := (by decide +kernel : ∀ t : Fin grid0.N, _)
theorem idx10 : ∀ t : Fin cfg0.N, win0_10.index t = ![t.val / 4, 0, 0] := (by decide +kernel : ∀ t : Fin grid0.N, _)
theorem idx11 : ∀ t : Fin cfg0.N, win0_11.index t = ![t.val / 4, 0, 0] := (by decide +kernel : ∀ t : Fin grid0.N, _)
theorem idx12 : ∀ t : Fin cfg0.N, win0_12.index t = ![0, 0] := (by decide +kernel : ∀ t : Fin grid0.N, _)

theorem row_dh (t : Fin cfg0.N) {r : ℕ} (hr : r < 512) :
    at3 (iblk m c 0 t) 0 r = at3 (m ((c : Thread nD τ).loc main_arg0)) (t.val / 4) (t.val % 4 * 512 + r) := by
  refine row_eq _ _ (by decide) hr fun k hk => at3_of (n0 := 4) (n1 := 2048) (n2 := 1024) (m ((c : Thread nD τ).loc main_arg0)) _ ?_ ?_ ?_
  all_goals blk_simp [idx0]
  all_goals simp

theorem row_x (t : Fin cfg0.N) {r : ℕ} (hr : r < 512) :
    at3 (iblk m c 1 t) 0 r = at3 (m ((c : Thread nD τ).loc main_arg1)) (t.val / 4) (t.val % 4 * 512 + r) := by
  refine row_eq _ _ (by decide) hr fun k hk => at3_of (n0 := 4) (n1 := 2048) (n2 := 1024) (m ((c : Thread nD τ).loc main_arg1)) _ ?_ ?_ ?_
  all_goals blk_simp [idx1]
  all_goals simp

theorem row_res (t : Fin cfg0.N) {r : ℕ} (hr : r < 512) :
    at3 (iblk m c 2 t) 0 r = at3 (m ((c : Thread nD τ).loc main_arg2)) (t.val / 4) (t.val % 4 * 512 + r) := by
  refine row_eq _ _ (by decide) hr fun k hk => at3_of (n0 := 4) (n1 := 2048) (n2 := 1024) (m ((c : Thread nD τ).loc main_arg2)) _ ?_ ?_ ?_
  all_goals blk_simp [idx2]
  all_goals simp

theorem whole_g (t : Fin cfg0.N) : iblk m c 3 t = (m ((c : Thread nD τ).loc main_arg3)) := by
  funext y
  refine congrArg (m ((c : Thread nD τ).loc main_arg3)) (funext fun a => Fin.ext ?_)
  match a with
  | ⟨0, _⟩ => blk_simp [idx3]
  | ⟨1, _⟩ => blk_simp [idx3]

theorem row_sc (t : Fin cfg0.N) : at3 (iblk m c 4 t) 0 0 = at3 (m ((c : Thread nD τ).loc main_arg4)) (t.val / 4) 0 := by
  refine row_eq _ _ (by decide) (by decide) fun k hk => at3_of (n0 := 4) (n1 := 1) (n2 := 1024) (m ((c : Thread nD τ).loc main_arg4)) _ ?_ ?_ ?_
  all_goals blk_simp [idx4]
  all_goals simp

theorem row_y (t : Fin cfg0.N) {r : ℕ} (hr : r < 512) :
    at3 (iblk m c 5 t) 0 r = at3 (m ((c : Thread nD τ).loc main_arg5)) (t.val / 4) (t.val % 4 * 512 + r) := by
  refine row_eq _ _ (by decide) hr fun k hk => at3_of (n0 := 4) (n1 := 2048) (n2 := 1024) (m ((c : Thread nD τ).loc main_arg5)) _ ?_ ?_ ?_
  all_goals blk_simp [idx5]
  all_goals simp

theorem row_gt (t : Fin cfg0.N) : at3 (iblk m c 6 t) 0 0 = at3 (m ((c : Thread nD τ).loc main_arg6)) (t.val / 4) 0 := by
  refine row_eq _ _ (by decide) (by decide) fun k hk => at3_of (n0 := 4) (n1 := 1) (n2 := 1024) (m ((c : Thread nD τ).loc main_arg6)) _ ?_ ?_ ?_
  all_goals blk_simp [idx6]
  all_goals simp

theorem pay_res (v : FVec Ideal S512x1024 .f32) (w : Vec Ideal S1x512x1024 .f32) (y : S512x1024.Idx) :
    k0_pay13 v w y = at3 w 0 (y 0).val (y 1).val + v y := by
  refine Eq.trans ?_ (congrArg (· + v y) (at3_of w (ix3 0 (y 0) (y 1)) rfl rfl rfl))
  unfold k0_pay13
  pointwise

theorem pay_rows (v : FVec Ideal S512x1024 .f32) (w : Vec Ideal S1x512x1024 .f32) (y : S1x512x1024.Idx) :
    k0_pay14 v w y = k0_pay13 v w (ix2 (y 1) (y 2)) := by
  unfold k0_pay14
  pointwise

theorem pay_gated (v : FVec Ideal S512x1024 .f32) (s : Vec Ideal S1x1x1024 .f32) (y : S1x512x1024.Idx) :
    k0_pay2 v s y = at3 s 0 0 (y 2).val * v (ix2 (y 1) (y 2)) := by
  refine Eq.trans ?_ (congrArg (· * _) (at3_row s (y 2)).symm)
  unfold k0_pay2
  pointwise

theorem zero8 (y : S1x1x1024.Idx) : k0_pay3 (F := Ideal) y = 0 := by
  unfold k0_pay3
  pointwise

theorem pay_acc8 (v : FVec Ideal S512x1024 .f32) (z : Vec Ideal S1x1x1024 .f32) (w : Vec Ideal S1x512x1024 .f32) (y : S1x1x1024.Idx) :
    k0_pay4 v z w y = z y + ∑ k : Fin 512, v (ix2 k (y 2)) * w (ix3 0 k (y 2)) := by
  unfold k0_pay4
  pointwise

/-- The gradient of the rows, of the kernel's arguments. -/
def rows : Vec Ideal S4x2048x1024 .f32 := dRows (m ((c : Thread nD τ).loc main_arg0)) (m ((c : Thread nD τ).loc main_arg1)) (m ((c : Thread nD τ).loc main_arg2)) (m ((c : Thread nD τ).loc main_arg3)) (m ((c : Thread nD τ).loc main_arg4))

theorem block (t : Fin cfg0.N) (y : S512x1024.Idx) :
    k0_pay13 (k0_pay10 (iblk m c 3 t) (iblk m c 1 t) (iblk m c 0 t) (iblk m c 4 t)) (iblk m c 2 t) y
      = at3 (rows m c) (t.val / 4) (t.val % 4 * 512 + (y 0).val) (y 1).val := by
  have ht : t.val < 16 := t.isLt
  have h0 : (y 0).val < 512 := (y 0).isLt
  rw [pay_res, row_res m c t h0, whole_g]
  refine Eq.trans ?_ (at3_of (rows m c) (ix3 ⟨t.val / 4, by omega⟩ ⟨t.val % 4 * 512 + (y 0).val, by omega⟩ (y 1)) rfl rfl rfl)
  refine congrArg₂ (· + ·) (at3_of (m ((c : Thread nD τ).loc main_arg2)) (ix3 ⟨t.val / 4, by omega⟩ ⟨t.val % 4 * 512 + (y 0).val, by omega⟩ (y 1)) rfl rfl rfl).symm ?_
  exact Cert.Norm1BwdIdeal.Ew.block (m ((c : Thread nD τ).loc main_arg0)) (m ((c : Thread nD τ).loc main_arg1)) (m ((c : Thread nD τ).loc main_arg3)) (m ((c : Thread nD τ).loc main_arg4)) (fun _ => row_dh m c t) (fun _ => row_x m c t) (row_sc m c t) y

theorem step8 (z : Vec Ideal S1x1x1024 .f32) (t : Fin cfg0.N) (y : S1x1x1024.Idx) :
    k0_pay4 (k0_pay13 (k0_pay10 (iblk m c 3 t) (iblk m c 1 t) (iblk m c 0 t) (iblk m c 4 t)) (iblk m c 2 t)) z (iblk m c 5 t) y
      = z y + ∑ b ∈ Finset.range 512, at3 (rows m c) (t.val / 4) (t.val % 4 * 512 + b) (y 2).val * at3 (m ((c : Thread nD τ).loc main_arg5)) (t.val / 4) (t.val % 4 * 512 + b) (y 2).val := by
  rw [pay_acc8]
  refine congrArg (z y + ·) (sum_fin _ fun k => ?_)
  rw [block, ← row_y m c t k.isLt]
  exact congrArg (_ * ·) (at3_of (iblk m c 5 t) _ rfl rfl rfl)

theorem out7 (t : Fin cfg0.N) : (outsAt0 m c t.val t.isLt).1
    = k0_pay2 (k0_pay13 (k0_pay10 (iblk m c 3 t) (iblk m c 1 t) (iblk m c 0 t) (iblk m c 4 t)) (iblk m c 2 t)) (iblk m c 6 t) := by
  by_cases h4 : t.val % 4 = 0
  · by_cases h : t.val % 16 = 0
    · rw [outsAt0_A m c t h4 h h4]
      frame_out
    · rw [outsAt0_C m c t h4 h h4]
      frame_out
  · rw [outsAt0_B m c t h4 (by omega) h4]
    frame_out

theorem out9 (t : Fin cfg0.N) : (outsAt0 m c t.val t.isLt).2.2.1
    = k0_pay14 (k0_pay10 (iblk m c 3 t) (iblk m c 1 t) (iblk m c 0 t) (iblk m c 4 t)) (iblk m c 2 t) := by
  by_cases h4 : t.val % 4 = 0
  · by_cases h : t.val % 16 = 0
    · rw [outsAt0_A m c t h4 h h4]
      frame_out
    · rw [outsAt0_C m c t h4 h h4]
      frame_out
  · rw [outsAt0_B m c t h4 (by omega) h4]
    frame_out

theorem acc8 (t : Fin cfg0.N) {r : ℕ} (hr : t.val % 4 = r) (y : S1x1x1024.Idx) : (outsAt0 m c t.val t.isLt).2.1 y
    = ∑ k ∈ Finset.range ((r + 1) * 512), at3 (rows m c) (t.val / 4) k (y 2).val * at3 (m ((c : Thread nD τ).loc main_arg5)) (t.val / 4) k (y 2).val := by
  refine acc_eq (fun n h => (outsAt0 m c n h).2.1) 4 512 (fun q y k => at3 (rows m c) q k (y 2).val * at3 (m ((c : Thread nD τ).loc main_arg5)) q k (y 2).val)
    (fun t h y => ?_) (fun t h y => ?_) t hr y
  · by_cases h16 : t.val % 16 = 0
    · rw [outsAt0_A m c t h h16 h]
      frame_out
      rw [step8, zero8, zero_add]
    · rw [outsAt0_C m c t h h16 h]
      frame_out
      rw [step8, zero8, zero_add]
  · rw [outsAt0_B m c t h (by omega) h]
    frame_out
    rw [step8]

theorem acc10 (t : Fin cfg0.N) {r : ℕ} (hr : t.val % 4 = r) (y : S1x1x1024.Idx) :
    (outsAt0 m c t.val t.isLt).2.2.2.1 y = ∑ k ∈ Finset.range ((r + 1) * 512), at3 (m ((c : Thread nD τ).loc main_arg0)) (t.val / 4) k (y 2).val := by
  have step (t : Fin cfg0.N) (z : Vec Ideal S1x1x1024 .f32) (y : S1x1x1024.Idx) : k0_pay18 (k0_pay8 (iblk m c 0 t)) z y
      = z y + ∑ b ∈ Finset.range 512, at3 (m ((c : Thread nD τ).loc main_arg0)) (t.val / 4) (t.val % 4 * 512 + b) (y 2).val :=
    Cert.Norm1BwdIdeal.Ew.step6 (m ((c : Thread nD τ).loc main_arg0)) (fun _ => row_dh m c t) z y
  have zero (y : S1x1x1024.Idx) : k0_pay15 (F := Ideal) y = 0 := Cert.Norm1BwdIdeal.Ew.zero6 y
  refine acc_eq (fun n h => (outsAt0 m c n h).2.2.2.1) 4 512 (fun q y k => at3 (m ((c : Thread nD τ).loc main_arg0)) q k (y 2).val) (fun t h y => ?_) (fun t h y => ?_) t hr y
  · by_cases h16 : t.val % 16 = 0
    · rw [outsAt0_A m c t h h16 h]
      frame_out
      rw [step, zero, zero_add]
    · rw [outsAt0_C m c t h h16 h]
      frame_out
      rw [step, zero, zero_add]
  · rw [outsAt0_B m c t h (by omega) h]
    frame_out
    rw [step]

theorem acc11 (t : Fin cfg0.N) {r : ℕ} (hr : t.val % 4 = r) (y : S1x1x1024.Idx) :
    (outsAt0 m c t.val t.isLt).2.2.2.2.1 y = ∑ k ∈ Finset.range ((r + 1) * 512), ofScale (m ((c : Thread nD τ).loc main_arg0)) (m ((c : Thread nD τ).loc main_arg1)) (m ((c : Thread nD τ).loc main_arg3)) (t.val / 4) (y 2).val k := by
  have step (t : Fin cfg0.N) (z : Vec Ideal S1x1x1024 .f32) (y : S1x1x1024.Idx) :
      k0_pay19 (k0_pay11 (iblk m c 3 t) (iblk m c 1 t) (iblk m c 0 t)) z y
        = z y + ∑ b ∈ Finset.range 512, ofScale (m ((c : Thread nD τ).loc main_arg0)) (m ((c : Thread nD τ).loc main_arg1)) (m ((c : Thread nD τ).loc main_arg3)) (t.val / 4) (y 2).val (t.val % 4 * 512 + b) := by
    rw [whole_g]
    exact Cert.Norm1BwdIdeal.Ew.step7 (m ((c : Thread nD τ).loc main_arg0)) (m ((c : Thread nD τ).loc main_arg1)) (m ((c : Thread nD τ).loc main_arg3)) (fun _ => row_dh m c t) (fun _ => row_x m c t) z y
  have zero (y : S1x1x1024.Idx) : k0_pay16 (F := Ideal) y = 0 := Cert.Norm1BwdIdeal.Ew.zero7 y
  refine acc_eq (fun n h => (outsAt0 m c n h).2.2.2.2.1) 4 512 (fun q y k => ofScale (m ((c : Thread nD τ).loc main_arg0)) (m ((c : Thread nD τ).loc main_arg1)) (m ((c : Thread nD τ).loc main_arg3)) q (y 2).val k)
    (fun t h y => ?_) (fun t h y => ?_) t hr y
  · by_cases h16 : t.val % 16 = 0
    · rw [outsAt0_A m c t h h16 h]
      frame_out
      rw [step, zero, zero_add]
    · rw [outsAt0_C m c t h h16 h]
      frame_out
      rw [step, zero, zero_add]
  · rw [outsAt0_B m c t h (by omega) h]
    frame_out
    rw [step]

theorem acc12 (t : Fin cfg0.N) {r : ℕ} (hr : t.val % 16 = r) (y : S1x1024.Idx) :
    (outsAt0 m c t.val t.isLt).2.2.2.2.2 y = ∑ k ∈ Finset.range ((r + 1) * 512), ofWeight (m ((c : Thread nD τ).loc main_arg0)) (m ((c : Thread nD τ).loc main_arg1)) (m ((c : Thread nD τ).loc main_arg4)) (y 1).val k := by
  have step (t : Fin cfg0.N) (z : Vec Ideal S1x1024 .f32) (y : S1x1024.Idx) :
      k0_pay1 (k0_pay12 (iblk m c 1 t) (iblk m c 0 t) (iblk m c 4 t)) (k0_pay20 z) y
        = z y + ∑ b ∈ Finset.range 512, ofWeight (m ((c : Thread nD τ).loc main_arg0)) (m ((c : Thread nD τ).loc main_arg1)) (m ((c : Thread nD τ).loc main_arg4)) (y 1).val (t.val % 16 * 512 + b) :=
    (congrArg (fun z => k0_pay1 (k0_pay12 (iblk m c 1 t) (iblk m c 0 t) (iblk m c 4 t)) z y) (Cert.Norm1BwdIdeal.Ew.pay_same z)).trans
      (Cert.Norm1BwdIdeal.Ew.step8 (m ((c : Thread nD τ).loc main_arg0)) (m ((c : Thread nD τ).loc main_arg1)) (m ((c : Thread nD τ).loc main_arg4)) (fun _ => row_dh m c t) (fun _ => row_x m c t) (row_sc m c t) t.isLt rfl rfl z y)
  have zero (y : S1x1024.Idx) : k0_pay17 (F := Ideal) y = 0 := Cert.Norm1BwdIdeal.Ew.zero8 y
  refine acc_eq (fun n h => (outsAt0 m c n h).2.2.2.2.2) 16 512 (fun _ y k => ofWeight (m ((c : Thread nD τ).loc main_arg0)) (m ((c : Thread nD τ).loc main_arg1)) (m ((c : Thread nD τ).loc main_arg4)) (y 1).val k)
    (fun t h y => ?_) (fun t h y => ?_) t hr y
  · rw [outsAt0_A m c t (by omega) h (by omega)]
    frame_out
    rw [step, zero, zero_add]
  · by_cases h4 : t.val % 4 = 0
    · rw [outsAt0_C m c t h4 h h4]
      frame_out
      rw [step]
    · rw [outsAt0_B m c t h4 h h4]
      frame_out
      rw [step]

theorem final7 : (dats m 0 c).arrAt 7 cfg0.N = gated (m ((c : Thread nD τ).loc main_arg6)) (rows m c) := by
  refine (dats m 0 c).arrAt_eq_of_covers 7 _ (by decide +kernel) fun t hf y => ?_
  blk_simp
  rw [after0_7, out7, pay_gated, block, row_gt]
  unfold gated
  rw [at3_of (rows m c) _ rfl rfl rfl]
  blk_simp [idx7]

theorem final8 : (dats m 0 c).arrAt 8 cfg0.N = dGated (rows m c) (m ((c : Thread nD τ).loc main_arg5)) := by
  refine (dats m 0 c).arrAt_eq_of_covers 8 _ (by decide +kernel) fun t hf y => ?_
  have h3 := (flush0_8 t).mp hf
  have h0 : (y 0).val = 0 := by
    have : (y 0).val < 1 := (y 0).isLt
    omega
  blk_simp
  rw [after0_8, acc8 m c t h3]
  unfold dGated
  blk_simp [idx8]

theorem final9 : (dats m 0 c).arrAt 9 cfg0.N = rows m c := by
  refine (dats m 0 c).arrAt_eq_of_covers 9 _ (by decide +kernel) fun t hf y => ?_
  blk_simp
  rw [after0_9, out9, pay_rows, block, at3_of (rows m c) _ rfl rfl rfl]
  blk_simp [idx9]

theorem final10 : (dats m 0 c).arrAt 10 cfg0.N = dShift (m ((c : Thread nD τ).loc main_arg0)) := by
  refine (dats m 0 c).arrAt_eq_of_covers 10 _ (by decide +kernel) fun t hf y => ?_
  have h3 := (flush0_10 t).mp hf
  have h0 : (y 0).val = 0 := by
    have : (y 0).val < 1 := (y 0).isLt
    omega
  blk_simp
  rw [after0_10, acc10 m c t h3]
  unfold dShift
  blk_simp [idx10]

theorem final11 : (dats m 0 c).arrAt 11 cfg0.N = dScale (m ((c : Thread nD τ).loc main_arg0)) (m ((c : Thread nD τ).loc main_arg1)) (m ((c : Thread nD τ).loc main_arg3)) := by
  refine (dats m 0 c).arrAt_eq_of_covers 11 _ (by decide +kernel) fun t hf y => ?_
  have h3 := (flush0_11 t).mp hf
  have h0 : (y 0).val = 0 := by
    have : (y 0).val < 1 := (y 0).isLt
    omega
  blk_simp
  rw [after0_11, acc11 m c t h3]
  unfold dScale
  blk_simp [idx11]

theorem final12 : (dats m 0 c).arrAt 12 cfg0.N = dWeight (m ((c : Thread nD τ).loc main_arg0)) (m ((c : Thread nD τ).loc main_arg1)) (m ((c : Thread nD τ).loc main_arg4)) := by
  refine (dats m 0 c).arrAt_eq_of_covers 12 _ (by decide +kernel) fun t hf y => ?_
  have h15 := (flush0_12 t).mp hf
  blk_simp
  rw [after0_12, acc12 m c t h15]
  unfold dWeight
  blk_simp [idx12]

section
open Cert.Norm2BwdRefIdeal.Read

variable (dh x res : Vec Ideal S4x2048x1024 .f32) (g : Vec Ideal S1x1024 .f32) (sc : Vec Ideal S4x1x1024 .f32) (y : Vec Ideal S4x2048x1024 .f32)
  (gt : Vec Ideal S4x1x1024 .f32)

/-- The two references' rows and sums are the same terms. -/
theorem ref9 : val_main_v53 (F := Ideal) dh x res g sc = dRows dh x res g sc := Cert.Norm1BwdIdeal.Ew.ref5 dh x res g sc
theorem ref10 : val_main_v26 (F := Ideal) dh = dShift dh := Cert.Norm1BwdIdeal.Ew.ref6 dh
theorem ref11 : val_main_v29 (F := Ideal) dh x g = dScale dh x g := Cert.Norm1BwdIdeal.Ew.ref7 dh x g
theorem ref12 : val_main_v38 (F := Ideal) dh x sc = dWeight dh x sc := Cert.Norm1BwdIdeal.Ew.ref8 dh x sc

theorem ref7 : val_main_v61 (F := Ideal) dh x res g sc gt = gated gt (dRows dh x res g sc) := by
  funext i
  rw [val_main_v61_apply, Ideal.truncf_def, val_main_v57_apply, val_main_v56_apply, ref9]
  exact congrArg (· * _) (at3_of gt _ rfl rfl rfl)

theorem ref8 : val_main_v60 (F := Ideal) dh x res g sc y = dGated (dRows dh x res g sc) y := by
  funext i
  rw [val_main_v60_apply, val_main_v59_apply]
  refine (congrArg₂ (· + ·) Ideal.ofBits_zero_f32 (sum_fin _ fun k => ?_)).trans (zero_add _)
  refine (congrArg (val_main_v58 (F := Ideal) dh x res g sc y) (Cert.Norm1BwdIdeal.Ew.idx_seq i k)).trans ?_
  refine (val_main_v58_apply dh x res g sc y _).trans ?_
  rw [ref9]
  exact congrArg₂ (· * ·) (at3_of (dRows dh x res g sc) (ix3 (i 0) k (i 2)) rfl rfl rfl) (at3_of y (ix3 (i 0) k (i 2)) rfl rfl rfl)

end

theorem alg : Cert.algebraic_Norm2BwdIdeal_Norm2BwdRefIdeal := fun m g m' g' _ hm =>
  ⟨fun c => gated (m ((c : Thread nD τ).loc main_arg6)) (rows m c), fun c => dGated (rows m c) (m ((c : Thread nD τ).loc main_arg5)), fun c => rows m c, fun c => dShift (m ((c : Thread nD τ).loc main_arg0)),
    fun c => dScale (m ((c : Thread nD τ).loc main_arg0)) (m ((c : Thread nD τ).loc main_arg1)) (m ((c : Thread nD τ).loc main_arg3)), fun c => dWeight (m ((c : Thread nD τ).loc main_arg0)) (m ((c : Thread nD τ).loc main_arg1)) (m ((c : Thread nD τ).loc main_arg4)),
    (θ_run defs _ _).mono (fun _ h c => by
      obtain ⟨r0, r1, r2, r3, r4, r5, ra⟩ := h c
      exact ⟨r0.trans (final7 m c), r1.trans (final8 m c), r2.trans (final9 m c), r3.trans (final10 m c), r4.trans (final11 m c),
        r5.trans (final12 m c), ra⟩) (Value.run_blocks m g),
    (θ_run Cert.Norm2BwdRefIdeal.defs _ _).mono (fun _ h c => by
      obtain ⟨e0, e1, e2, e3, e4, e5, e6⟩ := hm c
      obtain ⟨r0, r1, r2, r3, r4, r5, ra⟩ := h c
      beta_reduce
      unfold rows
      rw [← e0, ← e1, ← e2, ← e3, ← e4, ← e5, ← e6]
      exact ⟨r0.trans (ref7 _ _ _ _ _ _), r1.trans (ref8 _ _ _ _ _ _), r2.trans (ref9 _ _ _ _ _), r3.trans (ref10 _), r4.trans (ref11 _ _ _),
        r5.trans (ref12 _ _ _), ra⟩)
      (Cert.Norm2BwdRefIdeal.Value.run (F := Ideal) m' g')⟩

theorem frame_p : Cert.quiescent_Norm2Bwd := fun m g _ => Cert.Norm2Bwd.Gen.frame m g
theorem frame_pi : Cert.quiescent_Norm2BwdIdeal := fun m g _ => Gen.frame m g
theorem frame_ri : Cert.quiescent_Norm2BwdRefIdeal := fun m g _ =>
  (θ_run Cert.Norm2BwdRefIdeal.defs _ _).mono (fun r h => ⟨fun c => (h c).2.2.2.2.2.2, sem_eq_zero_of_no_sems (by decide) r.2⟩)
    (Cert.Norm2BwdRefIdeal.Value.run (F := Ideal) m g)

end Cert.Norm2BwdIdeal.Ew

end
-- ==== Proof.Ew.Adam.lean ====
/- The optimiser's update, at each shape it is called with: the step, and both moments. The kernel and its reference are the same
   function of the arguments at every index, so each instance carries the reference's results over equal arguments. -/
module

public import proofs.«01_k».proof.Proof.Gen.AdamInIdeal.Value
public import proofs.«01_k».proof.Proof.Gen.AdamInRefIdeal.Run
public import proofs.«01_k».proof.Proof.Gen.AdamIn.Frame
public import proofs.«01_k».proof.Proof.Gen.AdamUpIdeal.Value
public import proofs.«01_k».proof.Proof.Gen.AdamUpRefIdeal.Run
public import proofs.«01_k».proof.Proof.Gen.AdamUp.Frame
public import proofs.«01_k».proof.Proof.Gen.AdamProjRnnIdeal.Value
public import proofs.«01_k».proof.Proof.Gen.AdamProjRnnRefIdeal.Run
public import proofs.«01_k».proof.Proof.Gen.AdamProjRnn.Frame
public import proofs.«01_k».proof.Proof.Gen.AdamSquareIdeal.Value
public import proofs.«01_k».proof.Proof.Gen.AdamSquareRefIdeal.Run
public import proofs.«01_k».proof.Proof.Gen.AdamSquare.Frame
public import proofs.«01_k».proof.Proof.Gen.AdamDownIdeal.Value
public import proofs.«01_k».proof.Proof.Gen.AdamDownRefIdeal.Run
public import proofs.«01_k».proof.Proof.Gen.AdamDown.Frame
public import proofs.«01_k».proof.Proof.Gen.AdamAdaFinalIdeal.Value
public import proofs.«01_k».proof.Proof.Gen.AdamAdaFinalRefIdeal.Run
public import proofs.«01_k».proof.Proof.Gen.AdamAdaFinal.Frame
public import proofs.«01_k».proof.Proof.Gen.AdamSmallIdeal.Value
public import proofs.«01_k».proof.Proof.Gen.AdamSmallRefIdeal.Run
public import proofs.«01_k».proof.Proof.Gen.AdamSmall.Frame
public import proofs.«01_k».proof.Defs
public import Idealize.ShloMosaic.Adequacy

@[expose] public section

noncomputable section

namespace Cert.Ew.Adam

open Idealize.ShloMosaic Idealize.ShloMosaic.TcCoe Idealize.SL.Sem

/-- Results of a gradient, a weight and two moments, over equal ones. -/
theorem carry {A B C D X Y Z : Type} {step : A → C → D → B → X} {first : A → C → Y} {second : A → D → Z} {g g' : A} {w w' : B} {a a' : C} {b b' : D}
    {x : X} {y : Y} {z : Z} {kept : Prop} (e : g' = g ∧ w' = w ∧ a' = a ∧ b' = b)
    (h : x = step g' a' b' w' ∧ y = first g' a' ∧ z = second g' b' ∧ kept) : x = step g a b w ∧ y = first g a ∧ z = second g b ∧ kept := by
  obtain ⟨rfl, rfl, rfl, rfl⟩ := e
  exact h

/-! Of the input projection's quarter. -/
namespace In
open Cert.AdamInIdeal

theorem alg : Cert.algebraic_AdamInIdeal_AdamInRefIdeal := fun m g m' g' _ hm =>
  ⟨fun c => Value.G4 (m (c.tc.loc main_arg0)) (m (c.tc.loc main_arg2)) (m (c.tc.loc main_arg3)) (m (c.tc.loc main_arg1)),
    fun c => Value.G5 (m (c.tc.loc main_arg0)) (m (c.tc.loc main_arg2)), fun c => Value.G6 (m (c.tc.loc main_arg0)) (m (c.tc.loc main_arg3)),
    Value.run m g, (θ_run Cert.AdamInRefIdeal.defs _ _).mono (fun _ h c => carry (hm c) (h c)) (Cert.AdamInRefIdeal.Value.run m' g')⟩
theorem frame_p : Cert.quiescent_AdamIn := fun m g _ => Cert.AdamIn.Gen.frame m g
theorem frame_pi : Cert.quiescent_AdamInIdeal := fun m g _ => Gen.frame m g
theorem frame_ri : Cert.quiescent_AdamInRefIdeal := fun m g _ => (θ_run Cert.AdamInRefIdeal.defs _ _).mono
  (fun r h => ⟨fun c => (h c).2.2.2, sem_eq_zero_of_no_sems (by decide) r.2⟩) (Cert.AdamInRefIdeal.Value.run m g)

end In

/-! Of the quarter of the feed-forward's first weight, and of the modulation's. -/
namespace Up
open Cert.AdamUpIdeal

theorem alg : Cert.algebraic_AdamUpIdeal_AdamUpRefIdeal := fun m g m' g' _ hm =>
  ⟨fun c => Value.G4 (m (c.tc.loc main_arg0)) (m (c.tc.loc main_arg2)) (m (c.tc.loc main_arg3)) (m (c.tc.loc main_arg1)),
    fun c => Value.G5 (m (c.tc.loc main_arg0)) (m (c.tc.loc main_arg2)), fun c => Value.G6 (m (c.tc.loc main_arg0)) (m (c.tc.loc main_arg3)),
    Value.run m g, (θ_run Cert.AdamUpRefIdeal.defs _ _).mono (fun _ h c => carry (hm c) (h c)) (Cert.AdamUpRefIdeal.Value.run m' g')⟩
theorem frame_p : Cert.quiescent_AdamUp := fun m g _ => Cert.AdamUp.Gen.frame m g
theorem frame_pi : Cert.quiescent_AdamUpIdeal := fun m g _ => Gen.frame m g
theorem frame_ri : Cert.quiescent_AdamUpRefIdeal := fun m g _ => (θ_run Cert.AdamUpRefIdeal.defs _ _).mono
  (fun r h => ⟨fun c => (h c).2.2.2, sem_eq_zero_of_no_sems (by decide) r.2⟩) (Cert.AdamUpRefIdeal.Value.run m g)

end Up

/-! Of the quarter of the recurrence's output projection. -/
namespace ProjRnn
open Cert.AdamProjRnnIdeal

theorem alg : Cert.algebraic_AdamProjRnnIdeal_AdamProjRnnRefIdeal := fun m g m' g' _ hm =>
  ⟨fun c => Value.G4 (m (c.tc.loc main_arg0)) (m (c.tc.loc main_arg2)) (m (c.tc.loc main_arg3)) (m (c.tc.loc main_arg1)),
    fun c => Value.G5 (m (c.tc.loc main_arg0)) (m (c.tc.loc main_arg2)), fun c => Value.G6 (m (c.tc.loc main_arg0)) (m (c.tc.loc main_arg3)),
    Value.run m g, (θ_run Cert.AdamProjRnnRefIdeal.defs _ _).mono (fun _ h c => carry (hm c) (h c)) (Cert.AdamProjRnnRefIdeal.Value.run m' g')⟩
theorem frame_p : Cert.quiescent_AdamProjRnn := fun m g _ => Cert.AdamProjRnn.Gen.frame m g
theorem frame_pi : Cert.quiescent_AdamProjRnnIdeal := fun m g _ => Gen.frame m g
theorem frame_ri : Cert.quiescent_AdamProjRnnRefIdeal := fun m g _ => (θ_run Cert.AdamProjRnnRefIdeal.defs _ _).mono
  (fun r h => ⟨fun c => (h c).2.2.2, sem_eq_zero_of_no_sems (by decide) r.2⟩) (Cert.AdamProjRnnRefIdeal.Value.run m g)

end ProjRnn

/-! Of the quarter of a square weight. -/
namespace Square
open Cert.AdamSquareIdeal

theorem alg : Cert.algebraic_AdamSquareIdeal_AdamSquareRefIdeal := fun m g m' g' _ hm =>
  ⟨fun c => Value.G4 (m (c.tc.loc main_arg0)) (m (c.tc.loc main_arg2)) (m (c.tc.loc main_arg3)) (m (c.tc.loc main_arg1)),
    fun c => Value.G5 (m (c.tc.loc main_arg0)) (m (c.tc.loc main_arg2)), fun c => Value.G6 (m (c.tc.loc main_arg0)) (m (c.tc.loc main_arg3)),
    Value.run m g, (θ_run Cert.AdamSquareRefIdeal.defs _ _).mono (fun _ h c => carry (hm c) (h c)) (Cert.AdamSquareRefIdeal.Value.run m' g')⟩
theorem frame_p : Cert.quiescent_AdamSquare := fun m g _ => Cert.AdamSquare.Gen.frame m g
theorem frame_pi : Cert.quiescent_AdamSquareIdeal := fun m g _ => Gen.frame m g
theorem frame_ri : Cert.quiescent_AdamSquareRefIdeal := fun m g _ => (θ_run Cert.AdamSquareRefIdeal.defs _ _).mono
  (fun r h => ⟨fun c => (h c).2.2.2, sem_eq_zero_of_no_sems (by decide) r.2⟩) (Cert.AdamSquareRefIdeal.Value.run m g)

end Square

/-! Of the quarter of the feed-forward's second weight. -/
namespace Down
open Cert.AdamDownIdeal

theorem alg : Cert.algebraic_AdamDownIdeal_AdamDownRefIdeal := fun m g m' g' _ hm =>
  ⟨fun c => Value.G4 (m (c.tc.loc main_arg0)) (m (c.tc.loc main_arg2)) (m (c.tc.loc main_arg3)) (m (c.tc.loc main_arg1)),
    fun c => Value.G5 (m (c.tc.loc main_arg0)) (m (c.tc.loc main_arg2)), fun c => Value.G6 (m (c.tc.loc main_arg0)) (m (c.tc.loc main_arg3)),
    Value.run m g, (θ_run Cert.AdamDownRefIdeal.defs _ _).mono (fun _ h c => carry (hm c) (h c)) (Cert.AdamDownRefIdeal.Value.run m' g')⟩
theorem frame_p : Cert.quiescent_AdamDown := fun m g _ => Cert.AdamDown.Gen.frame m g
theorem frame_pi : Cert.quiescent_AdamDownIdeal := fun m g _ => Gen.frame m g
theorem frame_ri : Cert.quiescent_AdamDownRefIdeal := fun m g _ => (θ_run Cert.AdamDownRefIdeal.defs _ _).mono
  (fun r h => ⟨fun c => (h c).2.2.2, sem_eq_zero_of_no_sems (by decide) r.2⟩) (Cert.AdamDownRefIdeal.Value.run m g)

end Down

/-! Of the quarter of the last modulation's weight. -/
namespace AdaFinal
open Cert.AdamAdaFinalIdeal

theorem alg : Cert.algebraic_AdamAdaFinalIdeal_AdamAdaFinalRefIdeal := fun m g m' g' _ hm =>
  ⟨fun c => Value.G4 (m (c.tc.loc main_arg0)) (m (c.tc.loc main_arg2)) (m (c.tc.loc main_arg3)) (m (c.tc.loc main_arg1)),
    fun c => Value.G5 (m (c.tc.loc main_arg0)) (m (c.tc.loc main_arg2)), fun c => Value.G6 (m (c.tc.loc main_arg0)) (m (c.tc.loc main_arg3)),
    Value.run m g, (θ_run Cert.AdamAdaFinalRefIdeal.defs _ _).mono (fun _ h c => carry (hm c) (h c)) (Cert.AdamAdaFinalRefIdeal.Value.run m' g')⟩
theorem frame_p : Cert.quiescent_AdamAdaFinal := fun m g _ => Cert.AdamAdaFinal.Gen.frame m g
theorem frame_pi : Cert.quiescent_AdamAdaFinalIdeal := fun m g _ => Gen.frame m g
theorem frame_ri : Cert.quiescent_AdamAdaFinalRefIdeal := fun m g _ => (θ_run Cert.AdamAdaFinalRefIdeal.defs _ _).mono
  (fun r h => ⟨fun c => (h c).2.2.2, sem_eq_zero_of_no_sems (by decide) r.2⟩) (Cert.AdamAdaFinalRefIdeal.Value.run m g)

end AdaFinal

/-! Of the small weights, packed in rows of 1024. -/
namespace Small
open Cert.AdamSmallIdeal

theorem alg : Cert.algebraic_AdamSmallIdeal_AdamSmallRefIdeal := fun m g m' g' _ hm =>
  ⟨fun c => Value.G4 (m (c.tc.loc main_arg0)) (m (c.tc.loc main_arg2)) (m (c.tc.loc main_arg3)) (m (c.tc.loc main_arg1)),
    fun c => Value.G5 (m (c.tc.loc main_arg0)) (m (c.tc.loc main_arg2)), fun c => Value.G6 (m (c.tc.loc main_arg0)) (m (c.tc.loc main_arg3)),
    Value.run m g, (θ_run Cert.AdamSmallRefIdeal.defs _ _).mono (fun _ h c => carry (hm c) (h c)) (Cert.AdamSmallRefIdeal.Value.run m' g')⟩
theorem frame_p : Cert.quiescent_AdamSmall := fun m g _ => Cert.AdamSmall.Gen.frame m g
theorem frame_pi : Cert.quiescent_AdamSmallIdeal := fun m g _ => Gen.frame m g
theorem frame_ri : Cert.quiescent_AdamSmallRefIdeal := fun m g _ => (θ_run Cert.AdamSmallRefIdeal.defs _ _).mono
  (fun r h => ⟨fun c => (h c).2.2.2, sem_eq_zero_of_no_sems (by decide) r.2⟩) (Cert.AdamSmallRefIdeal.Value.run m g)

end Small

end Cert.Ew.Adam

end
-- ==== Proof.Ew.Final.lean ====
/- The loss and the gradient of the last normalisation and of the gated residual before it. The rows are the second normalisation's,
   the gradient before the normalisation is the error by a constant, and the rows, the sums and the reference's terms behind it are
   those of the first normalisation's gradient. -/
module

public import proofs.«01_k».proof.Proof.Gen.FinalIdeal.Value
public import proofs.«01_k».proof.Proof.Gen.FinalRefIdeal.Run
public import proofs.«01_k».proof.Proof.Gen.FinalRefIdeal.Read
public import proofs.«01_k».proof.Proof.Gen.Final.Frame
public import proofs.«01_k».proof.Proof.Ew.Norm1Bwd
public import proofs.«01_k».proof.Proof.Ew.Norm2
public import proofs.«01_k».proof.Defs
public import Idealize.ShloMosaic.Adequacy

@[expose] public section

set_option maxRecDepth 16384

noncomputable section

namespace Cert.FinalIdeal.Ew

open Cert.FinalIdeal Cert.FinalIdeal.Gen Idealize.ShloMosaic Idealize.ShloMosaic.TcCoe Idealize.SL.Sem Cert.Mm Cert.Ew

/-- The rows that are normalised, of the kernel's first three arguments. -/
abbrev sumOf (x b : Vec Ideal S4x2048x1024 .f32) (gt : Vec Ideal S4x1x1024 .f32) : Vec Ideal S4x2048x1024 .f32 := Cert.Norm2Ideal.Ew.summed x b gt

/-- What the normalised rows miss the target by. -/
def errOf (x b : Vec Ideal S4x2048x1024 .f32) (gt : Vec Ideal S4x1x1024 .f32) (g : Vec Ideal S1x1024 .f32) (sh sc : Vec Ideal S4x1x1024 .f32)
    (w : Vec Ideal S4x2048x1024 .f32) : Vec Ideal S4x2048x1024 .f32 := fun i => normed (sumOf x b gt) g sc sh i - w i

/-- The gradient of the normalised rows. -/
def gradOf (e : Vec Ideal S4x2048x1024 .f32) : Vec Ideal S4x2048x1024 .f32 := fun i => e i * Ideal.ofBits .f32 0x3A800000#32

/-- What row `k` of all gives to the loss: half the mean of its squares. -/
def ofLoss (e : Vec Ideal S4x2048x1024 .f32) (k : ℕ) : EReal := Ideal.ofBits .f32 0x3F000000#32
  * Ideal.div (∑ j ∈ Finset.range 1024, at3 e (k / 2048) (k % 2048) j * at3 e (k / 2048) (k % 2048) j) (Ideal.ofBits .f32 0x44800000#32)

def lossOf (e : Vec Ideal S4x2048x1024 .f32) : Vec Ideal S1x1 .f32 := fun _ => ∑ k ∈ Finset.range 8192, ofLoss e k

/-- The gradient of the rows; no residual passes it on. -/
def dxOf (e x : Vec Ideal S4x2048x1024 .f32) (g : Vec Ideal S1x1024 .f32) (sc : Vec Ideal S4x1x1024 .f32) : Vec Ideal S4x2048x1024 .f32 :=
  dRows (gradOf e) x (fun _ => 0) g sc

theorem lit_half : Ideal.ofBits .f32 0x3F000000#32 = ((1 / 2 : ℝ) : EReal) := by
  simp [Ideal.ofBits, Ideal.ieee, -EReal.coe_mul]
  norm_num

theorem lit_two : Ideal.ofBits .f32 0x40000000#32 = ((2 : ℝ) : EReal) := by
  simp [Ideal.ofBits, Ideal.ieee, -EReal.coe_mul]
  norm_num

theorem lit_inv_n : Ideal.ofBits .f32 0x3A800000#32 = ((1 / 1024 : ℝ) : EReal) := by
  simp [Ideal.ofBits, Ideal.ieee, -EReal.coe_mul]
  norm_num

section
variable (x b : Vec Ideal S1x512x1024 .f32) (gt s : Vec Ideal S1x1x1024 .f32) (g : Vec Ideal S1x1024 .f32) (v w : FVec Ideal S512x1024 .f32)

/-- The rows and their gradient as blocks, on which the two normalisations' payloads are stated. -/
def sumBlock : Vec Ideal S1x512x1024 .f32 := Cert.Norm2Ideal.Gen.k0_pay3 x gt b
def gradBlock : Vec Ideal S1x512x1024 .f32 := shapeCast S1x512x1024 (k0_pay11 v w) shapeCasts_S512x1024_S1x512x1024

theorem pay_sum : k0_pay5 b gt x = Cert.Norm1BwdIdeal.Gen.k0_pay2 (sumBlock x b gt) := (Cert.Norm2Ideal.Ew.pay_back x gt b).symm

theorem pay_inv : k0_pay6 b gt x = Cert.Norm1BwdIdeal.Gen.k0_pay3 (sumBlock x b gt) := by
  unfold k0_pay6
  rw [pay_sum]
  rfl

theorem pay_unit : k0_pay7 b gt x = Cert.Norm1BwdIdeal.Gen.k0_pay4 (sumBlock x b gt) := by
  unfold k0_pay7
  rw [pay_sum, pay_inv]
  rfl

theorem pay_grad : k0_pay11 v w = Cert.Norm1BwdIdeal.Gen.k0_pay5 (gradBlock v w) := by
  funext y
  unfold Cert.Norm1BwdIdeal.Gen.k0_pay5 gradBlock
  pointwise

theorem pay_scaled : k0_pay12 (k0_pay2 s) v w = Cert.Norm1BwdIdeal.Gen.k0_pay6 (gradBlock v w) s := by
  unfold k0_pay12
  rw [pay_grad]
  rfl

theorem pay_dx : k0_pay13 g (k0_pay2 s) (k0_pay6 b gt x) (k0_pay7 b gt x) v w
    = Cert.Norm1BwdIdeal.Gen.k0_pay7 g (sumBlock x b gt) (gradBlock v w) s := by
  unfold k0_pay13
  rw [pay_scaled, pay_inv, pay_unit]
  rfl

theorem pay_dsc : k0_pay14 g (k0_pay7 b gt x) v w = Cert.Norm1BwdIdeal.Gen.k0_pay8 g (sumBlock x b gt) (gradBlock v w) := by
  unfold k0_pay14
  rw [pay_grad, pay_unit]
  rfl

theorem pay_dg : k0_pay15 (k0_pay2 s) (k0_pay7 b gt x) v w = Cert.Norm1BwdIdeal.Gen.k0_pay9 (sumBlock x b gt) (gradBlock v w) s := by
  unfold k0_pay15
  rw [pay_scaled, pay_unit]
  rfl

theorem pay_normed (sh : Vec Ideal S1x1x1024 .f32) (y : S512x1024.Idx) : k0_pay8 g s b gt x sh y
    = unit (at3 (sumBlock x b gt) 0 (y 0).val) (y 1).val * at2 g 0 (y 1).val * (1 + at3 s 0 0 (y 1).val) + at3 sh 0 0 (y 1).val := by
  rw [at2_row g (y 1), at3_row s (y 1), at3_row sh (y 1), ← Cert.Norm1BwdIdeal.Ew.pay_unit (sumBlock x b gt) y, ← pay_unit]
  unfold k0_pay8 k0_pay2
  pointwise [Ideal.ofBits_one_f32]

theorem pay_target (z : Vec Ideal S1x512x1024 .f32) (y : S512x1024.Idx) : k0_pay9 z y = at3 z 0 (y 0).val (y 1).val :=
  Cert.Norm1BwdIdeal.Ew.pay_row z y

theorem pay_err (y : S512x1024.Idx) : k0_pay10 v w y = v y - w y := by
  unfold k0_pay10
  pointwise

theorem at_grad {r k : ℕ} (hr : r < 512) (hk : k < 1024) : at3 (gradBlock v w) 0 r k
    = k0_pay10 v w (ix2 ⟨r, hr⟩ ⟨k, hk⟩) * Ideal.ofBits .f32 0x3A800000#32 := by
  refine (at3_of (gradBlock v w) (ix3 0 ⟨r, hr⟩ ⟨k, hk⟩) rfl rfl rfl).symm.trans ?_
  unfold gradBlock k0_pay11
  pointwise

theorem pay_loss (z : Vec Ideal S1x1 .f32) (y : S1x1.Idx) : k0_pay1 v z y
    = z y + Ideal.ofBits .f32 0x3F000000#32 * ∑ r : Fin 512, Ideal.div (∑ k : Fin 1024, v (ix2 r k) * v (ix2 r k)) (Ideal.ofBits .f32 0x44800000#32) := by
  unfold k0_pay1
  pointwise

theorem pay_dy (v2 : FVec Ideal S1x1024 .f32) (v19 : FVec Ideal S512x1 .f32) (v21 : FVec Ideal S512x1024 .f32) (y : S1x512x1024.Idx) :
    k0_pay17 g v2 (k0_pay4 gt) v19 v21 v w y = at3 gt 0 0 (y 2).val * k0_pay13 g v2 v19 v21 v w (ix2 (y 1) (y 2)) := by
  rw [at3_row gt (y 2)]
  unfold k0_pay17 k0_pay4
  pointwise

theorem pay_rows (v2 : FVec Ideal S1x1024 .f32) (v19 : FVec Ideal S512x1 .f32) (v21 : FVec Ideal S512x1024 .f32) (y : S1x512x1024.Idx) :
    k0_pay16 g v2 v19 v21 v w y = k0_pay13 g v2 v19 v21 v w (ix2 (y 1) (y 2)) := by
  unfold k0_pay16
  pointwise

theorem pay_acc9 (z : Vec Ideal S1x1x1024 .f32) (y : S1x1x1024.Idx) :
    k0_pay26 (k0_pay3 b) v z y = z y + ∑ k : Fin 512, v (ix2 k (y 2)) * at3 b 0 k.val (y 2).val := by
  refine Eq.trans ?_ (congrArg (z y + ·) (Finset.sum_congr rfl fun k _ => congrArg (_ * ·) (at3_of b (ix3 0 k (y 2)) rfl rfl rfl)))
  unfold k0_pay26 k0_pay3
  pointwise

theorem zero13 (y : S1x1.Idx) : k0_pay22 (F := Ideal) y = 0 := by
  unfold k0_pay22
  pointwise
end

variable (m : (ℓ : Loc nD τ sig) → Buf (Elt Ideal) ℓ) (c : Dev nD)

theorem idx0 : ∀ t : Fin cfg0.N, win0_0.index t = ![t.val / 4, t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![t.val / 4, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 4, 0, 0] := (by decide +kernel : ∀ t : Fin grid0.N, _)
theorem idx5 : ∀ t : Fin cfg0.N, win0_5.index t = ![t.val / 4, 0, 0] := (by decide +kernel : ∀ t : Fin grid0.N, _)
theorem idx6 : ∀ t : Fin cfg0.N, win0_6.index t = ![t.val / 4, t.val % 4, 0] := (by decide +kernel : ∀ t : Fin grid0.N, _)
theorem idx7 : ∀ t : Fin cfg0.N, win0_7.index t = ![t.val / 4, t.val % 4, 0] := (by decide +kernel : ∀ t : Fin grid0.N, _)
theorem idx8 : ∀ t : Fin cfg0.N, win0_8.index t = ![t.val / 4, t.val % 4, 0] := (by decide +kernel : ∀ t : Fin grid0.N, _)
theorem idx9 : ∀ t : Fin cfg0.N, win0_9.index t = ![t.val / 4, 0, 0] := (by decide +kernel : ∀ t : Fin grid0.N, _)
theorem idx10 : ∀ t : Fin cfg0.N, win0_10.index t = ![t.val / 4, 0, 0] := (by decide +kernel : ∀ t : Fin grid0.N, _)
theorem idx11 : ∀ t : Fin cfg0.N, win0_11.index t = ![t.val / 4, 0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)

theorem row_x (t : Fin cfg0.N) {r : ℕ} (hr : r < 512) :
    at3 (iblk m c 0 t) 0 r = at3 (m ((c : Thread nD τ).loc main_arg0)) (t.val / 4) (t.val % 4 * 512 + r) := by
  refine row_eq _ _ (by decide) hr fun k hk => at3_of (n0 := 4) (n1 := 2048) (n2 := 1024) (m ((c : Thread nD τ).loc main_arg0)) _ ?_ ?_ ?_
  all_goals blk_simp [idx0]
  all_goals simp

theorem row_b (t : Fin cfg0.N) {r : ℕ} (hr : r < 512) :
    at3 (iblk m c 1 t) 0 r = at3 (m ((c : Thread nD τ).loc main_arg1)) (t.val / 4) (t.val % 4 * 512 + r) := by
  refine row_eq _ _ (by decide) hr fun k hk => at3_of (n0 := 4) (n1 := 2048) (n2 := 1024) (m ((c : Thread nD τ).loc main_arg1)) _ ?_ ?_ ?_
  all_goals blk_simp [idx1]
  all_goals simp

theorem row_w (t : Fin cfg0.N) {r : ℕ} (hr : r < 512) :
    at3 (iblk m c 6 t) 0 r = at3 (m ((c : Thread nD τ).loc main_arg6)) (t.val / 4) (t.val % 4 * 512 + r) := by
  refine row_eq _ _ (by decide) hr fun k hk => at3_of (n0 := 4) (n1 := 2048) (n2 := 1024) (m ((c : Thread nD τ).loc main_arg6)) _ ?_ ?_ ?_
  all_goals blk_simp [idx6]
  all_goals simp

theorem row_gt (t : Fin cfg0.N) : at3 (iblk m c 2 t) 0 0 = at3 (m ((c : Thread nD τ).loc main_arg2)) (t.val / 4) 0 := by
  refine row_eq _ _ (by decide) (by decide) fun k hk => at3_of (n0 := 4) (n1 := 1) (n2 := 1024) (m ((c : Thread nD τ).loc main_arg2)) _ ?_ ?_ ?_
  all_goals blk_simp [idx2]
  all_goals simp

theorem row_sh (t : Fin cfg0.N) : at3 (iblk m c 4 t) 0 0 = at3 (m ((c : Thread nD τ).loc main_arg4)) (t.val / 4) 0 := by
  refine row_eq _ _ (by decide) (by decide) fun k hk => at3_of (n0 := 4) (n1 := 1) (n2 := 1024) (m ((c : Thread nD τ).loc main_arg4)) _ ?_ ?_ ?_
  all_goals blk_simp [idx4]
  all_goals simp

theorem row_sc (t : Fin cfg0.N) : at3 (iblk m c 5 t) 0 0 = at3 (m ((c : Thread nD τ).loc main_arg5)) (t.val / 4) 0 := by
  refine row_eq _ _ (by decide) (by decide) fun k hk => at3_of (n0 := 4) (n1 := 1) (n2 := 1024) (m ((c : Thread nD τ).loc main_arg5)) _ ?_ ?_ ?_
  all_goals blk_simp [idx5]
  all_goals simp

theorem whole_g (t : Fin cfg0.N) : iblk m c 3 t = (m ((c : Thread nD τ).loc main_arg3)) := by
  funext y
  refine congrArg (m ((c : Thread nD τ).loc main_arg3)) (funext fun a => Fin.ext ?_)
  match a with
  | ⟨0, _⟩ => blk_simp [idx3]
  | ⟨1, _⟩ => blk_simp [idx3]

/-- The rows, the error and the gradients, of the kernel's arguments. -/
def rows : Vec Ideal S4x2048x1024 .f32 := sumOf (m ((c : Thread nD τ).loc main_arg0)) (m ((c : Thread nD τ).loc main_arg1)) (m ((c : Thread nD τ).loc main_arg2))
def err : Vec Ideal S4x2048x1024 .f32 := errOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
def dx : Vec Ideal S4x2048x1024 .f32 := dxOf (err m c) (rows m c) (m ((c : Thread nD τ).loc main_arg3)) (m ((c : Thread nD τ).loc main_arg5))

/-- The normalised rows and the target, as the kernel reads them. -/
abbrev left (t : Fin cfg0.N) : FVec Ideal S512x1024 .f32 := k0_pay8 (iblk m c 3 t) (iblk m c 5 t) (iblk m c 1 t) (iblk m c 2 t) (iblk m c 0 t) (iblk m c 4 t)
abbrev right (t : Fin cfg0.N) : FVec Ideal S512x1024 .f32 := k0_pay9 (iblk m c 6 t)

theorem row_sum (t : Fin cfg0.N) {r : ℕ} (hr : r < 512) :
    at3 (sumBlock (iblk m c 0 t) (iblk m c 1 t) (iblk m c 2 t)) 0 r = at3 (rows m c) (t.val / 4) (t.val % 4 * 512 + r) := by
  have ht : t.val < 16 := t.isLt
  exact Cert.Norm2Ideal.Ew.row_summed _ _ _ (by omega) (by omega) hr (row_x m c t hr) (row_b m c t hr) (row_gt m c t)

theorem block_err (t : Fin cfg0.N) (y : S512x1024.Idx) :
    k0_pay10 (left m c t) (right m c t) y = at3 (err m c) (t.val / 4) (t.val % 4 * 512 + (y 0).val) (y 1).val := by
  have ht : t.val < 16 := t.isLt
  have h0 : (y 0).val < 512 := (y 0).isLt
  unfold left right
  rw [pay_err, pay_normed, pay_target, row_sum m c t h0, row_w m c t h0, row_sh, row_sc, whole_g]
  refine Eq.trans ?_ (at3_of (err m c) (ix3 ⟨t.val / 4, by omega⟩ ⟨t.val % 4 * 512 + (y 0).val, by omega⟩ (y 1)) rfl rfl rfl)
  exact congrArg (_ - ·) (at3_of (m ((c : Thread nD τ).loc main_arg6)) (ix3 ⟨t.val / 4, by omega⟩ ⟨t.val % 4 * 512 + (y 0).val, by omega⟩ (y 1)) rfl rfl rfl).symm

theorem row_grad (t : Fin cfg0.N) {r : ℕ} (hr : r < 512) :
    at3 (gradBlock (left m c t) (right m c t)) 0 r = at3 (gradOf (err m c)) (t.val / 4) (t.val % 4 * 512 + r) := by
  have ht : t.val < 16 := t.isLt
  refine row_eq _ _ (by decide) hr fun k hk => ?_
  refine (at3_of (gradBlock (left m c t) (right m c t)) (ix3 0 ⟨r, hr⟩ ⟨k, hk⟩) rfl rfl rfl).trans ((at_grad _ _ hr hk).trans ?_)
  rw [block_err]
  refine Eq.trans ?_ (at3_of (gradOf (err m c)) (ix3 ⟨t.val / 4, by omega⟩ ⟨t.val % 4 * 512 + r, by omega⟩ ⟨k, hk⟩) rfl rfl rfl)
  exact congrArg (· * _) (at3_of (err m c) (ix3 ⟨t.val / 4, by omega⟩ ⟨t.val % 4 * 512 + r, by omega⟩ ⟨k, hk⟩) rfl rfl rfl).symm

/-- The block of the gradient of the rows. -/
abbrev dxBlock (t : Fin cfg0.N) : FVec Ideal S512x1024 .f32 := k0_pay13 (iblk m c 3 t) (k0_pay2 (iblk m c 5 t))
  (k0_pay6 (iblk m c 1 t) (iblk m c 2 t) (iblk m c 0 t)) (k0_pay7 (iblk m c 1 t) (iblk m c 2 t) (iblk m c 0 t)) (left m c t) (right m c t)

theorem block (t : Fin cfg0.N) (y : S512x1024.Idx) :
    k0_pay13 (iblk m c 3 t) (k0_pay2 (iblk m c 5 t)) (k0_pay6 (iblk m c 1 t) (iblk m c 2 t) (iblk m c 0 t))
      (k0_pay7 (iblk m c 1 t) (iblk m c 2 t) (iblk m c 0 t)) (left m c t) (right m c t) y
      = at3 (dx m c) (t.val / 4) (t.val % 4 * 512 + (y 0).val) (y 1).val := by
  have ht : t.val < 16 := t.isLt
  have h0 : (y 0).val < 512 := (y 0).isLt
  refine Eq.trans ?_ (at3_of (dx m c) (ix3 ⟨t.val / 4, by omega⟩ ⟨t.val % 4 * 512 + (y 0).val, by omega⟩ (y 1)) rfl rfl rfl)
  refine Eq.trans ?_ (zero_add _).symm
  rw [pay_dx, whole_g]
  exact Cert.Norm1BwdIdeal.Ew.block (gradOf (err m c)) (rows m c) (m ((c : Thread nD τ).loc main_arg3)) (m ((c : Thread nD τ).loc main_arg5)) (fun _ => row_grad m c t) (fun _ => row_sum m c t) (row_sc m c t) y

theorem out7 (t : Fin cfg0.N) : (outsAt0 m c t.val t.isLt).1
    = k0_pay16 (iblk m c 3 t) (k0_pay2 (iblk m c 5 t)) (k0_pay6 (iblk m c 1 t) (iblk m c 2 t) (iblk m c 0 t)) (k0_pay7 (iblk m c 1 t) (iblk m c 2 t) (iblk m c 0 t)) (left m c t) (right m c t) := by
  by_cases h4 : t.val % 4 = 0
  · by_cases h : t.val % 16 = 0
    · rw [outsAt0_A m c t h4 h]
      frame_out
    · rw [outsAt0_C m c t h4 h]
      frame_out
  · rw [outsAt0_B m c t h4 (by omega)]
    frame_out

theorem out8 (t : Fin cfg0.N) : (outsAt0 m c t.val t.isLt).2.1
    = k0_pay17 (iblk m c 3 t) (k0_pay2 (iblk m c 5 t)) (k0_pay4 (iblk m c 2 t)) (k0_pay6 (iblk m c 1 t) (iblk m c 2 t) (iblk m c 0 t)) (k0_pay7 (iblk m c 1 t) (iblk m c 2 t) (iblk m c 0 t)) (left m c t) (right m c t) := by
  by_cases h4 : t.val % 4 = 0
  · by_cases h : t.val % 16 = 0
    · rw [outsAt0_A m c t h4 h]
      frame_out
    · rw [outsAt0_C m c t h4 h]
      frame_out
  · rw [outsAt0_B m c t h4 (by omega)]
    frame_out

theorem acc9 (t : Fin cfg0.N) {r : ℕ} (hr : t.val % 4 = r) (y : S1x1x1024.Idx) :
    (outsAt0 m c t.val t.isLt).2.2.1 y = ∑ k ∈ Finset.range ((r + 1) * 512), at3 (dx m c) (t.val / 4) k (y 2).val * at3 (m ((c : Thread nD τ).loc main_arg1)) (t.val / 4) k (y 2).val := by
  have step (t : Fin cfg0.N) (z : Vec Ideal S1x1x1024 .f32) (y : S1x1x1024.Idx) : k0_pay26 (k0_pay3 (iblk m c 1 t)) (dxBlock m c t) z y
      = z y + ∑ b ∈ Finset.range 512, at3 (dx m c) (t.val / 4) (t.val % 4 * 512 + b) (y 2).val * at3 (m ((c : Thread nD τ).loc main_arg1)) (t.val / 4) (t.val % 4 * 512 + b) (y 2).val := by
    rw [pay_acc9]
    refine congrArg (z y + ·) (sum_fin _ fun k => ?_)
    unfold dxBlock
    rw [block, ← row_b m c t k.isLt]
    rfl
  have zero (y : S1x1x1024.Idx) : k0_pay20 (F := Ideal) y = 0 := Cert.Norm1BwdIdeal.Ew.zero6 y
  refine acc_eq (fun n h => (outsAt0 m c n h).2.2.1) 4 512 (fun q y k => at3 (dx m c) q k (y 2).val * at3 (m ((c : Thread nD τ).loc main_arg1)) q k (y 2).val)
    (fun t h y => ?_) (fun t h y => ?_) t hr y
  · by_cases h16 : t.val % 16 = 0
    · rw [outsAt0_A m c t h h16]
      frame_out
      rw [step, zero, zero_add]
    · rw [outsAt0_C m c t h h16]
      frame_out
      rw [step, zero, zero_add]
  · rw [outsAt0_B m c t h (by omega)]
    frame_out
    rw [step]

theorem acc10 (t : Fin cfg0.N) {r : ℕ} (hr : t.val % 4 = r) (y : S1x1x1024.Idx) :
    (outsAt0 m c t.val t.isLt).2.2.2.1 y = ∑ k ∈ Finset.range ((r + 1) * 512), at3 (gradOf (err m c)) (t.val / 4) k (y 2).val := by
  have step (t : Fin cfg0.N) (z : Vec Ideal S1x1x1024 .f32) (y : S1x1x1024.Idx) : k0_pay23 (k0_pay11 (left m c t) (right m c t)) z y
      = z y + ∑ b ∈ Finset.range 512, at3 (gradOf (err m c)) (t.val / 4) (t.val % 4 * 512 + b) (y 2).val := by
    rw [pay_grad]
    exact Cert.Norm1BwdIdeal.Ew.step6 (gradOf (err m c)) (fun _ => row_grad m c t) z y
  have zero (y : S1x1x1024.Idx) : k0_pay18 (F := Ideal) y = 0 := Cert.Norm1BwdIdeal.Ew.zero6 y
  refine acc_eq (fun n h => (outsAt0 m c n h).2.2.2.1) 4 512 (fun q y k => at3 (gradOf (err m c)) q k (y 2).val)
    (fun t h y => ?_) (fun t h y => ?_) t hr y
  · by_cases h16 : t.val % 16 = 0
    · rw [outsAt0_A m c t h h16]
      frame_out
      rw [step, zero, zero_add]
    · rw [outsAt0_C m c t h h16]
      frame_out
      rw [step, zero, zero_add]
  · rw [outsAt0_B m c t h (by omega)]
    frame_out
    rw [step]

theorem acc11 (t : Fin cfg0.N) {r : ℕ} (hr : t.val % 4 = r) (y : S1x1x1024.Idx) :
    (outsAt0 m c t.val t.isLt).2.2.2.2.1 y = ∑ k ∈ Finset.range ((r + 1) * 512), ofScale (gradOf (err m c)) (rows m c) (m ((c : Thread nD τ).loc main_arg3)) (t.val / 4) (y 2).val k := by
  have step (t : Fin cfg0.N) (z : Vec Ideal S1x1x1024 .f32) (y : S1x1x1024.Idx) : k0_pay24 (k0_pay14 (iblk m c 3 t) (k0_pay7 (iblk m c 1 t) (iblk m c 2 t) (iblk m c 0 t)) (left m c t) (right m c t)) z y
      = z y + ∑ b ∈ Finset.range 512, ofScale (gradOf (err m c)) (rows m c) (m ((c : Thread nD τ).loc main_arg3)) (t.val / 4) (y 2).val (t.val % 4 * 512 + b) := by
    rw [pay_dsc, whole_g]
    exact Cert.Norm1BwdIdeal.Ew.step7 (gradOf (err m c)) (rows m c) (m ((c : Thread nD τ).loc main_arg3)) (fun _ => row_grad m c t) (fun _ => row_sum m c t) z y
  have zero (y : S1x1x1024.Idx) : k0_pay19 (F := Ideal) y = 0 := Cert.Norm1BwdIdeal.Ew.zero6 y
  refine acc_eq (fun n h => (outsAt0 m c n h).2.2.2.2.1) 4 512 (fun q y k => ofScale (gradOf (err m c)) (rows m c) (m ((c : Thread nD τ).loc main_arg3)) q (y 2).val k)
    (fun t h y => ?_) (fun t h y => ?_) t hr y
  · by_cases h16 : t.val % 16 = 0
    · rw [outsAt0_A m c t h h16]
      frame_out
      rw [step, zero, zero_add]
    · rw [outsAt0_C m c t h h16]
      frame_out
      rw [step, zero, zero_add]
  · rw [outsAt0_B m c t h (by omega)]
    frame_out
    rw [step]

theorem acc12 (t : Fin cfg0.N) {r : ℕ} (hr : t.val % 16 = r) (y : S1x1024.Idx) :
    (outsAt0 m c t.val t.isLt).2.2.2.2.2.1 y = ∑ k ∈ Finset.range ((r + 1) * 512), ofWeight (gradOf (err m c)) (rows m c) (m ((c : Thread nD τ).loc main_arg5)) (y 1).val k := by
  have step (t : Fin cfg0.N) (z : Vec Ideal S1x1024 .f32) (y : S1x1024.Idx) : k0_pay25 (k0_pay15 (k0_pay2 (iblk m c 5 t)) (k0_pay7 (iblk m c 1 t) (iblk m c 2 t) (iblk m c 0 t)) (left m c t) (right m c t)) z y
      = z y + ∑ b ∈ Finset.range 512, ofWeight (gradOf (err m c)) (rows m c) (m ((c : Thread nD τ).loc main_arg5)) (y 1).val (t.val % 16 * 512 + b) := by
    rw [pay_dg]
    exact (congrArg (fun z => Cert.Norm1BwdIdeal.Gen.k0_pay1 _ z y) (Cert.Norm1BwdIdeal.Ew.pay_same z)).trans
      (Cert.Norm1BwdIdeal.Ew.step8 (gradOf (err m c)) (rows m c) (m ((c : Thread nD τ).loc main_arg5)) (fun _ => row_grad m c t) (fun _ => row_sum m c t) (row_sc m c t) t.isLt rfl rfl z y)
  have zero (y : S1x1024.Idx) : k0_pay21 (F := Ideal) y = 0 := Cert.Norm1BwdIdeal.Ew.zero8 y
  refine acc_eq (fun n h => (outsAt0 m c n h).2.2.2.2.2.1) 16 512 (fun q y k => ofWeight (gradOf (err m c)) (rows m c) (m ((c : Thread nD τ).loc main_arg5)) (y 1).val k)
    (fun t h y => ?_) (fun t h y => ?_) t hr y
  · rw [outsAt0_A m c t (by omega) h]
    frame_out
    rw [step, zero, zero_add]
  · by_cases h4 : t.val % 4 = 0
    · rw [outsAt0_C m c t h4 h]
      frame_out
      rw [step]
    · rw [outsAt0_B m c t h4 h]
      frame_out
      rw [step]

theorem acc13 (t : Fin cfg0.N) {r : ℕ} (hr : t.val % 16 = r) (y : S1x1.Idx) :
    (outsAt0 m c t.val t.isLt).2.2.2.2.2.2 y = ∑ k ∈ Finset.range ((r + 1) * 512), ofLoss (err m c) k := by
  have step (t : Fin cfg0.N) (z : Vec Ideal S1x1 .f32) (y : S1x1.Idx) : k0_pay1 (k0_pay10 (left m c t) (right m c t)) z y
      = z y + ∑ b ∈ Finset.range 512, ofLoss (err m c) (t.val % 16 * 512 + b) := by
    have ht : t.val < 16 := t.isLt
    rw [pay_loss]
    refine congrArg (z y + ·) ?_
    rw [sum_fin (fun r => Ideal.div (∑ j ∈ Finset.range 1024, at3 (err m c) (t.val / 4) (t.val % 4 * 512 + r) j * at3 (err m c) (t.val / 4) (t.val % 4 * 512 + r) j)
      (Ideal.ofBits .f32 0x44800000#32)) fun r => congrArg (Ideal.div · _) (sum_fin _ fun k => by rw [block_err]; rfl), lit_half, coe_mul_sum (by norm_num)]
    refine Finset.sum_congr rfl fun r hr => ?_
    have h := Finset.mem_range.mp hr
    unfold ofLoss
    rw [show (t.val % 16 * 512 + r) / 2048 = t.val / 4 by omega, show (t.val % 16 * 512 + r) % 2048 = t.val % 4 * 512 + r by omega, lit_half]
  have zero (y : S1x1.Idx) : k0_pay22 (F := Ideal) y = 0 := zero13 y
  refine acc_eq (fun n h => (outsAt0 m c n h).2.2.2.2.2.2) 16 512 (fun q y k => ofLoss (err m c) k)
    (fun t h y => ?_) (fun t h y => ?_) t hr y
  · rw [outsAt0_A m c t (by omega) h]
    frame_out
    rw [step, zero, zero_add]
  · by_cases h4 : t.val % 4 = 0
    · rw [outsAt0_C m c t h4 h]
      frame_out
      rw [step]
    · rw [outsAt0_B m c t h4 h]
      frame_out
      rw [step]

theorem final7 : (dats m 0 c).arrAt 7 cfg0.N = dx m c := by
  refine (dats m 0 c).arrAt_eq_of_covers 7 _ (by decide +kernel) fun t hf y => ?_
  have h0 : (y 0).val = 0 := by
    have : (y 0).val < 1 := (y 0).isLt
    omega
  blk_simp
  rw [after0_7, out7, pay_rows, block, at3_of (dx m c) _ rfl rfl rfl]
  blk_simp [idx7]

theorem final8 : (dats m 0 c).arrAt 8 cfg0.N = gated (m ((c : Thread nD τ).loc main_arg2)) (dx m c) := by
  refine (dats m 0 c).arrAt_eq_of_covers 8 _ (by decide +kernel) fun t hf y => ?_
  have h0 : (y 0).val = 0 := by
    have : (y 0).val < 1 := (y 0).isLt
    omega
  blk_simp
  rw [after0_8, out8, pay_dy, block, row_gt]
  unfold gated
  rw [at3_of (dx m c) _ rfl rfl rfl]
  blk_simp [idx8]

theorem final9 : (dats m 0 c).arrAt 9 cfg0.N = dGated (dx m c) (m ((c : Thread nD τ).loc main_arg1)) := by
  refine (dats m 0 c).arrAt_eq_of_covers 9 _ (by decide +kernel) fun t hf y => ?_
  have h3 := (flush0_9 t).mp hf
  have h0 : (y 0).val = 0 := by
    have : (y 0).val < 1 := (y 0).isLt
    omega
  blk_simp
  rw [after0_9, acc9 m c t h3]
  unfold dGated
  blk_simp [idx9]

theorem final10 : (dats m 0 c).arrAt 10 cfg0.N = dShift (gradOf (err m c)) := by
  refine (dats m 0 c).arrAt_eq_of_covers 10 _ (by decide +kernel) fun t hf y => ?_
  have h3 := (flush0_10 t).mp hf
  have h0 : (y 0).val = 0 := by
    have : (y 0).val < 1 := (y 0).isLt
    omega
  blk_simp
  rw [after0_10, acc10 m c t h3]
  unfold dShift
  blk_simp [idx10]

theorem final11 : (dats m 0 c).arrAt 11 cfg0.N = dScale (gradOf (err m c)) (rows m c) (m ((c : Thread nD τ).loc main_arg3)) := by
  refine (dats m 0 c).arrAt_eq_of_covers 11 _ (by decide +kernel) fun t hf y => ?_
  have h3 := (flush0_11 t).mp hf
  have h0 : (y 0).val = 0 := by
    have : (y 0).val < 1 := (y 0).isLt
    omega
  blk_simp
  rw [after0_11, acc11 m c t h3]
  unfold dScale
  blk_simp [idx11]

theorem final12 : (dats m 0 c).arrAt 12 cfg0.N = dWeight (gradOf (err m c)) (rows m c) (m ((c : Thread nD τ).loc main_arg5)) := by
  refine (dats m 0 c).arrAt_eq_of_covers 12 _ (by decide +kernel) fun t hf y => ?_
  have h3 := (flush0_12 t).mp hf
  blk_simp
  rw [after0_12, acc12 m c t h3]
  unfold dWeight
  blk_simp [idx12]

theorem final13 : (dats m 0 c).arrAt 13 cfg0.N = lossOf (err m c) := by
  refine (dats m 0 c).arrAt_eq_of_covers 13 _ (by decide +kernel) fun t hf y => ?_
  have h3 := (flush0_13 t).mp hf
  blk_simp
  rw [after0_13, acc13 m c t h3]
  unfold lossOf
  blk_simp [idx13]

section
open Cert.FinalRefIdeal.Read

variable (x b : Vec Ideal S4x2048x1024 .f32) (gt : Vec Ideal S4x1x1024 .f32) (g : Vec Ideal S1x1024 .f32) (sh sc : Vec Ideal S4x1x1024 .f32)
  (w : Vec Ideal S4x2048x1024 .f32)

theorem ref_sum : val_main_v2 (F := Ideal) x b gt = sumOf x b gt := Cert.Norm2Ideal.Ew.ref6 x b gt

theorem ref_err : val_main_v26 (F := Ideal) x b gt g sh sc w = errOf x b gt g sh sc w := by
  funext i
  rw [val_main_v26_apply]
  refine congrArg (· - w i) ?_
  refine (congrFun (Cert.Norm1Ideal.Ew.ref4 (val_main_v2 (F := Ideal) x b gt) g sh sc) i).trans ?_
  rw [ref_sum]

theorem ref_grad : val_main_v40 (F := Ideal) x b gt g sh sc w = gradOf (errOf x b gt g sh sc w) := by
  funext i
  rw [val_main_v40_apply, val_main_v39_apply, val_main_v38_apply, val_main_v37_apply, val_main_v36_apply, val_main_v35_apply, val_main_v29_apply,
    val_main_v28_apply, ref_err]
  refine Eq.trans (b := Ideal.div (Ideal.ofBits .f32 0x3F000000#32 * Ideal.ofBits .f32 0x3F800000#32) (Ideal.ofBits .f32 0x44800000#32)
    * (Ideal.ofBits .f32 0x40000000#32 * errOf x b gt g sh sc w i)) rfl ?_
  unfold gradOf
  rw [Ideal.ofBits_one_f32, mul_one, div_n, lit_half, lit_two, lit_inv_n, ← mul_assoc, mul_comm (errOf x b gt g sh sc w i), ← EReal.coe_mul, ← EReal.coe_mul]
  exact congrArg (fun r : ℝ => (r : EReal) * _) (by norm_num)

/-- The terms behind the gradient are those of the first normalisation's. -/
theorem ref_scaled : val_main_v47 (F := Ideal) x b gt g sh sc w
    = Cert.Norm1BwdRefIdeal.Read.val_main_v31 (F := Ideal) (val_main_v40 (F := Ideal) x b gt g sh sc w) sc := by
  unfold Cert.Norm1BwdRefIdeal.Read.val_main_v31
  rw [Cert.Norm1BwdIdeal.Ew.ref_dh]
  rfl

theorem ref_d : val_main_v52 (F := Ideal) x b gt g sh sc w
    = Cert.Norm1BwdRefIdeal.Read.val_main_v36 (F := Ideal) (val_main_v40 (F := Ideal) x b gt g sh sc w) g sc := by
  unfold val_main_v52
  rw [ref_scaled]
  rfl

theorem ref_slope : val_main_v64 (F := Ideal) x b gt g sh sc w
    = Cert.Norm1BwdRefIdeal.Read.val_main_v48 (F := Ideal) (val_main_v40 (F := Ideal) x b gt g sh sc w) (val_main_v2 (F := Ideal) x b gt) g sc := by
  unfold val_main_v64 val_main_v63 val_main_v62 val_main_v60 val_main_v57 val_main_v56 val_main_v55
  rw [ref_d]
  rfl

theorem ref_inv (i : S4x2048x1024.Idx) : val_main_v58 (F := Ideal) x b gt i = Cert.Ew.inv (at3 (sumOf x b gt) (i 0).val (i 1).val) := by
  rw [val_main_v58_apply]
  refine (Cert.Norm1BwdIdeal.Ew.ref_inv (val_main_v2 (F := Ideal) x b gt) _).trans ?_
  rw [ref_sum]

theorem ref7 : val_main_v68 (F := Ideal) x b gt g sh sc w = dxOf (errOf x b gt g sh sc w) (sumOf x b gt) g sc := by
  funext i
  rw [val_main_v68_apply, val_main_v67_apply, val_main_v66_apply, val_main_v65_apply, val_main_v59_apply, ref_inv, ref_d, ref_slope, ref_grad, ref_sum]
  refine Eq.trans ?_ (zero_add _).symm
  refine Eq.trans ?_ (dRow_eq _ _ (i 2).isLt)
  rw [← at3_of (sumOf x b gt) i rfl rfl rfl]
  refine congrArg₂ (· + ·) (congrArg₂ (· + ·) (congrArg (· * _) ?_) (congrArg (sumOf x b gt i * ·) ?_)) (congrArg (· * _) ?_)
  · exact Cert.Norm1BwdIdeal.Ew.ref_d (gradOf (errOf x b gt g sh sc w)) g sc i
  · exact Cert.Norm1BwdIdeal.Ew.ref_slope' (gradOf (errOf x b gt g sh sc w)) (sumOf x b gt) g sc i
  · exact Cert.Norm1BwdIdeal.Ew.ref_slope' (gradOf (errOf x b gt g sh sc w)) (sumOf x b gt) g sc i

theorem ref8 : val_main_v74 (F := Ideal) x b gt g sh sc w = gated gt (dxOf (errOf x b gt g sh sc w) (sumOf x b gt) g sc) := by
  funext i
  rw [val_main_v74_apply, Ideal.truncf_def, val_main_v70_apply, val_main_v69_apply, ref7]
  exact congrArg (· * _) (at3_of gt _ rfl rfl rfl)

theorem ref9 : val_main_v73 (F := Ideal) x b gt g sh sc w = dGated (dxOf (errOf x b gt g sh sc w) (sumOf x b gt) g sc) b := by
  funext i
  rw [val_main_v73_apply, val_main_v72_apply]
  refine (congrArg₂ (· + ·) Ideal.ofBits_zero_f32 (sum_fin _ fun k => ?_)).trans (zero_add _)
  refine (congrArg (val_main_v71 (F := Ideal) x b gt g sh sc w) (Cert.Norm1BwdIdeal.Ew.idx_seq i k)).trans ?_
  refine (val_main_v71_apply x b gt g sh sc w _).trans ?_
  rw [ref7]
  exact congrArg₂ (· * ·) (at3_of (dxOf (errOf x b gt g sh sc w) (sumOf x b gt) g sc) (ix3 (i 0) k (i 2)) rfl rfl rfl)
    (at3_of b (ix3 (i 0) k (i 2)) rfl rfl rfl)

theorem ref10 : val_main_v42 (F := Ideal) x b gt g sh sc w = dShift (gradOf (errOf x b gt g sh sc w)) :=
  (Cert.Norm1BwdIdeal.Ew.ref6 (val_main_v40 (F := Ideal) x b gt g sh sc w)).trans (by rw [ref_grad])

theorem ref11 : val_main_v45 (F := Ideal) x b gt g sh sc w = dScale (gradOf (errOf x b gt g sh sc w)) (sumOf x b gt) g := by
  refine Eq.trans ?_ ((Cert.Norm1BwdIdeal.Ew.ref7 (val_main_v40 (F := Ideal) x b gt g sh sc w) (val_main_v2 (F := Ideal) x b gt) g).trans (by
    rw [ref_grad, ref_sum]))
  unfold Cert.Norm1BwdRefIdeal.Read.val_main_v29 Cert.Norm1BwdRefIdeal.Read.val_main_v28 Cert.Norm1BwdRefIdeal.Read.val_main_v27
  rw [Cert.Norm1BwdIdeal.Ew.ref_dh]
  rfl

theorem ref12 : val_main_v54 (F := Ideal) x b gt g sh sc w = dWeight (gradOf (errOf x b gt g sh sc w)) (sumOf x b gt) sc := by
  refine Eq.trans ?_ ((Cert.Norm1BwdIdeal.Ew.ref8 (val_main_v40 (F := Ideal) x b gt g sh sc w) (val_main_v2 (F := Ideal) x b gt) sc).trans (by
    rw [ref_grad, ref_sum]))
  unfold val_main_v54 val_main_v53 val_main_v50 val_main_v49 val_main_v48
  rw [ref_scaled]
  rfl

theorem ref_mean (i : Cert.FinalRefIdeal.S4x2048.Idx) : val_main_v32 (F := Ideal) x b gt g sh sc w i
    = Ideal.div (∑ j ∈ Finset.range 1024, at3 (errOf x b gt g sh sc w) (i 0).val (i 1).val j * at3 (errOf x b gt g sh sc w) (i 0).val (i 1).val j)
      (Ideal.ofBits .f32 0x44800000#32) := by
  rw [val_main_v32_apply, val_main_v31_apply, val_main_v30_apply]
  refine congrArg (Ideal.div · _) ?_
  refine (congrArg₂ (· + ·) Ideal.ofBits_zero_f32 (sum_fin _ fun k => ?_)).trans (zero_add _)
  rw [val_main_v27_apply, ref_err]
  exact congrArg₂ (· * ·) (at3_of (errOf x b gt g sh sc w) _ rfl rfl rfl) (at3_of (errOf x b gt g sh sc w) _ rfl rfl rfl)

theorem ref13 : val_main_v75 (F := Ideal) x b gt g sh sc w = lossOf (errOf x b gt g sh sc w) := by
  funext i
  have h : val_main_v33 (F := Ideal) x b gt g sh sc w ix0 = ∑ p ∈ Finset.range 4, ∑ r ∈ Finset.range 2048,
      Ideal.div (∑ j ∈ Finset.range 1024, at3 (errOf x b gt g sh sc w) p r j * at3 (errOf x b gt g sh sc w) p r j) (Ideal.ofBits .f32 0x44800000#32) := by
    rw [val_main_v33_apply]
    refine (congrArg₂ (· + ·) Ideal.ofBits_zero_f32 ((sum_idx2 _).trans (sum_fin _ fun p => sum_fin _ fun r => ?_))).trans (zero_add _)
    exact ref_mean x b gt g sh sc w _
  refine Eq.trans (b := Ideal.ofBits .f32 0x3F000000#32 * val_main_v33 (F := Ideal) x b gt g sh sc w ix0) ?_ ?_
  · unfold val_main_v75
    pointwise
    rfl
  rw [h]
  unfold lossOf ofLoss
  rw [show (8192 : ℕ) = 4 * 2048 from rfl, Finset.sum_range_mul_split, lit_half, coe_mul_sum (by norm_num)]
  refine Finset.sum_congr rfl fun p _ => ?_
  rw [coe_mul_sum (by norm_num)]
  refine Finset.sum_congr rfl fun r hr => ?_
  have h := Finset.mem_range.mp hr
  rw [show (p * 2048 + r) / 2048 = p by omega, show (p * 2048 + r) % 2048 = r by omega]

end

theorem alg : Cert.algebraic_FinalIdeal_FinalRefIdeal := fun m g m' g' _ hm =>
  ⟨fun c => dx m c, fun c => gated (m ((c : Thread nD τ).loc main_arg2)) (dx m c), fun c => dGated (dx m c) (m ((c : Thread nD τ).loc main_arg1)),
    fun c => dShift (gradOf (err m c)), fun c => dScale (gradOf (err m c)) (rows m c) (m ((c : Thread nD τ).loc main_arg3)),
    fun c => dWeight (gradOf (err m c)) (rows m c) (m ((c : Thread nD τ).loc main_arg5)), fun c => lossOf (err m c),
    (θ_run defs _ _).mono (fun _ h c => by
      obtain ⟨r0, r1, r2, r3, r4, r5, r6, ra⟩ := h c
      exact ⟨r0.trans (final7 m c), r1.trans (final8 m c), r2.trans (final9 m c), r3.trans (final10 m c), r4.trans (final11 m c),
        r5.trans (final12 m c), r6.trans (final13 m c), ra⟩) (Value.run_blocks m g),
    (θ_run Cert.FinalRefIdeal.defs _ _).mono (fun _ h c => by
      obtain ⟨e0, e1, e2, e3, e4, e5, e6⟩ := hm c
      obtain ⟨r0, r1, r2, r3, r4, r5, r6, ra⟩ := h c
      beta_reduce
      unfold dx err rows
      rw [← e0, ← e1, ← e2, ← e3, ← e4, ← e5, ← e6]
      exact ⟨r0.trans (ref7 _ _ _ _ _ _ _), r1.trans (ref8 _ _ _ _ _ _ _), r2.trans (ref9 _ _ _ _ _ _ _), r3.trans (ref10 _ _ _ _ _ _ _),
        r4.trans (ref11 _ _ _ _ _ _ _), r5.trans (ref12 _ _ _ _ _ _ _), r6.trans (ref13 _ _ _ _ _ _ _), ra⟩)
      (Cert.FinalRefIdeal.Value.run (F := Ideal) m' g')⟩

theorem frame_p : Cert.quiescent_Final := fun m g _ => Cert.Final.Gen.frame m g
theorem frame_pi : Cert.quiescent_FinalIdeal := fun m g _ => Gen.frame m g
theorem frame_ri : Cert.quiescent_FinalRefIdeal := fun m g _ =>
  (θ_run Cert.FinalRefIdeal.defs _ _).mono (fun r h => ⟨fun c => (h c).2.2.2.2.2.2.2, sem_eq_zero_of_no_sems (by decide) r.2⟩)
    (Cert.FinalRefIdeal.Value.run (F := Ideal) m g)

end Cert.FinalIdeal.Ew

end
-- ==== Proof.lean ====
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Attn.Frm
public import proofs.«01_k».proof.Proof.AttnI.Frm
public import proofs.«01_k».proof.Proof.Val.Alg
public import proofs.«01_k».proof.Proof.Mm.DwSquare
public import proofs.«01_k».proof.Proof.Mm.DFfnAct
public import proofs.«01_k».proof.Proof.Mm.FfnUp
public import proofs.«01_k».proof.Proof.Mm.DwFfnUp
public import proofs.«01_k».proof.Proof.Mm.DH2
public import proofs.«01_k».proof.Proof.Mm.DH1
public import proofs.«01_k».proof.Proof.Mm.DwFfnDown
public import proofs.«01_k».proof.Proof.Mm.FfnDown
public import proofs.«01_k».proof.Proof.Mm.InRnn
public import proofs.«01_k».proof.Proof.Mm.DwInRnn
public import proofs.«01_k».proof.Proof.Mm.DH1Rnn
public import proofs.«01_k».proof.Proof.Mm.MixOut
public import proofs.«01_k».proof.Proof.Mm.DMerged
public import proofs.«01_k».proof.Proof.Mm.InKv
public import proofs.«01_k».proof.Proof.Mm.InMg
public import proofs.«01_k».proof.Proof.Mm.DYRnn
public import proofs.«01_k».proof.Proof.Mm.DwProjRnn
public import proofs.«01_k».proof.Proof.Mm.ProjRnn
public import proofs.«01_k».proof.Proof.Mm.InQ
public import proofs.«01_k».proof.Proof.Mm.ProjAttn
public import proofs.«01_k».proof.Proof.Mm.DwProjAttn
public import proofs.«01_k».proof.Proof.Mm.InFl
public import proofs.«01_k».proof.Proof.Mm.DwInFl
public import proofs.«01_k».proof.Proof.Mm.DH1Fl
public import proofs.«01_k».proof.Proof.Ew.MergeBwd
public import proofs.«01_k».proof.Proof.Ew.MergeFwd
public import proofs.«01_k».proof.Proof.Ew.Norm1
public import proofs.«01_k».proof.Proof.Ew.Norm2
public import proofs.«01_k».proof.Proof.Ew.Norm1Bwd
public import proofs.«01_k».proof.Proof.Ew.Norm2Bwd
public import proofs.«01_k».proof.Proof.Ew.Adam
public import proofs.«01_k».proof.Proof.Ew.Final
public import Idealize.ShloMosaic.Adequacy
public import Idealize.ShloMosaic.Init

/-! The certificate: the attention backward pass and the step's products, their idealizations and their references run, and the
    last two end with the same results. -/

@[expose] public section

noncomputable section

namespace Cert.Proof

open Idealize.ShloMosaic Idealize.SL.Sem

theorem frame_p : Cert.quiescent_Kernel := fun m ρ _ => Cert.Kernel.Attn.quiet m ρ
theorem frame_pi : Cert.quiescent_KernelIdeal := fun m ρ _ => Cert.KernelIdeal.Attn.quiet m ρ

theorem frame_ri : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem frame_pi_pre : Cert.quiescent_KernelIdeal_pre_finite := fun m ρ _ => Cert.KernelIdeal.Attn.quiet m ρ
theorem frame_ri_pre : Cert.quiescent_ReferenceIdeal_pre_finite := fun m ρ _ => frame_ri m ρ trivial

theorem kept : Cert.preserves_Kernel_KernelIdeal := IdealRules.named_const.statement Cert.KernelIdeal.κ "mask" .f32 0xF149F2CA#32 ⊥ rfl

theorem claim : Cert.Claim := ⟨
  Cert.Kernel.Gen.facts, Cert.KernelIdeal.Gen.facts, Cert.ReferenceIdeal.Gen.facts, Cert.DwSquare.Gen.facts, Cert.DwSquareIdeal.Gen.facts,
  Cert.DwSquareRefIdeal.Gen.facts, Cert.DFfnAct.Gen.facts, Cert.DFfnActIdeal.Gen.facts, Cert.DFfnActRefIdeal.Gen.facts, Cert.FfnUp.Gen.facts,
  Cert.FfnUpIdeal.Gen.facts, Cert.FfnUpRefIdeal.Gen.facts, Cert.DwFfnUp.Gen.facts, Cert.DwFfnUpIdeal.Gen.facts, Cert.DwFfnUpRefIdeal.Gen.facts,
  Cert.DH2.Gen.facts, Cert.DH2Ideal.Gen.facts, Cert.DH2RefIdeal.Gen.facts, Cert.DH1.Gen.facts, Cert.DH1Ideal.Gen.facts, Cert.DH1RefIdeal.Gen.facts,
  Cert.DwFfnDown.Gen.facts, Cert.DwFfnDownIdeal.Gen.facts, Cert.DwFfnDownRefIdeal.Gen.facts, Cert.FfnDown.Gen.facts, Cert.FfnDownIdeal.Gen.facts,
  Cert.FfnDownRefIdeal.Gen.facts, Cert.InRnn.Gen.facts, Cert.InRnnIdeal.Gen.facts, Cert.InRnnRefIdeal.Gen.facts, Cert.DwInRnn.Gen.facts,
  Cert.DwInRnnIdeal.Gen.facts, Cert.DwInRnnRefIdeal.Gen.facts, Cert.DH1Rnn.Gen.facts, Cert.DH1RnnIdeal.Gen.facts, Cert.DH1RnnRefIdeal.Gen.facts,
  Cert.MixOut.Gen.facts, Cert.MixOutIdeal.Gen.facts, Cert.MixOutRefIdeal.Gen.facts, Cert.DMerged.Gen.facts, Cert.DMergedIdeal.Gen.facts,
  Cert.DMergedRefIdeal.Gen.facts, Cert.InKv.Gen.facts, Cert.InKvIdeal.Gen.facts, Cert.InKvRefIdeal.Gen.facts, Cert.InMg.Gen.facts,
  Cert.InMgIdeal.Gen.facts, Cert.InMgRefIdeal.Gen.facts, Cert.DYRnn.Gen.facts, Cert.DYRnnIdeal.Gen.facts, Cert.DYRnnRefIdeal.Gen.facts,
  Cert.DwProjRnn.Gen.facts, Cert.DwProjRnnIdeal.Gen.facts, Cert.DwProjRnnRefIdeal.Gen.facts, Cert.ProjRnn.Gen.facts, Cert.ProjRnnIdeal.Gen.facts,
  Cert.ProjRnnRefIdeal.Gen.facts, Cert.InQ.Gen.facts, Cert.InQIdeal.Gen.facts, Cert.InQRefIdeal.Gen.facts, Cert.ProjAttn.Gen.facts,
  Cert.ProjAttnIdeal.Gen.facts, Cert.ProjAttnRefIdeal.Gen.facts, Cert.DwProjAttn.Gen.facts, Cert.DwProjAttnIdeal.Gen.facts,
  Cert.DwProjAttnRefIdeal.Gen.facts, Cert.InFl.Gen.facts, Cert.InFlIdeal.Gen.facts, Cert.InFlRefIdeal.Gen.facts, Cert.DwInFl.Gen.facts,
  Cert.DwInFlIdeal.Gen.facts, Cert.DwInFlRefIdeal.Gen.facts, Cert.DH1Fl.Gen.facts, Cert.DH1FlIdeal.Gen.facts, Cert.DH1FlRefIdeal.Gen.facts,
  Cert.MergeBwd.Gen.facts, Cert.MergeBwdIdeal.Gen.facts, Cert.MergeBwdRefIdeal.Gen.facts, Cert.MergeFwd.Gen.facts, Cert.MergeFwdIdeal.Gen.facts,
  Cert.MergeFwdRefIdeal.Gen.facts, Cert.Norm1.Gen.facts, Cert.Norm1Ideal.Gen.facts, Cert.Norm1RefIdeal.Gen.facts, Cert.Norm2.Gen.facts,
  Cert.Norm2Ideal.Gen.facts, Cert.Norm2RefIdeal.Gen.facts, Cert.Norm1Bwd.Gen.facts, Cert.Norm1BwdIdeal.Gen.facts, Cert.Norm1BwdRefIdeal.Gen.facts,
  Cert.Norm2Bwd.Gen.facts, Cert.Norm2BwdIdeal.Gen.facts, Cert.Norm2BwdRefIdeal.Gen.facts, Cert.AdamIn.Gen.facts, Cert.AdamInIdeal.Gen.facts,
  Cert.AdamInRefIdeal.Gen.facts, Cert.AdamUp.Gen.facts, Cert.AdamUpIdeal.Gen.facts, Cert.AdamUpRefIdeal.Gen.facts, Cert.AdamProjRnn.Gen.facts,
  Cert.AdamProjRnnIdeal.Gen.facts, Cert.AdamProjRnnRefIdeal.Gen.facts, Cert.AdamSquare.Gen.facts, Cert.AdamSquareIdeal.Gen.facts,
  Cert.AdamSquareRefIdeal.Gen.facts, Cert.AdamDown.Gen.facts, Cert.AdamDownIdeal.Gen.facts, Cert.AdamDownRefIdeal.Gen.facts,
  Cert.AdamAdaFinal.Gen.facts, Cert.AdamAdaFinalIdeal.Gen.facts, Cert.AdamAdaFinalRefIdeal.Gen.facts, Cert.AdamSmall.Gen.facts,
  Cert.AdamSmallIdeal.Gen.facts, Cert.AdamSmallRefIdeal.Gen.facts, Cert.Final.Gen.facts, Cert.FinalIdeal.Gen.facts, Cert.FinalRefIdeal.Gen.facts,
  Cert.Pre_finite.Gen.facts, frame_p, frame_pi, frame_pi_pre, frame_ri, frame_ri_pre, Cert.DwSquareIdeal.Mm.frame_p, Cert.DwSquareIdeal.Mm.frame_pi,
  Cert.DwSquareIdeal.Mm.frame_ri, Cert.DFfnActIdeal.Mm.frame_p, Cert.DFfnActIdeal.Mm.frame_pi, Cert.DFfnActIdeal.Mm.frame_ri,
  Cert.FfnUpIdeal.Mm.frame_p, Cert.FfnUpIdeal.Mm.frame_pi, Cert.FfnUpIdeal.Mm.frame_ri, Cert.DwFfnUpIdeal.Mm.frame_p, Cert.DwFfnUpIdeal.Mm.frame_pi,
  Cert.DwFfnUpIdeal.Mm.frame_ri, Cert.DH2Ideal.Mm.frame_p, Cert.DH2Ideal.Mm.frame_pi, Cert.DH2Ideal.Mm.frame_ri, Cert.DH1Ideal.Mm.frame_p,
  Cert.DH1Ideal.Mm.frame_pi, Cert.DH1Ideal.Mm.frame_ri, Cert.DwFfnDownIdeal.Mm.frame_p, Cert.DwFfnDownIdeal.Mm.frame_pi,
  Cert.DwFfnDownIdeal.Mm.frame_ri, Cert.FfnDownIdeal.Mm.frame_p, Cert.FfnDownIdeal.Mm.frame_pi, Cert.FfnDownIdeal.Mm.frame_ri,
  Cert.InRnnIdeal.Mm.frame_p, Cert.InRnnIdeal.Mm.frame_pi, Cert.InRnnIdeal.Mm.frame_ri, Cert.DwInRnnIdeal.Mm.frame_p, Cert.DwInRnnIdeal.Mm.frame_pi,
  Cert.DwInRnnIdeal.Mm.frame_ri, Cert.DH1RnnIdeal.Mm.frame_p, Cert.DH1RnnIdeal.Mm.frame_pi, Cert.DH1RnnIdeal.Mm.frame_ri,
  Cert.MixOutIdeal.Mm.frame_p, Cert.MixOutIdeal.Mm.frame_pi, Cert.MixOutIdeal.Mm.frame_ri, Cert.DMergedIdeal.Mm.frame_p,
  Cert.DMergedIdeal.Mm.frame_pi, Cert.DMergedIdeal.Mm.frame_ri, Cert.InKvIdeal.Mm.frame_p, Cert.InKvIdeal.Mm.frame_pi, Cert.InKvIdeal.Mm.frame_ri,
  Cert.InMgIdeal.Mm.frame_p, Cert.InMgIdeal.Mm.frame_pi, Cert.InMgIdeal.Mm.frame_ri, Cert.DYRnnIdeal.Mm.frame_p, Cert.DYRnnIdeal.Mm.frame_pi,
  Cert.DYRnnIdeal.Mm.frame_ri, Cert.DwProjRnnIdeal.Mm.frame_p, Cert.DwProjRnnIdeal.Mm.frame_pi, Cert.DwProjRnnIdeal.Mm.frame_ri,
  Cert.ProjRnnIdeal.Mm.frame_p, Cert.ProjRnnIdeal.Mm.frame_pi, Cert.ProjRnnIdeal.Mm.frame_ri, Cert.InQIdeal.Mm.frame_p, Cert.InQIdeal.Mm.frame_pi,
  Cert.InQIdeal.Mm.frame_ri, Cert.ProjAttnIdeal.Mm.frame_p, Cert.ProjAttnIdeal.Mm.frame_pi, Cert.ProjAttnIdeal.Mm.frame_ri,
  Cert.DwProjAttnIdeal.Mm.frame_p, Cert.DwProjAttnIdeal.Mm.frame_pi, Cert.DwProjAttnIdeal.Mm.frame_ri, Cert.InFlIdeal.Mm.frame_p,
  Cert.InFlIdeal.Mm.frame_pi, Cert.InFlIdeal.Mm.frame_ri, Cert.DwInFlIdeal.Mm.frame_p, Cert.DwInFlIdeal.Mm.frame_pi, Cert.DwInFlIdeal.Mm.frame_ri,
  Cert.DH1FlIdeal.Mm.frame_p, Cert.DH1FlIdeal.Mm.frame_pi, Cert.DH1FlIdeal.Mm.frame_ri, Cert.MergeBwdIdeal.Ew.frame_p,
  Cert.MergeBwdIdeal.Ew.frame_pi, Cert.MergeBwdIdeal.Ew.frame_ri, Cert.MergeFwdIdeal.Ew.frame_p, Cert.MergeFwdIdeal.Ew.frame_pi,
  Cert.MergeFwdIdeal.Ew.frame_ri, Cert.Norm1Ideal.Ew.frame_p, Cert.Norm1Ideal.Ew.frame_pi, Cert.Norm1Ideal.Ew.frame_ri, Cert.Norm2Ideal.Ew.frame_p,
  Cert.Norm2Ideal.Ew.frame_pi, Cert.Norm2Ideal.Ew.frame_ri, Cert.Norm1BwdIdeal.Ew.frame_p, Cert.Norm1BwdIdeal.Ew.frame_pi,
  Cert.Norm1BwdIdeal.Ew.frame_ri, Cert.Norm2BwdIdeal.Ew.frame_p, Cert.Norm2BwdIdeal.Ew.frame_pi, Cert.Norm2BwdIdeal.Ew.frame_ri,
  Cert.Ew.Adam.In.frame_p, Cert.Ew.Adam.In.frame_pi, Cert.Ew.Adam.In.frame_ri, Cert.Ew.Adam.Up.frame_p, Cert.Ew.Adam.Up.frame_pi,
  Cert.Ew.Adam.Up.frame_ri, Cert.Ew.Adam.ProjRnn.frame_p, Cert.Ew.Adam.ProjRnn.frame_pi, Cert.Ew.Adam.ProjRnn.frame_ri, Cert.Ew.Adam.Square.frame_p,
  Cert.Ew.Adam.Square.frame_pi, Cert.Ew.Adam.Square.frame_ri, Cert.Ew.Adam.Down.frame_p, Cert.Ew.Adam.Down.frame_pi, Cert.Ew.Adam.Down.frame_ri,
  Cert.Ew.Adam.AdaFinal.frame_p, Cert.Ew.Adam.AdaFinal.frame_pi, Cert.Ew.Adam.AdaFinal.frame_ri, Cert.Ew.Adam.Small.frame_p,
  Cert.Ew.Adam.Small.frame_pi, Cert.Ew.Adam.Small.frame_ri, Cert.FinalIdeal.Ew.frame_p, Cert.FinalIdeal.Ew.frame_pi, Cert.FinalIdeal.Ew.frame_ri,
  kept, Cert.Val.alg, trivial, Cert.DwSquareIdeal.Mm.alg, trivial, Cert.DFfnActIdeal.Mm.alg, trivial, Cert.FfnUpIdeal.Mm.alg, trivial,
  Cert.DwFfnUpIdeal.Mm.alg, trivial, Cert.DH2Ideal.Mm.alg, trivial, Cert.DH1Ideal.Mm.alg, trivial, Cert.DwFfnDownIdeal.Mm.alg, trivial,
  Cert.FfnDownIdeal.Mm.alg, trivial, Cert.InRnnIdeal.Mm.alg, trivial, Cert.DwInRnnIdeal.Mm.alg, trivial, Cert.DH1RnnIdeal.Mm.alg, trivial,
  Cert.MixOutIdeal.Mm.alg, trivial, Cert.DMergedIdeal.Mm.alg, trivial, Cert.InKvIdeal.Mm.alg, trivial, Cert.InMgIdeal.Mm.alg, trivial,
  Cert.DYRnnIdeal.Mm.alg, trivial, Cert.DwProjRnnIdeal.Mm.alg, trivial, Cert.ProjRnnIdeal.Mm.alg, trivial, Cert.InQIdeal.Mm.alg, trivial,
  Cert.ProjAttnIdeal.Mm.alg, trivial, Cert.DwProjAttnIdeal.Mm.alg, trivial, Cert.InFlIdeal.Mm.alg, trivial, Cert.DwInFlIdeal.Mm.alg, trivial,
  Cert.DH1FlIdeal.Mm.alg, trivial, Cert.MergeBwdIdeal.Ew.alg, trivial, Cert.MergeFwdIdeal.Ew.alg, trivial, Cert.Norm1Ideal.Ew.alg, trivial,
  Cert.Norm2Ideal.Ew.alg, trivial, Cert.Norm1BwdIdeal.Ew.alg, trivial, Cert.Norm2BwdIdeal.Ew.alg, trivial, Cert.Ew.Adam.In.alg, trivial,
  Cert.Ew.Adam.Up.alg, trivial, Cert.Ew.Adam.ProjRnn.alg, trivial, Cert.Ew.Adam.Square.alg, trivial, Cert.Ew.Adam.Down.alg, trivial,
  Cert.Ew.Adam.AdaFinal.alg, trivial, Cert.Ew.Adam.Small.alg, trivial, Cert.FinalIdeal.Ew.alg⟩

end Cert.Proof

end
